-- ==== Defs.lean ====
def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_finite_attn_out [hPre_finite_attn_out : Cert.Pre_finite_attn_out.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_finite_attn_out.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))).1 = (fun _ => 1#1)
    ∧ (Cert.Pre_finite_attn_out.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))).2.1 = (fun _ => 1#1)
    ∧ (Cert.Pre_finite_attn_out.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))).2.2 = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_finite_attn_out [hPre_finite_attn_out : Cert.Pre_finite_attn_out.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_finite_attn_out.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))).1 = (fun _ => 1#1)
    ∧ (Cert.Pre_finite_attn_out.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))).2.1 = (fun _ => 1#1)
    ∧ (Cert.Pre_finite_attn_out.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))).2.2 = (fun _ => 1#1)

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutIdeal_finite_ssm_out [hPre_finite_ssm_out : Cert.Pre_finite_ssm_out.Facts] (m : (ℓ : Loc Cert.SsmOutIdeal.nD Cert.SsmOutIdeal.τ Cert.SsmOutIdeal.sig) → Buf (Elt Ideal) ℓ) : Prop :=
  ∀ c : Dev Cert.SsmOutIdeal.nD,
    (Cert.Pre_finite_ssm_out.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5))).1 = (fun _ => 1#1)
    ∧ (Cert.Pre_finite_ssm_out.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5))).2.1 = (fun _ => 1#1)
    ∧ (Cert.Pre_finite_ssm_out.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5))).2.2.1 = (fun _ => 1#1)
    ∧ (Cert.Pre_finite_ssm_out.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5))).2.2.2.1 = (fun _ => 1#1)
    ∧ (Cert.Pre_finite_ssm_out.fn (F := Ideal) (m ((c.tc : Thread Cert.SsmOutIdeal.nD Cert.SsmOutIdeal.τ).loc Cert.SsmOutIdeal.main_arg0)) (m ((c.tc : Thread Cert.SsmOutIdeal.nD Cert.SsmOutIdeal.τ).loc Cert.SsmOutIdeal.main_arg1)) (m ((c.tc : Thread Cert.SsmOutIdeal.nD Cert.SsmOutIdeal.τ).loc Cert.SsmOutIdeal.main_arg2)) (m ((c.tc : Thread Cert.SsmOutIdeal.nD Cert.SsmOutIdeal.τ).loc Cert.SsmOutIdeal.main_arg3)) (m ((c.tc : Thread Cert.SsmOutIdeal.nD Cert.SsmOutIdeal.τ).loc Cert.SsmOutIdeal.main_arg4)) (m ((c.tc : Thread Cert.SsmOutIdeal.nD Cert.SsmOutIdeal.τ).loc Cert.SsmOutIdeal.main_arg5))).2.2.2.2 = (fun _ => 1#1)

def Pre_SsmOutRefIdeal (m : (ℓ : Loc Cert.SsmOutRefIdeal.nD Cert.SsmOutRefIdeal.τ Cert.SsmOutRefIdeal.sig) → Buf (Elt Ideal) ℓ) : Prop :=
  True

def Pre_SsmOutRefIdeal_finite_ssm_out [hPre_finite_ssm_out : Cert.Pre_finite_ssm_out.Facts] (m : (ℓ : Loc Cert.SsmOutRefIdeal.nD Cert.SsmOutRefIdeal.τ Cert.SsmOutRefIdeal.sig) → Buf (Elt Ideal) ℓ) : Prop :=
  ∀ c : Dev Cert.SsmOutRefIdeal.nD,
    (Cert.Pre_finite_ssm_out.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5))).1 = (fun _ => 1#1)
    ∧ (Cert.Pre_finite_ssm_out.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5))).2.1 = (fun _ => 1#1)
    ∧ (Cert.Pre_finite_ssm_out.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5))).2.2.1 = (fun _ => 1#1)
    ∧ (Cert.Pre_finite_ssm_out.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5))).2.2.2.1 = (fun _ => 1#1)
    ∧ (Cert.Pre_finite_ssm_out.fn (F := Ideal) (m ((c.tc : Thread Cert.SsmOutRefIdeal.nD Cert.SsmOutRefIdeal.τ).loc Cert.SsmOutRefIdeal.main_arg0)) (m ((c.tc : Thread Cert.SsmOutRefIdeal.nD Cert.SsmOutRefIdeal.τ).loc Cert.SsmOutRefIdeal.main_arg1)) (m ((c.tc : Thread Cert.SsmOutRefIdeal.nD Cert.SsmOutRefIdeal.τ).loc Cert.SsmOutRefIdeal.main_arg2)) (m ((c.tc : Thread Cert.SsmOutRefIdeal.nD Cert.SsmOutRefIdeal.τ).loc Cert.SsmOutRefIdeal.main_arg3)) (m ((c.tc : Thread Cert.SsmOutRefIdeal.nD Cert.SsmOutRefIdeal.τ).loc Cert.SsmOutRefIdeal.main_arg4)) (m ((c.tc : Thread Cert.SsmOutRefIdeal.nD Cert.SsmOutRefIdeal.τ).loc Cert.SsmOutRefIdeal.main_arg5))).2.2.2.2 = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_finite_loss [hPre_finite_loss : Cert.Pre_finite_loss.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)) (m ((c.tc : Thread Cert.OutLossIdeal.nD Cert.OutLossIdeal.τ).loc Cert.OutLossIdeal.main_arg5))).1 = (fun _ => 1#1)
    ∧ (Cert.Pre_finite_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)) (m ((c.tc : Thread Cert.OutLossIdeal.nD Cert.OutLossIdeal.τ).loc Cert.OutLossIdeal.main_arg5))).2 = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_finite_loss [hPre_finite_loss : Cert.Pre_finite_loss.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4)) (m ((c.tc : Thread Cert.OutLossRefIdeal.nD Cert.OutLossRefIdeal.τ).loc Cert.OutLossRefIdeal.main_arg5))).1 = (fun _ => 1#1)
    ∧ (Cert.Pre_finite_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4)) (m ((c.tc : Thread Cert.OutLossRefIdeal.nD Cert.OutLossRefIdeal.τ).loc Cert.OutLossRefIdeal.main_arg5))).2 = (fun _ => 1#1)

def Pre_InSsm (m : (ℓ : Loc Cert.InSsm.nD Cert.InSsm.τ Cert.InSsm.sig) → Buf (Elt Bits) ℓ) : Prop :=
  True

def Pre_InSsmIdeal (m : (ℓ : Loc Cert.InSsmIdeal.nD Cert.InSsmIdeal.τ Cert.InSsmIdeal.sig) → Buf (Elt Ideal) ℓ) : Prop :=
  True

def Pre_InSsmIdeal_finite_inproj_ssm [hPre_finite_inproj_ssm : Cert.Pre_finite_inproj_ssm.Facts] (m : (ℓ : Loc Cert.InSsmIdeal.nD Cert.InSsmIdeal.τ Cert.InSsmIdeal.sig) → Buf (Elt Ideal) ℓ) : Prop :=
  ∀ c : Dev Cert.InSsmIdeal.nD,
    (Cert.Pre_finite_inproj_ssm.fn (F := Ideal) (m ((c.tc : Thread Cert.InSsmIdeal.nD Cert.InSsmIdeal.τ).loc Cert.InSsmIdeal.main_arg0)) (m ((c.tc : Thread Cert.InSsmIdeal.nD Cert.InSsmIdeal.τ).loc Cert.InSsmIdeal.main_arg1)) (m ((c.tc : Thread Cert.InSsmIdeal.nD Cert.InSsmIdeal.τ).loc Cert.InSsmIdeal.main_arg2)) (m ((c.tc : Thread Cert.InSsmIdeal.nD Cert.InSsmIdeal.τ).loc Cert.InSsmIdeal.main_arg3)) (m ((c.tc : Thread Cert.InSsmIdeal.nD Cert.InSsmIdeal.τ).loc Cert.InSsmIdeal.main_arg4)) (m ((c.tc : Thread Cert.InSsmIdeal.nD Cert.InSsmIdeal.τ).loc Cert.InSsmIdeal.main_arg5))).1 = (fun _ => 1#1)
    ∧ (Cert.Pre_finite_inproj_ssm.fn (F := Ideal) (m ((c.tc : Thread Cert.InSsmIdeal.nD Cert.InSsmIdeal.τ).loc Cert.InSsmIdeal.main_arg0)) (m ((c.tc : Thread Cert.InSsmIdeal.nD Cert.InSsmIdeal.τ).loc Cert.InSsmIdeal.main_arg1)) (m ((c.tc : Thread Cert.InSsmIdeal.nD Cert.InSsmIdeal.τ).loc Cert.InSsmIdeal.main_arg2)) (m ((c.tc : Thread Cert.InSsmIdeal.nD Cert.InSsmIdeal.τ).loc Cert.InSsmIdeal.main_arg3)) (m ((c.tc : Thread Cert.InSsmIdeal.nD Cert.InSsmIdeal.τ).loc Cert.InSsmIdeal.main_arg4)) (m ((c.tc : Thread Cert.InSsmIdeal.nD Cert.InSsmIdeal.τ).loc Cert.InSsmIdeal.main_arg5))).2.1 = (fun _ => 1#1)
    ∧ (Cert.Pre_finite_inproj_ssm.fn (F := Ideal) (m ((c.tc : Thread Cert.InSsmIdeal.nD Cert.InSsmIdeal.τ).loc Cert.InSsmIdeal.main_arg0)) (m ((c.tc : Thread Cert.InSsmIdeal.nD Cert.InSsmIdeal.τ).loc Cert.InSsmIdeal.main_arg1)) (m ((c.tc : Thread Cert.InSsmIdeal.nD Cert.InSsmIdeal.τ).loc Cert.InSsmIdeal.main_arg2)) (m ((c.tc : Thread Cert.InSsmIdeal.nD Cert.InSsmIdeal.τ).loc Cert.InSsmIdeal.main_arg3)) (m ((c.tc : Thread Cert.InSsmIdeal.nD Cert.InSsmIdeal.τ).loc Cert.InSsmIdeal.main_arg4)) (m ((c.tc : Thread Cert.InSsmIdeal.nD Cert.InSsmIdeal.τ).loc Cert.InSsmIdeal.main_arg5))).2.2.1 = (fun _ => 1#1)
    ∧ (Cert.Pre_finite_inproj_ssm.fn (F := Ideal) (m ((c.tc : Thread Cert.InSsmIdeal.nD Cert.InSsmIdeal.τ).loc Cert.InSsmIdeal.main_arg0)) (m ((c.tc : Thread Cert.InSsmIdeal.nD Cert.InSsmIdeal.τ).loc Cert.InSsmIdeal.main_arg1)) (m ((c.tc : Thread Cert.InSsmIdeal.nD Cert.InSsmIdeal.τ).loc Cert.InSsmIdeal.main_arg2)) (m ((c.tc : Thread Cert.InSsmIdeal.nD Cert.InSsmIdeal.τ).loc Cert.InSsmIdeal.main_arg3)) (m ((c.tc : Thread Cert.InSsmIdeal.nD Cert.InSsmIdeal.τ).loc Cert.InSsmIdeal.main_arg4)) (m ((c.tc : Thread Cert.InSsmIdeal.nD Cert.InSsmIdeal.τ).loc Cert.InSsmIdeal.main_arg5))).2.2.2 = (fun _ => 1#1)

def Pre_InSsmRefIdeal (m : (ℓ : Loc Cert.InSsmRefIdeal.nD Cert.InSsmRefIdeal.τ Cert.InSsmRefIdeal.sig) → Buf (Elt Ideal) ℓ) : Prop :=
  True

def Pre_InSsmRefIdeal_finite_inproj_ssm [hPre_finite_inproj_ssm : Cert.Pre_finite_inproj_ssm.Facts] (m : (ℓ : Loc Cert.InSsmRefIdeal.nD Cert.InSsmRefIdeal.τ Cert.InSsmRefIdeal.sig) → Buf (Elt Ideal) ℓ) : Prop :=
  ∀ c : Dev Cert.InSsmRefIdeal.nD,
    (Cert.Pre_finite_inproj_ssm.fn (F := Ideal) (m ((c.tc : Thread Cert.InSsmRefIdeal.nD Cert.InSsmRefIdeal.τ).loc Cert.InSsmRefIdeal.main_arg0)) (m ((c.tc : Thread Cert.InSsmRefIdeal.nD Cert.InSsmRefIdeal.τ).loc Cert.InSsmRefIdeal.main_arg1)) (m ((c.tc : Thread Cert.InSsmRefIdeal.nD Cert.InSsmRefIdeal.τ).loc Cert.InSsmRefIdeal.main_arg2)) (m ((c.tc : Thread Cert.InSsmRefIdeal.nD Cert.InSsmRefIdeal.τ).loc Cert.InSsmRefIdeal.main_arg3)) (m ((c.tc : Thread Cert.InSsmRefIdeal.nD Cert.InSsmRefIdeal.τ).loc Cert.InSsmRefIdeal.main_arg4)) (m ((c.tc : Thread Cert.InSsmRefIdeal.nD Cert.InSsmRefIdeal.τ).loc Cert.InSsmRefIdeal.main_arg5))).1 = (fun _ => 1#1)
    ∧ (Cert.Pre_finite_inproj_ssm.fn (F := Ideal) (m ((c.tc : Thread Cert.InSsmRefIdeal.nD Cert.InSsmRefIdeal.τ).loc Cert.InSsmRefIdeal.main_arg0)) (m ((c.tc : Thread Cert.InSsmRefIdeal.nD Cert.InSsmRefIdeal.τ).loc Cert.InSsmRefIdeal.main_arg1)) (m ((c.tc : Thread Cert.InSsmRefIdeal.nD Cert.InSsmRefIdeal.τ).loc Cert.InSsmRefIdeal.main_arg2)) (m ((c.tc : Thread Cert.InSsmRefIdeal.nD Cert.InSsmRefIdeal.τ).loc Cert.InSsmRefIdeal.main_arg3)) (m ((c.tc : Thread Cert.InSsmRefIdeal.nD Cert.InSsmRefIdeal.τ).loc Cert.InSsmRefIdeal.main_arg4)) (m ((c.tc : Thread Cert.InSsmRefIdeal.nD Cert.InSsmRefIdeal.τ).loc Cert.InSsmRefIdeal.main_arg5))).2.1 = (fun _ => 1#1)
    ∧ (Cert.Pre_finite_inproj_ssm.fn (F := Ideal) (m ((c.tc : Thread Cert.InSsmRefIdeal.nD Cert.InSsmRefIdeal.τ).loc Cert.InSsmRefIdeal.main_arg0)) (m ((c.tc : Thread Cert.InSsmRefIdeal.nD Cert.InSsmRefIdeal.τ).loc Cert.InSsmRefIdeal.main_arg1)) (m ((c.tc : Thread Cert.InSsmRefIdeal.nD Cert.InSsmRefIdeal.τ).loc Cert.InSsmRefIdeal.main_arg2)) (m ((c.tc : Thread Cert.InSsmRefIdeal.nD Cert.InSsmRefIdeal.τ).loc Cert.InSsmRefIdeal.main_arg3)) (m ((c.tc : Thread Cert.InSsmRefIdeal.nD Cert.InSsmRefIdeal.τ).loc Cert.InSsmRefIdeal.main_arg4)) (m ((c.tc : Thread Cert.InSsmRefIdeal.nD Cert.InSsmRefIdeal.τ).loc Cert.InSsmRefIdeal.main_arg5))).2.2.1 = (fun _ => 1#1)
    ∧ (Cert.Pre_finite_inproj_ssm.fn (F := Ideal) (m ((c.tc : Thread Cert.InSsmRefIdeal.nD Cert.InSsmRefIdeal.τ).loc Cert.InSsmRefIdeal.main_arg0)) (m ((c.tc : Thread Cert.InSsmRefIdeal.nD Cert.InSsmRefIdeal.τ).loc Cert.InSsmRefIdeal.main_arg1)) (m ((c.tc : Thread Cert.InSsmRefIdeal.nD Cert.InSsmRefIdeal.τ).loc Cert.InSsmRefIdeal.main_arg2)) (m ((c.tc : Thread Cert.InSsmRefIdeal.nD Cert.InSsmRefIdeal.τ).loc Cert.InSsmRefIdeal.main_arg3)) (m ((c.tc : Thread Cert.InSsmRefIdeal.nD Cert.InSsmRefIdeal.τ).loc Cert.InSsmRefIdeal.main_arg4)) (m ((c.tc : Thread Cert.InSsmRefIdeal.nD Cert.InSsmRefIdeal.τ).loc Cert.InSsmRefIdeal.main_arg5))).2.2.2 = (fun _ => 1#1)

def Pre_InAttn (m : (ℓ : Loc Cert.InAttn.nD Cert.InAttn.τ Cert.InAttn.sig) → Buf (Elt Bits) ℓ) : Prop :=
  True

def Pre_InAttnIdeal (m : (ℓ : Loc Cert.InAttnIdeal.nD Cert.InAttnIdeal.τ Cert.InAttnIdeal.sig) → Buf (Elt Ideal) ℓ) : Prop :=
  True

def Pre_InAttnIdeal_finite_inproj_attn [hPre_finite_inproj_attn : Cert.Pre_finite_inproj_attn.Facts] (m : (ℓ : Loc Cert.InAttnIdeal.nD Cert.InAttnIdeal.τ Cert.InAttnIdeal.sig) → Buf (Elt Ideal) ℓ) : Prop :=
  ∀ c : Dev Cert.InAttnIdeal.nD,
    (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).1 = (fun _ => 1#1)
    ∧ (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).2.1 = (fun _ => 1#1)
    ∧ (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).2.2.1 = (fun _ => 1#1)
    ∧ (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).2.2.2.1 = (fun _ => 1#1)
    ∧ (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).2.2.2.2.1 = (fun _ => 1#1)
    ∧ (Cert.Pre_finite_inproj_attn.fn (F := Ideal) (m ((c.tc : Thread Cert.InAttnIdeal.nD Cert.InAttnIdeal.τ).loc Cert.InAttnIdeal.main_arg0)) (m ((c.tc : Thread Cert.InAttnIdeal.nD Cert.InAttnIdeal.τ).loc Cert.InAttnIdeal.main_arg1)) (m ((c.tc : Thread Cert.InAttnIdeal.nD Cert.InAttnIdeal.τ).loc Cert.InAttnIdeal.main_arg2)) (m ((c.tc : Thread Cert.InAttnIdeal.nD Cert.InAttnIdeal.τ).loc Cert.InAttnIdeal.main_arg3)) (m ((c.tc : Thread Cert.InAttnIdeal.nD Cert.InAttnIdeal.τ).loc Cert.InAttnIdeal.main_arg4)) (m ((c.tc : Thread Cert.InAttnIdeal.nD Cert.InAttnIdeal.τ).loc Cert.InAttnIdeal.main_arg5)) (m ((c.tc : Thread Cert.InAttnIdeal.nD Cert.InAttnIdeal.τ).loc Cert.InAttnIdeal.main_arg6)) (m ((c.tc : Thread Cert.InAttnIdeal.nD Cert.InAttnIdeal.τ).loc Cert.InAttnIdeal.main_arg7))).2.2.2.2.2 = (fun _ => 1#1)

def Pre_InAttnRefIdeal (m : (ℓ : Loc Cert.InAttnRefIdeal.nD Cert.InAttnRefIdeal.τ Cert.InAttnRefIdeal.sig) → Buf (Elt Ideal) ℓ) : Prop :=
  True

def Pre_InAttnRefIdeal_finite_inproj_attn [hPre_finite_inproj_attn : Cert.Pre_finite_inproj_attn.Facts] (m : (ℓ : Loc Cert.InAttnRefIdeal.nD Cert.InAttnRefIdeal.τ Cert.InAttnRefIdeal.sig) → Buf (Elt Ideal) ℓ) : Prop :=
  ∀ c : Dev Cert.InAttnRefIdeal.nD,
    (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).1 = (fun _ => 1#1)
    ∧ (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).2.1 = (fun _ => 1#1)
    ∧ (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).2.2.1 = (fun _ => 1#1)
    ∧ (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).2.2.2.1 = (fun _ => 1#1)
    ∧ (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).2.2.2.2.1 = (fun _ => 1#1)
    ∧ (Cert.Pre_finite_inproj_attn.fn (F := Ideal) (m ((c.tc : Thread Cert.InAttnRefIdeal.nD Cert.InAttnRefIdeal.τ).loc Cert.InAttnRefIdeal.main_arg0)) (m ((c.tc : Thread Cert.InAttnRefIdeal.nD Cert.InAttnRefIdeal.τ).loc Cert.InAttnRefIdeal.main_arg1)) (m ((c.tc : Thread Cert.InAttnRefIdeal.nD Cert.InAttnRefIdeal.τ).loc Cert.InAttnRefIdeal.main_arg2)) (m ((c.tc : Thread Cert.InAttnRefIdeal.nD Cert.InAttnRefIdeal.τ).loc Cert.InAttnRefIdeal.main_arg3)) (m ((c.tc : Thread Cert.InAttnRefIdeal.nD Cert.InAttnRefIdeal.τ).loc Cert.InAttnRefIdeal.main_arg4)) (m ((c.tc : Thread Cert.InAttnRefIdeal.nD Cert.InAttnRefIdeal.τ).loc Cert.InAttnRefIdeal.main_arg5)) (m ((c.tc : Thread Cert.InAttnRefIdeal.nD Cert.InAttnRefIdeal.τ).loc Cert.InAttnRefIdeal.main_arg6)) (m ((c.tc : Thread Cert.InAttnRefIdeal.nD Cert.InAttnRefIdeal.τ).loc Cert.InAttnRefIdeal.main_arg7))).2.2.2.2.2 = (fun _ => 1#1)

def Pre_S5b (m : (ℓ : Loc Cert.S5b.nD Cert.S5b.τ Cert.S5b.sig) → Buf (Elt Bits) ℓ) : Prop :=
  True

def Pre_S5bIdeal (m : (ℓ : Loc Cert.S5bIdeal.nD Cert.S5bIdeal.τ Cert.S5bIdeal.sig) → Buf (Elt Ideal) ℓ) : Prop :=
  True

def Pre_S5bRefIdeal (m : (ℓ : Loc Cert.S5bRefIdeal.nD Cert.S5bRefIdeal.τ Cert.S5bRefIdeal.sig) → Buf (Elt Ideal) ℓ) : Prop :=
  True

def Pre_S5p (m : (ℓ : Loc Cert.S5p.nD Cert.S5p.τ Cert.S5p.sig) → Buf (Elt Bits) ℓ) : Prop :=
  True

def Pre_S5pIdeal (m : (ℓ : Loc Cert.S5pIdeal.nD Cert.S5pIdeal.τ Cert.S5pIdeal.sig) → Buf (Elt Ideal) ℓ) : Prop :=
  True

def Pre_S5pRefIdeal (m : (ℓ : Loc Cert.S5pRefIdeal.nD Cert.S5pRefIdeal.τ Cert.S5pRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_S5o (m : (ℓ : Loc Cert.S5o.nD Cert.S5o.τ Cert.S5o.sig) → Buf (Elt Bits) ℓ) : Prop :=
  True

def Pre_S5oIdeal (m : (ℓ : Loc Cert.S5oIdeal.nD Cert.S5oIdeal.τ Cert.S5oIdeal.sig) → Buf (Elt Ideal) ℓ) : Prop :=
  True

def Pre_S5oRefIdeal (m : (ℓ : Loc Cert.S5oRefIdeal.nD Cert.S5oRefIdeal.τ Cert.S5oRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_finite_attn_fwd [hPre_finite_attn_fwd : Cert.Pre_finite_attn_fwd.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_finite_attn_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3))).1 = (fun _ => 1#1)
    ∧ (Cert.Pre_finite_attn_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3))).2.1 = (fun _ => 1#1)
    ∧ (Cert.Pre_finite_attn_fwd.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3))).2.2 = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_finite_attn_fwd [hPre_finite_attn_fwd : Cert.Pre_finite_attn_fwd.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_finite_attn_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3))).1 = (fun _ => 1#1)
    ∧ (Cert.Pre_finite_attn_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3))).2.1 = (fun _ => 1#1)
    ∧ (Cert.Pre_finite_attn_fwd.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3))).2.2 = (fun _ => 1#1)

def Pre_AttnOutF (m : (ℓ : Loc Cert.AttnOutF.nD Cert.AttnOutF.τ Cert.AttnOutF.sig) → Buf (Elt Bits) ℓ) : Prop :=
  True

def Pre_AttnOutFIdeal (m : (ℓ : Loc Cert.AttnOutFIdeal.nD Cert.AttnOutFIdeal.τ Cert.AttnOutFIdeal.sig) → Buf (Elt Ideal) ℓ) : Prop :=
  True

def Pre_AttnOutFRefIdeal (m : (ℓ : Loc Cert.AttnOutFRefIdeal.nD Cert.AttnOutFRefIdeal.τ Cert.AttnOutFRefIdeal.sig) → Buf (Elt Ideal) ℓ) : Prop :=
  True

def Pre_SsmOutF (m : (ℓ : Loc Cert.SsmOutF.nD Cert.SsmOutF.τ Cert.SsmOutF.sig) → Buf (Elt Bits) ℓ) : Prop :=
  True

def Pre_SsmOutFIdeal (m : (ℓ : Loc Cert.SsmOutFIdeal.nD Cert.SsmOutFIdeal.τ Cert.SsmOutFIdeal.sig) → Buf (Elt Ideal) ℓ) : Prop :=
  True

def Pre_SsmOutFRefIdeal (m : (ℓ : Loc Cert.SsmOutFRefIdeal.nD Cert.SsmOutFRefIdeal.τ Cert.SsmOutFRefIdeal.sig) → Buf (Elt Ideal) ℓ) : Prop :=
  True

def Pre_InSsmF (m : (ℓ : Loc Cert.InSsmF.nD Cert.InSsmF.τ Cert.InSsmF.sig) → Buf (Elt Bits) ℓ) : Prop :=
  True

def Pre_InSsmFIdeal (m : (ℓ : Loc Cert.InSsmFIdeal.nD Cert.InSsmFIdeal.τ Cert.InSsmFIdeal.sig) → Buf (Elt Ideal) ℓ) : Prop :=
  True

def Pre_InSsmFRefIdeal (m : (ℓ : Loc Cert.InSsmFRefIdeal.nD Cert.InSsmFRefIdeal.τ Cert.InSsmFRefIdeal.sig) → Buf (Elt Ideal) ℓ) : Prop :=
  True

def Pre_InAttnF (m : (ℓ : Loc Cert.InAttnF.nD Cert.InAttnF.τ Cert.InAttnF.sig) → Buf (Elt Bits) ℓ) : Prop :=
  True

def Pre_InAttnFIdeal (m : (ℓ : Loc Cert.InAttnFIdeal.nD Cert.InAttnFIdeal.τ Cert.InAttnFIdeal.sig) → Buf (Elt Ideal) ℓ) : Prop :=
  True

def Pre_InAttnFRefIdeal (m : (ℓ : Loc Cert.InAttnFRefIdeal.nD Cert.InAttnFRefIdeal.τ Cert.InAttnFRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_ScanF (m : (ℓ : Loc Cert.ScanF.nD Cert.ScanF.τ Cert.ScanF.sig) → Buf (Elt Bits) ℓ) : Prop :=
  True

def Pre_ScanFIdeal (m : (ℓ : Loc Cert.ScanFIdeal.nD Cert.ScanFIdeal.τ Cert.ScanFIdeal.sig) → Buf (Elt Ideal) ℓ) : Prop :=
  True

def Pre_ScanFRefIdeal (m : (ℓ : Loc Cert.ScanFRefIdeal.nD Cert.ScanFRefIdeal.τ Cert.ScanFRefIdeal.sig) → Buf (Elt Ideal) ℓ) : Prop :=
  True

def Pre_ScanB (m : (ℓ : Loc Cert.ScanB.nD Cert.ScanB.τ Cert.ScanB.sig) → Buf (Elt Bits) ℓ) : Prop :=
  True

def Pre_ScanBIdeal (m : (ℓ : Loc Cert.ScanBIdeal.nD Cert.ScanBIdeal.τ Cert.ScanBIdeal.sig) → Buf (Elt Ideal) ℓ) : Prop :=
  True

def Pre_ScanBRefIdeal (m : (ℓ : Loc Cert.ScanBRefIdeal.nD Cert.ScanBRefIdeal.τ Cert.ScanBRefIdeal.sig) → Buf (Elt Ideal) ℓ) : Prop :=
  True

def Pre_SumCore [hPre_core_index : Cert.Pre_core_index.Facts] (m : (ℓ : Loc Cert.SumCore.nD Cert.SumCore.τ Cert.SumCore.sig) → Buf (Elt Bits) ℓ) : Prop :=
  ∀ c : Dev Cert.SumCore.nD,
    (Cert.Pre_core_index.fn (F := Bits) (m ((c.tc : Thread Cert.SumCore.nD Cert.SumCore.τ).loc Cert.SumCore.main_arg0)) (m ((c.tc : Thread Cert.SumCore.nD Cert.SumCore.τ).loc Cert.SumCore.main_arg1)) (m ((c.tc : Thread Cert.SumCore.nD Cert.SumCore.τ).loc Cert.SumCore.main_arg2))) = (fun _ => 1#1)

def Pre_SumCoreIdeal [hPre_core_index : Cert.Pre_core_index.Facts] (m : (ℓ : Loc Cert.SumCoreIdeal.nD Cert.SumCoreIdeal.τ Cert.SumCoreIdeal.sig) → Buf (Elt Ideal) ℓ) : Prop :=
  ∀ c : Dev Cert.SumCoreIdeal.nD,
    (Cert.Pre_core_index.fn (F := Ideal) (m ((c.tc : Thread Cert.SumCoreIdeal.nD Cert.SumCoreIdeal.τ).loc Cert.SumCoreIdeal.main_arg0)) (m ((c.tc : Thread Cert.SumCoreIdeal.nD Cert.SumCoreIdeal.τ).loc Cert.SumCoreIdeal.main_arg1)) (m ((c.tc : Thread Cert.SumCoreIdeal.nD Cert.SumCoreIdeal.τ).loc Cert.SumCoreIdeal.main_arg2))) = (fun _ => 1#1)

def Pre_SumCoreRefIdeal (m : (ℓ : Loc Cert.SumCoreRefIdeal.nD Cert.SumCoreRefIdeal.τ Cert.SumCoreRefIdeal.sig) → Buf (Elt Ideal) ℓ) : Prop :=
  True

def Pre_SumCoreRefIdeal_core_index [hPre_core_index : Cert.Pre_core_index.Facts] (m : (ℓ : Loc Cert.SumCoreRefIdeal.nD Cert.SumCoreRefIdeal.τ Cert.SumCoreRefIdeal.sig) → Buf (Elt Ideal) ℓ) : Prop :=
  ∀ c : Dev Cert.SumCoreRefIdeal.nD,
    (Cert.Pre_core_index.fn (F := Ideal) (m ((c.tc : Thread Cert.SumCoreRefIdeal.nD Cert.SumCoreRefIdeal.τ).loc Cert.SumCoreRefIdeal.main_arg0)) (m ((c.tc : Thread Cert.SumCoreRefIdeal.nD Cert.SumCoreRefIdeal.τ).loc Cert.SumCoreRefIdeal.main_arg1)) (m ((c.tc : Thread Cert.SumCoreRefIdeal.nD Cert.SumCoreRefIdeal.τ).loc Cert.SumCoreRefIdeal.main_arg2))) = (fun _ => 1#1)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutIdeal_pre_finite_attn_out [hAttnOutIdeal : Cert.AttnOutIdeal.Facts] [hPre_finite_attn_out : Cert.Pre_finite_attn_out.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_finite_attn_out m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_AttnOutRefIdeal_pre_finite_attn_out [hAttnOutRefIdeal : Cert.AttnOutRefIdeal.Facts] [hPre_finite_attn_out : Cert.Pre_finite_attn_out.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_finite_attn_out m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3)
      ∧ r.2.mem ((c.tc : Thread Cert.SsmOut.nD Cert.SsmOut.τ).loc Cert.SsmOut.main_arg4) = m ((c.tc : Thread Cert.SsmOut.nD Cert.SsmOut.τ).loc Cert.SsmOut.main_arg4)
      ∧ r.2.mem ((c.tc : Thread Cert.SsmOut.nD Cert.SsmOut.τ).loc Cert.SsmOut.main_arg5) = m ((c.tc : Thread Cert.SsmOut.nD Cert.SsmOut.τ).loc Cert.SsmOut.main_arg5))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ r.2.sem = fun _ => 0)

def quiescent_SsmOutIdeal_pre_finite_ssm_out [hSsmOutIdeal : Cert.SsmOutIdeal.Facts] [hPre_finite_ssm_out : Cert.Pre_finite_ssm_out.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal_finite_ssm_out m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
      ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
      ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3)
      ∧ r.2.mem ((c.tc : Thread Cert.SsmOutRefIdeal.nD Cert.SsmOutRefIdeal.τ).loc Cert.SsmOutRefIdeal.main_arg4) = m ((c.tc : Thread Cert.SsmOutRefIdeal.nD Cert.SsmOutRefIdeal.τ).loc Cert.SsmOutRefIdeal.main_arg4)
      ∧ r.2.mem ((c.tc : Thread Cert.SsmOutRefIdeal.nD Cert.SsmOutRefIdeal.τ).loc Cert.SsmOutRefIdeal.main_arg5) = m ((c.tc : Thread Cert.SsmOutRefIdeal.nD Cert.SsmOutRefIdeal.τ).loc Cert.SsmOutRefIdeal.main_arg5))
      ∧ r.2.sem = fun _ => 0)

def quiescent_SsmOutRefIdeal_pre_finite_ssm_out [hSsmOutRefIdeal : Cert.SsmOutRefIdeal.Facts] [hPre_finite_ssm_out : Cert.Pre_finite_ssm_out.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal_finite_ssm_out m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2)
      ∧ r.2.mem ((c.tc : Thread Cert.SsmOutRefIdeal.nD Cert.SsmOutRefIdeal.τ).loc Cert.SsmOutRefIdeal.main_arg3) = m ((c.tc : Thread Cert.SsmOutRefIdeal.nD Cert.SsmOutRefIdeal.τ).loc Cert.SsmOutRefIdeal.main_arg3)
      ∧ r.2.mem ((c.tc : Thread Cert.SsmOutRefIdeal.nD Cert.SsmOutRefIdeal.τ).loc Cert.SsmOutRefIdeal.main_arg4) = m ((c.tc : Thread Cert.SsmOutRefIdeal.nD Cert.SsmOutRefIdeal.τ).loc Cert.SsmOutRefIdeal.main_arg4)
      ∧ r.2.mem ((c.tc : Thread Cert.SsmOutRefIdeal.nD Cert.SsmOutRefIdeal.τ).loc Cert.SsmOutRefIdeal.main_arg5) = m ((c.tc : Thread Cert.SsmOutRefIdeal.nD Cert.SsmOutRefIdeal.τ).loc Cert.SsmOutRefIdeal.main_arg5))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ r.2.sem = fun _ => 0)

def quiescent_OutLossIdeal_pre_finite_loss [hOutLossIdeal : Cert.OutLossIdeal.Facts] [hPre_finite_loss : Cert.Pre_finite_loss.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_finite_loss m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5))
      ∧ r.2.sem = fun _ => 0)

def quiescent_OutLossRefIdeal_pre_finite_loss [hOutLossRefIdeal : Cert.OutLossRefIdeal.Facts] [hPre_finite_loss : Cert.Pre_finite_loss.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_finite_loss m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5))
      ∧ r.2.sem = fun _ => 0)

def quiescent_InSsm [hInSsm : Cert.InSsm.Facts] : Prop :=
  ∀ (m : (ℓ : Loc Cert.InSsm.nD Cert.InSsm.τ Cert.InSsm.sig) → Buf (Elt Bits) ℓ) (g : Dev Cert.InSsm.nD → PrngReg), Pre_InSsm m →
    θ_run (Cert.InSsm.defs (F := Bits)) (onTc (τ := Cert.InSsm.τ) (Cert.InSsm.main (F := Bits))) ⟨m, fun _ => 0, g⟩ (fun r => (∀ c : Dev Cert.InSsm.nD,
      r.2.mem ((c.tc : Thread Cert.InSsm.nD Cert.InSsm.τ).loc Cert.InSsm.main_arg0) = m ((c.tc : Thread Cert.InSsm.nD Cert.InSsm.τ).loc Cert.InSsm.main_arg0)
      ∧ r.2.mem ((c.tc : Thread Cert.InSsm.nD Cert.InSsm.τ).loc Cert.InSsm.main_arg1) = m ((c.tc : Thread Cert.InSsm.nD Cert.InSsm.τ).loc Cert.InSsm.main_arg1)
      ∧ r.2.mem ((c.tc : Thread Cert.InSsm.nD Cert.InSsm.τ).loc Cert.InSsm.main_arg2) = m ((c.tc : Thread Cert.InSsm.nD Cert.InSsm.τ).loc Cert.InSsm.main_arg2)
      ∧ r.2.mem ((c.tc : Thread Cert.InSsm.nD Cert.InSsm.τ).loc Cert.InSsm.main_arg3) = m ((c.tc : Thread Cert.InSsm.nD Cert.InSsm.τ).loc Cert.InSsm.main_arg3)
      ∧ r.2.mem ((c.tc : Thread Cert.InSsm.nD Cert.InSsm.τ).loc Cert.InSsm.main_arg4) = m ((c.tc : Thread Cert.InSsm.nD Cert.InSsm.τ).loc Cert.InSsm.main_arg4)
      ∧ r.2.mem ((c.tc : Thread Cert.InSsm.nD Cert.InSsm.τ).loc Cert.InSsm.main_arg5) = m ((c.tc : Thread Cert.InSsm.nD Cert.InSsm.τ).loc Cert.InSsm.main_arg5))
      ∧ r.2.sem = fun _ => 0)

def quiescent_InSsmIdeal [hInSsmIdeal : Cert.InSsmIdeal.Facts] : Prop :=
  ∀ (m : (ℓ : Loc Cert.InSsmIdeal.nD Cert.InSsmIdeal.τ Cert.InSsmIdeal.sig) → Buf (Elt Ideal) ℓ) (g : Dev Cert.InSsmIdeal.nD → PrngReg), Pre_InSsmIdeal m →
    θ_run (Cert.InSsmIdeal.defs (F := Ideal)) (onTc (τ := Cert.InSsmIdeal.τ) (Cert.InSsmIdeal.main (F := Ideal))) ⟨m, fun _ => 0, g⟩ (fun r => (∀ c : Dev Cert.InSsmIdeal.nD,
      r.2.mem ((c.tc : Thread Cert.InSsmIdeal.nD Cert.InSsmIdeal.τ).loc Cert.InSsmIdeal.main_arg0) = m ((c.tc : Thread Cert.InSsmIdeal.nD Cert.InSsmIdeal.τ).loc Cert.InSsmIdeal.main_arg0)
      ∧ r.2.mem ((c.tc : Thread Cert.InSsmIdeal.nD Cert.InSsmIdeal.τ).loc Cert.InSsmIdeal.main_arg1) = m ((c.tc : Thread Cert.InSsmIdeal.nD Cert.InSsmIdeal.τ).loc Cert.InSsmIdeal.main_arg1)
      ∧ r.2.mem ((c.tc : Thread Cert.InSsmIdeal.nD Cert.InSsmIdeal.τ).loc Cert.InSsmIdeal.main_arg2) = m ((c.tc : Thread Cert.InSsmIdeal.nD Cert.InSsmIdeal.τ).loc Cert.InSsmIdeal.main_arg2)
      ∧ r.2.mem ((c.tc : Thread Cert.InSsmIdeal.nD Cert.InSsmIdeal.τ).loc Cert.InSsmIdeal.main_arg3) = m ((c.tc : Thread Cert.InSsmIdeal.nD Cert.InSsmIdeal.τ).loc Cert.InSsmIdeal.main_arg3)
      ∧ r.2.mem ((c.tc : Thread Cert.InSsmIdeal.nD Cert.InSsmIdeal.τ).loc Cert.InSsmIdeal.main_arg4) = m ((c.tc : Thread Cert.InSsmIdeal.nD Cert.InSsmIdeal.τ).loc Cert.InSsmIdeal.main_arg4)
      ∧ r.2.mem ((c.tc : Thread Cert.InSsmIdeal.nD Cert.InSsmIdeal.τ).loc Cert.InSsmIdeal.main_arg5) = m ((c.tc : Thread Cert.InSsmIdeal.nD Cert.InSsmIdeal.τ).loc Cert.InSsmIdeal.main_arg5))
      ∧ r.2.sem = fun _ => 0)

def quiescent_InSsmIdeal_pre_finite_inproj_ssm [hInSsmIdeal : Cert.InSsmIdeal.Facts] [hPre_finite_inproj_ssm : Cert.Pre_finite_inproj_ssm.Facts] : Prop :=
  ∀ (m : (ℓ : Loc Cert.InSsmIdeal.nD Cert.InSsmIdeal.τ Cert.InSsmIdeal.sig) → Buf (Elt Ideal) ℓ) (g : Dev Cert.InSsmIdeal.nD → PrngReg), Pre_InSsmIdeal_finite_inproj_ssm m →
    θ_run (Cert.InSsmIdeal.defs (F := Ideal)) (onTc (τ := Cert.InSsmIdeal.τ) (Cert.InSsmIdeal.main (F := Ideal))) ⟨m, fun _ => 0, g⟩ (fun r => (∀ c : Dev Cert.InSsmIdeal.nD,
      r.2.mem ((c.tc : Thread Cert.InSsmIdeal.nD Cert.InSsmIdeal.τ).loc Cert.InSsmIdeal.main_arg0) = m ((c.tc : Thread Cert.InSsmIdeal.nD Cert.InSsmIdeal.τ).loc Cert.InSsmIdeal.main_arg0)
      ∧ r.2.mem ((c.tc : Thread Cert.InSsmIdeal.nD Cert.InSsmIdeal.τ).loc Cert.InSsmIdeal.main_arg1) = m ((c.tc : Thread Cert.InSsmIdeal.nD Cert.InSsmIdeal.τ).loc Cert.InSsmIdeal.main_arg1)
      ∧ r.2.mem ((c.tc : Thread Cert.InSsmIdeal.nD Cert.InSsmIdeal.τ).loc Cert.InSsmIdeal.main_arg2) = m ((c.tc : Thread Cert.InSsmIdeal.nD Cert.InSsmIdeal.τ).loc Cert.InSsmIdeal.main_arg2)
      ∧ r.2.mem ((c.tc : Thread Cert.InSsmIdeal.nD Cert.InSsmIdeal.τ).loc Cert.InSsmIdeal.main_arg3) = m ((c.tc : Thread Cert.InSsmIdeal.nD Cert.InSsmIdeal.τ).loc Cert.InSsmIdeal.main_arg3)
      ∧ r.2.mem ((c.tc : Thread Cert.InSsmIdeal.nD Cert.InSsmIdeal.τ).loc Cert.InSsmIdeal.main_arg4) = m ((c.tc : Thread Cert.InSsmIdeal.nD Cert.InSsmIdeal.τ).loc Cert.InSsmIdeal.main_arg4)
      ∧ r.2.mem ((c.tc : Thread Cert.InSsmIdeal.nD Cert.InSsmIdeal.τ).loc Cert.InSsmIdeal.main_arg5) = m ((c.tc : Thread Cert.InSsmIdeal.nD Cert.InSsmIdeal.τ).loc Cert.InSsmIdeal.main_arg5))
      ∧ r.2.sem = fun _ => 0)

def quiescent_InSsmRefIdeal [hInSsmRefIdeal : Cert.InSsmRefIdeal.Facts] : Prop :=
  ∀ (m : (ℓ : Loc Cert.InSsmRefIdeal.nD Cert.InSsmRefIdeal.τ Cert.InSsmRefIdeal.sig) → Buf (Elt Ideal) ℓ) (g : Dev Cert.InSsmRefIdeal.nD → PrngReg), Pre_InSsmRefIdeal m →
    θ_run (Cert.InSsmRefIdeal.defs (F := Ideal)) (onTc (τ := Cert.InSsmRefIdeal.τ) (Cert.InSsmRefIdeal.main (F := Ideal))) ⟨m, fun _ => 0, g⟩ (fun r => (∀ c : Dev Cert.InSsmRefIdeal.nD,
      r.2.mem ((c.tc : Thread Cert.InSsmRefIdeal.nD Cert.InSsmRefIdeal.τ).loc Cert.InSsmRefIdeal.main_arg0) = m ((c.tc : Thread Cert.InSsmRefIdeal.nD Cert.InSsmRefIdeal.τ).loc Cert.InSsmRefIdeal.main_arg0)
      ∧ r.2.mem ((c.tc : Thread Cert.InSsmRefIdeal.nD Cert.InSsmRefIdeal.τ).loc Cert.InSsmRefIdeal.main_arg1) = m ((c.tc : Thread Cert.InSsmRefIdeal.nD Cert.InSsmRefIdeal.τ).loc Cert.InSsmRefIdeal.main_arg1)
      ∧ r.2.mem ((c.tc : Thread Cert.InSsmRefIdeal.nD Cert.InSsmRefIdeal.τ).loc Cert.InSsmRefIdeal.main_arg2) = m ((c.tc : Thread Cert.InSsmRefIdeal.nD Cert.InSsmRefIdeal.τ).loc Cert.InSsmRefIdeal.main_arg2)
      ∧ r.2.mem ((c.tc : Thread Cert.InSsmRefIdeal.nD Cert.InSsmRefIdeal.τ).loc Cert.InSsmRefIdeal.main_arg3) = m ((c.tc : Thread Cert.InSsmRefIdeal.nD Cert.InSsmRefIdeal.τ).loc Cert.InSsmRefIdeal.main_arg3)
      ∧ r.2.mem ((c.tc : Thread Cert.InSsmRefIdeal.nD Cert.InSsmRefIdeal.τ).loc Cert.InSsmRefIdeal.main_arg4) = m ((c.tc : Thread Cert.InSsmRefIdeal.nD Cert.InSsmRefIdeal.τ).loc Cert.InSsmRefIdeal.main_arg4)
      ∧ r.2.mem ((c.tc : Thread Cert.InSsmRefIdeal.nD Cert.InSsmRefIdeal.τ).loc Cert.InSsmRefIdeal.main_arg5) = m ((c.tc : Thread Cert.InSsmRefIdeal.nD Cert.InSsmRefIdeal.τ).loc Cert.InSsmRefIdeal.main_arg5))
      ∧ r.2.sem = fun _ => 0)

def quiescent_InSsmRefIdeal_pre_finite_inproj_ssm [hInSsmRefIdeal : Cert.InSsmRefIdeal.Facts] [hPre_finite_inproj_ssm : Cert.Pre_finite_inproj_ssm.Facts] : Prop :=
  ∀ (m : (ℓ : Loc Cert.InSsmRefIdeal.nD Cert.InSsmRefIdeal.τ Cert.InSsmRefIdeal.sig) → Buf (Elt Ideal) ℓ) (g : Dev Cert.InSsmRefIdeal.nD → PrngReg), Pre_InSsmRefIdeal_finite_inproj_ssm m →
    θ_run (Cert.InSsmRefIdeal.defs (F := Ideal)) (onTc (τ := Cert.InSsmRefIdeal.τ) (Cert.InSsmRefIdeal.main (F := Ideal))) ⟨m, fun _ => 0, g⟩ (fun r => (∀ c : Dev Cert.InSsmRefIdeal.nD,
      r.2.mem ((c.tc : Thread Cert.InSsmRefIdeal.nD Cert.InSsmRefIdeal.τ).loc Cert.InSsmRefIdeal.main_arg0) = m ((c.tc : Thread Cert.InSsmRefIdeal.nD Cert.InSsmRefIdeal.τ).loc Cert.InSsmRefIdeal.main_arg0)
      ∧ r.2.mem ((c.tc : Thread Cert.InSsmRefIdeal.nD Cert.InSsmRefIdeal.τ).loc Cert.InSsmRefIdeal.main_arg1) = m ((c.tc : Thread Cert.InSsmRefIdeal.nD Cert.InSsmRefIdeal.τ).loc Cert.InSsmRefIdeal.main_arg1)
      ∧ r.2.mem ((c.tc : Thread Cert.InSsmRefIdeal.nD Cert.InSsmRefIdeal.τ).loc Cert.InSsmRefIdeal.main_arg2) = m ((c.tc : Thread Cert.InSsmRefIdeal.nD Cert.InSsmRefIdeal.τ).loc Cert.InSsmRefIdeal.main_arg2)
      ∧ r.2.mem ((c.tc : Thread Cert.InSsmRefIdeal.nD Cert.InSsmRefIdeal.τ).loc Cert.InSsmRefIdeal.main_arg3) = m ((c.tc : Thread Cert.InSsmRefIdeal.nD Cert.InSsmRefIdeal.τ).loc Cert.InSsmRefIdeal.main_arg3)
      ∧ r.2.mem ((c.tc : Thread Cert.InSsmRefIdeal.nD Cert.InSsmRefIdeal.τ).loc Cert.InSsmRefIdeal.main_arg4) = m ((c.tc : Thread Cert.InSsmRefIdeal.nD Cert.InSsmRefIdeal.τ).loc Cert.InSsmRefIdeal.main_arg4)
      ∧ r.2.mem ((c.tc : Thread Cert.InSsmRefIdeal.nD Cert.InSsmRefIdeal.τ).loc Cert.InSsmRefIdeal.main_arg5) = m ((c.tc : Thread Cert.InSsmRefIdeal.nD Cert.InSsmRefIdeal.τ).loc Cert.InSsmRefIdeal.main_arg5))
      ∧ r.2.sem = fun _ => 0)

def quiescent_InAttn [hInAttn : Cert.InAttn.Facts] : Prop :=
  ∀ (m : (ℓ : Loc Cert.InAttn.nD Cert.InAttn.τ Cert.InAttn.sig) → Buf (Elt Bits) ℓ) (g : Dev Cert.InAttn.nD → PrngReg), Pre_InAttn m →
    θ_run (Cert.InAttn.defs (F := Bits)) (onTc (τ := Cert.InAttn.τ) (Cert.InAttn.main (F := Bits))) ⟨m, fun _ => 0, g⟩ (fun r => (∀ c : Dev Cert.InAttn.nD,
      r.2.mem ((c.tc : Thread Cert.InAttn.nD Cert.InAttn.τ).loc Cert.InAttn.main_arg0) = m ((c.tc : Thread Cert.InAttn.nD Cert.InAttn.τ).loc Cert.InAttn.main_arg0)
      ∧ r.2.mem ((c.tc : Thread Cert.InAttn.nD Cert.InAttn.τ).loc Cert.InAttn.main_arg1) = m ((c.tc : Thread Cert.InAttn.nD Cert.InAttn.τ).loc Cert.InAttn.main_arg1)
      ∧ r.2.mem ((c.tc : Thread Cert.InAttn.nD Cert.InAttn.τ).loc Cert.InAttn.main_arg2) = m ((c.tc : Thread Cert.InAttn.nD Cert.InAttn.τ).loc Cert.InAttn.main_arg2)
      ∧ r.2.mem ((c.tc : Thread Cert.InAttn.nD Cert.InAttn.τ).loc Cert.InAttn.main_arg3) = m ((c.tc : Thread Cert.InAttn.nD Cert.InAttn.τ).loc Cert.InAttn.main_arg3)
      ∧ r.2.mem ((c.tc : Thread Cert.InAttn.nD Cert.InAttn.τ).loc Cert.InAttn.main_arg4) = m ((c.tc : Thread Cert.InAttn.nD Cert.InAttn.τ).loc Cert.InAttn.main_arg4)
      ∧ r.2.mem ((c.tc : Thread Cert.InAttn.nD Cert.InAttn.τ).loc Cert.InAttn.main_arg5) = m ((c.tc : Thread Cert.InAttn.nD Cert.InAttn.τ).loc Cert.InAttn.main_arg5)
      ∧ r.2.mem ((c.tc : Thread Cert.InAttn.nD Cert.InAttn.τ).loc Cert.InAttn.main_arg6) = m ((c.tc : Thread Cert.InAttn.nD Cert.InAttn.τ).loc Cert.InAttn.main_arg6)
      ∧ r.2.mem ((c.tc : Thread Cert.InAttn.nD Cert.InAttn.τ).loc Cert.InAttn.main_arg7) = m ((c.tc : Thread Cert.InAttn.nD Cert.InAttn.τ).loc Cert.InAttn.main_arg7))
      ∧ r.2.sem = fun _ => 0)

def quiescent_InAttnIdeal [hInAttnIdeal : Cert.InAttnIdeal.Facts] : Prop :=
  ∀ (m : (ℓ : Loc Cert.InAttnIdeal.nD Cert.InAttnIdeal.τ Cert.InAttnIdeal.sig) → Buf (Elt Ideal) ℓ) (g : Dev Cert.InAttnIdeal.nD → PrngReg), Pre_InAttnIdeal m →
    θ_run (Cert.InAttnIdeal.defs (F := Ideal)) (onTc (τ := Cert.InAttnIdeal.τ) (Cert.InAttnIdeal.main (F := Ideal))) ⟨m, fun _ => 0, g⟩ (fun r => (∀ c : Dev Cert.InAttnIdeal.nD,
      r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
      ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1)
      ∧ r.2.mem ((c.tc : Thread Cert.InAttnIdeal.nD Cert.InAttnIdeal.τ).loc Cert.InAttnIdeal.main_arg2) = m ((c.tc : Thread Cert.InAttnIdeal.nD Cert.InAttnIdeal.τ).loc Cert.InAttnIdeal.main_arg2)
      ∧ r.2.mem ((c.tc : Thread Cert.InAttnIdeal.nD Cert.InAttnIdeal.τ).loc Cert.InAttnIdeal.main_arg3) = m ((c.tc : Thread Cert.InAttnIdeal.nD Cert.InAttnIdeal.τ).loc Cert.InAttnIdeal.main_arg3)
      ∧ r.2.mem ((c.tc : Thread Cert.InAttnIdeal.nD Cert.InAttnIdeal.τ).loc Cert.InAttnIdeal.main_arg4) = m ((c.tc : Thread Cert.InAttnIdeal.nD Cert.InAttnIdeal.τ).loc Cert.InAttnIdeal.main_arg4)
      ∧ r.2.mem ((c.tc : Thread Cert.InAttnIdeal.nD Cert.InAttnIdeal.τ).loc Cert.InAttnIdeal.main_arg5) = m ((c.tc : Thread Cert.InAttnIdeal.nD Cert.InAttnIdeal.τ).loc Cert.InAttnIdeal.main_arg5)
      ∧ r.2.mem ((c.tc : Thread Cert.InAttnIdeal.nD Cert.InAttnIdeal.τ).loc Cert.InAttnIdeal.main_arg6) = m ((c.tc : Thread Cert.InAttnIdeal.nD Cert.InAttnIdeal.τ).loc Cert.InAttnIdeal.main_arg6)
      ∧ r.2.mem ((c.tc : Thread Cert.InAttnIdeal.nD Cert.InAttnIdeal.τ).loc Cert.InAttnIdeal.main_arg7) = m ((c.tc : Thread Cert.InAttnIdeal.nD Cert.InAttnIdeal.τ).loc Cert.InAttnIdeal.main_arg7))
      ∧ r.2.sem = fun _ => 0)

def quiescent_InAttnIdeal_pre_finite_inproj_attn [hInAttnIdeal : Cert.InAttnIdeal.Facts] [hPre_finite_inproj_attn : Cert.Pre_finite_inproj_attn.Facts] : Prop :=
  ∀ (m : (ℓ : Loc Cert.InAttnIdeal.nD Cert.InAttnIdeal.τ Cert.InAttnIdeal.sig) → Buf (Elt Ideal) ℓ) (g : Dev Cert.InAttnIdeal.nD → PrngReg), Pre_InAttnIdeal_finite_inproj_attn m →
    θ_run (Cert.InAttnIdeal.defs (F := Ideal)) (onTc (τ := Cert.InAttnIdeal.τ) (Cert.InAttnIdeal.main (F := Ideal))) ⟨m, fun _ => 0, g⟩ (fun r => (∀ c : Dev Cert.InAttnIdeal.nD,
      r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
      ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1)
      ∧ r.2.mem ((c.tc : Thread Cert.InAttnIdeal.nD Cert.InAttnIdeal.τ).loc Cert.InAttnIdeal.main_arg2) = m ((c.tc : Thread Cert.InAttnIdeal.nD Cert.InAttnIdeal.τ).loc Cert.InAttnIdeal.main_arg2)
      ∧ r.2.mem ((c.tc : Thread Cert.InAttnIdeal.nD Cert.InAttnIdeal.τ).loc Cert.InAttnIdeal.main_arg3) = m ((c.tc : Thread Cert.InAttnIdeal.nD Cert.InAttnIdeal.τ).loc Cert.InAttnIdeal.main_arg3)
      ∧ r.2.mem ((c.tc : Thread Cert.InAttnIdeal.nD Cert.InAttnIdeal.τ).loc Cert.InAttnIdeal.main_arg4) = m ((c.tc : Thread Cert.InAttnIdeal.nD Cert.InAttnIdeal.τ).loc Cert.InAttnIdeal.main_arg4)
      ∧ r.2.mem ((c.tc : Thread Cert.InAttnIdeal.nD Cert.InAttnIdeal.τ).loc Cert.InAttnIdeal.main_arg5) = m ((c.tc : Thread Cert.InAttnIdeal.nD Cert.InAttnIdeal.τ).loc Cert.InAttnIdeal.main_arg5)
      ∧ r.2.mem ((c.tc : Thread Cert.InAttnIdeal.nD Cert.InAttnIdeal.τ).loc Cert.InAttnIdeal.main_arg6) = m ((c.tc : Thread Cert.InAttnIdeal.nD Cert.InAttnIdeal.τ).loc Cert.InAttnIdeal.main_arg6)
      ∧ r.2.mem ((c.tc : Thread Cert.InAttnIdeal.nD Cert.InAttnIdeal.τ).loc Cert.InAttnIdeal.main_arg7) = m ((c.tc : Thread Cert.InAttnIdeal.nD Cert.InAttnIdeal.τ).loc Cert.InAttnIdeal.main_arg7))
      ∧ r.2.sem = fun _ => 0)

def quiescent_InAttnRefIdeal [hInAttnRefIdeal : Cert.InAttnRefIdeal.Facts] : Prop :=
  ∀ (m : (ℓ : Loc Cert.InAttnRefIdeal.nD Cert.InAttnRefIdeal.τ Cert.InAttnRefIdeal.sig) → Buf (Elt Ideal) ℓ) (g : Dev Cert.InAttnRefIdeal.nD → PrngReg), Pre_InAttnRefIdeal m →
    θ_run (Cert.InAttnRefIdeal.defs (F := Ideal)) (onTc (τ := Cert.InAttnRefIdeal.τ) (Cert.InAttnRefIdeal.main (F := Ideal))) ⟨m, fun _ => 0, g⟩ (fun r => (∀ c : Dev Cert.InAttnRefIdeal.nD,
      r.2.mem ((c.tc : Thread Cert.InAttnRefIdeal.nD Cert.InAttnRefIdeal.τ).loc Cert.InAttnRefIdeal.main_arg0) = m ((c.tc : Thread Cert.InAttnRefIdeal.nD Cert.InAttnRefIdeal.τ).loc Cert.InAttnRefIdeal.main_arg0)
      ∧ r.2.mem ((c.tc : Thread Cert.InAttnRefIdeal.nD Cert.InAttnRefIdeal.τ).loc Cert.InAttnRefIdeal.main_arg1) = m ((c.tc : Thread Cert.InAttnRefIdeal.nD Cert.InAttnRefIdeal.τ).loc Cert.InAttnRefIdeal.main_arg1)
      ∧ r.2.mem ((c.tc : Thread Cert.InAttnRefIdeal.nD Cert.InAttnRefIdeal.τ).loc Cert.InAttnRefIdeal.main_arg2) = m ((c.tc : Thread Cert.InAttnRefIdeal.nD Cert.InAttnRefIdeal.τ).loc Cert.InAttnRefIdeal.main_arg2)
      ∧ r.2.mem ((c.tc : Thread Cert.InAttnRefIdeal.nD Cert.InAttnRefIdeal.τ).loc Cert.InAttnRefIdeal.main_arg3) = m ((c.tc : Thread Cert.InAttnRefIdeal.nD Cert.InAttnRefIdeal.τ).loc Cert.InAttnRefIdeal.main_arg3)
      ∧ r.2.mem ((c.tc : Thread Cert.InAttnRefIdeal.nD Cert.InAttnRefIdeal.τ).loc Cert.InAttnRefIdeal.main_arg4) = m ((c.tc : Thread Cert.InAttnRefIdeal.nD Cert.InAttnRefIdeal.τ).loc Cert.InAttnRefIdeal.main_arg4)
      ∧ r.2.mem ((c.tc : Thread Cert.InAttnRefIdeal.nD Cert.InAttnRefIdeal.τ).loc Cert.InAttnRefIdeal.main_arg5) = m ((c.tc : Thread Cert.InAttnRefIdeal.nD Cert.InAttnRefIdeal.τ).loc Cert.InAttnRefIdeal.main_arg5)
      ∧ r.2.mem ((c.tc : Thread Cert.InAttnRefIdeal.nD Cert.InAttnRefIdeal.τ).loc Cert.InAttnRefIdeal.main_arg6) = m ((c.tc : Thread Cert.InAttnRefIdeal.nD Cert.InAttnRefIdeal.τ).loc Cert.InAttnRefIdeal.main_arg6)
      ∧ r.2.mem ((c.tc : Thread Cert.InAttnRefIdeal.nD Cert.InAttnRefIdeal.τ).loc Cert.InAttnRefIdeal.main_arg7) = m ((c.tc : Thread Cert.InAttnRefIdeal.nD Cert.InAttnRefIdeal.τ).loc Cert.InAttnRefIdeal.main_arg7))
      ∧ r.2.sem = fun _ => 0)

def quiescent_InAttnRefIdeal_pre_finite_inproj_attn [hInAttnRefIdeal : Cert.InAttnRefIdeal.Facts] [hPre_finite_inproj_attn : Cert.Pre_finite_inproj_attn.Facts] : Prop :=
  ∀ (m : (ℓ : Loc Cert.InAttnRefIdeal.nD Cert.InAttnRefIdeal.τ Cert.InAttnRefIdeal.sig) → Buf (Elt Ideal) ℓ) (g : Dev Cert.InAttnRefIdeal.nD → PrngReg), Pre_InAttnRefIdeal_finite_inproj_attn m →
    θ_run (Cert.InAttnRefIdeal.defs (F := Ideal)) (onTc (τ := Cert.InAttnRefIdeal.τ) (Cert.InAttnRefIdeal.main (F := Ideal))) ⟨m, fun _ => 0, g⟩ (fun r => (∀ c : Dev Cert.InAttnRefIdeal.nD,
      r.2.mem ((c.tc : Thread Cert.InAttnRefIdeal.nD Cert.InAttnRefIdeal.τ).loc Cert.InAttnRefIdeal.main_arg0) = m ((c.tc : Thread Cert.InAttnRefIdeal.nD Cert.InAttnRefIdeal.τ).loc Cert.InAttnRefIdeal.main_arg0)
      ∧ r.2.mem ((c.tc : Thread Cert.InAttnRefIdeal.nD Cert.InAttnRefIdeal.τ).loc Cert.InAttnRefIdeal.main_arg1) = m ((c.tc : Thread Cert.InAttnRefIdeal.nD Cert.InAttnRefIdeal.τ).loc Cert.InAttnRefIdeal.main_arg1)
      ∧ r.2.mem ((c.tc : Thread Cert.InAttnRefIdeal.nD Cert.InAttnRefIdeal.τ).loc Cert.InAttnRefIdeal.main_arg2) = m ((c.tc : Thread Cert.InAttnRefIdeal.nD Cert.InAttnRefIdeal.τ).loc Cert.InAttnRefIdeal.main_arg2)
      ∧ r.2.mem ((c.tc : Thread Cert.InAttnRefIdeal.nD Cert.InAttnRefIdeal.τ).loc Cert.InAttnRefIdeal.main_arg3) = m ((c.tc : Thread Cert.InAttnRefIdeal.nD Cert.InAttnRefIdeal.τ).loc Cert.InAttnRefIdeal.main_arg3)
      ∧ r.2.mem ((c.tc : Thread Cert.InAttnRefIdeal.nD Cert.InAttnRefIdeal.τ).loc Cert.InAttnRefIdeal.main_arg4) = m ((c.tc : Thread Cert.InAttnRefIdeal.nD Cert.InAttnRefIdeal.τ).loc Cert.InAttnRefIdeal.main_arg4)
      ∧ r.2.mem ((c.tc : Thread Cert.InAttnRefIdeal.nD Cert.InAttnRefIdeal.τ).loc Cert.InAttnRefIdeal.main_arg5) = m ((c.tc : Thread Cert.InAttnRefIdeal.nD Cert.InAttnRefIdeal.τ).loc Cert.InAttnRefIdeal.main_arg5)
      ∧ r.2.mem ((c.tc : Thread Cert.InAttnRefIdeal.nD Cert.InAttnRefIdeal.τ).loc Cert.InAttnRefIdeal.main_arg6) = m ((c.tc : Thread Cert.InAttnRefIdeal.nD Cert.InAttnRefIdeal.τ).loc Cert.InAttnRefIdeal.main_arg6)
      ∧ r.2.mem ((c.tc : Thread Cert.InAttnRefIdeal.nD Cert.InAttnRefIdeal.τ).loc Cert.InAttnRefIdeal.main_arg7) = m ((c.tc : Thread Cert.InAttnRefIdeal.nD Cert.InAttnRefIdeal.τ).loc Cert.InAttnRefIdeal.main_arg7))
      ∧ r.2.sem = fun _ => 0)

def quiescent_S5b [hS5b : Cert.S5b.Facts] : Prop :=
  ∀ (m : (ℓ : Loc Cert.S5b.nD Cert.S5b.τ Cert.S5b.sig) → Buf (Elt Bits) ℓ) (g : Dev Cert.S5b.nD → PrngReg), Pre_S5b m →
    θ_run (Cert.S5b.defs (F := Bits)) (onTc (τ := Cert.S5b.τ) (Cert.S5b.main (F := Bits))) ⟨m, fun _ => 0, g⟩ (fun r => (∀ c : Dev Cert.S5b.nD,
      r.2.mem ((c.tc : Thread Cert.S5b.nD Cert.S5b.τ).loc Cert.S5b.main_arg0) = m ((c.tc : Thread Cert.S5b.nD Cert.S5b.τ).loc Cert.S5b.main_arg0)
      ∧ r.2.mem ((c.tc : Thread Cert.S5b.nD Cert.S5b.τ).loc Cert.S5b.main_arg1) = m ((c.tc : Thread Cert.S5b.nD Cert.S5b.τ).loc Cert.S5b.main_arg1)
      ∧ r.2.mem ((c.tc : Thread Cert.S5b.nD Cert.S5b.τ).loc Cert.S5b.main_arg2) = m ((c.tc : Thread Cert.S5b.nD Cert.S5b.τ).loc Cert.S5b.main_arg2)
      ∧ r.2.mem ((c.tc : Thread Cert.S5b.nD Cert.S5b.τ).loc Cert.S5b.main_arg3) = m ((c.tc : Thread Cert.S5b.nD Cert.S5b.τ).loc Cert.S5b.main_arg3)
      ∧ r.2.mem ((c.tc : Thread Cert.S5b.nD Cert.S5b.τ).loc Cert.S5b.main_arg4) = m ((c.tc : Thread Cert.S5b.nD Cert.S5b.τ).loc Cert.S5b.main_arg4)
      ∧ r.2.mem ((c.tc : Thread Cert.S5b.nD Cert.S5b.τ).loc Cert.S5b.main_arg5) = m ((c.tc : Thread Cert.S5b.nD Cert.S5b.τ).loc Cert.S5b.main_arg5)
      ∧ r.2.mem ((c.tc : Thread Cert.S5b.nD Cert.S5b.τ).loc Cert.S5b.main_arg6) = m ((c.tc : Thread Cert.S5b.nD Cert.S5b.τ).loc Cert.S5b.main_arg6)
      ∧ r.2.mem ((c.tc : Thread Cert.S5b.nD Cert.S5b.τ).loc Cert.S5b.main_arg7) = m ((c.tc : Thread Cert.S5b.nD Cert.S5b.τ).loc Cert.S5b.main_arg7)
      ∧ r.2.mem ((c.tc : Thread Cert.S5b.nD Cert.S5b.τ).loc Cert.S5b.main_arg8) = m ((c.tc : Thread Cert.S5b.nD Cert.S5b.τ).loc Cert.S5b.main_arg8)
      ∧ r.2.mem ((c.tc : Thread Cert.S5b.nD Cert.S5b.τ).loc Cert.S5b.main_arg9) = m ((c.tc : Thread Cert.S5b.nD Cert.S5b.τ).loc Cert.S5b.main_arg9))
      ∧ r.2.sem = fun _ => 0)

def quiescent_S5bIdeal [hS5bIdeal : Cert.S5bIdeal.Facts] : Prop :=
  ∀ (m : (ℓ : Loc Cert.S5bIdeal.nD Cert.S5bIdeal.τ Cert.S5bIdeal.sig) → Buf (Elt Ideal) ℓ) (g : Dev Cert.S5bIdeal.nD → PrngReg), Pre_S5bIdeal m →
    θ_run (Cert.S5bIdeal.defs (F := Ideal)) (onTc (τ := Cert.S5bIdeal.τ) (Cert.S5bIdeal.main (F := Ideal))) ⟨m, fun _ => 0, g⟩ (fun r => (∀ c : Dev Cert.S5bIdeal.nD,
      r.2.mem ((c.tc : Thread Cert.S5bIdeal.nD Cert.S5bIdeal.τ).loc Cert.S5bIdeal.main_arg0) = m ((c.tc : Thread Cert.S5bIdeal.nD Cert.S5bIdeal.τ).loc Cert.S5bIdeal.main_arg0)
      ∧ r.2.mem ((c.tc : Thread Cert.S5bIdeal.nD Cert.S5bIdeal.τ).loc Cert.S5bIdeal.main_arg1) = m ((c.tc : Thread Cert.S5bIdeal.nD Cert.S5bIdeal.τ).loc Cert.S5bIdeal.main_arg1)
      ∧ r.2.mem ((c.tc : Thread Cert.S5bIdeal.nD Cert.S5bIdeal.τ).loc Cert.S5bIdeal.main_arg2) = m ((c.tc : Thread Cert.S5bIdeal.nD Cert.S5bIdeal.τ).loc Cert.S5bIdeal.main_arg2)
      ∧ r.2.mem ((c.tc : Thread Cert.S5bIdeal.nD Cert.S5bIdeal.τ).loc Cert.S5bIdeal.main_arg3) = m ((c.tc : Thread Cert.S5bIdeal.nD Cert.S5bIdeal.τ).loc Cert.S5bIdeal.main_arg3)
      ∧ r.2.mem ((c.tc : Thread Cert.S5bIdeal.nD Cert.S5bIdeal.τ).loc Cert.S5bIdeal.main_arg4) = m ((c.tc : Thread Cert.S5bIdeal.nD Cert.S5bIdeal.τ).loc Cert.S5bIdeal.main_arg4)
      ∧ r.2.mem ((c.tc : Thread Cert.S5bIdeal.nD Cert.S5bIdeal.τ).loc Cert.S5bIdeal.main_arg5) = m ((c.tc : Thread Cert.S5bIdeal.nD Cert.S5bIdeal.τ).loc Cert.S5bIdeal.main_arg5)
      ∧ r.2.mem ((c.tc : Thread Cert.S5bIdeal.nD Cert.S5bIdeal.τ).loc Cert.S5bIdeal.main_arg6) = m ((c.tc : Thread Cert.S5bIdeal.nD Cert.S5bIdeal.τ).loc Cert.S5bIdeal.main_arg6)
      ∧ r.2.mem ((c.tc : Thread Cert.S5bIdeal.nD Cert.S5bIdeal.τ).loc Cert.S5bIdeal.main_arg7) = m ((c.tc : Thread Cert.S5bIdeal.nD Cert.S5bIdeal.τ).loc Cert.S5bIdeal.main_arg7)
      ∧ r.2.mem ((c.tc : Thread Cert.S5bIdeal.nD Cert.S5bIdeal.τ).loc Cert.S5bIdeal.main_arg8) = m ((c.tc : Thread Cert.S5bIdeal.nD Cert.S5bIdeal.τ).loc Cert.S5bIdeal.main_arg8)
      ∧ r.2.mem ((c.tc : Thread Cert.S5bIdeal.nD Cert.S5bIdeal.τ).loc Cert.S5bIdeal.main_arg9) = m ((c.tc : Thread Cert.S5bIdeal.nD Cert.S5bIdeal.τ).loc Cert.S5bIdeal.main_arg9))
      ∧ r.2.sem = fun _ => 0)

def quiescent_S5bRefIdeal [hS5bRefIdeal : Cert.S5bRefIdeal.Facts] : Prop :=
  ∀ (m : (ℓ : Loc Cert.S5bRefIdeal.nD Cert.S5bRefIdeal.τ Cert.S5bRefIdeal.sig) → Buf (Elt Ideal) ℓ) (g : Dev Cert.S5bRefIdeal.nD → PrngReg), Pre_S5bRefIdeal m →
    θ_run (Cert.S5bRefIdeal.defs (F := Ideal)) (onTc (τ := Cert.S5bRefIdeal.τ) (Cert.S5bRefIdeal.main (F := Ideal))) ⟨m, fun _ => 0, g⟩ (fun r => (∀ c : Dev Cert.S5bRefIdeal.nD,
      r.2.mem ((c.tc : Thread Cert.S5bRefIdeal.nD Cert.S5bRefIdeal.τ).loc Cert.S5bRefIdeal.main_arg0) = m ((c.tc : Thread Cert.S5bRefIdeal.nD Cert.S5bRefIdeal.τ).loc Cert.S5bRefIdeal.main_arg0)
      ∧ r.2.mem ((c.tc : Thread Cert.S5bRefIdeal.nD Cert.S5bRefIdeal.τ).loc Cert.S5bRefIdeal.main_arg1) = m ((c.tc : Thread Cert.S5bRefIdeal.nD Cert.S5bRefIdeal.τ).loc Cert.S5bRefIdeal.main_arg1)
      ∧ r.2.mem ((c.tc : Thread Cert.S5bRefIdeal.nD Cert.S5bRefIdeal.τ).loc Cert.S5bRefIdeal.main_arg2) = m ((c.tc : Thread Cert.S5bRefIdeal.nD Cert.S5bRefIdeal.τ).loc Cert.S5bRefIdeal.main_arg2)
      ∧ r.2.mem ((c.tc : Thread Cert.S5bRefIdeal.nD Cert.S5bRefIdeal.τ).loc Cert.S5bRefIdeal.main_arg3) = m ((c.tc : Thread Cert.S5bRefIdeal.nD Cert.S5bRefIdeal.τ).loc Cert.S5bRefIdeal.main_arg3)
      ∧ r.2.mem ((c.tc : Thread Cert.S5bRefIdeal.nD Cert.S5bRefIdeal.τ).loc Cert.S5bRefIdeal.main_arg4) = m ((c.tc : Thread Cert.S5bRefIdeal.nD Cert.S5bRefIdeal.τ).loc Cert.S5bRefIdeal.main_arg4)
      ∧ r.2.mem ((c.tc : Thread Cert.S5bRefIdeal.nD Cert.S5bRefIdeal.τ).loc Cert.S5bRefIdeal.main_arg5) = m ((c.tc : Thread Cert.S5bRefIdeal.nD Cert.S5bRefIdeal.τ).loc Cert.S5bRefIdeal.main_arg5)
      ∧ r.2.mem ((c.tc : Thread Cert.S5bRefIdeal.nD Cert.S5bRefIdeal.τ).loc Cert.S5bRefIdeal.main_arg6) = m ((c.tc : Thread Cert.S5bRefIdeal.nD Cert.S5bRefIdeal.τ).loc Cert.S5bRefIdeal.main_arg6)
      ∧ r.2.mem ((c.tc : Thread Cert.S5bRefIdeal.nD Cert.S5bRefIdeal.τ).loc Cert.S5bRefIdeal.main_arg7) = m ((c.tc : Thread Cert.S5bRefIdeal.nD Cert.S5bRefIdeal.τ).loc Cert.S5bRefIdeal.main_arg7)
      ∧ r.2.mem ((c.tc : Thread Cert.S5bRefIdeal.nD Cert.S5bRefIdeal.τ).loc Cert.S5bRefIdeal.main_arg8) = m ((c.tc : Thread Cert.S5bRefIdeal.nD Cert.S5bRefIdeal.τ).loc Cert.S5bRefIdeal.main_arg8)
      ∧ r.2.mem ((c.tc : Thread Cert.S5bRefIdeal.nD Cert.S5bRefIdeal.τ).loc Cert.S5bRefIdeal.main_arg9) = m ((c.tc : Thread Cert.S5bRefIdeal.nD Cert.S5bRefIdeal.τ).loc Cert.S5bRefIdeal.main_arg9))
      ∧ r.2.sem = fun _ => 0)

def quiescent_S5p [hS5p : Cert.S5p.Facts] : Prop :=
  ∀ (m : (ℓ : Loc Cert.S5p.nD Cert.S5p.τ Cert.S5p.sig) → Buf (Elt Bits) ℓ) (g : Dev Cert.S5p.nD → PrngReg), Pre_S5p m →
    θ_run (Cert.S5p.defs (F := Bits)) (onTc (τ := Cert.S5p.τ) (Cert.S5p.main (F := Bits))) ⟨m, fun _ => 0, g⟩ (fun r => (∀ c : Dev Cert.S5p.nD,
      r.2.mem ((c.tc : Thread Cert.S5p.nD Cert.S5p.τ).loc Cert.S5p.main_arg0) = m ((c.tc : Thread Cert.S5p.nD Cert.S5p.τ).loc Cert.S5p.main_arg0)
      ∧ r.2.mem ((c.tc : Thread Cert.S5p.nD Cert.S5p.τ).loc Cert.S5p.main_arg1) = m ((c.tc : Thread Cert.S5p.nD Cert.S5p.τ).loc Cert.S5p.main_arg1))
      ∧ r.2.sem = fun _ => 0)

def quiescent_S5pIdeal [hS5pIdeal : Cert.S5pIdeal.Facts] : Prop :=
  ∀ (m : (ℓ : Loc Cert.S5pIdeal.nD Cert.S5pIdeal.τ Cert.S5pIdeal.sig) → Buf (Elt Ideal) ℓ) (g : Dev Cert.S5pIdeal.nD → PrngReg), Pre_S5pIdeal m →
    θ_run (Cert.S5pIdeal.defs (F := Ideal)) (onTc (τ := Cert.S5pIdeal.τ) (Cert.S5pIdeal.main (F := Ideal))) ⟨m, fun _ => 0, g⟩ (fun r => (∀ c : Dev Cert.S5pIdeal.nD,
      r.2.mem ((c.tc : Thread Cert.S5pIdeal.nD Cert.S5pIdeal.τ).loc Cert.S5pIdeal.main_arg0) = m ((c.tc : Thread Cert.S5pIdeal.nD Cert.S5pIdeal.τ).loc Cert.S5pIdeal.main_arg0)
      ∧ r.2.mem ((c.tc : Thread Cert.S5pIdeal.nD Cert.S5pIdeal.τ).loc Cert.S5pIdeal.main_arg1) = m ((c.tc : Thread Cert.S5pIdeal.nD Cert.S5pIdeal.τ).loc Cert.S5pIdeal.main_arg1))
      ∧ r.2.sem = fun _ => 0)

def quiescent_S5pRefIdeal [hS5pRefIdeal : Cert.S5pRefIdeal.Facts] : Prop :=
  ∀ (m : (ℓ : Loc Cert.S5pRefIdeal.nD Cert.S5pRefIdeal.τ Cert.S5pRefIdeal.sig) → Buf (Elt Ideal) ℓ) (g : Dev Cert.S5pRefIdeal.nD → PrngReg), Pre_S5pRefIdeal m →
    θ_run (Cert.S5pRefIdeal.defs (F := Ideal)) (onTc (τ := Cert.S5pRefIdeal.τ) (Cert.S5pRefIdeal.main (F := Ideal))) ⟨m, fun _ => 0, g⟩ (fun r => (∀ c : Dev Cert.S5pRefIdeal.nD,
      r.2.mem ((c.tc : Thread Cert.S5pRefIdeal.nD Cert.S5pRefIdeal.τ).loc Cert.S5pRefIdeal.main_arg0) = m ((c.tc : Thread Cert.S5pRefIdeal.nD Cert.S5pRefIdeal.τ).loc Cert.S5pRefIdeal.main_arg0)
      ∧ r.2.mem ((c.tc : Thread Cert.S5pRefIdeal.nD Cert.S5pRefIdeal.τ).loc Cert.S5pRefIdeal.main_arg1) = m ((c.tc : Thread Cert.S5pRefIdeal.nD Cert.S5pRefIdeal.τ).loc Cert.S5pRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_S5o [hS5o : Cert.S5o.Facts] : Prop :=
  ∀ (m : (ℓ : Loc Cert.S5o.nD Cert.S5o.τ Cert.S5o.sig) → Buf (Elt Bits) ℓ) (g : Dev Cert.S5o.nD → PrngReg), Pre_S5o m →
    θ_run (Cert.S5o.defs (F := Bits)) (onTc (τ := Cert.S5o.τ) (Cert.S5o.main (F := Bits))) ⟨m, fun _ => 0, g⟩ (fun r => (∀ c : Dev Cert.S5o.nD,
      r.2.mem ((c.tc : Thread Cert.S5o.nD Cert.S5o.τ).loc Cert.S5o.main_arg0) = m ((c.tc : Thread Cert.S5o.nD Cert.S5o.τ).loc Cert.S5o.main_arg0)
      ∧ r.2.mem ((c.tc : Thread Cert.S5o.nD Cert.S5o.τ).loc Cert.S5o.main_arg1) = m ((c.tc : Thread Cert.S5o.nD Cert.S5o.τ).loc Cert.S5o.main_arg1)
      ∧ r.2.mem ((c.tc : Thread Cert.S5o.nD Cert.S5o.τ).loc Cert.S5o.main_arg2) = m ((c.tc : Thread Cert.S5o.nD Cert.S5o.τ).loc Cert.S5o.main_arg2)
      ∧ r.2.mem ((c.tc : Thread Cert.S5o.nD Cert.S5o.τ).loc Cert.S5o.main_arg3) = m ((c.tc : Thread Cert.S5o.nD Cert.S5o.τ).loc Cert.S5o.main_arg3)
      ∧ r.2.mem ((c.tc : Thread Cert.S5o.nD Cert.S5o.τ).loc Cert.S5o.main_arg4) = m ((c.tc : Thread Cert.S5o.nD Cert.S5o.τ).loc Cert.S5o.main_arg4)
      ∧ r.2.mem ((c.tc : Thread Cert.S5o.nD Cert.S5o.τ).loc Cert.S5o.main_arg5) = m ((c.tc : Thread Cert.S5o.nD Cert.S5o.τ).loc Cert.S5o.main_arg5))
      ∧ r.2.sem = fun _ => 0)

def quiescent_S5oIdeal [hS5oIdeal : Cert.S5oIdeal.Facts] : Prop :=
  ∀ (m : (ℓ : Loc Cert.S5oIdeal.nD Cert.S5oIdeal.τ Cert.S5oIdeal.sig) → Buf (Elt Ideal) ℓ) (g : Dev Cert.S5oIdeal.nD → PrngReg), Pre_S5oIdeal m →
    θ_run (Cert.S5oIdeal.defs (F := Ideal)) (onTc (τ := Cert.S5oIdeal.τ) (Cert.S5oIdeal.main (F := Ideal))) ⟨m, fun _ => 0, g⟩ (fun r => (∀ c : Dev Cert.S5oIdeal.nD,
      r.2.mem ((c.tc : Thread Cert.S5oIdeal.nD Cert.S5oIdeal.τ).loc Cert.S5oIdeal.main_arg0) = m ((c.tc : Thread Cert.S5oIdeal.nD Cert.S5oIdeal.τ).loc Cert.S5oIdeal.main_arg0)
      ∧ r.2.mem ((c.tc : Thread Cert.S5oIdeal.nD Cert.S5oIdeal.τ).loc Cert.S5oIdeal.main_arg1) = m ((c.tc : Thread Cert.S5oIdeal.nD Cert.S5oIdeal.τ).loc Cert.S5oIdeal.main_arg1)
      ∧ r.2.mem ((c.tc : Thread Cert.S5oIdeal.nD Cert.S5oIdeal.τ).loc Cert.S5oIdeal.main_arg2) = m ((c.tc : Thread Cert.S5oIdeal.nD Cert.S5oIdeal.τ).loc Cert.S5oIdeal.main_arg2)
      ∧ r.2.mem ((c.tc : Thread Cert.S5oIdeal.nD Cert.S5oIdeal.τ).loc Cert.S5oIdeal.main_arg3) = m ((c.tc : Thread Cert.S5oIdeal.nD Cert.S5oIdeal.τ).loc Cert.S5oIdeal.main_arg3)
      ∧ r.2.mem ((c.tc : Thread Cert.S5oIdeal.nD Cert.S5oIdeal.τ).loc Cert.S5oIdeal.main_arg4) = m ((c.tc : Thread Cert.S5oIdeal.nD Cert.S5oIdeal.τ).loc Cert.S5oIdeal.main_arg4)
      ∧ r.2.mem ((c.tc : Thread Cert.S5oIdeal.nD Cert.S5oIdeal.τ).loc Cert.S5oIdeal.main_arg5) = m ((c.tc : Thread Cert.S5oIdeal.nD Cert.S5oIdeal.τ).loc Cert.S5oIdeal.main_arg5))
      ∧ r.2.sem = fun _ => 0)

def quiescent_S5oRefIdeal [hS5oRefIdeal : Cert.S5oRefIdeal.Facts] : Prop :=
  ∀ (m : (ℓ : Loc Cert.S5oRefIdeal.nD Cert.S5oRefIdeal.τ Cert.S5oRefIdeal.sig) → Buf (Elt Ideal) ℓ) (g : Dev Cert.S5oRefIdeal.nD → PrngReg), Pre_S5oRefIdeal m →
    θ_run (Cert.S5oRefIdeal.defs (F := Ideal)) (onTc (τ := Cert.S5oRefIdeal.τ) (Cert.S5oRefIdeal.main (F := Ideal))) ⟨m, fun _ => 0, g⟩ (fun r => (∀ c : Dev Cert.S5oRefIdeal.nD,
      r.2.mem ((c.tc : Thread Cert.S5oRefIdeal.nD Cert.S5oRefIdeal.τ).loc Cert.S5oRefIdeal.main_arg0) = m ((c.tc : Thread Cert.S5oRefIdeal.nD Cert.S5oRefIdeal.τ).loc Cert.S5oRefIdeal.main_arg0)
      ∧ r.2.mem ((c.tc : Thread Cert.S5oRefIdeal.nD Cert.S5oRefIdeal.τ).loc Cert.S5oRefIdeal.main_arg1) = m ((c.tc : Thread Cert.S5oRefIdeal.nD Cert.S5oRefIdeal.τ).loc Cert.S5oRefIdeal.main_arg1)
      ∧ r.2.mem ((c.tc : Thread Cert.S5oRefIdeal.nD Cert.S5oRefIdeal.τ).loc Cert.S5oRefIdeal.main_arg2) = m ((c.tc : Thread Cert.S5oRefIdeal.nD Cert.S5oRefIdeal.τ).loc Cert.S5oRefIdeal.main_arg2)
      ∧ r.2.mem ((c.tc : Thread Cert.S5oRefIdeal.nD Cert.S5oRefIdeal.τ).loc Cert.S5oRefIdeal.main_arg3) = m ((c.tc : Thread Cert.S5oRefIdeal.nD Cert.S5oRefIdeal.τ).loc Cert.S5oRefIdeal.main_arg3)
      ∧ r.2.mem ((c.tc : Thread Cert.S5oRefIdeal.nD Cert.S5oRefIdeal.τ).loc Cert.S5oRefIdeal.main_arg4) = m ((c.tc : Thread Cert.S5oRefIdeal.nD Cert.S5oRefIdeal.τ).loc Cert.S5oRefIdeal.main_arg4)
      ∧ r.2.mem ((c.tc : Thread Cert.S5oRefIdeal.nD Cert.S5oRefIdeal.τ).loc Cert.S5oRefIdeal.main_arg5) = m ((c.tc : Thread Cert.S5oRefIdeal.nD Cert.S5oRefIdeal.τ).loc Cert.S5oRefIdeal.main_arg5))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFIdeal_pre_finite_attn_fwd [hAttnFIdeal : Cert.AttnFIdeal.Facts] [hPre_finite_attn_fwd : Cert.Pre_finite_attn_fwd.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_finite_attn_fwd m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3))
      ∧ r.2.sem = fun _ => 0)

def quiescent_AttnFRefIdeal_pre_finite_attn_fwd [hAttnFRefIdeal : Cert.AttnFRefIdeal.Facts] [hPre_finite_attn_fwd : Cert.Pre_finite_attn_fwd.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_finite_attn_fwd m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3))
      ∧ r.2.sem = fun _ => 0)

def quiescent_AttnOutF [hAttnOutF : Cert.AttnOutF.Facts] : Prop :=
  ∀ (m : (ℓ : Loc Cert.AttnOutF.nD Cert.AttnOutF.τ Cert.AttnOutF.sig) → Buf (Elt Bits) ℓ) (g : Dev Cert.AttnOutF.nD → PrngReg), Pre_AttnOutF m →
    θ_run (Cert.AttnOutF.defs (F := Bits)) (onTc (τ := Cert.AttnOutF.τ) (Cert.AttnOutF.main (F := Bits))) ⟨m, fun _ => 0, g⟩ (fun r => (∀ c : Dev Cert.AttnOutF.nD,
      r.2.mem ((c.tc : Thread Cert.AttnOutF.nD Cert.AttnOutF.τ).loc Cert.AttnOutF.main_arg0) = m ((c.tc : Thread Cert.AttnOutF.nD Cert.AttnOutF.τ).loc Cert.AttnOutF.main_arg0)
      ∧ r.2.mem ((c.tc : Thread Cert.AttnOutF.nD Cert.AttnOutF.τ).loc Cert.AttnOutF.main_arg1) = m ((c.tc : Thread Cert.AttnOutF.nD Cert.AttnOutF.τ).loc Cert.AttnOutF.main_arg1)
      ∧ r.2.mem ((c.tc : Thread Cert.AttnOutF.nD Cert.AttnOutF.τ).loc Cert.AttnOutF.main_arg2) = m ((c.tc : Thread Cert.AttnOutF.nD Cert.AttnOutF.τ).loc Cert.AttnOutF.main_arg2)
      ∧ r.2.mem ((c.tc : Thread Cert.AttnOutF.nD Cert.AttnOutF.τ).loc Cert.AttnOutF.main_arg3) = m ((c.tc : Thread Cert.AttnOutF.nD Cert.AttnOutF.τ).loc Cert.AttnOutF.main_arg3))
      ∧ r.2.sem = fun _ => 0)

def quiescent_AttnOutFIdeal [hAttnOutFIdeal : Cert.AttnOutFIdeal.Facts] : Prop :=
  ∀ (m : (ℓ : Loc Cert.AttnOutFIdeal.nD Cert.AttnOutFIdeal.τ Cert.AttnOutFIdeal.sig) → Buf (Elt Ideal) ℓ) (g : Dev Cert.AttnOutFIdeal.nD → PrngReg), Pre_AttnOutFIdeal m →
    θ_run (Cert.AttnOutFIdeal.defs (F := Ideal)) (onTc (τ := Cert.AttnOutFIdeal.τ) (Cert.AttnOutFIdeal.main (F := Ideal))) ⟨m, fun _ => 0, g⟩ (fun r => (∀ c : Dev Cert.AttnOutFIdeal.nD,
      r.2.mem ((c.tc : Thread Cert.AttnOutFIdeal.nD Cert.AttnOutFIdeal.τ).loc Cert.AttnOutFIdeal.main_arg0) = m ((c.tc : Thread Cert.AttnOutFIdeal.nD Cert.AttnOutFIdeal.τ).loc Cert.AttnOutFIdeal.main_arg0)
      ∧ r.2.mem ((c.tc : Thread Cert.AttnOutFIdeal.nD Cert.AttnOutFIdeal.τ).loc Cert.AttnOutFIdeal.main_arg1) = m ((c.tc : Thread Cert.AttnOutFIdeal.nD Cert.AttnOutFIdeal.τ).loc Cert.AttnOutFIdeal.main_arg1)
      ∧ r.2.mem ((c.tc : Thread Cert.AttnOutFIdeal.nD Cert.AttnOutFIdeal.τ).loc Cert.AttnOutFIdeal.main_arg2) = m ((c.tc : Thread Cert.AttnOutFIdeal.nD Cert.AttnOutFIdeal.τ).loc Cert.AttnOutFIdeal.main_arg2)
      ∧ r.2.mem ((c.tc : Thread Cert.AttnOutFIdeal.nD Cert.AttnOutFIdeal.τ).loc Cert.AttnOutFIdeal.main_arg3) = m ((c.tc : Thread Cert.AttnOutFIdeal.nD Cert.AttnOutFIdeal.τ).loc Cert.AttnOutFIdeal.main_arg3))
      ∧ r.2.sem = fun _ => 0)

def quiescent_AttnOutFRefIdeal [hAttnOutFRefIdeal : Cert.AttnOutFRefIdeal.Facts] : Prop :=
  ∀ (m : (ℓ : Loc Cert.AttnOutFRefIdeal.nD Cert.AttnOutFRefIdeal.τ Cert.AttnOutFRefIdeal.sig) → Buf (Elt Ideal) ℓ) (g : Dev Cert.AttnOutFRefIdeal.nD → PrngReg), Pre_AttnOutFRefIdeal m →
    θ_run (Cert.AttnOutFRefIdeal.defs (F := Ideal)) (onTc (τ := Cert.AttnOutFRefIdeal.τ) (Cert.AttnOutFRefIdeal.main (F := Ideal))) ⟨m, fun _ => 0, g⟩ (fun r => (∀ c : Dev Cert.AttnOutFRefIdeal.nD,
      r.2.mem ((c.tc : Thread Cert.AttnOutFRefIdeal.nD Cert.AttnOutFRefIdeal.τ).loc Cert.AttnOutFRefIdeal.main_arg0) = m ((c.tc : Thread Cert.AttnOutFRefIdeal.nD Cert.AttnOutFRefIdeal.τ).loc Cert.AttnOutFRefIdeal.main_arg0)
      ∧ r.2.mem ((c.tc : Thread Cert.AttnOutFRefIdeal.nD Cert.AttnOutFRefIdeal.τ).loc Cert.AttnOutFRefIdeal.main_arg1) = m ((c.tc : Thread Cert.AttnOutFRefIdeal.nD Cert.AttnOutFRefIdeal.τ).loc Cert.AttnOutFRefIdeal.main_arg1)
      ∧ r.2.mem ((c.tc : Thread Cert.AttnOutFRefIdeal.nD Cert.AttnOutFRefIdeal.τ).loc Cert.AttnOutFRefIdeal.main_arg2) = m ((c.tc : Thread Cert.AttnOutFRefIdeal.nD Cert.AttnOutFRefIdeal.τ).loc Cert.AttnOutFRefIdeal.main_arg2)
      ∧ r.2.mem ((c.tc : Thread Cert.AttnOutFRefIdeal.nD Cert.AttnOutFRefIdeal.τ).loc Cert.AttnOutFRefIdeal.main_arg3) = m ((c.tc : Thread Cert.AttnOutFRefIdeal.nD Cert.AttnOutFRefIdeal.τ).loc Cert.AttnOutFRefIdeal.main_arg3))
      ∧ r.2.sem = fun _ => 0)

def quiescent_SsmOutF [hSsmOutF : Cert.SsmOutF.Facts] : Prop :=
  ∀ (m : (ℓ : Loc Cert.SsmOutF.nD Cert.SsmOutF.τ Cert.SsmOutF.sig) → Buf (Elt Bits) ℓ) (g : Dev Cert.SsmOutF.nD → PrngReg), Pre_SsmOutF m →
    θ_run (Cert.SsmOutF.defs (F := Bits)) (onTc (τ := Cert.SsmOutF.τ) (Cert.SsmOutF.main (F := Bits))) ⟨m, fun _ => 0, g⟩ (fun r => (∀ c : Dev Cert.SsmOutF.nD,
      r.2.mem ((c.tc : Thread Cert.SsmOutF.nD Cert.SsmOutF.τ).loc Cert.SsmOutF.main_arg0) = m ((c.tc : Thread Cert.SsmOutF.nD Cert.SsmOutF.τ).loc Cert.SsmOutF.main_arg0)
      ∧ r.2.mem ((c.tc : Thread Cert.SsmOutF.nD Cert.SsmOutF.τ).loc Cert.SsmOutF.main_arg1) = m ((c.tc : Thread Cert.SsmOutF.nD Cert.SsmOutF.τ).loc Cert.SsmOutF.main_arg1)
      ∧ r.2.mem ((c.tc : Thread Cert.SsmOutF.nD Cert.SsmOutF.τ).loc Cert.SsmOutF.main_arg2) = m ((c.tc : Thread Cert.SsmOutF.nD Cert.SsmOutF.τ).loc Cert.SsmOutF.main_arg2)
      ∧ r.2.mem ((c.tc : Thread Cert.SsmOutF.nD Cert.SsmOutF.τ).loc Cert.SsmOutF.main_arg3) = m ((c.tc : Thread Cert.SsmOutF.nD Cert.SsmOutF.τ).loc Cert.SsmOutF.main_arg3)
      ∧ r.2.mem ((c.tc : Thread Cert.SsmOutF.nD Cert.SsmOutF.τ).loc Cert.SsmOutF.main_arg4) = m ((c.tc : Thread Cert.SsmOutF.nD Cert.SsmOutF.τ).loc Cert.SsmOutF.main_arg4)
      ∧ r.2.mem ((c.tc : Thread Cert.SsmOutF.nD Cert.SsmOutF.τ).loc Cert.SsmOutF.main_arg5) = m ((c.tc : Thread Cert.SsmOutF.nD Cert.SsmOutF.τ).loc Cert.SsmOutF.main_arg5))
      ∧ r.2.sem = fun _ => 0)

def quiescent_SsmOutFIdeal [hSsmOutFIdeal : Cert.SsmOutFIdeal.Facts] : Prop :=
  ∀ (m : (ℓ : Loc Cert.SsmOutFIdeal.nD Cert.SsmOutFIdeal.τ Cert.SsmOutFIdeal.sig) → Buf (Elt Ideal) ℓ) (g : Dev Cert.SsmOutFIdeal.nD → PrngReg), Pre_SsmOutFIdeal m →
    θ_run (Cert.SsmOutFIdeal.defs (F := Ideal)) (onTc (τ := Cert.SsmOutFIdeal.τ) (Cert.SsmOutFIdeal.main (F := Ideal))) ⟨m, fun _ => 0, g⟩ (fun r => (∀ c : Dev Cert.SsmOutFIdeal.nD,
      r.2.mem ((c.tc : Thread Cert.SsmOutFIdeal.nD Cert.SsmOutFIdeal.τ).loc Cert.SsmOutFIdeal.main_arg0) = m ((c.tc : Thread Cert.SsmOutFIdeal.nD Cert.SsmOutFIdeal.τ).loc Cert.SsmOutFIdeal.main_arg0)
      ∧ r.2.mem ((c.tc : Thread Cert.SsmOutFIdeal.nD Cert.SsmOutFIdeal.τ).loc Cert.SsmOutFIdeal.main_arg1) = m ((c.tc : Thread Cert.SsmOutFIdeal.nD Cert.SsmOutFIdeal.τ).loc Cert.SsmOutFIdeal.main_arg1)
      ∧ r.2.mem ((c.tc : Thread Cert.SsmOutFIdeal.nD Cert.SsmOutFIdeal.τ).loc Cert.SsmOutFIdeal.main_arg2) = m ((c.tc : Thread Cert.SsmOutFIdeal.nD Cert.SsmOutFIdeal.τ).loc Cert.SsmOutFIdeal.main_arg2)
      ∧ r.2.mem ((c.tc : Thread Cert.SsmOutFIdeal.nD Cert.SsmOutFIdeal.τ).loc Cert.SsmOutFIdeal.main_arg3) = m ((c.tc : Thread Cert.SsmOutFIdeal.nD Cert.SsmOutFIdeal.τ).loc Cert.SsmOutFIdeal.main_arg3)
      ∧ r.2.mem ((c.tc : Thread Cert.SsmOutFIdeal.nD Cert.SsmOutFIdeal.τ).loc Cert.SsmOutFIdeal.main_arg4) = m ((c.tc : Thread Cert.SsmOutFIdeal.nD Cert.SsmOutFIdeal.τ).loc Cert.SsmOutFIdeal.main_arg4)
      ∧ r.2.mem ((c.tc : Thread Cert.SsmOutFIdeal.nD Cert.SsmOutFIdeal.τ).loc Cert.SsmOutFIdeal.main_arg5) = m ((c.tc : Thread Cert.SsmOutFIdeal.nD Cert.SsmOutFIdeal.τ).loc Cert.SsmOutFIdeal.main_arg5))
      ∧ r.2.sem = fun _ => 0)

def quiescent_SsmOutFRefIdeal [hSsmOutFRefIdeal : Cert.SsmOutFRefIdeal.Facts] : Prop :=
  ∀ (m : (ℓ : Loc Cert.SsmOutFRefIdeal.nD Cert.SsmOutFRefIdeal.τ Cert.SsmOutFRefIdeal.sig) → Buf (Elt Ideal) ℓ) (g : Dev Cert.SsmOutFRefIdeal.nD → PrngReg), Pre_SsmOutFRefIdeal m →
    θ_run (Cert.SsmOutFRefIdeal.defs (F := Ideal)) (onTc (τ := Cert.SsmOutFRefIdeal.τ) (Cert.SsmOutFRefIdeal.main (F := Ideal))) ⟨m, fun _ => 0, g⟩ (fun r => (∀ c : Dev Cert.SsmOutFRefIdeal.nD,
      r.2.mem ((c.tc : Thread Cert.SsmOutFRefIdeal.nD Cert.SsmOutFRefIdeal.τ).loc Cert.SsmOutFRefIdeal.main_arg0) = m ((c.tc : Thread Cert.SsmOutFRefIdeal.nD Cert.SsmOutFRefIdeal.τ).loc Cert.SsmOutFRefIdeal.main_arg0)
      ∧ r.2.mem ((c.tc : Thread Cert.SsmOutFRefIdeal.nD Cert.SsmOutFRefIdeal.τ).loc Cert.SsmOutFRefIdeal.main_arg1) = m ((c.tc : Thread Cert.SsmOutFRefIdeal.nD Cert.SsmOutFRefIdeal.τ).loc Cert.SsmOutFRefIdeal.main_arg1)
      ∧ r.2.mem ((c.tc : Thread Cert.SsmOutFRefIdeal.nD Cert.SsmOutFRefIdeal.τ).loc Cert.SsmOutFRefIdeal.main_arg2) = m ((c.tc : Thread Cert.SsmOutFRefIdeal.nD Cert.SsmOutFRefIdeal.τ).loc Cert.SsmOutFRefIdeal.main_arg2)
      ∧ r.2.mem ((c.tc : Thread Cert.SsmOutFRefIdeal.nD Cert.SsmOutFRefIdeal.τ).loc Cert.SsmOutFRefIdeal.main_arg3) = m ((c.tc : Thread Cert.SsmOutFRefIdeal.nD Cert.SsmOutFRefIdeal.τ).loc Cert.SsmOutFRefIdeal.main_arg3)
      ∧ r.2.mem ((c.tc : Thread Cert.SsmOutFRefIdeal.nD Cert.SsmOutFRefIdeal.τ).loc Cert.SsmOutFRefIdeal.main_arg4) = m ((c.tc : Thread Cert.SsmOutFRefIdeal.nD Cert.SsmOutFRefIdeal.τ).loc Cert.SsmOutFRefIdeal.main_arg4)
      ∧ r.2.mem ((c.tc : Thread Cert.SsmOutFRefIdeal.nD Cert.SsmOutFRefIdeal.τ).loc Cert.SsmOutFRefIdeal.main_arg5) = m ((c.tc : Thread Cert.SsmOutFRefIdeal.nD Cert.SsmOutFRefIdeal.τ).loc Cert.SsmOutFRefIdeal.main_arg5))
      ∧ r.2.sem = fun _ => 0)

def quiescent_InSsmF [hInSsmF : Cert.InSsmF.Facts] : Prop :=
  ∀ (m : (ℓ : Loc Cert.InSsmF.nD Cert.InSsmF.τ Cert.InSsmF.sig) → Buf (Elt Bits) ℓ) (g : Dev Cert.InSsmF.nD → PrngReg), Pre_InSsmF m →
    θ_run (Cert.InSsmF.defs (F := Bits)) (onTc (τ := Cert.InSsmF.τ) (Cert.InSsmF.main (F := Bits))) ⟨m, fun _ => 0, g⟩ (fun r => (∀ c : Dev Cert.InSsmF.nD,
      r.2.mem ((c.tc : Thread Cert.InSsmF.nD Cert.InSsmF.τ).loc Cert.InSsmF.main_arg0) = m ((c.tc : Thread Cert.InSsmF.nD Cert.InSsmF.τ).loc Cert.InSsmF.main_arg0)
      ∧ r.2.mem ((c.tc : Thread Cert.InSsmF.nD Cert.InSsmF.τ).loc Cert.InSsmF.main_arg1) = m ((c.tc : Thread Cert.InSsmF.nD Cert.InSsmF.τ).loc Cert.InSsmF.main_arg1)
      ∧ r.2.mem ((c.tc : Thread Cert.InSsmF.nD Cert.InSsmF.τ).loc Cert.InSsmF.main_arg2) = m ((c.tc : Thread Cert.InSsmF.nD Cert.InSsmF.τ).loc Cert.InSsmF.main_arg2))
      ∧ r.2.sem = fun _ => 0)

def quiescent_InSsmFIdeal [hInSsmFIdeal : Cert.InSsmFIdeal.Facts] : Prop :=
  ∀ (m : (ℓ : Loc Cert.InSsmFIdeal.nD Cert.InSsmFIdeal.τ Cert.InSsmFIdeal.sig) → Buf (Elt Ideal) ℓ) (g : Dev Cert.InSsmFIdeal.nD → PrngReg), Pre_InSsmFIdeal m →
    θ_run (Cert.InSsmFIdeal.defs (F := Ideal)) (onTc (τ := Cert.InSsmFIdeal.τ) (Cert.InSsmFIdeal.main (F := Ideal))) ⟨m, fun _ => 0, g⟩ (fun r => (∀ c : Dev Cert.InSsmFIdeal.nD,
      r.2.mem ((c.tc : Thread Cert.InSsmFIdeal.nD Cert.InSsmFIdeal.τ).loc Cert.InSsmFIdeal.main_arg0) = m ((c.tc : Thread Cert.InSsmFIdeal.nD Cert.InSsmFIdeal.τ).loc Cert.InSsmFIdeal.main_arg0)
      ∧ r.2.mem ((c.tc : Thread Cert.InSsmFIdeal.nD Cert.InSsmFIdeal.τ).loc Cert.InSsmFIdeal.main_arg1) = m ((c.tc : Thread Cert.InSsmFIdeal.nD Cert.InSsmFIdeal.τ).loc Cert.InSsmFIdeal.main_arg1)
      ∧ r.2.mem ((c.tc : Thread Cert.InSsmFIdeal.nD Cert.InSsmFIdeal.τ).loc Cert.InSsmFIdeal.main_arg2) = m ((c.tc : Thread Cert.InSsmFIdeal.nD Cert.InSsmFIdeal.τ).loc Cert.InSsmFIdeal.main_arg2))
      ∧ r.2.sem = fun _ => 0)

def quiescent_InSsmFRefIdeal [hInSsmFRefIdeal : Cert.InSsmFRefIdeal.Facts] : Prop :=
  ∀ (m : (ℓ : Loc Cert.InSsmFRefIdeal.nD Cert.InSsmFRefIdeal.τ Cert.InSsmFRefIdeal.sig) → Buf (Elt Ideal) ℓ) (g : Dev Cert.InSsmFRefIdeal.nD → PrngReg), Pre_InSsmFRefIdeal m →
    θ_run (Cert.InSsmFRefIdeal.defs (F := Ideal)) (onTc (τ := Cert.InSsmFRefIdeal.τ) (Cert.InSsmFRefIdeal.main (F := Ideal))) ⟨m, fun _ => 0, g⟩ (fun r => (∀ c : Dev Cert.InSsmFRefIdeal.nD,
      r.2.mem ((c.tc : Thread Cert.InSsmFRefIdeal.nD Cert.InSsmFRefIdeal.τ).loc Cert.InSsmFRefIdeal.main_arg0) = m ((c.tc : Thread Cert.InSsmFRefIdeal.nD Cert.InSsmFRefIdeal.τ).loc Cert.InSsmFRefIdeal.main_arg0)
      ∧ r.2.mem ((c.tc : Thread Cert.InSsmFRefIdeal.nD Cert.InSsmFRefIdeal.τ).loc Cert.InSsmFRefIdeal.main_arg1) = m ((c.tc : Thread Cert.InSsmFRefIdeal.nD Cert.InSsmFRefIdeal.τ).loc Cert.InSsmFRefIdeal.main_arg1)
      ∧ r.2.mem ((c.tc : Thread Cert.InSsmFRefIdeal.nD Cert.InSsmFRefIdeal.τ).loc Cert.InSsmFRefIdeal.main_arg2) = m ((c.tc : Thread Cert.InSsmFRefIdeal.nD Cert.InSsmFRefIdeal.τ).loc Cert.InSsmFRefIdeal.main_arg2))
      ∧ r.2.sem = fun _ => 0)

def quiescent_InAttnF [hInAttnF : Cert.InAttnF.Facts] : Prop :=
  ∀ (m : (ℓ : Loc Cert.InAttnF.nD Cert.InAttnF.τ Cert.InAttnF.sig) → Buf (Elt Bits) ℓ) (g : Dev Cert.InAttnF.nD → PrngReg), Pre_InAttnF m →
    θ_run (Cert.InAttnF.defs (F := Bits)) (onTc (τ := Cert.InAttnF.τ) (Cert.InAttnF.main (F := Bits))) ⟨m, fun _ => 0, g⟩ (fun r => (∀ c : Dev Cert.InAttnF.nD,
      r.2.mem ((c.tc : Thread Cert.InAttnF.nD Cert.InAttnF.τ).loc Cert.InAttnF.main_arg0) = m ((c.tc : Thread Cert.InAttnF.nD Cert.InAttnF.τ).loc Cert.InAttnF.main_arg0)
      ∧ r.2.mem ((c.tc : Thread Cert.InAttnF.nD Cert.InAttnF.τ).loc Cert.InAttnF.main_arg1) = m ((c.tc : Thread Cert.InAttnF.nD Cert.InAttnF.τ).loc Cert.InAttnF.main_arg1)
      ∧ r.2.mem ((c.tc : Thread Cert.InAttnF.nD Cert.InAttnF.τ).loc Cert.InAttnF.main_arg2) = m ((c.tc : Thread Cert.InAttnF.nD Cert.InAttnF.τ).loc Cert.InAttnF.main_arg2)
      ∧ r.2.mem ((c.tc : Thread Cert.InAttnF.nD Cert.InAttnF.τ).loc Cert.InAttnF.main_arg3) = m ((c.tc : Thread Cert.InAttnF.nD Cert.InAttnF.τ).loc Cert.InAttnF.main_arg3)
      ∧ r.2.mem ((c.tc : Thread Cert.InAttnF.nD Cert.InAttnF.τ).loc Cert.InAttnF.main_arg4) = m ((c.tc : Thread Cert.InAttnF.nD Cert.InAttnF.τ).loc Cert.InAttnF.main_arg4))
      ∧ r.2.sem = fun _ => 0)

def quiescent_InAttnFIdeal [hInAttnFIdeal : Cert.InAttnFIdeal.Facts] : Prop :=
  ∀ (m : (ℓ : Loc Cert.InAttnFIdeal.nD Cert.InAttnFIdeal.τ Cert.InAttnFIdeal.sig) → Buf (Elt Ideal) ℓ) (g : Dev Cert.InAttnFIdeal.nD → PrngReg), Pre_InAttnFIdeal m →
    θ_run (Cert.InAttnFIdeal.defs (F := Ideal)) (onTc (τ := Cert.InAttnFIdeal.τ) (Cert.InAttnFIdeal.main (F := Ideal))) ⟨m, fun _ => 0, g⟩ (fun r => (∀ c : Dev Cert.InAttnFIdeal.nD,
      r.2.mem ((c.tc : Thread Cert.InAttnFIdeal.nD Cert.InAttnFIdeal.τ).loc Cert.InAttnFIdeal.main_arg0) = m ((c.tc : Thread Cert.InAttnFIdeal.nD Cert.InAttnFIdeal.τ).loc Cert.InAttnFIdeal.main_arg0)
      ∧ r.2.mem ((c.tc : Thread Cert.InAttnFIdeal.nD Cert.InAttnFIdeal.τ).loc Cert.InAttnFIdeal.main_arg1) = m ((c.tc : Thread Cert.InAttnFIdeal.nD Cert.InAttnFIdeal.τ).loc Cert.InAttnFIdeal.main_arg1)
      ∧ r.2.mem ((c.tc : Thread Cert.InAttnFIdeal.nD Cert.InAttnFIdeal.τ).loc Cert.InAttnFIdeal.main_arg2) = m ((c.tc : Thread Cert.InAttnFIdeal.nD Cert.InAttnFIdeal.τ).loc Cert.InAttnFIdeal.main_arg2)
      ∧ r.2.mem ((c.tc : Thread Cert.InAttnFIdeal.nD Cert.InAttnFIdeal.τ).loc Cert.InAttnFIdeal.main_arg3) = m ((c.tc : Thread Cert.InAttnFIdeal.nD Cert.InAttnFIdeal.τ).loc Cert.InAttnFIdeal.main_arg3)
      ∧ r.2.mem ((c.tc : Thread Cert.InAttnFIdeal.nD Cert.InAttnFIdeal.τ).loc Cert.InAttnFIdeal.main_arg4) = m ((c.tc : Thread Cert.InAttnFIdeal.nD Cert.InAttnFIdeal.τ).loc Cert.InAttnFIdeal.main_arg4))
      ∧ r.2.sem = fun _ => 0)

def quiescent_InAttnFRefIdeal [hInAttnFRefIdeal : Cert.InAttnFRefIdeal.Facts] : Prop :=
  ∀ (m : (ℓ : Loc Cert.InAttnFRefIdeal.nD Cert.InAttnFRefIdeal.τ Cert.InAttnFRefIdeal.sig) → Buf (Elt Ideal) ℓ) (g : Dev Cert.InAttnFRefIdeal.nD → PrngReg), Pre_InAttnFRefIdeal m →
    θ_run (Cert.InAttnFRefIdeal.defs (F := Ideal)) (onTc (τ := Cert.InAttnFRefIdeal.τ) (Cert.InAttnFRefIdeal.main (F := Ideal))) ⟨m, fun _ => 0, g⟩ (fun r => (∀ c : Dev Cert.InAttnFRefIdeal.nD,
      r.2.mem ((c.tc : Thread Cert.InAttnFRefIdeal.nD Cert.InAttnFRefIdeal.τ).loc Cert.InAttnFRefIdeal.main_arg0) = m ((c.tc : Thread Cert.InAttnFRefIdeal.nD Cert.InAttnFRefIdeal.τ).loc Cert.InAttnFRefIdeal.main_arg0)
      ∧ r.2.mem ((c.tc : Thread Cert.InAttnFRefIdeal.nD Cert.InAttnFRefIdeal.τ).loc Cert.InAttnFRefIdeal.main_arg1) = m ((c.tc : Thread Cert.InAttnFRefIdeal.nD Cert.InAttnFRefIdeal.τ).loc Cert.InAttnFRefIdeal.main_arg1)
      ∧ r.2.mem ((c.tc : Thread Cert.InAttnFRefIdeal.nD Cert.InAttnFRefIdeal.τ).loc Cert.InAttnFRefIdeal.main_arg2) = m ((c.tc : Thread Cert.InAttnFRefIdeal.nD Cert.InAttnFRefIdeal.τ).loc Cert.InAttnFRefIdeal.main_arg2)
      ∧ r.2.mem ((c.tc : Thread Cert.InAttnFRefIdeal.nD Cert.InAttnFRefIdeal.τ).loc Cert.InAttnFRefIdeal.main_arg3) = m ((c.tc : Thread Cert.InAttnFRefIdeal.nD Cert.InAttnFRefIdeal.τ).loc Cert.InAttnFRefIdeal.main_arg3)
      ∧ r.2.mem ((c.tc : Thread Cert.InAttnFRefIdeal.nD Cert.InAttnFRefIdeal.τ).loc Cert.InAttnFRefIdeal.main_arg4) = m ((c.tc : Thread Cert.InAttnFRefIdeal.nD Cert.InAttnFRefIdeal.τ).loc Cert.InAttnFRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def quiescent_ScanF [hScanF : Cert.ScanF.Facts] : Prop :=
  ∀ (m : (ℓ : Loc Cert.ScanF.nD Cert.ScanF.τ Cert.ScanF.sig) → Buf (Elt Bits) ℓ) (g : Dev Cert.ScanF.nD → PrngReg), Pre_ScanF m →
    θ_run (Cert.ScanF.defs (F := Bits)) (onTc (τ := Cert.ScanF.τ) (Cert.ScanF.main (F := Bits))) ⟨m, fun _ => 0, g⟩ (fun r => (∀ c : Dev Cert.ScanF.nD,
      r.2.mem ((c.tc : Thread Cert.ScanF.nD Cert.ScanF.τ).loc Cert.ScanF.main_arg0) = m ((c.tc : Thread Cert.ScanF.nD Cert.ScanF.τ).loc Cert.ScanF.main_arg0)
      ∧ r.2.mem ((c.tc : Thread Cert.ScanF.nD Cert.ScanF.τ).loc Cert.ScanF.main_arg1) = m ((c.tc : Thread Cert.ScanF.nD Cert.ScanF.τ).loc Cert.ScanF.main_arg1)
      ∧ r.2.mem ((c.tc : Thread Cert.ScanF.nD Cert.ScanF.τ).loc Cert.ScanF.main_arg2) = m ((c.tc : Thread Cert.ScanF.nD Cert.ScanF.τ).loc Cert.ScanF.main_arg2)
      ∧ r.2.mem ((c.tc : Thread Cert.ScanF.nD Cert.ScanF.τ).loc Cert.ScanF.main_arg3) = m ((c.tc : Thread Cert.ScanF.nD Cert.ScanF.τ).loc Cert.ScanF.main_arg3))
      ∧ r.2.sem = fun _ => 0)

def quiescent_ScanFIdeal [hScanFIdeal : Cert.ScanFIdeal.Facts] : Prop :=
  ∀ (m : (ℓ : Loc Cert.ScanFIdeal.nD Cert.ScanFIdeal.τ Cert.ScanFIdeal.sig) → Buf (Elt Ideal) ℓ) (g : Dev Cert.ScanFIdeal.nD → PrngReg), Pre_ScanFIdeal m →
    θ_run (Cert.ScanFIdeal.defs (F := Ideal)) (onTc (τ := Cert.ScanFIdeal.τ) (Cert.ScanFIdeal.main (F := Ideal))) ⟨m, fun _ => 0, g⟩ (fun r => (∀ c : Dev Cert.ScanFIdeal.nD,
      r.2.mem ((c.tc : Thread Cert.ScanFIdeal.nD Cert.ScanFIdeal.τ).loc Cert.ScanFIdeal.main_arg0) = m ((c.tc : Thread Cert.ScanFIdeal.nD Cert.ScanFIdeal.τ).loc Cert.ScanFIdeal.main_arg0)
      ∧ r.2.mem ((c.tc : Thread Cert.ScanFIdeal.nD Cert.ScanFIdeal.τ).loc Cert.ScanFIdeal.main_arg1) = m ((c.tc : Thread Cert.ScanFIdeal.nD Cert.ScanFIdeal.τ).loc Cert.ScanFIdeal.main_arg1)
      ∧ r.2.mem ((c.tc : Thread Cert.ScanFIdeal.nD Cert.ScanFIdeal.τ).loc Cert.ScanFIdeal.main_arg2) = m ((c.tc : Thread Cert.ScanFIdeal.nD Cert.ScanFIdeal.τ).loc Cert.ScanFIdeal.main_arg2)
      ∧ r.2.mem ((c.tc : Thread Cert.ScanFIdeal.nD Cert.ScanFIdeal.τ).loc Cert.ScanFIdeal.main_arg3) = m ((c.tc : Thread Cert.ScanFIdeal.nD Cert.ScanFIdeal.τ).loc Cert.ScanFIdeal.main_arg3))
      ∧ r.2.sem = fun _ => 0)

def quiescent_ScanFRefIdeal [hScanFRefIdeal : Cert.ScanFRefIdeal.Facts] : Prop :=
  ∀ (m : (ℓ : Loc Cert.ScanFRefIdeal.nD Cert.ScanFRefIdeal.τ Cert.ScanFRefIdeal.sig) → Buf (Elt Ideal) ℓ) (g : Dev Cert.ScanFRefIdeal.nD → PrngReg), Pre_ScanFRefIdeal m →
    θ_run (Cert.ScanFRefIdeal.defs (F := Ideal)) (onTc (τ := Cert.ScanFRefIdeal.τ) (Cert.ScanFRefIdeal.main (F := Ideal))) ⟨m, fun _ => 0, g⟩ (fun r => (∀ c : Dev Cert.ScanFRefIdeal.nD,
      r.2.mem ((c.tc : Thread Cert.ScanFRefIdeal.nD Cert.ScanFRefIdeal.τ).loc Cert.ScanFRefIdeal.main_arg0) = m ((c.tc : Thread Cert.ScanFRefIdeal.nD Cert.ScanFRefIdeal.τ).loc Cert.ScanFRefIdeal.main_arg0)
      ∧ r.2.mem ((c.tc : Thread Cert.ScanFRefIdeal.nD Cert.ScanFRefIdeal.τ).loc Cert.ScanFRefIdeal.main_arg1) = m ((c.tc : Thread Cert.ScanFRefIdeal.nD Cert.ScanFRefIdeal.τ).loc Cert.ScanFRefIdeal.main_arg1)
      ∧ r.2.mem ((c.tc : Thread Cert.ScanFRefIdeal.nD Cert.ScanFRefIdeal.τ).loc Cert.ScanFRefIdeal.main_arg2) = m ((c.tc : Thread Cert.ScanFRefIdeal.nD Cert.ScanFRefIdeal.τ).loc Cert.ScanFRefIdeal.main_arg2)
      ∧ r.2.mem ((c.tc : Thread Cert.ScanFRefIdeal.nD Cert.ScanFRefIdeal.τ).loc Cert.ScanFRefIdeal.main_arg3) = m ((c.tc : Thread Cert.ScanFRefIdeal.nD Cert.ScanFRefIdeal.τ).loc Cert.ScanFRefIdeal.main_arg3))
      ∧ r.2.sem = fun _ => 0)

def quiescent_ScanB [hScanB : Cert.ScanB.Facts] : Prop :=
  ∀ (m : (ℓ : Loc Cert.ScanB.nD Cert.ScanB.τ Cert.ScanB.sig) → Buf (Elt Bits) ℓ) (g : Dev Cert.ScanB.nD → PrngReg), Pre_ScanB m →
    θ_run (Cert.ScanB.defs (F := Bits)) (onTc (τ := Cert.ScanB.τ) (Cert.ScanB.main (F := Bits))) ⟨m, fun _ => 0, g⟩ (fun r => (∀ c : Dev Cert.ScanB.nD,
      r.2.mem ((c.tc : Thread Cert.ScanB.nD Cert.ScanB.τ).loc Cert.ScanB.main_arg0) = m ((c.tc : Thread Cert.ScanB.nD Cert.ScanB.τ).loc Cert.ScanB.main_arg0)
      ∧ r.2.mem ((c.tc : Thread Cert.ScanB.nD Cert.ScanB.τ).loc Cert.ScanB.main_arg1) = m ((c.tc : Thread Cert.ScanB.nD Cert.ScanB.τ).loc Cert.ScanB.main_arg1)
      ∧ r.2.mem ((c.tc : Thread Cert.ScanB.nD Cert.ScanB.τ).loc Cert.ScanB.main_arg2) = m ((c.tc : Thread Cert.ScanB.nD Cert.ScanB.τ).loc Cert.ScanB.main_arg2)
      ∧ r.2.mem ((c.tc : Thread Cert.ScanB.nD Cert.ScanB.τ).loc Cert.ScanB.main_arg3) = m ((c.tc : Thread Cert.ScanB.nD Cert.ScanB.τ).loc Cert.ScanB.main_arg3)
      ∧ r.2.mem ((c.tc : Thread Cert.ScanB.nD Cert.ScanB.τ).loc Cert.ScanB.main_arg4) = m ((c.tc : Thread Cert.ScanB.nD Cert.ScanB.τ).loc Cert.ScanB.main_arg4)
      ∧ r.2.mem ((c.tc : Thread Cert.ScanB.nD Cert.ScanB.τ).loc Cert.ScanB.main_arg5) = m ((c.tc : Thread Cert.ScanB.nD Cert.ScanB.τ).loc Cert.ScanB.main_arg5))
      ∧ r.2.sem = fun _ => 0)

def quiescent_ScanBIdeal [hScanBIdeal : Cert.ScanBIdeal.Facts] : Prop :=
  ∀ (m : (ℓ : Loc Cert.ScanBIdeal.nD Cert.ScanBIdeal.τ Cert.ScanBIdeal.sig) → Buf (Elt Ideal) ℓ) (g : Dev Cert.ScanBIdeal.nD → PrngReg), Pre_ScanBIdeal m →
    θ_run (Cert.ScanBIdeal.defs (F := Ideal)) (onTc (τ := Cert.ScanBIdeal.τ) (Cert.ScanBIdeal.main (F := Ideal))) ⟨m, fun _ => 0, g⟩ (fun r => (∀ c : Dev Cert.ScanBIdeal.nD,
      r.2.mem ((c.tc : Thread Cert.ScanBIdeal.nD Cert.ScanBIdeal.τ).loc Cert.ScanBIdeal.main_arg0) = m ((c.tc : Thread Cert.ScanBIdeal.nD Cert.ScanBIdeal.τ).loc Cert.ScanBIdeal.main_arg0)
      ∧ r.2.mem ((c.tc : Thread Cert.ScanBIdeal.nD Cert.ScanBIdeal.τ).loc Cert.ScanBIdeal.main_arg1) = m ((c.tc : Thread Cert.ScanBIdeal.nD Cert.ScanBIdeal.τ).loc Cert.ScanBIdeal.main_arg1)
      ∧ r.2.mem ((c.tc : Thread Cert.ScanBIdeal.nD Cert.ScanBIdeal.τ).loc Cert.ScanBIdeal.main_arg2) = m ((c.tc : Thread Cert.ScanBIdeal.nD Cert.ScanBIdeal.τ).loc Cert.ScanBIdeal.main_arg2)
      ∧ r.2.mem ((c.tc : Thread Cert.ScanBIdeal.nD Cert.ScanBIdeal.τ).loc Cert.ScanBIdeal.main_arg3) = m ((c.tc : Thread Cert.ScanBIdeal.nD Cert.ScanBIdeal.τ).loc Cert.ScanBIdeal.main_arg3)
      ∧ r.2.mem ((c.tc : Thread Cert.ScanBIdeal.nD Cert.ScanBIdeal.τ).loc Cert.ScanBIdeal.main_arg4) = m ((c.tc : Thread Cert.ScanBIdeal.nD Cert.ScanBIdeal.τ).loc Cert.ScanBIdeal.main_arg4)
      ∧ r.2.mem ((c.tc : Thread Cert.ScanBIdeal.nD Cert.ScanBIdeal.τ).loc Cert.ScanBIdeal.main_arg5) = m ((c.tc : Thread Cert.ScanBIdeal.nD Cert.ScanBIdeal.τ).loc Cert.ScanBIdeal.main_arg5))
      ∧ r.2.sem = fun _ => 0)

def quiescent_ScanBRefIdeal [hScanBRefIdeal : Cert.ScanBRefIdeal.Facts] : Prop :=
  ∀ (m : (ℓ : Loc Cert.ScanBRefIdeal.nD Cert.ScanBRefIdeal.τ Cert.ScanBRefIdeal.sig) → Buf (Elt Ideal) ℓ) (g : Dev Cert.ScanBRefIdeal.nD → PrngReg), Pre_ScanBRefIdeal m →
    θ_run (Cert.ScanBRefIdeal.defs (F := Ideal)) (onTc (τ := Cert.ScanBRefIdeal.τ) (Cert.ScanBRefIdeal.main (F := Ideal))) ⟨m, fun _ => 0, g⟩ (fun r => (∀ c : Dev Cert.ScanBRefIdeal.nD,
      r.2.mem ((c.tc : Thread Cert.ScanBRefIdeal.nD Cert.ScanBRefIdeal.τ).loc Cert.ScanBRefIdeal.main_arg0) = m ((c.tc : Thread Cert.ScanBRefIdeal.nD Cert.ScanBRefIdeal.τ).loc Cert.ScanBRefIdeal.main_arg0)
      ∧ r.2.mem ((c.tc : Thread Cert.ScanBRefIdeal.nD Cert.ScanBRefIdeal.τ).loc Cert.ScanBRefIdeal.main_arg1) = m ((c.tc : Thread Cert.ScanBRefIdeal.nD Cert.ScanBRefIdeal.τ).loc Cert.ScanBRefIdeal.main_arg1)
      ∧ r.2.mem ((c.tc : Thread Cert.ScanBRefIdeal.nD Cert.ScanBRefIdeal.τ).loc Cert.ScanBRefIdeal.main_arg2) = m ((c.tc : Thread Cert.ScanBRefIdeal.nD Cert.ScanBRefIdeal.τ).loc Cert.ScanBRefIdeal.main_arg2)
      ∧ r.2.mem ((c.tc : Thread Cert.ScanBRefIdeal.nD Cert.ScanBRefIdeal.τ).loc Cert.ScanBRefIdeal.main_arg3) = m ((c.tc : Thread Cert.ScanBRefIdeal.nD Cert.ScanBRefIdeal.τ).loc Cert.ScanBRefIdeal.main_arg3)
      ∧ r.2.mem ((c.tc : Thread Cert.ScanBRefIdeal.nD Cert.ScanBRefIdeal.τ).loc Cert.ScanBRefIdeal.main_arg4) = m ((c.tc : Thread Cert.ScanBRefIdeal.nD Cert.ScanBRefIdeal.τ).loc Cert.ScanBRefIdeal.main_arg4)
      ∧ r.2.mem ((c.tc : Thread Cert.ScanBRefIdeal.nD Cert.ScanBRefIdeal.τ).loc Cert.ScanBRefIdeal.main_arg5) = m ((c.tc : Thread Cert.ScanBRefIdeal.nD Cert.ScanBRefIdeal.τ).loc Cert.ScanBRefIdeal.main_arg5))
      ∧ r.2.sem = fun _ => 0)

def quiescent_SumCore [hSumCore : Cert.SumCore.Facts] [hPre_core_index : Cert.Pre_core_index.Facts] : Prop :=
  ∀ (m : (ℓ : Loc Cert.SumCore.nD Cert.SumCore.τ Cert.SumCore.sig) → Buf (Elt Bits) ℓ) (g : Dev Cert.SumCore.nD → PrngReg), Pre_SumCore m →
    θ_run (Cert.SumCore.defs (F := Bits)) (onTc (τ := Cert.SumCore.τ) (Cert.SumCore.main (F := Bits))) ⟨m, fun _ => 0, g⟩ (fun r => (∀ c : Dev Cert.SumCore.nD,
      r.2.mem ((c.tc : Thread Cert.SumCore.nD Cert.SumCore.τ).loc Cert.SumCore.main_arg0) = m ((c.tc : Thread Cert.SumCore.nD Cert.SumCore.τ).loc Cert.SumCore.main_arg0)
      ∧ r.2.mem ((c.tc : Thread Cert.SumCore.nD Cert.SumCore.τ).loc Cert.SumCore.main_arg1) = m ((c.tc : Thread Cert.SumCore.nD Cert.SumCore.τ).loc Cert.SumCore.main_arg1)
      ∧ r.2.mem ((c.tc : Thread Cert.SumCore.nD Cert.SumCore.τ).loc Cert.SumCore.main_arg2) = m ((c.tc : Thread Cert.SumCore.nD Cert.SumCore.τ).loc Cert.SumCore.main_arg2))
      ∧ r.2.sem = fun _ => 0)

def quiescent_SumCoreIdeal [hSumCoreIdeal : Cert.SumCoreIdeal.Facts] [hPre_core_index : Cert.Pre_core_index.Facts] : Prop :=
  ∀ (m : (ℓ : Loc Cert.SumCoreIdeal.nD Cert.SumCoreIdeal.τ Cert.SumCoreIdeal.sig) → Buf (Elt Ideal) ℓ) (g : Dev Cert.SumCoreIdeal.nD → PrngReg), Pre_SumCoreIdeal m →
    θ_run (Cert.SumCoreIdeal.defs (F := Ideal)) (onTc (τ := Cert.SumCoreIdeal.τ) (Cert.SumCoreIdeal.main (F := Ideal))) ⟨m, fun _ => 0, g⟩ (fun r => (∀ c : Dev Cert.SumCoreIdeal.nD,
      r.2.mem ((c.tc : Thread Cert.SumCoreIdeal.nD Cert.SumCoreIdeal.τ).loc Cert.SumCoreIdeal.main_arg0) = m ((c.tc : Thread Cert.SumCoreIdeal.nD Cert.SumCoreIdeal.τ).loc Cert.SumCoreIdeal.main_arg0)
      ∧ r.2.mem ((c.tc : Thread Cert.SumCoreIdeal.nD Cert.SumCoreIdeal.τ).loc Cert.SumCoreIdeal.main_arg1) = m ((c.tc : Thread Cert.SumCoreIdeal.nD Cert.SumCoreIdeal.τ).loc Cert.SumCoreIdeal.main_arg1)
      ∧ r.2.mem ((c.tc : Thread Cert.SumCoreIdeal.nD Cert.SumCoreIdeal.τ).loc Cert.SumCoreIdeal.main_arg2) = m ((c.tc : Thread Cert.SumCoreIdeal.nD Cert.SumCoreIdeal.τ).loc Cert.SumCoreIdeal.main_arg2))
      ∧ r.2.sem = fun _ => 0)

def quiescent_SumCoreRefIdeal [hSumCoreRefIdeal : Cert.SumCoreRefIdeal.Facts] : Prop :=
  ∀ (m : (ℓ : Loc Cert.SumCoreRefIdeal.nD Cert.SumCoreRefIdeal.τ Cert.SumCoreRefIdeal.sig) → Buf (Elt Ideal) ℓ) (g : Dev Cert.SumCoreRefIdeal.nD → PrngReg), Pre_SumCoreRefIdeal m →
    θ_run (Cert.SumCoreRefIdeal.defs (F := Ideal)) (onTc (τ := Cert.SumCoreRefIdeal.τ) (Cert.SumCoreRefIdeal.main (F := Ideal))) ⟨m, fun _ => 0, g⟩ (fun r => (∀ c : Dev Cert.SumCoreRefIdeal.nD,
      r.2.mem ((c.tc : Thread Cert.SumCoreRefIdeal.nD Cert.SumCoreRefIdeal.τ).loc Cert.SumCoreRefIdeal.main_arg0) = m ((c.tc : Thread Cert.SumCoreRefIdeal.nD Cert.SumCoreRefIdeal.τ).loc Cert.SumCoreRefIdeal.main_arg0)
      ∧ r.2.mem ((c.tc : Thread Cert.SumCoreRefIdeal.nD Cert.SumCoreRefIdeal.τ).loc Cert.SumCoreRefIdeal.main_arg1) = m ((c.tc : Thread Cert.SumCoreRefIdeal.nD Cert.SumCoreRefIdeal.τ).loc Cert.SumCoreRefIdeal.main_arg1)
      ∧ r.2.mem ((c.tc : Thread Cert.SumCoreRefIdeal.nD Cert.SumCoreRefIdeal.τ).loc Cert.SumCoreRefIdeal.main_arg2) = m ((c.tc : Thread Cert.SumCoreRefIdeal.nD Cert.SumCoreRefIdeal.τ).loc Cert.SumCoreRefIdeal.main_arg2))
      ∧ r.2.sem = fun _ => 0)

def quiescent_SumCoreRefIdeal_pre_core_index [hSumCoreRefIdeal : Cert.SumCoreRefIdeal.Facts] [hPre_core_index : Cert.Pre_core_index.Facts] : Prop :=
  ∀ (m : (ℓ : Loc Cert.SumCoreRefIdeal.nD Cert.SumCoreRefIdeal.τ Cert.SumCoreRefIdeal.sig) → Buf (Elt Ideal) ℓ) (g : Dev Cert.SumCoreRefIdeal.nD → PrngReg), Pre_SumCoreRefIdeal_core_index m →
    θ_run (Cert.SumCoreRefIdeal.defs (F := Ideal)) (onTc (τ := Cert.SumCoreRefIdeal.τ) (Cert.SumCoreRefIdeal.main (F := Ideal))) ⟨m, fun _ => 0, g⟩ (fun r => (∀ c : Dev Cert.SumCoreRefIdeal.nD,
      r.2.mem ((c.tc : Thread Cert.SumCoreRefIdeal.nD Cert.SumCoreRefIdeal.τ).loc Cert.SumCoreRefIdeal.main_arg0) = m ((c.tc : Thread Cert.SumCoreRefIdeal.nD Cert.SumCoreRefIdeal.τ).loc Cert.SumCoreRefIdeal.main_arg0)
      ∧ r.2.mem ((c.tc : Thread Cert.SumCoreRefIdeal.nD Cert.SumCoreRefIdeal.τ).loc Cert.SumCoreRefIdeal.main_arg1) = m ((c.tc : Thread Cert.SumCoreRefIdeal.nD Cert.SumCoreRefIdeal.τ).loc Cert.SumCoreRefIdeal.main_arg1)
      ∧ r.2.mem ((c.tc : Thread Cert.SumCoreRefIdeal.nD Cert.SumCoreRefIdeal.τ).loc Cert.SumCoreRefIdeal.main_arg2) = m ((c.tc : Thread Cert.SumCoreRefIdeal.nD Cert.SumCoreRefIdeal.τ).loc Cert.SumCoreRefIdeal.main_arg2))
      ∧ r.2.sem = fun _ => 0)

def preserves_AttnOut_AttnOutIdeal : Prop :=
  True

def algebraic_AttnOutIdeal_AttnOutRefIdeal_pre_finite_attn_out [hAttnOutIdeal : Cert.AttnOutIdeal.Facts] [hAttnOutRefIdeal : Cert.AttnOutRefIdeal.Facts] [hPre_finite_attn_out : Cert.Pre_finite_attn_out.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal_finite_attn_out m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v2_0)) (v1 : (c : Dev Cert.AttnOutIdeal.nD) → Buf (Elt Ideal) ((c.tc : Thread Cert.AttnOutIdeal.nD Cert.AttnOutIdeal.τ).loc Cert.AttnOutIdeal.main_v2_1)) (v2 : (c : Dev Cert.AttnOutIdeal.nD) → Buf (Elt Ideal) ((c.tc : Thread Cert.AttnOutIdeal.nD Cert.AttnOutIdeal.τ).loc Cert.AttnOutIdeal.main_v2_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2_0) = v0 c
          ∧ r.2.mem ((c.tc : Thread Cert.AttnOutIdeal.nD Cert.AttnOutIdeal.τ).loc Cert.AttnOutIdeal.main_v2_1) = v1 c
          ∧ r.2.mem ((c.tc : Thread Cert.AttnOutIdeal.nD Cert.AttnOutIdeal.τ).loc Cert.AttnOutIdeal.main_v2_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v7) = v0 c
          ∧ r.2.mem ((c.tc : Thread Cert.AttnOutRefIdeal.nD Cert.AttnOutRefIdeal.τ).loc Cert.AttnOutRefIdeal.main_v9) = v1 c
          ∧ r.2.mem ((c.tc : Thread Cert.AttnOutRefIdeal.nD Cert.AttnOutRefIdeal.τ).loc Cert.AttnOutRefIdeal.main_v4) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_SsmOut_SsmOutIdeal : Prop :=
  IdealRules.named_const.Statement Cert.SsmOutIdeal.κ "cubic" .f32 0x3D372713#32 ((8943 / 200000 : ℝ) : EReal)
  ∧ IdealRules.named_const.Statement Cert.SsmOutIdeal.κ "cubic_grad" .f32 0x3E095D4F#32 ((26829 / 200000 : ℝ) : EReal)

def algebraic_SsmOutIdeal_SsmOutRefIdeal_pre_finite_ssm_out [hSsmOutIdeal : Cert.SsmOutIdeal.Facts] [hSsmOutRefIdeal : Cert.SsmOutRefIdeal.Facts] [hPre_finite_ssm_out : Cert.Pre_finite_ssm_out.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal_finite_ssm_out m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)
      ∧ m' ((c.tc : Thread Cert.SsmOutRefIdeal.nD Cert.SsmOutRefIdeal.τ).loc Cert.SsmOutRefIdeal.main_arg3) = m ((c.tc : Thread Cert.SsmOutIdeal.nD Cert.SsmOutIdeal.τ).loc Cert.SsmOutIdeal.main_arg3)
      ∧ m' ((c.tc : Thread Cert.SsmOutRefIdeal.nD Cert.SsmOutRefIdeal.τ).loc Cert.SsmOutRefIdeal.main_arg4) = m ((c.tc : Thread Cert.SsmOutIdeal.nD Cert.SsmOutIdeal.τ).loc Cert.SsmOutIdeal.main_arg4)
      ∧ m' ((c.tc : Thread Cert.SsmOutRefIdeal.nD Cert.SsmOutRefIdeal.τ).loc Cert.SsmOutRefIdeal.main_arg5) = m ((c.tc : Thread Cert.SsmOutIdeal.nD Cert.SsmOutIdeal.τ).loc Cert.SsmOutIdeal.main_arg5)) →
    ∃ (v0 : (c : Dev Cert.SsmOutIdeal.nD) → Buf (Elt Ideal) ((c.tc : Thread Cert.SsmOutIdeal.nD Cert.SsmOutIdeal.τ).loc Cert.SsmOutIdeal.main_v4_0)) (v1 : (c : Dev Cert.SsmOutIdeal.nD) → Buf (Elt Ideal) ((c.tc : Thread Cert.SsmOutIdeal.nD Cert.SsmOutIdeal.τ).loc Cert.SsmOutIdeal.main_v4_1)) (v2 : (c : Dev Cert.SsmOutIdeal.nD) → Buf (Elt Ideal) ((c.tc : Thread Cert.SsmOutIdeal.nD Cert.SsmOutIdeal.τ).loc Cert.SsmOutIdeal.main_v4_2)) (v3 : (c : Dev Cert.SsmOutIdeal.nD) → Buf (Elt Ideal) ((c.tc : Thread Cert.SsmOutIdeal.nD Cert.SsmOutIdeal.τ).loc Cert.SsmOutIdeal.main_v4_3)) (v4 : (c : Dev Cert.SsmOutIdeal.nD) → Buf (Elt Ideal) ((c.tc : Thread Cert.SsmOutIdeal.nD Cert.SsmOutIdeal.τ).loc Cert.SsmOutIdeal.main_v4_4)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v4_0) = v0 c
          ∧ r.2.mem ((c.tc : Thread Cert.SsmOutIdeal.nD Cert.SsmOutIdeal.τ).loc Cert.SsmOutIdeal.main_v4_1) = v1 c
          ∧ r.2.mem ((c.tc : Thread Cert.SsmOutIdeal.nD Cert.SsmOutIdeal.τ).loc Cert.SsmOutIdeal.main_v4_2) = v2 c
          ∧ r.2.mem ((c.tc : Thread Cert.SsmOutIdeal.nD Cert.SsmOutIdeal.τ).loc Cert.SsmOutIdeal.main_v4_3) = v3 c
          ∧ r.2.mem ((c.tc : Thread Cert.SsmOutIdeal.nD Cert.SsmOutIdeal.τ).loc Cert.SsmOutIdeal.main_v4_4) = v4 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3)
          ∧ r.2.mem ((c.tc : Thread Cert.SsmOutIdeal.nD Cert.SsmOutIdeal.τ).loc Cert.SsmOutIdeal.main_arg4) = m ((c.tc : Thread Cert.SsmOutIdeal.nD Cert.SsmOutIdeal.τ).loc Cert.SsmOutIdeal.main_arg4)
          ∧ r.2.mem ((c.tc : Thread Cert.SsmOutIdeal.nD Cert.SsmOutIdeal.τ).loc Cert.SsmOutIdeal.main_arg5) = m ((c.tc : Thread Cert.SsmOutIdeal.nD Cert.SsmOutIdeal.τ).loc Cert.SsmOutIdeal.main_arg5))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v69) = v0 c
          ∧ r.2.mem ((c.tc : Thread Cert.SsmOutRefIdeal.nD Cert.SsmOutRefIdeal.τ).loc Cert.SsmOutRefIdeal.main_v70) = v1 c
          ∧ r.2.mem ((c.tc : Thread Cert.SsmOutRefIdeal.nD Cert.SsmOutRefIdeal.τ).loc Cert.SsmOutRefIdeal.main_v53) = v2 c
          ∧ r.2.mem ((c.tc : Thread Cert.SsmOutRefIdeal.nD Cert.SsmOutRefIdeal.τ).loc Cert.SsmOutRefIdeal.main_v71) = v3 c
          ∧ r.2.mem ((c.tc : Thread Cert.SsmOutRefIdeal.nD Cert.SsmOutRefIdeal.τ).loc Cert.SsmOutRefIdeal.main_v41) = v4 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2)
          ∧ r.2.mem ((c.tc : Thread Cert.SsmOutRefIdeal.nD Cert.SsmOutRefIdeal.τ).loc Cert.SsmOutRefIdeal.main_arg3) = m' ((c.tc : Thread Cert.SsmOutRefIdeal.nD Cert.SsmOutRefIdeal.τ).loc Cert.SsmOutRefIdeal.main_arg3)
          ∧ r.2.mem ((c.tc : Thread Cert.SsmOutRefIdeal.nD Cert.SsmOutRefIdeal.τ).loc Cert.SsmOutRefIdeal.main_arg4) = m' ((c.tc : Thread Cert.SsmOutRefIdeal.nD Cert.SsmOutRefIdeal.τ).loc Cert.SsmOutRefIdeal.main_arg4)
          ∧ r.2.mem ((c.tc : Thread Cert.SsmOutRefIdeal.nD Cert.SsmOutRefIdeal.τ).loc Cert.SsmOutRefIdeal.main_arg5) = m' ((c.tc : Thread Cert.SsmOutRefIdeal.nD Cert.SsmOutRefIdeal.τ).loc Cert.SsmOutRefIdeal.main_arg5))

def preserves_OutLoss_OutLossIdeal : Prop :=
  True

def algebraic_OutLossIdeal_OutLossRefIdeal_pre_finite_loss [hOutLossIdeal : Cert.OutLossIdeal.Facts] [hOutLossRefIdeal : Cert.OutLossRefIdeal.Facts] [hPre_finite_loss : Cert.Pre_finite_loss.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_finite_loss m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)) →
    ∃ (v0 : (c : Dev Cert.OutLossIdeal.nD) → Buf (Elt Ideal) ((c.tc : Thread Cert.OutLossIdeal.nD Cert.OutLossIdeal.τ).loc Cert.OutLossIdeal.main_v3_0)) (v1 : (c : Dev Cert.OutLossIdeal.nD) → Buf (Elt Ideal) ((c.tc : Thread Cert.OutLossIdeal.nD Cert.OutLossIdeal.τ).loc Cert.OutLossIdeal.main_v3_1)) (v2 : (c : Dev Cert.OutLossIdeal.nD) → Buf (Elt Ideal) ((c.tc : Thread Cert.OutLossIdeal.nD Cert.OutLossIdeal.τ).loc Cert.OutLossIdeal.main_v3_2)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v3_0) = v0 c
          ∧ r.2.mem ((c.tc : Thread Cert.OutLossIdeal.nD Cert.OutLossIdeal.τ).loc Cert.OutLossIdeal.main_v3_1) = v1 c
          ∧ r.2.mem ((c.tc : Thread Cert.OutLossIdeal.nD Cert.OutLossIdeal.τ).loc Cert.OutLossIdeal.main_v3_2) = v2 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v55) = v0 c
          ∧ r.2.mem ((c.tc : Thread Cert.OutLossRefIdeal.nD Cert.OutLossRefIdeal.τ).loc Cert.OutLossRefIdeal.main_v54) = v1 c
          ∧ r.2.mem ((c.tc : Thread Cert.OutLossRefIdeal.nD Cert.OutLossRefIdeal.τ).loc Cert.OutLossRefIdeal.main_v56) = v2 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5))

def preserves_InSsm_InSsmIdeal : Prop :=
  True

def algebraic_InSsmIdeal_InSsmRefIdeal_pre_finite_inproj_ssm [hInSsmIdeal : Cert.InSsmIdeal.Facts] [hInSsmRefIdeal : Cert.InSsmRefIdeal.Facts] [hPre_finite_inproj_ssm : Cert.Pre_finite_inproj_ssm.Facts] : Prop :=
  ∀ (m : (ℓ : Loc Cert.InSsmIdeal.nD Cert.InSsmIdeal.τ Cert.InSsmIdeal.sig) → Buf (Elt Ideal) ℓ) (g : Dev Cert.InSsmIdeal.nD → PrngReg)
    (m' : (ℓ : Loc Cert.InSsmRefIdeal.nD Cert.InSsmRefIdeal.τ Cert.InSsmRefIdeal.sig) → Buf (Elt Ideal) ℓ) (g' : Dev Cert.InSsmRefIdeal.nD → PrngReg), Pre_InSsmIdeal_finite_inproj_ssm m →
    (∀ c : Dev Cert.InSsmIdeal.nD,
      m' ((c.tc : Thread Cert.InSsmRefIdeal.nD Cert.InSsmRefIdeal.τ).loc Cert.InSsmRefIdeal.main_arg0) = m ((c.tc : Thread Cert.InSsmIdeal.nD Cert.InSsmIdeal.τ).loc Cert.InSsmIdeal.main_arg0)
      ∧ m' ((c.tc : Thread Cert.InSsmRefIdeal.nD Cert.InSsmRefIdeal.τ).loc Cert.InSsmRefIdeal.main_arg1) = m ((c.tc : Thread Cert.InSsmIdeal.nD Cert.InSsmIdeal.τ).loc Cert.InSsmIdeal.main_arg1)
      ∧ m' ((c.tc : Thread Cert.InSsmRefIdeal.nD Cert.InSsmRefIdeal.τ).loc Cert.InSsmRefIdeal.main_arg2) = m ((c.tc : Thread Cert.InSsmIdeal.nD Cert.InSsmIdeal.τ).loc Cert.InSsmIdeal.main_arg2)
      ∧ m' ((c.tc : Thread Cert.InSsmRefIdeal.nD Cert.InSsmRefIdeal.τ).loc Cert.InSsmRefIdeal.main_arg3) = m ((c.tc : Thread Cert.InSsmIdeal.nD Cert.InSsmIdeal.τ).loc Cert.InSsmIdeal.main_arg3)
      ∧ m' ((c.tc : Thread Cert.InSsmRefIdeal.nD Cert.InSsmRefIdeal.τ).loc Cert.InSsmRefIdeal.main_arg4) = m ((c.tc : Thread Cert.InSsmIdeal.nD Cert.InSsmIdeal.τ).loc Cert.InSsmIdeal.main_arg4)
      ∧ m' ((c.tc : Thread Cert.InSsmRefIdeal.nD Cert.InSsmRefIdeal.τ).loc Cert.InSsmRefIdeal.main_arg5) = m ((c.tc : Thread Cert.InSsmIdeal.nD Cert.InSsmIdeal.τ).loc Cert.InSsmIdeal.main_arg5)) →
    ∃ (v0 : (c : Dev Cert.InSsmIdeal.nD) → Buf (Elt Ideal) ((c.tc : Thread Cert.InSsmIdeal.nD Cert.InSsmIdeal.τ).loc Cert.InSsmIdeal.main_v3_0)) (v1 : (c : Dev Cert.InSsmIdeal.nD) → Buf (Elt Ideal) ((c.tc : Thread Cert.InSsmIdeal.nD Cert.InSsmIdeal.τ).loc Cert.InSsmIdeal.main_v3_1)) (v2 : (c : Dev Cert.InSsmIdeal.nD) → Buf (Elt Ideal) ((c.tc : Thread Cert.InSsmIdeal.nD Cert.InSsmIdeal.τ).loc Cert.InSsmIdeal.main_v3_2)),
      θ_run (Cert.InSsmIdeal.defs (F := Ideal)) (onTc (τ := Cert.InSsmIdeal.τ) (Cert.InSsmIdeal.main (F := Ideal))) ⟨m, fun _ => 0, g⟩ (fun r => ∀ c : Dev Cert.InSsmIdeal.nD,
          r.2.mem ((c.tc : Thread Cert.InSsmIdeal.nD Cert.InSsmIdeal.τ).loc Cert.InSsmIdeal.main_v3_0) = v0 c
          ∧ r.2.mem ((c.tc : Thread Cert.InSsmIdeal.nD Cert.InSsmIdeal.τ).loc Cert.InSsmIdeal.main_v3_1) = v1 c
          ∧ r.2.mem ((c.tc : Thread Cert.InSsmIdeal.nD Cert.InSsmIdeal.τ).loc Cert.InSsmIdeal.main_v3_2) = v2 c
          ∧ r.2.mem ((c.tc : Thread Cert.InSsmIdeal.nD Cert.InSsmIdeal.τ).loc Cert.InSsmIdeal.main_arg0) = m ((c.tc : Thread Cert.InSsmIdeal.nD Cert.InSsmIdeal.τ).loc Cert.InSsmIdeal.main_arg0)
          ∧ r.2.mem ((c.tc : Thread Cert.InSsmIdeal.nD Cert.InSsmIdeal.τ).loc Cert.InSsmIdeal.main_arg1) = m ((c.tc : Thread Cert.InSsmIdeal.nD Cert.InSsmIdeal.τ).loc Cert.InSsmIdeal.main_arg1)
          ∧ r.2.mem ((c.tc : Thread Cert.InSsmIdeal.nD Cert.InSsmIdeal.τ).loc Cert.InSsmIdeal.main_arg2) = m ((c.tc : Thread Cert.InSsmIdeal.nD Cert.InSsmIdeal.τ).loc Cert.InSsmIdeal.main_arg2)
          ∧ r.2.mem ((c.tc : Thread Cert.InSsmIdeal.nD Cert.InSsmIdeal.τ).loc Cert.InSsmIdeal.main_arg3) = m ((c.tc : Thread Cert.InSsmIdeal.nD Cert.InSsmIdeal.τ).loc Cert.InSsmIdeal.main_arg3)
          ∧ r.2.mem ((c.tc : Thread Cert.InSsmIdeal.nD Cert.InSsmIdeal.τ).loc Cert.InSsmIdeal.main_arg4) = m ((c.tc : Thread Cert.InSsmIdeal.nD Cert.InSsmIdeal.τ).loc Cert.InSsmIdeal.main_arg4)
          ∧ r.2.mem ((c.tc : Thread Cert.InSsmIdeal.nD Cert.InSsmIdeal.τ).loc Cert.InSsmIdeal.main_arg5) = m ((c.tc : Thread Cert.InSsmIdeal.nD Cert.InSsmIdeal.τ).loc Cert.InSsmIdeal.main_arg5))
      ∧ θ_run (Cert.InSsmRefIdeal.defs (F := Ideal)) (onTc (τ := Cert.InSsmRefIdeal.τ) (Cert.InSsmRefIdeal.main (F := Ideal))) ⟨m', fun _ => 0, g'⟩ (fun r => ∀ c : Dev Cert.InSsmRefIdeal.nD,
          r.2.mem ((c.tc : Thread Cert.InSsmRefIdeal.nD Cert.InSsmRefIdeal.τ).loc Cert.InSsmRefIdeal.main_v43) = v0 c
          ∧ r.2.mem ((c.tc : Thread Cert.InSsmRefIdeal.nD Cert.InSsmRefIdeal.τ).loc Cert.InSsmRefIdeal.main_v21) = v1 c
          ∧ r.2.mem ((c.tc : Thread Cert.InSsmRefIdeal.nD Cert.InSsmRefIdeal.τ).loc Cert.InSsmRefIdeal.main_v44) = v2 c
          ∧ r.2.mem ((c.tc : Thread Cert.InSsmRefIdeal.nD Cert.InSsmRefIdeal.τ).loc Cert.InSsmRefIdeal.main_arg0) = m' ((c.tc : Thread Cert.InSsmRefIdeal.nD Cert.InSsmRefIdeal.τ).loc Cert.InSsmRefIdeal.main_arg0)
          ∧ r.2.mem ((c.tc : Thread Cert.InSsmRefIdeal.nD Cert.InSsmRefIdeal.τ).loc Cert.InSsmRefIdeal.main_arg1) = m' ((c.tc : Thread Cert.InSsmRefIdeal.nD Cert.InSsmRefIdeal.τ).loc Cert.InSsmRefIdeal.main_arg1)
          ∧ r.2.mem ((c.tc : Thread Cert.InSsmRefIdeal.nD Cert.InSsmRefIdeal.τ).loc Cert.InSsmRefIdeal.main_arg2) = m' ((c.tc : Thread Cert.InSsmRefIdeal.nD Cert.InSsmRefIdeal.τ).loc Cert.InSsmRefIdeal.main_arg2)
          ∧ r.2.mem ((c.tc : Thread Cert.InSsmRefIdeal.nD Cert.InSsmRefIdeal.τ).loc Cert.InSsmRefIdeal.main_arg3) = m' ((c.tc : Thread Cert.InSsmRefIdeal.nD Cert.InSsmRefIdeal.τ).loc Cert.InSsmRefIdeal.main_arg3)
          ∧ r.2.mem ((c.tc : Thread Cert.InSsmRefIdeal.nD Cert.InSsmRefIdeal.τ).loc Cert.InSsmRefIdeal.main_arg4) = m' ((c.tc : Thread Cert.InSsmRefIdeal.nD Cert.InSsmRefIdeal.τ).loc Cert.InSsmRefIdeal.main_arg4)
          ∧ r.2.mem ((c.tc : Thread Cert.InSsmRefIdeal.nD Cert.InSsmRefIdeal.τ).loc Cert.InSsmRefIdeal.main_arg5) = m' ((c.tc : Thread Cert.InSsmRefIdeal.nD Cert.InSsmRefIdeal.τ).loc Cert.InSsmRefIdeal.main_arg5))

def preserves_InAttn_InAttnIdeal : Prop :=
  True

def algebraic_InAttnIdeal_InAttnRefIdeal_pre_finite_inproj_attn [hInAttnIdeal : Cert.InAttnIdeal.Facts] [hInAttnRefIdeal : Cert.InAttnRefIdeal.Facts] [hPre_finite_inproj_attn : Cert.Pre_finite_inproj_attn.Facts] : Prop :=
  ∀ (m : (ℓ : Loc Cert.InAttnIdeal.nD Cert.InAttnIdeal.τ Cert.InAttnIdeal.sig) → Buf (Elt Ideal) ℓ) (g : Dev Cert.InAttnIdeal.nD → PrngReg)
    (m' : (ℓ : Loc Cert.InAttnRefIdeal.nD Cert.InAttnRefIdeal.τ Cert.InAttnRefIdeal.sig) → Buf (Elt Ideal) ℓ) (g' : Dev Cert.InAttnRefIdeal.nD → PrngReg), Pre_InAttnIdeal_finite_inproj_attn m →
    (∀ c : Dev Cert.InAttnIdeal.nD,
      m' ((c.tc : Thread Cert.InAttnRefIdeal.nD Cert.InAttnRefIdeal.τ).loc Cert.InAttnRefIdeal.main_arg0) = m ((c.tc : Thread Cert.InAttnIdeal.nD Cert.InAttnIdeal.τ).loc Cert.InAttnIdeal.main_arg0)
      ∧ m' ((c.tc : Thread Cert.InAttnRefIdeal.nD Cert.InAttnRefIdeal.τ).loc Cert.InAttnRefIdeal.main_arg1) = m ((c.tc : Thread Cert.InAttnIdeal.nD Cert.InAttnIdeal.τ).loc Cert.InAttnIdeal.main_arg1)
      ∧ m' ((c.tc : Thread Cert.InAttnRefIdeal.nD Cert.InAttnRefIdeal.τ).loc Cert.InAttnRefIdeal.main_arg2) = m ((c.tc : Thread Cert.InAttnIdeal.nD Cert.InAttnIdeal.τ).loc Cert.InAttnIdeal.main_arg2)
      ∧ m' ((c.tc : Thread Cert.InAttnRefIdeal.nD Cert.InAttnRefIdeal.τ).loc Cert.InAttnRefIdeal.main_arg3) = m ((c.tc : Thread Cert.InAttnIdeal.nD Cert.InAttnIdeal.τ).loc Cert.InAttnIdeal.main_arg3)
      ∧ m' ((c.tc : Thread Cert.InAttnRefIdeal.nD Cert.InAttnRefIdeal.τ).loc Cert.InAttnRefIdeal.main_arg4) = m ((c.tc : Thread Cert.InAttnIdeal.nD Cert.InAttnIdeal.τ).loc Cert.InAttnIdeal.main_arg4)
      ∧ m' ((c.tc : Thread Cert.InAttnRefIdeal.nD Cert.InAttnRefIdeal.τ).loc Cert.InAttnRefIdeal.main_arg5) = m ((c.tc : Thread Cert.InAttnIdeal.nD Cert.InAttnIdeal.τ).loc Cert.InAttnIdeal.main_arg5)
      ∧ m' ((c.tc : Thread Cert.InAttnRefIdeal.nD Cert.InAttnRefIdeal.τ).loc Cert.InAttnRefIdeal.main_arg6) = m ((c.tc : Thread Cert.InAttnIdeal.nD Cert.InAttnIdeal.τ).loc Cert.InAttnIdeal.main_arg6)
      ∧ m' ((c.tc : Thread Cert.InAttnRefIdeal.nD Cert.InAttnRefIdeal.τ).loc Cert.InAttnRefIdeal.main_arg7) = m ((c.tc : Thread Cert.InAttnIdeal.nD Cert.InAttnIdeal.τ).loc Cert.InAttnIdeal.main_arg7)) →
    ∃ (v0 : (c : Dev Cert.InAttnIdeal.nD) → Buf (Elt Ideal) ((c.tc : Thread Cert.InAttnIdeal.nD Cert.InAttnIdeal.τ).loc Cert.InAttnIdeal.main_v6_0)) (v1 : (c : Dev Cert.InAttnIdeal.nD) → Buf (Elt Ideal) ((c.tc : Thread Cert.InAttnIdeal.nD Cert.InAttnIdeal.τ).loc Cert.InAttnIdeal.main_v6_1)) (v2 : (c : Dev Cert.InAttnIdeal.nD) → Buf (Elt Ideal) ((c.tc : Thread Cert.InAttnIdeal.nD Cert.InAttnIdeal.τ).loc Cert.InAttnIdeal.main_v6_2)),
      θ_run (Cert.InAttnIdeal.defs (F := Ideal)) (onTc (τ := Cert.InAttnIdeal.τ) (Cert.InAttnIdeal.main (F := Ideal))) ⟨m, fun _ => 0, g⟩ (fun r => ∀ c : Dev Cert.InAttnIdeal.nD,
          r.2.mem ((c.tc : Thread Cert.InAttnIdeal.nD Cert.InAttnIdeal.τ).loc Cert.InAttnIdeal.main_v6_0) = v0 c
          ∧ r.2.mem ((c.tc : Thread Cert.InAttnIdeal.nD Cert.InAttnIdeal.τ).loc Cert.InAttnIdeal.main_v6_1) = v1 c
          ∧ r.2.mem ((c.tc : Thread Cert.InAttnIdeal.nD Cert.InAttnIdeal.τ).loc Cert.InAttnIdeal.main_v6_2) = v2 c
          ∧ r.2.mem ((c.tc : Thread Cert.InAttnIdeal.nD Cert.InAttnIdeal.τ).loc Cert.InAttnIdeal.main_arg0) = m ((c.tc : Thread Cert.InAttnIdeal.nD Cert.InAttnIdeal.τ).loc Cert.InAttnIdeal.main_arg0)
          ∧ r.2.mem ((c.tc : Thread Cert.InAttnIdeal.nD Cert.InAttnIdeal.τ).loc Cert.InAttnIdeal.main_arg1) = m ((c.tc : Thread Cert.InAttnIdeal.nD Cert.InAttnIdeal.τ).loc Cert.InAttnIdeal.main_arg1)
          ∧ r.2.mem ((c.tc : Thread Cert.InAttnIdeal.nD Cert.InAttnIdeal.τ).loc Cert.InAttnIdeal.main_arg2) = m ((c.tc : Thread Cert.InAttnIdeal.nD Cert.InAttnIdeal.τ).loc Cert.InAttnIdeal.main_arg2)
          ∧ r.2.mem ((c.tc : Thread Cert.InAttnIdeal.nD Cert.InAttnIdeal.τ).loc Cert.InAttnIdeal.main_arg3) = m ((c.tc : Thread Cert.InAttnIdeal.nD Cert.InAttnIdeal.τ).loc Cert.InAttnIdeal.main_arg3)
          ∧ r.2.mem ((c.tc : Thread Cert.InAttnIdeal.nD Cert.InAttnIdeal.τ).loc Cert.InAttnIdeal.main_arg4) = m ((c.tc : Thread Cert.InAttnIdeal.nD Cert.InAttnIdeal.τ).loc Cert.InAttnIdeal.main_arg4)
          ∧ r.2.mem ((c.tc : Thread Cert.InAttnIdeal.nD Cert.InAttnIdeal.τ).loc Cert.InAttnIdeal.main_arg5) = m ((c.tc : Thread Cert.InAttnIdeal.nD Cert.InAttnIdeal.τ).loc Cert.InAttnIdeal.main_arg5)
          ∧ r.2.mem ((c.tc : Thread Cert.InAttnIdeal.nD Cert.InAttnIdeal.τ).loc Cert.InAttnIdeal.main_arg6) = m ((c.tc : Thread Cert.InAttnIdeal.nD Cert.InAttnIdeal.τ).loc Cert.InAttnIdeal.main_arg6)
          ∧ r.2.mem ((c.tc : Thread Cert.InAttnIdeal.nD Cert.InAttnIdeal.τ).loc Cert.InAttnIdeal.main_arg7) = m ((c.tc : Thread Cert.InAttnIdeal.nD Cert.InAttnIdeal.τ).loc Cert.InAttnIdeal.main_arg7))
      ∧ θ_run (Cert.InAttnRefIdeal.defs (F := Ideal)) (onTc (τ := Cert.InAttnRefIdeal.τ) (Cert.InAttnRefIdeal.main (F := Ideal))) ⟨m', fun _ => 0, g'⟩ (fun r => ∀ c : Dev Cert.InAttnRefIdeal.nD,
          r.2.mem ((c.tc : Thread Cert.InAttnRefIdeal.nD Cert.InAttnRefIdeal.τ).loc Cert.InAttnRefIdeal.main_v45) = v0 c
          ∧ r.2.mem ((c.tc : Thread Cert.InAttnRefIdeal.nD Cert.InAttnRefIdeal.τ).loc Cert.InAttnRefIdeal.main_v23) = v1 c
          ∧ r.2.mem ((c.tc : Thread Cert.InAttnRefIdeal.nD Cert.InAttnRefIdeal.τ).loc Cert.InAttnRefIdeal.main_v46) = v2 c
          ∧ r.2.mem ((c.tc : Thread Cert.InAttnRefIdeal.nD Cert.InAttnRefIdeal.τ).loc Cert.InAttnRefIdeal.main_arg0) = m' ((c.tc : Thread Cert.InAttnRefIdeal.nD Cert.InAttnRefIdeal.τ).loc Cert.InAttnRefIdeal.main_arg0)
          ∧ r.2.mem ((c.tc : Thread Cert.InAttnRefIdeal.nD Cert.InAttnRefIdeal.τ).loc Cert.InAttnRefIdeal.main_arg1) = m' ((c.tc : Thread Cert.InAttnRefIdeal.nD Cert.InAttnRefIdeal.τ).loc Cert.InAttnRefIdeal.main_arg1)
          ∧ r.2.mem ((c.tc : Thread Cert.InAttnRefIdeal.nD Cert.InAttnRefIdeal.τ).loc Cert.InAttnRefIdeal.main_arg2) = m' ((c.tc : Thread Cert.InAttnRefIdeal.nD Cert.InAttnRefIdeal.τ).loc Cert.InAttnRefIdeal.main_arg2)
          ∧ r.2.mem ((c.tc : Thread Cert.InAttnRefIdeal.nD Cert.InAttnRefIdeal.τ).loc Cert.InAttnRefIdeal.main_arg3) = m' ((c.tc : Thread Cert.InAttnRefIdeal.nD Cert.InAttnRefIdeal.τ).loc Cert.InAttnRefIdeal.main_arg3)
          ∧ r.2.mem ((c.tc : Thread Cert.InAttnRefIdeal.nD Cert.InAttnRefIdeal.τ).loc Cert.InAttnRefIdeal.main_arg4) = m' ((c.tc : Thread Cert.InAttnRefIdeal.nD Cert.InAttnRefIdeal.τ).loc Cert.InAttnRefIdeal.main_arg4)
          ∧ r.2.mem ((c.tc : Thread Cert.InAttnRefIdeal.nD Cert.InAttnRefIdeal.τ).loc Cert.InAttnRefIdeal.main_arg5) = m' ((c.tc : Thread Cert.InAttnRefIdeal.nD Cert.InAttnRefIdeal.τ).loc Cert.InAttnRefIdeal.main_arg5)
          ∧ r.2.mem ((c.tc : Thread Cert.InAttnRefIdeal.nD Cert.InAttnRefIdeal.τ).loc Cert.InAttnRefIdeal.main_arg6) = m' ((c.tc : Thread Cert.InAttnRefIdeal.nD Cert.InAttnRefIdeal.τ).loc Cert.InAttnRefIdeal.main_arg6)
          ∧ r.2.mem ((c.tc : Thread Cert.InAttnRefIdeal.nD Cert.InAttnRefIdeal.τ).loc Cert.InAttnRefIdeal.main_arg7) = m' ((c.tc : Thread Cert.InAttnRefIdeal.nD Cert.InAttnRefIdeal.τ).loc Cert.InAttnRefIdeal.main_arg7))

def preserves_S5b_S5bIdeal : Prop :=
  True

def algebraic_S5bIdeal_S5bRefIdeal [hS5bIdeal : Cert.S5bIdeal.Facts] [hS5bRefIdeal : Cert.S5bRefIdeal.Facts] : Prop :=
  ∀ (m : (ℓ : Loc Cert.S5bIdeal.nD Cert.S5bIdeal.τ Cert.S5bIdeal.sig) → Buf (Elt Ideal) ℓ) (g : Dev Cert.S5bIdeal.nD → PrngReg)
    (m' : (ℓ : Loc Cert.S5bRefIdeal.nD Cert.S5bRefIdeal.τ Cert.S5bRefIdeal.sig) → Buf (Elt Ideal) ℓ) (g' : Dev Cert.S5bRefIdeal.nD → PrngReg), Pre_S5bIdeal m →
    (∀ c : Dev Cert.S5bIdeal.nD,
      m' ((c.tc : Thread Cert.S5bRefIdeal.nD Cert.S5bRefIdeal.τ).loc Cert.S5bRefIdeal.main_arg0) = m ((c.tc : Thread Cert.S5bIdeal.nD Cert.S5bIdeal.τ).loc Cert.S5bIdeal.main_arg0)
      ∧ m' ((c.tc : Thread Cert.S5bRefIdeal.nD Cert.S5bRefIdeal.τ).loc Cert.S5bRefIdeal.main_arg1) = m ((c.tc : Thread Cert.S5bIdeal.nD Cert.S5bIdeal.τ).loc Cert.S5bIdeal.main_arg1)
      ∧ m' ((c.tc : Thread Cert.S5bRefIdeal.nD Cert.S5bRefIdeal.τ).loc Cert.S5bRefIdeal.main_arg2) = m ((c.tc : Thread Cert.S5bIdeal.nD Cert.S5bIdeal.τ).loc Cert.S5bIdeal.main_arg2)
      ∧ m' ((c.tc : Thread Cert.S5bRefIdeal.nD Cert.S5bRefIdeal.τ).loc Cert.S5bRefIdeal.main_arg3) = m ((c.tc : Thread Cert.S5bIdeal.nD Cert.S5bIdeal.τ).loc Cert.S5bIdeal.main_arg3)
      ∧ m' ((c.tc : Thread Cert.S5bRefIdeal.nD Cert.S5bRefIdeal.τ).loc Cert.S5bRefIdeal.main_arg4) = m ((c.tc : Thread Cert.S5bIdeal.nD Cert.S5bIdeal.τ).loc Cert.S5bIdeal.main_arg4)
      ∧ m' ((c.tc : Thread Cert.S5bRefIdeal.nD Cert.S5bRefIdeal.τ).loc Cert.S5bRefIdeal.main_arg5) = m ((c.tc : Thread Cert.S5bIdeal.nD Cert.S5bIdeal.τ).loc Cert.S5bIdeal.main_arg5)
      ∧ m' ((c.tc : Thread Cert.S5bRefIdeal.nD Cert.S5bRefIdeal.τ).loc Cert.S5bRefIdeal.main_arg6) = m ((c.tc : Thread Cert.S5bIdeal.nD Cert.S5bIdeal.τ).loc Cert.S5bIdeal.main_arg6)
      ∧ m' ((c.tc : Thread Cert.S5bRefIdeal.nD Cert.S5bRefIdeal.τ).loc Cert.S5bRefIdeal.main_arg7) = m ((c.tc : Thread Cert.S5bIdeal.nD Cert.S5bIdeal.τ).loc Cert.S5bIdeal.main_arg7)
      ∧ m' ((c.tc : Thread Cert.S5bRefIdeal.nD Cert.S5bRefIdeal.τ).loc Cert.S5bRefIdeal.main_arg8) = m ((c.tc : Thread Cert.S5bIdeal.nD Cert.S5bIdeal.τ).loc Cert.S5bIdeal.main_arg8)
      ∧ m' ((c.tc : Thread Cert.S5bRefIdeal.nD Cert.S5bRefIdeal.τ).loc Cert.S5bRefIdeal.main_arg9) = m ((c.tc : Thread Cert.S5bIdeal.nD Cert.S5bIdeal.τ).loc Cert.S5bIdeal.main_arg9)) →
    ∃ (v0 : (c : Dev Cert.S5bIdeal.nD) → Buf (Elt Ideal) ((c.tc : Thread Cert.S5bIdeal.nD Cert.S5bIdeal.τ).loc Cert.S5bIdeal.main_v54_0)) (v1 : (c : Dev Cert.S5bIdeal.nD) → Buf (Elt Ideal) ((c.tc : Thread Cert.S5bIdeal.nD Cert.S5bIdeal.τ).loc Cert.S5bIdeal.main_v54_1)) (v2 : (c : Dev Cert.S5bIdeal.nD) → Buf (Elt Ideal) ((c.tc : Thread Cert.S5bIdeal.nD Cert.S5bIdeal.τ).loc Cert.S5bIdeal.main_v54_2)) (v3 : (c : Dev Cert.S5bIdeal.nD) → Buf (Elt Ideal) ((c.tc : Thread Cert.S5bIdeal.nD Cert.S5bIdeal.τ).loc Cert.S5bIdeal.main_v54_3)) (v4 : (c : Dev Cert.S5bIdeal.nD) → Buf (Elt Ideal) ((c.tc : Thread Cert.S5bIdeal.nD Cert.S5bIdeal.τ).loc Cert.S5bIdeal.main_v54_4)),
      θ_run (Cert.S5bIdeal.defs (F := Ideal)) (onTc (τ := Cert.S5bIdeal.τ) (Cert.S5bIdeal.main (F := Ideal))) ⟨m, fun _ => 0, g⟩ (fun r => ∀ c : Dev Cert.S5bIdeal.nD,
          r.2.mem ((c.tc : Thread Cert.S5bIdeal.nD Cert.S5bIdeal.τ).loc Cert.S5bIdeal.main_v54_0) = v0 c
          ∧ r.2.mem ((c.tc : Thread Cert.S5bIdeal.nD Cert.S5bIdeal.τ).loc Cert.S5bIdeal.main_v54_1) = v1 c
          ∧ r.2.mem ((c.tc : Thread Cert.S5bIdeal.nD Cert.S5bIdeal.τ).loc Cert.S5bIdeal.main_v54_2) = v2 c
          ∧ r.2.mem ((c.tc : Thread Cert.S5bIdeal.nD Cert.S5bIdeal.τ).loc Cert.S5bIdeal.main_v54_3) = v3 c
          ∧ r.2.mem ((c.tc : Thread Cert.S5bIdeal.nD Cert.S5bIdeal.τ).loc Cert.S5bIdeal.main_v54_4) = v4 c
          ∧ r.2.mem ((c.tc : Thread Cert.S5bIdeal.nD Cert.S5bIdeal.τ).loc Cert.S5bIdeal.main_arg0) = m ((c.tc : Thread Cert.S5bIdeal.nD Cert.S5bIdeal.τ).loc Cert.S5bIdeal.main_arg0)
          ∧ r.2.mem ((c.tc : Thread Cert.S5bIdeal.nD Cert.S5bIdeal.τ).loc Cert.S5bIdeal.main_arg1) = m ((c.tc : Thread Cert.S5bIdeal.nD Cert.S5bIdeal.τ).loc Cert.S5bIdeal.main_arg1)
          ∧ r.2.mem ((c.tc : Thread Cert.S5bIdeal.nD Cert.S5bIdeal.τ).loc Cert.S5bIdeal.main_arg2) = m ((c.tc : Thread Cert.S5bIdeal.nD Cert.S5bIdeal.τ).loc Cert.S5bIdeal.main_arg2)
          ∧ r.2.mem ((c.tc : Thread Cert.S5bIdeal.nD Cert.S5bIdeal.τ).loc Cert.S5bIdeal.main_arg3) = m ((c.tc : Thread Cert.S5bIdeal.nD Cert.S5bIdeal.τ).loc Cert.S5bIdeal.main_arg3)
          ∧ r.2.mem ((c.tc : Thread Cert.S5bIdeal.nD Cert.S5bIdeal.τ).loc Cert.S5bIdeal.main_arg4) = m ((c.tc : Thread Cert.S5bIdeal.nD Cert.S5bIdeal.τ).loc Cert.S5bIdeal.main_arg4)
          ∧ r.2.mem ((c.tc : Thread Cert.S5bIdeal.nD Cert.S5bIdeal.τ).loc Cert.S5bIdeal.main_arg5) = m ((c.tc : Thread Cert.S5bIdeal.nD Cert.S5bIdeal.τ).loc Cert.S5bIdeal.main_arg5)
          ∧ r.2.mem ((c.tc : Thread Cert.S5bIdeal.nD Cert.S5bIdeal.τ).loc Cert.S5bIdeal.main_arg6) = m ((c.tc : Thread Cert.S5bIdeal.nD Cert.S5bIdeal.τ).loc Cert.S5bIdeal.main_arg6)
          ∧ r.2.mem ((c.tc : Thread Cert.S5bIdeal.nD Cert.S5bIdeal.τ).loc Cert.S5bIdeal.main_arg7) = m ((c.tc : Thread Cert.S5bIdeal.nD Cert.S5bIdeal.τ).loc Cert.S5bIdeal.main_arg7)
          ∧ r.2.mem ((c.tc : Thread Cert.S5bIdeal.nD Cert.S5bIdeal.τ).loc Cert.S5bIdeal.main_arg8) = m ((c.tc : Thread Cert.S5bIdeal.nD Cert.S5bIdeal.τ).loc Cert.S5bIdeal.main_arg8)
          ∧ r.2.mem ((c.tc : Thread Cert.S5bIdeal.nD Cert.S5bIdeal.τ).loc Cert.S5bIdeal.main_arg9) = m ((c.tc : Thread Cert.S5bIdeal.nD Cert.S5bIdeal.τ).loc Cert.S5bIdeal.main_arg9))
      ∧ θ_run (Cert.S5bRefIdeal.defs (F := Ideal)) (onTc (τ := Cert.S5bRefIdeal.τ) (Cert.S5bRefIdeal.main (F := Ideal))) ⟨m', fun _ => 0, g'⟩ (fun r => ∀ c : Dev Cert.S5bRefIdeal.nD,
          r.2.mem ((c.tc : Thread Cert.S5bRefIdeal.nD Cert.S5bRefIdeal.τ).loc Cert.S5bRefIdeal.main_v73) = v0 c
          ∧ r.2.mem ((c.tc : Thread Cert.S5bRefIdeal.nD Cert.S5bRefIdeal.τ).loc Cert.S5bRefIdeal.main_v74) = v1 c
          ∧ r.2.mem ((c.tc : Thread Cert.S5bRefIdeal.nD Cert.S5bRefIdeal.τ).loc Cert.S5bRefIdeal.main_v68) = v2 c
          ∧ r.2.mem ((c.tc : Thread Cert.S5bRefIdeal.nD Cert.S5bRefIdeal.τ).loc Cert.S5bRefIdeal.main_v46) = v3 c
          ∧ r.2.mem ((c.tc : Thread Cert.S5bRefIdeal.nD Cert.S5bRefIdeal.τ).loc Cert.S5bRefIdeal.main_v75) = v4 c
          ∧ r.2.mem ((c.tc : Thread Cert.S5bRefIdeal.nD Cert.S5bRefIdeal.τ).loc Cert.S5bRefIdeal.main_arg0) = m' ((c.tc : Thread Cert.S5bRefIdeal.nD Cert.S5bRefIdeal.τ).loc Cert.S5bRefIdeal.main_arg0)
          ∧ r.2.mem ((c.tc : Thread Cert.S5bRefIdeal.nD Cert.S5bRefIdeal.τ).loc Cert.S5bRefIdeal.main_arg1) = m' ((c.tc : Thread Cert.S5bRefIdeal.nD Cert.S5bRefIdeal.τ).loc Cert.S5bRefIdeal.main_arg1)
          ∧ r.2.mem ((c.tc : Thread Cert.S5bRefIdeal.nD Cert.S5bRefIdeal.τ).loc Cert.S5bRefIdeal.main_arg2) = m' ((c.tc : Thread Cert.S5bRefIdeal.nD Cert.S5bRefIdeal.τ).loc Cert.S5bRefIdeal.main_arg2)
          ∧ r.2.mem ((c.tc : Thread Cert.S5bRefIdeal.nD Cert.S5bRefIdeal.τ).loc Cert.S5bRefIdeal.main_arg3) = m' ((c.tc : Thread Cert.S5bRefIdeal.nD Cert.S5bRefIdeal.τ).loc Cert.S5bRefIdeal.main_arg3)
          ∧ r.2.mem ((c.tc : Thread Cert.S5bRefIdeal.nD Cert.S5bRefIdeal.τ).loc Cert.S5bRefIdeal.main_arg4) = m' ((c.tc : Thread Cert.S5bRefIdeal.nD Cert.S5bRefIdeal.τ).loc Cert.S5bRefIdeal.main_arg4)
          ∧ r.2.mem ((c.tc : Thread Cert.S5bRefIdeal.nD Cert.S5bRefIdeal.τ).loc Cert.S5bRefIdeal.main_arg5) = m' ((c.tc : Thread Cert.S5bRefIdeal.nD Cert.S5bRefIdeal.τ).loc Cert.S5bRefIdeal.main_arg5)
          ∧ r.2.mem ((c.tc : Thread Cert.S5bRefIdeal.nD Cert.S5bRefIdeal.τ).loc Cert.S5bRefIdeal.main_arg6) = m' ((c.tc : Thread Cert.S5bRefIdeal.nD Cert.S5bRefIdeal.τ).loc Cert.S5bRefIdeal.main_arg6)
          ∧ r.2.mem ((c.tc : Thread Cert.S5bRefIdeal.nD Cert.S5bRefIdeal.τ).loc Cert.S5bRefIdeal.main_arg7) = m' ((c.tc : Thread Cert.S5bRefIdeal.nD Cert.S5bRefIdeal.τ).loc Cert.S5bRefIdeal.main_arg7)
          ∧ r.2.mem ((c.tc : Thread Cert.S5bRefIdeal.nD Cert.S5bRefIdeal.τ).loc Cert.S5bRefIdeal.main_arg8) = m' ((c.tc : Thread Cert.S5bRefIdeal.nD Cert.S5bRefIdeal.τ).loc Cert.S5bRefIdeal.main_arg8)
          ∧ r.2.mem ((c.tc : Thread Cert.S5bRefIdeal.nD Cert.S5bRefIdeal.τ).loc Cert.S5bRefIdeal.main_arg9) = m' ((c.tc : Thread Cert.S5bRefIdeal.nD Cert.S5bRefIdeal.τ).loc Cert.S5bRefIdeal.main_arg9))

def preserves_S5p_S5pIdeal : Prop :=
  True

def algebraic_S5pIdeal_S5pRefIdeal [hS5pIdeal : Cert.S5pIdeal.Facts] [hS5pRefIdeal : Cert.S5pRefIdeal.Facts] : Prop :=
  ∀ (m : (ℓ : Loc Cert.S5pIdeal.nD Cert.S5pIdeal.τ Cert.S5pIdeal.sig) → Buf (Elt Ideal) ℓ) (g : Dev Cert.S5pIdeal.nD → PrngReg)
    (m' : (ℓ : Loc Cert.S5pRefIdeal.nD Cert.S5pRefIdeal.τ Cert.S5pRefIdeal.sig) → Buf (Elt Ideal) ℓ) (g' : Dev Cert.S5pRefIdeal.nD → PrngReg), Pre_S5pIdeal m →
    (∀ c : Dev Cert.S5pIdeal.nD,
      m' ((c.tc : Thread Cert.S5pRefIdeal.nD Cert.S5pRefIdeal.τ).loc Cert.S5pRefIdeal.main_arg0) = m ((c.tc : Thread Cert.S5pIdeal.nD Cert.S5pIdeal.τ).loc Cert.S5pIdeal.main_arg0)
      ∧ m' ((c.tc : Thread Cert.S5pRefIdeal.nD Cert.S5pRefIdeal.τ).loc Cert.S5pRefIdeal.main_arg1) = m ((c.tc : Thread Cert.S5pIdeal.nD Cert.S5pIdeal.τ).loc Cert.S5pIdeal.main_arg1)) →
    ∃ (v0 : (c : Dev Cert.S5pIdeal.nD) → Buf (Elt Ideal) ((c.tc : Thread Cert.S5pIdeal.nD Cert.S5pIdeal.τ).loc Cert.S5pIdeal.main_v2_0)) (v1 : (c : Dev Cert.S5pIdeal.nD) → Buf (Elt Ideal) ((c.tc : Thread Cert.S5pIdeal.nD Cert.S5pIdeal.τ).loc Cert.S5pIdeal.main_v2_1)),
      θ_run (Cert.S5pIdeal.defs (F := Ideal)) (onTc (τ := Cert.S5pIdeal.τ) (Cert.S5pIdeal.main (F := Ideal))) ⟨m, fun _ => 0, g⟩ (fun r => ∀ c : Dev Cert.S5pIdeal.nD,
          r.2.mem ((c.tc : Thread Cert.S5pIdeal.nD Cert.S5pIdeal.τ).loc Cert.S5pIdeal.main_v2_0) = v0 c
          ∧ r.2.mem ((c.tc : Thread Cert.S5pIdeal.nD Cert.S5pIdeal.τ).loc Cert.S5pIdeal.main_v2_1) = v1 c
          ∧ r.2.mem ((c.tc : Thread Cert.S5pIdeal.nD Cert.S5pIdeal.τ).loc Cert.S5pIdeal.main_arg0) = m ((c.tc : Thread Cert.S5pIdeal.nD Cert.S5pIdeal.τ).loc Cert.S5pIdeal.main_arg0)
          ∧ r.2.mem ((c.tc : Thread Cert.S5pIdeal.nD Cert.S5pIdeal.τ).loc Cert.S5pIdeal.main_arg1) = m ((c.tc : Thread Cert.S5pIdeal.nD Cert.S5pIdeal.τ).loc Cert.S5pIdeal.main_arg1))
      ∧ θ_run (Cert.S5pRefIdeal.defs (F := Ideal)) (onTc (τ := Cert.S5pRefIdeal.τ) (Cert.S5pRefIdeal.main (F := Ideal))) ⟨m', fun _ => 0, g'⟩ (fun r => ∀ c : Dev Cert.S5pRefIdeal.nD,
          r.2.mem ((c.tc : Thread Cert.S5pRefIdeal.nD Cert.S5pRefIdeal.τ).loc Cert.S5pRefIdeal.main_v15) = v0 c
          ∧ r.2.mem ((c.tc : Thread Cert.S5pRefIdeal.nD Cert.S5pRefIdeal.τ).loc Cert.S5pRefIdeal.main_v14) = v1 c
          ∧ r.2.mem ((c.tc : Thread Cert.S5pRefIdeal.nD Cert.S5pRefIdeal.τ).loc Cert.S5pRefIdeal.main_arg0) = m' ((c.tc : Thread Cert.S5pRefIdeal.nD Cert.S5pRefIdeal.τ).loc Cert.S5pRefIdeal.main_arg0)
          ∧ r.2.mem ((c.tc : Thread Cert.S5pRefIdeal.nD Cert.S5pRefIdeal.τ).loc Cert.S5pRefIdeal.main_arg1) = m' ((c.tc : Thread Cert.S5pRefIdeal.nD Cert.S5pRefIdeal.τ).loc Cert.S5pRefIdeal.main_arg1))

def preserves_Scan_ScanIdeal : Prop :=
  True

def preserves_S5o_S5oIdeal : Prop :=
  True

def algebraic_S5oIdeal_S5oRefIdeal [hS5oIdeal : Cert.S5oIdeal.Facts] [hS5oRefIdeal : Cert.S5oRefIdeal.Facts] : Prop :=
  ∀ (m : (ℓ : Loc Cert.S5oIdeal.nD Cert.S5oIdeal.τ Cert.S5oIdeal.sig) → Buf (Elt Ideal) ℓ) (g : Dev Cert.S5oIdeal.nD → PrngReg)
    (m' : (ℓ : Loc Cert.S5oRefIdeal.nD Cert.S5oRefIdeal.τ Cert.S5oRefIdeal.sig) → Buf (Elt Ideal) ℓ) (g' : Dev Cert.S5oRefIdeal.nD → PrngReg), Pre_S5oIdeal m →
    (∀ c : Dev Cert.S5oIdeal.nD,
      m' ((c.tc : Thread Cert.S5oRefIdeal.nD Cert.S5oRefIdeal.τ).loc Cert.S5oRefIdeal.main_arg0) = m ((c.tc : Thread Cert.S5oIdeal.nD Cert.S5oIdeal.τ).loc Cert.S5oIdeal.main_arg0)
      ∧ m' ((c.tc : Thread Cert.S5oRefIdeal.nD Cert.S5oRefIdeal.τ).loc Cert.S5oRefIdeal.main_arg1) = m ((c.tc : Thread Cert.S5oIdeal.nD Cert.S5oIdeal.τ).loc Cert.S5oIdeal.main_arg1)
      ∧ m' ((c.tc : Thread Cert.S5oRefIdeal.nD Cert.S5oRefIdeal.τ).loc Cert.S5oRefIdeal.main_arg2) = m ((c.tc : Thread Cert.S5oIdeal.nD Cert.S5oIdeal.τ).loc Cert.S5oIdeal.main_arg2)
      ∧ m' ((c.tc : Thread Cert.S5oRefIdeal.nD Cert.S5oRefIdeal.τ).loc Cert.S5oRefIdeal.main_arg3) = m ((c.tc : Thread Cert.S5oIdeal.nD Cert.S5oIdeal.τ).loc Cert.S5oIdeal.main_arg3)
      ∧ m' ((c.tc : Thread Cert.S5oRefIdeal.nD Cert.S5oRefIdeal.τ).loc Cert.S5oRefIdeal.main_arg4) = m ((c.tc : Thread Cert.S5oIdeal.nD Cert.S5oIdeal.τ).loc Cert.S5oIdeal.main_arg4)
      ∧ m' ((c.tc : Thread Cert.S5oRefIdeal.nD Cert.S5oRefIdeal.τ).loc Cert.S5oRefIdeal.main_arg5) = m ((c.tc : Thread Cert.S5oIdeal.nD Cert.S5oIdeal.τ).loc Cert.S5oIdeal.main_arg5)) →
    ∃ (v0 : (c : Dev Cert.S5oIdeal.nD) → Buf (Elt Ideal) ((c.tc : Thread Cert.S5oIdeal.nD Cert.S5oIdeal.τ).loc Cert.S5oIdeal.main_v52)),
      θ_run (Cert.S5oIdeal.defs (F := Ideal)) (onTc (τ := Cert.S5oIdeal.τ) (Cert.S5oIdeal.main (F := Ideal))) ⟨m, fun _ => 0, g⟩ (fun r => ∀ c : Dev Cert.S5oIdeal.nD,
          r.2.mem ((c.tc : Thread Cert.S5oIdeal.nD Cert.S5oIdeal.τ).loc Cert.S5oIdeal.main_v52) = v0 c
          ∧ r.2.mem ((c.tc : Thread Cert.S5oIdeal.nD Cert.S5oIdeal.τ).loc Cert.S5oIdeal.main_arg0) = m ((c.tc : Thread Cert.S5oIdeal.nD Cert.S5oIdeal.τ).loc Cert.S5oIdeal.main_arg0)
          ∧ r.2.mem ((c.tc : Thread Cert.S5oIdeal.nD Cert.S5oIdeal.τ).loc Cert.S5oIdeal.main_arg1) = m ((c.tc : Thread Cert.S5oIdeal.nD Cert.S5oIdeal.τ).loc Cert.S5oIdeal.main_arg1)
          ∧ r.2.mem ((c.tc : Thread Cert.S5oIdeal.nD Cert.S5oIdeal.τ).loc Cert.S5oIdeal.main_arg2) = m ((c.tc : Thread Cert.S5oIdeal.nD Cert.S5oIdeal.τ).loc Cert.S5oIdeal.main_arg2)
          ∧ r.2.mem ((c.tc : Thread Cert.S5oIdeal.nD Cert.S5oIdeal.τ).loc Cert.S5oIdeal.main_arg3) = m ((c.tc : Thread Cert.S5oIdeal.nD Cert.S5oIdeal.τ).loc Cert.S5oIdeal.main_arg3)
          ∧ r.2.mem ((c.tc : Thread Cert.S5oIdeal.nD Cert.S5oIdeal.τ).loc Cert.S5oIdeal.main_arg4) = m ((c.tc : Thread Cert.S5oIdeal.nD Cert.S5oIdeal.τ).loc Cert.S5oIdeal.main_arg4)
          ∧ r.2.mem ((c.tc : Thread Cert.S5oIdeal.nD Cert.S5oIdeal.τ).loc Cert.S5oIdeal.main_arg5) = m ((c.tc : Thread Cert.S5oIdeal.nD Cert.S5oIdeal.τ).loc Cert.S5oIdeal.main_arg5))
      ∧ θ_run (Cert.S5oRefIdeal.defs (F := Ideal)) (onTc (τ := Cert.S5oRefIdeal.τ) (Cert.S5oRefIdeal.main (F := Ideal))) ⟨m', fun _ => 0, g'⟩ (fun r => ∀ c : Dev Cert.S5oRefIdeal.nD,
          r.2.mem ((c.tc : Thread Cert.S5oRefIdeal.nD Cert.S5oRefIdeal.τ).loc Cert.S5oRefIdeal.main_v28) = v0 c
          ∧ r.2.mem ((c.tc : Thread Cert.S5oRefIdeal.nD Cert.S5oRefIdeal.τ).loc Cert.S5oRefIdeal.main_arg0) = m' ((c.tc : Thread Cert.S5oRefIdeal.nD Cert.S5oRefIdeal.τ).loc Cert.S5oRefIdeal.main_arg0)
          ∧ r.2.mem ((c.tc : Thread Cert.S5oRefIdeal.nD Cert.S5oRefIdeal.τ).loc Cert.S5oRefIdeal.main_arg1) = m' ((c.tc : Thread Cert.S5oRefIdeal.nD Cert.S5oRefIdeal.τ).loc Cert.S5oRefIdeal.main_arg1)
          ∧ r.2.mem ((c.tc : Thread Cert.S5oRefIdeal.nD Cert.S5oRefIdeal.τ).loc Cert.S5oRefIdeal.main_arg2) = m' ((c.tc : Thread Cert.S5oRefIdeal.nD Cert.S5oRefIdeal.τ).loc Cert.S5oRefIdeal.main_arg2)
          ∧ r.2.mem ((c.tc : Thread Cert.S5oRefIdeal.nD Cert.S5oRefIdeal.τ).loc Cert.S5oRefIdeal.main_arg3) = m' ((c.tc : Thread Cert.S5oRefIdeal.nD Cert.S5oRefIdeal.τ).loc Cert.S5oRefIdeal.main_arg3)
          ∧ r.2.mem ((c.tc : Thread Cert.S5oRefIdeal.nD Cert.S5oRefIdeal.τ).loc Cert.S5oRefIdeal.main_arg4) = m' ((c.tc : Thread Cert.S5oRefIdeal.nD Cert.S5oRefIdeal.τ).loc Cert.S5oRefIdeal.main_arg4)
          ∧ r.2.mem ((c.tc : Thread Cert.S5oRefIdeal.nD Cert.S5oRefIdeal.τ).loc Cert.S5oRefIdeal.main_arg5) = m' ((c.tc : Thread Cert.S5oRefIdeal.nD Cert.S5oRefIdeal.τ).loc Cert.S5oRefIdeal.main_arg5))

def preserves_AttnF_AttnFIdeal : Prop :=
  IdealRules.named_const.Statement Cert.AttnFIdeal.κ "mask" .f32 0xF149F2CA#32 ⊥

def algebraic_AttnFIdeal_AttnFRefIdeal_pre_finite_attn_fwd [hAttnFIdeal : Cert.AttnFIdeal.Facts] [hAttnFRefIdeal : Cert.AttnFRefIdeal.Facts] [hPre_finite_attn_fwd : Cert.Pre_finite_attn_fwd.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_finite_attn_fwd m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)) →
    ∃ (v0 : (c : Dev Cert.AttnFIdeal.nD) → Buf (Elt Ideal) ((c.tc : Thread Cert.AttnFIdeal.nD Cert.AttnFIdeal.τ).loc Cert.AttnFIdeal.main_v6)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v6) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v66) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3))

def preserves_AttnOutF_AttnOutFIdeal : Prop :=
  True

def algebraic_AttnOutFIdeal_AttnOutFRefIdeal [hAttnOutFIdeal : Cert.AttnOutFIdeal.Facts] [hAttnOutFRefIdeal : Cert.AttnOutFRefIdeal.Facts] : Prop :=
  ∀ (m : (ℓ : Loc Cert.AttnOutFIdeal.nD Cert.AttnOutFIdeal.τ Cert.AttnOutFIdeal.sig) → Buf (Elt Ideal) ℓ) (g : Dev Cert.AttnOutFIdeal.nD → PrngReg)
    (m' : (ℓ : Loc Cert.AttnOutFRefIdeal.nD Cert.AttnOutFRefIdeal.τ Cert.AttnOutFRefIdeal.sig) → Buf (Elt Ideal) ℓ) (g' : Dev Cert.AttnOutFRefIdeal.nD → PrngReg), Pre_AttnOutFIdeal m →
    (∀ c : Dev Cert.AttnOutFIdeal.nD,
      m' ((c.tc : Thread Cert.AttnOutFRefIdeal.nD Cert.AttnOutFRefIdeal.τ).loc Cert.AttnOutFRefIdeal.main_arg0) = m ((c.tc : Thread Cert.AttnOutFIdeal.nD Cert.AttnOutFIdeal.τ).loc Cert.AttnOutFIdeal.main_arg0)
      ∧ m' ((c.tc : Thread Cert.AttnOutFRefIdeal.nD Cert.AttnOutFRefIdeal.τ).loc Cert.AttnOutFRefIdeal.main_arg1) = m ((c.tc : Thread Cert.AttnOutFIdeal.nD Cert.AttnOutFIdeal.τ).loc Cert.AttnOutFIdeal.main_arg1)
      ∧ m' ((c.tc : Thread Cert.AttnOutFRefIdeal.nD Cert.AttnOutFRefIdeal.τ).loc Cert.AttnOutFRefIdeal.main_arg2) = m ((c.tc : Thread Cert.AttnOutFIdeal.nD Cert.AttnOutFIdeal.τ).loc Cert.AttnOutFIdeal.main_arg2)
      ∧ m' ((c.tc : Thread Cert.AttnOutFRefIdeal.nD Cert.AttnOutFRefIdeal.τ).loc Cert.AttnOutFRefIdeal.main_arg3) = m ((c.tc : Thread Cert.AttnOutFIdeal.nD Cert.AttnOutFIdeal.τ).loc Cert.AttnOutFIdeal.main_arg3)) →
    ∃ (v0 : (c : Dev Cert.AttnOutFIdeal.nD) → Buf (Elt Ideal) ((c.tc : Thread Cert.AttnOutFIdeal.nD Cert.AttnOutFIdeal.τ).loc Cert.AttnOutFIdeal.main_v2)),
      θ_run (Cert.AttnOutFIdeal.defs (F := Ideal)) (onTc (τ := Cert.AttnOutFIdeal.τ) (Cert.AttnOutFIdeal.main (F := Ideal))) ⟨m, fun _ => 0, g⟩ (fun r => ∀ c : Dev Cert.AttnOutFIdeal.nD,
          r.2.mem ((c.tc : Thread Cert.AttnOutFIdeal.nD Cert.AttnOutFIdeal.τ).loc Cert.AttnOutFIdeal.main_v2) = v0 c
          ∧ r.2.mem ((c.tc : Thread Cert.AttnOutFIdeal.nD Cert.AttnOutFIdeal.τ).loc Cert.AttnOutFIdeal.main_arg0) = m ((c.tc : Thread Cert.AttnOutFIdeal.nD Cert.AttnOutFIdeal.τ).loc Cert.AttnOutFIdeal.main_arg0)
          ∧ r.2.mem ((c.tc : Thread Cert.AttnOutFIdeal.nD Cert.AttnOutFIdeal.τ).loc Cert.AttnOutFIdeal.main_arg1) = m ((c.tc : Thread Cert.AttnOutFIdeal.nD Cert.AttnOutFIdeal.τ).loc Cert.AttnOutFIdeal.main_arg1)
          ∧ r.2.mem ((c.tc : Thread Cert.AttnOutFIdeal.nD Cert.AttnOutFIdeal.τ).loc Cert.AttnOutFIdeal.main_arg2) = m ((c.tc : Thread Cert.AttnOutFIdeal.nD Cert.AttnOutFIdeal.τ).loc Cert.AttnOutFIdeal.main_arg2)
          ∧ r.2.mem ((c.tc : Thread Cert.AttnOutFIdeal.nD Cert.AttnOutFIdeal.τ).loc Cert.AttnOutFIdeal.main_arg3) = m ((c.tc : Thread Cert.AttnOutFIdeal.nD Cert.AttnOutFIdeal.τ).loc Cert.AttnOutFIdeal.main_arg3))
      ∧ θ_run (Cert.AttnOutFRefIdeal.defs (F := Ideal)) (onTc (τ := Cert.AttnOutFRefIdeal.τ) (Cert.AttnOutFRefIdeal.main (F := Ideal))) ⟨m', fun _ => 0, g'⟩ (fun r => ∀ c : Dev Cert.AttnOutFRefIdeal.nD,
          r.2.mem ((c.tc : Thread Cert.AttnOutFRefIdeal.nD Cert.AttnOutFRefIdeal.τ).loc Cert.AttnOutFRefIdeal.main_v3) = v0 c
          ∧ r.2.mem ((c.tc : Thread Cert.AttnOutFRefIdeal.nD Cert.AttnOutFRefIdeal.τ).loc Cert.AttnOutFRefIdeal.main_arg0) = m' ((c.tc : Thread Cert.AttnOutFRefIdeal.nD Cert.AttnOutFRefIdeal.τ).loc Cert.AttnOutFRefIdeal.main_arg0)
          ∧ r.2.mem ((c.tc : Thread Cert.AttnOutFRefIdeal.nD Cert.AttnOutFRefIdeal.τ).loc Cert.AttnOutFRefIdeal.main_arg1) = m' ((c.tc : Thread Cert.AttnOutFRefIdeal.nD Cert.AttnOutFRefIdeal.τ).loc Cert.AttnOutFRefIdeal.main_arg1)
          ∧ r.2.mem ((c.tc : Thread Cert.AttnOutFRefIdeal.nD Cert.AttnOutFRefIdeal.τ).loc Cert.AttnOutFRefIdeal.main_arg2) = m' ((c.tc : Thread Cert.AttnOutFRefIdeal.nD Cert.AttnOutFRefIdeal.τ).loc Cert.AttnOutFRefIdeal.main_arg2)
          ∧ r.2.mem ((c.tc : Thread Cert.AttnOutFRefIdeal.nD Cert.AttnOutFRefIdeal.τ).loc Cert.AttnOutFRefIdeal.main_arg3) = m' ((c.tc : Thread Cert.AttnOutFRefIdeal.nD Cert.AttnOutFRefIdeal.τ).loc Cert.AttnOutFRefIdeal.main_arg3))

def preserves_SsmOutF_SsmOutFIdeal : Prop :=
  IdealRules.named_const.Statement Cert.SsmOutFIdeal.κ "cubic" .f32 0x3D372713#32 ((8943 / 200000 : ℝ) : EReal)

def algebraic_SsmOutFIdeal_SsmOutFRefIdeal [hSsmOutFIdeal : Cert.SsmOutFIdeal.Facts] [hSsmOutFRefIdeal : Cert.SsmOutFRefIdeal.Facts] : Prop :=
  ∀ (m : (ℓ : Loc Cert.SsmOutFIdeal.nD Cert.SsmOutFIdeal.τ Cert.SsmOutFIdeal.sig) → Buf (Elt Ideal) ℓ) (g : Dev Cert.SsmOutFIdeal.nD → PrngReg)
    (m' : (ℓ : Loc Cert.SsmOutFRefIdeal.nD Cert.SsmOutFRefIdeal.τ Cert.SsmOutFRefIdeal.sig) → Buf (Elt Ideal) ℓ) (g' : Dev Cert.SsmOutFRefIdeal.nD → PrngReg), Pre_SsmOutFIdeal m →
    (∀ c : Dev Cert.SsmOutFIdeal.nD,
      m' ((c.tc : Thread Cert.SsmOutFRefIdeal.nD Cert.SsmOutFRefIdeal.τ).loc Cert.SsmOutFRefIdeal.main_arg0) = m ((c.tc : Thread Cert.SsmOutFIdeal.nD Cert.SsmOutFIdeal.τ).loc Cert.SsmOutFIdeal.main_arg0)
      ∧ m' ((c.tc : Thread Cert.SsmOutFRefIdeal.nD Cert.SsmOutFRefIdeal.τ).loc Cert.SsmOutFRefIdeal.main_arg1) = m ((c.tc : Thread Cert.SsmOutFIdeal.nD Cert.SsmOutFIdeal.τ).loc Cert.SsmOutFIdeal.main_arg1)
      ∧ m' ((c.tc : Thread Cert.SsmOutFRefIdeal.nD Cert.SsmOutFRefIdeal.τ).loc Cert.SsmOutFRefIdeal.main_arg2) = m ((c.tc : Thread Cert.SsmOutFIdeal.nD Cert.SsmOutFIdeal.τ).loc Cert.SsmOutFIdeal.main_arg2)
      ∧ m' ((c.tc : Thread Cert.SsmOutFRefIdeal.nD Cert.SsmOutFRefIdeal.τ).loc Cert.SsmOutFRefIdeal.main_arg3) = m ((c.tc : Thread Cert.SsmOutFIdeal.nD Cert.SsmOutFIdeal.τ).loc Cert.SsmOutFIdeal.main_arg3)
      ∧ m' ((c.tc : Thread Cert.SsmOutFRefIdeal.nD Cert.SsmOutFRefIdeal.τ).loc Cert.SsmOutFRefIdeal.main_arg4) = m ((c.tc : Thread Cert.SsmOutFIdeal.nD Cert.SsmOutFIdeal.τ).loc Cert.SsmOutFIdeal.main_arg4)
      ∧ m' ((c.tc : Thread Cert.SsmOutFRefIdeal.nD Cert.SsmOutFRefIdeal.τ).loc Cert.SsmOutFRefIdeal.main_arg5) = m ((c.tc : Thread Cert.SsmOutFIdeal.nD Cert.SsmOutFIdeal.τ).loc Cert.SsmOutFIdeal.main_arg5)) →
    ∃ (v0 : (c : Dev Cert.SsmOutFIdeal.nD) → Buf (Elt Ideal) ((c.tc : Thread Cert.SsmOutFIdeal.nD Cert.SsmOutFIdeal.τ).loc Cert.SsmOutFIdeal.main_v4)),
      θ_run (Cert.SsmOutFIdeal.defs (F := Ideal)) (onTc (τ := Cert.SsmOutFIdeal.τ) (Cert.SsmOutFIdeal.main (F := Ideal))) ⟨m, fun _ => 0, g⟩ (fun r => ∀ c : Dev Cert.SsmOutFIdeal.nD,
          r.2.mem ((c.tc : Thread Cert.SsmOutFIdeal.nD Cert.SsmOutFIdeal.τ).loc Cert.SsmOutFIdeal.main_v4) = v0 c
          ∧ r.2.mem ((c.tc : Thread Cert.SsmOutFIdeal.nD Cert.SsmOutFIdeal.τ).loc Cert.SsmOutFIdeal.main_arg0) = m ((c.tc : Thread Cert.SsmOutFIdeal.nD Cert.SsmOutFIdeal.τ).loc Cert.SsmOutFIdeal.main_arg0)
          ∧ r.2.mem ((c.tc : Thread Cert.SsmOutFIdeal.nD Cert.SsmOutFIdeal.τ).loc Cert.SsmOutFIdeal.main_arg1) = m ((c.tc : Thread Cert.SsmOutFIdeal.nD Cert.SsmOutFIdeal.τ).loc Cert.SsmOutFIdeal.main_arg1)
          ∧ r.2.mem ((c.tc : Thread Cert.SsmOutFIdeal.nD Cert.SsmOutFIdeal.τ).loc Cert.SsmOutFIdeal.main_arg2) = m ((c.tc : Thread Cert.SsmOutFIdeal.nD Cert.SsmOutFIdeal.τ).loc Cert.SsmOutFIdeal.main_arg2)
          ∧ r.2.mem ((c.tc : Thread Cert.SsmOutFIdeal.nD Cert.SsmOutFIdeal.τ).loc Cert.SsmOutFIdeal.main_arg3) = m ((c.tc : Thread Cert.SsmOutFIdeal.nD Cert.SsmOutFIdeal.τ).loc Cert.SsmOutFIdeal.main_arg3)
          ∧ r.2.mem ((c.tc : Thread Cert.SsmOutFIdeal.nD Cert.SsmOutFIdeal.τ).loc Cert.SsmOutFIdeal.main_arg4) = m ((c.tc : Thread Cert.SsmOutFIdeal.nD Cert.SsmOutFIdeal.τ).loc Cert.SsmOutFIdeal.main_arg4)
          ∧ r.2.mem ((c.tc : Thread Cert.SsmOutFIdeal.nD Cert.SsmOutFIdeal.τ).loc Cert.SsmOutFIdeal.main_arg5) = m ((c.tc : Thread Cert.SsmOutFIdeal.nD Cert.SsmOutFIdeal.τ).loc Cert.SsmOutFIdeal.main_arg5))
      ∧ θ_run (Cert.SsmOutFRefIdeal.defs (F := Ideal)) (onTc (τ := Cert.SsmOutFRefIdeal.τ) (Cert.SsmOutFRefIdeal.main (F := Ideal))) ⟨m', fun _ => 0, g'⟩ (fun r => ∀ c : Dev Cert.SsmOutFRefIdeal.nD,
          r.2.mem ((c.tc : Thread Cert.SsmOutFRefIdeal.nD Cert.SsmOutFRefIdeal.τ).loc Cert.SsmOutFRefIdeal.main_v29) = v0 c
          ∧ r.2.mem ((c.tc : Thread Cert.SsmOutFRefIdeal.nD Cert.SsmOutFRefIdeal.τ).loc Cert.SsmOutFRefIdeal.main_arg0) = m' ((c.tc : Thread Cert.SsmOutFRefIdeal.nD Cert.SsmOutFRefIdeal.τ).loc Cert.SsmOutFRefIdeal.main_arg0)
          ∧ r.2.mem ((c.tc : Thread Cert.SsmOutFRefIdeal.nD Cert.SsmOutFRefIdeal.τ).loc Cert.SsmOutFRefIdeal.main_arg1) = m' ((c.tc : Thread Cert.SsmOutFRefIdeal.nD Cert.SsmOutFRefIdeal.τ).loc Cert.SsmOutFRefIdeal.main_arg1)
          ∧ r.2.mem ((c.tc : Thread Cert.SsmOutFRefIdeal.nD Cert.SsmOutFRefIdeal.τ).loc Cert.SsmOutFRefIdeal.main_arg2) = m' ((c.tc : Thread Cert.SsmOutFRefIdeal.nD Cert.SsmOutFRefIdeal.τ).loc Cert.SsmOutFRefIdeal.main_arg2)
          ∧ r.2.mem ((c.tc : Thread Cert.SsmOutFRefIdeal.nD Cert.SsmOutFRefIdeal.τ).loc Cert.SsmOutFRefIdeal.main_arg3) = m' ((c.tc : Thread Cert.SsmOutFRefIdeal.nD Cert.SsmOutFRefIdeal.τ).loc Cert.SsmOutFRefIdeal.main_arg3)
          ∧ r.2.mem ((c.tc : Thread Cert.SsmOutFRefIdeal.nD Cert.SsmOutFRefIdeal.τ).loc Cert.SsmOutFRefIdeal.main_arg4) = m' ((c.tc : Thread Cert.SsmOutFRefIdeal.nD Cert.SsmOutFRefIdeal.τ).loc Cert.SsmOutFRefIdeal.main_arg4)
          ∧ r.2.mem ((c.tc : Thread Cert.SsmOutFRefIdeal.nD Cert.SsmOutFRefIdeal.τ).loc Cert.SsmOutFRefIdeal.main_arg5) = m' ((c.tc : Thread Cert.SsmOutFRefIdeal.nD Cert.SsmOutFRefIdeal.τ).loc Cert.SsmOutFRefIdeal.main_arg5))

def preserves_InSsmF_InSsmFIdeal : Prop :=
  True

def algebraic_InSsmFIdeal_InSsmFRefIdeal [hInSsmFIdeal : Cert.InSsmFIdeal.Facts] [hInSsmFRefIdeal : Cert.InSsmFRefIdeal.Facts] : Prop :=
  ∀ (m : (ℓ : Loc Cert.InSsmFIdeal.nD Cert.InSsmFIdeal.τ Cert.InSsmFIdeal.sig) → Buf (Elt Ideal) ℓ) (g : Dev Cert.InSsmFIdeal.nD → PrngReg)
    (m' : (ℓ : Loc Cert.InSsmFRefIdeal.nD Cert.InSsmFRefIdeal.τ Cert.InSsmFRefIdeal.sig) → Buf (Elt Ideal) ℓ) (g' : Dev Cert.InSsmFRefIdeal.nD → PrngReg), Pre_InSsmFIdeal m →
    (∀ c : Dev Cert.InSsmFIdeal.nD,
      m' ((c.tc : Thread Cert.InSsmFRefIdeal.nD Cert.InSsmFRefIdeal.τ).loc Cert.InSsmFRefIdeal.main_arg0) = m ((c.tc : Thread Cert.InSsmFIdeal.nD Cert.InSsmFIdeal.τ).loc Cert.InSsmFIdeal.main_arg0)
      ∧ m' ((c.tc : Thread Cert.InSsmFRefIdeal.nD Cert.InSsmFRefIdeal.τ).loc Cert.InSsmFRefIdeal.main_arg1) = m ((c.tc : Thread Cert.InSsmFIdeal.nD Cert.InSsmFIdeal.τ).loc Cert.InSsmFIdeal.main_arg1)
      ∧ m' ((c.tc : Thread Cert.InSsmFRefIdeal.nD Cert.InSsmFRefIdeal.τ).loc Cert.InSsmFRefIdeal.main_arg2) = m ((c.tc : Thread Cert.InSsmFIdeal.nD Cert.InSsmFIdeal.τ).loc Cert.InSsmFIdeal.main_arg2)) →
    ∃ (v0 : (c : Dev Cert.InSsmFIdeal.nD) → Buf (Elt Ideal) ((c.tc : Thread Cert.InSsmFIdeal.nD Cert.InSsmFIdeal.τ).loc Cert.InSsmFIdeal.main_v2_0)) (v1 : (c : Dev Cert.InSsmFIdeal.nD) → Buf (Elt Ideal) ((c.tc : Thread Cert.InSsmFIdeal.nD Cert.InSsmFIdeal.τ).loc Cert.InSsmFIdeal.main_v2_1)),
      θ_run (Cert.InSsmFIdeal.defs (F := Ideal)) (onTc (τ := Cert.InSsmFIdeal.τ) (Cert.InSsmFIdeal.main (F := Ideal))) ⟨m, fun _ => 0, g⟩ (fun r => ∀ c : Dev Cert.InSsmFIdeal.nD,
          r.2.mem ((c.tc : Thread Cert.InSsmFIdeal.nD Cert.InSsmFIdeal.τ).loc Cert.InSsmFIdeal.main_v2_0) = v0 c
          ∧ r.2.mem ((c.tc : Thread Cert.InSsmFIdeal.nD Cert.InSsmFIdeal.τ).loc Cert.InSsmFIdeal.main_v2_1) = v1 c
          ∧ r.2.mem ((c.tc : Thread Cert.InSsmFIdeal.nD Cert.InSsmFIdeal.τ).loc Cert.InSsmFIdeal.main_arg0) = m ((c.tc : Thread Cert.InSsmFIdeal.nD Cert.InSsmFIdeal.τ).loc Cert.InSsmFIdeal.main_arg0)
          ∧ r.2.mem ((c.tc : Thread Cert.InSsmFIdeal.nD Cert.InSsmFIdeal.τ).loc Cert.InSsmFIdeal.main_arg1) = m ((c.tc : Thread Cert.InSsmFIdeal.nD Cert.InSsmFIdeal.τ).loc Cert.InSsmFIdeal.main_arg1)
          ∧ r.2.mem ((c.tc : Thread Cert.InSsmFIdeal.nD Cert.InSsmFIdeal.τ).loc Cert.InSsmFIdeal.main_arg2) = m ((c.tc : Thread Cert.InSsmFIdeal.nD Cert.InSsmFIdeal.τ).loc Cert.InSsmFIdeal.main_arg2))
      ∧ θ_run (Cert.InSsmFRefIdeal.defs (F := Ideal)) (onTc (τ := Cert.InSsmFRefIdeal.τ) (Cert.InSsmFRefIdeal.main (F := Ideal))) ⟨m', fun _ => 0, g'⟩ (fun r => ∀ c : Dev Cert.InSsmFRefIdeal.nD,
          r.2.mem ((c.tc : Thread Cert.InSsmFRefIdeal.nD Cert.InSsmFRefIdeal.τ).loc Cert.InSsmFRefIdeal.main_v14) = v0 c
          ∧ r.2.mem ((c.tc : Thread Cert.InSsmFRefIdeal.nD Cert.InSsmFRefIdeal.τ).loc Cert.InSsmFRefIdeal.main_v16) = v1 c
          ∧ r.2.mem ((c.tc : Thread Cert.InSsmFRefIdeal.nD Cert.InSsmFRefIdeal.τ).loc Cert.InSsmFRefIdeal.main_arg0) = m' ((c.tc : Thread Cert.InSsmFRefIdeal.nD Cert.InSsmFRefIdeal.τ).loc Cert.InSsmFRefIdeal.main_arg0)
          ∧ r.2.mem ((c.tc : Thread Cert.InSsmFRefIdeal.nD Cert.InSsmFRefIdeal.τ).loc Cert.InSsmFRefIdeal.main_arg1) = m' ((c.tc : Thread Cert.InSsmFRefIdeal.nD Cert.InSsmFRefIdeal.τ).loc Cert.InSsmFRefIdeal.main_arg1)
          ∧ r.2.mem ((c.tc : Thread Cert.InSsmFRefIdeal.nD Cert.InSsmFRefIdeal.τ).loc Cert.InSsmFRefIdeal.main_arg2) = m' ((c.tc : Thread Cert.InSsmFRefIdeal.nD Cert.InSsmFRefIdeal.τ).loc Cert.InSsmFRefIdeal.main_arg2))

def preserves_InAttnF_InAttnFIdeal : Prop :=
  True

def algebraic_InAttnFIdeal_InAttnFRefIdeal [hInAttnFIdeal : Cert.InAttnFIdeal.Facts] [hInAttnFRefIdeal : Cert.InAttnFRefIdeal.Facts] : Prop :=
  ∀ (m : (ℓ : Loc Cert.InAttnFIdeal.nD Cert.InAttnFIdeal.τ Cert.InAttnFIdeal.sig) → Buf (Elt Ideal) ℓ) (g : Dev Cert.InAttnFIdeal.nD → PrngReg)
    (m' : (ℓ : Loc Cert.InAttnFRefIdeal.nD Cert.InAttnFRefIdeal.τ Cert.InAttnFRefIdeal.sig) → Buf (Elt Ideal) ℓ) (g' : Dev Cert.InAttnFRefIdeal.nD → PrngReg), Pre_InAttnFIdeal m →
    (∀ c : Dev Cert.InAttnFIdeal.nD,
      m' ((c.tc : Thread Cert.InAttnFRefIdeal.nD Cert.InAttnFRefIdeal.τ).loc Cert.InAttnFRefIdeal.main_arg0) = m ((c.tc : Thread Cert.InAttnFIdeal.nD Cert.InAttnFIdeal.τ).loc Cert.InAttnFIdeal.main_arg0)
      ∧ m' ((c.tc : Thread Cert.InAttnFRefIdeal.nD Cert.InAttnFRefIdeal.τ).loc Cert.InAttnFRefIdeal.main_arg1) = m ((c.tc : Thread Cert.InAttnFIdeal.nD Cert.InAttnFIdeal.τ).loc Cert.InAttnFIdeal.main_arg1)
      ∧ m' ((c.tc : Thread Cert.InAttnFRefIdeal.nD Cert.InAttnFRefIdeal.τ).loc Cert.InAttnFRefIdeal.main_arg2) = m ((c.tc : Thread Cert.InAttnFIdeal.nD Cert.InAttnFIdeal.τ).loc Cert.InAttnFIdeal.main_arg2)
      ∧ m' ((c.tc : Thread Cert.InAttnFRefIdeal.nD Cert.InAttnFRefIdeal.τ).loc Cert.InAttnFRefIdeal.main_arg3) = m ((c.tc : Thread Cert.InAttnFIdeal.nD Cert.InAttnFIdeal.τ).loc Cert.InAttnFIdeal.main_arg3)
      ∧ m' ((c.tc : Thread Cert.InAttnFRefIdeal.nD Cert.InAttnFRefIdeal.τ).loc Cert.InAttnFRefIdeal.main_arg4) = m ((c.tc : Thread Cert.InAttnFIdeal.nD Cert.InAttnFIdeal.τ).loc Cert.InAttnFIdeal.main_arg4)) →
    ∃ (v0 : (c : Dev Cert.InAttnFIdeal.nD) → Buf (Elt Ideal) ((c.tc : Thread Cert.InAttnFIdeal.nD Cert.InAttnFIdeal.τ).loc Cert.InAttnFIdeal.main_v11_0)) (v1 : (c : Dev Cert.InAttnFIdeal.nD) → Buf (Elt Ideal) ((c.tc : Thread Cert.InAttnFIdeal.nD Cert.InAttnFIdeal.τ).loc Cert.InAttnFIdeal.main_v11_1)) (v2 : (c : Dev Cert.InAttnFIdeal.nD) → Buf (Elt Ideal) ((c.tc : Thread Cert.InAttnFIdeal.nD Cert.InAttnFIdeal.τ).loc Cert.InAttnFIdeal.main_v11_2)) (v3 : (c : Dev Cert.InAttnFIdeal.nD) → Buf (Elt Ideal) ((c.tc : Thread Cert.InAttnFIdeal.nD Cert.InAttnFIdeal.τ).loc Cert.InAttnFIdeal.main_v11_3)),
      θ_run (Cert.InAttnFIdeal.defs (F := Ideal)) (onTc (τ := Cert.InAttnFIdeal.τ) (Cert.InAttnFIdeal.main (F := Ideal))) ⟨m, fun _ => 0, g⟩ (fun r => ∀ c : Dev Cert.InAttnFIdeal.nD,
          r.2.mem ((c.tc : Thread Cert.InAttnFIdeal.nD Cert.InAttnFIdeal.τ).loc Cert.InAttnFIdeal.main_v11_0) = v0 c
          ∧ r.2.mem ((c.tc : Thread Cert.InAttnFIdeal.nD Cert.InAttnFIdeal.τ).loc Cert.InAttnFIdeal.main_v11_1) = v1 c
          ∧ r.2.mem ((c.tc : Thread Cert.InAttnFIdeal.nD Cert.InAttnFIdeal.τ).loc Cert.InAttnFIdeal.main_v11_2) = v2 c
          ∧ r.2.mem ((c.tc : Thread Cert.InAttnFIdeal.nD Cert.InAttnFIdeal.τ).loc Cert.InAttnFIdeal.main_v11_3) = v3 c
          ∧ r.2.mem ((c.tc : Thread Cert.InAttnFIdeal.nD Cert.InAttnFIdeal.τ).loc Cert.InAttnFIdeal.main_arg0) = m ((c.tc : Thread Cert.InAttnFIdeal.nD Cert.InAttnFIdeal.τ).loc Cert.InAttnFIdeal.main_arg0)
          ∧ r.2.mem ((c.tc : Thread Cert.InAttnFIdeal.nD Cert.InAttnFIdeal.τ).loc Cert.InAttnFIdeal.main_arg1) = m ((c.tc : Thread Cert.InAttnFIdeal.nD Cert.InAttnFIdeal.τ).loc Cert.InAttnFIdeal.main_arg1)
          ∧ r.2.mem ((c.tc : Thread Cert.InAttnFIdeal.nD Cert.InAttnFIdeal.τ).loc Cert.InAttnFIdeal.main_arg2) = m ((c.tc : Thread Cert.InAttnFIdeal.nD Cert.InAttnFIdeal.τ).loc Cert.InAttnFIdeal.main_arg2)
          ∧ r.2.mem ((c.tc : Thread Cert.InAttnFIdeal.nD Cert.InAttnFIdeal.τ).loc Cert.InAttnFIdeal.main_arg3) = m ((c.tc : Thread Cert.InAttnFIdeal.nD Cert.InAttnFIdeal.τ).loc Cert.InAttnFIdeal.main_arg3)
          ∧ r.2.mem ((c.tc : Thread Cert.InAttnFIdeal.nD Cert.InAttnFIdeal.τ).loc Cert.InAttnFIdeal.main_arg4) = m ((c.tc : Thread Cert.InAttnFIdeal.nD Cert.InAttnFIdeal.τ).loc Cert.InAttnFIdeal.main_arg4))
      ∧ θ_run (Cert.InAttnFRefIdeal.defs (F := Ideal)) (onTc (τ := Cert.InAttnFRefIdeal.τ) (Cert.InAttnFRefIdeal.main (F := Ideal))) ⟨m', fun _ => 0, g'⟩ (fun r => ∀ c : Dev Cert.InAttnFRefIdeal.nD,
          r.2.mem ((c.tc : Thread Cert.InAttnFRefIdeal.nD Cert.InAttnFRefIdeal.τ).loc Cert.InAttnFRefIdeal.main_v52) = v0 c
          ∧ r.2.mem ((c.tc : Thread Cert.InAttnFRefIdeal.nD Cert.InAttnFRefIdeal.τ).loc Cert.InAttnFRefIdeal.main_v53) = v1 c
          ∧ r.2.mem ((c.tc : Thread Cert.InAttnFRefIdeal.nD Cert.InAttnFRefIdeal.τ).loc Cert.InAttnFRefIdeal.main_v54) = v2 c
          ∧ r.2.mem ((c.tc : Thread Cert.InAttnFRefIdeal.nD Cert.InAttnFRefIdeal.τ).loc Cert.InAttnFRefIdeal.main_v55) = v3 c
          ∧ r.2.mem ((c.tc : Thread Cert.InAttnFRefIdeal.nD Cert.InAttnFRefIdeal.τ).loc Cert.InAttnFRefIdeal.main_arg0) = m' ((c.tc : Thread Cert.InAttnFRefIdeal.nD Cert.InAttnFRefIdeal.τ).loc Cert.InAttnFRefIdeal.main_arg0)
          ∧ r.2.mem ((c.tc : Thread Cert.InAttnFRefIdeal.nD Cert.InAttnFRefIdeal.τ).loc Cert.InAttnFRefIdeal.main_arg1) = m' ((c.tc : Thread Cert.InAttnFRefIdeal.nD Cert.InAttnFRefIdeal.τ).loc Cert.InAttnFRefIdeal.main_arg1)
          ∧ r.2.mem ((c.tc : Thread Cert.InAttnFRefIdeal.nD Cert.InAttnFRefIdeal.τ).loc Cert.InAttnFRefIdeal.main_arg2) = m' ((c.tc : Thread Cert.InAttnFRefIdeal.nD Cert.InAttnFRefIdeal.τ).loc Cert.InAttnFRefIdeal.main_arg2)
          ∧ r.2.mem ((c.tc : Thread Cert.InAttnFRefIdeal.nD Cert.InAttnFRefIdeal.τ).loc Cert.InAttnFRefIdeal.main_arg3) = m' ((c.tc : Thread Cert.InAttnFRefIdeal.nD Cert.InAttnFRefIdeal.τ).loc Cert.InAttnFRefIdeal.main_arg3)
          ∧ r.2.mem ((c.tc : Thread Cert.InAttnFRefIdeal.nD Cert.InAttnFRefIdeal.τ).loc Cert.InAttnFRefIdeal.main_arg4) = m' ((c.tc : Thread Cert.InAttnFRefIdeal.nD Cert.InAttnFRefIdeal.τ).loc Cert.InAttnFRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v8)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v8) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def preserves_ScanF_ScanFIdeal : Prop :=
  True

def algebraic_ScanFIdeal_ScanFRefIdeal [hScanFIdeal : Cert.ScanFIdeal.Facts] [hScanFRefIdeal : Cert.ScanFRefIdeal.Facts] : Prop :=
  ∀ (m : (ℓ : Loc Cert.ScanFIdeal.nD Cert.ScanFIdeal.τ Cert.ScanFIdeal.sig) → Buf (Elt Ideal) ℓ) (g : Dev Cert.ScanFIdeal.nD → PrngReg)
    (m' : (ℓ : Loc Cert.ScanFRefIdeal.nD Cert.ScanFRefIdeal.τ Cert.ScanFRefIdeal.sig) → Buf (Elt Ideal) ℓ) (g' : Dev Cert.ScanFRefIdeal.nD → PrngReg), Pre_ScanFIdeal m →
    (∀ c : Dev Cert.ScanFIdeal.nD,
      m' ((c.tc : Thread Cert.ScanFRefIdeal.nD Cert.ScanFRefIdeal.τ).loc Cert.ScanFRefIdeal.main_arg0) = m ((c.tc : Thread Cert.ScanFIdeal.nD Cert.ScanFIdeal.τ).loc Cert.ScanFIdeal.main_arg0)
      ∧ m' ((c.tc : Thread Cert.ScanFRefIdeal.nD Cert.ScanFRefIdeal.τ).loc Cert.ScanFRefIdeal.main_arg1) = m ((c.tc : Thread Cert.ScanFIdeal.nD Cert.ScanFIdeal.τ).loc Cert.ScanFIdeal.main_arg1)
      ∧ m' ((c.tc : Thread Cert.ScanFRefIdeal.nD Cert.ScanFRefIdeal.τ).loc Cert.ScanFRefIdeal.main_arg2) = m ((c.tc : Thread Cert.ScanFIdeal.nD Cert.ScanFIdeal.τ).loc Cert.ScanFIdeal.main_arg2)
      ∧ m' ((c.tc : Thread Cert.ScanFRefIdeal.nD Cert.ScanFRefIdeal.τ).loc Cert.ScanFRefIdeal.main_arg3) = m ((c.tc : Thread Cert.ScanFIdeal.nD Cert.ScanFIdeal.τ).loc Cert.ScanFIdeal.main_arg3)) →
    ∃ (v0 : (c : Dev Cert.ScanFIdeal.nD) → Buf (Elt Ideal) ((c.tc : Thread Cert.ScanFIdeal.nD Cert.ScanFIdeal.τ).loc Cert.ScanFIdeal.main_v0_0)) (v1 : (c : Dev Cert.ScanFIdeal.nD) → Buf (Elt Ideal) ((c.tc : Thread Cert.ScanFIdeal.nD Cert.ScanFIdeal.τ).loc Cert.ScanFIdeal.main_v0_1)),
      θ_run (Cert.ScanFIdeal.defs (F := Ideal)) (onTc (τ := Cert.ScanFIdeal.τ) (Cert.ScanFIdeal.main (F := Ideal))) ⟨m, fun _ => 0, g⟩ (fun r => ∀ c : Dev Cert.ScanFIdeal.nD,
          r.2.mem ((c.tc : Thread Cert.ScanFIdeal.nD Cert.ScanFIdeal.τ).loc Cert.ScanFIdeal.main_v0_0) = v0 c
          ∧ r.2.mem ((c.tc : Thread Cert.ScanFIdeal.nD Cert.ScanFIdeal.τ).loc Cert.ScanFIdeal.main_v0_1) = v1 c
          ∧ r.2.mem ((c.tc : Thread Cert.ScanFIdeal.nD Cert.ScanFIdeal.τ).loc Cert.ScanFIdeal.main_arg0) = m ((c.tc : Thread Cert.ScanFIdeal.nD Cert.ScanFIdeal.τ).loc Cert.ScanFIdeal.main_arg0)
          ∧ r.2.mem ((c.tc : Thread Cert.ScanFIdeal.nD Cert.ScanFIdeal.τ).loc Cert.ScanFIdeal.main_arg1) = m ((c.tc : Thread Cert.ScanFIdeal.nD Cert.ScanFIdeal.τ).loc Cert.ScanFIdeal.main_arg1)
          ∧ r.2.mem ((c.tc : Thread Cert.ScanFIdeal.nD Cert.ScanFIdeal.τ).loc Cert.ScanFIdeal.main_arg2) = m ((c.tc : Thread Cert.ScanFIdeal.nD Cert.ScanFIdeal.τ).loc Cert.ScanFIdeal.main_arg2)
          ∧ r.2.mem ((c.tc : Thread Cert.ScanFIdeal.nD Cert.ScanFIdeal.τ).loc Cert.ScanFIdeal.main_arg3) = m ((c.tc : Thread Cert.ScanFIdeal.nD Cert.ScanFIdeal.τ).loc Cert.ScanFIdeal.main_arg3))
      ∧ θ_run (Cert.ScanFRefIdeal.defs (F := Ideal)) (onTc (τ := Cert.ScanFRefIdeal.τ) (Cert.ScanFRefIdeal.main (F := Ideal))) ⟨m', fun _ => 0, g'⟩ (fun r => ∀ c : Dev Cert.ScanFRefIdeal.nD,
          r.2.mem ((c.tc : Thread Cert.ScanFRefIdeal.nD Cert.ScanFRefIdeal.τ).loc Cert.ScanFRefIdeal.main_v3_7) = v0 c
          ∧ r.2.mem ((c.tc : Thread Cert.ScanFRefIdeal.nD Cert.ScanFRefIdeal.τ).loc Cert.ScanFRefIdeal.main_v3_8) = v1 c
          ∧ r.2.mem ((c.tc : Thread Cert.ScanFRefIdeal.nD Cert.ScanFRefIdeal.τ).loc Cert.ScanFRefIdeal.main_arg0) = m' ((c.tc : Thread Cert.ScanFRefIdeal.nD Cert.ScanFRefIdeal.τ).loc Cert.ScanFRefIdeal.main_arg0)
          ∧ r.2.mem ((c.tc : Thread Cert.ScanFRefIdeal.nD Cert.ScanFRefIdeal.τ).loc Cert.ScanFRefIdeal.main_arg1) = m' ((c.tc : Thread Cert.ScanFRefIdeal.nD Cert.ScanFRefIdeal.τ).loc Cert.ScanFRefIdeal.main_arg1)
          ∧ r.2.mem ((c.tc : Thread Cert.ScanFRefIdeal.nD Cert.ScanFRefIdeal.τ).loc Cert.ScanFRefIdeal.main_arg2) = m' ((c.tc : Thread Cert.ScanFRefIdeal.nD Cert.ScanFRefIdeal.τ).loc Cert.ScanFRefIdeal.main_arg2)
          ∧ r.2.mem ((c.tc : Thread Cert.ScanFRefIdeal.nD Cert.ScanFRefIdeal.τ).loc Cert.ScanFRefIdeal.main_arg3) = m' ((c.tc : Thread Cert.ScanFRefIdeal.nD Cert.ScanFRefIdeal.τ).loc Cert.ScanFRefIdeal.main_arg3))

def preserves_ScanB_ScanBIdeal : Prop :=
  True

def algebraic_ScanBIdeal_ScanBRefIdeal [hScanBIdeal : Cert.ScanBIdeal.Facts] [hScanBRefIdeal : Cert.ScanBRefIdeal.Facts] : Prop :=
  ∀ (m : (ℓ : Loc Cert.ScanBIdeal.nD Cert.ScanBIdeal.τ Cert.ScanBIdeal.sig) → Buf (Elt Ideal) ℓ) (g : Dev Cert.ScanBIdeal.nD → PrngReg)
    (m' : (ℓ : Loc Cert.ScanBRefIdeal.nD Cert.ScanBRefIdeal.τ Cert.ScanBRefIdeal.sig) → Buf (Elt Ideal) ℓ) (g' : Dev Cert.ScanBRefIdeal.nD → PrngReg), Pre_ScanBIdeal m →
    (∀ c : Dev Cert.ScanBIdeal.nD,
      m' ((c.tc : Thread Cert.ScanBRefIdeal.nD Cert.ScanBRefIdeal.τ).loc Cert.ScanBRefIdeal.main_arg0) = m ((c.tc : Thread Cert.ScanBIdeal.nD Cert.ScanBIdeal.τ).loc Cert.ScanBIdeal.main_arg0)
      ∧ m' ((c.tc : Thread Cert.ScanBRefIdeal.nD Cert.ScanBRefIdeal.τ).loc Cert.ScanBRefIdeal.main_arg1) = m ((c.tc : Thread Cert.ScanBIdeal.nD Cert.ScanBIdeal.τ).loc Cert.ScanBIdeal.main_arg1)
      ∧ m' ((c.tc : Thread Cert.ScanBRefIdeal.nD Cert.ScanBRefIdeal.τ).loc Cert.ScanBRefIdeal.main_arg2) = m ((c.tc : Thread Cert.ScanBIdeal.nD Cert.ScanBIdeal.τ).loc Cert.ScanBIdeal.main_arg2)
      ∧ m' ((c.tc : Thread Cert.ScanBRefIdeal.nD Cert.ScanBRefIdeal.τ).loc Cert.ScanBRefIdeal.main_arg3) = m ((c.tc : Thread Cert.ScanBIdeal.nD Cert.ScanBIdeal.τ).loc Cert.ScanBIdeal.main_arg3)
      ∧ m' ((c.tc : Thread Cert.ScanBRefIdeal.nD Cert.ScanBRefIdeal.τ).loc Cert.ScanBRefIdeal.main_arg4) = m ((c.tc : Thread Cert.ScanBIdeal.nD Cert.ScanBIdeal.τ).loc Cert.ScanBIdeal.main_arg4)
      ∧ m' ((c.tc : Thread Cert.ScanBRefIdeal.nD Cert.ScanBRefIdeal.τ).loc Cert.ScanBRefIdeal.main_arg5) = m ((c.tc : Thread Cert.ScanBIdeal.nD Cert.ScanBIdeal.τ).loc Cert.ScanBIdeal.main_arg5)) →
    ∃ (v0 : (c : Dev Cert.ScanBIdeal.nD) → Buf (Elt Ideal) ((c.tc : Thread Cert.ScanBIdeal.nD Cert.ScanBIdeal.τ).loc Cert.ScanBIdeal.main_v0_0)) (v1 : (c : Dev Cert.ScanBIdeal.nD) → Buf (Elt Ideal) ((c.tc : Thread Cert.ScanBIdeal.nD Cert.ScanBIdeal.τ).loc Cert.ScanBIdeal.main_v0_1)) (v2 : (c : Dev Cert.ScanBIdeal.nD) → Buf (Elt Ideal) ((c.tc : Thread Cert.ScanBIdeal.nD Cert.ScanBIdeal.τ).loc Cert.ScanBIdeal.main_v0_2)) (v3 : (c : Dev Cert.ScanBIdeal.nD) → Buf (Elt Ideal) ((c.tc : Thread Cert.ScanBIdeal.nD Cert.ScanBIdeal.τ).loc Cert.ScanBIdeal.main_v0_3)),
      θ_run (Cert.ScanBIdeal.defs (F := Ideal)) (onTc (τ := Cert.ScanBIdeal.τ) (Cert.ScanBIdeal.main (F := Ideal))) ⟨m, fun _ => 0, g⟩ (fun r => ∀ c : Dev Cert.ScanBIdeal.nD,
          r.2.mem ((c.tc : Thread Cert.ScanBIdeal.nD Cert.ScanBIdeal.τ).loc Cert.ScanBIdeal.main_v0_0) = v0 c
          ∧ r.2.mem ((c.tc : Thread Cert.ScanBIdeal.nD Cert.ScanBIdeal.τ).loc Cert.ScanBIdeal.main_v0_1) = v1 c
          ∧ r.2.mem ((c.tc : Thread Cert.ScanBIdeal.nD Cert.ScanBIdeal.τ).loc Cert.ScanBIdeal.main_v0_2) = v2 c
          ∧ r.2.mem ((c.tc : Thread Cert.ScanBIdeal.nD Cert.ScanBIdeal.τ).loc Cert.ScanBIdeal.main_v0_3) = v3 c
          ∧ r.2.mem ((c.tc : Thread Cert.ScanBIdeal.nD Cert.ScanBIdeal.τ).loc Cert.ScanBIdeal.main_arg0) = m ((c.tc : Thread Cert.ScanBIdeal.nD Cert.ScanBIdeal.τ).loc Cert.ScanBIdeal.main_arg0)
          ∧ r.2.mem ((c.tc : Thread Cert.ScanBIdeal.nD Cert.ScanBIdeal.τ).loc Cert.ScanBIdeal.main_arg1) = m ((c.tc : Thread Cert.ScanBIdeal.nD Cert.ScanBIdeal.τ).loc Cert.ScanBIdeal.main_arg1)
          ∧ r.2.mem ((c.tc : Thread Cert.ScanBIdeal.nD Cert.ScanBIdeal.τ).loc Cert.ScanBIdeal.main_arg2) = m ((c.tc : Thread Cert.ScanBIdeal.nD Cert.ScanBIdeal.τ).loc Cert.ScanBIdeal.main_arg2)
          ∧ r.2.mem ((c.tc : Thread Cert.ScanBIdeal.nD Cert.ScanBIdeal.τ).loc Cert.ScanBIdeal.main_arg3) = m ((c.tc : Thread Cert.ScanBIdeal.nD Cert.ScanBIdeal.τ).loc Cert.ScanBIdeal.main_arg3)
          ∧ r.2.mem ((c.tc : Thread Cert.ScanBIdeal.nD Cert.ScanBIdeal.τ).loc Cert.ScanBIdeal.main_arg4) = m ((c.tc : Thread Cert.ScanBIdeal.nD Cert.ScanBIdeal.τ).loc Cert.ScanBIdeal.main_arg4)
          ∧ r.2.mem ((c.tc : Thread Cert.ScanBIdeal.nD Cert.ScanBIdeal.τ).loc Cert.ScanBIdeal.main_arg5) = m ((c.tc : Thread Cert.ScanBIdeal.nD Cert.ScanBIdeal.τ).loc Cert.ScanBIdeal.main_arg5))
      ∧ θ_run (Cert.ScanBRefIdeal.defs (F := Ideal)) (onTc (τ := Cert.ScanBRefIdeal.τ) (Cert.ScanBRefIdeal.main (F := Ideal))) ⟨m', fun _ => 0, g'⟩ (fun r => ∀ c : Dev Cert.ScanBRefIdeal.nD,
          r.2.mem ((c.tc : Thread Cert.ScanBRefIdeal.nD Cert.ScanBRefIdeal.τ).loc Cert.ScanBRefIdeal.main_v9_9) = v0 c
          ∧ r.2.mem ((c.tc : Thread Cert.ScanBRefIdeal.nD Cert.ScanBRefIdeal.τ).loc Cert.ScanBRefIdeal.main_v9_10) = v1 c
          ∧ r.2.mem ((c.tc : Thread Cert.ScanBRefIdeal.nD Cert.ScanBRefIdeal.τ).loc Cert.ScanBRefIdeal.main_v34) = v2 c
          ∧ r.2.mem ((c.tc : Thread Cert.ScanBRefIdeal.nD Cert.ScanBRefIdeal.τ).loc Cert.ScanBRefIdeal.main_v30) = v3 c
          ∧ r.2.mem ((c.tc : Thread Cert.ScanBRefIdeal.nD Cert.ScanBRefIdeal.τ).loc Cert.ScanBRefIdeal.main_arg0) = m' ((c.tc : Thread Cert.ScanBRefIdeal.nD Cert.ScanBRefIdeal.τ).loc Cert.ScanBRefIdeal.main_arg0)
          ∧ r.2.mem ((c.tc : Thread Cert.ScanBRefIdeal.nD Cert.ScanBRefIdeal.τ).loc Cert.ScanBRefIdeal.main_arg1) = m' ((c.tc : Thread Cert.ScanBRefIdeal.nD Cert.ScanBRefIdeal.τ).loc Cert.ScanBRefIdeal.main_arg1)
          ∧ r.2.mem ((c.tc : Thread Cert.ScanBRefIdeal.nD Cert.ScanBRefIdeal.τ).loc Cert.ScanBRefIdeal.main_arg2) = m' ((c.tc : Thread Cert.ScanBRefIdeal.nD Cert.ScanBRefIdeal.τ).loc Cert.ScanBRefIdeal.main_arg2)
          ∧ r.2.mem ((c.tc : Thread Cert.ScanBRefIdeal.nD Cert.ScanBRefIdeal.τ).loc Cert.ScanBRefIdeal.main_arg3) = m' ((c.tc : Thread Cert.ScanBRefIdeal.nD Cert.ScanBRefIdeal.τ).loc Cert.ScanBRefIdeal.main_arg3)
          ∧ r.2.mem ((c.tc : Thread Cert.ScanBRefIdeal.nD Cert.ScanBRefIdeal.τ).loc Cert.ScanBRefIdeal.main_arg4) = m' ((c.tc : Thread Cert.ScanBRefIdeal.nD Cert.ScanBRefIdeal.τ).loc Cert.ScanBRefIdeal.main_arg4)
          ∧ r.2.mem ((c.tc : Thread Cert.ScanBRefIdeal.nD Cert.ScanBRefIdeal.τ).loc Cert.ScanBRefIdeal.main_arg5) = m' ((c.tc : Thread Cert.ScanBRefIdeal.nD Cert.ScanBRefIdeal.τ).loc Cert.ScanBRefIdeal.main_arg5))

def preserves_SumCore_SumCoreIdeal : Prop :=
  True

def algebraic_SumCoreIdeal_SumCoreRefIdeal [hSumCoreIdeal : Cert.SumCoreIdeal.Facts] [hSumCoreRefIdeal : Cert.SumCoreRefIdeal.Facts] [hPre_core_index : Cert.Pre_core_index.Facts] : Prop :=
  ∀ (m : (ℓ : Loc Cert.SumCoreIdeal.nD Cert.SumCoreIdeal.τ Cert.SumCoreIdeal.sig) → Buf (Elt Ideal) ℓ) (g : Dev Cert.SumCoreIdeal.nD → PrngReg)
    (m' : (ℓ : Loc Cert.SumCoreRefIdeal.nD Cert.SumCoreRefIdeal.τ Cert.SumCoreRefIdeal.sig) → Buf (Elt Ideal) ℓ) (g' : Dev Cert.SumCoreRefIdeal.nD → PrngReg), Pre_SumCoreIdeal m →
    (∀ c : Dev Cert.SumCoreIdeal.nD,
      m' ((c.tc : Thread Cert.SumCoreRefIdeal.nD Cert.SumCoreRefIdeal.τ).loc Cert.SumCoreRefIdeal.main_arg0) = m ((c.tc : Thread Cert.SumCoreIdeal.nD Cert.SumCoreIdeal.τ).loc Cert.SumCoreIdeal.main_arg0)
      ∧ m' ((c.tc : Thread Cert.SumCoreRefIdeal.nD Cert.SumCoreRefIdeal.τ).loc Cert.SumCoreRefIdeal.main_arg1) = m ((c.tc : Thread Cert.SumCoreIdeal.nD Cert.SumCoreIdeal.τ).loc Cert.SumCoreIdeal.main_arg1)
      ∧ m' ((c.tc : Thread Cert.SumCoreRefIdeal.nD Cert.SumCoreRefIdeal.τ).loc Cert.SumCoreRefIdeal.main_arg2) = m ((c.tc : Thread Cert.SumCoreIdeal.nD Cert.SumCoreIdeal.τ).loc Cert.SumCoreIdeal.main_arg2)) →
    ∃ (v0 : (c : Dev Cert.SumCoreIdeal.nD) → Buf (Elt Ideal) ((c.tc : Thread Cert.SumCoreIdeal.nD Cert.SumCoreIdeal.τ).loc Cert.SumCoreIdeal.main_v0)),
      θ_run (Cert.SumCoreIdeal.defs (F := Ideal)) (onTc (τ := Cert.SumCoreIdeal.τ) (Cert.SumCoreIdeal.main (F := Ideal))) ⟨m, fun _ => 0, g⟩ (fun r => ∀ c : Dev Cert.SumCoreIdeal.nD,
          r.2.mem ((c.tc : Thread Cert.SumCoreIdeal.nD Cert.SumCoreIdeal.τ).loc Cert.SumCoreIdeal.main_v0) = v0 c
          ∧ r.2.mem ((c.tc : Thread Cert.SumCoreIdeal.nD Cert.SumCoreIdeal.τ).loc Cert.SumCoreIdeal.main_arg0) = m ((c.tc : Thread Cert.SumCoreIdeal.nD Cert.SumCoreIdeal.τ).loc Cert.SumCoreIdeal.main_arg0)
          ∧ r.2.mem ((c.tc : Thread Cert.SumCoreIdeal.nD Cert.SumCoreIdeal.τ).loc Cert.SumCoreIdeal.main_arg1) = m ((c.tc : Thread Cert.SumCoreIdeal.nD Cert.SumCoreIdeal.τ).loc Cert.SumCoreIdeal.main_arg1)
          ∧ r.2.mem ((c.tc : Thread Cert.SumCoreIdeal.nD Cert.SumCoreIdeal.τ).loc Cert.SumCoreIdeal.main_arg2) = m ((c.tc : Thread Cert.SumCoreIdeal.nD Cert.SumCoreIdeal.τ).loc Cert.SumCoreIdeal.main_arg2))
      ∧ θ_run (Cert.SumCoreRefIdeal.defs (F := Ideal)) (onTc (τ := Cert.SumCoreRefIdeal.τ) (Cert.SumCoreRefIdeal.main (F := Ideal))) ⟨m', fun _ => 0, g'⟩ (fun r => ∀ c : Dev Cert.SumCoreRefIdeal.nD,
          r.2.mem ((c.tc : Thread Cert.SumCoreRefIdeal.nD Cert.SumCoreRefIdeal.τ).loc Cert.SumCoreRefIdeal.main_v8) = v0 c
          ∧ r.2.mem ((c.tc : Thread Cert.SumCoreRefIdeal.nD Cert.SumCoreRefIdeal.τ).loc Cert.SumCoreRefIdeal.main_arg0) = m' ((c.tc : Thread Cert.SumCoreRefIdeal.nD Cert.SumCoreRefIdeal.τ).loc Cert.SumCoreRefIdeal.main_arg0)
          ∧ r.2.mem ((c.tc : Thread Cert.SumCoreRefIdeal.nD Cert.SumCoreRefIdeal.τ).loc Cert.SumCoreRefIdeal.main_arg1) = m' ((c.tc : Thread Cert.SumCoreRefIdeal.nD Cert.SumCoreRefIdeal.τ).loc Cert.SumCoreRefIdeal.main_arg1)
          ∧ r.2.mem ((c.tc : Thread Cert.SumCoreRefIdeal.nD Cert.SumCoreRefIdeal.τ).loc Cert.SumCoreRefIdeal.main_arg2) = m' ((c.tc : Thread Cert.SumCoreRefIdeal.nD Cert.SumCoreRefIdeal.τ).loc Cert.SumCoreRefIdeal.main_arg2))

def Claim : Prop :=
  ∃ (hAttnOut : Cert.AttnOut.Facts) (hAttnOutIdeal : Cert.AttnOutIdeal.Facts) (hAttnOutRefIdeal : Cert.AttnOutRefIdeal.Facts) (hSsmOut : Cert.SsmOut.Facts) (hSsmOutIdeal : Cert.SsmOutIdeal.Facts) (hSsmOutRefIdeal : Cert.SsmOutRefIdeal.Facts) (hOutLoss : Cert.OutLoss.Facts) (hOutLossIdeal : Cert.OutLossIdeal.Facts) (hOutLossRefIdeal : Cert.OutLossRefIdeal.Facts) (hInSsm : Cert.InSsm.Facts) (hInSsmIdeal : Cert.InSsmIdeal.Facts) (hInSsmRefIdeal : Cert.InSsmRefIdeal.Facts) (hInAttn : Cert.InAttn.Facts) (hInAttnIdeal : Cert.InAttnIdeal.Facts) (hInAttnRefIdeal : Cert.InAttnRefIdeal.Facts) (hS5b : Cert.S5b.Facts) (hS5bIdeal : Cert.S5bIdeal.Facts) (hS5bRefIdeal : Cert.S5bRefIdeal.Facts) (hS5p : Cert.S5p.Facts) (hS5pIdeal : Cert.S5pIdeal.Facts) (hS5pRefIdeal : Cert.S5pRefIdeal.Facts) (hScan : Cert.Scan.Facts) (hScanIdeal : Cert.ScanIdeal.Facts) (hS5o : Cert.S5o.Facts) (hS5oIdeal : Cert.S5oIdeal.Facts) (hS5oRefIdeal : Cert.S5oRefIdeal.Facts) (hAttnF : Cert.AttnF.Facts) (hAttnFIdeal : Cert.AttnFIdeal.Facts) (hAttnFRefIdeal : Cert.AttnFRefIdeal.Facts) (hAttnOutF : Cert.AttnOutF.Facts) (hAttnOutFIdeal : Cert.AttnOutFIdeal.Facts) (hAttnOutFRefIdeal : Cert.AttnOutFRefIdeal.Facts) (hSsmOutF : Cert.SsmOutF.Facts) (hSsmOutFIdeal : Cert.SsmOutFIdeal.Facts) (hSsmOutFRefIdeal : Cert.SsmOutFRefIdeal.Facts) (hInSsmF : Cert.InSsmF.Facts) (hInSsmFIdeal : Cert.InSsmFIdeal.Facts) (hInSsmFRefIdeal : Cert.InSsmFRefIdeal.Facts) (hInAttnF : Cert.InAttnF.Facts) (hInAttnFIdeal : Cert.InAttnFIdeal.Facts) (hInAttnFRefIdeal : Cert.InAttnFRefIdeal.Facts) (hAdam : Cert.Adam.Facts) (hAdamIdeal : Cert.AdamIdeal.Facts) (hAdamRefIdeal : Cert.AdamRefIdeal.Facts) (hSums : Cert.Sums.Facts) (hSumsIdeal : Cert.SumsIdeal.Facts) (hSumsRefIdeal : Cert.SumsRefIdeal.Facts) (hScanF : Cert.ScanF.Facts) (hScanFIdeal : Cert.ScanFIdeal.Facts) (hScanFRefIdeal : Cert.ScanFRefIdeal.Facts) (hScanB : Cert.ScanB.Facts) (hScanBIdeal : Cert.ScanBIdeal.Facts) (hScanBRefIdeal : Cert.ScanBRefIdeal.Facts) (hSumCore : Cert.SumCore.Facts) (hSumCoreIdeal : Cert.SumCoreIdeal.Facts) (hSumCoreRefIdeal : Cert.SumCoreRefIdeal.Facts) (hPre_finite_attn_out : Cert.Pre_finite_attn_out.Facts) (hPre_finite_ssm_out : Cert.Pre_finite_ssm_out.Facts) (hPre_finite_loss : Cert.Pre_finite_loss.Facts) (hPre_finite_inproj_ssm : Cert.Pre_finite_inproj_ssm.Facts) (hPre_finite_inproj_attn : Cert.Pre_finite_inproj_attn.Facts) (hPre_finite_attn_fwd : Cert.Pre_finite_attn_fwd.Facts) (hPre_core_index : Cert.Pre_core_index.Facts),
    quiescent_AttnOut (hAttnOut := hAttnOut)
    ∧ quiescent_AttnOutIdeal (hAttnOutIdeal := hAttnOutIdeal)
    ∧ quiescent_AttnOutIdeal_pre_finite_attn_out (hAttnOutIdeal := hAttnOutIdeal) (hPre_finite_attn_out := hPre_finite_attn_out)
    ∧ quiescent_AttnOutRefIdeal (hAttnOutRefIdeal := hAttnOutRefIdeal)
    ∧ quiescent_AttnOutRefIdeal_pre_finite_attn_out (hAttnOutRefIdeal := hAttnOutRefIdeal) (hPre_finite_attn_out := hPre_finite_attn_out)
    ∧ quiescent_SsmOut (hSsmOut := hSsmOut)
    ∧ quiescent_SsmOutIdeal (hSsmOutIdeal := hSsmOutIdeal)
    ∧ quiescent_SsmOutIdeal_pre_finite_ssm_out (hSsmOutIdeal := hSsmOutIdeal) (hPre_finite_ssm_out := hPre_finite_ssm_out)
    ∧ quiescent_SsmOutRefIdeal (hSsmOutRefIdeal := hSsmOutRefIdeal)
    ∧ quiescent_SsmOutRefIdeal_pre_finite_ssm_out (hSsmOutRefIdeal := hSsmOutRefIdeal) (hPre_finite_ssm_out := hPre_finite_ssm_out)
    ∧ quiescent_OutLoss (hOutLoss := hOutLoss)
    ∧ quiescent_OutLossIdeal (hOutLossIdeal := hOutLossIdeal)
    ∧ quiescent_OutLossIdeal_pre_finite_loss (hOutLossIdeal := hOutLossIdeal) (hPre_finite_loss := hPre_finite_loss)
    ∧ quiescent_OutLossRefIdeal (hOutLossRefIdeal := hOutLossRefIdeal)
    ∧ quiescent_OutLossRefIdeal_pre_finite_loss (hOutLossRefIdeal := hOutLossRefIdeal) (hPre_finite_loss := hPre_finite_loss)
    ∧ quiescent_InSsm (hInSsm := hInSsm)
    ∧ quiescent_InSsmIdeal (hInSsmIdeal := hInSsmIdeal)
    ∧ quiescent_InSsmIdeal_pre_finite_inproj_ssm (hInSsmIdeal := hInSsmIdeal) (hPre_finite_inproj_ssm := hPre_finite_inproj_ssm)
    ∧ quiescent_InSsmRefIdeal (hInSsmRefIdeal := hInSsmRefIdeal)
    ∧ quiescent_InSsmRefIdeal_pre_finite_inproj_ssm (hInSsmRefIdeal := hInSsmRefIdeal) (hPre_finite_inproj_ssm := hPre_finite_inproj_ssm)
    ∧ quiescent_InAttn (hInAttn := hInAttn)
    ∧ quiescent_InAttnIdeal (hInAttnIdeal := hInAttnIdeal)
    ∧ quiescent_InAttnIdeal_pre_finite_inproj_attn (hInAttnIdeal := hInAttnIdeal) (hPre_finite_inproj_attn := hPre_finite_inproj_attn)
    ∧ quiescent_InAttnRefIdeal (hInAttnRefIdeal := hInAttnRefIdeal)
    ∧ quiescent_InAttnRefIdeal_pre_finite_inproj_attn (hInAttnRefIdeal := hInAttnRefIdeal) (hPre_finite_inproj_attn := hPre_finite_inproj_attn)
    ∧ quiescent_S5b (hS5b := hS5b)
    ∧ quiescent_S5bIdeal (hS5bIdeal := hS5bIdeal)
    ∧ quiescent_S5bRefIdeal (hS5bRefIdeal := hS5bRefIdeal)
    ∧ quiescent_S5p (hS5p := hS5p)
    ∧ quiescent_S5pIdeal (hS5pIdeal := hS5pIdeal)
    ∧ quiescent_S5pRefIdeal (hS5pRefIdeal := hS5pRefIdeal)
    ∧ quiescent_Scan (hScan := hScan)
    ∧ quiescent_ScanIdeal (hScanIdeal := hScanIdeal)
    ∧ quiescent_S5o (hS5o := hS5o)
    ∧ quiescent_S5oIdeal (hS5oIdeal := hS5oIdeal)
    ∧ quiescent_S5oRefIdeal (hS5oRefIdeal := hS5oRefIdeal)
    ∧ quiescent_AttnF (hAttnF := hAttnF)
    ∧ quiescent_AttnFIdeal (hAttnFIdeal := hAttnFIdeal)
    ∧ quiescent_AttnFIdeal_pre_finite_attn_fwd (hAttnFIdeal := hAttnFIdeal) (hPre_finite_attn_fwd := hPre_finite_attn_fwd)
    ∧ quiescent_AttnFRefIdeal (hAttnFRefIdeal := hAttnFRefIdeal)
    ∧ quiescent_AttnFRefIdeal_pre_finite_attn_fwd (hAttnFRefIdeal := hAttnFRefIdeal) (hPre_finite_attn_fwd := hPre_finite_attn_fwd)
    ∧ quiescent_AttnOutF (hAttnOutF := hAttnOutF)
    ∧ quiescent_AttnOutFIdeal (hAttnOutFIdeal := hAttnOutFIdeal)
    ∧ quiescent_AttnOutFRefIdeal (hAttnOutFRefIdeal := hAttnOutFRefIdeal)
    ∧ quiescent_SsmOutF (hSsmOutF := hSsmOutF)
    ∧ quiescent_SsmOutFIdeal (hSsmOutFIdeal := hSsmOutFIdeal)
    ∧ quiescent_SsmOutFRefIdeal (hSsmOutFRefIdeal := hSsmOutFRefIdeal)
    ∧ quiescent_InSsmF (hInSsmF := hInSsmF)
    ∧ quiescent_InSsmFIdeal (hInSsmFIdeal := hInSsmFIdeal)
    ∧ quiescent_InSsmFRefIdeal (hInSsmFRefIdeal := hInSsmFRefIdeal)
    ∧ quiescent_InAttnF (hInAttnF := hInAttnF)
    ∧ quiescent_InAttnFIdeal (hInAttnFIdeal := hInAttnFIdeal)
    ∧ quiescent_InAttnFRefIdeal (hInAttnFRefIdeal := hInAttnFRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sums (hSums := hSums)
    ∧ quiescent_SumsIdeal (hSumsIdeal := hSumsIdeal)
    ∧ quiescent_SumsRefIdeal (hSumsRefIdeal := hSumsRefIdeal)
    ∧ quiescent_ScanF (hScanF := hScanF)
    ∧ quiescent_ScanFIdeal (hScanFIdeal := hScanFIdeal)
    ∧ quiescent_ScanFRefIdeal (hScanFRefIdeal := hScanFRefIdeal)
    ∧ quiescent_ScanB (hScanB := hScanB)
    ∧ quiescent_ScanBIdeal (hScanBIdeal := hScanBIdeal)
    ∧ quiescent_ScanBRefIdeal (hScanBRefIdeal := hScanBRefIdeal)
    ∧ quiescent_SumCore (hSumCore := hSumCore) (hPre_core_index := hPre_core_index)
    ∧ quiescent_SumCoreIdeal (hSumCoreIdeal := hSumCoreIdeal) (hPre_core_index := hPre_core_index)
    ∧ quiescent_SumCoreRefIdeal (hSumCoreRefIdeal := hSumCoreRefIdeal)
    ∧ quiescent_SumCoreRefIdeal_pre_core_index (hSumCoreRefIdeal := hSumCoreRefIdeal) (hPre_core_index := hPre_core_index)
    ∧ preserves_AttnOut_AttnOutIdeal
    ∧ algebraic_AttnOutIdeal_AttnOutRefIdeal_pre_finite_attn_out (hAttnOutIdeal := hAttnOutIdeal) (hAttnOutRefIdeal := hAttnOutRefIdeal) (hPre_finite_attn_out := hPre_finite_attn_out)
    ∧ preserves_SsmOut_SsmOutIdeal
    ∧ algebraic_SsmOutIdeal_SsmOutRefIdeal_pre_finite_ssm_out (hSsmOutIdeal := hSsmOutIdeal) (hSsmOutRefIdeal := hSsmOutRefIdeal) (hPre_finite_ssm_out := hPre_finite_ssm_out)
    ∧ preserves_OutLoss_OutLossIdeal
    ∧ algebraic_OutLossIdeal_OutLossRefIdeal_pre_finite_loss (hOutLossIdeal := hOutLossIdeal) (hOutLossRefIdeal := hOutLossRefIdeal) (hPre_finite_loss := hPre_finite_loss)
    ∧ preserves_InSsm_InSsmIdeal
    ∧ algebraic_InSsmIdeal_InSsmRefIdeal_pre_finite_inproj_ssm (hInSsmIdeal := hInSsmIdeal) (hInSsmRefIdeal := hInSsmRefIdeal) (hPre_finite_inproj_ssm := hPre_finite_inproj_ssm)
    ∧ preserves_InAttn_InAttnIdeal
    ∧ algebraic_InAttnIdeal_InAttnRefIdeal_pre_finite_inproj_attn (hInAttnIdeal := hInAttnIdeal) (hInAttnRefIdeal := hInAttnRefIdeal) (hPre_finite_inproj_attn := hPre_finite_inproj_attn)
    ∧ preserves_S5b_S5bIdeal
    ∧ algebraic_S5bIdeal_S5bRefIdeal (hS5bIdeal := hS5bIdeal) (hS5bRefIdeal := hS5bRefIdeal)
    ∧ preserves_S5p_S5pIdeal
    ∧ algebraic_S5pIdeal_S5pRefIdeal (hS5pIdeal := hS5pIdeal) (hS5pRefIdeal := hS5pRefIdeal)
    ∧ preserves_Scan_ScanIdeal
    ∧ preserves_S5o_S5oIdeal
    ∧ algebraic_S5oIdeal_S5oRefIdeal (hS5oIdeal := hS5oIdeal) (hS5oRefIdeal := hS5oRefIdeal)
    ∧ preserves_AttnF_AttnFIdeal
    ∧ algebraic_AttnFIdeal_AttnFRefIdeal_pre_finite_attn_fwd (hAttnFIdeal := hAttnFIdeal) (hAttnFRefIdeal := hAttnFRefIdeal) (hPre_finite_attn_fwd := hPre_finite_attn_fwd)
    ∧ preserves_AttnOutF_AttnOutFIdeal
    ∧ algebraic_AttnOutFIdeal_AttnOutFRefIdeal (hAttnOutFIdeal := hAttnOutFIdeal) (hAttnOutFRefIdeal := hAttnOutFRefIdeal)
    ∧ preserves_SsmOutF_SsmOutFIdeal
    ∧ algebraic_SsmOutFIdeal_SsmOutFRefIdeal (hSsmOutFIdeal := hSsmOutFIdeal) (hSsmOutFRefIdeal := hSsmOutFRefIdeal)
    ∧ preserves_InSsmF_InSsmFIdeal
    ∧ algebraic_InSsmFIdeal_InSsmFRefIdeal (hInSsmFIdeal := hInSsmFIdeal) (hInSsmFRefIdeal := hInSsmFRefIdeal)
    ∧ preserves_InAttnF_InAttnFIdeal
    ∧ algebraic_InAttnFIdeal_InAttnFRefIdeal (hInAttnFIdeal := hInAttnFIdeal) (hInAttnFRefIdeal := hInAttnFRefIdeal)
    ∧ preserves_Adam_AdamIdeal
    ∧ algebraic_AdamIdeal_AdamRefIdeal (hAdamIdeal := hAdamIdeal) (hAdamRefIdeal := hAdamRefIdeal)
    ∧ preserves_Sums_SumsIdeal
    ∧ algebraic_SumsIdeal_SumsRefIdeal (hSumsIdeal := hSumsIdeal) (hSumsRefIdeal := hSumsRefIdeal)
    ∧ preserves_ScanF_ScanFIdeal
    ∧ algebraic_ScanFIdeal_ScanFRefIdeal (hScanFIdeal := hScanFIdeal) (hScanFRefIdeal := hScanFRefIdeal)
    ∧ preserves_ScanB_ScanBIdeal
    ∧ algebraic_ScanBIdeal_ScanBRefIdeal (hScanBIdeal := hScanBIdeal) (hScanBRefIdeal := hScanBRefIdeal)
    ∧ preserves_SumCore_SumCoreIdeal
    ∧ algebraic_SumCoreIdeal_SumCoreRefIdeal (hSumCoreIdeal := hSumCoreIdeal) (hSumCoreRefIdeal := hSumCoreRefIdeal) (hPre_core_index := hPre_core_index)
-- ==== Pre_core_index.lean ====
abbrev S1 : Shape := ⟨1, ![1]⟩
abbrev S2x1536x1024 : Shape := ⟨3, ![2, 1536, 1024]⟩
abbrev S1536x1024 : Shape := ⟨2, ![1536, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x1536x1024 .f32) (main_arg2 : FVec F S1536x1024 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_finite_attn_fwd.lean ====
abbrev S8192x1024 : Shape := ⟨2, ![8192, 1024]⟩
abbrev S8192x128 : Shape := ⟨2, ![8192, 128]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S8192x128 : S_.BroadcastsInDim S8192x128 (![] : Fin 0 → Fin S8192x128.rank)
  bcast_S_S16 : S_.BroadcastsInDim S16 (![] : Fin 0 → Fin S16.rank)

variable [Facts]

def fn {F : FTy → Type} [FloatOps F] (main_arg0 : FVec F S8192x1024 .f32) (main_arg1 : FVec F S8192x128 .f32) (main_arg2 : FVec F S8192x128 .f32) (main_arg3 : FVec F S16 .f32) : IVec S8192x1024 1 × IVec S8192x128 1 × IVec S16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Pre_finite_attn_out.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1024x1024 .f32) (main_arg3 : FVec F S8192x1024 .f32) : IVec S8192x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_inproj_attn.lean ====
abbrev S8192x1024 : Shape := ⟨2, ![8192, 1024]⟩
abbrev S1024 : Shape := ⟨1, ![1024]⟩
abbrev S1024x2304 : Shape := ⟨2, ![1024, 2304]⟩
abbrev S8192x128 : Shape := ⟨2, ![8192, 128]⟩
abbrev S_ : Shape := ⟨0, ![]⟩

class Facts : Prop where
  bcast_S_S1024 : S_.BroadcastsInDim S1024 (![] : Fin 0 → Fin S1024.rank)
  bcast_S_S1024x2304 : S_.BroadcastsInDim S1024x2304 (![] : Fin 0 → Fin S1024x2304.rank)
  bcast_S_S8192x1024 : S_.BroadcastsInDim S8192x1024 (![] : Fin 0 → Fin S8192x1024.rank)
  bcast_S_S8192x128 : S_.BroadcastsInDim S8192x128 (![] : Fin 0 → Fin S8192x128.rank)

variable [Facts]

def fn {F : FTy → Type} [FloatOps F] (main_arg0 : FVec F S8192x1024 .f32) (main_arg1 : FVec F S1024 .f32) (main_arg2 : FVec F S1024x2304 .f32) (main_arg3 : FVec F S8192x1024 .f32) (main_arg4 : FVec F S8192x128 .f32) (main_arg5 : FVec F S8192x128 .f32) (main_arg6 : FVec F S8192x1024 .f32) (main_arg7 : FVec F S8192x1024 .f32) : IVec S1024 1 × IVec S1024x2304 1 × IVec S8192x1024 1 × IVec S8192x128 1 × IVec S8192x128 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2304 .f32 := Host.absf main_arg2
  let main_cst_0 : FVec F S_ .f32 := constant S_ .f32 0x7F800000#32
  let main_v4 : FVec F S1024x2304 .f32 := broadcastInDim S1024x2304 ![] bcast_S_S1024x2304 main_cst_0
  let main_v5 : IVec S1024x2304 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x128 .f32 := Host.absf main_arg4
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_v12 : FVec F S8192x128 .f32 := Host.absf main_arg5
  let main_cst_3 : FVec F S_ .f32 := constant S_ .f32 0x7F800000#32
  let main_v13 : FVec F S8192x128 .f32 := broadcastInDim S8192x128 ![] bcast_S_S8192x128 main_cst_3
  let main_v14 : IVec S8192x128 1 := cmpf .olt main_v12 main_v13
  let main_v15 : FVec F S8192x1024 .f32 := Host.absf main_arg6
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_inproj_ssm.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024x2048 .f32) (main_arg3 : FVec F S8192x1024 .f32) (main_arg4 : FVec F S8192x1024 .f32) (main_arg5 : FVec F S8192x1024 .f32) : IVec S1024 1 × IVec S1024x2048 1 × IVec S8192x1024 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_loss.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S8192x1024 .f32) : IVec S1024 1 × IVec S8192x1024 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8192x1024 .f32 := Host.absf main_arg5
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Pre_finite_ssm_out.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1024x1024 .f32) (main_arg3 : FVec F S1024 .f32) (main_arg4 : FVec F S1024x1024 .f32) (main_arg5 : FVec F S8192x1024 .f32) : IVec S8192x1024 1 × IVec S8192x1024 1 × IVec S1024x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== AttnOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnOutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== SsmOut.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1024x1024, .f32⟩
  | .hbm, ⟨13, _⟩ => ⟨S1x1024, .f32⟩
  | .hbm, ⟨14, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsmOutIdeal.lean ====
variable {F : FTy → Type} [FloatOps F] [Named F]
def κ : String → Option EReal := fun
  | "cubic" => some ((8943 / 200000 : ℝ) : EReal)
  | "cubic_grad" => some ((26829 / 200000 : ℝ) : EReal)
  | _ => none
-- ==== SsmOutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1024x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1024, .f32⟩
  | .hbm, ⟨86, _⟩ => ⟨S1024x1024, .f32⟩
  | .hbm, ⟨87, _⟩ => ⟨S1024x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== OutLoss.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S1x1024, .f32⟩
  | .hbm, ⟨9, _⟩ => ⟨S8x128, .f32⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_29 : BitVec 32 := 0#32
  let v66 : BitVec 1 := Scalar.cmpi .ne v65 c0_i32_29
  v66

def k0_cond2 (i : grid0.Coords) : BitVec 1 :=
  let arg0 : BitVec 32 := BitVec.ofNat 32 (i 0).val
  let c0_i32_30 : BitVec 32 := 0#32
  let v67 : BitVec 1 := Scalar.cmpi .sgt arg0 c0_i32_30
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutLossRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8x128, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_cst_8 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== InSsm.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x2048, .bf16⟩
  | .hbm, ⟨7, _⟩ => ⟨S8192x1024, .bf16⟩
  | .hbm, ⟨8, _⟩ => ⟨S1x1024, .f32⟩
  | .hbm, ⟨9, _⟩ => ⟨S8192x1024, .f32⟩
  | .hbm, ⟨10, _⟩ => ⟨S1024x2048, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x2048, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InSsmRefIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S2048x1024, .f32⟩
  | .hbm, ⟨31, _⟩ => ⟨S1024x2048, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== InAttn.lean ====
abbrev S8192x1024 : Shape := ⟨2, ![8192, 1024]⟩
abbrev S1024 : Shape := ⟨1, ![1024]⟩
abbrev S1024x2304 : Shape := ⟨2, ![1024, 2304]⟩
abbrev S8192x128 : Shape := ⟨2, ![8192, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S8192x128, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x128, .bf16⟩
  | .hbm, ⟨10, _⟩ => ⟨S8192x128, .bf16⟩
  | .hbm, ⟨11, _⟩ => ⟨S8192x1024, .bf16⟩
  | .hbm, ⟨12, _⟩ => ⟨S1024x2304, .bf16⟩
  | .hbm, ⟨13, _⟩ => ⟨S1x1024, .f32⟩
  | .hbm, ⟨14, _⟩ => ⟨S8192x1024, .f32⟩
  | .hbm, ⟨15, _⟩ => ⟨S1024x2304, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1024x2304, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InAttnRefIdeal.lean ====
abbrev S8192x1024 : Shape := ⟨2, ![8192, 1024]⟩
abbrev S1024 : Shape := ⟨1, ![1024]⟩
abbrev S1024x2304 : Shape := ⟨2, ![1024, 2304]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S2304x1024 : Shape := ⟨2, ![2304, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S8192x128, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2304, .f32⟩
  | .hbm, ⟨29, _⟩ => ⟨S8192x1024, .f32⟩
  | .hbm, ⟨30, _⟩ => ⟨S8192x128, .f32⟩
  | .hbm, ⟨31, _⟩ => ⟨S8192x128, .f32⟩
  | .hbm, ⟨32, _⟩ => ⟨S8192x1024, .f32⟩
  | .hbm, ⟨33, _⟩ => ⟨S8192x2304, .f32⟩
  | .hbm, ⟨34, _⟩ => ⟨S2304x1024, .f32⟩
  | .hbm, ⟨35, _⟩ => ⟨S1024x2304, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== S5b.lean ====
abbrev S8192x1024 : Shape := ⟨2, ![8192, 1024]⟩
abbrev S512x4096 : Shape := ⟨2, ![512, 4096]⟩
abbrev S64x16x16x16 : Shape := ⟨4, ![64, 16, 16, 16]⟩
abbrev S64x256x128 : Shape := ⟨3, ![64, 256, 128]⟩
abbrev S64x128x256 : Shape := ⟨3, ![64, 128, 256]⟩
abbrev S1024 : Shape := ⟨1, ![1024]⟩
abbrev S_ : Shape := ⟨0, ![]⟩
abbrev S64x15x16x16 : Shape := ⟨4, ![64, 15, 16, 16]⟩
abbrev S64x14x16x16 : Shape := ⟨4, ![64, 14, 16, 16]⟩
abbrev S64x13x16x16 : Shape := ⟨4, ![64, 13, 16, 16]⟩
abbrev S64x12x16x16 : Shape := ⟨4, ![64, 12, 16, 16]⟩
abbrev S64x11x16x16 : Shape := ⟨4, ![64, 11, 16, 16]⟩
abbrev S64x10x16x16 : Shape := ⟨4, ![64, 10, 16, 16]⟩
abbrev S64x9x16x16 : Shape := ⟨4, ![64, 9, 16, 16]⟩
abbrev S64x8x16x16 : Shape := ⟨4, ![64, 8, 16, 16]⟩
abbrev S64x7x16x16 : Shape := ⟨4, ![64, 7, 16, 16]⟩
abbrev S64x6x16x16 : Shape := ⟨4, ![64, 6, 16, 16]⟩
abbrev S64x5x16x16 : Shape := ⟨4, ![64, 5, 16, 16]⟩
abbrev S64x4x16x16 : Shape := ⟨4, ![64, 4, 16, 16]⟩
abbrev S64x3x16x16 : Shape := ⟨4, ![64, 3, 16, 16]⟩
abbrev S64x2x16x16 : Shape := ⟨4, ![64, 2, 16, 16]⟩
abbrev S64x1x16x16 : Shape := ⟨4, ![64, 1, 16, 16]⟩
abbrev S64x16x16x1x16 : Shape := ⟨5, ![64, 16, 16, 1, 16]⟩
abbrev S64x16x16x16x16 : Shape := ⟨5, ![64, 16, 16, 16, 16]⟩
abbrev S64x256x256 : Shape := ⟨3, ![64, 256, 256]⟩
abbrev S1x1024 : Shape := ⟨2, ![1, 1024]⟩
abbrev S64x256x16 : Shape := ⟨3, ![64, 256, 16]⟩
abbrev S8192x128 : Shape := ⟨2, ![8192, 128]⟩
abbrev S512x512 : Shape := ⟨2, ![512, 512]⟩
abbrev S8x256x256 : Shape := ⟨3, ![8, 256, 256]⟩
abbrev S8x256x128 : Shape := ⟨3, ![8, 256, 128]⟩
abbrev S1x128 : Shape := ⟨2, ![1, 128]⟩
abbrev S8x256x16 : Shape := ⟨3, ![8, 256, 16]⟩
abbrev S8x128x256 : Shape := ⟨3, ![8, 128, 256]⟩
abbrev S256x256 : Shape := ⟨2, ![256, 256]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S16x512 : Shape := ⟨2, ![16, 512]⟩
abbrev S256x512 : Shape := ⟨2, ![256, 512]⟩
abbrev S64x512 : Shape := ⟨2, ![64, 512]⟩
abbrev S1x256x256 : Shape := ⟨3, ![1, 256, 256]⟩
abbrev S1x256x128 : Shape := ⟨3, ![1, 256, 128]⟩
abbrev S256x128 : Shape := ⟨2, ![256, 128]⟩
abbrev S256x16 : Shape := ⟨2, ![256, 16]⟩
abbrev S240x16 : Shape := ⟨2, ![240, 16]⟩
abbrev S16x16 : Shape := ⟨2, ![16, 16]⟩
abbrev S224x16 : Shape := ⟨2, ![224, 16]⟩
abbrev S32x16 : Shape := ⟨2, ![32, 16]⟩
abbrev S208x16 : Shape := ⟨2, ![208, 16]⟩
abbrev S48x16 : Shape := ⟨2, ![48, 16]⟩
abbrev S192x16 : Shape := ⟨2, ![192, 16]⟩
abbrev S64x16 : Shape := ⟨2, ![64, 16]⟩
abbrev S176x16 : Shape := ⟨2, ![176, 16]⟩
abbrev S80x16 : Shape := ⟨2, ![80, 16]⟩
abbrev S160x16 : Shape := ⟨2, ![160, 16]⟩
abbrev S96x16 : Shape := ⟨2, ![96, 16]⟩
abbrev S144x16 : Shape := ⟨2, ![144, 16]⟩
abbrev S112x16 : Shape := ⟨2, ![112, 16]⟩
abbrev S128x16 : Shape := ⟨2, ![128, 16]⟩
abbrev S1x256x16 : Shape := ⟨3, ![1, 256, 16]⟩
abbrev S128x256 : Shape := ⟨2, ![128, 256]⟩
abbrev S1x128x256 : Shape := ⟨3, ![1, 128, 256]⟩
abbrev S128 : Shape := ⟨1, ![128]⟩

abbrev nBuf : Space → Nat
  | .hbm => 101
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S64x16x16x16, .f32⟩
  | .hbm, ⟨7, _⟩ => ⟨S64x256x128, .f32⟩
  | .hbm, ⟨8, _⟩ => ⟨S64x128x256, .f32⟩
  | .hbm, ⟨9, _⟩ => ⟨S1024, .f32⟩
  | .hbm, ⟨10, _⟩ => ⟨S64x16x16x16, .bf16⟩
  | .hbm, ⟨11, _⟩ => ⟨S_, .i32⟩
  | .hbm, ⟨12, _⟩ => ⟨S_, .bf16⟩
  | .hbm, ⟨13, _⟩ => ⟨S64x16x16x16, .bf16⟩
  | .hbm, ⟨14, _⟩ => ⟨S64x15x16x16, .bf16⟩
  | .hbm, ⟨15, _⟩ => ⟨S_, .i32⟩
  | .hbm, ⟨16, _⟩ => ⟨S_, .bf16⟩
  | .hbm, ⟨17, _⟩ => ⟨S64x16x16x16, .bf16⟩
  | .hbm, ⟨18, _⟩ => ⟨S64x14x16x16, .bf16⟩
  | .hbm, ⟨19, _⟩ => ⟨S_, .i32⟩
  | .hbm, ⟨20, _⟩ => ⟨S_, .bf16⟩
  | .hbm, ⟨21, _⟩ => ⟨S64x16x16x16, .bf16⟩
  | .hbm, ⟨22, _⟩ => ⟨S64x13x16x16, .bf16⟩
  | .hbm, ⟨23, _⟩ => ⟨S_, .i32⟩
  | .hbm, ⟨24, _⟩ => ⟨S_, .bf16⟩
  | .hbm, ⟨25, _⟩ => ⟨S64x16x16x16, .bf16⟩
  | .hbm, ⟨26, _⟩ => ⟨S64x12x16x16, .bf16⟩
  | .hbm, ⟨27, _⟩ => ⟨S_, .i32⟩
  | .hbm, ⟨28, _⟩ => ⟨S_, .bf16⟩
  | .hbm, ⟨29, _⟩ => ⟨S64x16x16x16, .bf16⟩
  | .hbm, ⟨30, _⟩ => ⟨S64x11x16x16, .bf16⟩
  | .hbm, ⟨31, _⟩ => ⟨S_, .i32⟩
  | .hbm, ⟨32, _⟩ => ⟨S_, .bf16⟩
  | .hbm, ⟨33, _⟩ => ⟨S64x16x16x16, .bf16⟩
  | .hbm, ⟨34, _⟩ => ⟨S64x10x16x16, .bf16⟩
  | .hbm, ⟨35, _⟩ => ⟨S_, .i32⟩
  | .hbm, ⟨36, _⟩ => ⟨S_, .bf16⟩
  | .hbm, ⟨37, _⟩ => ⟨S64x16x16x16, .bf16⟩
  | .hbm, ⟨38, _⟩ => ⟨S64x9x16x16, .bf16⟩
  | .hbm, ⟨39, _⟩ => ⟨S_, .i32⟩
  | .hbm, ⟨40, _⟩ => ⟨S_, .bf16⟩
  | .hbm, ⟨41, _⟩ => ⟨S64x16x16x16, .bf16⟩
  | .hbm, ⟨42, _⟩ => ⟨S64x8x16x16, .bf16⟩
  | .hbm, ⟨43, _⟩ => ⟨S_, .i32⟩
  | .hbm, ⟨44, _⟩ => ⟨S_, .bf16⟩
  | .hbm, ⟨45, _⟩ => ⟨S64x16x16x16, .bf16⟩
  | .hbm, ⟨46, _⟩ => ⟨S64x7x16x16, .bf16⟩
  | .hbm, ⟨47, _⟩ => ⟨S_, .i32⟩
  | .hbm, ⟨48, _⟩ => ⟨S_, .bf16⟩
  | .hbm, ⟨49, _⟩ => ⟨S64x16x16x16, .bf16⟩
  | .hbm, ⟨50, _⟩ => ⟨S64x6x16x16, .bf16⟩
  | .hbm, ⟨51, _⟩ => ⟨S_, .i32⟩
  | .hbm, ⟨52, _⟩ => ⟨S_, .bf16⟩
  | .hbm, ⟨53, _⟩ => ⟨S64x16x16x16, .bf16⟩
  | .hbm, ⟨54, _⟩ => ⟨S64x5x16x16, .bf16⟩
  | .hbm, ⟨55, _⟩ => ⟨S_, .i32⟩
  | .hbm, ⟨56, _⟩ => ⟨S_, .bf16⟩
  | .hbm, ⟨57, _⟩ => ⟨S64x16x16x16, .bf16⟩
  | .hbm, ⟨58, _⟩ => ⟨S64x4x16x16, .bf16⟩
  | .hbm, ⟨59, _⟩ => ⟨S_, .i32⟩
  | .hbm, ⟨60, _⟩ => ⟨S_, .bf16⟩
  | .hbm, ⟨61, _⟩ => ⟨S64x16x16x16, .bf16⟩
  | .hbm, ⟨62, _⟩ => ⟨S64x3x16x16, .bf16⟩
  | .hbm, ⟨63, _⟩ => ⟨S_, .i32⟩
  | .hbm, ⟨64, _⟩ => ⟨S_, .bf16⟩
  | .hbm, ⟨65, _⟩ => ⟨S64x16x16x16, .bf16⟩
  | .hbm, ⟨66, _⟩ => ⟨S64x2x16x16, .bf16⟩
  | .hbm, ⟨67, _⟩ => ⟨S_, .i32⟩
  | .hbm, ⟨68, _⟩ => ⟨S_, .bf16⟩
  | .hbm, ⟨69, _⟩ => ⟨S64x16x16x16, .bf16⟩
  | .hbm, ⟨70, _⟩ => ⟨S64x1x16x16, .bf16⟩
  | .hbm, ⟨71, _⟩ => ⟨S_, .i32⟩
  | .hbm, ⟨72, _⟩ => ⟨S_, .bf16⟩
  | .hbm, ⟨73, _⟩ => ⟨S64x16x16x16, .bf16⟩
  | .hbm, ⟨74, _⟩ => ⟨S64x16x16x1x16, .bf16⟩
  | .hbm, ⟨75, _⟩ => ⟨S64x16x16x1x16, .bf16⟩
  | .hbm, ⟨76, _⟩ => ⟨S64x16x16x1x16, .bf16⟩
  | .hbm, ⟨77, _⟩ => ⟨S64x16x16x1x16, .bf16⟩
  | .hbm, ⟨78, _⟩ => ⟨S64x16x16x1x16, .bf16⟩
  | .hbm, ⟨79, _⟩ => ⟨S64x16x16x1x16, .bf16⟩
  | .hbm, ⟨80, _⟩ => ⟨S64x16x16x1x16, .bf16⟩
  | .hbm, ⟨81, _⟩ => ⟨S64x16x16x1x16, .bf16⟩
  | .hbm, ⟨82, _⟩ => ⟨S64x16x16x1x16, .bf16⟩
  | .hbm, ⟨83, _⟩ => ⟨S64x16x16x1x16, .bf16⟩
  | .hbm, ⟨84, _⟩ => ⟨S64x16x16x1x16, .bf16⟩
  | .hbm, ⟨85, _⟩ => ⟨S64x16x16x1x16, .bf16⟩
  | .hbm, ⟨86, _⟩ => ⟨S64x16x16x1x16, .bf16⟩
  | .hbm, ⟨87, _⟩ => ⟨S64x16x16x1x16, .bf16⟩
  | .hbm, ⟨88, _⟩ => ⟨S64x16x16x1x16, .bf16⟩
  | .hbm, ⟨89, _⟩ => ⟨S64x16x16x1x16, .bf16⟩
  | .hbm, ⟨90, _⟩ => ⟨S64x16x16x16x16, .bf16⟩
  | .hbm, ⟨91, _⟩ => ⟨S64x256x256, .bf16⟩
  | .hbm, ⟨92, _⟩ => ⟨S64x256x256, .bf16⟩
  | .hbm, ⟨93, _⟩ => ⟨S64x256x128, .f32⟩
  | .hbm, ⟨94, _⟩ => ⟨S64x256x128, .bf16⟩
  | .hbm, ⟨95, _⟩ => ⟨S1x1024, .f32⟩
  | .hbm, ⟨96, _⟩ => ⟨S8192x1024, .f32⟩
  | .hbm, ⟨97, _⟩ => ⟨S64x256x16, .f32⟩
  | .hbm, ⟨98, _⟩ => ⟨S64x256x128, .f32⟩
  | .hbm, ⟨99, _⟩ => ⟨S64x128x256, .f32⟩
  | .hbm, ⟨100, _⟩ => ⟨S1x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x256x256, .bf16⟩
  | .local _ .vmem, ⟨13, _⟩ => ⟨S8x256x256, .bf16⟩
  | .local _ .vmem, ⟨14, _⟩ => ⟨S8x256x128, .bf16⟩
  | .local _ .vmem, ⟨15, _⟩ => ⟨S8x256x128, .bf16⟩
  | .local _ .vmem, ⟨16, _⟩ => ⟨S1x128, .f32⟩
  | .local _ .vmem, ⟨17, _⟩ => ⟨S1x128, .f32⟩
  | .local _ .vmem, ⟨18, _⟩ => ⟨S8192x128, .f32⟩
  | .local _ .vmem, ⟨19, _⟩ => ⟨S8192x128, .f32⟩
  | .local _ .vmem, ⟨20, _⟩ => ⟨S8x256x16, .f32⟩
  | .local _ .vmem, ⟨21, _⟩ => ⟨S8x256x16, .f32⟩
  | .local _ .vmem, ⟨22, _⟩ => ⟨S8x256x128, .f32⟩
  | .local _ .vmem, ⟨23, _⟩ => ⟨S8x256x128, .f32⟩
  | .local _ .vmem, ⟨24, _⟩ => ⟨S8x128x256, .f32⟩
  | .local _ .vmem, ⟨25, _⟩ => ⟨S8x128x256, .f32⟩
  | .local _ .vmem, ⟨26, _⟩ => ⟨S1x128, .f32⟩
  | .local _ .vmem, ⟨27, _⟩ => ⟨S1x128, .f32⟩
  | .local _ .vmem, ⟨28, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_call4_v0 : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_call5_v0 : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_call6_v0 : Ref sig .tc := ⟨.hbm, 36, rfl⟩
abbrev main_v13 : Ref sig .tc := ⟨.hbm, 37, rfl⟩
abbrev main_v14 : Ref sig .tc := ⟨.hbm, 38, rfl⟩
abbrev main_c_6 : Ref sig .tc := ⟨.hbm, 39, rfl⟩
abbrev main_call7_v0 : Ref sig .tc := ⟨.hbm, 40, rfl⟩
abbrev main_v15 : Ref sig .tc := ⟨.hbm, 41, rfl⟩
abbrev main_v16 : Ref sig .tc := ⟨.hbm, 42, rfl⟩
abbrev main_c_7 : Ref sig .tc := ⟨.hbm, 43, rfl⟩
abbrev main_call8_v0 : Ref sig .tc := ⟨.hbm, 44, rfl⟩
abbrev main_v17 : Ref sig .tc := ⟨.hbm, 45, rfl⟩
abbrev main_v18 : Ref sig .tc := ⟨.hbm, 46, rfl⟩
abbrev main_c_8 : Ref sig .tc := ⟨.hbm, 47, rfl⟩
abbrev main_call9_v0 : Ref sig .tc := ⟨.hbm, 48, rfl⟩
abbrev main_v19 : Ref sig .tc := ⟨.hbm, 49, rfl⟩
abbrev main_v20 : Ref sig .tc := ⟨.hbm, 50, rfl⟩
abbrev main_c_9 : Ref sig .tc := ⟨.hbm, 51, rfl⟩
abbrev main_call10_v0 : Ref sig .tc := ⟨.hbm, 52, rfl⟩
abbrev main_v21 : Ref sig .tc := ⟨.hbm, 53, rfl⟩
abbrev main_v22 : Ref sig .tc := ⟨.hbm, 54, rfl⟩
abbrev main_c_10 : Ref sig .tc := ⟨.hbm, 55, rfl⟩
abbrev main_call11_v0 : Ref sig .tc := ⟨.hbm, 56, rfl⟩
abbrev main_v23 : Ref sig .tc := ⟨.hbm, 57, rfl⟩
abbrev main_v24 : Ref sig .tc := ⟨.hbm, 58, rfl⟩
abbrev main_c_11 : Ref sig .tc := ⟨.hbm, 59, rfl⟩
abbrev main_call12_v0 : Ref sig .tc := ⟨.hbm, 60, rfl⟩
abbrev main_v25 : Ref sig .tc := ⟨.hbm, 61, rfl⟩
abbrev main_v26 : Ref sig .tc := ⟨.hbm, 62, rfl⟩
abbrev main_c_12 : Ref sig .tc := ⟨.hbm, 63, rfl⟩
abbrev main_call13_v0 : Ref sig .tc := ⟨.hbm, 64, rfl⟩
abbrev main_v27 : Ref sig .tc := ⟨.hbm, 65, rfl⟩
abbrev main_v28 : Ref sig .tc := ⟨.hbm, 66, rfl⟩
abbrev main_c_13 : Ref sig .tc := ⟨.hbm, 67, rfl⟩
abbrev main_call14_v0 : Ref sig .tc := ⟨.hbm, 68, rfl⟩
abbrev main_v29 : Ref sig .tc := ⟨.hbm, 69, rfl⟩
abbrev main_v30 : Ref sig .tc := ⟨.hbm, 70, rfl⟩
abbrev main_c_14 : Ref sig .tc := ⟨.hbm, 71, rfl⟩
abbrev main_call15_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54_0 : Ref sig .tc := ⟨.hbm, 96, rfl⟩
abbrev main_v54_1 : Ref sig .tc := ⟨.hbm, 97, rfl⟩
abbrev main_v54_2 : Ref sig .tc := ⟨.hbm, 98, rfl⟩
abbrev main_v54_3 : Ref sig .tc := ⟨.hbm, 99, rfl⟩
abbrev main_v54_4 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== S5bRefIdeal.lean ====
abbrev S8192x1024 : Shape := ⟨2, ![8192, 1024]⟩
abbrev S512x4096 : Shape := ⟨2, ![512, 4096]⟩
abbrev S64x16x16x16 : Shape := ⟨4, ![64, 16, 16, 16]⟩
abbrev S64x256x128 : Shape := ⟨3, ![64, 256, 128]⟩
abbrev S64x128x256 : Shape := ⟨3, ![64, 128, 256]⟩
abbrev S1024 : Shape := ⟨1, ![1024]⟩
abbrev S512x16x64x16 : Shape := ⟨4, ![512, 16, 64, 16]⟩
abbrev S512x64x64 : Shape := ⟨3, ![512, 64, 64]⟩
abbrev S512x64x128 : Shape := ⟨3, ![512, 64, 128]⟩
abbrev S64x16x16x128 : Shape := ⟨4, ![64, 16, 16, 128]⟩
abbrev S64x16x16x512 : Shape := ⟨4, ![64, 16, 16, 512]⟩
abbrev S16 : Shape := ⟨1, ![16]⟩
abbrev S16x1x1 : Shape := ⟨3, ![16, 1, 1]⟩
abbrev S1x16x1 : Shape := ⟨3, ![1, 16, 1]⟩
abbrev S1x1x16 : Shape := ⟨3, ![1, 1, 16]⟩
abbrev S1x16x16 : Shape := ⟨3, ![1, 16, 16]⟩
abbrev S16x16x16 : Shape := ⟨3, ![16, 16, 16]⟩
abbrev S_ : Shape := ⟨0, ![]⟩
abbrev S512x64x16x16x16 : Shape := ⟨5, ![512, 64, 16, 16, 16]⟩
abbrev S512x16x16x64x16 : Shape := ⟨5, ![512, 16, 16, 64, 16]⟩
abbrev S64x16x512x16 : Shape := ⟨4, ![64, 16, 512, 16]⟩
abbrev S64x16 : Shape := ⟨2, ![64, 16]⟩
abbrev S1x1x64x16 : Shape := ⟨4, ![1, 1, 64, 16]⟩
abbrev S64x128x16x16 : Shape := ⟨4, ![64, 128, 16, 16]⟩
abbrev S64x128x512 : Shape := ⟨3, ![64, 128, 512]⟩
abbrev S64x512x16x16 : Shape := ⟨4, ![64, 512, 16, 16]⟩
abbrev S64x512x16x16x16 : Shape := ⟨5, ![64, 512, 16, 16, 16]⟩
abbrev S512x64x16x16 : Shape := ⟨4, ![512, 64, 16, 16]⟩
abbrev S64x512x128 : Shape := ⟨3, ![64, 512, 128]⟩
abbrev S64x256x16 : Shape := ⟨3, ![64, 256, 16]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S64x16x16x16, .f32⟩
  | .hbm, ⟨7, _⟩ => ⟨S64x256x128, .f32⟩
  | .hbm, ⟨8, _⟩ => ⟨S64x128x256, .f32⟩
  | .hbm, ⟨9, _⟩ => ⟨S1024, .f32⟩
  | .hbm, ⟨10, _⟩ => ⟨S512x16x64x16, .f32⟩
  | .hbm, ⟨11, _⟩ => ⟨S512x64x64, .f32⟩
  | .hbm, ⟨12, _⟩ => ⟨S512x64x64, .f32⟩
  | .hbm, ⟨13, _⟩ => ⟨S512x64x128, .f32⟩
  | .hbm, ⟨14, _⟩ => ⟨S64x16x16x128, .f32⟩
  | .hbm, ⟨15, _⟩ => ⟨S64x16x16x512, .f32⟩
  | .hbm, ⟨16, _⟩ => ⟨S512x16x64x16, .f32⟩
  | .hbm, ⟨17, _⟩ => ⟨S16, .i32⟩
  | .hbm, ⟨18, _⟩ => ⟨S16x1x1, .i32⟩
  | .hbm, ⟨19, _⟩ => ⟨S1x16x1, .i32⟩
  | .hbm, ⟨20, _⟩ => ⟨S1x1x16, .i32⟩
  | .hbm, ⟨21, _⟩ => ⟨S1x16x16, .i32⟩
  | .hbm, ⟨22, _⟩ => ⟨S1x16x16, .i32⟩
  | .hbm, ⟨23, _⟩ => ⟨S1x16x16, .i32⟩
  | .hbm, ⟨24, _⟩ => ⟨S16x16x16, .i32⟩
  | .hbm, ⟨25, _⟩ => ⟨S16x16x16, .i32⟩
  | .hbm, ⟨26, _⟩ => ⟨S16x16x16, .i1⟩
  | .hbm, ⟨27, _⟩ => ⟨S_, .f32⟩
  | .hbm, ⟨28, _⟩ => ⟨S_, .f32⟩
  | .hbm, ⟨29, _⟩ => ⟨S16x16x16, .f32⟩
  | .hbm, ⟨30, _⟩ => ⟨S16x16x16, .f32⟩
  | .hbm, ⟨31, _⟩ => ⟨S16x16x16, .f32⟩
  | .hbm, ⟨32, _⟩ => ⟨S512x64x16x16x16, .f32⟩
  | .hbm, ⟨33, _⟩ => ⟨S512x16x16x64x16, .f32⟩
  | .hbm, ⟨34, _⟩ => ⟨S64x16x512x16, .f32⟩
  | .hbm, ⟨35, _⟩ => ⟨S512x16x64x16, .f32⟩
  | .hbm, ⟨36, _⟩ => ⟨S512x16x64x16, .f32⟩
  | .hbm, ⟨37, _⟩ => ⟨S64x16, .f32⟩
  | .hbm, ⟨38, _⟩ => ⟨S1x1x64x16, .f32⟩
  | .hbm, ⟨39, _⟩ => ⟨S512x16x64x16, .f32⟩
  | .hbm, ⟨40, _⟩ => ⟨S512x16x64x16, .f32⟩
  | .hbm, ⟨41, _⟩ => ⟨S512x16x64x16, .f32⟩
  | .hbm, ⟨42, _⟩ => ⟨S64x128x16x16, .f32⟩
  | .hbm, ⟨43, _⟩ => ⟨S64x128x512, .f32⟩
  | .hbm, ⟨44, _⟩ => ⟨S512x64x128, .f32⟩
  | .hbm, ⟨45, _⟩ => ⟨S8192x1024, .f32⟩
  | .hbm, ⟨46, _⟩ => ⟨S512x64x64, .f32⟩
  | .hbm, ⟨47, _⟩ => ⟨S512x4096, .f32⟩
  | .hbm, ⟨48, _⟩ => ⟨S512x64x64, .f32⟩
  | .hbm, ⟨49, _⟩ => ⟨S512x4096, .f32⟩
  | .hbm, ⟨50, _⟩ => ⟨S512x64x64, .f32⟩
  | .hbm, ⟨51, _⟩ => ⟨S_, .f32⟩
  | .hbm, ⟨52, _⟩ => ⟨S512x64x128, .f32⟩
  | .hbm, ⟨53, _⟩ => ⟨S512x64x64, .f32⟩
  | .hbm, ⟨54, _⟩ => ⟨S_, .f32⟩
  | .hbm, ⟨55, _⟩ => ⟨S512x64x128, .f32⟩
  | .hbm, ⟨56, _⟩ => ⟨S512x64x128, .f32⟩
  | .hbm, ⟨57, _⟩ => ⟨S512x16x64x16, .f32⟩
  | .hbm, ⟨58, _⟩ => ⟨S64x128x512, .f32⟩
  | .hbm, ⟨59, _⟩ => ⟨S64x512x16x16, .f32⟩
  | .hbm, ⟨60, _⟩ => ⟨S512x16x64x16, .f32⟩
  | .hbm, ⟨61, _⟩ => ⟨S64x128x16x16, .f32⟩
  | .hbm, ⟨62, _⟩ => ⟨S64x128x256, .f32⟩
  | .hbm, ⟨63, _⟩ => ⟨S512x16x64x16, .f32⟩
  | .hbm, ⟨64, _⟩ => ⟨S512x16x64x16, .f32⟩
  | .hbm, ⟨65, _⟩ => ⟨S512x16x64x16, .f32⟩
  | .hbm, ⟨66, _⟩ => ⟨S512x16x64x16, .f32⟩
  | .hbm, ⟨67, _⟩ => ⟨S_, .f32⟩
  | .hbm, ⟨68, _⟩ => ⟨S64x16, .f32⟩
  | .hbm, ⟨69, _⟩ => ⟨S1x1x64x16, .f32⟩
  | .hbm, ⟨70, _⟩ => ⟨S_, .f32⟩
  | .hbm, ⟨71, _⟩ => ⟨S64x16, .f32⟩
  | .hbm, ⟨72, _⟩ => ⟨S1024, .f32⟩
  | .hbm, ⟨73, _⟩ => ⟨S64x16x512x16, .f32⟩
  | .hbm, ⟨74, _⟩ => ⟨S64x512x16x16x16, .f32⟩
  | .hbm, ⟨75, _⟩ => ⟨S512x16x16x64x16, .f32⟩
  | .hbm, ⟨76, _⟩ => ⟨S64x16x16x16, .f32⟩
  | .hbm, ⟨77, _⟩ => ⟨S64x16x16x16, .f32⟩
  | .hbm, ⟨78, _⟩ => ⟨S512x64x16x16x16, .f32⟩
  | .hbm, ⟨79, _⟩ => ⟨S512x64x16x16, .f32⟩
  | .hbm, ⟨80, _⟩ => ⟨S512x16x64x16, .f32⟩
  | .hbm, ⟨81, _⟩ => ⟨S512x16x64x16, .f32⟩
  | .hbm, ⟨82, _⟩ => ⟨S64x16x16x512, .f32⟩
  | .hbm, ⟨83, _⟩ => ⟨S64x512x128, .f32⟩
  | .hbm, ⟨84, _⟩ => ⟨S512x64x128, .f32⟩
  | .hbm, ⟨85, _⟩ => ⟨S64x16x16x128, .f32⟩
  | .hbm, ⟨86, _⟩ => ⟨S64x256x128, .f32⟩
  | .hbm, ⟨87, _⟩ => ⟨S512x64x64, .f32⟩
  | .hbm, ⟨88, _⟩ => ⟨S512x64x64, .f32⟩
  | .hbm, ⟨89, _⟩ => ⟨S512x4096, .f32⟩
  | .hbm, ⟨90, _⟩ => ⟨S512x4096, .f32⟩
  | .hbm, ⟨91, _⟩ => ⟨S8192x1024, .f32⟩
  | .hbm, ⟨92, _⟩ => ⟨S64x256x16, .f32⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== S5p.lean ====
abbrev S8192x1024 : Shape := ⟨2, ![8192, 1024]⟩
abbrev S64x256x128 : Shape := ⟨3, ![64, 256, 128]⟩
abbrev S64x128x256 : Shape := ⟨3, ![64, 128, 256]⟩
abbrev S512x4096 : Shape := ⟨2, ![512, 4096]⟩
abbrev S8192x128 : Shape := ⟨2, ![8192, 128]⟩
abbrev S8x128x256 : Shape := ⟨3, ![8, 128, 256]⟩
abbrev S512x512 : Shape := ⟨2, ![512, 512]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S1x128x256 : Shape := ⟨3, ![1, 128, 256]⟩
abbrev S128x256 : Shape := ⟨2, ![128, 256]⟩
abbrev S16x512 : Shape := ⟨2, ![16, 512]⟩
abbrev S256x512 : Shape := ⟨2, ![256, 512]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S64x256x128, .f32⟩
  | .hbm, ⟨2, _⟩ => ⟨S64x128x256, .f32⟩
  | .hbm, ⟨3, _⟩ => ⟨S64x128x256, .bf16⟩
  | .hbm, ⟨4, _⟩ => ⟨S512x4096, .f32⟩
  | .hbm, ⟨5, _⟩ => ⟨S512x4096, .f32⟩
  | .local _ .vmem, ⟨0, _⟩ => ⟨S8192x128, .f32⟩
  | .local _ .vmem, ⟨1, _⟩ => ⟨S8192x128, .f32⟩
  | .local _ .vmem, ⟨2, _⟩ => ⟨S8x128x256, .bf16⟩
  | .local _ .vmem, ⟨3, _⟩ => ⟨S8x128x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5pRefIdeal.lean ====
abbrev S8192x1024 : Shape := ⟨2, ![8192, 1024]⟩
abbrev S64x256x128 : Shape := ⟨3, ![64, 256, 128]⟩
abbrev S_ : Shape := ⟨0, ![]⟩
abbrev S512x4096 : Shape := ⟨2, ![512, 4096]⟩
abbrev S512x64x64 : Shape := ⟨3, ![512, 64, 64]⟩
abbrev S512x64x128 : Shape := ⟨3, ![512, 64, 128]⟩
abbrev S64x16x16x128 : Shape := ⟨4, ![64, 16, 16, 128]⟩
abbrev S64x16x16x512 : Shape := ⟨4, ![64, 16, 16, 512]⟩
abbrev S512x16x64x16 : Shape := ⟨4, ![512, 16, 64, 16]⟩
abbrev S64x512x128 : Shape := ⟨3, ![64, 512, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x256x128, .f32⟩
  | .hbm, ⟨2, _⟩ => ⟨S_, .f32⟩
  | .hbm, ⟨3, _⟩ => ⟨S512x4096, .f32⟩
  | .hbm, ⟨4, _⟩ => ⟨S512x64x64, .f32⟩
  | .hbm, ⟨5, _⟩ => ⟨S512x64x64, .f32⟩
  | .hbm, ⟨6, _⟩ => ⟨S512x64x128, .f32⟩
  | .hbm, ⟨7, _⟩ => ⟨S64x16x16x128, .f32⟩
  | .hbm, ⟨8, _⟩ => ⟨S64x16x16x512, .f32⟩
  | .hbm, ⟨9, _⟩ => ⟨S512x16x64x16, .f32⟩
  | .hbm, ⟨10, _⟩ => ⟨S8192x1024, .f32⟩
  | .hbm, ⟨11, _⟩ => ⟨S512x16x64x16, .f32⟩
  | .hbm, ⟨12, _⟩ => ⟨S64x16x16x512, .f32⟩
  | .hbm, ⟨13, _⟩ => ⟨S64x512x128, .f32⟩
  | .hbm, ⟨14, _⟩ => ⟨S512x64x128, .f32⟩
  | .hbm, ⟨15, _⟩ => ⟨S512x64x64, .f32⟩
  | .hbm, ⟨16, _⟩ => ⟨S512x64x64, .f32⟩
  | .hbm, ⟨17, _⟩ => ⟨S512x4096, .f32⟩
  | .hbm, ⟨18, _⟩ => ⟨S512x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Scan.lean ====
abbrev S512x4096 : Shape := ⟨2, ![512, 4096]⟩
abbrev S1x4096 : Shape := ⟨2, ![1, 4096]⟩
abbrev S512x2048 : Shape := ⟨2, ![512, 2048]⟩
abbrev S1x2048 : Shape := ⟨2, ![1, 2048]⟩

abbrev nBuf : Space → Nat
  | .hbm => 12
  | .vmem => 32
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S1x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S1x4096, .f32⟩
  | .hbm, ⟨11, _⟩ => ⟨S1x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v5 : Index := Scalar.indexCast arg7
  let c0_4 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

@[reducible] def k1_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k1_off1 (k1_t1 : Fin k1_t1_loop.trips) : Fin 2 → Nat :=
  let c511_i32 : BitVec 32 := 511#32
  let c0_i32 : BitVec 32 := 0#32
  let c1_i32 : BitVec 32 := 1#32
  let arg11 : BitVec 32 := Scf.iv c0_i32 c1_i32 k1_t1
  let v7 : BitVec 32 := Scalar.subi c511_i32 arg11
  let v8 : Index := Scalar.indexCast v7
  let c0_8 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== S5o.lean ====
abbrev S8192x1024 : Shape := ⟨2, ![8192, 1024]⟩
abbrev S512x4096 : Shape := ⟨2, ![512, 4096]⟩
abbrev S64x16x16x16 : Shape := ⟨4, ![64, 16, 16, 16]⟩
abbrev S64x256x128 : Shape := ⟨3, ![64, 256, 128]⟩
abbrev S1024 : Shape := ⟨1, ![1024]⟩
abbrev S_ : Shape := ⟨0, ![]⟩
abbrev S64x15x16x16 : Shape := ⟨4, ![64, 15, 16, 16]⟩
abbrev S64x14x16x16 : Shape := ⟨4, ![64, 14, 16, 16]⟩
abbrev S64x13x16x16 : Shape := ⟨4, ![64, 13, 16, 16]⟩
abbrev S64x12x16x16 : Shape := ⟨4, ![64, 12, 16, 16]⟩
abbrev S64x11x16x16 : Shape := ⟨4, ![64, 11, 16, 16]⟩
abbrev S64x10x16x16 : Shape := ⟨4, ![64, 10, 16, 16]⟩
abbrev S64x9x16x16 : Shape := ⟨4, ![64, 9, 16, 16]⟩
abbrev S64x8x16x16 : Shape := ⟨4, ![64, 8, 16, 16]⟩
abbrev S64x7x16x16 : Shape := ⟨4, ![64, 7, 16, 16]⟩
abbrev S64x6x16x16 : Shape := ⟨4, ![64, 6, 16, 16]⟩
abbrev S64x5x16x16 : Shape := ⟨4, ![64, 5, 16, 16]⟩
abbrev S64x4x16x16 : Shape := ⟨4, ![64, 4, 16, 16]⟩
abbrev S64x3x16x16 : Shape := ⟨4, ![64, 3, 16, 16]⟩
abbrev S64x2x16x16 : Shape := ⟨4, ![64, 2, 16, 16]⟩
abbrev S64x1x16x16 : Shape := ⟨4, ![64, 1, 16, 16]⟩
abbrev S64x16x16x1x16 : Shape := ⟨5, ![64, 16, 16, 1, 16]⟩
abbrev S64x16x16x16x16 : Shape := ⟨5, ![64, 16, 16, 16, 16]⟩
abbrev S64x256x256 : Shape := ⟨3, ![64, 256, 256]⟩
abbrev S1x1024 : Shape := ⟨2, ![1, 1024]⟩
abbrev S8192x128 : Shape := ⟨2, ![8192, 128]⟩
abbrev S512x512 : Shape := ⟨2, ![512, 512]⟩
abbrev S8x256x256 : Shape := ⟨3, ![8, 256, 256]⟩
abbrev S8x256x128 : Shape := ⟨3, ![8, 256, 128]⟩
abbrev S1x128 : Shape := ⟨2, ![1, 128]⟩
abbrev S512x16x128 : Shape := ⟨3, ![512, 16, 128]⟩
abbrev S16x512x128 : Shape := ⟨3, ![16, 512, 128]⟩
abbrev S1x512x128 : Shape := ⟨3, ![1, 512, 128]⟩
abbrev S512x128 : Shape := ⟨2, ![512, 128]⟩
abbrev S128x512 : Shape := ⟨2, ![128, 512]⟩
abbrev S1x256x256 : Shape := ⟨3, ![1, 256, 256]⟩
abbrev S256x256 : Shape := ⟨2, ![256, 256]⟩
abbrev S16x512 : Shape := ⟨2, ![16, 512]⟩
abbrev S256x512 : Shape := ⟨2, ![256, 512]⟩
abbrev S1x256x128 : Shape := ⟨3, ![1, 256, 128]⟩
abbrev S256x128 : Shape := ⟨2, ![256, 128]⟩
abbrev S64x512 : Shape := ⟨2, ![64, 512]⟩

abbrev nBuf : Space → Nat
  | .hbm => 91
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S512x4096, .f32⟩
  | .hbm, ⟨2, _⟩ => ⟨S512x4096, .f32⟩
  | .hbm, ⟨3, _⟩ => ⟨S64x16x16x16, .f32⟩
  | .hbm, ⟨4, _⟩ => ⟨S64x256x128, .f32⟩
  | .hbm, ⟨5, _⟩ => ⟨S1024, .f32⟩
  | .hbm, ⟨6, _⟩ => ⟨S64x16x16x16, .bf16⟩
  | .hbm, ⟨7, _⟩ => ⟨S_, .i32⟩
  | .hbm, ⟨8, _⟩ => ⟨S_, .bf16⟩
  | .hbm, ⟨9, _⟩ => ⟨S64x16x16x16, .bf16⟩
  | .hbm, ⟨10, _⟩ => ⟨S64x15x16x16, .bf16⟩
  | .hbm, ⟨11, _⟩ => ⟨S_, .i32⟩
  | .hbm, ⟨12, _⟩ => ⟨S_, .bf16⟩
  | .hbm, ⟨13, _⟩ => ⟨S64x16x16x16, .bf16⟩
  | .hbm, ⟨14, _⟩ => ⟨S64x14x16x16, .bf16⟩
  | .hbm, ⟨15, _⟩ => ⟨S_, .i32⟩
  | .hbm, ⟨16, _⟩ => ⟨S_, .bf16⟩
  | .hbm, ⟨17, _⟩ => ⟨S64x16x16x16, .bf16⟩
  | .hbm, ⟨18, _⟩ => ⟨S64x13x16x16, .bf16⟩
  | .hbm, ⟨19, _⟩ => ⟨S_, .i32⟩
  | .hbm, ⟨20, _⟩ => ⟨S_, .bf16⟩
  | .hbm, ⟨21, _⟩ => ⟨S64x16x16x16, .bf16⟩
  | .hbm, ⟨22, _⟩ => ⟨S64x12x16x16, .bf16⟩
  | .hbm, ⟨23, _⟩ => ⟨S_, .i32⟩
  | .hbm, ⟨24, _⟩ => ⟨S_, .bf16⟩
  | .hbm, ⟨25, _⟩ => ⟨S64x16x16x16, .bf16⟩
  | .hbm, ⟨26, _⟩ => ⟨S64x11x16x16, .bf16⟩
  | .hbm, ⟨27, _⟩ => ⟨S_, .i32⟩
  | .hbm, ⟨28, _⟩ => ⟨S_, .bf16⟩
  | .hbm, ⟨29, _⟩ => ⟨S64x16x16x16, .bf16⟩
  | .hbm, ⟨30, _⟩ => ⟨S64x10x16x16, .bf16⟩
  | .hbm, ⟨31, _⟩ => ⟨S_, .i32⟩
  | .hbm, ⟨32, _⟩ => ⟨S_, .bf16⟩
  | .hbm, ⟨33, _⟩ => ⟨S64x16x16x16, .bf16⟩
  | .hbm, ⟨34, _⟩ => ⟨S64x9x16x16, .bf16⟩
  | .hbm, ⟨35, _⟩ => ⟨S_, .i32⟩
  | .hbm, ⟨36, _⟩ => ⟨S_, .bf16⟩
  | .hbm, ⟨37, _⟩ => ⟨S64x16x16x16, .bf16⟩
  | .hbm, ⟨38, _⟩ => ⟨S64x8x16x16, .bf16⟩
  | .hbm, ⟨39, _⟩ => ⟨S_, .i32⟩
  | .hbm, ⟨40, _⟩ => ⟨S_, .bf16⟩
  | .hbm, ⟨41, _⟩ => ⟨S64x16x16x16, .bf16⟩
  | .hbm, ⟨42, _⟩ => ⟨S64x7x16x16, .bf16⟩
  | .hbm, ⟨43, _⟩ => ⟨S_, .i32⟩
  | .hbm, ⟨44, _⟩ => ⟨S_, .bf16⟩
  | .hbm, ⟨45, _⟩ => ⟨S64x16x16x16, .bf16⟩
  | .hbm, ⟨46, _⟩ => ⟨S64x6x16x16, .bf16⟩
  | .hbm, ⟨47, _⟩ => ⟨S_, .i32⟩
  | .hbm, ⟨48, _⟩ => ⟨S_, .bf16⟩
  | .hbm, ⟨49, _⟩ => ⟨S64x16x16x16, .bf16⟩
  | .hbm, ⟨50, _⟩ => ⟨S64x5x16x16, .bf16⟩
  | .hbm, ⟨51, _⟩ => ⟨S_, .i32⟩
  | .hbm, ⟨52, _⟩ => ⟨S_, .bf16⟩
  | .hbm, ⟨53, _⟩ => ⟨S64x16x16x16, .bf16⟩
  | .hbm, ⟨54, _⟩ => ⟨S64x4x16x16, .bf16⟩
  | .hbm, ⟨55, _⟩ => ⟨S_, .i32⟩
  | .hbm, ⟨56, _⟩ => ⟨S_, .bf16⟩
  | .hbm, ⟨57, _⟩ => ⟨S64x16x16x16, .bf16⟩
  | .hbm, ⟨58, _⟩ => ⟨S64x3x16x16, .bf16⟩
  | .hbm, ⟨59, _⟩ => ⟨S_, .i32⟩
  | .hbm, ⟨60, _⟩ => ⟨S_, .bf16⟩
  | .hbm, ⟨61, _⟩ => ⟨S64x16x16x16, .bf16⟩
  | .hbm, ⟨62, _⟩ => ⟨S64x2x16x16, .bf16⟩
  | .hbm, ⟨63, _⟩ => ⟨S_, .i32⟩
  | .hbm, ⟨64, _⟩ => ⟨S_, .bf16⟩
  | .hbm, ⟨65, _⟩ => ⟨S64x16x16x16, .bf16⟩
  | .hbm, ⟨66, _⟩ => ⟨S64x1x16x16, .bf16⟩
  | .hbm, ⟨67, _⟩ => ⟨S_, .i32⟩
  | .hbm, ⟨68, _⟩ => ⟨S_, .bf16⟩
  | .hbm, ⟨69, _⟩ => ⟨S64x16x16x16, .bf16⟩
  | .hbm, ⟨70, _⟩ => ⟨S64x16x16x1x16, .bf16⟩
  | .hbm, ⟨71, _⟩ => ⟨S64x16x16x1x16, .bf16⟩
  | .hbm, ⟨72, _⟩ => ⟨S64x16x16x1x16, .bf16⟩
  | .hbm, ⟨73, _⟩ => ⟨S64x16x16x1x16, .bf16⟩
  | .hbm, ⟨74, _⟩ => ⟨S64x16x16x1x16, .bf16⟩
  | .hbm, ⟨75, _⟩ => ⟨S64x16x16x1x16, .bf16⟩
  | .hbm, ⟨76, _⟩ => ⟨S64x16x16x1x16, .bf16⟩
  | .hbm, ⟨77, _⟩ => ⟨S64x16x16x1x16, .bf16⟩
  | .hbm, ⟨78, _⟩ => ⟨S64x16x16x1x16, .bf16⟩
  | .hbm, ⟨79, _⟩ => ⟨S64x16x16x1x16, .bf16⟩
  | .hbm, ⟨80, _⟩ => ⟨S64x16x16x1x16, .bf16⟩
  | .hbm, ⟨81, _⟩ => ⟨S64x16x16x1x16, .bf16⟩
  | .hbm, ⟨82, _⟩ => ⟨S64x16x16x1x16, .bf16⟩
  | .hbm, ⟨83, _⟩ => ⟨S64x16x16x1x16, .bf16⟩
  | .hbm, ⟨84, _⟩ => ⟨S64x16x16x1x16, .bf16⟩
  | .hbm, ⟨85, _⟩ => ⟨S64x16x16x1x16, .bf16⟩
  | .hbm, ⟨86, _⟩ => ⟨S64x16x16x16x16, .bf16⟩
  | .hbm, ⟨87, _⟩ => ⟨S64x256x256, .bf16⟩
  | .hbm, ⟨88, _⟩ => ⟨S64x256x128, .bf16⟩
  | .hbm, ⟨89, _⟩ => ⟨S1x1024, .f32⟩
  | .hbm, ⟨90, _⟩ => ⟨S8192x1024, .f32⟩
  | .local _ .vmem, ⟨0, _⟩ => ⟨S8192x128, .f32⟩
  | .local _ .vmem, ⟨1, _⟩ => ⟨S8192x128, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x256x256, .bf16⟩
  | .local _ .vmem, ⟨7, _⟩ => ⟨S8x256x256, .bf16⟩
  | .local _ .vmem, ⟨8, _⟩ => ⟨S8x256x128, .bf16⟩
  | .local _ .vmem, ⟨9, _⟩ => ⟨S8x256x128, .bf16⟩
  | .local _ .vmem, ⟨10, _⟩ => ⟨S1x128, .f32⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_call3_v0 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_call4_v0 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_call5_v0 : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_call6_v0 : Ref sig .tc := ⟨.hbm, 32, rfl⟩
abbrev main_v13 : Ref sig .tc := ⟨.hbm, 33, rfl⟩
abbrev main_v14 : Ref sig .tc := ⟨.hbm, 34, rfl⟩
abbrev main_c_6 : Ref sig .tc := ⟨.hbm, 35, rfl⟩
abbrev main_call7_v0 : Ref sig .tc := ⟨.hbm, 36, rfl⟩
abbrev main_v15 : Ref sig .tc := ⟨.hbm, 37, rfl⟩
abbrev main_v16 : Ref sig .tc := ⟨.hbm, 38, rfl⟩
abbrev main_c_7 : Ref sig .tc := ⟨.hbm, 39, rfl⟩
abbrev main_call8_v0 : Ref sig .tc := ⟨.hbm, 40, rfl⟩
abbrev main_v17 : Ref sig .tc := ⟨.hbm, 41, rfl⟩
abbrev main_v18 : Ref sig .tc := ⟨.hbm, 42, rfl⟩
abbrev main_c_8 : Ref sig .tc := ⟨.hbm, 43, rfl⟩
abbrev main_call9_v0 : Ref sig .tc := ⟨.hbm, 44, rfl⟩
abbrev main_v19 : Ref sig .tc := ⟨.hbm, 45, rfl⟩
abbrev main_v20 : Ref sig .tc := ⟨.hbm, 46, rfl⟩
abbrev main_c_9 : Ref sig .tc := ⟨.hbm, 47, rfl⟩
abbrev main_call10_v0 : Ref sig .tc := ⟨.hbm, 48, rfl⟩
abbrev main_v21 : Ref sig .tc := ⟨.hbm, 49, rfl⟩
abbrev main_v22 : Ref sig .tc := ⟨.hbm, 50, rfl⟩
abbrev main_c_10 : Ref sig .tc := ⟨.hbm, 51, rfl⟩
abbrev main_call11_v0 : Ref sig .tc := ⟨.hbm, 52, rfl⟩
abbrev main_v23 : Ref sig .tc := ⟨.hbm, 53, rfl⟩
abbrev main_v24 : Ref sig .tc := ⟨.hbm, 54, rfl⟩
abbrev main_c_11 : Ref sig .tc := ⟨.hbm, 55, rfl⟩
abbrev main_call12_v0 : Ref sig .tc := ⟨.hbm, 56, rfl⟩
abbrev main_v25 : Ref sig .tc := ⟨.hbm, 57, rfl⟩
abbrev main_v26 : Ref sig .tc := ⟨.hbm, 58, rfl⟩
abbrev main_c_12 : Ref sig .tc := ⟨.hbm, 59, rfl⟩
abbrev main_call13_v0 : Ref sig .tc := ⟨.hbm, 60, rfl⟩
abbrev main_v27 : Ref sig .tc := ⟨.hbm, 61, rfl⟩
abbrev main_v28 : Ref sig .tc := ⟨.hbm, 62, rfl⟩
abbrev main_c_13 : Ref sig .tc := ⟨.hbm, 63, rfl⟩
abbrev main_call14_v0 : Ref sig .tc := ⟨.hbm, 64, rfl⟩
abbrev main_v29 : Ref sig .tc := ⟨.hbm, 65, rfl⟩
abbrev main_v30 : Ref sig .tc := ⟨.hbm, 66, rfl⟩
abbrev main_c_14 : Ref sig .tc := ⟨.hbm, 67, rfl⟩
abbrev main_call15_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5oRefIdeal.lean ====
abbrev S8192x1024 : Shape := ⟨2, ![8192, 1024]⟩
abbrev S512x4096 : Shape := ⟨2, ![512, 4096]⟩
abbrev S64x16x16x16 : Shape := ⟨4, ![64, 16, 16, 16]⟩
abbrev S64x256x128 : Shape := ⟨3, ![64, 256, 128]⟩
abbrev S1024 : Shape := ⟨1, ![1024]⟩
abbrev S512x16x64x16 : Shape := ⟨4, ![512, 16, 64, 16]⟩
abbrev S512x64x64 : Shape := ⟨3, ![512, 64, 64]⟩
abbrev S512x64x128 : Shape := ⟨3, ![512, 64, 128]⟩
abbrev S64x16x16x128 : Shape := ⟨4, ![64, 16, 16, 128]⟩
abbrev S64x16x16x512 : Shape := ⟨4, ![64, 16, 16, 512]⟩
abbrev S16 : Shape := ⟨1, ![16]⟩
abbrev S16x1x1 : Shape := ⟨3, ![16, 1, 1]⟩
abbrev S1x16x1 : Shape := ⟨3, ![1, 16, 1]⟩
abbrev S1x1x16 : Shape := ⟨3, ![1, 1, 16]⟩
abbrev S1x16x16 : Shape := ⟨3, ![1, 16, 16]⟩
abbrev S16x16x16 : Shape := ⟨3, ![16, 16, 16]⟩
abbrev S_ : Shape := ⟨0, ![]⟩
abbrev S512x64x16x16x16 : Shape := ⟨5, ![512, 64, 16, 16, 16]⟩
abbrev S512x16x16x64x16 : Shape := ⟨5, ![512, 16, 16, 64, 16]⟩
abbrev S64x16x512x16 : Shape := ⟨4, ![64, 16, 512, 16]⟩
abbrev S64x16 : Shape := ⟨2, ![64, 16]⟩
abbrev S1x1x64x16 : Shape := ⟨4, ![1, 1, 64, 16]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x4096, .f32⟩
  | .hbm, ⟨2, _⟩ => ⟨S512x4096, .f32⟩
  | .hbm, ⟨3, _⟩ => ⟨S64x16x16x16, .f32⟩
  | .hbm, ⟨4, _⟩ => ⟨S64x256x128, .f32⟩
  | .hbm, ⟨5, _⟩ => ⟨S1024, .f32⟩
  | .hbm, ⟨6, _⟩ => ⟨S512x16x64x16, .f32⟩
  | .hbm, ⟨7, _⟩ => ⟨S512x64x64, .f32⟩
  | .hbm, ⟨8, _⟩ => ⟨S512x64x64, .f32⟩
  | .hbm, ⟨9, _⟩ => ⟨S512x64x128, .f32⟩
  | .hbm, ⟨10, _⟩ => ⟨S64x16x16x128, .f32⟩
  | .hbm, ⟨11, _⟩ => ⟨S64x16x16x512, .f32⟩
  | .hbm, ⟨12, _⟩ => ⟨S512x16x64x16, .f32⟩
  | .hbm, ⟨13, _⟩ => ⟨S16, .i32⟩
  | .hbm, ⟨14, _⟩ => ⟨S16x1x1, .i32⟩
  | .hbm, ⟨15, _⟩ => ⟨S1x16x1, .i32⟩
  | .hbm, ⟨16, _⟩ => ⟨S1x1x16, .i32⟩
  | .hbm, ⟨17, _⟩ => ⟨S1x16x16, .i32⟩
  | .hbm, ⟨18, _⟩ => ⟨S1x16x16, .i32⟩
  | .hbm, ⟨19, _⟩ => ⟨S1x16x16, .i32⟩
  | .hbm, ⟨20, _⟩ => ⟨S16x16x16, .i32⟩
  | .hbm, ⟨21, _⟩ => ⟨S16x16x16, .i32⟩
  | .hbm, ⟨22, _⟩ => ⟨S16x16x16, .i1⟩
  | .hbm, ⟨23, _⟩ => ⟨S_, .f32⟩
  | .hbm, ⟨24, _⟩ => ⟨S_, .f32⟩
  | .hbm, ⟨25, _⟩ => ⟨S16x16x16, .f32⟩
  | .hbm, ⟨26, _⟩ => ⟨S16x16x16, .f32⟩
  | .hbm, ⟨27, _⟩ => ⟨S16x16x16, .f32⟩
  | .hbm, ⟨28, _⟩ => ⟨S512x64x16x16x16, .f32⟩
  | .hbm, ⟨29, _⟩ => ⟨S512x16x16x64x16, .f32⟩
  | .hbm, ⟨30, _⟩ => ⟨S64x16x512x16, .f32⟩
  | .hbm, ⟨31, _⟩ => ⟨S512x16x64x16, .f32⟩
  | .hbm, ⟨32, _⟩ => ⟨S512x16x64x16, .f32⟩
  | .hbm, ⟨33, _⟩ => ⟨S64x16, .f32⟩
  | .hbm, ⟨34, _⟩ => ⟨S1x1x64x16, .f32⟩
  | .hbm, ⟨35, _⟩ => ⟨S512x16x64x16, .f32⟩
  | .hbm, ⟨36, _⟩ => ⟨S512x16x64x16, .f32⟩
  | .hbm, ⟨37, _⟩ => ⟨S512x16x64x16, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== AttnF.lean ====
abbrev S8192x1024 : Shape := ⟨2, ![8192, 1024]⟩
abbrev S8192x128 : Shape := ⟨2, ![8192, 128]⟩
abbrev S16 : Shape := ⟨1, ![16]⟩
abbrev S16x128 : Shape := ⟨2, ![16, 128]⟩
abbrev S2048 : Shape := ⟨1, ![2048]⟩
abbrev S2x1x1024 : Shape := ⟨3, ![2, 1, 1024]⟩
abbrev S128x1024 : Shape := ⟨2, ![128, 1024]⟩
abbrev S128x128 : Shape := ⟨2, ![128, 128]⟩
abbrev S256x128 : Shape := ⟨2, ![256, 128]⟩
abbrev S256x1024 : Shape := ⟨2, ![256, 1024]⟩
abbrev S1024x128 : Shape := ⟨2, ![1024, 128]⟩
abbrev S128x64 : Shape := ⟨2, ![128, 64]⟩
abbrev S256x64 : Shape := ⟨2, ![256, 64]⟩
abbrev S64x128 : Shape := ⟨2, ![64, 128]⟩
abbrev S64x1024 : Shape := ⟨2, ![64, 1024]⟩
abbrev S1x1x1024 : Shape := ⟨3, ![1, 1, 1024]⟩
abbrev S1x1024 : Shape := ⟨2, ![1, 1024]⟩
abbrev S1024 : Shape := ⟨1, ![1024]⟩
abbrev S64x256 : Shape := ⟨2, ![64, 256]⟩
abbrev S512x128 : Shape := ⟨2, ![512, 128]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S16, .f32⟩
  | .hbm, ⟨4, _⟩ => ⟨S8192x1024, .bf16⟩
  | .hbm, ⟨5, _⟩ => ⟨S8192x128, .bf16⟩
  | .hbm, ⟨6, _⟩ => ⟨S8192x128, .bf16⟩
  | .hbm, ⟨7, _⟩ => ⟨S16x128, .f32⟩
  | .hbm, ⟨8, _⟩ => ⟨S2048, .f32⟩
  | .hbm, ⟨9, _⟩ => ⟨S2x1x1024, .f32⟩
  | .hbm, ⟨10, _⟩ => ⟨S8192x1024, .f32⟩
  | .local _ .vmem, ⟨0, _⟩ => ⟨S2x1x1024, .f32⟩
  | .local _ .vmem, ⟨1, _⟩ => ⟨S128x1024, .bf16⟩
  | .local _ .vmem, ⟨2, _⟩ => ⟨S128x1024, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFIdeal.lean ====
variable {F : FTy → Type} [FloatOps F] [Named F]
def κ : String → Option EReal := fun
  | "mask" => some ⊥
  | _ => none
-- ==== AttnFRefIdeal.lean ====
abbrev S8192x1024 : Shape := ⟨2, ![8192, 1024]⟩
abbrev S8192x128 : Shape := ⟨2, ![8192, 128]⟩
abbrev S16 : Shape := ⟨1, ![16]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x8 : Shape := ⟨2, ![2, 8]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S16, .f32⟩
  | .hbm, ⟨4, _⟩ => ⟨S64x128x2x8x64, .f32⟩
  | .hbm, ⟨5, _⟩ => ⟨S64x128x2x64, .f32⟩
  | .hbm, ⟨6, _⟩ => ⟨S64x128x2x64, .f32⟩
  | .hbm, ⟨7, _⟩ => ⟨S1x128x2x64, .f32⟩
  | .hbm, ⟨8, _⟩ => ⟨S_, .f32⟩
  | .hbm, ⟨9, _⟩ => ⟨S1x128x2x64, .f32⟩
  | .hbm, ⟨10, _⟩ => ⟨S63x128x2x64, .f32⟩
  | .hbm, ⟨11, _⟩ => ⟨S64x128x2x64, .f32⟩
  | .hbm, ⟨12, _⟩ => ⟨S64x256x2x64, .f32⟩
  | .hbm, ⟨13, _⟩ => ⟨S1x128x2x64, .f32⟩
  | .hbm, ⟨14, _⟩ => ⟨S_, .f32⟩
  | .hbm, ⟨15, _⟩ => ⟨S1x128x2x64, .f32⟩
  | .hbm, ⟨16, _⟩ => ⟨S63x128x2x64, .f32⟩
  | .hbm, ⟨17, _⟩ => ⟨S64x128x2x64, .f32⟩
  | .hbm, ⟨18, _⟩ => ⟨S64x256x2x64, .f32⟩
  | .hbm, ⟨19, _⟩ => ⟨S64x2x256x128x8, .f32⟩
  | .hbm, ⟨20, _⟩ => ⟨S64x2x8x128x256, .f32⟩
  | .hbm, ⟨21, _⟩ => ⟨S_, .f32⟩
  | .hbm, ⟨22, _⟩ => ⟨S64x2x8x128x256, .f32⟩
  | .hbm, ⟨23, _⟩ => ⟨S64x2x8x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S64, .i32⟩
  | .hbm, ⟨42, _⟩ => ⟨S64x1x1, .i32⟩
  | .hbm, ⟨43, _⟩ => ⟨S1x128x256, .i1⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S64x1x1x128x256, .i1⟩
  | .hbm, ⟨58, _⟩ => ⟨S_, .f32⟩
  | .hbm, ⟨59, _⟩ => ⟨S_, .f32⟩
  | .hbm, ⟨60, _⟩ => ⟨S64x2x8x128x256, .i1⟩
  | .hbm, ⟨61, _⟩ => ⟨S64x2x8x128x256, .f32⟩
  | .hbm, ⟨62, _⟩ => ⟨S64x2x8x128x256, .f32⟩
  | .hbm, ⟨63, _⟩ => ⟨S2x8, .f32⟩
  | .hbm, ⟨64, _⟩ => ⟨S1x2x8x1x1, .f32⟩
  | .hbm, ⟨65, _⟩ => ⟨S_, .f32⟩
  | .hbm, ⟨66, _⟩ => ⟨S64x2x8x128, .f32⟩
  | .hbm, ⟨67, _⟩ => ⟨S64x2x8x128x1, .f32⟩
  | .hbm, ⟨68, _⟩ => ⟨S64x2x8x128x1, .f32⟩
  | .hbm, ⟨69, _⟩ => ⟨S64x2x8x128x1, .f32⟩
  | .hbm, ⟨70, _⟩ => ⟨S64x2x8x128x256, .f32⟩
  | .hbm, ⟨71, _⟩ => ⟨S64x2x8x128x256, .f32⟩
  | .hbm, ⟨72, _⟩ => ⟨S64x2x8x128x256, .f32⟩
  | .hbm, ⟨73, _⟩ => ⟨S_, .f32⟩
  | .hbm, ⟨74, _⟩ => ⟨S64x2x8x128, .f32⟩
  | .hbm, ⟨75, _⟩ => ⟨S64x2x8x128x1, .f32⟩
  | .hbm, ⟨76, _⟩ => ⟨S64x2x8x128x1, .f32⟩
  | .hbm, ⟨77, _⟩ => ⟨S64x2x8x128x1, .f32⟩
  | .hbm, ⟨78, _⟩ => ⟨S64x2x8x128x1, .f32⟩
  | .hbm, ⟨79, _⟩ => ⟨S64x2x8x128x1, .f32⟩
  | .hbm, ⟨80, _⟩ => ⟨S64x2x8x128x256, .f32⟩
  | .hbm, ⟨81, _⟩ => ⟨S64x2x8x128x256, .f32⟩
  | .hbm, ⟨82, _⟩ => ⟨S64x2x64x8x128, .f32⟩
  | .hbm, ⟨83, _⟩ => ⟨S64x128x2x8x64, .f32⟩
  | .hbm, ⟨84, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== AttnOutF.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutFRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== SsmOutF.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsmOutFIdeal.lean ====
variable {F : FTy → Type} [FloatOps F] [Named F]
def κ : String → Option EReal := fun
  | "cubic" => some ((8943 / 200000 : ℝ) : EReal)
  | _ => none
-- ==== SsmOutFRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== InSsmF.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InSsmFRefIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InAttnF.lean ====
abbrev S8192x1024 : Shape := ⟨2, ![8192, 1024]⟩
abbrev S1024 : Shape := ⟨1, ![1024]⟩
abbrev S1024x2304 : Shape := ⟨2, ![1024, 2304]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩
abbrev S1x128 : Shape := ⟨2, ![1, 128]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x32, .f32⟩
  | .hbm, ⟨4, _⟩ => ⟨S8192x32, .f32⟩
  | .hbm, ⟨5, _⟩ => ⟨S8192x64, .f32⟩
  | .hbm, ⟨6, _⟩ => ⟨S1x8192x1x64, .f32⟩
  | .hbm, ⟨7, _⟩ => ⟨S1x8192x2x64, .f32⟩
  | .hbm, ⟨8, _⟩ => ⟨S8192x128, .f32⟩
  | .hbm, ⟨9, _⟩ => ⟨S8192x32, .f32⟩
  | .hbm, ⟨10, _⟩ => ⟨S8192x64, .f32⟩
  | .hbm, ⟨11, _⟩ => ⟨S1x8192x1x64, .f32⟩
  | .hbm, ⟨12, _⟩ => ⟨S1x8192x2x64, .f32⟩
  | .hbm, ⟨13, _⟩ => ⟨S8192x128, .f32⟩
  | .hbm, ⟨14, _⟩ => ⟨S1024x2304, .bf16⟩
  | .hbm, ⟨15, _⟩ => ⟨S1x1024, .f32⟩
  | .hbm, ⟨16, _⟩ => ⟨S8192x1024, .bf16⟩
  | .hbm, ⟨17, _⟩ => ⟨S8192x128, .bf16⟩
  | .hbm, ⟨18, _⟩ => ⟨S8192x128, .bf16⟩
  | .hbm, ⟨19, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InAttnFRefIdeal.lean ====
abbrev S8192x1024 : Shape := ⟨2, ![8192, 1024]⟩
abbrev S1024 : Shape := ⟨1, ![1024]⟩
abbrev S1024x2304 : Shape := ⟨2, ![1024, 2304]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S8192x128 : Shape := ⟨2, ![8192, 128]⟩
abbrev S8192x16x64 : Shape := ⟨3, ![8192, 16, 64]⟩
abbrev S8192x1x32 : Shape := ⟨3, ![8192, 1, 32]⟩
abbrev S8192x16x32 : Shape := ⟨3, ![8192, 16, 32]⟩
abbrev S8192x2x64 : Shape := ⟨3, ![8192, 2, 64]⟩
abbrev S8192x2x32 : Shape := ⟨3, ![8192, 2, 32]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S8192x32, .f32⟩
  | .hbm, ⟨4, _⟩ => ⟨S8192x32, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2304, .f32⟩
  | .hbm, ⟨22, _⟩ => ⟨S8192x1024, .f32⟩
  | .hbm, ⟨23, _⟩ => ⟨S8192x128, .f32⟩
  | .hbm, ⟨24, _⟩ => ⟨S8192x128, .f32⟩
  | .hbm, ⟨25, _⟩ => ⟨S8192x1024, .f32⟩
  | .hbm, ⟨26, _⟩ => ⟨S8192x16x64, .f32⟩
  | .hbm, ⟨27, _⟩ => ⟨S8192x1x32, .f32⟩
  | .hbm, ⟨28, _⟩ => ⟨S8192x1x32, .f32⟩
  | .hbm, ⟨29, _⟩ => ⟨S8192x16x32, .f32⟩
  | .hbm, ⟨30, _⟩ => ⟨S8192x16x32, .f32⟩
  | .hbm, ⟨31, _⟩ => ⟨S8192x16x32, .f32⟩
  | .hbm, ⟨32, _⟩ => ⟨S8192x16x32, .f32⟩
  | .hbm, ⟨33, _⟩ => ⟨S8192x16x32, .f32⟩
  | .hbm, ⟨34, _⟩ => ⟨S8192x16x32, .f32⟩
  | .hbm, ⟨35, _⟩ => ⟨S8192x16x32, .f32⟩
  | .hbm, ⟨36, _⟩ => ⟨S8192x16x32, .f32⟩
  | .hbm, ⟨37, _⟩ => ⟨S8192x16x32, .f32⟩
  | .hbm, ⟨38, _⟩ => ⟨S8192x16x32, .f32⟩
  | .hbm, ⟨39, _⟩ => ⟨S8192x16x32, .f32⟩
  | .hbm, ⟨40, _⟩ => ⟨S8192x16x32, .f32⟩
  | .hbm, ⟨41, _⟩ => ⟨S8192x16x64, .f32⟩
  | .hbm, ⟨42, _⟩ => ⟨S8192x1024, .f32⟩
  | .hbm, ⟨43, _⟩ => ⟨S8192x2x64, .f32⟩
  | .hbm, ⟨44, _⟩ => ⟨S8192x1x32, .f32⟩
  | .hbm, ⟨45, _⟩ => ⟨S8192x1x32, .f32⟩
  | .hbm, ⟨46, _⟩ => ⟨S8192x2x32, .f32⟩
  | .hbm, ⟨47, _⟩ => ⟨S8192x2x32, .f32⟩
  | .hbm, ⟨48, _⟩ => ⟨S8192x2x32, .f32⟩
  | .hbm, ⟨49, _⟩ => ⟨S8192x2x32, .f32⟩
  | .hbm, ⟨50, _⟩ => ⟨S8192x2x32, .f32⟩
  | .hbm, ⟨51, _⟩ => ⟨S8192x2x32, .f32⟩
  | .hbm, ⟨52, _⟩ => ⟨S8192x2x32, .f32⟩
  | .hbm, ⟨53, _⟩ => ⟨S8192x2x32, .f32⟩
  | .hbm, ⟨54, _⟩ => ⟨S8192x2x32, .f32⟩
  | .hbm, ⟨55, _⟩ => ⟨S8192x2x32, .f32⟩
  | .hbm, ⟨56, _⟩ => ⟨S8192x2x32, .f32⟩
  | .hbm, ⟨57, _⟩ => ⟨S8192x2x32, .f32⟩
  | .hbm, ⟨58, _⟩ => ⟨S8192x2x64, .f32⟩
  | .hbm, ⟨59, _⟩ => ⟨S8192x128, .f32⟩
  | .hbm, ⟨60, _⟩ => ⟨S8192x1024, .bf16⟩
  | .hbm, ⟨61, _⟩ => ⟨S8192x128, .bf16⟩
  | .hbm, ⟨62, _⟩ => ⟨S8192x128, .bf16⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩

abbrev nD : Nat := 1
abbrev τ : Topo := Topo.v7x

variable {F : FTy → Type} [FloatOps F]
-- ==== Adam.lean ====
abbrev S4x384x1024 : Shape := ⟨3, ![4, 384, 1024]⟩
abbrev S384x1024 : Shape := ⟨2, ![384, 1024]⟩
abbrev S4x192x1024 : Shape := ⟨3, ![4, 192, 1024]⟩
abbrev S192x1024 : Shape := ⟨2, ![192, 1024]⟩
abbrev S1x192x1024 : Shape := ⟨3, ![1, 192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x192x1024, .bf16⟩
  | .local _ .vmem, ⟨1, _⟩ => ⟨S4x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4x384x1024 : Shape := ⟨3, ![4, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S4x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Sums.lean ====
abbrev S4x72x1024 : Shape := ⟨3, ![4, 72, 1024]⟩
abbrev S1x72x1024 : Shape := ⟨3, ![1, 72, 1024]⟩
abbrev S72x1024 : Shape := ⟨2, ![72, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4x72x1024, .f32⟩
  | .hbm, ⟨1, _⟩ => ⟨S1x72x1024, .f32⟩
  | .hbm, ⟨2, _⟩ => ⟨S72x1024, .f32⟩
  | .hbm, ⟨3, _⟩ => ⟨S1x72x1024, .f32⟩
  | .hbm, ⟨4, _⟩ => ⟨S72x1024, .f32⟩
  | .hbm, ⟨5, _⟩ => ⟨S1x72x1024, .f32⟩
  | .hbm, ⟨6, _⟩ => ⟨S72x1024, .f32⟩
  | .hbm, ⟨7, _⟩ => ⟨S1x72x1024, .f32⟩
  | .hbm, ⟨8, _⟩ => ⟨S72x1024, .f32⟩
  | .hbm, ⟨9, _⟩ => ⟨S72x1024, .f32⟩
  | .local _ .vmem, ⟨0, _⟩ => ⟨S72x1024, .f32⟩
  | .local _ .vmem, ⟨1, _⟩ => ⟨S72x1024, .f32⟩
  | .local _ .vmem, ⟨2, _⟩ => ⟨S72x1024, .f32⟩
  | .local _ .vmem, ⟨3, _⟩ => ⟨S72x1024, .f32⟩
  | .local _ .vmem, ⟨4, _⟩ => ⟨S72x1024, .f32⟩
  | _, _ => ⟨S4x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumsRefIdeal.lean ====
abbrev S4x72x1024 : Shape := ⟨3, ![4, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x72x1024, .f32⟩
  | .hbm, ⟨1, _⟩ => ⟨S_, .f32⟩
  | .hbm, ⟨2, _⟩ => ⟨S72x1024, .f32⟩
  | _, _ => ⟨S4x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ScanF.lean ====
abbrev S512x4096 : Shape := ⟨2, ![512, 4096]⟩
abbrev S1x4096 : Shape := ⟨2, ![1, 4096]⟩
abbrev S512x2048 : Shape := ⟨2, ![512, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S1x4096, .f32⟩
  | .hbm, ⟨4, _⟩ => ⟨S512x4096, .f32⟩
  | .hbm, ⟨5, _⟩ => ⟨S512x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v5 : Index := Scalar.indexCast arg7
  let c0_4 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScanFRefIdeal.lean ====
abbrev S512x4096 : Shape := ⟨2, ![512, 4096]⟩
abbrev S1x4096 : Shape := ⟨2, ![1, 4096]⟩
abbrev S_ : Shape := ⟨0, ![]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S_, .i32⟩
  | .hbm, ⟨11, _⟩ => ⟨S512x4096, .f32⟩
  | .hbm, ⟨12, _⟩ => ⟨S512x4096, .f32⟩
  | .hbm, ⟨13, _⟩ => ⟨S1x4096, .f32⟩
  | .hbm, ⟨14, _⟩ => ⟨S1x4096, .f32⟩
  | .hbm, ⟨15, _⟩ => ⟨S_, .i32⟩
  | .hbm, ⟨16, _⟩ => ⟨S4096, .f32⟩
  | .hbm, ⟨17, _⟩ => ⟨S4096, .f32⟩
  | .hbm, ⟨18, _⟩ => ⟨S512x4096, .f32⟩
  | .hbm, ⟨19, _⟩ => ⟨S512x4096, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S1x4096, .f32⟩
  | .hbm, ⟨24, _⟩ => ⟨S4096, .f32⟩
  | .hbm, ⟨25, _⟩ => ⟨S_, .i32⟩
  | .hbm, ⟨26, _⟩ => ⟨S1x4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S_, .i32⟩
  | .hbm, ⟨42, _⟩ => ⟨S512x4096, .f32⟩
  | .hbm, ⟨43, _⟩ => ⟨S1x4096, .f32⟩
  | .hbm, ⟨44, _⟩ => ⟨S_, .i32⟩
  | .hbm, ⟨45, _⟩ => ⟨S512x4096, .f32⟩
  | .hbm, ⟨46, _⟩ => ⟨S_, .i32⟩
  | .hbm, ⟨47, _⟩ => ⟨S_, .i32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_while0c_c_10 : Ref sig .tc := ⟨.hbm, 20, rfl⟩
abbrev main_while0c_v4 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v4 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v5 : Ref sig .tc := ⟨.hbm, 27, rfl⟩
abbrev main_while0b_v6 : Ref sig .tc := ⟨.hbm, 28, rfl⟩
abbrev main_while0b_v7 : Ref sig .tc := ⟨.hbm, 29, rfl⟩
abbrev main_while0b_v8 : Ref sig .tc := ⟨.hbm, 30, rfl⟩
abbrev main_while0b_v9 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_v17 : Ref sig .tc := ⟨.hbm, 39, rfl⟩
abbrev main_while0b_call2_v0 : Ref sig .tc := ⟨.hbm, 40, rfl⟩
abbrev main_while0b_call2_c : Ref sig .tc := ⟨.hbm, 41, rfl⟩
abbrev main_while0b_v18 : Ref sig .tc := ⟨.hbm, 42, rfl⟩
abbrev main_while0b_call3_v0 : Ref sig .tc := ⟨.hbm, 43, rfl⟩
abbrev main_while0b_call3_c : Ref sig .tc := ⟨.hbm, 44, rfl⟩
abbrev main_while0b_v19 : Ref sig .tc := ⟨.hbm, 45, rfl⟩
abbrev main_while0b_c_10 : Ref sig .tc := ⟨.hbm, 46, rfl⟩
abbrev main_while0b_v20 : Ref sig .tc := ⟨.hbm, 47, rfl⟩

abbrev nD : Nat := 1
abbrev τ : Topo := Topo.v7x

variable {F : FTy → Type} [FloatOps F]

abbrev main_while0_count : Scf.Loop 32 := ⟨0#32, 512#32, 1#32⟩
-- ==== ScanB.lean ====
abbrev S512x4096 : Shape := ⟨2, ![512, 4096]⟩
abbrev S1x4096 : Shape := ⟨2, ![1, 4096]⟩
abbrev S512x2048 : Shape := ⟨2, ![512, 2048]⟩
abbrev S1x2048 : Shape := ⟨2, ![1, 2048]⟩

abbrev nBuf : Space → Nat
  | .hbm => 10
  | .vmem => 20
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S1x4096, .f32⟩
  | .hbm, ⟨5, _⟩ => ⟨S1x4096, .f32⟩
  | .hbm, ⟨6, _⟩ => ⟨S512x4096, .f32⟩
  | .hbm, ⟨7, _⟩ => ⟨S512x4096, .f32⟩
  | .hbm, ⟨8, _⟩ => ⟨S1x4096, .f32⟩
  | .hbm, ⟨9, _⟩ => ⟨S1x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k0_off1 (k0_t1 : Fin k0_t1_loop.trips) : Fin 2 → Nat :=
  let c511_i32 : BitVec 32 := 511#32
  let c0_i32 : BitVec 32 := 0#32
  let c1_i32 : BitVec 32 := 1#32
  let arg11 : BitVec 32 := Scf.iv c0_i32 c1_i32 k0_t1
  let v7 : BitVec 32 := Scalar.subi c511_i32 arg11
  let v8 : Index := Scalar.indexCast v7
  let c0_8 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ScanBRefIdeal.lean ====
abbrev S512x4096 : Shape := ⟨2, ![512, 4096]⟩
abbrev S1x4096 : Shape := ⟨2, ![1, 4096]⟩
abbrev S_ : Shape := ⟨0, ![]⟩
abbrev S4096 : Shape := ⟨1, ![4096]⟩

abbrev nBuf : Space → Nat
  | .hbm => 90
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S_, .i32⟩
  | .hbm, ⟨21, _⟩ => ⟨S512x4096, .f32⟩
  | .hbm, ⟨22, _⟩ => ⟨S512x4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .i32⟩
  | .hbm, ⟨28, _⟩ => ⟨S4096, .f32⟩
  | .hbm, ⟨29, _⟩ => ⟨S4096, .f32⟩
  | .hbm, ⟨30, _⟩ => ⟨S512x4096, .f32⟩
  | .hbm, ⟨31, _⟩ => ⟨S512x4096, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4096, .f32⟩
  | .hbm, ⟨40, _⟩ => ⟨S4096, .f32⟩
  | .hbm, ⟨41, _⟩ => ⟨S_, .i32⟩
  | .hbm, ⟨42, _⟩ => ⟨S1x4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S1x4096, .f32⟩
  | .hbm, ⟨54, _⟩ => ⟨S_, .i32⟩
  | .hbm, ⟨55, _⟩ => ⟨S512x4096, .f32⟩
  | .hbm, ⟨56, _⟩ => ⟨S1x4096, .f32⟩
  | .hbm, ⟨57, _⟩ => ⟨S_, .i32⟩
  | .hbm, ⟨58, _⟩ => ⟨S512x4096, .f32⟩
  | .hbm, ⟨59, _⟩ => ⟨S_, .i32⟩
  | .hbm, ⟨60, _⟩ => ⟨S_, .i32⟩
  | .hbm, ⟨61, _⟩ => ⟨S512x4096, .f32⟩
  | .hbm, ⟨62, _⟩ => ⟨S512x4096, .f32⟩
  | .hbm, ⟨63, _⟩ => ⟨S512x4096, .f32⟩
  | .hbm, ⟨64, _⟩ => ⟨S512x4096, .f32⟩
  | .hbm, ⟨65, _⟩ => ⟨S512x4096, .f32⟩
  | .hbm, ⟨66, _⟩ => ⟨S512x4096, .f32⟩
  | .hbm, ⟨67, _⟩ => ⟨S512x4096, .f32⟩
  | .hbm, ⟨68, _⟩ => ⟨S512x4096, .f32⟩
  | .hbm, ⟨69, _⟩ => ⟨S512x4096, .f32⟩
  | .hbm, ⟨70, _⟩ => ⟨S512x4096, .f32⟩
  | .hbm, ⟨71, _⟩ => ⟨S512x4096, .f32⟩
  | .hbm, ⟨72, _⟩ => ⟨S_, .f32⟩
  | .hbm, ⟨73, _⟩ => ⟨S4096, .f32⟩
  | .hbm, ⟨74, _⟩ => ⟨S1x4096, .f32⟩
  | .hbm, ⟨75, _⟩ => ⟨S512x4096, .f32⟩
  | .hbm, ⟨76, _⟩ => ⟨S_, .f32⟩
  | .hbm, ⟨77, _⟩ => ⟨S4096, .f32⟩
  | .hbm, ⟨78, _⟩ => ⟨S1x4096, .f32⟩
  | .hbm, ⟨79, _⟩ => ⟨S512x4096, .f32⟩
  | .hbm, ⟨80, _⟩ => ⟨S512x4096, .f32⟩
  | .hbm, ⟨81, _⟩ => ⟨S_, .f32⟩
  | .hbm, ⟨82, _⟩ => ⟨S4096, .f32⟩
  | .hbm, ⟨83, _⟩ => ⟨S1x4096, .f32⟩
  | .hbm, ⟨84, _⟩ => ⟨S1x4096, .f32⟩
  | .hbm, ⟨85, _⟩ => ⟨S512x4096, .f32⟩
  | .hbm, ⟨86, _⟩ => ⟨S_, .f32⟩
  | .hbm, ⟨87, _⟩ => ⟨S4096, .f32⟩
  | .hbm, ⟨88, _⟩ => ⟨S1x4096, .f32⟩
  | .hbm, ⟨89, _⟩ => ⟨S1x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_v9_10 : Ref sig .tc := ⟨.hbm, 31, rfl⟩
abbrev main_while0c_c_18 : Ref sig .tc := ⟨.hbm, 32, rfl⟩
abbrev main_while0c_v35 : Ref sig .tc := ⟨.hbm, 33, rfl⟩
abbrev main_while0b_c_18 : Ref sig .tc := ⟨.hbm, 34, rfl⟩
abbrev main_while0b_v35 : Ref sig .tc := ⟨.hbm, 35, rfl⟩
abbrev main_while0b_c_19 : Ref sig .tc := ⟨.hbm, 36, rfl⟩
abbrev main_while0b_v36 : Ref sig .tc := ⟨.hbm, 37, rfl⟩
abbrev main_while0b_call0_c : Ref sig .tc := ⟨.hbm, 38, rfl⟩
abbrev main_while0b_call0_v0 : Ref sig .tc := ⟨.hbm, 39, rfl⟩
abbrev main_while0b_v37 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v38 : Ref sig .tc := ⟨.hbm, 43, rfl⟩
abbrev main_while0b_v39 : Ref sig .tc := ⟨.hbm, 44, rfl⟩
abbrev main_while0b_v40 : Ref sig .tc := ⟨.hbm, 45, rfl⟩
abbrev main_while0b_v41 : Ref sig .tc := ⟨.hbm, 46, rfl⟩
abbrev main_while0b_v42 : Ref sig .tc := ⟨.hbm, 47, rfl⟩
abbrev main_while0b_v43 : Ref sig .tc := ⟨.hbm, 48, rfl⟩
abbrev main_while0b_v44 : Ref sig .tc := ⟨.hbm, 49, rfl⟩
abbrev main_while0b_v45 : Ref sig .tc := ⟨.hbm, 50, rfl⟩
abbrev main_while0b_v46 : Ref sig .tc := ⟨.hbm, 51, rfl⟩
abbrev main_while0b_v47 : Ref sig .tc := ⟨.hbm, 52, rfl⟩
abbrev main_while0b_call2_v0 : Ref sig .tc := ⟨.hbm, 53, rfl⟩
abbrev main_while0b_call2_c : Ref sig .tc := ⟨.hbm, 54, rfl⟩
abbrev main_while0b_v48 : Ref sig .tc := ⟨.hbm, 55, rfl⟩
abbrev main_while0b_call3_v0 : Ref sig .tc := ⟨.hbm, 56, rfl⟩
abbrev main_while0b_call3_c : Ref sig .tc := ⟨.hbm, 57, rfl⟩
abbrev main_while0b_v49 : Ref sig .tc := ⟨.hbm, 58, rfl⟩
abbrev main_while0b_c_20 : Ref sig .tc := ⟨.hbm, 59, rfl⟩
abbrev main_while0b_v50 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_4 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_5 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_7 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]

abbrev main_while0_count : Scf.Loop 32 := ⟨0#32, 512#32, 1#32⟩
-- ==== SumCore.lean ====
abbrev S1 : Shape := ⟨1, ![1]⟩
abbrev S2x1536x1024 : Shape := ⟨3, ![2, 1536, 1024]⟩
abbrev S1536x1024 : Shape := ⟨2, ![1536, 1024]⟩
abbrev S1x256x1024 : Shape := ⟨3, ![1, 256, 1024]⟩
abbrev S256x1024 : Shape := ⟨2, ![256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S2x1536x1024, .f32⟩
  | .hbm, ⟨1, _⟩ => ⟨S1536x1024, .f32⟩
  | .hbm, ⟨2, _⟩ => ⟨S1536x1024, .bf16⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .smem, ⟨0, _⟩ => ⟨S1, .i32⟩
  | _, _ => ⟨S2x1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumCoreRefIdeal.lean ====
abbrev S1 : Shape := ⟨1, ![1]⟩
abbrev S2x1536x1024 : Shape := ⟨3, ![2, 1536, 1024]⟩
abbrev S1536x1024 : Shape := ⟨2, ![1536, 1024]⟩
abbrev S_ : Shape := ⟨0, ![]⟩
abbrev S1x1536x1024 : Shape := ⟨3, ![1, 1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1536x1024, .f32⟩
  | .hbm, ⟨2, _⟩ => ⟨S1536x1024, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x1536x1024, .f32⟩
  | .hbm, ⟨7, _⟩ => ⟨S1536x1024, .f32⟩
  | .hbm, ⟨8, _⟩ => ⟨S1x1536x1024, .f32⟩
  | .hbm, ⟨9, _⟩ => ⟨S1536x1024, .f32⟩
  | .hbm, ⟨10, _⟩ => ⟨S1536x1024, .f32⟩
  | .hbm, ⟨11, _⟩ => ⟨S1536x1024, .f32⟩
  | .hbm, ⟨12, _⟩ => ⟨S1536x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.K.Real.lean ====
/- Facts of extended-real arithmetic that the value proofs share: finite values, the logistic function, sums. -/
module

public import Idealize.ShloMosaic.PureOps.Ideal
public import Idealize.ShloMosaic.Lib.IdealHost

@[expose] public section

noncomputable section

namespace Cert.K

open Idealize.ShloMosaic

/-- A finite extended real is a real number. -/
theorem real_of_abs_lt {x : EReal} (h : max x (-x) < ⊤) : ∃ r : ℝ, x = r := by
  induction x using EReal.rec with
  | bot => simp at h
  | top => simp at h
  | coe r => exact ⟨r, rfl⟩

/-- The pattern of the f32 infinity. -/
theorem ofBits_inf : Ideal.ofBits .f32 0x7F800000#32 = ⊤ := by
  simp [Ideal.ofBits, Ideal.ieee]

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real value among the extended reals. -/
def Re (x : EReal) : Prop := ∃ r : ℝ, x = r

theorem Re.coe (r : ℝ) : Re (r : EReal) := ⟨r, rfl⟩

theorem Re.add {x y : EReal} : Re x → Re y → Re (x + y) := by
  rintro ⟨a, rfl⟩ ⟨b, rfl⟩
  exact ⟨a + b, (EReal.coe_add a b).symm⟩

theorem Re.sub {x y : EReal} : Re x → Re y → Re (x - y) := by
  rintro ⟨a, rfl⟩ ⟨b, rfl⟩
  exact ⟨a - b, (EReal.coe_sub a b).symm⟩

theorem Re.mul {x y : EReal} : Re x → Re y → Re (x * y) := by
  rintro ⟨a, rfl⟩ ⟨b, rfl⟩
  exact ⟨a * b, (EReal.coe_mul a b).symm⟩

theorem Re.neg {x : EReal} : Re x → Re (-x) := by
  rintro ⟨a, rfl⟩
  exact ⟨-a, (EReal.coe_neg a).symm⟩

theorem Re.sum {ι : Type} {s : Finset ι} {f : ι → EReal} (h : ∀ i, Re (f i)) : Re (∑ i ∈ s, f i) := by
  choose r h using h
  exact ⟨∑ i ∈ s, r i, by simp only [h, coe_sum]⟩

/-- The logistic function on the extended reals. -/
def sg (x : EReal) : EReal := Ideal.div 1 (1 + Ideal.exp (-x))

/-- The logistic function on the reals. -/
def sgr (x : ℝ) : ℝ := 1 / (1 + Real.exp (-x))

theorem sg_coe (x : ℝ) : sg (x : EReal) = (sgr x : ℝ) := by
  have h : (1 + Real.exp (-x)) ≠ 0 := by positivity
  unfold sg sgr
  rw [← EReal.coe_neg, Ideal.exp_coe, ← EReal.coe_one, ← EReal.coe_add, Ideal.div_coe h, ← EReal.coe_mul, one_mul]

theorem sg_top : sg ⊤ = 1 := by
  unfold sg
  simp [Ideal.div]

theorem sg_bot : sg ⊥ = 0 := by
  have h : (1 : EReal) + ⊤ = ⊤ := EReal.coe_add_top 1
  unfold sg
  simp [Ideal.div, h]

theorem real_of_cmp {a b : EReal} (h : Ideal.cmp .olt (max a (-a)) b = 1#1) (hb : b = ⊤) : Re a := by
  subst hb
  refine real_of_abs_lt ?_
  by_contra hn
  simp [Ideal.cmp, hn] at h

/-- The derivative of `g * σ g` in the kernel's and in the reference's spelling, at a finite cotangent. -/
theorem silu_grad (x : ℝ) (g : EReal) :
    (x : EReal) * (sg g * (1 + g * (1 - sg g))) = (x : EReal) * sg g + (g * x) * (sg g * (1 - sg g)) := by
  induction g using EReal.rec with
  | bot => simp [sg_bot]
  | top =>
    have h : (1 : EReal) - 1 = 0 := by rw [← EReal.coe_one, ← EReal.coe_sub]; simp
    simp [sg_top, h]
  | coe r =>
    rw [sg_coe]
    norm_cast
    ring

/-- One over the root mean square of a row. -/
def rs {n : Nat} (x : Fin n → EReal) : EReal :=
  Ideal.rsqrt (Ideal.div (∑ k, x k * x k) (Ideal.ofBits .f32 1149239296#32) + Ideal.ofBits .f32 925353388#32)

/-- The gradient through the normalisation, as the kernels write it: `d` is the cotangent of the normalised row. -/
def rmsK {n : Nat} (x d : Fin n → EReal) (k : Fin n) : EReal :=
  rs x * (d k - x k * rs x * Ideal.div (∑ j, d j * (x j * rs x)) (Ideal.ofBits .f32 1149239296#32))

/-- The reference's spelling of the same gradient, with the further cotangent `e` of the row's entry. -/
def rmsR {n : Nat} (x d : Fin n → EReal) (e : EReal) (k : Fin n) : EReal :=
  e + d k * rs x
    + x k * Ideal.div ((∑ j, x j * d j) * (Ideal.ofBits .f32 3204448256#32 * Ideal.div (rs x)
        (Ideal.div (∑ k, x k * x k) (Ideal.ofBits .f32 1149239296#32) + Ideal.ofBits .f32 925353388#32))) (Ideal.ofBits .f32 1149239296#32)
    + Ideal.div ((∑ j, x j * d j) * (Ideal.ofBits .f32 3204448256#32 * Ideal.div (rs x)
        (Ideal.div (∑ k, x k * x k) (Ideal.ofBits .f32 1149239296#32) + Ideal.ofBits .f32 925353388#32))) (Ideal.ofBits .f32 1149239296#32)
      * x k

/-- The norm's epsilon, as a real. -/
def epsr : ℝ := 10995116 / 2 ^ 40

theorem ofBits_eps : Ideal.ofBits .f32 925353388#32 = (epsr : EReal) := by
  simp [Ideal.ofBits, Ideal.ieee, epsr]
  rw [← EReal.coe_mul]
  norm_num

theorem ofBits_1024 : Ideal.ofBits .f32 1149239296#32 = ((1024 : ℝ) : EReal) := by
  simp [Ideal.ofBits, Ideal.ieee]
  rw [← EReal.coe_mul]
  norm_num

theorem ofBits_neg_half : Ideal.ofBits .f32 3204448256#32 = ((-(1 / 2) : ℝ) : EReal) := by
  simp [Ideal.ofBits, Ideal.ieee]
  rw [← EReal.coe_mul]
  norm_num

/-- The mean square of a real row, plus epsilon. -/
def msr {n : Nat} (x : Fin n → ℝ) : ℝ := (∑ k, x k * x k) * (1 / 1024) + epsr

theorem msr_pos {n : Nat} (x : Fin n → ℝ) : 0 < msr x := by
  have h : 0 ≤ ∑ k, x k * x k := Finset.sum_nonneg fun k _ => mul_self_nonneg _
  have h' : 0 < epsr := by unfold epsr; positivity
  unfold msr
  positivity

theorem ms_coe {n : Nat} (x : Fin n → ℝ) :
    Ideal.div (∑ k, (x k : EReal) * (x k : EReal)) (Ideal.ofBits .f32 1149239296#32) + Ideal.ofBits .f32 925353388#32
      = (msr x : EReal) := by
  rw [ofBits_1024, ofBits_eps, Ideal.div_coe (by norm_num)]
  simp only [← EReal.coe_mul, ← coe_sum, ← EReal.coe_add, msr]

theorem rs_coe {n : Nat} (x : Fin n → ℝ) : rs (fun k => (x k : EReal)) = (((Real.sqrt (msr x))⁻¹ : ℝ) : EReal) := by
  unfold rs
  rw [ms_coe, Ideal.rsqrt_coe, if_neg (not_lt.mpr (msr_pos x).le), if_neg (msr_pos x).ne']

theorem rms_grad {n : Nat} (x d : Fin n → ℝ) (e : EReal) (k : Fin n) :
    rmsK (fun j => (x j : EReal)) (fun j => (d j : EReal)) k + e = rmsR (fun j => (x j : EReal)) (fun j => (d j : EReal)) e k := by
  have hv := msr_pos x
  have hr : (Real.sqrt (msr x))⁻¹ * (Real.sqrt (msr x))⁻¹ = 1 / msr x := by
    rw [← mul_inv, Real.mul_self_sqrt hv.le, one_div]
  unfold rmsK rmsR
  rw [ms_coe, rs_coe, ofBits_1024, ofBits_neg_half, Ideal.div_coe hv.ne']
  set r : ℝ := (Real.sqrt (msr x))⁻¹
  simp only [Ideal.div_coe (show (1024 : ℝ) ≠ 0 by norm_num), ← EReal.coe_mul, ← coe_sum, ← EReal.coe_add, ← EReal.coe_sub]
  have hs : ∑ i, d i * (x i * r) = (∑ i, x i * d i) * r := by
    rw [Finset.sum_mul]
    exact Finset.sum_congr rfl fun i _ => by ring
  rw [add_assoc e, ← EReal.coe_add, add_assoc e, ← EReal.coe_add, add_comm _ e, ← hr, hs]
  congr 2
  ring

theorem Re.lt_top {x : EReal} : Re x → x < ⊤ := by
  rintro ⟨r, rfl⟩
  exact EReal.coe_lt_top r

theorem mul_self_nonneg' (x : EReal) : 0 ≤ x * x := by
  induction x using EReal.rec with
  | bot => simp
  | top => simp
  | coe r => exact_mod_cast mul_self_nonneg r

/-- A row with an infinite entry has an infinite mean square. -/
theorem ms_top {n : Nat} (x : Fin n → EReal) (i : Fin n) (hi : ¬ Re (x i)) :
    Ideal.div (∑ k, x k * x k) (Ideal.ofBits .f32 1149239296#32) + Ideal.ofBits .f32 925353388#32 = ⊤ := by
  have hs : (∑ k, x k * x k) = ⊤ := by
    have h1 : x i * x i = ⊤ := by
      have h : x i = ⊥ ∨ x i = ⊤ := by
        induction hx : x i using EReal.rec with
        | bot => exact .inl rfl
        | top => exact .inr rfl
        | coe r => exact absurd ⟨r, hx⟩ hi
      rcases h with h | h <;> simp [h]
    exact top_le_iff.mp (h1 ▸ Finset.single_le_sum (f := fun k => x k * x k) (fun k _ => mul_self_nonneg' _) (Finset.mem_univ i))
  rw [hs, ofBits_1024, ofBits_eps, Ideal.div_coe (by norm_num), EReal.top_mul_coe_of_pos (by norm_num), EReal.top_add_coe]

/-- The two spellings agree at a finite cotangent, whatever the row. -/
theorem rms_grad_of_re {n : Nat} (x d : Fin n → EReal) (hd : ∀ j, Re (d j)) (e : EReal) (k : Fin n) :
    rmsK x d k + e = rmsR x d e k := by
  by_cases hx : ∀ i, Re (x i)
  · choose x' hx using hx
    choose d' hd using hd
    obtain rfl : x = fun i => (x' i : EReal) := funext hx
    obtain rfl : d = fun i => (d' i : EReal) := funext hd
    exact rms_grad x' d' e k
  · push Not at hx
    obtain ⟨i, hi⟩ := hx
    have hm := ms_top x i hi
    have h0 : rs x = 0 := by unfold rs; rw [hm]; rfl
    have h1 : Ideal.div 0 (Ideal.ofBits .f32 1149239296#32) = 0 := by
      rw [ofBits_1024, Ideal.div_coe (by norm_num), zero_mul]
    have h2 : Ideal.div 0 ⊤ = 0 := by simp [Ideal.div]
    unfold rmsK rmsR
    rw [h0, hm, h2]
    simp only [mul_zero, zero_mul, h1, add_zero, zero_add]

/-- An entry of a normalised row is finite. -/
theorem re_normalised {n : Nat} (x : Fin n → EReal) (k : Fin n) : Re (x k * rs x) := by
  by_cases hx : ∀ i, Re (x i)
  · choose x' hx using hx
    obtain rfl : x = fun i => (x' i : EReal) := funext hx
    rw [rs_coe]
    exact Re.mul (Re.coe _) (Re.coe _)
  · push Not at hx
    obtain ⟨i, hi⟩ := hx
    have h0 : rs x = 0 := by unfold rs; rw [ms_top x i hi]; rfl
    rw [h0, mul_zero]
    exact Re.coe 0

theorem ofBits_half : Ideal.ofBits .f32 1056964608#32 = ((1 / 2 : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem ofBits_inv_1024 : Ideal.ofBits .f32 981467136#32 = ((1 / 1024 : ℝ) : EReal) := by
  simp [Ideal.ofBits, Ideal.ieee]
  rw [← EReal.coe_mul]
  norm_num

/-- The cotangent of the squared error's entry in the reference's and in the kernel's spelling. -/
theorem sq_seed (e : EReal) :
    Ideal.div (Ideal.ofBits .f32 1056964608#32) (Ideal.ofBits .f32 1149239296#32) * (Ideal.ofBits .f32 1073741824#32 * e)
      = e * Ideal.ofBits .f32 981467136#32 := by
  rw [ofBits_half, ofBits_two, ofBits_1024, ofBits_inv_1024, Ideal.div_coe (by norm_num), ← mul_assoc, ← EReal.coe_mul,
    ← EReal.coe_mul, mul_comm]
  norm_num

/-- A nonnegative real factor goes into a sum. -/
theorem mul_sum_of_nonneg {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

end Cert.K

end
-- ==== Proof.K.AttnOut.lean ====
/- The values of the gated output projection's gradient: the blocks of the grid and the accumulated product. -/
module

public import proofs.«01_k».proof.Proof.K.Real
public import proofs.«01_k».proof.Proof.Gen.AttnOutIdeal.Value
public import proofs.«01_k».proof.Proof.Gen.AttnOutRefIdeal.Run
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.AttnOut

open Idealize.ShloMosaic Idealize.ShloMosaic.TcCoe Idealize.SL.Sem Cert.AttnOutIdeal Cert.AttnOutIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg3) (ix2 (row t a) k) := by
  blk_ext [iblk, V, idx t, row]

theorem blk1 (t : Fin cfg0.N) (a : Fin 512) (k : Fin 1024) :
    iblk m c 1 t (ix2 a k) = m ((c : Thread nD τ).loc main_arg0) (ix2 (row t a) k) := by
  blk_ext [iblk, V, idx t, row]

theorem blk2 (t : Fin cfg0.N) (a : Fin 512) (k : Fin 1024) :
    iblk m c 2 t (ix2 a k) = m ((c : Thread nD τ).loc main_arg1) (ix2 (row t a) k) := by
  blk_ext [iblk, V, idx t, row]

theorem blk3 (t : Fin cfg0.N) (a : Fin 1024) (k : Fin 1024) :
    iblk m c 3 t (ix2 a k) = m ((c : Thread nD τ).loc main_arg2) (ix2 a k) := by
  blk_ext [iblk, V, idx t, row]

theorem emb4 (t : Fin cfg0.N) (a : Fin 512) (k : Fin 1024) :
    ((View.whole main_v2_0).slice (win0_4.rect t)).emb (ix2 a k) = ix2 (row t a) k := by
  blk_ext [idx t, row]

theorem emb5 (t : Fin cfg0.N) (a : Fin 512) (k : Fin 1024) :
    ((View.whole main_v2_1).slice (win0_5.rect t)).emb (ix2 a k) = ix2 (row t a) k := by
  blk_ext [idx t, row]

/-- The gradient of the attention's output. -/
def G4 (a1 : FVec Ideal S8192x1024 .f32) (a2 : FVec Ideal S1024x1024 .f32) (a3 : FVec Ideal S8192x1024 .f32) :
    FVec Ideal S8192x1024 .f32 := fun i =>
  (∑ k : Fin 1024, a3 (ix2 (i 0) k) * a2 (ix2 (i 1) k)) * (a1 i * sg (a1 i))

/-- The gradient of the gate, as the kernel writes it. -/
def G5 (a0 a1 : FVec Ideal S8192x1024 .f32) (a2 : FVec Ideal S1024x1024 .f32) (a3 : FVec Ideal S8192x1024 .f32) :
    FVec Ideal S8192x1024 .bf16 := fun i =>
  (∑ k : Fin 1024, a3 (ix2 (i 0) k) * a2 (ix2 (i 1) k)) * a0 i * (sg (a1 i) * (1 + a1 i * (1 - sg (a1 i))))

/-- The gradient of the projection's weight. -/
def G6 (a0 a1 a3 : FVec Ideal S8192x1024 .f32) : FVec Ideal S1024x1024 .f32 := fun i =>
  ∑ l : Fin 8192, (a0 (ix2 l (i 0)) * (a1 (ix2 l (i 0)) * sg (a1 (ix2 l (i 0))))) * a3 (ix2 l (i 1))

theorem pay4 (v3 : Vec Ideal S512x1024 .bf16) (a : Fin 512) (k : Fin 1024) :
    k0_pay4 v3 (ix2 a k) = sg (v3 (ix2 a k)) := by
  pointwise [k0_pay4, k0_pay3, sg]
  simp only [zero_sub]

theorem pay9 (v3 : Vec Ideal S512x1024 .bf16) (v15 : Vec Ideal S512x1024 .f32) (v17 : Vec Ideal S1024x1024 .bf16)
    (a : Fin 512) (k : Fin 1024) : k0_pay9 v3 v15 v17 (ix2 a k)
      = (∑ x : Fin 1024, v15 (ix2 a x) * v17 (ix2 k x)) * (v3 (ix2 a k) * sg (v3 (ix2 a k))) := by
  rw [← pay4]
  pointwise [k0_pay9, k0_pay7, k0_pay6, k0_pay5, k0_pay3]

theorem pay1 (v3 : Vec Ideal S512x1024 .bf16) (v6 v15 : Vec Ideal S512x1024 .f32) (v17 : Vec Ideal S1024x1024 .bf16)
    (a : Fin 512) (k : Fin 1024) :
    k0_pay1 (k0_pay4 v3) (k0_pay10 v6 v15 v17) (k0_pay11 v3) (Scalar.ofBits .f32 0x3F800000#32) (ix2 a k)
      = (∑ x : Fin 1024, v15 (ix2 a x) * v17 (ix2 k x)) * v6 (ix2 a k)
        * (sg (v3 (ix2 a k)) * (1 + v3 (ix2 a k) * (1 - sg (v3 (ix2 a k))))) := by
  rw [← pay4]
  pointwise [k0_pay1, k0_pay10, k0_pay11, k0_pay7, k0_pay6, k0_pay3]

theorem pay8 (v3 : Vec Ideal S512x1024 .bf16) (v6 v15 : Vec Ideal S512x1024 .f32) (v20 : Vec Ideal S1024x1024 .f32)
    (a k : Fin 1024) : k0_pay8 v3 v6 v15 v20 (ix2 a k)
      = v20 (ix2 a k)
        + ∑ x : Fin 512, (v6 (ix2 x a) * (v3 (ix2 x a) * sg (v3 (ix2 x a)))) * v15 (ix2 x k) := by
  simp only [← pay4]
  pointwise [k0_pay8, k0_pay6, k0_pay5, k0_pay3]

theorem final4 : (dats m 0 c).arrAt 4 cfg0.N
    = G4 (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 16 = 0
  · rw [outsAt0_A m c t h]
    frame_out
    idx_vars y
    rw [pay9, emb4]
    simp only [blk0, blk2, blk3]
    rfl
  · rw [outsAt0_B m c t h]
    frame_out
    idx_vars y
    rw [pay9, emb4]
    simp only [blk0, blk2, blk3]
    rfl

theorem final5 : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  by_cases h : t.val % 16 = 0
  · rw [outsAt0_A m c t h]
    frame_out
    idx_vars y
    rw [pay1, emb5]
    simp only [blk0, blk1, blk2, blk3]
    rfl
  · rw [outsAt0_B m c t h]
    frame_out
    idx_vars y
    rw [pay1, emb5]
    simp only [blk0, blk1, blk2, blk3]
    rfl

/-- One block's part of the weight's gradient. -/
def T6 (a0 a1 a3 : FVec Ideal S8192x1024 .f32) (t : Fin cfg0.N) : FVec Ideal S1024x1024 .f32 := fun j =>
  ∑ x : Fin 512, (a0 (ix2 (row t x) (j 0)) * (a1 (ix2 (row t x) (j 0)) * sg (a1 (ix2 (row t x) (j 0))))) * a3 (ix2 (row t x) (j 1))

theorem final6 : (dats m 0 c).arrAt 6 cfg0.N
    = G6 (m ((c : Thread nD τ).loc main_arg0)) (m ((c : Thread nD τ).loc main_arg1)) (m ((c : Thread nD τ).loc main_arg3)) := by
  refine (dats m 0 c).arrAt_eq_of_after_last 6 t0_15 (by decide +kernel) _ fun j => ?_
  blk_simp
  rw [after0_6]
  refine (Pipeline.eq_sum_fin_of_reset_step_apply_last (fun n h => (outsAt0 m c n h).2.2) 16 (fun _ => 0)
    (T6 (m ((c : Thread nD τ).loc main_arg0)) (m ((c : Thread nD τ).loc main_arg1)) (m ((c : Thread nD τ).loc main_arg3)))
    (fun t h j => ?_) (fun t h j => ?_) (le_of_eq N_0) t0_15 rfl j).trans ?_
  · beta_reduce
    rw [outsAt0_A m c t h]
    frame_out
    idx_vars j
    rw [pay8]
    simp only [blk0, blk1, blk2]
    pointwise [k0_pay2]
    rfl
  · beta_reduce
    rw [outsAt0_B m c t h]
    frame_out
    idx_vars j
    rw [pay8]
    simp only [blk0, blk1, blk2]
    rfl
  · idx_vars j
    simp only [zero_add, T6, G6]
    exact Fin.sum_mul_add_congr fun s k hl => rfl

/-- The gate's gradient in the reference's spelling. -/
def H5 (a0 a1 : FVec Ideal S8192x1024 .f32) (a2 : FVec Ideal S1024x1024 .f32) (a3 : FVec Ideal S8192x1024 .f32) :
    FVec Ideal S8192x1024 .bf16 := fun i =>
  a0 i * (∑ k : Fin 1024, a3 (ix2 (i 0) k) * a2 (ix2 (i 1) k)) * sg (a1 i)
    + (a1 i * (a0 i * (∑ k : Fin 1024, a3 (ix2 (i 0) k) * a2 (ix2 (i 1) k)))) * (sg (a1 i) * (1 - sg (a1 i)))

theorem G5_eq_H5 (a0 a1 : FVec Ideal S8192x1024 .f32) (a2 : FVec Ideal S1024x1024 .f32) (a3 : FVec Ideal S8192x1024 .f32)
    (h0 : ∀ i, Re (a0 i)) (h2 : ∀ i, Re (a2 i)) (h3 : ∀ i, Re (a3 i)) : G5 a0 a1 a2 a3 = H5 a0 a1 a2 a3 := by
  choose r0 h0 using h0
  choose r2 h2 using h2
  choose r3 h3 using h3
  funext i
  simp only [G5, H5, h0, h2, h3, ← EReal.coe_mul, ← coe_sum]
  rw [mul_comm (r0 i)]
  exact silu_grad _ _

/-- The reference's run: its results are the three formulas, its arguments end unchanged. -/
theorem refRun (m : (ℓ : Loc Cert.AttnOutRefIdeal.nD Cert.AttnOutRefIdeal.τ Cert.AttnOutRefIdeal.sig) → Buf (Elt Ideal) ℓ)
    (ρ : Dev Cert.AttnOutRefIdeal.nD → PrngReg) :
    θ_run (Cert.AttnOutRefIdeal.defs (F := Ideal)) (onTc (τ := Cert.AttnOutRefIdeal.τ) (Cert.AttnOutRefIdeal.main (F := Ideal))) ⟨m, fun _ => 0, ρ⟩
      fun r => ∀ c : Dev Cert.AttnOutRefIdeal.nD,
        r.2.mem ((c.tc : Thread _ _).loc Cert.AttnOutRefIdeal.main_v7) = G4 (m ((c.tc : Thread _ _).loc Cert.AttnOutRefIdeal.main_arg1)) (m ((c.tc : Thread _ _).loc Cert.AttnOutRefIdeal.main_arg2)) (m ((c.tc : Thread _ _).loc Cert.AttnOutRefIdeal.main_arg3))
        ∧ r.2.mem ((c.tc : Thread _ _).loc Cert.AttnOutRefIdeal.main_v9) = H5 (m ((c.tc : Thread _ _).loc Cert.AttnOutRefIdeal.main_arg0)) (m ((c.tc : Thread _ _).loc Cert.AttnOutRefIdeal.main_arg1)) (m ((c.tc : Thread _ _).loc Cert.AttnOutRefIdeal.main_arg2)) (m ((c.tc : Thread _ _).loc Cert.AttnOutRefIdeal.main_arg3))
        ∧ r.2.mem ((c.tc : Thread _ _).loc Cert.AttnOutRefIdeal.main_v4) = G6 (m ((c.tc : Thread _ _).loc Cert.AttnOutRefIdeal.main_arg0)) (m ((c.tc : Thread _ _).loc Cert.AttnOutRefIdeal.main_arg1)) (m ((c.tc : Thread _ _).loc Cert.AttnOutRefIdeal.main_arg3))
        ∧ r.2.mem ((c.tc : Thread _ _).loc Cert.AttnOutRefIdeal.main_arg0) = m ((c.tc : Thread _ _).loc Cert.AttnOutRefIdeal.main_arg0)
        ∧ r.2.mem ((c.tc : Thread _ _).loc Cert.AttnOutRefIdeal.main_arg1) = m ((c.tc : Thread _ _).loc Cert.AttnOutRefIdeal.main_arg1)
        ∧ r.2.mem ((c.tc : Thread _ _).loc Cert.AttnOutRefIdeal.main_arg2) = m ((c.tc : Thread _ _).loc Cert.AttnOutRefIdeal.main_arg2)
        ∧ r.2.mem ((c.tc : Thread _ _).loc Cert.AttnOutRefIdeal.main_arg3) = m ((c.tc : Thread _ _).loc Cert.AttnOutRefIdeal.main_arg3) :=
  (θ_run _ _ _).mono (fun r h c => by
    obtain ⟨h4, h5, h6, ha⟩ := h c
    refine ⟨h4.trans ?_, h5.trans ?_, h6.trans ?_, ha⟩
    · funext i; idx_vars i; pointwise [G4, sg]
    · funext i; idx_vars i; pointwise [H5, sg]
    · funext i; idx_vars i; pointwise [G6, sg]
      exact Finset.sum_congr rfl fun _ _ => mul_comm _ _)
  (Cert.AttnOutRefIdeal.Value.run m ρ)

end Cert.K.AttnOut

end
-- ==== Proof.K.AttnOutClaims.lean ====
/- The claims about the gated output projection's gradient, assembled. -/
module

public import proofs.«01_k».proof.Proof.K.AttnOut
public import proofs.«01_k».proof.Defs
public import proofs.«01_k».proof.Proof.Gen.AttnOut.Frame
public import proofs.«01_k».proof.Proof.Gen.AttnOutIdeal.Frame
public import proofs.«01_k».proof.Proof.Gen.Pre_finite_attn_out
public import Idealize.ShloMosaic.Adequacy
public import Idealize.ShloMosaic.Init

@[expose] public section

noncomputable section

namespace Cert.K.AttnOut

open Idealize.ShloMosaic Idealize.ShloMosaic.TcCoe Idealize.SL.Sem

theorem frameRef : Cert.quiescent_AttnOutRefIdeal := fun m ρ _ =>
  (θ_run _ _ _).mono (fun r h => ⟨fun c => (h c).2.2.2, sem_eq_zero_of_no_sems (by decide) r.2⟩)
    (Cert.AttnOutRefIdeal.Value.run m ρ)

/-- What the precondition says of the arguments. -/
theorem real_args {m : (ℓ : Loc Cert.AttnOutIdeal.nD Cert.AttnOutIdeal.τ Cert.AttnOutIdeal.sig) → Buf (Elt Ideal) ℓ}
    (h : Cert.Pre_AttnOutIdeal_finite_attn_out m) (c : Dev Cert.AttnOutIdeal.nD) :
    (∀ i, Re (m ((c.tc : Thread _ _).loc Cert.AttnOutIdeal.main_arg0) i))
    ∧ (∀ i, Re (m ((c.tc : Thread _ _).loc Cert.AttnOutIdeal.main_arg2) i))
    ∧ (∀ i, Re (m ((c.tc : Thread _ _).loc Cert.AttnOutIdeal.main_arg3) i)) :=
  ⟨fun i => real_of_cmp (congrFun (h c).1 i) ofBits_inf, fun i => real_of_cmp (congrFun (h c).2.1 i) ofBits_inf,
    fun i => real_of_cmp (congrFun (h c).2.2 i) ofBits_inf⟩

theorem alg : Cert.algebraic_AttnOutIdeal_AttnOutRefIdeal_pre_finite_attn_out := by
  intro m ρ m' ρ' hpre hag
  refine ⟨fun c => (Cert.AttnOutIdeal.Gen.dats m 0 c).arrAt 4 _, fun c => (Cert.AttnOutIdeal.Gen.dats m 0 c).arrAt 5 _,
    fun c => (Cert.AttnOutIdeal.Gen.dats m 0 c).arrAt 6 _, Cert.AttnOutIdeal.Value.run_blocks m ρ, ?_⟩
  refine (θ_run _ _ _).mono (fun _ h c => ?_) (refRun m' ρ')
  obtain ⟨h4, h5, h6, ha⟩ := h c
  obtain ⟨r0, r2, r3⟩ := real_args hpre c
  obtain ⟨e0, e1, e2, e3⟩ := hag c
  refine ⟨h4.trans ?_, h5.trans ?_, h6.trans ?_, ha⟩
  · rw [e1, e2, e3]; exact (final4 m c).symm
  · rw [e0, e1, e2, e3]; exact (G5_eq_H5 _ _ _ _ r0 r2 r3).symm.trans (final5 m c).symm
  · rw [e0, e1, e3]; exact (final6 m c).symm

end Cert.K.AttnOut

end
-- ==== Proof.K.SsmOut.lean ====
/- The recurrent layer's output's gradient: its outputs and its reference as formulas of the arguments. -/
module

public import proofs.«01_k».proof.Proof.K.Real
public import proofs.«01_k».proof.Proof.Gen.SsmOutIdeal.Value
public import proofs.«01_k».proof.Proof.Gen.SsmOutRefIdeal.Run
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.SsmOut

open Idealize.ShloMosaic Idealize.ShloMosaic.TcCoe Idealize.SL.Sem Cert.SsmOutIdeal Cert.SsmOutIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg5) (ix2 (row t a) k) := by
  blk_ext [iblk, V, idx t, row]

theorem blk1 (t : Fin cfg0.N) (a : Fin 512) (k : Fin 1024) :
    iblk m c 1 t (ix2 a k) = m ((c : Thread nD τ).loc main_arg0) (ix2 (row t a) k) := by
  blk_ext [iblk, V, idx t, row]

theorem blk2 (t : Fin cfg0.N) (a : Fin 512) (k : Fin 1024) :
    iblk m c 2 t (ix2 a k) = m ((c : Thread nD τ).loc main_arg1) (ix2 (row t a) k) := by
  blk_ext [iblk, V, idx t, row]

theorem blk3 (t : Fin cfg0.N) (a : Fin 1024) (k : Fin 1024) :
    iblk m c 3 t (ix2 a k) = m ((c : Thread nD τ).loc main_arg2) (ix2 a k) := by
  blk_ext [iblk, V, idx t, row]

theorem blk4 (t : Fin cfg0.N) (a : Fin 1) (k : Fin 1024) :
    iblk m c 4 t (ix2 a k) = m ((c : Thread nD τ).loc main_arg3) (ix1 k) := by
  blk_ext! [iblk, V, idx t, row]

theorem blk5 (t : Fin cfg0.N) (a : Fin 1024) (k : Fin 1024) :
    iblk m c 5 t (ix2 a k) = m ((c : Thread nD τ).loc main_arg4) (ix2 a k) := by
  blk_ext [iblk, V, idx t, row]

theorem emb6 (t : Fin cfg0.N) (a : Fin 512) (k : Fin 1024) :
    ((View.whole main_v4_0).slice (win0_6.rect t)).emb (ix2 a k) = ix2 (row t a) k := by
  blk_ext [idx t, row]

theorem emb7 (t : Fin cfg0.N) (a : Fin 512) (k : Fin 1024) :
    ((View.whole main_v4_1).slice (win0_7.rect t)).emb (ix2 a k) = ix2 (row t a) k := by
  blk_ext [idx t, row]

/-- The tanh inside the activation. -/
def th (x : EReal) : EReal :=
  Ideal.tanh (Ideal.ofBits .f32 1061962282#32 * (x + ((8943 / 200000 : ℝ) : EReal) * (x * x * x)))

/-- The activation. -/
def gel (x : EReal) : EReal := x * (Ideal.ofBits .f32 1056964608#32 * (1 + th x))

/-- The activation's derivative as the kernel writes it. -/
def gelD (x : EReal) : EReal :=
  Ideal.ofBits .f32 1056964608#32 * (1 + th x) + Ideal.ofBits .f32 1056964608#32 * x * (1 - th x * th x)
    * (Ideal.ofBits .f32 1061962282#32 * (1 + ((26829 / 200000 : ℝ) : EReal) * (x * x)))

/-- The inner gate. -/
def sp (a0 : FVec Ideal S8192x1024 .f32) (a2 : FVec Ideal S1024x1024 .f32) (a3 : FVec Ideal S1024 .f32) (i : Fin 8192) (k : Fin 1024) : EReal :=
  sg (∑ n : Fin 1024, gel (a0 (ix2 i n)) * a2 (ix2 n k) + a3 (ix1 k))

/-- The outer gate's factor. -/
def sl (g : EReal) : EReal := g * sg g

/-- The cotangent of the doubly gated activation. -/
def dg (a4 : FVec Ideal S1024x1024 .f32) (a5 : FVec Ideal S8192x1024 .f32) (i : Fin 8192) (k : Fin 1024) : EReal :=
  ∑ n : Fin 1024, a5 (ix2 i n) * a4 (ix2 k n)

/-- The cotangent of the activation after its inner gate. -/
def dz (a1 : FVec Ideal S8192x1024 .f32) (a4 : FVec Ideal S1024x1024 .f32) (a5 : FVec Ideal S8192x1024 .f32) (i : Fin 8192) (k : Fin 1024) : EReal :=
  dg a4 a5 i k * sl (a1 (ix2 i k))

/-- The cotangent of the inner gate's argument. -/
def dq (a0 : FVec Ideal S8192x1024 .f32) (a1 : FVec Ideal S8192x1024 .f32) (a2 : FVec Ideal S1024x1024 .f32) (a3 : FVec Ideal S1024 .f32) (a4 : FVec Ideal S1024x1024 .f32) (a5 : FVec Ideal S8192x1024 .f32) (i : Fin 8192) (k : Fin 1024) : EReal :=
  dz a1 a4 a5 i k * gel (a0 (ix2 i k)) * (sp a0 a2 a3 i k * (1 - sp a0 a2 a3 i k))

/-- The cotangent of the activation. -/
def da (a0 : FVec Ideal S8192x1024 .f32) (a1 : FVec Ideal S8192x1024 .f32) (a2 : FVec Ideal S1024x1024 .f32) (a3 : FVec Ideal S1024 .f32) (a4 : FVec Ideal S1024x1024 .f32) (a5 : FVec Ideal S8192x1024 .f32) (i : Fin 8192) (k : Fin 1024) : EReal :=
  dz a1 a4 a5 i k * sp a0 a2 a3 i k + ∑ n : Fin 1024, dq a0 a1 a2 a3 a4 a5 i n * a2 (ix2 k n)

/-- The input's gradient. -/
def G6 (a0 : FVec Ideal S8192x1024 .f32) (a1 : FVec Ideal S8192x1024 .f32) (a2 : FVec Ideal S1024x1024 .f32) (a3 : FVec Ideal S1024 .f32) (a4 : FVec Ideal S1024x1024 .f32) (a5 : FVec Ideal S8192x1024 .f32) : FVec Ideal S8192x1024 .f32 := fun i =>
  da a0 a1 a2 a3 a4 a5 (i 0) (i 1) * gelD (a0 i)

/-- The outer gate's gradient. -/
def G7 (a0 : FVec Ideal S8192x1024 .f32) (a1 : FVec Ideal S8192x1024 .f32) (a2 : FVec Ideal S1024x1024 .f32) (a3 : FVec Ideal S1024 .f32) (a4 : FVec Ideal S1024x1024 .f32) (a5 : FVec Ideal S8192x1024 .f32) : FVec Ideal S8192x1024 .f32 := fun i =>
  dg a4 a5 (i 0) (i 1) * (gel (a0 i) * sp a0 a2 a3 (i 0) (i 1)) * (sg (a1 i) * (1 + a1 i * (1 - sg (a1 i))))

/-- One block's part of the inner weight's gradient. -/
def T8 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) (t : Fin cfg0.N) : FVec Ideal S1024x1024 .f32 := fun i =>
  ∑ x : Fin 512, gel (a0 (ix2 (row t x) (i 0))) * dq a0 a1 a2 a3 a4 a5 (row t x) (i 1)

/-- The inner weight's gradient. -/
def G8 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) : FVec Ideal S1024x1024 .f32 := fun i =>
  ∑ l : Fin 8192, gel (a0 (ix2 l (i 0))) * dq a0 a1 a2 a3 a4 a5 l (i 1)

/-- One block's part of the inner bias's gradient. -/
def T9 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) (t : Fin cfg0.N) : FVec Ideal S1x1024 .f32 := fun i =>
  ∑ x : Fin 512, dq a0 a1 a2 a3 a4 a5 (row t x) (i 1)

/-- The inner bias's gradient. -/
def G9 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) : FVec Ideal S1x1024 .f32 := fun i =>
  ∑ l : Fin 8192, dq a0 a1 a2 a3 a4 a5 l (i 1)

/-- One block's part of the outer weight's gradient. -/
def T10 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) (t : Fin cfg0.N) : FVec Ideal S1024x1024 .f32 := fun i =>
  ∑ x : Fin 512, gel (a0 (ix2 (row t x) (i 0))) * sp a0 a2 a3 (row t x) (i 0) * sl (a1 (ix2 (row t x) (i 0))) * a5 (ix2 (row t x) (i 1))

/-- The outer weight's gradient. -/
def G10 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) : FVec Ideal S1024x1024 .f32 := fun i =>
  ∑ l : Fin 8192, gel (a0 (ix2 l (i 0))) * sp a0 a2 a3 l (i 0) * sl (a1 (ix2 l (i 0))) * a5 (ix2 l (i 1))

theorem named_cubic : Named.named (F := Ideal) (φ := .f32) κ "cubic" 0x3D372713#32 = ((8943 / 200000 : ℝ) : EReal) :=
  IdealRules.named_const.ideal_named_scalar _ _ _ _ rfl

theorem named_cubic_grad : Named.named (F := Ideal) (φ := .f32) κ "cubic_grad" 0x3E095D4F#32 = ((26829 / 200000 : ℝ) : EReal) :=
  IdealRules.named_const.ideal_named_scalar _ _ _ _ rfl

theorem pay5 (x : Vec Ideal S512x1024 .f32) (a : Fin 512) (k : Fin 1024) : k0_pay5 x (ix2 a k) = gel (x (ix2 a k)) := by
  pointwise [k0_pay5, gel, th, named_cubic]

theorem pay25 (x : Vec Ideal S512x1024 .f32) (a : Fin 512) (k : Fin 1024) : k0_pay25 x (ix2 a k) = gelD (x (ix2 a k)) := by
  pointwise [k0_pay25, gelD, th, named_cubic, named_cubic_grad]

theorem pay7 (t : Fin cfg0.N) (a : Fin 512) (k : Fin 1024) :
    k0_pay7 (iblk m c 1 t) (iblk m c 3 t) (iblk m c 4 t) (ix2 a k)
      = sp (m ((c : Thread nD τ).loc main_arg0)) (m ((c : Thread nD τ).loc main_arg2)) (m ((c : Thread nD τ).loc main_arg3)) (row t a) k := by
  pointwise [k0_pay7, k0_pay6, sp, sg]
  simp only [pay5, blk1, blk3, blk4, zero_sub]

theorem pay8 (t : Fin cfg0.N) (a : Fin 512) (k : Fin 1024) :
    k0_pay8 (iblk m c 1 t) (iblk m c 3 t) (iblk m c 4 t) (ix2 a k)
      = gel ((m ((c : Thread nD τ).loc main_arg0)) (ix2 (row t a) k)) * sp (m ((c : Thread nD τ).loc main_arg0)) (m ((c : Thread nD τ).loc main_arg2)) (m ((c : Thread nD τ).loc main_arg3)) (row t a) k := by
  pointwise [k0_pay8]
  rw [pay5, pay7, blk1]

theorem pay9 (t : Fin cfg0.N) (a : Fin 512) (k : Fin 1024) :
    k0_pay9 (iblk m c 2 t) (ix2 a k)
      = (m ((c : Thread nD τ).loc main_arg1)) (ix2 (row t a) k) := by
  pointwise [k0_pay9]
  rw [blk2]

theorem pay11 (t : Fin cfg0.N) (a : Fin 512) (k : Fin 1024) :
    k0_pay11 (k0_pay10 (iblk m c 2 t)) (ix2 a k)
      = sg ((m ((c : Thread nD τ).loc main_arg1)) (ix2 (row t a) k)) := by
  pointwise [k0_pay11, k0_pay10, sg]
  rw [pay9, zero_sub]

theorem pay12 (t : Fin cfg0.N) (a : Fin 512) (k : Fin 1024) :
    k0_pay12 (k0_pay9 (iblk m c 2 t)) (k0_pay10 (iblk m c 2 t)) (ix2 a k)
      = sl ((m ((c : Thread nD τ).loc main_arg1)) (ix2 (row t a) k)) := by
  pointwise [k0_pay12, sl]
  rw [pay9, pay11]

theorem pay14 (t : Fin cfg0.N) (a : Fin 512) (k : Fin 1024) :
    k0_pay14 (iblk m c 0 t) (iblk m c 5 t) (ix2 a k)
      = dg (m ((c : Thread nD τ).loc main_arg4)) (m ((c : Thread nD τ).loc main_arg5)) (row t a) k := by
  pointwise [k0_pay14, k0_pay13, dg]
  simp only [blk0, blk5]

theorem pay16 (t : Fin cfg0.N) (a : Fin 512) (k : Fin 1024) :
    k0_pay16 (k0_pay9 (iblk m c 2 t)) (k0_pay10 (iblk m c 2 t)) (iblk m c 0 t) (iblk m c 5 t) (ix2 a k)
      = dz (m ((c : Thread nD τ).loc main_arg1)) (m ((c : Thread nD τ).loc main_arg4)) (m ((c : Thread nD τ).loc main_arg5)) (row t a) k := by
  pointwise [k0_pay16]
  rw [pay14, pay12]
  rfl

theorem pay17 (t : Fin cfg0.N) (a : Fin 512) (k : Fin 1024) :
    k0_pay17 (k0_pay8 (iblk m c 1 t) (iblk m c 3 t) (iblk m c 4 t)) (k0_pay9 (iblk m c 2 t)) (k0_pay10 (iblk m c 2 t)) (iblk m c 0 t) (iblk m c 5 t) (ix2 a k)
      = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t a) k) := by
  pointwise [k0_pay17]
  rw [pay14, pay8, pay11, pay9]
  rfl

theorem pay18 (t : Fin cfg0.N) (a : Fin 512) (k : Fin 1024) :
    k0_pay18 (k0_pay5 (iblk m c 1 t)) (k0_pay7 (iblk m c 1 t) (iblk m c 3 t) (iblk m c 4 t)) (k0_pay9 (iblk m c 2 t)) (k0_pay10 (iblk m c 2 t)) (iblk m c 0 t) (iblk m c 5 t) (ix2 a k)
      = dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) k := by
  pointwise [k0_pay18]
  rw [pay16, pay5, pay7, blk1]
  rfl

theorem pay19 (t : Fin cfg0.N) (a : Fin 512) (k : Fin 1024) :
    k0_pay19 (k0_pay5 (iblk m c 1 t)) (k0_pay7 (iblk m c 1 t) (iblk m c 3 t) (iblk m c 4 t)) (k0_pay9 (iblk m c 2 t)) (k0_pay10 (iblk m c 2 t)) (iblk m c 0 t) (iblk m c 5 t) (ix2 a k)
      = dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) k := by
  pointwise [k0_pay19]
  rw [pay18]

theorem pay22 (t : Fin cfg0.N) (a : Fin 512) (k : Fin 1024) :
    k0_pay22 (k0_pay20 (k0_pay7 (iblk m c 1 t) (iblk m c 3 t) (iblk m c 4 t)) (k0_pay9 (iblk m c 2 t)) (k0_pay10 (iblk m c 2 t)) (iblk m c 0 t) (iblk m c 5 t)) (k0_pay21 (k0_pay5 (iblk m c 1 t)) (k0_pay7 (iblk m c 1 t) (iblk m c 3 t) (iblk m c 4 t)) (k0_pay9 (iblk m c 2 t)) (k0_pay10 (iblk m c 2 t)) (iblk m c 0 t) (iblk m c 5 t) (iblk m c 3 t)) (ix2 a k)
      = da (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) k := by
  pointwise [k0_pay22, k0_pay20, k0_pay21]
  simp only [pay16, pay7, pay19, blk3]
  rfl

theorem pay1 (t : Fin cfg0.N) (a : Fin 512) (k : Fin 1024) :
    k0_pay1 (k0_pay22 (k0_pay20 (k0_pay7 (iblk m c 1 t) (iblk m c 3 t) (iblk m c 4 t)) (k0_pay9 (iblk m c 2 t)) (k0_pay10 (iblk m c 2 t)) (iblk m c 0 t) (iblk m c 5 t)) (k0_pay21 (k0_pay5 (iblk m c 1 t)) (k0_pay7 (iblk m c 1 t) (iblk m c 3 t) (iblk m c 4 t)) (k0_pay9 (iblk m c 2 t)) (k0_pay10 (iblk m c 2 t)) (iblk m c 0 t) (iblk m c 5 t) (iblk m c 3 t))) (k0_pay25 (iblk m c 1 t)) (ix2 a k)
      = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t a) k) := by
  pointwise [k0_pay1]
  rw [pay22, pay25, blk1]
  rfl

theorem pay15 (v49 : Vec Ideal S1024x1024 .f32) (t : Fin cfg0.N) (a : Fin 1024) (k : Fin 1024) :
    k0_pay15 (k0_pay8 (iblk m c 1 t) (iblk m c 3 t) (iblk m c 4 t)) (k0_pay9 (iblk m c 2 t)) (k0_pay10 (iblk m c 2 t)) (iblk m c 0 t) v49 (ix2 a k)
      = v49 (ix2 a k) + T10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay15, k0_pay13]
  simp only [pay8, pay12, blk0]
  rfl

theorem pay23 (v78 : Vec Ideal S1024x1024 .f32) (t : Fin cfg0.N) (a : Fin 1024) (k : Fin 1024) :
    k0_pay23 (k0_pay6 (iblk m c 1 t)) (k0_pay19 (k0_pay5 (iblk m c 1 t)) (k0_pay7 (iblk m c 1 t) (iblk m c 3 t) (iblk m c 4 t)) (k0_pay9 (iblk m c 2 t)) (k0_pay10 (iblk m c 2 t)) (iblk m c 0 t) (iblk m c 5 t)) v78 (ix2 a k)
      = v78 (ix2 a k) + T8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay23, k0_pay6]
  simp only [pay5, pay19, blk1]
  rfl

theorem pay24 (v83 : Vec Ideal S1x1024 .f32) (t : Fin cfg0.N) (a : Fin 1) (k : Fin 1024) :
    k0_pay24 (k0_pay18 (k0_pay5 (iblk m c 1 t)) (k0_pay7 (iblk m c 1 t) (iblk m c 3 t) (iblk m c 4 t)) (k0_pay9 (iblk m c 2 t)) (k0_pay10 (iblk m c 2 t)) (iblk m c 0 t) (iblk m c 5 t)) v83 (ix2 a k)
      = v83 (ix2 a k) + T9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay24]
  simp only [pay18]
  rfl

theorem final6 : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]
    frame_out
    idx_vars y
    rw [pay1, emb6]
  · rw [outsAt0_B m c t h]
    frame_out
    idx_vars y
    rw [pay1, emb6]

theorem final7 : (dats m 0 c).arrAt 7 cfg0.N
    = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h : t.val % 16 = 0
  · rw [outsAt0_A m c t h]
    frame_out
    idx_vars y
    rw [pay17, emb7]
  · rw [outsAt0_B m c t h]
    frame_out
    idx_vars y
    rw [pay17, emb7]

theorem final8 : (dats m 0 c).arrAt 8 cfg0.N
    = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8]
  refine (Pipeline.eq_sum_fin_of_reset_step_apply_last (fun n h => (outsAt0 m c n h).2.2.1) 16 (fun _ => 0)
    (T8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h j => ?_) (fun t h j => ?_) (le_of_eq N_0) t0_15 rfl j).trans ?_
  · beta_reduce
    rw [outsAt0_A m c t h]
    frame_out
    idx_vars j
    rw [pay23]
    pointwise [k0_pay3]
  · beta_reduce
    rw [outsAt0_B m c t h]
    frame_out
    idx_vars j
    rw [pay23]
  · idx_vars j
    simp only [zero_add, T8, G8]
    exact Fin.sum_mul_add_congr fun s k hl => rfl

theorem final9 : (dats m 0 c).arrAt 9 cfg0.N
    = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  blk_simp
  rw [after0_9]
  refine (Pipeline.eq_sum_fin_of_reset_step_apply_last (fun n h => (outsAt0 m c n h).2.2.2.1) 16 (fun _ => 0)
    (T9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h j => ?_) (fun t h j => ?_) (le_of_eq N_0) t0_15 rfl j).trans ?_
  · beta_reduce
    rw [outsAt0_A m c t h]
    frame_out
    idx_vars j
    rw [pay24]
    pointwise [k0_pay4]
  · beta_reduce
    rw [outsAt0_B m c t h]
    frame_out
    idx_vars j
    rw [pay24]
  · idx_vars j
    simp only [zero_add, T9, G9]
    exact Fin.sum_mul_add_congr fun s k hl => rfl

theorem final10 : (dats m 0 c).arrAt 10 cfg0.N
    = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  blk_simp
  rw [after0_10]
  refine (Pipeline.eq_sum_fin_of_reset_step_apply_last (fun n h => (outsAt0 m c n h).2.2.2.2) 16 (fun _ => 0)
    (T10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h j => ?_) (fun t h j => ?_) (le_of_eq N_0) t0_15 rfl j).trans ?_
  · beta_reduce
    rw [outsAt0_A m c t h]
    frame_out
    idx_vars j
    rw [pay15]
    pointwise [k0_pay2]
  · beta_reduce
    rw [outsAt0_B m c t h]
    frame_out
    idx_vars j
    rw [pay15]
  · idx_vars j
    simp only [zero_add, T10, G10]
    exact Fin.sum_mul_add_congr fun s k hl => rfl

theorem sg_fold (x : EReal) : Ideal.div 1 (1 + Ideal.exp (-x)) = sg x := rfl

theorem re_sg (x : EReal) : Re (sg x) := by
  induction x using EReal.rec with
  | bot => rw [sg_bot]; exact Re.coe 0
  | top => rw [sg_top]; exact Re.coe 1
  | coe r => rw [sg_coe]; exact Re.coe _

theorem re_gain : Re (Ideal.ofBits .f32 1061962282#32) := by
  simp [Ideal.ofBits, Ideal.ieee]
  exact ⟨_, (EReal.coe_mul _ _).symm⟩

theorem ofBits_44715 : Ideal.ofBits .f32 1194240768#32 = ((44715 : ℝ) : EReal) := by
  simp [Ideal.ofBits, Ideal.ieee]
  rw [← EReal.coe_mul]
  norm_num

theorem ofBits_million : Ideal.ofBits .f32 1232348160#32 = ((1000000 : ℝ) : EReal) := by
  simp [Ideal.ofBits, Ideal.ieee]
  rw [← EReal.coe_mul]
  norm_num

theorem ofBits_three : Ideal.ofBits .f32 1077936128#32 = ((3 : ℝ) : EReal) := by
  simp [Ideal.ofBits, Ideal.ieee]
  rw [← EReal.coe_mul]
  norm_num

theorem th_fold (x : EReal) :
    Ideal.tanh (Ideal.ofBits .f32 1061962282#32
      * (x + Ideal.div (Ideal.ofBits .f32 1194240768#32 * (x * x * x)) (Ideal.ofBits .f32 1232348160#32))) = th x := by
  unfold th
  rw [ofBits_million, ofBits_44715, Ideal.div_coe (by norm_num), mul_right_comm, ← EReal.coe_mul]
  norm_num

theorem gel_fold (x : EReal) : x * (Ideal.ofBits .f32 1056964608#32 * (1 + th x)) = gel x := rfl

theorem re_th {x : EReal} : Re x → Re (th x) := by
  rintro ⟨r, rfl⟩
  obtain ⟨k, hk⟩ := re_gain
  refine ⟨Real.tanh (k * (r + 8943 / 200000 * (r * r * r))), ?_⟩
  unfold th
  rw [hk]
  simp only [← EReal.coe_mul, ← EReal.coe_add, Ideal.tanh_coe]

theorem re_gel {x : EReal} (h : Re x) : Re (gel x) := by
  unfold gel
  rw [ofBits_half]
  exact h.mul ((Re.coe _).mul ((Re.coe 1).add (re_th h)))

/-- The activation's gradient in the reference's spelling, at the cotangent `d`. -/
def gelR (d x : EReal) : EReal :=
  d * (Ideal.ofBits .f32 1056964608#32 * (1 + th x))
    + Ideal.ofBits .f32 1061962282#32 * (Ideal.ofBits .f32 1056964608#32 * (x * d) * ((1 + th x) * (1 - th x)))
    + Ideal.ofBits .f32 1194240768#32
        * Ideal.div (Ideal.ofBits .f32 1061962282#32 * (Ideal.ofBits .f32 1056964608#32 * (x * d) * ((1 + th x) * (1 - th x))))
          (Ideal.ofBits .f32 1232348160#32)
        * (Ideal.ofBits .f32 1077936128#32 * (x * x))

theorem gelu_grad {d x : EReal} (hd : Re d) (hx : Re x) : d * gelD x = gelR d x := by
  obtain ⟨t, ht⟩ := re_th hx
  obtain ⟨d, rfl⟩ := hd
  obtain ⟨x, rfl⟩ := hx
  obtain ⟨k, hk⟩ := re_gain
  unfold gelD gelR
  rw [ht, hk, ofBits_half, ofBits_44715, ofBits_million, ofBits_three, Ideal.div_coe (by norm_num)]
  norm_cast
  ring

theorem sl_fold (x : EReal) : x * sg x = sl x := rfl

theorem sp_fold (a0 : FVec Ideal S8192x1024 .f32) (a2 : FVec Ideal S1024x1024 .f32) (a3 : FVec Ideal S1024 .f32) (i : Fin 8192) (k : Fin 1024) :
    sg (∑ n : Fin 1024, gel (a0 (ix2 i n)) * a2 (ix2 n k) + a3 (ix1 k)) = sp a0 a2 a3 i k := rfl

theorem dg_fold (a4 : FVec Ideal S1024x1024 .f32) (a5 : FVec Ideal S8192x1024 .f32) (i : Fin 8192) (k : Fin 1024) :
    ∑ n : Fin 1024, a5 (ix2 i n) * a4 (ix2 k n) = dg a4 a5 i k := rfl

theorem dq_fold (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) (i : Fin 8192) (k : Fin 1024) :
    gel (a0 (ix2 i k)) * (dg a4 a5 i k * sl (a1 (ix2 i k))) * (sp a0 a2 a3 i k * (1 - sp a0 a2 a3 i k)) = dq a0 a1 a2 a3 a4 a5 i k :=
  congrArg (· * _) (mul_comm _ _)

theorem da_fold (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) (i : Fin 8192) (k : Fin 1024) :
    dg a4 a5 i k * sl (a1 (ix2 i k)) * sp a0 a2 a3 i k + ∑ n : Fin 1024, dq a0 a1 a2 a3 a4 a5 i n * a2 (ix2 k n)
      = da a0 a1 a2 a3 a4 a5 i k := rfl

/-- The input's gradient in the reference's spelling. -/
def H6 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) : FVec Ideal S8192x1024 .f32 := fun i =>
  gelR (da a0 a1 a2 a3 a4 a5 (i 0) (i 1)) (a0 i)

/-- The outer gate's gradient in the reference's spelling. -/
def H7 (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32) : FVec Ideal S8192x1024 .f32 := fun i =>
  gel (a0 i) * sp a0 a2 a3 (i 0) (i 1) * dg a4 a5 (i 0) (i 1) * sg (a1 i)
    + a1 i * (gel (a0 i) * sp a0 a2 a3 (i 0) (i 1) * dg a4 a5 (i 0) (i 1)) * (sg (a1 i) * (1 - sg (a1 i)))

section

variable (a0 : FVec Ideal S8192x1024 .f32) (a1 : FVec Ideal S8192x1024 .f32) (a2 : FVec Ideal S1024x1024 .f32) (a3 : FVec Ideal S1024 .f32) (a4 : FVec Ideal S1024x1024 .f32)
    (a5 : FVec Ideal S8192x1024 .f32)

theorem re_dg (h4 : ∀ i, Re (a4 i)) (h5 : ∀ i, Re (a5 i)) (i : Fin 8192) (k : Fin 1024) : Re (dg a4 a5 i k) :=
  Re.sum fun n => (h5 _).mul (h4 _)

theorem re_dz (h1 : ∀ i, Re (a1 i)) (h4 : ∀ i, Re (a4 i)) (h5 : ∀ i, Re (a5 i)) (i : Fin 8192) (k : Fin 1024) : Re (dz a1 a4 a5 i k) :=
  (re_dg a4 a5 h4 h5 i k).mul ((h1 _).mul (re_sg _))

theorem re_da (h0 : ∀ i, Re (a0 i)) (h1 : ∀ i, Re (a1 i)) (h2 : ∀ i, Re (a2 i)) (h4 : ∀ i, Re (a4 i)) (h5 : ∀ i, Re (a5 i))
    (i : Fin 8192) (k : Fin 1024) : Re (da a0 a1 a2 a3 a4 a5 i k) :=
  ((re_dz a1 a4 a5 h1 h4 h5 i k).mul (re_sg _)).add (Re.sum fun n =>
    (((re_dz a1 a4 a5 h1 h4 h5 i n).mul (re_gel (h0 _))).mul ((re_sg _).mul ((Re.coe 1).sub (re_sg _)))).mul (h2 _))

theorem G6_eq_H6 (h0 : ∀ i, Re (a0 i)) (h1 : ∀ i, Re (a1 i)) (h2 : ∀ i, Re (a2 i)) (h4 : ∀ i, Re (a4 i)) (h5 : ∀ i, Re (a5 i)) :
    G6 a0 a1 a2 a3 a4 a5 = H6 a0 a1 a2 a3 a4 a5 :=
  funext fun i => gelu_grad (re_da a0 a1 a2 a3 a4 a5 h0 h1 h2 h4 h5 _ _) (h0 i)

theorem G7_eq_H7 (h0 : ∀ i, Re (a0 i)) (h4 : ∀ i, Re (a4 i)) (h5 : ∀ i, Re (a5 i)) :
    G7 a0 a1 a2 a3 a4 a5 = H7 a0 a1 a2 a3 a4 a5 := by
  funext i
  unfold G7 H7
  obtain ⟨r, hr⟩ : Re (gel (a0 i) * sp a0 a2 a3 (i 0) (i 1) * dg a4 a5 (i 0) (i 1)) :=
    ((re_gel (h0 i)).mul (re_sg _)).mul (re_dg a4 a5 h4 h5 _ _)
  rw [mul_comm (dg a4 a5 (i 0) (i 1)), hr]
  exact silu_grad r (a1 i)

theorem G8_comm (i0 i1 : Fin 1024) :
    G8 a0 a1 a2 a3 a4 a5 (ix2 i0 i1) = ∑ l : Fin 8192, dq a0 a1 a2 a3 a4 a5 l i1 * gel (a0 (ix2 l i0)) :=
  Finset.sum_congr rfl fun _ _ => mul_comm _ _

theorem G10_comm (i0 i1 : Fin 1024) :
    G10 a0 a1 a2 a3 a4 a5 (ix2 i0 i1)
      = ∑ l : Fin 8192, a5 (ix2 l i1) * (gel (a0 (ix2 l i0)) * sp a0 a2 a3 l i0 * sl (a1 (ix2 l i0))) :=
  Finset.sum_congr rfl fun _ _ => mul_comm _ _

end

set_option maxHeartbeats 2000000 in
/-- The reference's run: its results are the five formulas, its arguments end unchanged. -/
theorem refRun (m : (ℓ : Loc Cert.SsmOutRefIdeal.nD Cert.SsmOutRefIdeal.τ Cert.SsmOutRefIdeal.sig) → Buf (Elt Ideal) ℓ) (ρ : Dev Cert.SsmOutRefIdeal.nD → PrngReg) :
    θ_run (Cert.SsmOutRefIdeal.defs (F := Ideal)) (onTc (τ := Cert.SsmOutRefIdeal.τ) (Cert.SsmOutRefIdeal.main (F := Ideal))) ⟨m, fun _ => 0, ρ⟩
      fun r => ∀ c : Dev Cert.SsmOutRefIdeal.nD,
        r.2.mem ((c.tc : Thread _ _).loc Cert.SsmOutRefIdeal.main_v69) = H6 (m ((c.tc : Thread _ _).loc Cert.SsmOutRefIdeal.main_arg0)) (m ((c.tc : Thread _ _).loc Cert.SsmOutRefIdeal.main_arg1)) (m ((c.tc : Thread _ _).loc Cert.SsmOutRefIdeal.main_arg2)) (m ((c.tc : Thread _ _).loc Cert.SsmOutRefIdeal.main_arg3)) (m ((c.tc : Thread _ _).loc Cert.SsmOutRefIdeal.main_arg4)) (m ((c.tc : Thread _ _).loc Cert.SsmOutRefIdeal.main_arg5))
        ∧ r.2.mem ((c.tc : Thread _ _).loc Cert.SsmOutRefIdeal.main_v70) = H7 (m ((c.tc : Thread _ _).loc Cert.SsmOutRefIdeal.main_arg0)) (m ((c.tc : Thread _ _).loc Cert.SsmOutRefIdeal.main_arg1)) (m ((c.tc : Thread _ _).loc Cert.SsmOutRefIdeal.main_arg2)) (m ((c.tc : Thread _ _).loc Cert.SsmOutRefIdeal.main_arg3)) (m ((c.tc : Thread _ _).loc Cert.SsmOutRefIdeal.main_arg4)) (m ((c.tc : Thread _ _).loc Cert.SsmOutRefIdeal.main_arg5))
        ∧ r.2.mem ((c.tc : Thread _ _).loc Cert.SsmOutRefIdeal.main_v53) = G8 (m ((c.tc : Thread _ _).loc Cert.SsmOutRefIdeal.main_arg0)) (m ((c.tc : Thread _ _).loc Cert.SsmOutRefIdeal.main_arg1)) (m ((c.tc : Thread _ _).loc Cert.SsmOutRefIdeal.main_arg2)) (m ((c.tc : Thread _ _).loc Cert.SsmOutRefIdeal.main_arg3)) (m ((c.tc : Thread _ _).loc Cert.SsmOutRefIdeal.main_arg4)) (m ((c.tc : Thread _ _).loc Cert.SsmOutRefIdeal.main_arg5))
        ∧ r.2.mem ((c.tc : Thread _ _).loc Cert.SsmOutRefIdeal.main_v71) = G9 (m ((c.tc : Thread _ _).loc Cert.SsmOutRefIdeal.main_arg0)) (m ((c.tc : Thread _ _).loc Cert.SsmOutRefIdeal.main_arg1)) (m ((c.tc : Thread _ _).loc Cert.SsmOutRefIdeal.main_arg2)) (m ((c.tc : Thread _ _).loc Cert.SsmOutRefIdeal.main_arg3)) (m ((c.tc : Thread _ _).loc Cert.SsmOutRefIdeal.main_arg4)) (m ((c.tc : Thread _ _).loc Cert.SsmOutRefIdeal.main_arg5))
        ∧ r.2.mem ((c.tc : Thread _ _).loc Cert.SsmOutRefIdeal.main_v41) = G10 (m ((c.tc : Thread _ _).loc Cert.SsmOutRefIdeal.main_arg0)) (m ((c.tc : Thread _ _).loc Cert.SsmOutRefIdeal.main_arg1)) (m ((c.tc : Thread _ _).loc Cert.SsmOutRefIdeal.main_arg2)) (m ((c.tc : Thread _ _).loc Cert.SsmOutRefIdeal.main_arg3)) (m ((c.tc : Thread _ _).loc Cert.SsmOutRefIdeal.main_arg4)) (m ((c.tc : Thread _ _).loc Cert.SsmOutRefIdeal.main_arg5))
        ∧ r.2.mem ((c.tc : Thread _ _).loc Cert.SsmOutRefIdeal.main_arg0) = m ((c.tc : Thread _ _).loc Cert.SsmOutRefIdeal.main_arg0)
        ∧ r.2.mem ((c.tc : Thread _ _).loc Cert.SsmOutRefIdeal.main_arg1) = m ((c.tc : Thread _ _).loc Cert.SsmOutRefIdeal.main_arg1)
        ∧ r.2.mem ((c.tc : Thread _ _).loc Cert.SsmOutRefIdeal.main_arg2) = m ((c.tc : Thread _ _).loc Cert.SsmOutRefIdeal.main_arg2)
        ∧ r.2.mem ((c.tc : Thread _ _).loc Cert.SsmOutRefIdeal.main_arg3) = m ((c.tc : Thread _ _).loc Cert.SsmOutRefIdeal.main_arg3)
        ∧ r.2.mem ((c.tc : Thread _ _).loc Cert.SsmOutRefIdeal.main_arg4) = m ((c.tc : Thread _ _).loc Cert.SsmOutRefIdeal.main_arg4)
        ∧ r.2.mem ((c.tc : Thread _ _).loc Cert.SsmOutRefIdeal.main_arg5) = m ((c.tc : Thread _ _).loc Cert.SsmOutRefIdeal.main_arg5) := by
  refine (θ_run _ _ _).mono (fun r h c => ?_) (Cert.SsmOutRefIdeal.Value.run m ρ)
  obtain ⟨h6, h7, h8, h9, h10, ha⟩ := h c
  refine ⟨h6.trans ?_, h7.trans ?_, h8.trans ?_, h9.trans ?_, h10.trans ?_, ha⟩
  · funext i; idx_vars i
    pointwise [Cert.SsmOutRefIdeal.Value.res_main_v69]
    simp only [sg_fold, th_fold, gel_fold, sl_fold, sp_fold, dg_fold, dq_fold, da_fold]
    rfl
  · funext i; idx_vars i
    pointwise [Cert.SsmOutRefIdeal.Value.res_main_v70]
    simp only [sg_fold, th_fold, gel_fold, sp_fold, dg_fold]
    rfl
  · funext i; idx_vars i
    pointwise [Cert.SsmOutRefIdeal.Value.res_main_v53]
    simp only [sg_fold, th_fold, gel_fold, sl_fold, sp_fold, dg_fold, dq_fold]
    rw [G8_comm]
  · funext i; idx_vars i
    pointwise
    simp only [sg_fold, th_fold, gel_fold, sl_fold, sp_fold, dg_fold, dq_fold, Finset.univ_unique, Finset.sum_singleton]
    rfl
  · funext i; idx_vars i
    pointwise
    simp only [sg_fold, th_fold, gel_fold, sl_fold, sp_fold]
    rw [G10_comm]

end Cert.K.SsmOut

end
-- ==== Proof.K.SsmOutClaims.lean ====
/- The claims about the recurrent layer's output's gradient, assembled. -/
module

public import proofs.«01_k».proof.Proof.K.SsmOut
public import proofs.«01_k».proof.Defs
public import proofs.«01_k».proof.Proof.Gen.SsmOut.Frame
public import proofs.«01_k».proof.Proof.Gen.SsmOutIdeal.Frame
public import proofs.«01_k».proof.Proof.Gen.Pre_finite_ssm_out
public import Idealize.ShloMosaic.Adequacy
public import Idealize.ShloMosaic.Init

@[expose] public section

noncomputable section

namespace Cert.K.SsmOut

open Idealize.ShloMosaic Idealize.ShloMosaic.TcCoe Idealize.SL.Sem

theorem frameRef : Cert.quiescent_SsmOutRefIdeal := fun m ρ _ =>
  (θ_run _ _ _).mono (fun r h => ⟨fun c => (h c).2.2.2.2.2, sem_eq_zero_of_no_sems (by decide) r.2⟩)
    (Cert.SsmOutRefIdeal.Value.run m ρ)

/-- What the precondition says of the arguments. -/
theorem real_args {m : (ℓ : Loc Cert.SsmOutIdeal.nD Cert.SsmOutIdeal.τ Cert.SsmOutIdeal.sig) → Buf (Elt Ideal) ℓ}
    (h : Cert.Pre_SsmOutIdeal_finite_ssm_out m) (c : Dev Cert.SsmOutIdeal.nD) :
    (∀ i, Re (m ((c.tc : Thread _ _).loc Cert.SsmOutIdeal.main_arg0) i))
    ∧ (∀ i, Re (m ((c.tc : Thread _ _).loc Cert.SsmOutIdeal.main_arg1) i))
    ∧ (∀ i, Re (m ((c.tc : Thread _ _).loc Cert.SsmOutIdeal.main_arg2) i))
    ∧ (∀ i, Re (m ((c.tc : Thread _ _).loc Cert.SsmOutIdeal.main_arg4) i))
    ∧ (∀ i, Re (m ((c.tc : Thread _ _).loc Cert.SsmOutIdeal.main_arg5) i)) :=
  ⟨fun i => real_of_cmp (congrFun (h c).1 i) ofBits_inf,
    fun i => real_of_cmp (congrFun (h c).2.1 i) ofBits_inf,
    fun i => real_of_cmp (congrFun (h c).2.2.1 i) ofBits_inf,
    fun i => real_of_cmp (congrFun (h c).2.2.2.1 i) ofBits_inf,
    fun i => real_of_cmp (congrFun (h c).2.2.2.2 i) ofBits_inf⟩

theorem alg : Cert.algebraic_SsmOutIdeal_SsmOutRefIdeal_pre_finite_ssm_out := by
  intro m ρ m' ρ' hpre hag
  refine ⟨fun c => (Cert.SsmOutIdeal.Gen.dats m 0 c).arrAt 6 _,
    fun c => (Cert.SsmOutIdeal.Gen.dats m 0 c).arrAt 7 _,
    fun c => (Cert.SsmOutIdeal.Gen.dats m 0 c).arrAt 8 _,
    fun c => (Cert.SsmOutIdeal.Gen.dats m 0 c).arrAt 9 _,
    fun c => (Cert.SsmOutIdeal.Gen.dats m 0 c).arrAt 10 _,
    Cert.SsmOutIdeal.Value.run_blocks m ρ, ?_⟩
  refine (θ_run _ _ _).mono (fun _ h c => ?_) (refRun m' ρ')
  obtain ⟨h6, h7, h8, h9, h10, ha⟩ := h c
  obtain ⟨r0, r1, r2, r4, r5⟩ := real_args hpre c
  obtain ⟨e0, e1, e2, e3, e4, e5⟩ := hag c
  refine ⟨h6.trans ?_, h7.trans ?_, h8.trans ?_, h9.trans ?_, h10.trans ?_, ha⟩
  · rw [e0, e1, e2, e3, e4, e5]; exact (G6_eq_H6 _ _ _ _ _ _ r0 r1 r2 r4 r5).symm.trans (final6 m c).symm
  · rw [e0, e1, e2, e3, e4, e5]; exact (G7_eq_H7 _ _ _ _ _ _ r0 r4 r5).symm.trans (final7 m c).symm
  · rw [e0, e1, e2, e3, e4, e5]; exact (final8 m c).symm
  · rw [e0, e1, e2, e3, e4, e5]; exact (final9 m c).symm
  · rw [e0, e1, e2, e3, e4, e5]; exact (final10 m c).symm

end Cert.K.SsmOut

end
-- ==== Proof.K.OutLoss.lean ====
/- The last layer's output with the loss: its outputs and its reference as formulas of the arguments. -/
module

public import proofs.«01_k».proof.Proof.K.Real
public import proofs.«01_k».proof.Proof.Gen.OutLossIdeal.Value
public import proofs.«01_k».proof.Proof.Gen.OutLossRefIdeal.Run
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.OutLoss

open Idealize.ShloMosaic Idealize.ShloMosaic.TcCoe Idealize.SL.Sem Cert.OutLossIdeal Cert.OutLossIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![t.val, 0]
    ∧ win0_8.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![t.val, 0]
    ∧ win0_8.index t = ![0, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 512) (k : Fin 1024) :
    iblk m c 1 t (ix2 a k) = m ((c : Thread nD τ).loc main_arg1) (ix2 (row t a) k) := by
  blk_ext [iblk, V, idx t, row]

theorem blk2 (t : Fin cfg0.N) (a : Fin 512) (k : Fin 1024) :
    iblk m c 2 t (ix2 a k) = m ((c : Thread nD τ).loc main_arg2) (ix2 (row t a) k) := by
  blk_ext [iblk, V, idx t, row]

theorem blk3 (t : Fin cfg0.N) (a : Fin 1024) (k : Fin 1024) :
    iblk m c 3 t (ix2 a k) = m ((c : Thread nD τ).loc main_arg3) (ix2 a k) := by
  blk_ext [iblk, V, idx t, row]

theorem blk4 (t : Fin cfg0.N) (a : Fin 1) (k : Fin 1024) :
    iblk m c 4 t (ix2 a k) = m ((c : Thread nD τ).loc main_arg4) (ix1 k) := by
  blk_ext! [iblk, V, idx t, row]

theorem blk5 (t : Fin cfg0.N) (a : Fin 512) (k : Fin 1024) :
    iblk m c 5 t (ix2 a k) = m ((c : Thread nD τ).loc main_arg5) (ix2 (row t a) k) := by
  blk_ext [iblk, V, idx t, row]

theorem emb7 (t : Fin cfg0.N) (a : Fin 512) (k : Fin 1024) :
    ((View.whole main_v3_1).slice (win0_7.rect t)).emb (ix2 a k) = ix2 (row t a) k := by
  blk_ext [idx t, row]

/-- The layer's input plus its gated and projected output. -/
def xo (a0 a1 a2 : FVec Ideal S8192x1024 .f32) (a3 : FVec Ideal S1024x1024 .f32) (i : Fin 8192) (k : Fin 1024) : EReal :=
  a2 (ix2 i k) + ∑ n : Fin 1024, a0 (ix2 i n) * (a1 (ix2 i n) * sg (a1 (ix2 i n))) * a3 (ix2 n k)

/-- The scaled normalised row minus the target. -/
def er (a0 a1 a2 : FVec Ideal S8192x1024 .f32) (a3 : FVec Ideal S1024x1024 .f32) (a4 : FVec Ideal S1024 .f32)
    (a5 : FVec Ideal S8192x1024 .f32) (i : Fin 8192) (k : Fin 1024) : EReal :=
  xo a0 a1 a2 a3 i k * rs (xo a0 a1 a2 a3 i) * a4 (ix1 k) - a5 (ix2 i k)

theorem pay8 (t : Fin cfg0.N) (a : Fin 512) (k : Fin 1024) :
    k0_pay8 (iblk m c 1 t) (iblk m c 0 t) (iblk m c 2 t) (iblk m c 3 t) (ix2 a k)
      = xo (m ((c : Thread nD τ).loc main_arg0)) (m ((c : Thread nD τ).loc main_arg1)) (m ((c : Thread nD τ).loc main_arg2))
          (m ((c : Thread nD τ).loc main_arg3)) (row t a) k := by
  pointwise [k0_pay8]
  simp only [blk0, blk1, blk2, blk3, zero_sub]
  rfl

theorem xo_fun (t : Fin cfg0.N) (a : Fin 512) :
    (fun k : Fin 1024 => k0_pay8 (iblk m c 1 t) (iblk m c 0 t) (iblk m c 2 t) (iblk m c 3 t) (ix2 a k))
      = xo (m ((c : Thread nD τ).loc main_arg0)) (m ((c : Thread nD τ).loc main_arg1)) (m ((c : Thread nD τ).loc main_arg2)) (m ((c : Thread nD τ).loc main_arg3)) (row t a) :=
  funext fun k => pay8 m c t a k

theorem pay9 (t : Fin cfg0.N) (a : Fin 512) (k : Fin 1) :
    k0_pay9 (iblk m c 1 t) (iblk m c 0 t) (iblk m c 2 t) (iblk m c 3 t) (ix2 a k) = rs (xo (m ((c : Thread nD τ).loc main_arg0)) (m ((c : Thread nD τ).loc main_arg1)) (m ((c : Thread nD τ).loc main_arg2)) (m ((c : Thread nD τ).loc main_arg3)) (row t a)) := by
  pointwise [k0_pay9]
  simp only [pay8]
  rfl

theorem pay10 (t : Fin cfg0.N) (a : Fin 512) (k : Fin 1024) :
    k0_pay10 (iblk m c 1 t) (iblk m c 0 t) (iblk m c 2 t) (iblk m c 3 t) (ix2 a k)
      = xo (m ((c : Thread nD τ).loc main_arg0)) (m ((c : Thread nD τ).loc main_arg1)) (m ((c : Thread nD τ).loc main_arg2)) (m ((c : Thread nD τ).loc main_arg3)) (row t a) k * rs (xo (m ((c : Thread nD τ).loc main_arg0)) (m ((c : Thread nD τ).loc main_arg1)) (m ((c : Thread nD τ).loc main_arg2)) (m ((c : Thread nD τ).loc main_arg3)) (row t a)) := by
  pointwise [k0_pay10]
  rw [pay8, pay9]

theorem pay11 (t : Fin cfg0.N) (a : Fin 512) (k : Fin 1024) :
    k0_pay11 (iblk m c 1 t) (iblk m c 0 t) (iblk m c 2 t) (iblk m c 3 t) (iblk m c 4 t) (iblk m c 5 t) (ix2 a k)
      = er (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t a) k := by
  pointwise [k0_pay11]
  rw [pay10, blk4, blk5]
  rfl

/-- One block's part of the loss. -/
def T6 (a0 a1 a2 : FVec Ideal S8192x1024 .f32) (a3 : FVec Ideal S1024x1024 .f32) (a4 : FVec Ideal S1024 .f32)
    (a5 : FVec Ideal S8192x1024 .f32) (t : Fin cfg0.N) : FVec Ideal S8x128 .f32 := fun _ =>
  Ideal.ofBits .f32 1056964608#32 * ∑ x : Fin 512, Ideal.div (∑ k : Fin 1024, er a0 a1 a2 a3 a4 a5 (row t x) k * er a0 a1 a2 a3 a4 a5 (row t x) k)
    (Ideal.ofBits .f32 1149239296#32)

/-- The loss. -/
def G6 (a0 a1 a2 : FVec Ideal S8192x1024 .f32) (a3 : FVec Ideal S1024x1024 .f32) (a4 : FVec Ideal S1024 .f32)
    (a5 : FVec Ideal S8192x1024 .f32) : FVec Ideal S8x128 .f32 := fun _ =>
  Ideal.ofBits .f32 1056964608#32 * ∑ l : Fin 8192, Ideal.div (∑ k : Fin 1024, er a0 a1 a2 a3 a4 a5 l k * er a0 a1 a2 a3 a4 a5 l k)
    (Ideal.ofBits .f32 1149239296#32)

/-- The gradient of the layer's output sum. -/
def G7 (a0 a1 a2 : FVec Ideal S8192x1024 .f32) (a3 : FVec Ideal S1024x1024 .f32) (a4 : FVec Ideal S1024 .f32)
    (a5 : FVec Ideal S8192x1024 .f32) : FVec Ideal S8192x1024 .f32 := fun i =>
  rmsK (xo a0 a1 a2 a3 (i 0)) (fun j : Fin 1024 => er a0 a1 a2 a3 a4 a5 (i 0) j * Ideal.ofBits .f32 981467136#32 * a4 (ix1 j)) (i 1)

/-- One block's part of the scale's gradient. -/
def T8 (a0 a1 a2 : FVec Ideal S8192x1024 .f32) (a3 : FVec Ideal S1024x1024 .f32) (a4 : FVec Ideal S1024 .f32)
    (a5 : FVec Ideal S8192x1024 .f32) (t : Fin cfg0.N) : FVec Ideal S1x1024 .f32 := fun i =>
  ∑ x : Fin 512, er a0 a1 a2 a3 a4 a5 (row t x) (i 1) * Ideal.ofBits .f32 981467136#32
    * (xo a0 a1 a2 a3 (row t x) (i 1) * rs (xo a0 a1 a2 a3 (row t x)))

/-- The scale's gradient. -/
def G8 (a0 a1 a2 : FVec Ideal S8192x1024 .f32) (a3 : FVec Ideal S1024x1024 .f32) (a4 : FVec Ideal S1024 .f32)
    (a5 : FVec Ideal S8192x1024 .f32) : FVec Ideal S1x1024 .f32 := fun i =>
  ∑ l : Fin 8192, er a0 a1 a2 a3 a4 a5 l (i 1) * Ideal.ofBits .f32 981467136#32
    * (xo a0 a1 a2 a3 l (i 1) * rs (xo a0 a1 a2 a3 l))

theorem pay1 (t : Fin cfg0.N) (a k : Fin 1) :
    k0_pay1 (k0_pay12 (iblk m c 1 t) (iblk m c 0 t) (iblk m c 2 t) (iblk m c 3 t) (iblk m c 4 t) (iblk m c 5 t)) (Ideal.ofBits .f32 1149239296#32) (ix2 a k)
      = T6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 0 0) := by
  pointwise [k0_pay1, k0_pay12]
  simp only [pay11]
  rfl

theorem pay6 (v70 : Vec Ideal S8x128 .f32) (t : Fin cfg0.N) (a : Fin 8) (k : Fin 128) :
    k0_pay6 (k0_pay12 (iblk m c 1 t) (iblk m c 0 t) (iblk m c 2 t) (iblk m c 3 t) (iblk m c 4 t) (iblk m c 5 t)) (FloatOps.ofBits (F := Ideal) .f32 1149239296#32) v70 (ix2 a k)
      = v70 (ix2 a k) + T6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay6]
  rw [pay1]
  rfl

theorem pay5 (t : Fin cfg0.N) (a : Fin 8) (k : Fin 128) :
    k0_pay5 (k0_pay12 (iblk m c 1 t) (iblk m c 0 t) (iblk m c 2 t) (iblk m c 3 t) (iblk m c 4 t) (iblk m c 5 t)) (FloatOps.ofBits (F := Ideal) .f32 1149239296#32) (ix2 a k)
      = 0 + T6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay5]
  rw [pay1]
  rfl

theorem pay3 (t : Fin cfg0.N) (a : Fin 1) (k : Fin 1024) :
    k0_pay3 (k0_pay10 (iblk m c 1 t) (iblk m c 0 t) (iblk m c 2 t) (iblk m c 3 t))
      (k0_pay11 (iblk m c 1 t) (iblk m c 0 t) (iblk m c 2 t) (iblk m c 3 t) (iblk m c 4 t) (iblk m c 5 t)) (ix2 a k)
      = T8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay3, k0_pay2]
  simp only [pay10, pay11]
  rfl

theorem pay7 (v75 : Vec Ideal S1x1024 .f32) (t : Fin cfg0.N) (a : Fin 1) (k : Fin 1024) :
    k0_pay7 (k0_pay10 (iblk m c 1 t) (iblk m c 0 t) (iblk m c 2 t) (iblk m c 3 t))
      (k0_pay11 (iblk m c 1 t) (iblk m c 0 t) (iblk m c 2 t) (iblk m c 3 t) (iblk m c 4 t) (iblk m c 5 t)) v75 (ix2 a k)
      = v75 (ix2 a k) + T8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t (ix2 a k) := by
  pointwise [k0_pay7]
  rw [pay3]

theorem pay4 (t : Fin cfg0.N) (a : Fin 512) (k : Fin 1024) :
    k0_pay4 (k0_pay9 (iblk m c 1 t) (iblk m c 0 t) (iblk m c 2 t) (iblk m c 3 t))
      (k0_pay10 (iblk m c 1 t) (iblk m c 0 t) (iblk m c 2 t) (iblk m c 3 t))
      (k0_pay11 (iblk m c 1 t) (iblk m c 0 t) (iblk m c 2 t) (iblk m c 3 t) (iblk m c 4 t) (iblk m c 5 t)) (iblk m c 4 t) (ix2 a k)
      = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t a) k) := by
  pointwise [k0_pay4, k0_pay2]
  simp only [pay9, pay10, pay11, blk4]
  rfl

theorem final6 : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_15 (by decide +kernel) _ fun j => ?_
  blk_simp
  rw [after0_6]
  refine (Pipeline.eq_sum_fin_of_reset_step_apply_last (fun n h => (outsAt0 m c n h).1) 16 (fun _ => 0)
    (T6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h j => ?_) (fun t h j => ?_) (le_of_eq N_0) t0_15 rfl j).trans ?_
  · beta_reduce
    rw [outsAt0_A m c t h (by have := lt_of_lt_of_eq t.isLt N_0; omega)]
    frame_out
    idx_vars j
    rw [pay5]
  · beta_reduce
    rw [outsAt0_B m c t h (by omega)]
    frame_out
    idx_vars j
    rw [pay6]
  · idx_vars j
    simp only [zero_add, T6, G6, ofBits_half]
    rw [← mul_sum_of_nonneg _ _ _ (by norm_num)]
    congr 1
    exact Fin.sum_mul_add_congr fun s k hl => rfl

theorem final7 : (dats m 0 c).arrAt 7 cfg0.N
    = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h : t.val % 16 = 0
  · rw [outsAt0_A m c t h (by have := lt_of_lt_of_eq t.isLt N_0; omega)]
    frame_out
    idx_vars y
    rw [pay4, emb7]
  · rw [outsAt0_B m c t h (by omega)]
    frame_out
    idx_vars y
    rw [pay4, emb7]

theorem final8 : (dats m 0 c).arrAt 8 cfg0.N
    = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8]
  refine (Pipeline.eq_sum_fin_of_reset_step_apply_last (fun n h => (outsAt0 m c n h).2.2) 16 (fun _ => 0)
    (T8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h j => ?_) (fun t h j => ?_) (le_of_eq N_0) t0_15 rfl j).trans ?_
  · beta_reduce
    rw [outsAt0_A m c t h (by have := lt_of_lt_of_eq t.isLt N_0; omega)]
    frame_out
    idx_vars j
    rw [pay3, zero_add]
  · beta_reduce
    rw [outsAt0_B m c t h (by omega)]
    frame_out
    idx_vars j
    rw [pay7]
  · idx_vars j
    simp only [zero_add, T8, G8]
    exact Fin.sum_mul_add_congr fun s k hl => rfl

/-- The gradient of the layer's output sum in the reference's spelling. -/
def H7 (a0 a1 a2 : FVec Ideal S8192x1024 .f32) (a3 : FVec Ideal S1024x1024 .f32) (a4 : FVec Ideal S1024 .f32)
    (a5 : FVec Ideal S8192x1024 .f32) : FVec Ideal S8192x1024 .f32 := fun i =>
  rmsR (xo a0 a1 a2 a3 (i 0)) (fun j : Fin 1024 => er a0 a1 a2 a3 a4 a5 (i 0) j * Ideal.ofBits .f32 981467136#32 * a4 (ix1 j)) 0 (i 1)

theorem G7_eq_H7 (a0 a1 a2 : FVec Ideal S8192x1024 .f32) (a3 : FVec Ideal S1024x1024 .f32) (a4 : FVec Ideal S1024 .f32)
    (a5 : FVec Ideal S8192x1024 .f32)
    (h4 : ∀ i, Re (a4 i)) (h5 : ∀ i, Re (a5 i)) : G7 a0 a1 a2 a3 a4 a5 = H7 a0 a1 a2 a3 a4 a5 := by
  funext i
  refine (add_zero _).symm.trans (rms_grad_of_re _ _ (fun j => ?_) 0 _)
  rw [ofBits_inv_1024]
  exact ((((re_normalised _ _).mul (h4 _)).sub (h5 _)).mul (Re.coe _)).mul (h4 _)

theorem xo_fold (a0 a1 a2 : FVec Ideal S8192x1024 .f32) (a3 : FVec Ideal S1024x1024 .f32) (i : Fin 8192) (k : Fin 1024) :
    a2 (ix2 i k) + ∑ n : Fin 1024, a0 (ix2 i n) * (a1 (ix2 i n) * sg (a1 (ix2 i n))) * a3 (ix2 n k) = xo a0 a1 a2 a3 i k := rfl

theorem G8_comm (a0 a1 a2 : FVec Ideal S8192x1024 .f32) (a3 : FVec Ideal S1024x1024 .f32) (a4 : FVec Ideal S1024 .f32)
    (a5 : FVec Ideal S8192x1024 .f32) (i0 : Fin 1) (i1 : Fin 1024) :
    G8 a0 a1 a2 a3 a4 a5 (ix2 i0 i1) = ∑ l : Fin 8192, xo a0 a1 a2 a3 l i1 * rs (xo a0 a1 a2 a3 l)
      * (er a0 a1 a2 a3 a4 a5 l i1 * Ideal.ofBits .f32 981467136#32) :=
  Finset.sum_congr rfl fun _ _ => mul_comm _ _

theorem er_fold (a0 a1 a2 : FVec Ideal S8192x1024 .f32) (a3 : FVec Ideal S1024x1024 .f32) (a4 : FVec Ideal S1024 .f32)
    (a5 : FVec Ideal S8192x1024 .f32) (i : Fin 8192) (k : Fin 1024) :
    xo a0 a1 a2 a3 i k * rs (xo a0 a1 a2 a3 i) * a4 (ix1 k) - a5 (ix2 i k) = er a0 a1 a2 a3 a4 a5 i k := rfl

theorem sg_fold (x : EReal) : Ideal.div 1 (1 + Ideal.exp (-x)) = sg x := rfl

theorem rs_fold (x : Fin 1024 → EReal) :
    Ideal.rsqrt (Ideal.div (∑ k, x k * x k) (Ideal.ofBits .f32 1149239296#32) + Ideal.ofBits .f32 925353388#32) = rs x := rfl

/-- The reference's run: its results are the three formulas, its arguments end unchanged. -/
theorem refRun (m : (ℓ : Loc Cert.OutLossRefIdeal.nD Cert.OutLossRefIdeal.τ Cert.OutLossRefIdeal.sig) → Buf (Elt Ideal) ℓ)
    (ρ : Dev Cert.OutLossRefIdeal.nD → PrngReg) :
    θ_run (Cert.OutLossRefIdeal.defs (F := Ideal)) (onTc (τ := Cert.OutLossRefIdeal.τ) (Cert.OutLossRefIdeal.main (F := Ideal))) ⟨m, fun _ => 0, ρ⟩
      fun r => ∀ c : Dev Cert.OutLossRefIdeal.nD,
        r.2.mem ((c.tc : Thread _ _).loc Cert.OutLossRefIdeal.main_v55) = G6 (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) (m ((c.tc : Thread _ _).loc Cert.OutLossRefIdeal.main_arg4)) (m ((c.tc : Thread _ _).loc Cert.OutLossRefIdeal.main_arg5))
        ∧ r.2.mem ((c.tc : Thread _ _).loc Cert.OutLossRefIdeal.main_v54) = H7 (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) (m ((c.tc : Thread _ _).loc Cert.OutLossRefIdeal.main_arg4)) (m ((c.tc : Thread _ _).loc Cert.OutLossRefIdeal.main_arg5))
        ∧ r.2.mem ((c.tc : Thread _ _).loc Cert.OutLossRefIdeal.main_v56) = G8 (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) (m ((c.tc : Thread _ _).loc Cert.OutLossRefIdeal.main_arg4)) (m ((c.tc : Thread _ _).loc Cert.OutLossRefIdeal.main_arg5))
        ∧ r.2.mem ((c.tc : Thread _ _).loc Cert.OutLossRefIdeal.main_arg0) = m ((c.tc : Thread _ _).loc Cert.OutLossRefIdeal.main_arg0)
        ∧ r.2.mem ((c.tc : Thread _ _).loc Cert.OutLossRefIdeal.main_arg1) = m ((c.tc : Thread _ _).loc Cert.OutLossRefIdeal.main_arg1)
        ∧ r.2.mem ((c.tc : Thread _ _).loc Cert.OutLossRefIdeal.main_arg2) = m ((c.tc : Thread _ _).loc Cert.OutLossRefIdeal.main_arg2)
        ∧ r.2.mem ((c.tc : Thread _ _).loc Cert.OutLossRefIdeal.main_arg3) = m ((c.tc : Thread _ _).loc Cert.OutLossRefIdeal.main_arg3)
        ∧ r.2.mem ((c.tc : Thread _ _).loc Cert.OutLossRefIdeal.main_arg4) = m ((c.tc : Thread _ _).loc Cert.OutLossRefIdeal.main_arg4)
        ∧ r.2.mem ((c.tc : Thread _ _).loc Cert.OutLossRefIdeal.main_arg5) = m ((c.tc : Thread _ _).loc Cert.OutLossRefIdeal.main_arg5) := by
  refine (θ_run _ _ _).mono (fun r h c => ?_) (Cert.OutLossRefIdeal.Value.run m ρ)
  obtain ⟨h4, h5, h6, ha⟩ := h c
  refine ⟨h4.trans ?_, h5.trans ?_, h6.trans ?_, ha⟩
  · funext i; idx_vars i
    pointwise [Cert.OutLossRefIdeal.Value.res_main_v55]
    simp only [sg_fold, xo_fold]
    simp only [rs_fold (xo (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) _), er_fold]
    rfl
  · funext i; idx_vars i
    pointwise [Cert.OutLossRefIdeal.Value.res_main_v54]
    simp only [sg_fold, xo_fold]
    simp only [rs_fold (xo (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) _), er_fold, sq_seed, Finset.univ_unique, Finset.sum_singleton]
    unfold H7 rmsR
    rw [zero_add]
    rfl
  · funext i; idx_vars i
    pointwise [Cert.OutLossRefIdeal.Value.res_main_v56]
    simp only [sg_fold, xo_fold]
    simp only [rs_fold (xo (m ((c.tc : Thread _ _).loc Cert.OutLossRefIdeal.main_arg0)) (m ((c.tc : Thread _ _).loc Cert.OutLossRefIdeal.main_arg1)) (m ((c.tc : Thread _ _).loc Cert.OutLossRefIdeal.main_arg2)) (m ((c.tc : Thread _ _).loc Cert.OutLossRefIdeal.main_arg3)) _), er_fold, sq_seed, Finset.univ_unique, Finset.sum_singleton]
    rw [G8_comm]

end Cert.K.OutLoss

end
-- ==== Proof.K.OutLossClaims.lean ====
/- The claims about the last layer's output with the loss, assembled. -/
module

public import proofs.«01_k».proof.Proof.K.OutLoss
public import proofs.«01_k».proof.Defs
public import proofs.«01_k».proof.Proof.Gen.OutLoss.Frame
public import proofs.«01_k».proof.Proof.Gen.OutLossIdeal.Frame
public import proofs.«01_k».proof.Proof.Gen.Pre_finite_loss
public import Idealize.ShloMosaic.Adequacy
public import Idealize.ShloMosaic.Init

@[expose] public section

noncomputable section

namespace Cert.K.OutLoss

open Idealize.ShloMosaic Idealize.ShloMosaic.TcCoe Idealize.SL.Sem

theorem frameRef : Cert.quiescent_OutLossRefIdeal := fun m ρ _ =>
  (θ_run _ _ _).mono (fun r h => ⟨fun c => (h c).2.2.2, sem_eq_zero_of_no_sems (by decide) r.2⟩)
    (Cert.OutLossRefIdeal.Value.run m ρ)

/-- What the precondition says of the arguments. -/
theorem real_args {m : (ℓ : Loc Cert.OutLossIdeal.nD Cert.OutLossIdeal.τ Cert.OutLossIdeal.sig) → Buf (Elt Ideal) ℓ}
    (h : Cert.Pre_OutLossIdeal_finite_loss m) (c : Dev Cert.OutLossIdeal.nD) :
    (∀ i, Re (m ((c.tc : Thread _ _).loc Cert.OutLossIdeal.main_arg4) i))
    ∧ (∀ i, Re (m ((c.tc : Thread _ _).loc Cert.OutLossIdeal.main_arg5) i)) :=
  ⟨fun i => real_of_cmp (congrFun (h c).1 i) ofBits_inf,
    fun i => real_of_cmp (congrFun (h c).2 i) ofBits_inf⟩

theorem alg : Cert.algebraic_OutLossIdeal_OutLossRefIdeal_pre_finite_loss := by
  intro m ρ m' ρ' hpre hag
  refine ⟨fun c => (Cert.OutLossIdeal.Gen.dats m 0 c).arrAt 6 _,
    fun c => (Cert.OutLossIdeal.Gen.dats m 0 c).arrAt 7 _,
    fun c => (Cert.OutLossIdeal.Gen.dats m 0 c).arrAt 8 _,
    Cert.OutLossIdeal.Value.run_blocks m ρ, ?_⟩
  refine (θ_run _ _ _).mono (fun _ h c => ?_) (refRun m' ρ')
  obtain ⟨h6, h7, h8, ha⟩ := h c
  obtain ⟨r4, r5⟩ := real_args hpre c
  obtain ⟨e0, e1, e2, e3, e4, e5⟩ := hag c
  refine ⟨h6.trans ?_, h7.trans ?_, h8.trans ?_, ha⟩
  · rw [e0, e1, e2, e3, e4, e5]; exact (final6 m c).symm
  · rw [e0, e1, e2, e3, e4, e5]; exact (G7_eq_H7 _ _ _ _ _ _ r4 r5).symm.trans (final7 m c).symm
  · rw [e0, e1, e2, e3, e4, e5]; exact (final8 m c).symm

end Cert.K.OutLoss

end
-- ==== Proof.K.InSsm.lean ====
/- The values of the input projection's gradient of the recurrent layer. -/
module

public import proofs.«01_k».proof.Proof.K.Real
public import proofs.«01_k».proof.Proof.Gen.InSsmIdeal.Value
public import proofs.«01_k».proof.Proof.Gen.InSsmRefIdeal.Run
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.InSsm

open Idealize.ShloMosaic Idealize.ShloMosaic.TcCoe Idealize.SL.Sem Cert.InSsmIdeal Cert.InSsmIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 1) (k : Fin 1024) :
    iblk m c 1 t (ix2 a k) = m ((c : Thread nD τ).loc main_arg1) (ix1 k) := by
  blk_ext! [iblk, V, idx t, row]

theorem blk2 (t : Fin cfg0.N) (a : Fin 1024) (k : Fin 2048) :
    iblk m c 2 t (ix2 a k) = m ((c : Thread nD τ).loc main_arg2) (ix2 a k) := by
  blk_ext [iblk, V, idx t, row]

theorem blk3 (t : Fin cfg0.N) (a : Fin 512) (k : Fin 1024) :
    iblk m c 3 t (ix2 a k) = m ((c : Thread nD τ).loc main_arg5) (ix2 (row t a) k) := by
  blk_ext [iblk, V, idx t, row]

theorem blk4 (t : Fin cfg0.N) (a : Fin 512) (k : Fin 1024) :
    iblk m c 4 t (ix2 a k) = m ((c : Thread nD τ).loc main_arg3) (ix2 (row t a) k) := by
  blk_ext [iblk, V, idx t, row]

theorem blk5 (t : Fin cfg0.N) (a : Fin 512) (k : Fin 1024) :
    iblk m c 5 t (ix2 a k) = m ((c : Thread nD τ).loc main_arg4) (ix2 (row t a) k) := by
  blk_ext [iblk, V, idx t, row]

theorem emb6 (t : Fin cfg0.N) (a : Fin 512) (k : Fin 1024) :
    ((View.whole main_v3_0).slice (win0_6.rect t)).emb (ix2 a k) = ix2 (row t a) k := by
  blk_ext [idx t, row]

/-- The joined cotangent of the projection. -/
def dp (a3 a4 : FVec Ideal S8192x1024 .f32) (i : Fin 8192) (n : Fin 2048) : EReal :=
  if h : n.val < 1024 then a3 (ix2 i ⟨n.val, h⟩) else a4 (ix2 i ⟨n.val - 1024, by omega⟩)

/-- The cotangent of the normalised and scaled input. -/
def dh (a2 : FVec Ideal S1024x2048 .f32) (a3 a4 : FVec Ideal S8192x1024 .f32) (i : Fin 8192) (k : Fin 1024) : EReal :=
  ∑ n : Fin 2048, dp a3 a4 i n * a2 (ix2 k n)

/-- The input's gradient. -/
def G6 (a0 : FVec Ideal S8192x1024 .f32) (a1 : FVec Ideal S1024 .f32) (a2 : FVec Ideal S1024x2048 .f32)
    (a3 a4 a5 : FVec Ideal S8192x1024 .f32) : FVec Ideal S8192x1024 .f32 := fun i =>
  rmsK (fun j : Fin 1024 => a0 (ix2 (i 0) j)) (fun j : Fin 1024 => dh a2 a3 a4 (i 0) j * a1 (ix1 j)) (i 1) + a5 i

/-- The weight's gradient. -/
def G7 (a0 : FVec Ideal S8192x1024 .f32) (a1 : FVec Ideal S1024 .f32) (a3 a4 : FVec Ideal S8192x1024 .f32) :
    FVec Ideal S1024x2048 .f32 := fun i =>
  ∑ l : Fin 8192, a0 (ix2 l (i 0)) * rs (fun j : Fin 1024 => a0 (ix2 l j)) * a1 (ix1 (i 0)) * dp a3 a4 l (i 1)

/-- The scale's gradient. -/
def G8 (a0 : FVec Ideal S8192x1024 .f32) (a2 : FVec Ideal S1024x2048 .f32) (a3 a4 : FVec Ideal S8192x1024 .f32) :
    FVec Ideal S1x1024 .f32 := fun i =>
  ∑ l : Fin 8192, dh a2 a3 a4 l (i 1) * (a0 (ix2 l (i 1)) * rs (fun j : Fin 1024 => a0 (ix2 l j)))

theorem pay5 (v3 : Vec Ideal S512x1024 .f32) (a : Fin 512) (k : Fin 1) :
    k0_pay5 v3 (ix2 a k) = rs (fun j : Fin 1024 => v3 (ix2 a j)) := by
  pointwise [k0_pay5, rs]

theorem pay6 (v3 : Vec Ideal S512x1024 .f32) (a : Fin 512) (k : Fin 1024) :
    k0_pay6 v3 (ix2 a k) = v3 (ix2 a k) * rs (fun j : Fin 1024 => v3 (ix2 a j)) := by
  pointwise [k0_pay6]
  rw [pay5]

theorem pay7 (t : Fin cfg0.N) (a : Fin 512) (k : Fin 2048) :
    k0_pay7 (iblk m c 4 t) (iblk m c 5 t) (ix2 a k)
      = dp (m ((c : Thread nD τ).loc main_arg3)) (m ((c : Thread nD τ).loc main_arg4)) (row t a) k := by
  pointwise [k0_pay7, dp]
  simp only [blk4, blk5]

theorem pay8 (t : Fin cfg0.N) (a : Fin 512) (k : Fin 1024) :
    k0_pay8 (iblk m c 4 t) (iblk m c 5 t) (iblk m c 2 t) (ix2 a k)
      = dh (m ((c : Thread nD τ).loc main_arg2)) (m ((c : Thread nD τ).loc main_arg3)) (m ((c : Thread nD τ).loc main_arg4)) (row t a) k := by
  pointwise [k0_pay8, dh]
  simp only [pay7, blk2]

theorem pay2 (v11 : Vec Ideal S512x1 .f32) (v13 v25 : Vec Ideal S512x1024 .f32) (v39 : Vec Ideal S1x1024 .f32)
    (v53 : Vec Ideal S512x1024 .f32) (a : Fin 512) (k : Fin 1024) :
    k0_pay2 v11 v13 v25 v39 v53 (ix2 a k) = v11 (ix2 a 0) * (v25 (ix2 a k) * v39 (ix2 0 k) - v13 (ix2 a k) *
      Ideal.div (∑ x : Fin 1024, v25 (ix2 a x) * v39 (ix2 0 x) * v13 (ix2 a x)) (Ideal.ofBits FTy.f32 1149239296#32)) + v53 (ix2 a k) := by
  pointwise [k0_pay2]

theorem final6 : (dats m 0 c).arrAt 6 cfg0.N
    = G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]
    frame_out
    idx_vars y
    rw [pay2, emb6]
    simp only [pay5, pay6, pay8, blk0, blk1, blk3]
    rfl
  · rw [outsAt0_B m c t h]
    frame_out
    idx_vars y
    rw [pay2, emb6]
    simp only [pay5, pay6, pay8, blk0, blk1, blk3]
    rfl

/-- One block's part of the weight's gradient. -/
def T7 (a0 : FVec Ideal S8192x1024 .f32) (a1 : FVec Ideal S1024 .f32) (a3 a4 : FVec Ideal S8192x1024 .f32) (t : Fin cfg0.N) :
    FVec Ideal S1024x2048 .f32 := fun i =>
  ∑ x : Fin 512, a0 (ix2 (row t x) (i 0)) * rs (fun j : Fin 1024 => a0 (ix2 (row t x) j)) * a1 (ix1 (i 0)) * dp a3 a4 (row t x) (i 1)

theorem pay9 (v26 : Vec Ideal S1024x2048 .f32) (t : Fin cfg0.N) (a : Fin 1024) (k : Fin 2048) :
    k0_pay9 (iblk m c 0 t) (iblk m c 1 t) (iblk m c 4 t) (iblk m c 5 t) v26 (ix2 a k) = v26 (ix2 a k)
      + T7 (m ((c : Thread nD τ).loc main_arg0)) (m ((c : Thread nD τ).loc main_arg1)) (m ((c : Thread nD τ).loc main_arg3))
          (m ((c : Thread nD τ).loc main_arg4)) t (ix2 a k) := by
  pointwise [k0_pay9]
  simp only [pay6, pay7, blk0, blk1]
  rfl

theorem final7 : (dats m 0 c).arrAt 7 cfg0.N
    = G7 (m ((c : Thread nD τ).loc main_arg0)) (m ((c : Thread nD τ).loc main_arg1)) (m ((c : Thread nD τ).loc main_arg3))
      (m ((c : Thread nD τ).loc main_arg4)) := by
  refine (dats m 0 c).arrAt_eq_of_after_last 7 t0_15 (by decide +kernel) _ fun j => ?_
  blk_simp
  rw [after0_7]
  refine (Pipeline.eq_sum_fin_of_reset_step_apply_last (fun n h => (outsAt0 m c n h).2.1) 16 (fun _ => 0)
    (T7 (m ((c : Thread nD τ).loc main_arg0)) (m ((c : Thread nD τ).loc main_arg1)) (m ((c : Thread nD τ).loc main_arg3))
      (m ((c : Thread nD τ).loc main_arg4)))
    (fun t h j => ?_) (fun t h j => ?_) (le_of_eq N_0) t0_15 rfl j).trans ?_
  · beta_reduce
    rw [outsAt0_A m c t h]
    frame_out
    idx_vars j
    rw [pay9]
    pointwise [k0_pay3]
  · beta_reduce
    rw [outsAt0_B m c t h]
    frame_out
    idx_vars j
    rw [pay9]
  · idx_vars j
    simp only [zero_add, T7, G7]
    exact Fin.sum_mul_add_congr fun s k hl => rfl

/-- One block's part of the scale's gradient. -/
def T8 (a0 : FVec Ideal S8192x1024 .f32) (a2 : FVec Ideal S1024x2048 .f32) (a3 a4 : FVec Ideal S8192x1024 .f32) (t : Fin cfg0.N) :
    FVec Ideal S1x1024 .f32 := fun i =>
  ∑ x : Fin 512, dh a2 a3 a4 (row t x) (i 1) * (a0 (ix2 (row t x) (i 1)) * rs (fun j : Fin 1024 => a0 (ix2 (row t x) j)))

theorem pay1 (v33 : Vec Ideal S1x1024 .f32) (t : Fin cfg0.N) (a : Fin 1) (k : Fin 1024) :
    k0_pay1 (k0_pay6 (iblk m c 0 t)) (k0_pay8 (iblk m c 4 t) (iblk m c 5 t) (iblk m c 2 t)) (k0_pay10 v33) (ix2 a k) = v33 (ix2 a k)
      + T8 (m ((c : Thread nD τ).loc main_arg0)) (m ((c : Thread nD τ).loc main_arg2)) (m ((c : Thread nD τ).loc main_arg3))
          (m ((c : Thread nD τ).loc main_arg4)) t (ix2 a k) := by
  pointwise [k0_pay1, k0_pay10]
  simp only [pay6, pay8, blk0]
  rfl

theorem final8 : (dats m 0 c).arrAt 8 cfg0.N
    = G8 (m ((c : Thread nD τ).loc main_arg0)) (m ((c : Thread nD τ).loc main_arg2)) (m ((c : Thread nD τ).loc main_arg3))
      (m ((c : Thread nD τ).loc main_arg4)) := by
  refine (dats m 0 c).arrAt_eq_of_after_last 8 t0_15 (by decide +kernel) _ fun j => ?_
  blk_simp
  rw [after0_8]
  refine (Pipeline.eq_sum_fin_of_reset_step_apply_last (fun n h => (outsAt0 m c n h).2.2) 16 (fun _ => 0)
    (T8 (m ((c : Thread nD τ).loc main_arg0)) (m ((c : Thread nD τ).loc main_arg2)) (m ((c : Thread nD τ).loc main_arg3))
      (m ((c : Thread nD τ).loc main_arg4)))
    (fun t h j => ?_) (fun t h j => ?_) (le_of_eq N_0) t0_15 rfl j).trans ?_
  · beta_reduce
    rw [outsAt0_A m c t h]
    frame_out
    idx_vars j
    rw [pay1]
    pointwise [k0_pay4]
  · beta_reduce
    rw [outsAt0_B m c t h]
    frame_out
    idx_vars j
    rw [pay1]
  · idx_vars j
    simp only [zero_add, T8, G8]
    exact Fin.sum_mul_add_congr fun s k hl => rfl

theorem dh_split (a2 : FVec Ideal S1024x2048 .f32) (a3 a4 : FVec Ideal S8192x1024 .f32) (i : Fin 8192) (k : Fin 1024) :
    dh a2 a3 a4 i k = ∑ x : Fin 1024, a3 (ix2 i x) * a2 (ix2 k ⟨x.val, by omega⟩)
      + ∑ x : Fin 1024, a4 (ix2 i x) * a2 (ix2 k ⟨1024 + x.val, by omega⟩) := by
  refine (Fin.sum_univ_add (a := 1024) (b := 1024) (fun n : Fin 2048 => dp a3 a4 i n * a2 (ix2 k n))).trans ?_
  congr 1

/-- The input's gradient in the reference's spelling. -/
def H6 (a0 : FVec Ideal S8192x1024 .f32) (a1 : FVec Ideal S1024 .f32) (a2 : FVec Ideal S1024x2048 .f32)
    (a3 a4 a5 : FVec Ideal S8192x1024 .f32) : FVec Ideal S8192x1024 .f32 := fun i =>
  rmsR (fun j : Fin 1024 => a0 (ix2 (i 0) j)) (fun j : Fin 1024 => dh a2 a3 a4 (i 0) j * a1 (ix1 j)) (a5 i) (i 1)

theorem G6_eq_H6 (a0 : FVec Ideal S8192x1024 .f32) (a1 : FVec Ideal S1024 .f32) (a2 : FVec Ideal S1024x2048 .f32)
    (a3 a4 a5 : FVec Ideal S8192x1024 .f32) (h1 : ∀ i, Re (a1 i)) (h2 : ∀ i, Re (a2 i))
    (h3 : ∀ i, Re (a3 i)) (h4 : ∀ i, Re (a4 i)) : G6 a0 a1 a2 a3 a4 a5 = H6 a0 a1 a2 a3 a4 a5 := by
  have hd : ∀ i k, Re (dh a2 a3 a4 i k) := fun i k => Re.sum fun n => Re.mul (by unfold dp; split; exacts [h3 _, h4 _]) (h2 _)
  funext i
  exact rms_grad_of_re _ _ (fun j => (hd _ _).mul (h1 _)) _ _

/-- The reference's run: its results are the three formulas, its arguments end unchanged. -/
theorem refRun (m : (ℓ : Loc Cert.InSsmRefIdeal.nD Cert.InSsmRefIdeal.τ Cert.InSsmRefIdeal.sig) → Buf (Elt Ideal) ℓ)
    (ρ : Dev Cert.InSsmRefIdeal.nD → PrngReg) :
    θ_run (Cert.InSsmRefIdeal.defs (F := Ideal)) (onTc (τ := Cert.InSsmRefIdeal.τ) (Cert.InSsmRefIdeal.main (F := Ideal))) ⟨m, fun _ => 0, ρ⟩
      fun r => ∀ c : Dev Cert.InSsmRefIdeal.nD,
        r.2.mem ((c.tc : Thread _ _).loc Cert.InSsmRefIdeal.main_v43) = H6 (m ((c.tc : Thread _ _).loc Cert.InSsmRefIdeal.main_arg0)) (m ((c.tc : Thread _ _).loc Cert.InSsmRefIdeal.main_arg1)) (m ((c.tc : Thread _ _).loc Cert.InSsmRefIdeal.main_arg2)) (m ((c.tc : Thread _ _).loc Cert.InSsmRefIdeal.main_arg3)) (m ((c.tc : Thread _ _).loc Cert.InSsmRefIdeal.main_arg4)) (m ((c.tc : Thread _ _).loc Cert.InSsmRefIdeal.main_arg5))
        ∧ r.2.mem ((c.tc : Thread _ _).loc Cert.InSsmRefIdeal.main_v21) = G7 (m ((c.tc : Thread _ _).loc Cert.InSsmRefIdeal.main_arg0)) (m ((c.tc : Thread _ _).loc Cert.InSsmRefIdeal.main_arg1)) (m ((c.tc : Thread _ _).loc Cert.InSsmRefIdeal.main_arg3)) (m ((c.tc : Thread _ _).loc Cert.InSsmRefIdeal.main_arg4))
        ∧ r.2.mem ((c.tc : Thread _ _).loc Cert.InSsmRefIdeal.main_v44) = G8 (m ((c.tc : Thread _ _).loc Cert.InSsmRefIdeal.main_arg0)) (m ((c.tc : Thread _ _).loc Cert.InSsmRefIdeal.main_arg2)) (m ((c.tc : Thread _ _).loc Cert.InSsmRefIdeal.main_arg3)) (m ((c.tc : Thread _ _).loc Cert.InSsmRefIdeal.main_arg4))
        ∧ r.2.mem ((c.tc : Thread _ _).loc Cert.InSsmRefIdeal.main_arg0) = m ((c.tc : Thread _ _).loc Cert.InSsmRefIdeal.main_arg0)
        ∧ r.2.mem ((c.tc : Thread _ _).loc Cert.InSsmRefIdeal.main_arg1) = m ((c.tc : Thread _ _).loc Cert.InSsmRefIdeal.main_arg1)
        ∧ r.2.mem ((c.tc : Thread _ _).loc Cert.InSsmRefIdeal.main_arg2) = m ((c.tc : Thread _ _).loc Cert.InSsmRefIdeal.main_arg2)
        ∧ r.2.mem ((c.tc : Thread _ _).loc Cert.InSsmRefIdeal.main_arg3) = m ((c.tc : Thread _ _).loc Cert.InSsmRefIdeal.main_arg3)
        ∧ r.2.mem ((c.tc : Thread _ _).loc Cert.InSsmRefIdeal.main_arg4) = m ((c.tc : Thread _ _).loc Cert.InSsmRefIdeal.main_arg4)
        ∧ r.2.mem ((c.tc : Thread _ _).loc Cert.InSsmRefIdeal.main_arg5) = m ((c.tc : Thread _ _).loc Cert.InSsmRefIdeal.main_arg5) := by
  refine (θ_run _ _ _).mono (fun r h c => ?_) (Cert.InSsmRefIdeal.Value.run m ρ)
  obtain ⟨h4, h5, h6, ha⟩ := h c
  refine ⟨h4.trans ?_, h5.trans ?_, h6.trans ?_, ha⟩
  · funext i; idx_vars i
    pointwise [Cert.InSsmRefIdeal.Value.res_main_v43, H6, rmsR, rs]
    simp only [dh_split, Finset.univ_unique, Finset.sum_singleton]
  · funext i; idx_vars i
    pointwise [G7, rs]
    exact Finset.sum_congr rfl fun _ _ => mul_comm _ _
  · funext i; idx_vars i
    pointwise [G8, rs]
    simp only [dh_split, Finset.univ_unique, Finset.sum_singleton]
    exact Finset.sum_congr rfl fun _ _ => mul_comm _ _

end Cert.K.InSsm

end
-- ==== Proof.K.InSsmClaims.lean ====
/- The claims about the recurrent layer's input projection's gradient, assembled. -/
module

public import proofs.«01_k».proof.Proof.K.InSsm
public import proofs.«01_k».proof.Defs
public import proofs.«01_k».proof.Proof.Gen.InSsm.Frame
public import proofs.«01_k».proof.Proof.Gen.InSsmIdeal.Frame
public import proofs.«01_k».proof.Proof.Gen.Pre_finite_inproj_ssm
public import Idealize.ShloMosaic.Adequacy
public import Idealize.ShloMosaic.Init

@[expose] public section

noncomputable section

namespace Cert.K.InSsm

open Idealize.ShloMosaic Idealize.ShloMosaic.TcCoe Idealize.SL.Sem

theorem frameRef : Cert.quiescent_InSsmRefIdeal := fun m ρ _ =>
  (θ_run _ _ _).mono (fun r h => ⟨fun c => (h c).2.2.2, sem_eq_zero_of_no_sems (by decide) r.2⟩)
    (Cert.InSsmRefIdeal.Value.run m ρ)

/-- What the precondition says of the arguments. -/
theorem real_args {m : (ℓ : Loc Cert.InSsmIdeal.nD Cert.InSsmIdeal.τ Cert.InSsmIdeal.sig) → Buf (Elt Ideal) ℓ}
    (h : Cert.Pre_InSsmIdeal_finite_inproj_ssm m) (c : Dev Cert.InSsmIdeal.nD) :
    (∀ i, Re (m ((c.tc : Thread _ _).loc Cert.InSsmIdeal.main_arg1) i))
    ∧ (∀ i, Re (m ((c.tc : Thread _ _).loc Cert.InSsmIdeal.main_arg2) i))
    ∧ (∀ i, Re (m ((c.tc : Thread _ _).loc Cert.InSsmIdeal.main_arg3) i))
    ∧ (∀ i, Re (m ((c.tc : Thread _ _).loc Cert.InSsmIdeal.main_arg4) i)) :=
  ⟨fun i => real_of_cmp (congrFun (h c).1 i) ofBits_inf,
    fun i => real_of_cmp (congrFun (h c).2.1 i) ofBits_inf,
    fun i => real_of_cmp (congrFun (h c).2.2.1 i) ofBits_inf,
    fun i => real_of_cmp (congrFun (h c).2.2.2 i) ofBits_inf⟩

theorem alg : Cert.algebraic_InSsmIdeal_InSsmRefIdeal_pre_finite_inproj_ssm := by
  intro m ρ m' ρ' hpre hag
  refine ⟨fun c => (Cert.InSsmIdeal.Gen.dats m 0 c).arrAt 6 _,
    fun c => (Cert.InSsmIdeal.Gen.dats m 0 c).arrAt 7 _,
    fun c => (Cert.InSsmIdeal.Gen.dats m 0 c).arrAt 8 _,
    Cert.InSsmIdeal.Value.run_blocks m ρ, ?_⟩
  refine (θ_run _ _ _).mono (fun _ h c => ?_) (refRun m' ρ')
  obtain ⟨h6, h7, h8, ha⟩ := h c
  obtain ⟨r1, r2, r3, r4⟩ := real_args hpre c
  obtain ⟨e0, e1, e2, e3, e4, e5⟩ := hag c
  refine ⟨h6.trans ?_, h7.trans ?_, h8.trans ?_, ha⟩
  · rw [e0, e1, e2, e3, e4, e5]; exact (G6_eq_H6 _ _ _ _ _ _ r1 r2 r3 r4).symm.trans (final6 m c).symm
  · rw [e0, e1, e3, e4]; exact (final7 m c).symm
  · rw [e0, e2, e3, e4]; exact (final8 m c).symm

end Cert.K.InSsm

end
-- ==== Proof.K.InAttn.lean ====
/- The values of the input projection's gradient of the attention layer. -/
module

public import proofs.«01_k».proof.Proof.K.Real
public import proofs.«01_k».proof.Proof.Gen.InAttnIdeal.Value
public import proofs.«01_k».proof.Proof.Gen.InAttnRefIdeal.Run
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.InAttn

open Idealize.ShloMosaic Idealize.ShloMosaic.TcCoe Idealize.SL.Sem Cert.InAttnIdeal Cert.InAttnIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] ∧ win0_10.index t = ![0, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 1) (k : Fin 1024) :
    iblk m c 1 t (ix2 a k) = m ((c : Thread nD τ).loc main_arg1) (ix1 k) := by
  blk_ext! [iblk, V, idx t, row]

theorem blk2 (t : Fin cfg0.N) (a : Fin 1024) (k : Fin 2304) :
    iblk m c 2 t (ix2 a k) = m ((c : Thread nD τ).loc main_arg2) (ix2 a k) := by
  blk_ext [iblk, V, idx t, row]

theorem blk3 (t : Fin cfg0.N) (a : Fin 512) (k : Fin 1024) :
    iblk m c 3 t (ix2 a k) = m ((c : Thread nD τ).loc main_arg7) (ix2 (row t a) k) := by
  blk_ext [iblk, V, idx t, row]

theorem blk4 (t : Fin cfg0.N) (a : Fin 512) (k : Fin 1024) :
    iblk m c 4 t (ix2 a k) = m ((c : Thread nD τ).loc main_arg3) (ix2 (row t a) k) := by
  blk_ext [iblk, V, idx t, row]

theorem blk5 (t : Fin cfg0.N) (a : Fin 512) (k : Fin 128) :
    iblk m c 5 t (ix2 a k) = m ((c : Thread nD τ).loc main_arg4) (ix2 (row t a) k) := by
  blk_ext [iblk, V, idx t, row]

theorem blk6 (t : Fin cfg0.N) (a : Fin 512) (k : Fin 128) :
    iblk m c 6 t (ix2 a k) = m ((c : Thread nD τ).loc main_arg5) (ix2 (row t a) k) := by
  blk_ext [iblk, V, idx t, row]

theorem blk7 (t : Fin cfg0.N) (a : Fin 512) (k : Fin 1024) :
    iblk m c 7 t (ix2 a k) = m ((c : Thread nD τ).loc main_arg6) (ix2 (row t a) k) := by
  blk_ext [iblk, V, idx t, row]

theorem emb8 (t : Fin cfg0.N) (a : Fin 512) (k : Fin 1024) :
    ((View.whole main_v6_0).slice (win0_8.rect t)).emb (ix2 a k) = ix2 (row t a) k := by
  blk_ext [idx t, row]

/-- The joined cotangent of the projection. -/
def dp (a3 : FVec Ideal S8192x1024 .f32) (a4 a5 : FVec Ideal S8192x128 .f32) (a6 : FVec Ideal S8192x1024 .f32)
    (i : Fin 8192) (n : Fin 2304) : EReal :=
  if h : n.val < 1024 then a3 (ix2 i ⟨n.val, h⟩)
  else if h' : n.val - 1024 < 128 then a4 (ix2 i ⟨n.val - 1024, h'⟩)
  else if h'' : n.val - 1024 - 128 < 128 then a5 (ix2 i ⟨n.val - 1024 - 128, h''⟩)
  else a6 (ix2 i ⟨n.val - 1024 - 128 - 128, by omega⟩)

/-- The cotangent of the normalised and scaled input. -/
def dh (a2 : FVec Ideal S1024x2304 .f32) (a3 : FVec Ideal S8192x1024 .f32) (a4 a5 : FVec Ideal S8192x128 .f32) (a6 : FVec Ideal S8192x1024 .f32) (i : Fin 8192) (k : Fin 1024) : EReal :=
  ∑ n : Fin 2304, dp a3 a4 a5 a6 i n * a2 (ix2 k n)

/-- The input's gradient. -/
def G6 (a0 : FVec Ideal S8192x1024 .f32) (a1 : FVec Ideal S1024 .f32) (a2 : FVec Ideal S1024x2304 .f32)
    (a3 : FVec Ideal S8192x1024 .f32) (a4 a5 : FVec Ideal S8192x128 .f32) (a6 a7 : FVec Ideal S8192x1024 .f32) : FVec Ideal S8192x1024 .f32 := fun i =>
  rmsK (fun j : Fin 1024 => a0 (ix2 (i 0) j)) (fun j : Fin 1024 => dh a2 a3 a4 a5 a6 (i 0) j * a1 (ix1 j)) (i 1) + a7 i

/-- The weight's gradient. -/
def G7 (a0 : FVec Ideal S8192x1024 .f32) (a1 : FVec Ideal S1024 .f32) (a3 : FVec Ideal S8192x1024 .f32) (a4 a5 : FVec Ideal S8192x128 .f32) (a6 : FVec Ideal S8192x1024 .f32) :
    FVec Ideal S1024x2304 .f32 := fun i =>
  ∑ l : Fin 8192, a0 (ix2 l (i 0)) * rs (fun j : Fin 1024 => a0 (ix2 l j)) * a1 (ix1 (i 0)) * dp a3 a4 a5 a6 l (i 1)

/-- The scale's gradient. -/
def G8 (a0 : FVec Ideal S8192x1024 .f32) (a2 : FVec Ideal S1024x2304 .f32) (a3 : FVec Ideal S8192x1024 .f32) (a4 a5 : FVec Ideal S8192x128 .f32) (a6 : FVec Ideal S8192x1024 .f32) :
    FVec Ideal S1x1024 .f32 := fun i =>
  ∑ l : Fin 8192, dh a2 a3 a4 a5 a6 l (i 1) * (a0 (ix2 l (i 1)) * rs (fun j : Fin 1024 => a0 (ix2 l j)))

theorem pay5 (v3 : Vec Ideal S512x1024 .f32) (a : Fin 512) (k : Fin 1) :
    k0_pay5 v3 (ix2 a k) = rs (fun j : Fin 1024 => v3 (ix2 a j)) := by
  pointwise [k0_pay5, rs]

theorem pay6 (v3 : Vec Ideal S512x1024 .f32) (a : Fin 512) (k : Fin 1024) :
    k0_pay6 v3 (ix2 a k) = v3 (ix2 a k) * rs (fun j : Fin 1024 => v3 (ix2 a j)) := by
  pointwise [k0_pay6]
  rw [pay5]

theorem pay7 (t : Fin cfg0.N) (a : Fin 512) (k : Fin 2304) :
    k0_pay7 (iblk m c 4 t) (iblk m c 5 t) (iblk m c 6 t) (iblk m c 7 t) (ix2 a k)
      = dp (m ((c : Thread nD τ).loc main_arg3)) (m ((c : Thread nD τ).loc main_arg4)) (m ((c : Thread nD τ).loc main_arg5)) (m ((c : Thread nD τ).loc main_arg6)) (row t a) k := by
  pointwise [k0_pay7, dp]
  simp only [blk4, blk5, blk6, blk7]

theorem pay8 (t : Fin cfg0.N) (a : Fin 512) (k : Fin 1024) :
    k0_pay8 (iblk m c 4 t) (iblk m c 5 t) (iblk m c 6 t) (iblk m c 7 t) (iblk m c 2 t) (ix2 a k)
      = dh (m ((c : Thread nD τ).loc main_arg2)) (m ((c : Thread nD τ).loc main_arg3)) (m ((c : Thread nD τ).loc main_arg4)) (m ((c : Thread nD τ).loc main_arg5)) (m ((c : Thread nD τ).loc main_arg6)) (row t a) k := by
  pointwise [k0_pay8, dh]
  simp only [pay7, blk2]

theorem pay2 (v11 : Vec Ideal S512x1 .f32) (v13 v25 : Vec Ideal S512x1024 .f32) (v39 : Vec Ideal S1x1024 .f32)
    (v53 : Vec Ideal S512x1024 .f32) (a : Fin 512) (k : Fin 1024) :
    k0_pay2 v11 v13 v25 v39 v53 (ix2 a k) = v11 (ix2 a 0) * (v25 (ix2 a k) * v39 (ix2 0 k) - v13 (ix2 a k) *
      Ideal.div (∑ x : Fin 1024, v25 (ix2 a x) * v39 (ix2 0 x) * v13 (ix2 a x)) (Ideal.ofBits FTy.f32 1149239296#32)) + v53 (ix2 a k) := by
  pointwise [k0_pay2]

theorem final8 : (dats m 0 c).arrAt 8 cfg0.N
    = G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  by_cases h : t.val % 16 = 0
  · rw [outsAt0_A m c t h]
    frame_out
    idx_vars y
    rw [pay2, emb8]
    simp only [pay5, pay6, pay8, blk0, blk1, blk3]
    rfl
  · rw [outsAt0_B m c t h]
    frame_out
    idx_vars y
    rw [pay2, emb8]
    simp only [pay5, pay6, pay8, blk0, blk1, blk3]
    rfl

/-- One block's part of the weight's gradient. -/
def T7 (a0 : FVec Ideal S8192x1024 .f32) (a1 : FVec Ideal S1024 .f32) (a3 : FVec Ideal S8192x1024 .f32) (a4 a5 : FVec Ideal S8192x128 .f32) (a6 : FVec Ideal S8192x1024 .f32) (t : Fin cfg0.N) :
    FVec Ideal S1024x2304 .f32 := fun i =>
  ∑ x : Fin 512, a0 (ix2 (row t x) (i 0)) * rs (fun j : Fin 1024 => a0 (ix2 (row t x) j)) * a1 (ix1 (i 0)) * dp a3 a4 a5 a6 (row t x) (i 1)

theorem pay9 (v26 : Vec Ideal S1024x2304 .f32) (t : Fin cfg0.N) (a : Fin 1024) (k : Fin 2304) :
    k0_pay9 (iblk m c 0 t) (iblk m c 1 t) (iblk m c 4 t) (iblk m c 5 t) (iblk m c 6 t) (iblk m c 7 t) v26 (ix2 a k) = v26 (ix2 a k)
      + T7 (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) t (ix2 a k) := by
  pointwise [k0_pay9]
  simp only [pay6, pay7, blk0, blk1]
  rfl

theorem final9 : (dats m 0 c).arrAt 9 cfg0.N
    = G7 (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)) := by
  refine (dats m 0 c).arrAt_eq_of_after_last 9 t0_15 (by decide +kernel) _ fun j => ?_
  blk_simp
  rw [after0_9]
  refine (Pipeline.eq_sum_fin_of_reset_step_apply_last (fun n h => (outsAt0 m c n h).2.1) 16 (fun _ => 0)
    (T7 (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6)))
    (fun t h j => ?_) (fun t h j => ?_) (le_of_eq N_0) t0_15 rfl j).trans ?_
  · beta_reduce
    rw [outsAt0_A m c t h]
    frame_out
    idx_vars j
    rw [pay9]
    pointwise [k0_pay3]
  · beta_reduce
    rw [outsAt0_B m c t h]
    frame_out
    idx_vars j
    rw [pay9]
  · idx_vars j
    simp only [zero_add, T7, G7]
    exact Fin.sum_mul_add_congr fun s k hl => rfl

/-- One block's part of the scale's gradient. -/
def T8 (a0 : FVec Ideal S8192x1024 .f32) (a2 : FVec Ideal S1024x2304 .f32) (a3 : FVec Ideal S8192x1024 .f32) (a4 a5 : FVec Ideal S8192x128 .f32) (a6 : FVec Ideal S8192x1024 .f32) (t : Fin cfg0.N) :
    FVec Ideal S1x1024 .f32 := fun i =>
  ∑ x : Fin 512, dh a2 a3 a4 a5 a6 (row t x) (i 1) * (a0 (ix2 (row t x) (i 1)) * rs (fun j : Fin 1024 => a0 (ix2 (row t x) j)))

theorem pay1 (v33 : Vec Ideal S1x1024 .f32) (t : Fin cfg0.N) (a : Fin 1) (k : Fin 1024) :
    k0_pay1 (k0_pay6 (iblk m c 0 t)) (k0_pay8 (iblk m c 4 t) (iblk m c 5 t) (iblk m c 6 t) (iblk m c 7 t) (iblk m c 2 t)) v33 (ix2 a k) = v33 (ix2 a k)
      + T8 (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) t (ix2 a k) := by
  pointwise [k0_pay1]
  simp only [pay6, pay8, blk0]
  rfl

theorem final10 : (dats m 0 c).arrAt 10 cfg0.N
    = G8 (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_after_last 10 t0_15 (by decide +kernel) _ fun j => ?_
  blk_simp
  rw [after0_10]
  refine (Pipeline.eq_sum_fin_of_reset_step_apply_last (fun n h => (outsAt0 m c n h).2.2) 16 (fun _ => 0)
    (T8 (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)))
    (fun t h j => ?_) (fun t h j => ?_) (le_of_eq N_0) t0_15 rfl j).trans ?_
  · beta_reduce
    rw [outsAt0_A m c t h]
    frame_out
    idx_vars j
    rw [pay1]
    pointwise [k0_pay4]
  · beta_reduce
    rw [outsAt0_B m c t h]
    frame_out
    idx_vars j
    rw [pay1]
  · idx_vars j
    simp only [zero_add, T8, G8]
    exact Fin.sum_mul_add_congr fun s k hl => rfl

/-- The input's gradient in the reference's spelling. -/
def H6 (a0 : FVec Ideal S8192x1024 .f32) (a1 : FVec Ideal S1024 .f32) (a2 : FVec Ideal S1024x2304 .f32)
    (a3 : FVec Ideal S8192x1024 .f32) (a4 a5 : FVec Ideal S8192x128 .f32) (a6 a7 : FVec Ideal S8192x1024 .f32) : FVec Ideal S8192x1024 .f32 := fun i =>
  rmsR (fun j : Fin 1024 => a0 (ix2 (i 0) j)) (fun j : Fin 1024 => dh a2 a3 a4 a5 a6 (i 0) j * a1 (ix1 j)) (a7 i) (i 1)

theorem G6_eq_H6 (a0 : FVec Ideal S8192x1024 .f32) (a1 : FVec Ideal S1024 .f32) (a2 : FVec Ideal S1024x2304 .f32)
    (a3 : FVec Ideal S8192x1024 .f32) (a4 a5 : FVec Ideal S8192x128 .f32) (a6 a7 : FVec Ideal S8192x1024 .f32) (h1 : ∀ i, Re (a1 i)) (h2 : ∀ i, Re (a2 i))
    (h3 : ∀ i, Re (a3 i)) (h4 : ∀ i, Re (a4 i)) (h5 : ∀ i, Re (a5 i)) (h6 : ∀ i, Re (a6 i)) : G6 a0 a1 a2 a3 a4 a5 a6 a7 = H6 a0 a1 a2 a3 a4 a5 a6 a7 := by
  have hd : ∀ i k, Re (dh a2 a3 a4 a5 a6 i k) := fun i k => Re.sum fun n => Re.mul (by unfold dp; split_ifs; exacts [h3 _, h4 _, h5 _, h6 _]) (h2 _)
  funext i
  exact rms_grad_of_re _ _ (fun j => (hd _ _).mul (h1 _)) _ _

/-- The reference's run: its results are the three formulas, its arguments end unchanged. -/
theorem refRun (m : (ℓ : Loc Cert.InAttnRefIdeal.nD Cert.InAttnRefIdeal.τ Cert.InAttnRefIdeal.sig) → Buf (Elt Ideal) ℓ)
    (ρ : Dev Cert.InAttnRefIdeal.nD → PrngReg) :
    θ_run (Cert.InAttnRefIdeal.defs (F := Ideal)) (onTc (τ := Cert.InAttnRefIdeal.τ) (Cert.InAttnRefIdeal.main (F := Ideal))) ⟨m, fun _ => 0, ρ⟩
      fun r => ∀ c : Dev Cert.InAttnRefIdeal.nD,
        r.2.mem ((c.tc : Thread _ _).loc Cert.InAttnRefIdeal.main_v45) = H6 (m ((c.tc : Thread _ _).loc Cert.InAttnRefIdeal.main_arg0)) (m ((c.tc : Thread _ _).loc Cert.InAttnRefIdeal.main_arg1)) (m ((c.tc : Thread _ _).loc Cert.InAttnRefIdeal.main_arg2)) (m ((c.tc : Thread _ _).loc Cert.InAttnRefIdeal.main_arg3)) (m ((c.tc : Thread _ _).loc Cert.InAttnRefIdeal.main_arg4)) (m ((c.tc : Thread _ _).loc Cert.InAttnRefIdeal.main_arg5)) (m ((c.tc : Thread _ _).loc Cert.InAttnRefIdeal.main_arg6)) (m ((c.tc : Thread _ _).loc Cert.InAttnRefIdeal.main_arg7))
        ∧ r.2.mem ((c.tc : Thread _ _).loc Cert.InAttnRefIdeal.main_v23) = G7 (m ((c.tc : Thread _ _).loc Cert.InAttnRefIdeal.main_arg0)) (m ((c.tc : Thread _ _).loc Cert.InAttnRefIdeal.main_arg1)) (m ((c.tc : Thread _ _).loc Cert.InAttnRefIdeal.main_arg3)) (m ((c.tc : Thread _ _).loc Cert.InAttnRefIdeal.main_arg4)) (m ((c.tc : Thread _ _).loc Cert.InAttnRefIdeal.main_arg5)) (m ((c.tc : Thread _ _).loc Cert.InAttnRefIdeal.main_arg6))
        ∧ r.2.mem ((c.tc : Thread _ _).loc Cert.InAttnRefIdeal.main_v46) = G8 (m ((c.tc : Thread _ _).loc Cert.InAttnRefIdeal.main_arg0)) (m ((c.tc : Thread _ _).loc Cert.InAttnRefIdeal.main_arg2)) (m ((c.tc : Thread _ _).loc Cert.InAttnRefIdeal.main_arg3)) (m ((c.tc : Thread _ _).loc Cert.InAttnRefIdeal.main_arg4)) (m ((c.tc : Thread _ _).loc Cert.InAttnRefIdeal.main_arg5)) (m ((c.tc : Thread _ _).loc Cert.InAttnRefIdeal.main_arg6))
        ∧ r.2.mem ((c.tc : Thread _ _).loc Cert.InAttnRefIdeal.main_arg0) = m ((c.tc : Thread _ _).loc Cert.InAttnRefIdeal.main_arg0)
        ∧ r.2.mem ((c.tc : Thread _ _).loc Cert.InAttnRefIdeal.main_arg1) = m ((c.tc : Thread _ _).loc Cert.InAttnRefIdeal.main_arg1)
        ∧ r.2.mem ((c.tc : Thread _ _).loc Cert.InAttnRefIdeal.main_arg2) = m ((c.tc : Thread _ _).loc Cert.InAttnRefIdeal.main_arg2)
        ∧ r.2.mem ((c.tc : Thread _ _).loc Cert.InAttnRefIdeal.main_arg3) = m ((c.tc : Thread _ _).loc Cert.InAttnRefIdeal.main_arg3)
        ∧ r.2.mem ((c.tc : Thread _ _).loc Cert.InAttnRefIdeal.main_arg4) = m ((c.tc : Thread _ _).loc Cert.InAttnRefIdeal.main_arg4)
        ∧ r.2.mem ((c.tc : Thread _ _).loc Cert.InAttnRefIdeal.main_arg5) = m ((c.tc : Thread _ _).loc Cert.InAttnRefIdeal.main_arg5)
        ∧ r.2.mem ((c.tc : Thread _ _).loc Cert.InAttnRefIdeal.main_arg6) = m ((c.tc : Thread _ _).loc Cert.InAttnRefIdeal.main_arg6)
        ∧ r.2.mem ((c.tc : Thread _ _).loc Cert.InAttnRefIdeal.main_arg7) = m ((c.tc : Thread _ _).loc Cert.InAttnRefIdeal.main_arg7) := by
  refine (θ_run _ _ _).mono (fun r h c => ?_) (Cert.InAttnRefIdeal.Value.run m ρ)
  obtain ⟨h4, h5, h6, ha⟩ := h c
  refine ⟨h4.trans ?_, h5.trans ?_, h6.trans ?_, ha⟩
  · funext i; idx_vars i
    pointwise [Cert.InAttnRefIdeal.Value.res_main_v45, H6, rmsR, rs]
    simp only [dh, dp, Finset.univ_unique, Finset.sum_singleton]
  · funext i; idx_vars i
    pointwise [G7, rs]
    exact Finset.sum_congr rfl fun _ _ => mul_comm _ _
  · funext i; idx_vars i
    pointwise [G8, rs]
    simp only [dh, dp, Finset.univ_unique, Finset.sum_singleton]
    exact Finset.sum_congr rfl fun _ _ => mul_comm _ _

end Cert.K.InAttn

end
-- ==== Proof.K.InAttnClaims.lean ====
/- The claims about the attention layer's input projection's gradient, assembled. -/
module

public import proofs.«01_k».proof.Proof.K.InAttn
public import proofs.«01_k».proof.Defs
public import proofs.«01_k».proof.Proof.Gen.InAttn.Frame
public import proofs.«01_k».proof.Proof.Gen.InAttnIdeal.Frame
public import proofs.«01_k».proof.Proof.Gen.Pre_finite_inproj_attn
public import Idealize.ShloMosaic.Adequacy
public import Idealize.ShloMosaic.Init

@[expose] public section

noncomputable section

namespace Cert.K.InAttn

open Idealize.ShloMosaic Idealize.ShloMosaic.TcCoe Idealize.SL.Sem

theorem frameRef : Cert.quiescent_InAttnRefIdeal := fun m ρ _ =>
  (θ_run _ _ _).mono (fun r h => ⟨fun c => (h c).2.2.2, sem_eq_zero_of_no_sems (by decide) r.2⟩)
    (Cert.InAttnRefIdeal.Value.run m ρ)

/-- What the precondition says of the arguments. -/
theorem real_args {m : (ℓ : Loc Cert.InAttnIdeal.nD Cert.InAttnIdeal.τ Cert.InAttnIdeal.sig) → Buf (Elt Ideal) ℓ}
    (h : Cert.Pre_InAttnIdeal_finite_inproj_attn m) (c : Dev Cert.InAttnIdeal.nD) :
    (∀ i, Re (m ((c.tc : Thread _ _).loc Cert.InAttnIdeal.main_arg1) i))
    ∧ (∀ i, Re (m ((c.tc : Thread _ _).loc Cert.InAttnIdeal.main_arg2) i))
    ∧ (∀ i, Re (m ((c.tc : Thread _ _).loc Cert.InAttnIdeal.main_arg3) i))
    ∧ (∀ i, Re (m ((c.tc : Thread _ _).loc Cert.InAttnIdeal.main_arg4) i))
    ∧ (∀ i, Re (m ((c.tc : Thread _ _).loc Cert.InAttnIdeal.main_arg5) i))
    ∧ (∀ i, Re (m ((c.tc : Thread _ _).loc Cert.InAttnIdeal.main_arg6) i)) :=
  ⟨fun i => real_of_cmp (congrFun (h c).1 i) ofBits_inf,
    fun i => real_of_cmp (congrFun (h c).2.1 i) ofBits_inf,
    fun i => real_of_cmp (congrFun (h c).2.2.1 i) ofBits_inf,
    fun i => real_of_cmp (congrFun (h c).2.2.2.1 i) ofBits_inf,
    fun i => real_of_cmp (congrFun (h c).2.2.2.2.1 i) ofBits_inf,
    fun i => real_of_cmp (congrFun (h c).2.2.2.2.2 i) ofBits_inf⟩

theorem alg : Cert.algebraic_InAttnIdeal_InAttnRefIdeal_pre_finite_inproj_attn := by
  intro m ρ m' ρ' hpre hag
  refine ⟨fun c => (Cert.InAttnIdeal.Gen.dats m 0 c).arrAt 8 _,
    fun c => (Cert.InAttnIdeal.Gen.dats m 0 c).arrAt 9 _,
    fun c => (Cert.InAttnIdeal.Gen.dats m 0 c).arrAt 10 _,
    Cert.InAttnIdeal.Value.run_blocks m ρ, ?_⟩
  refine (θ_run _ _ _).mono (fun _ h c => ?_) (refRun m' ρ')
  obtain ⟨h8, h9, h10, ha⟩ := h c
  obtain ⟨r1, r2, r3, r4, r5, r6⟩ := real_args hpre c
  obtain ⟨e0, e1, e2, e3, e4, e5, e6, e7⟩ := hag c
  refine ⟨h8.trans ?_, h9.trans ?_, h10.trans ?_, ha⟩
  · rw [e0, e1, e2, e3, e4, e5, e6, e7]; exact (G6_eq_H6 _ _ _ _ _ _ _ _ r1 r2 r3 r4 r5 r6).symm.trans (final8 m c).symm
  · rw [e0, e1, e3, e4, e5, e6]; exact (final9 m c).symm
  · rw [e0, e2, e3, e4, e5, e6]; exact (final10 m c).symm

end Cert.K.InAttn

end
-- ==== Proof.K.S5b.lean ====
/- The recurrence's block gradient: its outputs and its reference as formulas of the arguments. -/
module

public import proofs.«01_k».proof.Proof.K.Real
public import proofs.«01_k».proof.Proof.Gen.S5bIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.K.S5b

open Idealize.ShloMosaic Idealize.ShloMosaic.TcCoe Idealize.SL.Sem Cert.S5bIdeal Cert.S5bIdeal.Gen

variable (m : (ℓ : Loc nD τ sig) → Buf (Elt Ideal) ℓ) (c : Dev nD)

/-- The block each window reads or writes at a grid point. -/
theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![t.val, 0, 0] ∧ win0_7.index t = ![t.val, 0, 0]
    ∧ win0_8.index t = ![0, t.val] ∧ win0_9.index t = ![0, t.val] ∧ win0_10.index t = ![t.val, 0, 0] ∧ win0_11.index t = ![t.val, 0, 0]
    ∧ win0_12.index t = ![t.val, 0, 0] ∧ win0_13.index t = ![0, t.val] :=
  (by decide +kernel : ∀ t : Fin grid0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![t.val, 0, 0] ∧ win0_7.index t = ![t.val, 0, 0]
    ∧ win0_8.index t = ![0, t.val] ∧ win0_9.index t = ![0, t.val] ∧ win0_10.index t = ![t.val, 0, 0] ∧ win0_11.index t = ![t.val, 0, 0]
    ∧ win0_12.index t = ![t.val, 0, 0] ∧ win0_13.index t = ![0, t.val])

/-- Position `r` of block `b` as a row of the sequence. -/
def brow (b : Fin 512) (r : Fin 16) : Fin 8192 := ⟨b.val * 16 + r.val, by omega⟩

/-- Channel `k` of group `g` among an octet's lanes. -/
def lane (g : Fin 8) (k : Fin 16) : Fin 128 := ⟨g.val * 16 + k.val, by omega⟩

/-- Position `r` of every block, transposed. -/
def yT (r : Fin 16) (v : FVec Ideal S8192x128 .f32) : FVec Ideal S128x512 .f32 := fun i => v (ix2 (brow (i 1) r) (i 0))

/-- Every block's positions and channels of group `g`, as a matrix by blocks. -/
def gm (g : Fin 8) (v : FVec Ideal S8192x128 .f32) : FVec Ideal S256x512 .f32 := fun i =>
  v (ix2 (brow (i 1) ⟨(i 0).val / 16, by have := (i 0).isLt; simp at this; omega⟩) (lane g ⟨(i 0).val % 16, Nat.mod_lt _ (by omega)⟩))

theorem rows_dy (v : FVec Ideal S8192x128 .f32) : k0_pay36 (k0_pay2 v) = yT 0 v
    ∧ k0_pay37 (k0_pay3 v) = yT 1 v
    ∧ k0_pay38 (k0_pay4 v) = yT 2 v
    ∧ k0_pay39 (k0_pay5 v) = yT 3 v
    ∧ k0_pay40 (k0_pay6 v) = yT 4 v
    ∧ k0_pay41 (k0_pay7 v) = yT 5 v
    ∧ k0_pay42 (k0_pay8 v) = yT 6 v
    ∧ k0_pay43 (k0_pay9 v) = yT 7 v
    ∧ k0_pay44 (k0_pay10 v) = yT 8 v
    ∧ k0_pay45 (k0_pay11 v) = yT 9 v
    ∧ k0_pay46 (k0_pay12 v) = yT 10 v
    ∧ k0_pay47 (k0_pay13 v) = yT 11 v
    ∧ k0_pay48 (k0_pay14 v) = yT 12 v
    ∧ k0_pay49 (k0_pay15 v) = yT 13 v
    ∧ k0_pay50 (k0_pay16 v) = yT 14 v
    ∧ k0_pay51 (k0_pay17 v) = yT 15 v := by
  refine ⟨?_, ?_, ?_, ?_, ?_, ?_, ?_, ?_, ?_, ?_, ?_, ?_, ?_, ?_, ?_, ?_⟩ <;>
  · funext i
    idx_vars i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay36, k0_pay37, k0_pay38, k0_pay39, k0_pay40, k0_pay41, k0_pay42, k0_pay43, k0_pay44, k0_pay45, k0_pay46, k0_pay47, k0_pay48, k0_pay49, k0_pay50, k0_pay51, yT, brow]

theorem rows_u (v : FVec Ideal S8192x128 .f32) : k0_pay52 (k0_pay19 v) = yT 0 v
    ∧ k0_pay53 (k0_pay20 v) = yT 1 v
    ∧ k0_pay54 (k0_pay21 v) = yT 2 v
    ∧ k0_pay55 (k0_pay22 v) = yT 3 v
    ∧ k0_pay56 (k0_pay23 v) = yT 4 v
    ∧ k0_pay57 (k0_pay24 v) = yT 5 v
    ∧ k0_pay58 (k0_pay25 v) = yT 6 v
    ∧ k0_pay59 (k0_pay26 v) = yT 7 v
    ∧ k0_pay60 (k0_pay27 v) = yT 8 v
    ∧ k0_pay61 (k0_pay18 v) = yT 9 v
    ∧ k0_pay62 (k0_pay18 v) = yT 10 v
    ∧ k0_pay63 (k0_pay18 v) = yT 11 v
    ∧ k0_pay64 (k0_pay18 v) = yT 12 v
    ∧ k0_pay65 (k0_pay18 v) = yT 13 v
    ∧ k0_pay66 (k0_pay18 v) = yT 14 v
    ∧ k0_pay67 (k0_pay18 v) = yT 15 v := by
  refine ⟨?_, ?_, ?_, ?_, ?_, ?_, ?_, ?_, ?_, ?_, ?_, ?_, ?_, ?_, ?_, ?_⟩ <;>
  · funext i
    idx_vars i
    pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay52, k0_pay53, k0_pay54, k0_pay55, k0_pay56, k0_pay57, k0_pay58, k0_pay59, k0_pay60, k0_pay61, k0_pay62, k0_pay63, k0_pay64, k0_pay65, k0_pay66, k0_pay67, yT, brow]

theorem cat16 (f : Fin 16 → FVec Ideal S16x512 .f32) (h : Shape.Concatenates [S16x512, S16x512, S16x512, S16x512, S16x512, S16x512, S16x512, S16x512, S16x512, S16x512, S16x512, S16x512, S16x512, S16x512, S16x512, S16x512] S256x512 0) (i : S256x512.Idx) :
    concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩, ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩] h i
      = f ⟨(i 0).val / 16, by have := (i 0).isLt; simp at this; omega⟩ (ix2 ⟨(i 0).val % 16, Nat.mod_lt _ (by omega)⟩ (i 1)) :=
  concatenate_ofFn_apply (s₁ := S16x512) (t := S256x512) 0 f h rfl 16 rfl i ⟨(i 0).val / 16, by have := (i 0).isLt; simp at this; omega⟩ rfl
    (ix2 ⟨(i 0).val % 16, Nat.mod_lt _ (by omega)⟩ (i 1)) rfl (fun b hb => by
      fin_cases b
      · exact absurd rfl hb
      · rfl)

theorem cat_rows (o : Nat) (g : Fin 8) (ho : o = g.val * 16) (h : S128x512.Slices ![o, 0] S16x512) (v : FVec Ideal S8192x128 .f32) (hc : Shape.Concatenates [S16x512, S16x512, S16x512, S16x512, S16x512, S16x512, S16x512, S16x512, S16x512, S16x512, S16x512, S16x512, S16x512, S16x512, S16x512, S16x512] S256x512 0) (i : S256x512.Idx) :
    concatenate S256x512 0 [⟨S16x512, extractStridedSlice S16x512 ![o, 0] (yT 0 v) h⟩, ⟨S16x512, extractStridedSlice S16x512 ![o, 0] (yT 1 v) h⟩, ⟨S16x512, extractStridedSlice S16x512 ![o, 0] (yT 2 v) h⟩, ⟨S16x512, extractStridedSlice S16x512 ![o, 0] (yT 3 v) h⟩, ⟨S16x512, extractStridedSlice S16x512 ![o, 0] (yT 4 v) h⟩, ⟨S16x512, extractStridedSlice S16x512 ![o, 0] (yT 5 v) h⟩, ⟨S16x512, extractStridedSlice S16x512 ![o, 0] (yT 6 v) h⟩, ⟨S16x512, extractStridedSlice S16x512 ![o, 0] (yT 7 v) h⟩, ⟨S16x512, extractStridedSlice S16x512 ![o, 0] (yT 8 v) h⟩, ⟨S16x512, extractStridedSlice S16x512 ![o, 0] (yT 9 v) h⟩, ⟨S16x512, extractStridedSlice S16x512 ![o, 0] (yT 10 v) h⟩, ⟨S16x512, extractStridedSlice S16x512 ![o, 0] (yT 11 v) h⟩, ⟨S16x512, extractStridedSlice S16x512 ![o, 0] (yT 12 v) h⟩, ⟨S16x512, extractStridedSlice S16x512 ![o, 0] (yT 13 v) h⟩, ⟨S16x512, extractStridedSlice S16x512 ![o, 0] (yT 14 v) h⟩, ⟨S16x512, extractStridedSlice S16x512 ![o, 0] (yT 15 v) h⟩] hc i = gm g v i := by
  have e := cat16 (fun r => extractStridedSlice S16x512 ![o, 0] (yT r v) h) hc i
  subst ho
  refine e.trans ?_
  idx_vars i
  pointwise [yT, gm, lane]

theorem mats_dy (v : FVec Ideal S8192x128 .f32) : k0_pay72 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 0 v
    ∧ k0_pay86 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 1 v
    ∧ k0_pay100 (k0_pay99 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) = gm 2 v
    ∧ k0_pay112 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 3 v
    ∧ k0_pay126 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 4 v
    ∧ k0_pay140 (k0_pay139 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) = gm 5 v
    ∧ k0_pay152 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 6 v
    ∧ k0_pay166 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 7 v := by
  refine ⟨?_, ?_, ?_, ?_, ?_, ?_, ?_, ?_⟩ <;>
  exact funext fun i => cat_rows _ _ (by rfl) _ _ concatenates_S16x512_S16x512_S16x512_S16x512_S16x512_S16x512_S16x512_S16x512_S16x512_S16x512_S16x512_S16x512_S16x512_S16x512_S16x512_S16x512_S256x512_d0 i

theorem mats_u (v : FVec Ideal S8192x128 .f32) : k0_pay73 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 0 v
    ∧ k0_pay87 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 1 v
    ∧ k0_pay101 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 2 v
    ∧ k0_pay113 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 3 v
    ∧ k0_pay127 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 4 v
    ∧ k0_pay141 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 5 v
    ∧ k0_pay153 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 6 v
    ∧ k0_pay167 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) = gm 7 v := by
  refine ⟨?_, ?_, ?_, ?_, ?_, ?_, ?_, ?_⟩ <;>
  exact funext fun i => cat_rows _ _ (by rfl) _ _ concatenates_S16x512_S16x512_S16x512_S16x512_S16x512_S16x512_S16x512_S16x512_S16x512_S16x512_S16x512_S16x512_S16x512_S16x512_S16x512_S16x512_S256x512_d0 i

/-- The state lanes of group `g` among an octet's lanes. -/
def slane (g : Fin 8) (k : Fin 64) : Fin 512 := ⟨g.val * 64 + k.val, by omega⟩

/-- A group's states at every block: the first part, then the second. -/
def hm (g : Fin 8) (a b : FVec Ideal S512x512 .f32) : FVec Ideal S128x512 .f32 := fun i =>
  if h : (i 0).val < 64 then a (ix2 (i 1) (slane g ⟨(i 0).val, h⟩))
  else b (ix2 (i 1) (slane g ⟨(i 0).val - 64, by have := (i 0).isLt; simp at this; omega⟩))

theorem cat_states (o : Nat) (g : Fin 8) (ho : o = g.val * 64) (hs : S512x512.Slices ![o, 0] S64x512) (ht : S512x512.Transposes [1, 0] S512x512)
    (a b : FVec Ideal S512x512 .f32) (hc : Shape.Concatenates [S64x512, S64x512] S128x512 0) :
    concatenate S128x512 0 [⟨S64x512, extractStridedSlice S64x512 ![o, 0] (transpose S512x512 [1, 0] a ht) hs⟩,
      ⟨S64x512, extractStridedSlice S64x512 ![o, 0] (transpose S512x512 [1, 0] b ht) hs⟩] hc = hm g a b := by
  funext i
  idx_vars i
  subst ho
  unfold hm
  split
  · rename_i h
    refine (concatenate_pair_apply_left (s₁ := S64x512) (s₂ := S64x512) (t := S128x512) 0 _ _ hc (ix2 i0 i1) rfl (ix2 ⟨i0.val, h⟩ i1) (fun b => by fin_cases b <;> rfl)).trans ?_
    pointwise [slane]
  · rename_i h
    have hlt := i0.isLt
    refine (concatenate_pair_apply_right (s₁ := S64x512) (s₂ := S64x512) (t := S128x512) 0 _ _ hc (ix2 i0 i1) rfl rfl (ix2 ⟨i0.val - 64, by omega⟩ i1) (fun b hb => by
      fin_cases b
      · exact absurd rfl hb
      · rfl) (by have : ¬ i0.val < 64 := h; show i0.val - 64 + 64 = i0.val; omega)).trans ?_
    pointwise [slane]

theorem mats_h (a b : FVec Ideal S512x512 .f32) : k0_pay74 (F := Ideal) (k0_pay68 a) (k0_pay69 b) = hm 0 a b
    ∧ k0_pay89 (F := Ideal) (k0_pay69 b) (k0_pay88 (k0_pay68 a)) = hm 1 a b
    ∧ k0_pay102 (F := Ideal) (k0_pay68 a) (k0_pay69 b) = hm 2 a b
    ∧ k0_pay114 (F := Ideal) (k0_pay68 a) (k0_pay69 b) = hm 3 a b
    ∧ k0_pay129 (F := Ideal) (k0_pay69 b) (k0_pay128 (k0_pay68 a)) = hm 4 a b
    ∧ k0_pay142 (F := Ideal) (k0_pay68 a) (k0_pay69 b) = hm 5 a b
    ∧ k0_pay154 (F := Ideal) (k0_pay68 a) (k0_pay69 b) = hm 6 a b
    ∧ k0_pay169 (F := Ideal) (k0_pay69 b) (k0_pay168 (k0_pay68 a)) = hm 7 a b := by
  refine ⟨?_, ?_, ?_, ?_, ?_, ?_, ?_, ?_⟩ <;>
  exact cat_states _ _ (by rfl) _ _ _ _ concatenates_S64x512_S64x512_S128x512_d0

theorem mats_dx (a b : FVec Ideal S512x512 .f32) : k0_pay75 (F := Ideal) (k0_pay70 a) b = hm 0 a b
    ∧ k0_pay90 (F := Ideal) (k0_pay70 a) (k0_pay71 b) = hm 1 a b
    ∧ k0_pay103 (F := Ideal) (k0_pay70 a) (k0_pay71 b) = hm 2 a b
    ∧ k0_pay115 (F := Ideal) (k0_pay70 a) (k0_pay71 b) = hm 3 a b
    ∧ k0_pay130 (F := Ideal) (k0_pay70 a) (k0_pay71 b) = hm 4 a b
    ∧ k0_pay143 (F := Ideal) (k0_pay70 a) (k0_pay71 b) = hm 5 a b
    ∧ k0_pay155 (F := Ideal) (k0_pay70 a) (k0_pay71 b) = hm 6 a b
    ∧ k0_pay170 (F := Ideal) (k0_pay70 a) (k0_pay71 b) = hm 7 a b := by
  refine ⟨?_, ?_, ?_, ?_, ?_, ?_, ?_, ?_⟩ <;>
  exact cat_states _ _ (by rfl) _ _ _ _ concatenates_S64x512_S64x512_S128x512_d0

/-- A group's two matrices multiplied over the blocks. -/
def mm {n k : Nat} (x : FVec Ideal (⟨2, ![n, 512]⟩ : Shape) .f32) (y : FVec Ideal (⟨2, ![k, 512]⟩ : Shape) .f32) (p : Fin n) (q : Fin k) : EReal :=
  ∑ b : Fin 512, x (ix2 p b) * y (ix2 q b)

/-- A group's input gradient: the transposed lag matrix times the output gradient, and the state's part. -/
def dp (g : Fin 8) (v : FVec Ideal S8192x128 .f32) (a b : FVec Ideal S512x512 .f32) (X : FVec Ideal S8x256x256 .f32) (Y : FVec Ideal S8x256x128 .f32) :
    FVec Ideal S256x512 .f32 := fun i =>
  (∑ k : Fin 256, X (ix3 g (i 0) k) * gm g v (ix2 k (i 1))) + ∑ k : Fin 128, Y (ix3 g (i 0) k) * hm g a b (ix2 k (i 1))

theorem ld_lag (X : S8x256x256.Idx → Elt Ideal .bf16) (g : Fin 8) (i1 : ∀ a, (![g.val, 0, 0] : Fin 3 → Nat) a + (![1, 256, 256] : Fin 3 → Nat) a ≤ S8x256x256.size a) (z : Fin 1) (p : Fin 256) (k : Fin 256) :
    View.ld (Val := Elt Ideal) (e' := .bf16) X (Rect.unit (s := S8x256x256) ![g.val, 0, 0] ![1, 256, 256] i1) (ix3 z p k) = X (ix3 g p k) :=
  View.ld_unit_apply_of X _ _ _ _ _ (fun a => by
    fin_cases a
    · show g.val = g.val + z.val; omega
    · show p.val = 0 + p.val; omega
    · show k.val = 0 + k.val; omega)

theorem ld_in (X : S8x256x128.Idx → Elt Ideal .bf16) (g : Fin 8) (i1 : ∀ a, (![g.val, 0, 0] : Fin 3 → Nat) a + (![1, 256, 128] : Fin 3 → Nat) a ≤ S8x256x128.size a) (z : Fin 1) (p : Fin 256) (k : Fin 128) :
    View.ld (Val := Elt Ideal) (e' := .bf16) X (Rect.unit (s := S8x256x128) ![g.val, 0, 0] ![1, 256, 128] i1) (ix3 z p k) = X (ix3 g p k) :=
  View.ld_unit_apply_of X _ _ _ _ _ (fun a => by
    fin_cases a
    · show g.val = g.val + z.val; omega
    · show p.val = 0 + p.val; omega
    · show k.val = 0 + k.val; omega)

abbrev ldX (X : S8x256x256.Idx → Elt Ideal .bf16) (o : Nat) (i1 : ∀ a, (![o, 0, 0] : Fin 3 → Nat) a + (![1, 256, 256] : Fin 3 → Nat) a ≤ S8x256x256.size a) : FVec Ideal S1x256x256 .bf16 :=
  View.ld (Val := Elt Ideal) (e' := .bf16) X (Rect.unit (s := S8x256x256) ![o, 0, 0] ![1, 256, 256] i1)

abbrev ldY (X : S8x256x128.Idx → Elt Ideal .bf16) (o : Nat) (i1 : ∀ a, (![o, 0, 0] : Fin 3 → Nat) a + (![1, 256, 128] : Fin 3 → Nat) a ≤ S8x256x128.size a) : FVec Ideal S1x256x128 .bf16 :=
  View.ld (Val := Elt Ideal) (e' := .bf16) X (Rect.unit (s := S8x256x128) ![o, 0, 0] ![1, 256, 128] i1)

theorem prod_du (g : Fin 8) (o : Nat) (ho : o = g.val) (v : FVec Ideal S8192x128 .f32) (a b : FVec Ideal S512x512 .f32) (X : S8x256x256.Idx → Elt Ideal .bf16) (Y : S8x256x128.Idx → Elt Ideal .bf16)
    (i1 : ∀ a, (![o, 0, 0] : Fin 3 → Nat) a + (![1, 256, 256] : Fin 3 → Nat) a ≤ S8x256x256.size a)
    (i2 : ∀ a, (![o, 0, 0] : Fin 3 → Nat) a + (![1, 256, 128] : Fin 3 → Nat) a ≤ S8x256x128.size a) :
    addf (F := Ideal) (matmul (F := Ideal) dot_S256x256_S256x512_S256x512_1_0_0_1_n_n none (shapeCast S256x256 (ldX X o i1)) (gm g v : FVec Ideal S256x512 .bf16) (constant S256x512 .f32 0x00000000#32))
      (matmul (F := Ideal) dot_S256x128_S128x512_S256x512_1_0_0_1_n_n none (shapeCast S256x128 (ldY Y o i2)) (hm g a b : FVec Ideal S128x512 .bf16) (constant S256x512 .f32 0x00000000#32))
      = dp g v a b X Y := by
  subst ho
  funext i
  idx_vars i
  pointwise [dp]
  exact congrArg₂ (· + ·) (Finset.sum_congr rfl fun k _ => congrArg (· * _) (ld_lag X g _ 0 i0 k)) (Finset.sum_congr rfl fun k _ => congrArg (· * _) (ld_in Y g _ 0 i0 k))

theorem prods_du (v : FVec Ideal S8192x128 .f32) (a b : FVec Ideal S512x512 .f32) (X : S8x256x256.Idx → Elt Ideal .bf16) (Y : S8x256x128.Idx → Elt Ideal .bf16) : k0_pay78 (F := Ideal) (k0_pay75 (k0_pay70 a) b) (k0_pay76 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) (View.ld (Val := Elt Ideal) (e' := .bf16) X (Rect.unit (s := S8x256x256) ![0, 0, 0] ![1, 256, 256] inb_S8x256x256_S1x256x256_0_0_0))) (k0_pay77 (View.ld (Val := Elt Ideal) (e' := .bf16) Y (Rect.unit (s := S8x256x128) ![0, 0, 0] ![1, 256, 128] inb_S8x256x128_S1x256x128_0_0_0))) (constant S256x512 .f32 0x00000000#32) = dp 0 v a b X Y
    ∧ k0_pay91 (F := Ideal) (k0_pay70 a) (k0_pay71 b) (gm 1 v) (View.ld (Val := Elt Ideal) (e' := .bf16) X (Rect.unit (s := S8x256x256) ![1, 0, 0] ![1, 256, 256] inb_S8x256x256_S1x256x256_1_0_0)) (View.ld (Val := Elt Ideal) (e' := .bf16) Y (Rect.unit (s := S8x256x128) ![1, 0, 0] ![1, 256, 128] inb_S8x256x128_S1x256x128_1_0_0)) = dp 1 v a b X Y
    ∧ k0_pay104 (F := Ideal) (k0_pay70 a) (k0_pay71 b) (k0_pay99 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) (View.ld (Val := Elt Ideal) (e' := .bf16) X (Rect.unit (s := S8x256x256) ![2, 0, 0] ![1, 256, 256] inb_S8x256x256_S1x256x256_2_0_0)) (View.ld (Val := Elt Ideal) (e' := .bf16) Y (Rect.unit (s := S8x256x128) ![2, 0, 0] ![1, 256, 128] inb_S8x256x128_S1x256x128_2_0_0)) = dp 2 v a b X Y
    ∧ k0_pay118 (F := Ideal) (k0_pay115 (k0_pay70 a) (k0_pay71 b)) (k0_pay116 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) (View.ld (Val := Elt Ideal) (e' := .bf16) X (Rect.unit (s := S8x256x256) ![3, 0, 0] ![1, 256, 256] inb_S8x256x256_S1x256x256_3_0_0))) (k0_pay117 (View.ld (Val := Elt Ideal) (e' := .bf16) Y (Rect.unit (s := S8x256x128) ![3, 0, 0] ![1, 256, 128] inb_S8x256x128_S1x256x128_3_0_0))) (constant S256x512 .f32 0x00000000#32) = dp 3 v a b X Y
    ∧ k0_pay131 (F := Ideal) (k0_pay70 a) (k0_pay71 b) (gm 4 v) (View.ld (Val := Elt Ideal) (e' := .bf16) X (Rect.unit (s := S8x256x256) ![4, 0, 0] ![1, 256, 256] inb_S8x256x256_S1x256x256_4_0_0)) (View.ld (Val := Elt Ideal) (e' := .bf16) Y (Rect.unit (s := S8x256x128) ![4, 0, 0] ![1, 256, 128] inb_S8x256x128_S1x256x128_4_0_0)) = dp 4 v a b X Y
    ∧ k0_pay144 (F := Ideal) (k0_pay70 a) (k0_pay71 b) (k0_pay139 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) (View.ld (Val := Elt Ideal) (e' := .bf16) X (Rect.unit (s := S8x256x256) ![5, 0, 0] ![1, 256, 256] inb_S8x256x256_S1x256x256_5_0_0)) (View.ld (Val := Elt Ideal) (e' := .bf16) Y (Rect.unit (s := S8x256x128) ![5, 0, 0] ![1, 256, 128] inb_S8x256x128_S1x256x128_5_0_0)) = dp 5 v a b X Y
    ∧ k0_pay158 (F := Ideal) (k0_pay155 (k0_pay70 a) (k0_pay71 b)) (k0_pay156 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) (View.ld (Val := Elt Ideal) (e' := .bf16) X (Rect.unit (s := S8x256x256) ![6, 0, 0] ![1, 256, 256] inb_S8x256x256_S1x256x256_6_0_0))) (k0_pay157 (View.ld (Val := Elt Ideal) (e' := .bf16) Y (Rect.unit (s := S8x256x128) ![6, 0, 0] ![1, 256, 128] inb_S8x256x128_S1x256x128_6_0_0))) (constant S256x512 .f32 0x00000000#32) = dp 6 v a b X Y
    ∧ k0_pay171 (F := Ideal) (k0_pay70 a) (k0_pay71 b) (gm 7 v) (View.ld (Val := Elt Ideal) (e' := .bf16) X (Rect.unit (s := S8x256x256) ![7, 0, 0] ![1, 256, 256] inb_S8x256x256_S1x256x256_7_0_0)) (View.ld (Val := Elt Ideal) (e' := .bf16) Y (Rect.unit (s := S8x256x128) ![7, 0, 0] ![1, 256, 128] inb_S8x256x128_S1x256x128_7_0_0)) = dp 7 v a b X Y := by
  unfold k0_pay76 k0_pay77 k0_pay78 k0_pay91 k0_pay104 k0_pay116 k0_pay117 k0_pay118 k0_pay131 k0_pay144 k0_pay156 k0_pay157 k0_pay158 k0_pay171
  simp only [mats_dy, mats_dx]
  refine ⟨?_, ?_, ?_, ?_, ?_, ?_, ?_, ?_⟩ <;>
  exact prod_du _ _ (by rfl) _ _ _ _ _ _ _

/-- A product over the blocks, as a matrix. -/
def kk (g : Fin 8) (v u : FVec Ideal S8192x128 .f32) : FVec Ideal S256x256 .f32 := fun i => mm (gm g v) (gm g u) (i 0) (i 1)

theorem prod_kk (g : Fin 8) (v u : FVec Ideal S8192x128 .f32) :
    shapeCast S256x256 (matmul (F := Ideal) dot_S256x512_S256x512_S256x256_1_1_0_0_n_n none (gm g v : FVec Ideal S256x512 .bf16) (gm g u : FVec Ideal S256x512 .bf16) (constant S256x256 .f32 0x00000000#32)) shapeCasts_S256x256_S256x256 = kk g v u := by
  funext i
  idx_vars i
  pointwise [kk, mm]

theorem prod_c (g : Fin 8) (v : FVec Ideal S8192x128 .f32) (a b : FVec Ideal S512x512 .f32) (x : S1x256x128.Idx) :
    shapeCast S1x256x128 (matmul (F := Ideal) dot_S256x512_S128x512_S256x128_1_1_0_0_n_n none (gm g v : FVec Ideal S256x512 .bf16) (hm g a b : FVec Ideal S128x512 .bf16) (constant S256x128 .f32 0x00000000#32)) shapeCasts_S256x128_S1x256x128 x = mm (gm g v) (hm g a b) (x 1) (x 2) := by
  idx_vars x
  pointwise [mm]

theorem prod_b (g : Fin 8) (v : FVec Ideal S8192x128 .f32) (a b : FVec Ideal S512x512 .f32) (x : S1x128x256.Idx) :
    shapeCast S1x128x256 (matmul (F := Ideal) dot_S128x512_S256x512_S128x256_1_1_0_0_n_n none (hm g a b : FVec Ideal S128x512 .bf16) (gm g v : FVec Ideal S256x512 .bf16) (constant S128x256 .f32 0x00000000#32)) shapeCasts_S128x256_S1x128x256 x = mm (hm g a b) (gm g v) (x 1) (x 2) := by
  idx_vars x
  pointwise [mm]

theorem mats_k (v u : FVec Ideal S8192x128 .f32) : k0_pay79 (F := Ideal) (gm 0 v) (gm 0 u) = kk 0 v u
    ∧ k0_pay92 (F := Ideal) (gm 1 v) (gm 1 u) = kk 1 v u
    ∧ k0_pay105 (F := Ideal) (yT 0 u) (yT 1 u) (yT 2 u) (yT 3 u) (yT 4 u) (yT 5 u) (yT 6 u) (yT 7 u) (yT 8 u) (yT 9 u) (yT 10 u) (yT 11 u) (yT 12 u) (yT 13 u) (yT 14 u) (yT 15 u) (k0_pay99 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) = kk 2 v u
    ∧ k0_pay119 (F := Ideal) (gm 3 v) (gm 3 u) = kk 3 v u
    ∧ k0_pay132 (F := Ideal) (gm 4 v) (gm 4 u) = kk 4 v u
    ∧ k0_pay145 (F := Ideal) (yT 0 u) (yT 1 u) (yT 2 u) (yT 3 u) (yT 4 u) (yT 5 u) (yT 6 u) (yT 7 u) (yT 8 u) (yT 9 u) (yT 10 u) (yT 11 u) (yT 12 u) (yT 13 u) (yT 14 u) (yT 15 u) (k0_pay139 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) = kk 5 v u
    ∧ k0_pay159 (F := Ideal) (gm 6 v) (gm 6 u) = kk 6 v u
    ∧ k0_pay172 (F := Ideal) (gm 7 v) (gm 7 u) = kk 7 v u := by
  unfold k0_pay105 k0_pay145
  simp only [mats_dy, mats_u]
  refine ⟨?_, ?_, ?_, ?_, ?_, ?_, ?_, ?_⟩ <;>
  exact prod_kk _ _ _

/-- The matrix moved up and left by `s` positions of 16 channels; nothing past its end. -/
def sh (M : FVec Ideal S256x256 .f32) (s : Fin 16) (p : Fin 256) (i : Fin 16) : EReal :=
  if h : p.val < 256 - 16 * s.val then M (ix2 ⟨16 * s.val + p.val, by omega⟩ ⟨16 * s.val + i.val, by omega⟩) else 0

theorem sum16 (f : Fin 16 → EReal) : ∑ s, f s
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem chain (M : FVec Ideal S256x256 .f32) (x : S1x256x16.Idx) :
    shapeCast S1x256x16 (addf (F := Ideal) (addf (F := Ideal) (addf (F := Ideal) (addf (F := Ideal) (addf (F := Ideal) (addf (F := Ideal) (addf (F := Ideal) (addf (F := Ideal) (addf (F := Ideal) (addf (F := Ideal) (addf (F := Ideal) (addf (F := Ideal) (addf (F := Ideal) (addf (F := Ideal) (addf (F := Ideal) ((View.ld (Val := Elt Ideal) (e' := .f32) M (Rect.unit (s := S256x256) ![0, 0] ![256, 16] inb_S256x256_S256x16_0_0) : FVec Ideal S256x16 .f32)) (concatenate S256x16 0 [⟨S240x16, View.ld (Val := Elt Ideal) (e' := .f32) M (Rect.unit (s := S256x256) ![16, 16] ![240, 16] inb_S256x256_S240x16_16_16)⟩, ⟨S16x16, broadcast S16x16 (Scalar.ofBits (F := Ideal) .f32 0x00000000#32)⟩] concatenates_S240x16_S16x16_S256x16_d0)) (concatenate S256x16 0 [⟨S224x16, View.ld (Val := Elt Ideal) (e' := .f32) M (Rect.unit (s := S256x256) ![32, 32] ![224, 16] inb_S256x256_S224x16_32_32)⟩, ⟨S32x16, broadcast S32x16 (Scalar.ofBits (F := Ideal) .f32 0x00000000#32)⟩] concatenates_S224x16_S32x16_S256x16_d0)) (concatenate S256x16 0 [⟨S208x16, View.ld (Val := Elt Ideal) (e' := .f32) M (Rect.unit (s := S256x256) ![48, 48] ![208, 16] inb_S256x256_S208x16_48_48)⟩, ⟨S48x16, broadcast S48x16 (Scalar.ofBits (F := Ideal) .f32 0x00000000#32)⟩] concatenates_S208x16_S48x16_S256x16_d0)) (concatenate S256x16 0 [⟨S192x16, View.ld (Val := Elt Ideal) (e' := .f32) M (Rect.unit (s := S256x256) ![64, 64] ![192, 16] inb_S256x256_S192x16_64_64)⟩, ⟨S64x16, broadcast S64x16 (Scalar.ofBits (F := Ideal) .f32 0x00000000#32)⟩] concatenates_S192x16_S64x16_S256x16_d0)) (concatenate S256x16 0 [⟨S176x16, View.ld (Val := Elt Ideal) (e' := .f32) M (Rect.unit (s := S256x256) ![80, 80] ![176, 16] inb_S256x256_S176x16_80_80)⟩, ⟨S80x16, broadcast S80x16 (Scalar.ofBits (F := Ideal) .f32 0x00000000#32)⟩] concatenates_S176x16_S80x16_S256x16_d0)) (concatenate S256x16 0 [⟨S160x16, View.ld (Val := Elt Ideal) (e' := .f32) M (Rect.unit (s := S256x256) ![96, 96] ![160, 16] inb_S256x256_S160x16_96_96)⟩, ⟨S96x16, broadcast S96x16 (Scalar.ofBits (F := Ideal) .f32 0x00000000#32)⟩] concatenates_S160x16_S96x16_S256x16_d0)) (concatenate S256x16 0 [⟨S144x16, View.ld (Val := Elt Ideal) (e' := .f32) M (Rect.unit (s := S256x256) ![112, 112] ![144, 16] inb_S256x256_S144x16_112_112)⟩, ⟨S112x16, broadcast S112x16 (Scalar.ofBits (F := Ideal) .f32 0x00000000#32)⟩] concatenates_S144x16_S112x16_S256x16_d0)) (concatenate S256x16 0 [⟨S128x16, View.ld (Val := Elt Ideal) (e' := .f32) M (Rect.unit (s := S256x256) ![128, 128] ![128, 16] inb_S256x256_S128x16_128_128)⟩, ⟨S128x16, broadcast S128x16 (Scalar.ofBits (F := Ideal) .f32 0x00000000#32)⟩] concatenates_S128x16_S128x16_S256x16_d0)) (concatenate S256x16 0 [⟨S112x16, View.ld (Val := Elt Ideal) (e' := .f32) M (Rect.unit (s := S256x256) ![144, 144] ![112, 16] inb_S256x256_S112x16_144_144)⟩, ⟨S144x16, broadcast S144x16 (Scalar.ofBits (F := Ideal) .f32 0x00000000#32)⟩] concatenates_S112x16_S144x16_S256x16_d0)) (concatenate S256x16 0 [⟨S96x16, View.ld (Val := Elt Ideal) (e' := .f32) M (Rect.unit (s := S256x256) ![160, 160] ![96, 16] inb_S256x256_S96x16_160_160)⟩, ⟨S160x16, broadcast S160x16 (Scalar.ofBits (F := Ideal) .f32 0x00000000#32)⟩] concatenates_S96x16_S160x16_S256x16_d0)) (concatenate S256x16 0 [⟨S80x16, View.ld (Val := Elt Ideal) (e' := .f32) M (Rect.unit (s := S256x256) ![176, 176] ![80, 16] inb_S256x256_S80x16_176_176)⟩, ⟨S176x16, broadcast S176x16 (Scalar.ofBits (F := Ideal) .f32 0x00000000#32)⟩] concatenates_S80x16_S176x16_S256x16_d0)) (concatenate S256x16 0 [⟨S64x16, View.ld (Val := Elt Ideal) (e' := .f32) M (Rect.unit (s := S256x256) ![192, 192] ![64, 16] inb_S256x256_S64x16_192_192)⟩, ⟨S192x16, broadcast S192x16 (Scalar.ofBits (F := Ideal) .f32 0x00000000#32)⟩] concatenates_S64x16_S192x16_S256x16_d0)) (concatenate S256x16 0 [⟨S48x16, View.ld (Val := Elt Ideal) (e' := .f32) M (Rect.unit (s := S256x256) ![208, 208] ![48, 16] inb_S256x256_S48x16_208_208)⟩, ⟨S208x16, broadcast S208x16 (Scalar.ofBits (F := Ideal) .f32 0x00000000#32)⟩] concatenates_S48x16_S208x16_S256x16_d0)) (concatenate S256x16 0 [⟨S32x16, View.ld (Val := Elt Ideal) (e' := .f32) M (Rect.unit (s := S256x256) ![224, 224] ![32, 16] inb_S256x256_S32x16_224_224)⟩, ⟨S224x16, broadcast S224x16 (Scalar.ofBits (F := Ideal) .f32 0x00000000#32)⟩] concatenates_S32x16_S224x16_S256x16_d0)) (concatenate S256x16 0 [⟨S16x16, View.ld (Val := Elt Ideal) (e' := .f32) M (Rect.unit (s := S256x256) ![240, 240] ![16, 16] inb_S256x256_S16x16_240_240)⟩, ⟨S240x16, broadcast S240x16 (Scalar.ofBits (F := Ideal) .f32 0x00000000#32)⟩] concatenates_S16x16_S240x16_S256x16_d0)) shapeCasts_S256x16_S1x256x16 x = ∑ s : Fin 16, sh M s (x 1) (x 2) := by
  idx_vars x
  have h0 : sh M 0 x1 x2 = M (ix2 x1 ⟨x2.val, by omega⟩) := by
    unfold sh
    exact (dif_pos (show x1.val < 256 - 16 * (0 : Fin 16).val from x1.isLt)).trans
      (congrArg M (congrArg₂ ix2 (Fin.ext (Nat.zero_add _)) (Fin.ext (Nat.zero_add _))))
  pointwise []
  rw [sum16, h0]
  rfl

/-- Position `r` of every block. -/
def yr (r : Fin 16) (v : FVec Ideal S8192x128 .f32) : FVec Ideal S512x128 .f32 := fun i => v (ix2 (brow (i 0) r) (i 1))

theorem prows_dy (v : FVec Ideal S8192x128 .f32) : k0_pay2 (F := Ideal) v = yr 0 v
    ∧ k0_pay3 (F := Ideal) v = yr 1 v
    ∧ k0_pay4 (F := Ideal) v = yr 2 v
    ∧ k0_pay5 (F := Ideal) v = yr 3 v
    ∧ k0_pay6 (F := Ideal) v = yr 4 v
    ∧ k0_pay7 (F := Ideal) v = yr 5 v
    ∧ k0_pay8 (F := Ideal) v = yr 6 v
    ∧ k0_pay9 (F := Ideal) v = yr 7 v
    ∧ k0_pay10 (F := Ideal) v = yr 8 v
    ∧ k0_pay11 (F := Ideal) v = yr 9 v
    ∧ k0_pay12 (F := Ideal) v = yr 10 v
    ∧ k0_pay13 (F := Ideal) v = yr 11 v
    ∧ k0_pay14 (F := Ideal) v = yr 12 v
    ∧ k0_pay15 (F := Ideal) v = yr 13 v
    ∧ k0_pay16 (F := Ideal) v = yr 14 v
    ∧ k0_pay17 (F := Ideal) v = yr 15 v := by
  refine ⟨?_, ?_, ?_, ?_, ?_, ?_, ?_, ?_, ?_, ?_, ?_, ?_, ?_, ?_, ?_, ?_⟩ <;>
  · funext i
    idx_vars i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, yr, brow]

theorem prows_u (v : FVec Ideal S8192x128 .f32) : k0_pay19 (F := Ideal) v = yr 0 v
    ∧ k0_pay20 (F := Ideal) v = yr 1 v
    ∧ k0_pay21 (F := Ideal) v = yr 2 v
    ∧ k0_pay22 (F := Ideal) v = yr 3 v
    ∧ k0_pay23 (F := Ideal) v = yr 4 v
    ∧ k0_pay24 (F := Ideal) v = yr 5 v
    ∧ k0_pay25 (F := Ideal) v = yr 6 v
    ∧ k0_pay26 (F := Ideal) v = yr 7 v
    ∧ k0_pay28 (F := Ideal) (k0_pay27 v) = yr 8 v
    ∧ k0_pay29 (F := Ideal) (k0_pay18 v) = yr 9 v
    ∧ k0_pay30 (F := Ideal) (k0_pay18 v) = yr 10 v
    ∧ k0_pay31 (F := Ideal) (k0_pay18 v) = yr 11 v
    ∧ k0_pay32 (F := Ideal) (k0_pay18 v) = yr 12 v
    ∧ k0_pay33 (F := Ideal) (k0_pay18 v) = yr 13 v
    ∧ k0_pay34 (F := Ideal) (k0_pay18 v) = yr 14 v
    ∧ k0_pay35 (F := Ideal) (k0_pay18 v) = yr 15 v := by
  refine ⟨?_, ?_, ?_, ?_, ?_, ?_, ?_, ?_, ?_, ?_, ?_, ?_, ?_, ?_, ?_, ?_⟩ <;>
  · funext i
    idx_vars i
    pointwise [k0_pay18, k0_pay27, k0_pay19, k0_pay20, k0_pay21, k0_pay22, k0_pay23, k0_pay24, k0_pay25, k0_pay26, k0_pay28, k0_pay29, k0_pay30, k0_pay31, k0_pay32, k0_pay33, k0_pay34, k0_pay35, yr, brow]

theorem cat8 (f : Fin 8 → FVec Ideal S16x512 .f32) (h : Shape.Concatenates [S16x512, S16x512, S16x512, S16x512, S16x512, S16x512, S16x512, S16x512] S128x512 0) (i : S128x512.Idx) :
    concatenate S128x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩] h i
      = f ⟨(i 0).val / 16, by have := (i 0).isLt; simp at this; omega⟩ (ix2 ⟨(i 0).val % 16, Nat.mod_lt _ (by omega)⟩ (i 1)) :=
  concatenate_ofFn_apply (s₁ := S16x512) (t := S128x512) 0 f h rfl 16 rfl i ⟨(i 0).val / 16, by have := (i 0).isLt; simp at this; omega⟩ rfl
    (ix2 ⟨(i 0).val % 16, Nat.mod_lt _ (by omega)⟩ (i 1)) rfl (fun b hb => by
      fin_cases b
      · exact absurd rfl hb
      · rfl)

/-- Position `r` of the input gradient at every block. -/
def du1 (r : Fin 16) (v : FVec Ideal S8192x128 .f32) (a b : FVec Ideal S512x512 .f32) (X : S8x256x256.Idx → Elt Ideal .bf16) (Y : S8x256x128.Idx → Elt Ideal .bf16) (d : FVec Ideal S1x128 .f32) : FVec Ideal S512x128 .f32 := fun i =>
  dp ⟨(i 1).val / 16, by have := (i 1).isLt; simp at this; omega⟩ v a b X Y (ix2 ⟨r.val * 16 + (i 1).val % 16, by omega⟩ (i 0)) + d (ix2 0 (i 1)) * yr r v i

theorem cat_du (r : Fin 16) (o : Nat) (ho : o = r.val * 16) (v : FVec Ideal S8192x128 .f32) (a b : FVec Ideal S512x512 .f32) (X : S8x256x256.Idx → Elt Ideal .bf16) (Y : S8x256x128.Idx → Elt Ideal .bf16)
    (hs : S256x512.Slices ![o, 0] S16x512) (hc : Shape.Concatenates [S16x512, S16x512, S16x512, S16x512, S16x512, S16x512, S16x512, S16x512] S128x512 0) :
    concatenate S128x512 0 [⟨S16x512, extractStridedSlice S16x512 ![o, 0] (dp 0 v a b X Y) hs⟩, ⟨S16x512, extractStridedSlice S16x512 ![o, 0] (dp 1 v a b X Y) hs⟩, ⟨S16x512, extractStridedSlice S16x512 ![o, 0] (dp 2 v a b X Y) hs⟩, ⟨S16x512, extractStridedSlice S16x512 ![o, 0] (dp 3 v a b X Y) hs⟩, ⟨S16x512, extractStridedSlice S16x512 ![o, 0] (dp 4 v a b X Y) hs⟩, ⟨S16x512, extractStridedSlice S16x512 ![o, 0] (dp 5 v a b X Y) hs⟩, ⟨S16x512, extractStridedSlice S16x512 ![o, 0] (dp 6 v a b X Y) hs⟩, ⟨S16x512, extractStridedSlice S16x512 ![o, 0] (dp 7 v a b X Y) hs⟩] hc
      = fun i => dp ⟨(i 0).val / 16, by have := (i 0).isLt; simp at this; omega⟩ v a b X Y (ix2 ⟨r.val * 16 + (i 0).val % 16, by omega⟩ (i 1)) := by
  funext i
  have e := cat8 (fun g => extractStridedSlice S16x512 ![o, 0] (dp g v a b X Y) hs) hc i
  subst ho
  refine e.trans ?_
  idx_vars i
  pointwise []

theorem row_du (r : Fin 16) (o : Nat) (ho : o = r.val * 16) (v : FVec Ideal S8192x128 .f32) (a b : FVec Ideal S512x512 .f32) (X : S8x256x256.Idx → Elt Ideal .bf16) (Y : S8x256x128.Idx → Elt Ideal .bf16) (d : FVec Ideal S1x128 .f32)
    (hs : S256x512.Slices ![o, 0] S16x512) (hc : Shape.Concatenates [S16x512, S16x512, S16x512, S16x512, S16x512, S16x512, S16x512, S16x512] S128x512 0) :
    addf (F := Ideal) (transpose S512x128 [1, 0] (concatenate S128x512 0 [⟨S16x512, extractStridedSlice S16x512 ![o, 0] (dp 0 v a b X Y) hs⟩, ⟨S16x512, extractStridedSlice S16x512 ![o, 0] (dp 1 v a b X Y) hs⟩, ⟨S16x512, extractStridedSlice S16x512 ![o, 0] (dp 2 v a b X Y) hs⟩, ⟨S16x512, extractStridedSlice S16x512 ![o, 0] (dp 3 v a b X Y) hs⟩, ⟨S16x512, extractStridedSlice S16x512 ![o, 0] (dp 4 v a b X Y) hs⟩, ⟨S16x512, extractStridedSlice S16x512 ![o, 0] (dp 5 v a b X Y) hs⟩, ⟨S16x512, extractStridedSlice S16x512 ![o, 0] (dp 6 v a b X Y) hs⟩, ⟨S16x512, extractStridedSlice S16x512 ![o, 0] (dp 7 v a b X Y) hs⟩] hc) transposes_S128x512_p1_0_S512x128)
      (mulf (broadcastTo S512x128 (shapeCast S1x128 d shapeCasts_S1x128_S1x128) broadcasts_S1x128_S512x128) (yr r v)) = du1 r v a b X Y d := by
  rw [cat_du r o ho]
  funext i
  idx_vars i
  pointwise [du1]

theorem rows_du (v : FVec Ideal S8192x128 .f32) (a b : FVec Ideal S512x512 .f32) (X : S8x256x256.Idx → Elt Ideal .bf16) (Y : S8x256x128.Idx → Elt Ideal .bf16) (d : FVec Ideal S1x128 .f32) : k0_pay182 (F := Ideal) (yr 0 v) (k0_pay180 (dp 0 v a b X Y) (dp 1 v a b X Y) (dp 2 v a b X Y) (dp 3 v a b X Y) (dp 4 v a b X Y) (dp 5 v a b X Y) (dp 6 v a b X Y) (dp 7 v a b X Y)) (k0_pay181 d) = du1 0 v a b X Y d
    ∧ k0_pay183 (F := Ideal) (yr 1 v) (dp 0 v a b X Y) (dp 1 v a b X Y) (dp 2 v a b X Y) (dp 3 v a b X Y) (dp 4 v a b X Y) (dp 5 v a b X Y) (dp 6 v a b X Y) (dp 7 v a b X Y) d = du1 1 v a b X Y d
    ∧ k0_pay184 (F := Ideal) (yr 2 v) (dp 0 v a b X Y) (dp 1 v a b X Y) (dp 2 v a b X Y) (dp 3 v a b X Y) (dp 4 v a b X Y) (dp 5 v a b X Y) (dp 6 v a b X Y) (dp 7 v a b X Y) d = du1 2 v a b X Y d
    ∧ k0_pay187 (F := Ideal) (yr 3 v) (k0_pay186 (dp 0 v a b X Y) (dp 1 v a b X Y) (dp 2 v a b X Y) (dp 3 v a b X Y) (dp 4 v a b X Y) (dp 5 v a b X Y) (dp 6 v a b X Y) (dp 7 v a b X Y)) d = du1 3 v a b X Y d
    ∧ k0_pay188 (F := Ideal) (yr 4 v) (dp 0 v a b X Y) (dp 1 v a b X Y) (dp 2 v a b X Y) (dp 3 v a b X Y) (dp 4 v a b X Y) (dp 5 v a b X Y) (dp 6 v a b X Y) (dp 7 v a b X Y) d = du1 4 v a b X Y d
    ∧ k0_pay189 (F := Ideal) (yr 5 v) (dp 0 v a b X Y) (dp 1 v a b X Y) (dp 2 v a b X Y) (dp 3 v a b X Y) (dp 4 v a b X Y) (dp 5 v a b X Y) (dp 6 v a b X Y) (dp 7 v a b X Y) d = du1 5 v a b X Y d
    ∧ k0_pay194 (F := Ideal) (yr 6 v) (dp 3 v a b X Y) (dp 4 v a b X Y) (dp 5 v a b X Y) (dp 6 v a b X Y) (dp 7 v a b X Y) (k0_pay191 (dp 0 v a b X Y)) (k0_pay192 (dp 1 v a b X Y)) (k0_pay193 (dp 2 v a b X Y)) d = du1 6 v a b X Y d
    ∧ k0_pay195 (F := Ideal) (yr 7 v) (dp 0 v a b X Y) (dp 1 v a b X Y) (dp 2 v a b X Y) (dp 3 v a b X Y) (dp 4 v a b X Y) (dp 5 v a b X Y) (dp 6 v a b X Y) (dp 7 v a b X Y) d = du1 7 v a b X Y d
    ∧ k0_pay197 (F := Ideal) (yr 8 v) (dp 0 v a b X Y) (dp 1 v a b X Y) (dp 2 v a b X Y) (dp 3 v a b X Y) (dp 4 v a b X Y) (dp 5 v a b X Y) (dp 6 v a b X Y) (dp 7 v a b X Y) d = du1 8 v a b X Y d
    ∧ k0_pay199 (F := Ideal) (yr 9 v) (dp 0 v a b X Y) (dp 1 v a b X Y) (dp 2 v a b X Y) (dp 3 v a b X Y) (dp 4 v a b X Y) (dp 5 v a b X Y) (dp 6 v a b X Y) (dp 7 v a b X Y) d = du1 9 v a b X Y d
    ∧ k0_pay200 (F := Ideal) (yr 10 v) (dp 0 v a b X Y) (dp 1 v a b X Y) (dp 2 v a b X Y) (dp 3 v a b X Y) (dp 4 v a b X Y) (dp 5 v a b X Y) (dp 6 v a b X Y) (dp 7 v a b X Y) d = du1 10 v a b X Y d
    ∧ k0_pay203 (F := Ideal) (yr 11 v) (k0_pay202 (dp 0 v a b X Y) (dp 1 v a b X Y) (dp 2 v a b X Y) (dp 3 v a b X Y) (dp 4 v a b X Y) (dp 5 v a b X Y) (dp 6 v a b X Y) (dp 7 v a b X Y)) d = du1 11 v a b X Y d
    ∧ k0_pay204 (F := Ideal) (yr 12 v) (dp 0 v a b X Y) (dp 1 v a b X Y) (dp 2 v a b X Y) (dp 3 v a b X Y) (dp 4 v a b X Y) (dp 5 v a b X Y) (dp 6 v a b X Y) (dp 7 v a b X Y) d = du1 12 v a b X Y d
    ∧ k0_pay205 (F := Ideal) (yr 13 v) (dp 0 v a b X Y) (dp 1 v a b X Y) (dp 2 v a b X Y) (dp 3 v a b X Y) (dp 4 v a b X Y) (dp 5 v a b X Y) (dp 6 v a b X Y) (dp 7 v a b X Y) d = du1 13 v a b X Y d := by
  refine ⟨?_, ?_, ?_, ?_, ?_, ?_, ?_, ?_, ?_, ?_, ?_, ?_, ?_, ?_⟩
  · exact row_du 0 0 (by rfl) v a b X Y d slices_S256x512_o0_0_S16x512 concatenates_S16x512_S16x512_S16x512_S16x512_S16x512_S16x512_S16x512_S16x512_S128x512_d0
  · exact row_du 1 16 (by rfl) v a b X Y d slices_S256x512_o16_0_S16x512 concatenates_S16x512_S16x512_S16x512_S16x512_S16x512_S16x512_S16x512_S16x512_S128x512_d0
  · exact row_du 2 32 (by rfl) v a b X Y d slices_S256x512_o32_0_S16x512 concatenates_S16x512_S16x512_S16x512_S16x512_S16x512_S16x512_S16x512_S16x512_S128x512_d0
  · exact row_du 3 48 (by rfl) v a b X Y d slices_S256x512_o48_0_S16x512 concatenates_S16x512_S16x512_S16x512_S16x512_S16x512_S16x512_S16x512_S16x512_S128x512_d0
  · exact row_du 4 64 (by rfl) v a b X Y d slices_S256x512_o64_0_S16x512 concatenates_S16x512_S16x512_S16x512_S16x512_S16x512_S16x512_S16x512_S16x512_S128x512_d0
  · exact row_du 5 80 (by rfl) v a b X Y d slices_S256x512_o80_0_S16x512 concatenates_S16x512_S16x512_S16x512_S16x512_S16x512_S16x512_S16x512_S16x512_S128x512_d0
  · exact row_du 6 96 (by rfl) v a b X Y d slices_S256x512_o96_0_S16x512 concatenates_S16x512_S16x512_S16x512_S16x512_S16x512_S16x512_S16x512_S16x512_S128x512_d0
  · exact row_du 7 112 (by rfl) v a b X Y d slices_S256x512_o112_0_S16x512 concatenates_S16x512_S16x512_S16x512_S16x512_S16x512_S16x512_S16x512_S16x512_S128x512_d0
  · exact row_du 8 128 (by rfl) v a b X Y d slices_S256x512_o128_0_S16x512 concatenates_S16x512_S16x512_S16x512_S16x512_S16x512_S16x512_S16x512_S16x512_S128x512_d0
  · exact row_du 9 144 (by rfl) v a b X Y d slices_S256x512_o144_0_S16x512 concatenates_S16x512_S16x512_S16x512_S16x512_S16x512_S16x512_S16x512_S16x512_S128x512_d0
  · exact row_du 10 160 (by rfl) v a b X Y d slices_S256x512_o160_0_S16x512 concatenates_S16x512_S16x512_S16x512_S16x512_S16x512_S16x512_S16x512_S16x512_S128x512_d0
  · exact row_du 11 176 (by rfl) v a b X Y d slices_S256x512_o176_0_S16x512 concatenates_S16x512_S16x512_S16x512_S16x512_S16x512_S16x512_S16x512_S16x512_S128x512_d0
  · exact row_du 12 192 (by rfl) v a b X Y d slices_S256x512_o192_0_S16x512 concatenates_S16x512_S16x512_S16x512_S16x512_S16x512_S16x512_S16x512_S16x512_S128x512_d0
  · exact row_du 13 208 (by rfl) v a b X Y d slices_S256x512_o208_0_S16x512 concatenates_S16x512_S16x512_S16x512_S16x512_S16x512_S16x512_S16x512_S16x512_S128x512_d0

theorem cat_stack (f : Fin 16 → FVec Ideal S1x512x128 .f32) (h : Shape.Concatenates [S1x512x128, S1x512x128, S1x512x128, S1x512x128, S1x512x128, S1x512x128, S1x512x128, S1x512x128, S1x512x128, S1x512x128, S1x512x128, S1x512x128, S1x512x128, S1x512x128, S1x512x128, S1x512x128] S16x512x128 0) (i : S16x512x128.Idx) :
    concatenate S16x512x128 0 [⟨S1x512x128, f 0⟩, ⟨S1x512x128, f 1⟩, ⟨S1x512x128, f 2⟩, ⟨S1x512x128, f 3⟩, ⟨S1x512x128, f 4⟩, ⟨S1x512x128, f 5⟩, ⟨S1x512x128, f 6⟩, ⟨S1x512x128, f 7⟩, ⟨S1x512x128, f 8⟩, ⟨S1x512x128, f 9⟩, ⟨S1x512x128, f 10⟩, ⟨S1x512x128, f 11⟩, ⟨S1x512x128, f 12⟩, ⟨S1x512x128, f 13⟩, ⟨S1x512x128, f 14⟩, ⟨S1x512x128, f 15⟩] h i = f (i 0) (ix3 0 (i 1) (i 2)) :=
  concatenate_ofFn_apply (s₁ := S1x512x128) (t := S16x512x128) 0 f h rfl 1 rfl i (i 0) (Nat.div_one _)
    (ix3 0 (i 1) (i 2)) (Nat.mod_one (i 0).val).symm (fun b hb => by
      fin_cases b
      · exact absurd rfl hb
      · rfl
      · rfl)

theorem unstack (Z : FVec Ideal S16x512x128 .f32) (i : S8192x128.Idx) :
    shapeCast S8192x128 (transpose S512x16x128 [1, 0, 2] Z transposes_S16x512x128_p1_0_2_S512x16x128) shapeCasts_S512x16x128_S8192x128 i
      = Z (ix3 ⟨(i 0).val % 16, Nat.mod_lt _ (by omega)⟩ ⟨(i 0).val / 16, by have := (i 0).isLt; simp at this; omega⟩ (i 1)) := by
  idx_vars i
  pointwise []

theorem one_row (z : FVec Ideal S512x128 .f32) (a : Fin 1) (p : Fin 512) (q : Fin 128) :
    shapeCast S1x512x128 z shapeCasts_S512x128_S1x512x128 (ix3 a p q) = z (ix2 p q) := by
  pointwise []

/-- The positions of every block, put back in their order. -/
theorem stack (f : Fin 16 → FVec Ideal S512x128 .f32) (h : Shape.Concatenates [S1x512x128, S1x512x128, S1x512x128, S1x512x128, S1x512x128, S1x512x128, S1x512x128, S1x512x128, S1x512x128, S1x512x128, S1x512x128, S1x512x128, S1x512x128, S1x512x128, S1x512x128, S1x512x128] S16x512x128 0) (i : S8192x128.Idx) :
    shapeCast S8192x128 (transpose S512x16x128 [1, 0, 2] (concatenate S16x512x128 0 [⟨S1x512x128, shapeCast S1x512x128 (f 0) shapeCasts_S512x128_S1x512x128⟩, ⟨S1x512x128, shapeCast S1x512x128 (f 1) shapeCasts_S512x128_S1x512x128⟩, ⟨S1x512x128, shapeCast S1x512x128 (f 2) shapeCasts_S512x128_S1x512x128⟩, ⟨S1x512x128, shapeCast S1x512x128 (f 3) shapeCasts_S512x128_S1x512x128⟩, ⟨S1x512x128, shapeCast S1x512x128 (f 4) shapeCasts_S512x128_S1x512x128⟩, ⟨S1x512x128, shapeCast S1x512x128 (f 5) shapeCasts_S512x128_S1x512x128⟩, ⟨S1x512x128, shapeCast S1x512x128 (f 6) shapeCasts_S512x128_S1x512x128⟩, ⟨S1x512x128, shapeCast S1x512x128 (f 7) shapeCasts_S512x128_S1x512x128⟩, ⟨S1x512x128, shapeCast S1x512x128 (f 8) shapeCasts_S512x128_S1x512x128⟩, ⟨S1x512x128, shapeCast S1x512x128 (f 9) shapeCasts_S512x128_S1x512x128⟩, ⟨S1x512x128, shapeCast S1x512x128 (f 10) shapeCasts_S512x128_S1x512x128⟩, ⟨S1x512x128, shapeCast S1x512x128 (f 11) shapeCasts_S512x128_S1x512x128⟩, ⟨S1x512x128, shapeCast S1x512x128 (f 12) shapeCasts_S512x128_S1x512x128⟩, ⟨S1x512x128, shapeCast S1x512x128 (f 13) shapeCasts_S512x128_S1x512x128⟩, ⟨S1x512x128, shapeCast S1x512x128 (f 14) shapeCasts_S512x128_S1x512x128⟩, ⟨S1x512x128, shapeCast S1x512x128 (f 15) shapeCasts_S512x128_S1x512x128⟩] h)
      transposes_S16x512x128_p1_0_2_S512x16x128) shapeCasts_S512x16x128_S8192x128 i
      = f ⟨(i 0).val % 16, Nat.mod_lt _ (by omega)⟩ (ix2 ⟨(i 0).val / 16, by have := (i 0).isLt; simp at this; omega⟩ (i 1)) := by
  have e := cat_stack (fun r => shapeCast S1x512x128 (f r) shapeCasts_S512x128_S1x512x128) h
  exact (unstack _ i).trans ((e _).trans (one_row _ _ _ _))

theorem out_du (v : FVec Ideal S8192x128 .f32) (a b : FVec Ideal S512x512 .f32) (X : S8x256x256.Idx → Elt Ideal .bf16) (Y : S8x256x128.Idx → Elt Ideal .bf16) (d : FVec Ideal S1x128 .f32) :
    k0_pay215 (F := Ideal) (yr 14 v) (yr 15 v) (dp 0 v a b X Y) (dp 1 v a b X Y) (dp 2 v a b X Y) (dp 3 v a b X Y) (dp 4 v a b X Y) (dp 5 v a b X Y) (dp 6 v a b X Y) (dp 7 v a b X Y) (du1 0 v a b X Y d) (du1 1 v a b X Y d) (du1 2 v a b X Y d) (du1 3 v a b X Y d) (du1 4 v a b X Y d) (du1 5 v a b X Y d) (du1 6 v a b X Y d) (du1 7 v a b X Y d) (du1 8 v a b X Y d) (du1 9 v a b X Y d) (du1 10 v a b X Y d) (du1 11 v a b X Y d) (du1 12 v a b X Y d) (du1 13 v a b X Y d) (k0_pay207 (dp 0 v a b X Y)) (k0_pay208 (dp 1 v a b X Y)) (k0_pay209 (dp 2 v a b X Y)) (k0_pay210 (dp 3 v a b X Y)) (k0_pay211 (dp 4 v a b X Y)) (k0_pay212 (dp 5 v a b X Y)) (k0_pay213 (dp 6 v a b X Y)) d d
      = fun i => du1 ⟨(i 0).val % 16, Nat.mod_lt _ (by omega)⟩ v a b X Y d (ix2 ⟨(i 0).val / 16, by have := (i 0).isLt; simp at this; omega⟩ (i 1)) := by
  funext i
  have e14 := row_du 14 224 (by rfl) v a b X Y d slices_S256x512_o224_0_S16x512 concatenates_S16x512_S16x512_S16x512_S16x512_S16x512_S16x512_S16x512_S16x512_S128x512_d0
  have e15 := row_du 15 240 (by rfl) v a b X Y d slices_S256x512_o240_0_S16x512 concatenates_S16x512_S16x512_S16x512_S16x512_S16x512_S16x512_S16x512_S16x512_S128x512_d0
  have e := stack (fun r => du1 r v a b X Y d) concatenates_S1x512x128_S1x512x128_S1x512x128_S1x512x128_S1x512x128_S1x512x128_S1x512x128_S1x512x128_S1x512x128_S1x512x128_S1x512x128_S1x512x128_S1x512x128_S1x512x128_S1x512x128_S1x512x128_S16x512x128_d0 i
  rw [← e14, ← e15] at e
  exact e

/-- The sum over the blocks of one position's products. -/
def dd1 (r : Fin 16) (v u : FVec Ideal S8192x128 .f32) (k : Fin 128) : EReal := ∑ b : Fin 512, v (ix2 (brow b r) k) * u (ix2 (brow b r) k)

theorem red_row (r : Fin 16) (v u : FVec Ideal S8192x128 .f32) (a : Fin 1) (k : Fin 128) :
    shapeCast S1x128 (multiReduction (F := Ideal) .add [0] S128 (mulf (yr r v) (yr r u)) 0x00000000#32 reduces_S512x128_S128 (.inl rfl) rfl) shapeCasts_S128_S1x128 (ix2 a k)
      = dd1 r v u k := by
  pointwise [dd1, yr]

theorem out_dd (v u : FVec Ideal S8192x128 .f32) (i : S1x128.Idx) :
    k0_pay214 (yr 14 v) (yr 15 v) (yr 14 u) (yr 15 u) (k0_pay206 (yr 11 v) (yr 12 v) (yr 13 v) (yr 11 u) (yr 12 u) (yr 13 u) (k0_pay201 (yr 9 v) (yr 10 v) (yr 9 u) (yr 10 u) (k0_pay196 (yr 6 v) (yr 7 v) (yr 6 u) (yr 7 u) (k0_pay190 (yr 3 v) (yr 4 v) (yr 5 v) (yr 3 u) (yr 4 u) (yr 5 u) (k0_pay185 (F := Ideal) (yr 0 v) (yr 1 v) (yr 2 v) (yr 0 u) (yr 1 u) (yr 2 u) k0_pay179))) (k0_pay198 (yr 8 v) (yr 8 u)))) i = ∑ r : Fin 16, dd1 r v u (i 1) := by
  idx_vars i
  rw [sum16]
  pointwise [k0_pay214, k0_pay206, k0_pay201, k0_pay198, k0_pay196, k0_pay190, k0_pay185, k0_pay179, dd1, yr]

end Cert.K.S5b

end
-- ==== Proof.K.S5bHost.lean ====
/- The recurrence's block gradient: the operands its host lines prepare. -/
module

public import proofs.«01_k».proof.Proof.Gen.S5bIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.S5b

open Idealize.ShloMosaic Idealize.ShloMosaic.TcCoe Idealize.SL.Sem Cert.S5bIdeal Cert.S5bIdeal.Gen

variable (m : (ℓ : Loc nD τ sig) → Buf (Elt Ideal) ℓ) (c : Dev nD)

/-- The convolution's kernel moved down by `s` positions. -/
def lagF (s : Fin 16) (w : FVec Ideal S64x16x16x16 .bf16) : FVec Ideal S64x16x16x1x16 .bf16 := fun i =>
  if h : s.val ≤ (i 1).val then w (ix4 (i 0) ⟨(i 1).val - s.val, by have := (i 1).isLt; simp at this; omega⟩ (i 2) (i 4)) else 0

theorem sitofp_zero : FloatOps.sitofp (F := Ideal) FTy.bf16 (0#32) = (0 : EReal) := by
  simp [FloatOps.sitofp]

theorem lag_close {s n : Nat} {i1 : Fin 16} (hn : n + s = 16) (f : s ≤ i1.val → EReal) :
    (if h : s ≤ i1.val ∧ i1.val - s < n then f h.1 else FloatOps.sitofp (F := Ideal) FTy.bf16 0#32) = if h : s ≤ i1.val then f h else 0 := by
  by_cases h : s ≤ i1.val
  · rw [dif_pos ⟨h, by have := i1.isLt; omega⟩, dif_pos h]
  · rw [dif_neg (fun h' => h h'.1), dif_neg h, sitofp_zero]

theorem lags (w : FVec Ideal S64x16x16x16 .bf16) : broadcastInDim S64x16x16x1x16 ![0, 1, 2, 4] bcast_S64x16x16x16_S64x16x16x1x16_0_1_2_4 (pad S64x16x16x16 ![0, 0, 0, 0] ![0, 0, 0, 0] ![0, 0, 0, 0] w (sitofp (F := Ideal) .bf16 (constantI S_ 32 0#32)) pads_S64x16x16x16_S64x16x16x16_000_000_000_000 h_S_) = lagF 0 w
    ∧ broadcastInDim S64x16x16x1x16 ![0, 1, 2, 4] bcast_S64x16x16x16_S64x16x16x1x16_0_1_2_4 (pad S64x16x16x16 ![0, 1, 0, 0] ![0, 0, 0, 0] ![0, 0, 0, 0] (extractStridedSlice S64x15x16x16 ![0, 0, 0, 0] w slices_S64x16x16x16_S64x15x16x16_0_0_0_0) (sitofp (F := Ideal) .bf16 (constantI S_ 32 0#32)) pads_S64x15x16x16_S64x16x16x16_000_100_000_000 h_S_) = lagF 1 w
    ∧ broadcastInDim S64x16x16x1x16 ![0, 1, 2, 4] bcast_S64x16x16x16_S64x16x16x1x16_0_1_2_4 (pad S64x16x16x16 ![0, 2, 0, 0] ![0, 0, 0, 0] ![0, 0, 0, 0] (extractStridedSlice S64x14x16x16 ![0, 0, 0, 0] w slices_S64x16x16x16_S64x14x16x16_0_0_0_0) (sitofp (F := Ideal) .bf16 (constantI S_ 32 0#32)) pads_S64x14x16x16_S64x16x16x16_000_200_000_000 h_S_) = lagF 2 w
    ∧ broadcastInDim S64x16x16x1x16 ![0, 1, 2, 4] bcast_S64x16x16x16_S64x16x16x1x16_0_1_2_4 (pad S64x16x16x16 ![0, 3, 0, 0] ![0, 0, 0, 0] ![0, 0, 0, 0] (extractStridedSlice S64x13x16x16 ![0, 0, 0, 0] w slices_S64x16x16x16_S64x13x16x16_0_0_0_0) (sitofp (F := Ideal) .bf16 (constantI S_ 32 0#32)) pads_S64x13x16x16_S64x16x16x16_000_300_000_000 h_S_) = lagF 3 w
    ∧ broadcastInDim S64x16x16x1x16 ![0, 1, 2, 4] bcast_S64x16x16x16_S64x16x16x1x16_0_1_2_4 (pad S64x16x16x16 ![0, 4, 0, 0] ![0, 0, 0, 0] ![0, 0, 0, 0] (extractStridedSlice S64x12x16x16 ![0, 0, 0, 0] w slices_S64x16x16x16_S64x12x16x16_0_0_0_0) (sitofp (F := Ideal) .bf16 (constantI S_ 32 0#32)) pads_S64x12x16x16_S64x16x16x16_000_400_000_000 h_S_) = lagF 4 w
    ∧ broadcastInDim S64x16x16x1x16 ![0, 1, 2, 4] bcast_S64x16x16x16_S64x16x16x1x16_0_1_2_4 (pad S64x16x16x16 ![0, 5, 0, 0] ![0, 0, 0, 0] ![0, 0, 0, 0] (extractStridedSlice S64x11x16x16 ![0, 0, 0, 0] w slices_S64x16x16x16_S64x11x16x16_0_0_0_0) (sitofp (F := Ideal) .bf16 (constantI S_ 32 0#32)) pads_S64x11x16x16_S64x16x16x16_000_500_000_000 h_S_) = lagF 5 w
    ∧ broadcastInDim S64x16x16x1x16 ![0, 1, 2, 4] bcast_S64x16x16x16_S64x16x16x1x16_0_1_2_4 (pad S64x16x16x16 ![0, 6, 0, 0] ![0, 0, 0, 0] ![0, 0, 0, 0] (extractStridedSlice S64x10x16x16 ![0, 0, 0, 0] w slices_S64x16x16x16_S64x10x16x16_0_0_0_0) (sitofp (F := Ideal) .bf16 (constantI S_ 32 0#32)) pads_S64x10x16x16_S64x16x16x16_000_600_000_000 h_S_) = lagF 6 w
    ∧ broadcastInDim S64x16x16x1x16 ![0, 1, 2, 4] bcast_S64x16x16x16_S64x16x16x1x16_0_1_2_4 (pad S64x16x16x16 ![0, 7, 0, 0] ![0, 0, 0, 0] ![0, 0, 0, 0] (extractStridedSlice S64x9x16x16 ![0, 0, 0, 0] w slices_S64x16x16x16_S64x9x16x16_0_0_0_0) (sitofp (F := Ideal) .bf16 (constantI S_ 32 0#32)) pads_S64x9x16x16_S64x16x16x16_000_700_000_000 h_S_) = lagF 7 w
    ∧ broadcastInDim S64x16x16x1x16 ![0, 1, 2, 4] bcast_S64x16x16x16_S64x16x16x1x16_0_1_2_4 (pad S64x16x16x16 ![0, 8, 0, 0] ![0, 0, 0, 0] ![0, 0, 0, 0] (extractStridedSlice S64x8x16x16 ![0, 0, 0, 0] w slices_S64x16x16x16_S64x8x16x16_0_0_0_0) (sitofp (F := Ideal) .bf16 (constantI S_ 32 0#32)) pads_S64x8x16x16_S64x16x16x16_000_800_000_000 h_S_) = lagF 8 w
    ∧ broadcastInDim S64x16x16x1x16 ![0, 1, 2, 4] bcast_S64x16x16x16_S64x16x16x1x16_0_1_2_4 (pad S64x16x16x16 ![0, 9, 0, 0] ![0, 0, 0, 0] ![0, 0, 0, 0] (extractStridedSlice S64x7x16x16 ![0, 0, 0, 0] w slices_S64x16x16x16_S64x7x16x16_0_0_0_0) (sitofp (F := Ideal) .bf16 (constantI S_ 32 0#32)) pads_S64x7x16x16_S64x16x16x16_000_900_000_000 h_S_) = lagF 9 w
    ∧ broadcastInDim S64x16x16x1x16 ![0, 1, 2, 4] bcast_S64x16x16x16_S64x16x16x1x16_0_1_2_4 (pad S64x16x16x16 ![0, 10, 0, 0] ![0, 0, 0, 0] ![0, 0, 0, 0] (extractStridedSlice S64x6x16x16 ![0, 0, 0, 0] w slices_S64x16x16x16_S64x6x16x16_0_0_0_0) (sitofp (F := Ideal) .bf16 (constantI S_ 32 0#32)) pads_S64x6x16x16_S64x16x16x16_000_1000_000_000 h_S_) = lagF 10 w
    ∧ broadcastInDim S64x16x16x1x16 ![0, 1, 2, 4] bcast_S64x16x16x16_S64x16x16x1x16_0_1_2_4 (pad S64x16x16x16 ![0, 11, 0, 0] ![0, 0, 0, 0] ![0, 0, 0, 0] (extractStridedSlice S64x5x16x16 ![0, 0, 0, 0] w slices_S64x16x16x16_S64x5x16x16_0_0_0_0) (sitofp (F := Ideal) .bf16 (constantI S_ 32 0#32)) pads_S64x5x16x16_S64x16x16x16_000_1100_000_000 h_S_) = lagF 11 w
    ∧ broadcastInDim S64x16x16x1x16 ![0, 1, 2, 4] bcast_S64x16x16x16_S64x16x16x1x16_0_1_2_4 (pad S64x16x16x16 ![0, 12, 0, 0] ![0, 0, 0, 0] ![0, 0, 0, 0] (extractStridedSlice S64x4x16x16 ![0, 0, 0, 0] w slices_S64x16x16x16_S64x4x16x16_0_0_0_0) (sitofp (F := Ideal) .bf16 (constantI S_ 32 0#32)) pads_S64x4x16x16_S64x16x16x16_000_1200_000_000 h_S_) = lagF 12 w
    ∧ broadcastInDim S64x16x16x1x16 ![0, 1, 2, 4] bcast_S64x16x16x16_S64x16x16x1x16_0_1_2_4 (pad S64x16x16x16 ![0, 13, 0, 0] ![0, 0, 0, 0] ![0, 0, 0, 0] (extractStridedSlice S64x3x16x16 ![0, 0, 0, 0] w slices_S64x16x16x16_S64x3x16x16_0_0_0_0) (sitofp (F := Ideal) .bf16 (constantI S_ 32 0#32)) pads_S64x3x16x16_S64x16x16x16_000_1300_000_000 h_S_) = lagF 13 w
    ∧ broadcastInDim S64x16x16x1x16 ![0, 1, 2, 4] bcast_S64x16x16x16_S64x16x16x1x16_0_1_2_4 (pad S64x16x16x16 ![0, 14, 0, 0] ![0, 0, 0, 0] ![0, 0, 0, 0] (extractStridedSlice S64x2x16x16 ![0, 0, 0, 0] w slices_S64x16x16x16_S64x2x16x16_0_0_0_0) (sitofp (F := Ideal) .bf16 (constantI S_ 32 0#32)) pads_S64x2x16x16_S64x16x16x16_000_1400_000_000 h_S_) = lagF 14 w
    ∧ broadcastInDim S64x16x16x1x16 ![0, 1, 2, 4] bcast_S64x16x16x16_S64x16x16x1x16_0_1_2_4 (pad S64x16x16x16 ![0, 15, 0, 0] ![0, 0, 0, 0] ![0, 0, 0, 0] (extractStridedSlice S64x1x16x16 ![0, 0, 0, 0] w slices_S64x16x16x16_S64x1x16x16_0_0_0_0) (sitofp (F := Ideal) .bf16 (constantI S_ 32 0#32)) pads_S64x1x16x16_S64x16x16x16_000_1500_000_000 h_S_) = lagF 15 w := by
  refine ⟨?_, ?_, ?_, ?_, ?_, ?_, ?_, ?_, ?_, ?_, ?_, ?_, ?_, ?_, ?_, ?_⟩
  · funext i
    idx_vars i
    pointwise [lagF]
  · funext i
    idx_vars i
    pointwise [lagF]
    exact lag_close (s := 1) (n := 15) (i1 := i1) (by rfl) (fun h => w (ix4 i0 ⟨i1.val - 1, by omega⟩ i2 i4))
  · funext i
    idx_vars i
    pointwise [lagF]
    exact lag_close (s := 2) (n := 14) (i1 := i1) (by rfl) (fun h => w (ix4 i0 ⟨i1.val - 2, by omega⟩ i2 i4))
  · funext i
    idx_vars i
    pointwise [lagF]
    exact lag_close (s := 3) (n := 13) (i1 := i1) (by rfl) (fun h => w (ix4 i0 ⟨i1.val - 3, by omega⟩ i2 i4))
  · funext i
    idx_vars i
    pointwise [lagF]
    exact lag_close (s := 4) (n := 12) (i1 := i1) (by rfl) (fun h => w (ix4 i0 ⟨i1.val - 4, by omega⟩ i2 i4))
  · funext i
    idx_vars i
    pointwise [lagF]
    exact lag_close (s := 5) (n := 11) (i1 := i1) (by rfl) (fun h => w (ix4 i0 ⟨i1.val - 5, by omega⟩ i2 i4))
  · funext i
    idx_vars i
    pointwise [lagF]
    exact lag_close (s := 6) (n := 10) (i1 := i1) (by rfl) (fun h => w (ix4 i0 ⟨i1.val - 6, by omega⟩ i2 i4))
  · funext i
    idx_vars i
    pointwise [lagF]
    exact lag_close (s := 7) (n := 9) (i1 := i1) (by rfl) (fun h => w (ix4 i0 ⟨i1.val - 7, by omega⟩ i2 i4))
  · funext i
    idx_vars i
    pointwise [lagF]
    exact lag_close (s := 8) (n := 8) (i1 := i1) (by rfl) (fun h => w (ix4 i0 ⟨i1.val - 8, by omega⟩ i2 i4))
  · funext i
    idx_vars i
    pointwise [lagF]
    exact lag_close (s := 9) (n := 7) (i1 := i1) (by rfl) (fun h => w (ix4 i0 ⟨i1.val - 9, by omega⟩ i2 i4))
  · funext i
    idx_vars i
    pointwise [lagF]
    exact lag_close (s := 10) (n := 6) (i1 := i1) (by rfl) (fun h => w (ix4 i0 ⟨i1.val - 10, by omega⟩ i2 i4))
  · funext i
    idx_vars i
    pointwise [lagF]
    exact lag_close (s := 11) (n := 5) (i1 := i1) (by rfl) (fun h => w (ix4 i0 ⟨i1.val - 11, by omega⟩ i2 i4))
  · funext i
    idx_vars i
    pointwise [lagF]
    exact lag_close (s := 12) (n := 4) (i1 := i1) (by rfl) (fun h => w (ix4 i0 ⟨i1.val - 12, by omega⟩ i2 i4))
  · funext i
    idx_vars i
    pointwise [lagF]
    exact lag_close (s := 13) (n := 3) (i1 := i1) (by rfl) (fun h => w (ix4 i0 ⟨i1.val - 13, by omega⟩ i2 i4))
  · funext i
    idx_vars i
    pointwise [lagF]
    exact lag_close (s := 14) (n := 2) (i1 := i1) (by rfl) (fun h => w (ix4 i0 ⟨i1.val - 14, by omega⟩ i2 i4))
  · funext i
    idx_vars i
    pointwise [lagF]
    exact lag_close (s := 15) (n := 1) (i1 := i1) (by rfl) (fun h => w (ix4 i0 ⟨i1.val - 15, by omega⟩ i2 i4))

theorem cat_lag (f : Fin 16 → FVec Ideal S64x16x16x1x16 .bf16) (h : Shape.Concatenates [S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16] S64x16x16x16x16 3) (i : S64x16x16x16x16.Idx) :
    concatenate S64x16x16x16x16 3 [⟨S64x16x16x1x16, f 0⟩, ⟨S64x16x16x1x16, f 1⟩, ⟨S64x16x16x1x16, f 2⟩, ⟨S64x16x16x1x16, f 3⟩, ⟨S64x16x16x1x16, f 4⟩, ⟨S64x16x16x1x16, f 5⟩, ⟨S64x16x16x1x16, f 6⟩, ⟨S64x16x16x1x16, f 7⟩, ⟨S64x16x16x1x16, f 8⟩, ⟨S64x16x16x1x16, f 9⟩, ⟨S64x16x16x1x16, f 10⟩, ⟨S64x16x16x1x16, f 11⟩, ⟨S64x16x16x1x16, f 12⟩, ⟨S64x16x16x1x16, f 13⟩, ⟨S64x16x16x1x16, f 14⟩, ⟨S64x16x16x1x16, f 15⟩] h i = f (i 3) (ix5 (i 0) (i 1) (i 2) 0 (i 4)) :=
  concatenate_ofFn_apply (s₁ := S64x16x16x1x16) (t := S64x16x16x16x16) 3 f h rfl 1 rfl i (i 3) (Nat.div_one _)
    (ix5 (i 0) (i 1) (i 2) 0 (i 4)) (Nat.mod_one (i 3).val).symm (fun b hb => by
      fin_cases b
      · rfl
      · rfl
      · rfl
      · exact absurd rfl hb
      · rfl)

/-- Entry `(p, q)` of a group's lower block-triangular matrix of convolution kernels, transposed. -/
def TM (w : FVec Ideal S64x16x16x16 .bf16) (G : Fin 64) (p q : Fin 256) : EReal :=
  lagF ⟨p.val / 16, by omega⟩ w (ix5 G ⟨q.val / 16, by omega⟩ ⟨q.val % 16, by omega⟩ 0 ⟨p.val % 16, by omega⟩)

theorem untoep (Z : FVec Ideal S64x16x16x16x16 .bf16) (G : Fin 64) (p q : Fin 256) :
    transpose S64x256x256 [0, 2, 1] (shapeCast S64x256x256 Z shapeCasts_S64x16x16x16x16_S64x256x256) transposes_S64x256x256_S64x256x256_0_2_1 (ix3 G p q)
      = Z (ix5 G ⟨q.val / 16, by omega⟩ ⟨q.val % 16, by omega⟩ ⟨p.val / 16, by omega⟩ ⟨p.val % 16, by omega⟩) := by
  pointwise []

theorem toep (w : FVec Ideal S64x16x16x16 .bf16) (z0 z1 z2 z3 z4 z5 z6 z7 z8 z9 z10 z11 z12 z13 z14 z15 : FVec Ideal S64x16x16x1x16 .bf16) (h0 : z0 = lagF 0 w) (h1 : z1 = lagF 1 w) (h2 : z2 = lagF 2 w) (h3 : z3 = lagF 3 w) (h4 : z4 = lagF 4 w) (h5 : z5 = lagF 5 w) (h6 : z6 = lagF 6 w) (h7 : z7 = lagF 7 w) (h8 : z8 = lagF 8 w) (h9 : z9 = lagF 9 w) (h10 : z10 = lagF 10 w) (h11 : z11 = lagF 11 w) (h12 : z12 = lagF 12 w) (h13 : z13 = lagF 13 w) (h14 : z14 = lagF 14 w) (h15 : z15 = lagF 15 w)
    (h : Shape.Concatenates [S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16] S64x16x16x16x16 3) (G : Fin 64) (p q : Fin 256) :
    transpose S64x256x256 [0, 2, 1] (shapeCast S64x256x256 (concatenate S64x16x16x16x16 3 [⟨S64x16x16x1x16, z0⟩, ⟨S64x16x16x1x16, z1⟩, ⟨S64x16x16x1x16, z2⟩, ⟨S64x16x16x1x16, z3⟩, ⟨S64x16x16x1x16, z4⟩, ⟨S64x16x16x1x16, z5⟩, ⟨S64x16x16x1x16, z6⟩, ⟨S64x16x16x1x16, z7⟩, ⟨S64x16x16x1x16, z8⟩, ⟨S64x16x16x1x16, z9⟩, ⟨S64x16x16x1x16, z10⟩, ⟨S64x16x16x1x16, z11⟩, ⟨S64x16x16x1x16, z12⟩, ⟨S64x16x16x1x16, z13⟩, ⟨S64x16x16x1x16, z14⟩, ⟨S64x16x16x1x16, z15⟩] h) shapeCasts_S64x16x16x16x16_S64x256x256) transposes_S64x256x256_S64x256x256_0_2_1 (ix3 G p q)
      = TM w G p q := by
  subst h0 h1 h2 h3 h4 h5 h6 h7 h8 h9 h10 h11 h12 h13 h14 h15
  exact (untoep _ G p q).trans (cat_lag (fun s => lagF s w) h _)

theorem V50 (G : Fin 64) (p q : Fin 256) :
    (V m c main_v50 : FVec Ideal S64x256x256 .bf16) (ix3 G p q) = TM (m ((c : Thread nD τ).loc main_arg6) : FVec Ideal S64x16x16x16 .f32) G p q := by
  unfold V
  after_reads_simp
  obtain ⟨e0, e1, e2, e3, e4, e5, e6, e7, e8, e9, e10, e11, e12, e13, e14, e15⟩ := lags (m ((c : Thread nD τ).loc main_arg6) : FVec Ideal S64x16x16x16 .f32)
  refine toep (m ((c : Thread nD τ).loc main_arg6) : FVec Ideal S64x16x16x16 .f32) _ _ _ _ _ _ _ _ _ _ _ _ _ _ _ _ ?_ ?_ ?_ ?_ ?_ ?_ ?_ ?_ ?_ ?_ ?_ ?_ ?_ ?_ ?_ ?_ _ G p q
  · simp only [Matrix.cons_val]
    after_reads_simp
    exact e0
  · simp only [Matrix.cons_val]
    after_reads_simp
    exact e1
  · simp only [Matrix.cons_val]
    after_reads_simp
    exact e2
  · simp only [Matrix.cons_val]
    after_reads_simp
    exact e3
  · simp only [Matrix.cons_val]
    after_reads_simp
    exact e4
  · simp only [Matrix.cons_val]
    after_reads_simp
    exact e5
  · simp only [Matrix.cons_val]
    after_reads_simp
    exact e6
  · simp only [Matrix.cons_val]
    after_reads_simp
    exact e7
  · simp only [Matrix.cons_val]
    after_reads_simp
    exact e8
  · simp only [Matrix.cons_val]
    after_reads_simp
    exact e9
  · simp only [Matrix.cons_val]
    after_reads_simp
    exact e10
  · simp only [Matrix.cons_val]
    after_reads_simp
    exact e11
  · simp only [Matrix.cons_val]
    after_reads_simp
    exact e12
  · simp only [Matrix.cons_val]
    after_reads_simp
    exact e13
  · simp only [Matrix.cons_val]
    after_reads_simp
    exact e14
  · simp only [Matrix.cons_val]
    after_reads_simp
    exact e15

theorem V52 (G : Fin 64) (p : Fin 256) (q : Fin 128) :
    (V m c main_v52 : FVec Ideal S64x256x128 .bf16) (ix3 G p q) = (m ((c : Thread nD τ).loc main_arg8) : FVec Ideal S64x128x256 .f32) (ix3 G q p) := by
  unfold V
  after_reads_at

theorem V53 (a : Fin 1) (q : Fin 1024) :
    (V m c main_v53 : FVec Ideal S1x1024 .f32) (ix2 a q) = (m ((c : Thread nD τ).loc main_arg9) : FVec Ideal S1024 .f32) (ix1 q) := by
  unfold V
  after_reads_at

end Cert.K.S5b

end
-- ==== Proof.K.S5bOut.lean ====
/- The recurrence's block gradient: what its outputs hold as formulas of the arguments. -/
module

public import proofs.«01_k».proof.Proof.K.S5b
public import proofs.«01_k».proof.Proof.K.S5bHost

@[expose] public section

set_option maxRecDepth 16384

noncomputable section

namespace Cert.K.S5b

open Idealize.ShloMosaic Idealize.ShloMosaic.TcCoe Idealize.SL.Sem Cert.S5bIdeal Cert.S5bIdeal.Gen

variable (m : (ℓ : Loc nD τ sig) → Buf (Elt Ideal) ℓ) (c : Dev nD)

/-- Lane `k` of column tile `t` of a row-major activation. -/
def col (t : Fin cfg0.N) (k : Fin 128) : Fin 1024 :=
  ⟨t.val * 128 + k.val, by have := lt_of_lt_of_eq t.isLt (show cfg0.N = 8 from N_0); omega⟩

/-- Lane `k` of column tile `t` of a state. -/
def scol (t : Fin cfg0.N) (k : Fin 512) : Fin 4096 :=
  ⟨t.val * 512 + k.val, by have := lt_of_lt_of_eq t.isLt (show cfg0.N = 8 from N_0); omega⟩

/-- Group `g` of grid point `t`. -/
def grp (t : Fin cfg0.N) (g : Fin 8) : Fin 64 :=
  ⟨t.val * 8 + g.val, by have := lt_of_lt_of_eq t.isLt (show cfg0.N = 8 from N_0); omega⟩

theorem blk0 (t : Fin cfg0.N) (a : Fin 8192) (k : Fin 128) : iblk m c 0 t (ix2 a k) = (m ((c : Thread nD τ).loc main_arg0)) (ix2 a (col t k)) := by
  blk_ext [iblk, V, idx t, col]

theorem blk1 (t : Fin cfg0.N) (a : Fin 8192) (k : Fin 128) : iblk m c 1 t (ix2 a k) = (m ((c : Thread nD τ).loc main_arg1)) (ix2 a (col t k)) := by
  blk_ext [iblk, V, idx t, col]

theorem blk2 (t : Fin cfg0.N) (a : Fin 512) (k : Fin 512) : iblk m c 2 t (ix2 a k) = (m ((c : Thread nD τ).loc main_arg2)) (ix2 a (scol t k)) := by
  blk_ext [iblk, V, idx t, scol]

theorem blk3 (t : Fin cfg0.N) (a : Fin 512) (k : Fin 512) : iblk m c 3 t (ix2 a k) = (m ((c : Thread nD τ).loc main_arg3)) (ix2 a (scol t k)) := by
  blk_ext [iblk, V, idx t, scol]

theorem blk4 (t : Fin cfg0.N) (a : Fin 512) (k : Fin 512) : iblk m c 4 t (ix2 a k) = (m ((c : Thread nD τ).loc main_arg4)) (ix2 a (scol t k)) := by
  blk_ext [iblk, V, idx t, scol]

theorem blk5 (t : Fin cfg0.N) (a : Fin 512) (k : Fin 512) : iblk m c 5 t (ix2 a k) = (m ((c : Thread nD τ).loc main_arg5)) (ix2 a (scol t k)) := by
  blk_ext [iblk, V, idx t, scol]

theorem blk6 (t : Fin cfg0.N) (g : Fin 8) (p q : Fin 256) :
    iblk m c 6 t (ix3 g p q) = TM ((m ((c : Thread nD τ).loc main_arg6)) : FVec Ideal S64x16x16x16 .f32) (grp t g) p q := by
  refine Eq.trans (b := (V m c main_v50 : FVec Ideal S64x256x256 .bf16) (ix3 (grp t g) p q)) ?_ (V50 m c _ p q)
  blk_ext [iblk, idx t, grp]

theorem blk7 (t : Fin cfg0.N) (g : Fin 8) (p : Fin 256) (q : Fin 128) :
    iblk m c 7 t (ix3 g p q) = ((m ((c : Thread nD τ).loc main_arg8)) : FVec Ideal S64x128x256 .f32) (ix3 (grp t g) q p) := by
  refine Eq.trans (b := (V m c main_v52 : FVec Ideal S64x256x128 .bf16) (ix3 (grp t g) p q)) ?_ (V52 m c _ p q)
  blk_ext [iblk, idx t, grp]

theorem blk8 (t : Fin cfg0.N) (a : Fin 1) (q : Fin 128) :
    iblk m c 8 t (ix2 a q) = ((m ((c : Thread nD τ).loc main_arg9)) : FVec Ideal S1024 .f32) (ix1 (col t q)) := by
  refine Eq.trans (b := (V m c main_v53 : FVec Ideal S1x1024 .f32) (ix2 a (col t q))) ?_ (V53 m c a _)
  blk_ext [iblk, idx t, col]

theorem emb9 (t : Fin cfg0.N) (a : Fin 8192) (k : Fin 128) :
    ((View.whole main_v54_0).slice (win0_9.rect t)).emb (ix2 a k) = ix2 a (col t k) := by
  blk_ext [idx t, col]

theorem emb10 (t : Fin cfg0.N) (g : Fin 8) (p : Fin 256) (q : Fin 16) :
    ((View.whole main_v54_1).slice (win0_10.rect t)).emb (ix3 g p q) = ix3 (grp t g) p q := by
  blk_ext [idx t, grp]

theorem emb11 (t : Fin cfg0.N) (g : Fin 8) (p : Fin 256) (q : Fin 128) :
    ((View.whole main_v54_2).slice (win0_11.rect t)).emb (ix3 g p q) = ix3 (grp t g) p q := by
  blk_ext [idx t, grp]

theorem emb12 (t : Fin cfg0.N) (g : Fin 8) (p : Fin 128) (q : Fin 256) :
    ((View.whole main_v54_3).slice (win0_12.rect t)).emb (ix3 g p q) = ix3 (grp t g) p q := by
  blk_ext [idx t, grp]

theorem emb13 (t : Fin cfg0.N) (a : Fin 1) (k : Fin 128) :
    ((View.whole main_v54_4).slice (win0_13.rect t)).emb (ix2 a k) = ix2 a (col t k) := by
  blk_ext [idx t, col]

/-- Row `p` of a group's matrix, positions then channels, at block `b`. -/
def GM (v : FVec Ideal S8192x1024 .f32) (G : Fin 64) (p : Fin 256) (b : Fin 512) : EReal :=
  v (ix2 (brow b ⟨p.val / 16, by omega⟩) ⟨G.val * 16 + p.val % 16, by omega⟩)

/-- Row `k` of a group's states, real parts then imaginary parts, at block `b`. -/
def HM (x y : FVec Ideal S512x4096 .f32) (G : Fin 64) (k : Fin 128) (b : Fin 512) : EReal :=
  if h : k.val < 64 then x (ix2 b ⟨G.val * 64 + k.val, by omega⟩) else y (ix2 b ⟨G.val * 64 + (k.val - 64), by omega⟩)

theorem gm_dy (t : Fin cfg0.N) (g : Fin 8) (p : Fin 256) (b : Fin 512) : gm g (iblk m c 0 t) (ix2 p b) = GM (m ((c : Thread nD τ).loc main_arg0)) (grp t g) p b :=
  (blk0 m c t _ _).trans (congrArg (m ((c : Thread nD τ).loc main_arg0)) (congrArg₂ ix2 rfl (Fin.ext (by change t.val * 128 + (g.val * 16 + p.val % 16) = (t.val * 8 + g.val) * 16 + p.val % 16; ring))))

theorem gm_u (t : Fin cfg0.N) (g : Fin 8) (p : Fin 256) (b : Fin 512) : gm g (iblk m c 1 t) (ix2 p b) = GM (m ((c : Thread nD τ).loc main_arg1)) (grp t g) p b :=
  (blk1 m c t _ _).trans (congrArg (m ((c : Thread nD τ).loc main_arg1)) (congrArg₂ ix2 rfl (Fin.ext (by change t.val * 128 + (g.val * 16 + p.val % 16) = (t.val * 8 + g.val) * 16 + p.val % 16; ring))))

theorem hm_h (t : Fin cfg0.N) (g : Fin 8) (k : Fin 128) (b : Fin 512) : hm g (iblk m c 2 t) (iblk m c 3 t) (ix2 k b) = HM (m ((c : Thread nD τ).loc main_arg2)) (m ((c : Thread nD τ).loc main_arg3)) (grp t g) k b := by
  unfold hm HM
  by_cases h : k.val < 64
  · rw [dif_pos (show ((ix2 k b : S128x512.Idx) 0).val < 64 from h), dif_pos h]
    exact (blk2 m c t _ _).trans (congrArg (m ((c : Thread nD τ).loc main_arg2)) (congrArg₂ ix2 rfl (Fin.ext (by simp only [scol, slane, grp]; change _ + (_ + k.val) = _; ring))))
  · rw [dif_neg (show ¬ ((ix2 k b : S128x512.Idx) 0).val < 64 from h), dif_neg h]
    exact (blk3 m c t _ _).trans (congrArg (m ((c : Thread nD τ).loc main_arg3)) (congrArg₂ ix2 rfl (Fin.ext (by simp only [scol, slane, grp]; change _ + (_ + (k.val - 64)) = _; ring))))

theorem hm_dx (t : Fin cfg0.N) (g : Fin 8) (k : Fin 128) (b : Fin 512) : hm g (iblk m c 4 t) (iblk m c 5 t) (ix2 k b) = HM (m ((c : Thread nD τ).loc main_arg4)) (m ((c : Thread nD τ).loc main_arg5)) (grp t g) k b := by
  unfold hm HM
  by_cases h : k.val < 64
  · rw [dif_pos (show ((ix2 k b : S128x512.Idx) 0).val < 64 from h), dif_pos h]
    exact (blk4 m c t _ _).trans (congrArg (m ((c : Thread nD τ).loc main_arg4)) (congrArg₂ ix2 rfl (Fin.ext (by simp only [scol, slane, grp]; change _ + (_ + k.val) = _; ring))))
  · rw [dif_neg (show ¬ ((ix2 k b : S128x512.Idx) 0).val < 64 from h), dif_neg h]
    exact (blk5 m c t _ _).trans (congrArg (m ((c : Thread nD τ).loc main_arg5)) (congrArg₂ ix2 rfl (Fin.ext (by simp only [scol, slane, grp]; change _ + (_ + (k.val - 64)) = _; ring))))

/-- The gradient through a group's matrices: the transposed convolution of the cotangent and the projection back of the states' gradient. -/
def DP (dy : FVec Ideal S8192x1024 .f32) (dxre dxim : FVec Ideal S512x4096 .f32) (kern : FVec Ideal S64x16x16x16 .f32) (bpt : FVec Ideal S64x128x256 .f32) (G : Fin 64) (p : Fin 256) (b : Fin 512) : EReal :=
  ∑ k : Fin 256, TM kern G p k * GM dy G k b + ∑ k : Fin 128, bpt (ix3 G k p) * HM dxre dxim G k b

/-- The input's gradient. -/
def T9 (dy : FVec Ideal S8192x1024 .f32) (dxre dxim : FVec Ideal S512x4096 .f32) (kern : FVec Ideal S64x16x16x16 .f32) (bpt : FVec Ideal S64x128x256 .f32) (d : FVec Ideal S1024 .f32) : FVec Ideal S8192x1024 .f32 := fun i =>
  DP dy dxre dxim kern bpt ⟨(i 1).val / 16, by have := (i 1).isLt; simp at this; omega⟩ ⟨(i 0).val % 16 * 16 + (i 1).val % 16, by omega⟩
      ⟨(i 0).val / 16, by have := (i 0).isLt; simp at this; omega⟩
    + d (ix1 (i 1)) * dy i

/-- The convolution kernel's gradient. -/
def T10 (dy : FVec Ideal S8192x1024 .f32) (u : FVec Ideal S8192x1024 .f32) : FVec Ideal S64x256x16 .f32 := fun i =>
  ∑ s : Fin 16, if h : (i 1).val < 256 - 16 * s.val then
    ∑ b : Fin 512, GM dy (i 0) ⟨16 * s.val + (i 1).val, by omega⟩ b * GM u (i 0) ⟨16 * s.val + (i 2).val, by have := (i 2).isLt; simp at this; omega⟩ b else 0

/-- The output projection's gradient. -/
def T11 (dy : FVec Ideal S8192x1024 .f32) (hre him : FVec Ideal S512x4096 .f32) : FVec Ideal S64x256x128 .f32 := fun i =>
  ∑ b : Fin 512, GM dy (i 0) (i 1) b * HM hre him (i 0) (i 2) b

/-- The input projection's gradient. -/
def T12 (u : FVec Ideal S8192x1024 .f32) (dxre dxim : FVec Ideal S512x4096 .f32) : FVec Ideal S64x128x256 .f32 := fun i =>
  ∑ b : Fin 512, HM dxre dxim (i 0) (i 1) b * GM u (i 0) (i 2) b

/-- The direct term's gradient. -/
def T13 (dy : FVec Ideal S8192x1024 .f32) (u : FVec Ideal S8192x1024 .f32) : FVec Ideal S1x1024 .f32 := fun i =>
  ∑ r : Fin 16, ∑ b : Fin 512, dy (ix2 (brow b r) (i 1)) * u (ix2 (brow b r) (i 1))

end Cert.K.S5b

end
-- ==== Proof.K.S5bFin.lean ====
/- The recurrence's block gradient: its five outputs. -/
module

public import proofs.«01_k».proof.Proof.K.S5bOut

@[expose] public section

set_option maxRecDepth 16384

noncomputable section

namespace Cert.K.S5b

open Idealize.ShloMosaic Idealize.ShloMosaic.TcCoe Idealize.SL.Sem Cert.S5bIdeal Cert.S5bIdeal.Gen

variable (m : (ℓ : Loc nD τ sig) → Buf (Elt Ideal) ℓ) (c : Dev nD)

theorem out10 (t : Fin cfg0.N) (g : Fin 8) (p : Fin 256) (i : Fin 16) :
    ∑ s, sh (kk g (iblk m c 0 t) (iblk m c 1 t)) s p i = T10 (m ((c : Thread nD τ).loc main_arg0)) (m ((c : Thread nD τ).loc main_arg1)) (ix3 (grp t g) p i) := by
  refine Finset.sum_congr rfl fun s _ => ?_
  change (if h : p.val < 256 - 16 * s.val then ∑ b : Fin 512, gm g (iblk m c 0 t) (ix2 ⟨16 * s.val + p.val, by omega⟩ b) * gm g (iblk m c 1 t) (ix2 ⟨16 * s.val + i.val, by omega⟩ b) else 0)
    = if h : p.val < 256 - 16 * s.val then ∑ b : Fin 512, GM (m ((c : Thread nD τ).loc main_arg0)) (grp t g) ⟨16 * s.val + p.val, by omega⟩ b * GM (m ((c : Thread nD τ).loc main_arg1)) (grp t g) ⟨16 * s.val + i.val, by omega⟩ b else 0
  simp only [gm_dy, gm_u]

theorem out11 (t : Fin cfg0.N) (g : Fin 8) (p : Fin 256) (n : Fin 128) :
    mm (gm g (iblk m c 0 t)) (hm g (iblk m c 2 t) (iblk m c 3 t)) p n = T11 (m ((c : Thread nD τ).loc main_arg0)) (m ((c : Thread nD τ).loc main_arg2)) (m ((c : Thread nD τ).loc main_arg3)) (ix3 (grp t g) p n) :=
  Finset.sum_congr rfl fun b _ => congrArg₂ (· * ·) (gm_dy m c t g p b) (hm_h m c t g n b)

theorem out12 (t : Fin cfg0.N) (g : Fin 8) (n : Fin 128) (p : Fin 256) :
    mm (hm g (iblk m c 4 t) (iblk m c 5 t)) (gm g (iblk m c 1 t)) n p = T12 (m ((c : Thread nD τ).loc main_arg1)) (m ((c : Thread nD τ).loc main_arg4)) (m ((c : Thread nD τ).loc main_arg5)) (ix3 (grp t g) n p) :=
  Finset.sum_congr rfl fun b _ => congrArg₂ (· * ·) (hm_dx m c t g n b) (gm_u m c t g p b)

theorem dp_out (t : Fin cfg0.N) (g : Fin 8) (p : Fin 256) (b : Fin 512) :
    dp g (iblk m c 0 t) (iblk m c 4 t) (iblk m c 5 t) (iblk m c 6 t) (iblk m c 7 t) (ix2 p b) = DP (m ((c : Thread nD τ).loc main_arg0)) (m ((c : Thread nD τ).loc main_arg4)) (m ((c : Thread nD τ).loc main_arg5)) (m ((c : Thread nD τ).loc main_arg6)) (m ((c : Thread nD τ).loc main_arg8)) (grp t g) p b :=
  congrArg₂ (· + ·) (Finset.sum_congr rfl fun k _ => congrArg₂ (· * ·) (blk6 m c t g p k) (gm_dy m c t g k b))
    (Finset.sum_congr rfl fun k _ => congrArg₂ (· * ·) (blk7 m c t g p k) (hm_dx m c t g k b))

theorem final11 : (dats m 0 c).arrAt 11 cfg0.N = T11 (m ((c : Thread nD τ).loc main_arg0)) (m ((c : Thread nD τ).loc main_arg2)) (m ((c : Thread nD τ).loc main_arg3)) := by
  refine (dats m 0 c).arrAt_eq_of_covers 11 _ (by decide +kernel) fun t hf y => ?_
  blk_simp
  rw [after0_11]
  unfold outsAt0
  frame_out
  idx_vars y
  rw [emb11]
  simp only [rows_dy, rows_u, mats_dy, mats_u, mats_h, mats_dx]
  canon_tiles x h
  · obtain rfl : y0 = 7 := Fin.ext (by have e : y0.val = 7 + (x 0).val := h0; have := x0_lt; simp only [Nat.lt_one_iff] at this; rw [e, this]; rfl)
    obtain rfl : y1 = x 1 := Fin.ext h1
    obtain rfl : y2 = x 2 := Fin.ext h2
    exact (prod_c 7 _ _ _ x).trans (out11 m c t 7 _ _)
  · obtain rfl : y0 = 6 := Fin.ext (by have e : y0.val = 6 + (x 0).val := h0; have := x0_lt; simp only [Nat.lt_one_iff] at this; rw [e, this]; rfl)
    obtain rfl : y1 = x 1 := Fin.ext h1
    obtain rfl : y2 = x 2 := Fin.ext h2
    exact (prod_c 6 _ _ _ x).trans (out11 m c t 6 _ _)
  · obtain rfl : y0 = 5 := Fin.ext (by have e : y0.val = 5 + (x 0).val := h0; have := x0_lt; simp only [Nat.lt_one_iff] at this; rw [e, this]; rfl)
    obtain rfl : y1 = x 1 := Fin.ext h1
    obtain rfl : y2 = x 2 := Fin.ext h2
    exact (prod_c 5 _ _ _ x).trans (out11 m c t 5 _ _)
  · obtain rfl : y0 = 4 := Fin.ext (by have e : y0.val = 4 + (x 0).val := h0; have := x0_lt; simp only [Nat.lt_one_iff] at this; rw [e, this]; rfl)
    obtain rfl : y1 = x 1 := Fin.ext h1
    obtain rfl : y2 = x 2 := Fin.ext h2
    exact (prod_c 4 _ _ _ x).trans (out11 m c t 4 _ _)
  · obtain rfl : y0 = 3 := Fin.ext (by have e : y0.val = 3 + (x 0).val := h0; have := x0_lt; simp only [Nat.lt_one_iff] at this; rw [e, this]; rfl)
    obtain rfl : y1 = x 1 := Fin.ext h1
    obtain rfl : y2 = x 2 := Fin.ext h2
    exact (prod_c 3 _ _ _ x).trans (out11 m c t 3 _ _)
  · obtain rfl : y0 = 2 := Fin.ext (by have e : y0.val = 2 + (x 0).val := h0; have := x0_lt; simp only [Nat.lt_one_iff] at this; rw [e, this]; rfl)
    obtain rfl : y1 = x 1 := Fin.ext h1
    obtain rfl : y2 = x 2 := Fin.ext h2
    exact (prod_c 2 _ _ _ x).trans (out11 m c t 2 _ _)
  · obtain rfl : y0 = 1 := Fin.ext (by have e : y0.val = 1 + (x 0).val := h0; have := x0_lt; simp only [Nat.lt_one_iff] at this; rw [e, this]; rfl)
    obtain rfl : y1 = x 1 := Fin.ext h1
    obtain rfl : y2 = x 2 := Fin.ext h2
    exact (prod_c 1 _ _ _ x).trans (out11 m c t 1 _ _)
  · obtain rfl : y0 = 0 := Fin.ext (by have e : y0.val = 0 + (x 0).val := h0.trans (Nat.zero_add _).symm; have := x0_lt; simp only [Nat.lt_one_iff] at this; rw [e, this]; rfl)
    obtain rfl : y1 = x 1 := Fin.ext h1
    obtain rfl : y2 = x 2 := Fin.ext h2
    exact (prod_c 0 _ _ _ x).trans (out11 m c t 0 _ _)

theorem final12 : (dats m 0 c).arrAt 12 cfg0.N = T12 (m ((c : Thread nD τ).loc main_arg1)) (m ((c : Thread nD τ).loc main_arg4)) (m ((c : Thread nD τ).loc main_arg5)) := by
  refine (dats m 0 c).arrAt_eq_of_covers 12 _ (by decide +kernel) fun t hf y => ?_
  blk_simp
  rw [after0_12]
  unfold outsAt0
  frame_out
  idx_vars y
  rw [emb12]
  simp only [rows_dy, rows_u, mats_dy, mats_u, mats_h, mats_dx]
  canon_tiles x h
  · obtain rfl : y0 = 7 := Fin.ext (by have e : y0.val = 7 + (x 0).val := h0; have := x0_lt; simp only [Nat.lt_one_iff] at this; rw [e, this]; rfl)
    obtain rfl : y1 = x 1 := Fin.ext h1
    obtain rfl : y2 = x 2 := Fin.ext h2
    exact (prod_b 7 _ _ _ x).trans (out12 m c t 7 _ _)
  · obtain rfl : y0 = 6 := Fin.ext (by have e : y0.val = 6 + (x 0).val := h0; have := x0_lt; simp only [Nat.lt_one_iff] at this; rw [e, this]; rfl)
    obtain rfl : y1 = x 1 := Fin.ext h1
    obtain rfl : y2 = x 2 := Fin.ext h2
    exact (prod_b 6 _ _ _ x).trans (out12 m c t 6 _ _)
  · obtain rfl : y0 = 5 := Fin.ext (by have e : y0.val = 5 + (x 0).val := h0; have := x0_lt; simp only [Nat.lt_one_iff] at this; rw [e, this]; rfl)
    obtain rfl : y1 = x 1 := Fin.ext h1
    obtain rfl : y2 = x 2 := Fin.ext h2
    exact (prod_b 5 _ _ _ x).trans (out12 m c t 5 _ _)
  · obtain rfl : y0 = 4 := Fin.ext (by have e : y0.val = 4 + (x 0).val := h0; have := x0_lt; simp only [Nat.lt_one_iff] at this; rw [e, this]; rfl)
    obtain rfl : y1 = x 1 := Fin.ext h1
    obtain rfl : y2 = x 2 := Fin.ext h2
    exact (prod_b 4 _ _ _ x).trans (out12 m c t 4 _ _)
  · obtain rfl : y0 = 3 := Fin.ext (by have e : y0.val = 3 + (x 0).val := h0; have := x0_lt; simp only [Nat.lt_one_iff] at this; rw [e, this]; rfl)
    obtain rfl : y1 = x 1 := Fin.ext h1
    obtain rfl : y2 = x 2 := Fin.ext h2
    exact (prod_b 3 _ _ _ x).trans (out12 m c t 3 _ _)
  · obtain rfl : y0 = 2 := Fin.ext (by have e : y0.val = 2 + (x 0).val := h0; have := x0_lt; simp only [Nat.lt_one_iff] at this; rw [e, this]; rfl)
    obtain rfl : y1 = x 1 := Fin.ext h1
    obtain rfl : y2 = x 2 := Fin.ext h2
    exact (prod_b 2 _ _ _ x).trans (out12 m c t 2 _ _)
  · obtain rfl : y0 = 1 := Fin.ext (by have e : y0.val = 1 + (x 0).val := h0; have := x0_lt; simp only [Nat.lt_one_iff] at this; rw [e, this]; rfl)
    obtain rfl : y1 = x 1 := Fin.ext h1
    obtain rfl : y2 = x 2 := Fin.ext h2
    exact (prod_b 1 _ _ _ x).trans (out12 m c t 1 _ _)
  · obtain rfl : y0 = 0 := Fin.ext (by have e : y0.val = 0 + (x 0).val := h0.trans (Nat.zero_add _).symm; have := x0_lt; simp only [Nat.lt_one_iff] at this; rw [e, this]; rfl)
    obtain rfl : y1 = x 1 := Fin.ext h1
    obtain rfl : y2 = x 2 := Fin.ext h2
    exact (prod_b 0 _ _ _ x).trans (out12 m c t 0 _ _)

theorem final10 : (dats m 0 c).arrAt 10 cfg0.N = T10 (m ((c : Thread nD τ).loc main_arg0)) (m ((c : Thread nD τ).loc main_arg1)) := by
  refine (dats m 0 c).arrAt_eq_of_covers 10 _ (by decide +kernel) fun t hf y => ?_
  blk_simp
  rw [after0_10]
  unfold outsAt0
  frame_open
  simp (disch := decide) only [↓View.readCov_fill, ↓View.readCov_skip]
  frame_out
  idx_vars y
  rw [emb10]
  simp only [rows_dy, rows_u, mats_dy, mats_u, mats_h, mats_dx]
  simp only [mats_k]
  canon_tiles x h
  · obtain rfl : y0 = 7 := Fin.ext (by have e : y0.val = 7 + (x 0).val := h0; have := x0_lt; simp only [Nat.lt_one_iff] at this; rw [e, this]; rfl)
    obtain rfl : y1 = x 1 := Fin.ext h1
    obtain rfl : y2 = x 2 := Fin.ext h2
    exact (chain (kk 7 (iblk m c 0 t) (iblk m c 1 t)) x).trans (out10 m c t 7 _ _)
  · obtain rfl : y0 = 6 := Fin.ext (by have e : y0.val = 6 + (x 0).val := h0; have := x0_lt; simp only [Nat.lt_one_iff] at this; rw [e, this]; rfl)
    obtain rfl : y1 = x 1 := Fin.ext h1
    obtain rfl : y2 = x 2 := Fin.ext h2
    exact (chain (kk 6 (iblk m c 0 t) (iblk m c 1 t)) x).trans (out10 m c t 6 _ _)
  · obtain rfl : y0 = 5 := Fin.ext (by have e : y0.val = 5 + (x 0).val := h0; have := x0_lt; simp only [Nat.lt_one_iff] at this; rw [e, this]; rfl)
    obtain rfl : y1 = x 1 := Fin.ext h1
    obtain rfl : y2 = x 2 := Fin.ext h2
    exact (chain (kk 5 (iblk m c 0 t) (iblk m c 1 t)) x).trans (out10 m c t 5 _ _)
  · obtain rfl : y0 = 4 := Fin.ext (by have e : y0.val = 4 + (x 0).val := h0; have := x0_lt; simp only [Nat.lt_one_iff] at this; rw [e, this]; rfl)
    obtain rfl : y1 = x 1 := Fin.ext h1
    obtain rfl : y2 = x 2 := Fin.ext h2
    exact (chain (kk 4 (iblk m c 0 t) (iblk m c 1 t)) x).trans (out10 m c t 4 _ _)
  · obtain rfl : y0 = 3 := Fin.ext (by have e : y0.val = 3 + (x 0).val := h0; have := x0_lt; simp only [Nat.lt_one_iff] at this; rw [e, this]; rfl)
    obtain rfl : y1 = x 1 := Fin.ext h1
    obtain rfl : y2 = x 2 := Fin.ext h2
    exact (chain (kk 3 (iblk m c 0 t) (iblk m c 1 t)) x).trans (out10 m c t 3 _ _)
  · obtain rfl : y0 = 2 := Fin.ext (by have e : y0.val = 2 + (x 0).val := h0; have := x0_lt; simp only [Nat.lt_one_iff] at this; rw [e, this]; rfl)
    obtain rfl : y1 = x 1 := Fin.ext h1
    obtain rfl : y2 = x 2 := Fin.ext h2
    exact (chain (kk 2 (iblk m c 0 t) (iblk m c 1 t)) x).trans (out10 m c t 2 _ _)
  · obtain rfl : y0 = 1 := Fin.ext (by have e : y0.val = 1 + (x 0).val := h0; have := x0_lt; simp only [Nat.lt_one_iff] at this; rw [e, this]; rfl)
    obtain rfl : y1 = x 1 := Fin.ext h1
    obtain rfl : y2 = x 2 := Fin.ext h2
    exact (chain (kk 1 (iblk m c 0 t) (iblk m c 1 t)) x).trans (out10 m c t 1 _ _)
  · obtain rfl : y0 = 0 := Fin.ext (by have e : y0.val = 0 + (x 0).val := h0.trans (Nat.zero_add _).symm; have := x0_lt; simp only [Nat.lt_one_iff] at this; rw [e, this]; rfl)
    obtain rfl : y1 = x 1 := Fin.ext h1
    obtain rfl : y2 = x 2 := Fin.ext h2
    exact (chain (kk 0 (iblk m c 0 t) (iblk m c 1 t)) x).trans (out10 m c t 0 _ _)

theorem final13 : (dats m 0 c).arrAt 13 cfg0.N = T13 (m ((c : Thread nD τ).loc main_arg0)) (m ((c : Thread nD τ).loc main_arg1)) := by
  refine (dats m 0 c).arrAt_eq_of_covers 13 _ (by decide +kernel) fun t hf y => ?_
  blk_simp
  rw [after0_13]
  unfold outsAt0
  frame_out
  idx_vars y
  rw [emb13]
  simp only [prows_dy, prows_u]
  refine (out_dd _ _ _).trans ?_
  exact Finset.sum_congr rfl fun r _ => Finset.sum_congr rfl fun b _ => congrArg₂ (· * ·) (blk0 m c t _ _) (blk1 m c t _ _)

theorem final9 : (dats m 0 c).arrAt 9 cfg0.N = T9 (m ((c : Thread nD τ).loc main_arg0)) (m ((c : Thread nD τ).loc main_arg4)) (m ((c : Thread nD τ).loc main_arg5)) (m ((c : Thread nD τ).loc main_arg6)) (m ((c : Thread nD τ).loc main_arg8)) (m ((c : Thread nD τ).loc main_arg9)) := by
  refine (dats m 0 c).arrAt_eq_of_covers 9 _ (by decide +kernel) fun t hf y => ?_
  blk_simp
  rw [after0_9]
  unfold outsAt0
  frame_out
  simp only [rows_dy, rows_u, mats_dy, mats_u, mats_h, mats_dx]
  have hp := prods_du (iblk m c 0 t) (iblk m c 4 t) (iblk m c 5 t) (iblk m c 6 t) (iblk m c 7 t)
  simp only [mats_dy, mats_dx] at hp
  simp only [hp]
  simp only [prows_dy]
  simp only [rows_du]
  idx_vars y
  rw [emb9]
  refine (congrFun (out_du (iblk m c 0 t) (iblk m c 4 t) (iblk m c 5 t) (iblk m c 6 t) (iblk m c 7 t) (iblk m c 8 t)) (ix2 y0 y1)).trans ?_
  have hG : grp t ⟨y1.val / 16, by omega⟩ = (⟨(col t y1).val / 16, by have := (col t y1).isLt; omega⟩ : Fin 64) :=
    Fin.ext (by change t.val * 8 + y1.val / 16 = (t.val * 128 + y1.val) / 16; omega)
  have hq : (⟨y0.val % 16 * 16 + y1.val % 16, by omega⟩ : Fin 256) = ⟨y0.val % 16 * 16 + (col t y1).val % 16, by omega⟩ :=
    Fin.ext (by change y0.val % 16 * 16 + y1.val % 16 = y0.val % 16 * 16 + (t.val * 128 + y1.val) % 16; omega)
  have hb : brow ⟨y0.val / 16, by omega⟩ ⟨y0.val % 16, Nat.mod_lt _ (by omega)⟩ = y0 := Fin.ext (Nat.div_add_mod' _ _)
  exact congrArg₂ (· + ·)
    ((dp_out m c t ⟨y1.val / 16, by omega⟩ ⟨y0.val % 16 * 16 + y1.val % 16, by omega⟩ ⟨y0.val / 16, by omega⟩).trans
      (congrArg₂ (fun G p => DP (m ((c : Thread nD τ).loc main_arg0)) (m ((c : Thread nD τ).loc main_arg4)) (m ((c : Thread nD τ).loc main_arg5)) (m ((c : Thread nD τ).loc main_arg6)) (m ((c : Thread nD τ).loc main_arg8)) G p ⟨y0.val / 16, by omega⟩) hG hq))
    (congrArg₂ (· * ·) (blk8 m c t 0 y1) ((blk0 m c t _ _).trans (congrArg (fun z => (m ((c : Thread nD τ).loc main_arg0)) (ix2 z (col t y1))) hb)))

end Cert.K.S5b

end
-- ==== Proof.K.S5bRef.lean ====
/- The recurrence's block gradient: the reference's five results. -/
module

public import proofs.«01_k».proof.Proof.K.S5bOut
public import proofs.«01_k».proof.Proof.Gen.S5bRefIdeal.Run

@[expose] public section

set_option maxRecDepth 16384

noncomputable section

namespace Cert.K.S5b

open Idealize.ShloMosaic Idealize.ShloMosaic.TcCoe Idealize.SL.Sem Cert.S5bRefIdeal Cert.S5bRefIdeal.Gen

variable (m : (ℓ : Loc nD τ sig) → Buf (Elt Ideal) ℓ) (c : Dev nD)

theorem sum256 (f : Fin 256 → EReal) :
    ∑ k, f k = ∑ r : Fin 16, ∑ c : Fin 16, f ⟨16 * r.val + c.val, by omega⟩ := by
  refine ((Equiv.sum_comp (finProdFinEquiv (m := 16) (n := 16)) f).symm.trans (Fintype.sum_prod_type _)).trans ?_
  exact Finset.sum_congr rfl fun r _ => Finset.sum_congr rfl fun c _ => congrArg f (Fin.ext (Nat.add_comm _ _))

/-- The array that marks which position reads which lag. -/
def lagged : FVec Ideal S16x16x16 .f32 := (select (cmpi .eq (broadcastInDim S16x16x16 ![0, 1, 2] bcast_S16x1x1_S16x16x16_0_1_2 (broadcastInDim S16x1x1 ![0] bcast_S16_S16x1x1_0 (iotaInDim S16 32 0))) (broadcastInDim S16x16x16 ![0, 1, 2] bcast_S1x16x16_S16x16x16_0_1_2 (addi (broadcastInDim S1x16x16 ![0, 1, 2] bcast_S1x16x1_S1x16x16_0_1_2 (broadcastInDim S1x16x1 ![1] bcast_S16_S1x16x1_1 (iotaInDim S16 32 0))) (broadcastInDim S1x16x16 ![0, 1, 2] bcast_S1x1x16_S1x16x16_0_1_2 (broadcastInDim S1x1x16 ![2] bcast_S16_S1x1x16_2 (iotaInDim S16 32 0)))))) (broadcastInDim S16x16x16 ![] bcast_S_S16x16x16 (constant S_ .f32 0x3F800000#32)) (broadcastInDim S16x16x16 ![] bcast_S_S16x16x16 (constant S_ .f32 0x00000000#32)))

theorem lagged_at (r s l : Fin 16) : lagged (ix3 r s l) = if r.val = s.val + l.val then 1 else 0 := by
  unfold lagged
  pointwise []
  have h : IntOp.cmpi CmpIPredicate.eq (BitVec.ofNat 32 r.val) (IntOp.addi (BitVec.ofNat 32 s.val) (BitVec.ofNat 32 l.val))
      = if r.val = s.val + l.val then 1#1 else 0#1 := by
    revert r s l; decide +kernel
  rw [h]
  split <;> rfl

/-- A sum in which at most one term is kept. -/
theorem pick (f : Fin 16 → EReal) {P : Prop} [Decidable P] (q : Fin 16 → Prop) [DecidablePred q] (k : P → Fin 16)
    (hk : ∀ s, q s ↔ ∃ h : P, s = k h) : (∑ s, if q s then f s else 0) = if h : P then f (k h) else 0 := by
  by_cases h : P
  · rw [dif_pos h, Finset.sum_eq_single (k h) (fun s _ hs => if_neg fun hq => hs ((hk s).1 hq).2) (fun hn => absurd (Finset.mem_univ _) hn),
      if_pos ((hk _).2 ⟨h, rfl⟩)]
  · rw [dif_neg h]
    exact Finset.sum_eq_zero fun s _ => if_neg fun hq => h ((hk s).1 hq).1

theorem mul_mark (x : EReal) (p : Prop) [Decidable p] : x * (if p then 1 else 0) = if p then x else 0 := by
  split
  · exact mul_one x
  · exact mul_zero x

theorem pick_lag (f : Fin 16 → EReal) (r : Fin 16) (s : Nat) :
    (∑ l : Fin 16, if r.val = s + l.val then f l else 0) = if h : s ≤ r.val then f ⟨r.val - s, by omega⟩ else 0 :=
  pick f _ (fun h => ⟨r.val - s, by omega⟩) fun l =>
    ⟨fun h => ⟨by omega, Fin.ext (by simp only; omega)⟩, fun ⟨h, e⟩ => by subst e; simp only; omega⟩

theorem mul_pick (x : EReal) (f : Fin 16 → EReal) (r : Fin 16) (l : Nat) :
    x * (∑ s : Fin 16, if r.val = s.val + l then f s else 0) = ∑ s : Fin 16, if r.val = s.val + l then x * f s else 0 := by
  have hk (s : Fin 16) : r.val = s.val + l ↔ ∃ h : l ≤ r.val, s = ⟨r.val - l, by omega⟩ :=
    ⟨fun h => ⟨by omega, Fin.ext (by simp only; omega)⟩, fun ⟨h, e⟩ => by subst e; simp only; omega⟩
  rw [pick f _ _ hk, pick (fun s => x * f s) _ _ hk]
  split
  · rfl
  · exact mul_zero x

theorem pick_pos (f : Fin 16 → EReal) (s : Fin 16) (l : Nat) :
    (∑ r : Fin 16, if r.val = s.val + l then f r else 0) = if h : s.val + l < 16 then f ⟨s.val + l, h⟩ else 0 :=
  pick f _ (fun h => ⟨s.val + l, h⟩) fun r =>
    ⟨fun h => ⟨by omega, Fin.ext h⟩, fun ⟨h, e⟩ => by subst e; rfl⟩

/-- The two halves of a state gradient, padded and added, are the joined ones. -/
theorem pad_halves (x y : FVec Ideal S512x4096 .f32) (G : Fin 64) (k : Fin 128) (b : Fin 512) (p q : Prop) [Decidable p] [Decidable q]
    (hp : p ↔ 64 ≤ k.val) (hq : q ↔ k.val < 64) :
    ((if h : p then y (ix2 b ⟨G.val * 64 + (k.val - 64), by omega⟩) else 0)
      + (if h : q then x (ix2 b ⟨G.val * 64 + k.val, by have := hq.1 h; omega⟩) else 0) : EReal) = HM x y G k b := by
  unfold HM
  by_cases h : k.val < 64
  · rw [dif_neg (fun e => by have := hp.1 e; omega), dif_pos (hq.2 h), dif_pos h, zero_add]
  · rw [dif_pos (hp.2 (by omega)), dif_neg (fun e => h (hq.1 e)), dif_neg h, add_zero]

theorem TM_at (w : FVec Ideal S64x16x16x16 .f32) (G : Fin 64) (p q : Fin 256) : TM w G p q
    = if h : p.val / 16 ≤ q.val / 16 then w (ix4 G ⟨q.val / 16 - p.val / 16, by omega⟩ ⟨q.val % 16, by omega⟩ ⟨p.val % 16, by omega⟩) else 0 := rfl

/-- A host sum over the first two of four axes. -/
theorem sum_heads {n0 n1 n2 n3 : Nat} (h : (⟨4, ![n0, n1, n2, n3]⟩ : Shape).ReducesTo [0, 1] ⟨2, ![n2, n3]⟩)
    (v : (⟨4, ![n0, n1, n2, n3]⟩ : Shape).Idx → EReal) (init : EReal) (a : Fin n2) (b : Fin n3) :
    Ideal.hostReduceAdd h v init (ix2 a b) = init + ∑ k0 : Fin n0, ∑ k1 : Fin n1, v (ix4 k0 k1 a b) := by
  refine congrArg (init + ·) ((Finset.sum_filter_eq_sum_of_fiber _ (fun k : Fin n0 × Fin n1 => ix4 k.1 k.2 a b)
    (fun _ _ e => Prod.ext (congrFun e 0) (congrFun e 1)) (fun i => ?_) v).trans (Fintype.sum_prod_type _))
  constructor
  · intro e
    refine ⟨(i 0, i 1), ?_⟩
    funext x; apply Fin.ext
    match x with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext x; apply Fin.ext
    match x with
    | ⟨0, _⟩ => rfl
    | ⟨1, _⟩ => rfl

theorem ref11 (dy : FVec Ideal S8192x1024 .f32) (hre : FVec Ideal S512x4096 .f32) (him : FVec Ideal S512x4096 .f32) :
    shapeCast S64x256x128 (Host.dotGeneral dot_S64x16x16x512_S512x64x128_S64x16x16x128_3_0_12_2_0_1 none (transpose S64x16x16x512 [2, 1, 3, 0] (shapeCast _ dy shapeCasts_S8192x1024_S512x16x64x16) transposes_S512x16x64x16_S64x16x16x512_2_1_3_0) (concatenate S512x64x128 2 [⟨S512x64x64, (shapeCast _ hre shapeCasts_S512x4096_S512x64x64)⟩, ⟨S512x64x64, (shapeCast _ him shapeCasts_S512x4096_S512x64x64)⟩] concatenates_S512x64x64_S512x64x64_S512x64x128_d2)) shapeCasts_S64x16x16x128_S64x256x128 = T11 dy hre him := by
  funext i; idx_vars i
  pointwise []
  rfl

theorem ref12 (u : FVec Ideal S8192x1024 .f32) (dxre : FVec Ideal S512x4096 .f32) (dxim : FVec Ideal S512x4096 .f32) :
    shapeCast S64x128x256 (Host.dotGeneral dot_S64x128x512_S512x16x64x16_S64x128x16x16_2_0_1_13_0_2 none (transpose S64x128x512 [1, 2, 0] (addf (pad S512x64x128 ![0, 0, 64] ![0, 0, 0] ![0, 0, 0] (shapeCast _ dxim shapeCasts_S512x4096_S512x64x64) (constant S_ .f32 0x00000000#32) pads_S512x64x64_S512x64x128_000_000_6400 h_S_) (pad S512x64x128 ![0, 0, 0] ![0, 0, 64] ![0, 0, 0] (shapeCast _ dxre shapeCasts_S512x4096_S512x64x64) (constant S_ .f32 0x00000000#32) pads_S512x64x64_S512x64x128_000_000_0640 h_S_)) transposes_S512x64x128_S64x128x512_1_2_0) (shapeCast _ u shapeCasts_S8192x1024_S512x16x64x16)) shapeCasts_S64x128x16x16_S64x128x256 = T12 u dxre dxim := by
  funext i; idx_vars i
  pointwise []
  exact Finset.sum_congr rfl fun b _ => congrArg (· * _)
    (pad_halves dxre dxim i0 i1 b _ _ ⟨fun h => h.1, fun h => ⟨h, by omega⟩⟩ Iff.rfl)

theorem ref10 (dy : FVec Ideal S8192x1024 .f32) (u : FVec Ideal S8192x1024 .f32) (L : FVec Ideal S16x16x16 .f32) (hL : ∀ r s l : Fin 16, L (ix3 r s l) = if r.val = s.val + l.val then 1 else 0) :
    shapeCast S64x256x16 (transpose S64x16x16x16 [0, 2, 1, 3] (Host.dotGeneral dot_S64x16x512x16_S512x16x16x64x16_S64x16x16x16_23_01_1_24_0_3 none (transpose S64x16x512x16 [2, 3, 0, 1] (shapeCast _ dy shapeCasts_S8192x1024_S512x16x64x16) transposes_S512x16x64x16_S64x16x512x16_2_3_0_1) (transpose S512x16x16x64x16 [0, 3, 4, 1, 2] (Host.dotGeneral dot_S512x16x64x16_S16x16x16_S512x64x16x16x16_1_1_023_02_n_n none (shapeCast _ u shapeCasts_S8192x1024_S512x16x64x16) L) transposes_S512x64x16x16x16_S512x16x16x64x16_0_3_4_1_2)) transposes_S64x16x16x16_S64x16x16x16_0_2_1_3) shapeCasts_S64x16x16x16_S64x256x16 = T10 dy u := by
  funext i; idx_vars i
  pointwise []
  have hi := i1.isLt
  simp only [hL, mul_mark, mul_pick]
  refine (Finset.sum_congr rfl fun b _ => Finset.sum_comm).trans ?_
  simp only [pick_pos]
  refine Finset.sum_comm.trans (Finset.sum_congr rfl fun s _ => ?_)
  change _ = if h : i1.val < 256 - 16 * s.val then ∑ b, GM dy i0 ⟨16 * s.val + i1.val, by omega⟩ b * GM u i0 ⟨16 * s.val + i2.val, by omega⟩ b else 0
  by_cases h : s.val + i1.val / 16 < 16
  · simp only [dif_pos h]
    rw [dif_pos (by omega)]
    refine Finset.sum_congr rfl fun b _ => ?_
    unfold GM brow
    congr 3 <;> exact Fin.ext (by simp only; omega)
  · simp only [dif_neg h]
    rw [dif_neg (by omega)]
    exact Finset.sum_const_zero

theorem ref9 (dy : FVec Ideal S8192x1024 .f32) (dxre : FVec Ideal S512x4096 .f32) (dxim : FVec Ideal S512x4096 .f32) (kern : FVec Ideal S64x16x16x16 .f32) (bpt : FVec Ideal S64x128x256 .f32) (d : FVec Ideal S1024 .f32) (L : FVec Ideal S16x16x16 .f32) (hL : ∀ r s l : Fin 16, L (ix3 r s l) = if r.val = s.val + l.val then 1 else 0) :
    shapeCast S8192x1024 (addf (addf (transpose S512x16x64x16 [1, 2, 0, 3] (Host.dotGeneral dot_S64x128x512_S64x128x16x16_S64x512x16x16_1_1_2_23_0_0 none (transpose S64x128x512 [1, 2, 0] (addf (pad S512x64x128 ![0, 0, 64] ![0, 0, 0] ![0, 0, 0] (shapeCast _ dxim shapeCasts_S512x4096_S512x64x64) (constant S_ .f32 0x00000000#32) pads_S512x64x64_S512x64x128_000_000_6400 h_S_) (pad S512x64x128 ![0, 0, 0] ![0, 0, 64] ![0, 0, 0] (shapeCast _ dxre shapeCasts_S512x4096_S512x64x64) (constant S_ .f32 0x00000000#32) pads_S512x64x64_S512x64x128_000_000_0640 h_S_)) transposes_S512x64x128_S64x128x512_1_2_0) (shapeCast _ bpt shapeCasts_S64x128x256_S64x128x16x16)) transposes_S64x512x16x16_S512x16x64x16_1_2_0_3) (mulf (broadcastInDim S512x16x64x16 ![0, 1, 2, 3] bcast_S1x1x64x16_S512x16x64x16_0_1_2_3 (broadcastInDim S1x1x64x16 ![2, 3] bcast_S64x16_S1x1x64x16_2_3 (shapeCast _ d shapeCasts_S1024_S64x16))) (shapeCast _ dy shapeCasts_S8192x1024_S512x16x64x16))) (transpose S512x16x64x16 [0, 3, 1, 2] (Host.dotGeneral dot_S512x64x16x16x16_S16x16x16_S512x64x16x16_34_02_012_1_n_n none (transpose S512x64x16x16x16 [0, 3, 4, 1, 2] (transpose S512x16x16x64x16 [1, 2, 3, 0, 4] (Host.dotGeneral dot_S64x16x512x16_S64x16x16x16_S64x512x16x16x16_1_2_23_13_0_0 none (transpose S64x16x512x16 [2, 3, 0, 1] (shapeCast _ dy shapeCasts_S8192x1024_S512x16x64x16) transposes_S512x16x64x16_S64x16x512x16_2_3_0_1) kern) transposes_S64x512x16x16x16_S512x16x16x64x16_1_2_3_0_4) transposes_S512x16x16x64x16_S512x64x16x16x16_0_3_4_1_2) L) transposes_S512x64x16x16_S512x16x64x16_0_3_1_2)) shapeCasts_S512x16x64x16_S8192x1024 = T9 dy dxre dxim kern bpt d := by
  funext i; idx_vars i
  pointwise []
  have h0 := i0.isLt
  have h1 := i1.isLt
  simp only [hL, mul_mark, pick_lag]
  refine (add_comm _ _).trans ((add_assoc _ _ _).symm.trans ?_)
  refine congrArg₂ (· + ·) (congrArg₂ (· + ·) ?_ ?_) rfl
  · refine Eq.trans ?_ (sum256 _).symm
    refine Finset.sum_congr rfl fun r _ => ?_
    by_cases h : i0.val % 16 ≤ r.val
    · rw [dif_pos h]
      refine Finset.sum_congr rfl fun c _ => ?_
      refine Eq.trans ?_ (congrArg₂ (· * ·) (TM_at kern ⟨i1.val / 16, by omega⟩ ⟨i0.val % 16 * 16 + i1.val % 16, by omega⟩ ⟨16 * r.val + c.val, by omega⟩).symm rfl)
      rw [dif_pos (by simp only; omega), mul_comm]
      unfold GM brow
      congr 3
      · exact Fin.ext (by simp only; omega)
      · exact Fin.ext (by simp only; omega)
      · exact Fin.ext (by simp only; omega)
      · exact Fin.ext (by change i0.val / 16 * 16 + r.val = i0.val / 16 * 16 + (16 * r.val + c.val) / 16; omega)
      · exact Fin.ext (by change i1.val / 16 * 16 + c.val = i1.val / 16 * 16 + (16 * r.val + c.val) % 16; omega)
    · rw [dif_neg h]
      refine (Finset.sum_eq_zero fun c _ => ?_).symm
      refine (congrArg₂ (· * ·) (TM_at kern ⟨i1.val / 16, by omega⟩ ⟨i0.val % 16 * 16 + i1.val % 16, by omega⟩ ⟨16 * r.val + c.val, by omega⟩) rfl).trans ?_
      rw [dif_neg (by simp only; omega), zero_mul]
  · refine Finset.sum_congr rfl fun k _ => ?_
    refine (congrArg (· * _) (pad_halves dxre dxim ⟨i1.val / 16, by omega⟩ k ⟨i0.val / 16, by omega⟩ _ _
      ⟨fun h => h.2.2.1, fun h => ⟨by omega, by omega, h, by omega⟩⟩ ⟨fun h => h.2.2, fun h => ⟨by omega, by omega, h⟩⟩)).trans ?_
    exact mul_comm _ _

theorem ref13 (dy : FVec Ideal S8192x1024 .f32) (u : FVec Ideal S8192x1024 .f32) :
    shapeCast S1x1024 (shapeCast _ (Host.reduceAdd (shapeCast _ (Host.reduceAdd (mulf (shapeCast _ dy shapeCasts_S8192x1024_S512x16x64x16) (shapeCast _ u shapeCasts_S8192x1024_S512x16x64x16)) (constant S_ .f32 0x00000000#32) reducesTo_S512x16x64x16_S64x16_d0_1 h_S_) shapeCasts_S64x16_S1x1x64x16) (constant S_ .f32 0x00000000#32) reducesTo_S1x1x64x16_S64x16_d0_1 h_S_) shapeCasts_S64x16_S1024) shapeCasts_S1024_S1x1024 = T13 dy u := by
  funext i; idx_vars i
  pointwise []
  refine (sum_heads _ _ 0 _ _).trans ((zero_add _).trans ?_)
  simp only [Finset.univ_unique, Finset.sum_singleton]
  pointwise []
  refine (sum_heads _ _ 0 _ _).trans ((zero_add _).trans ?_)
  pointwise []
  exact Finset.sum_comm.trans rfl

theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v73) = T9 (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_v74) = T10 (m ((c.tc : Thread nD τ).loc main_arg0)) (m ((c.tc : Thread nD τ).loc main_arg1))
      ∧ r.2.mem ((c.tc : Thread nD τ).loc main_v68) = T11 (m ((c.tc : Thread nD τ).loc main_arg0)) (m ((c.tc : Thread nD τ).loc main_arg2)) (m ((c.tc : Thread nD τ).loc main_arg3))
      ∧ r.2.mem ((c.tc : Thread nD τ).loc main_v46) = T12 (m ((c.tc : Thread nD τ).loc main_arg1)) (m ((c.tc : Thread nD τ).loc main_arg4)) (m ((c.tc : Thread nD τ).loc main_arg5))
      ∧ r.2.mem ((c.tc : Thread nD τ).loc main_v75) = T13 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.S5bRefIdeal.Value.run m ρ)
  obtain ⟨h9, h10, h11, h12, h13, ha⟩ := h c
  exact ⟨⟨h9.trans (ref9 _ _ _ _ _ _ _ lagged_at), h10.trans (ref10 _ _ _ lagged_at), h11.trans (ref11 _ _ _),
    h12.trans (ref12 _ _ _), h13.trans (ref13 _ _)⟩, ha⟩

end Cert.K.S5b

end
-- ==== Proof.K.S5bClaims.lean ====
/- The claims about the recurrence's block gradient, assembled. -/
module

public import proofs.«01_k».proof.Proof.K.S5bFin
public import proofs.«01_k».proof.Proof.K.S5bRef
public import proofs.«01_k».proof.Proof.Gen.S5bIdeal.Value
public import proofs.«01_k».proof.Defs
public import proofs.«01_k».proof.Proof.Gen.S5b.Frame
public import proofs.«01_k».proof.Proof.Gen.S5bIdeal.Frame
public import Idealize.ShloMosaic.Adequacy
public import Idealize.ShloMosaic.Init

@[expose] public section

noncomputable section

namespace Cert.K.S5b

open Idealize.ShloMosaic Idealize.ShloMosaic.TcCoe Idealize.SL.Sem Cert.S5bIdeal

theorem frameRef : Cert.quiescent_S5bRefIdeal := fun m ρ _ =>
  (θ_run _ _ _).mono (fun r h => ⟨fun c => (h c).2.2.2.2.2, sem_eq_zero_of_no_sems (by decide) r.2⟩)
    (Cert.S5bRefIdeal.Value.run m ρ)

theorem congr9 {a0 b0 : FVec Ideal S8192x1024 .f32} {a1 b1 : FVec Ideal S512x4096 .f32} {a2 b2 : FVec Ideal S512x4096 .f32} {a3 b3 : FVec Ideal S64x16x16x16 .f32} {a4 b4 : FVec Ideal S64x128x256 .f32} {a5 b5 : FVec Ideal S1024 .f32} (h0 : a0 = b0) (h1 : a1 = b1) (h2 : a2 = b2) (h3 : a3 = b3) (h4 : a4 = b4) (h5 : a5 = b5) :
    T9 a0 a1 a2 a3 a4 a5 = T9 b0 b1 b2 b3 b4 b5 := by
  subst h0 h1 h2 h3 h4 h5; rfl

theorem congr10 {a0 b0 : FVec Ideal S8192x1024 .f32} {a1 b1 : FVec Ideal S8192x1024 .f32} (h0 : a0 = b0) (h1 : a1 = b1) :
    T10 a0 a1 = T10 b0 b1 := by
  subst h0 h1; rfl

theorem congr11 {a0 b0 : FVec Ideal S8192x1024 .f32} {a1 b1 : FVec Ideal S512x4096 .f32} {a2 b2 : FVec Ideal S512x4096 .f32} (h0 : a0 = b0) (h1 : a1 = b1) (h2 : a2 = b2) :
    T11 a0 a1 a2 = T11 b0 b1 b2 := by
  subst h0 h1 h2; rfl

theorem congr12 {a0 b0 : FVec Ideal S8192x1024 .f32} {a1 b1 : FVec Ideal S512x4096 .f32} {a2 b2 : FVec Ideal S512x4096 .f32} (h0 : a0 = b0) (h1 : a1 = b1) (h2 : a2 = b2) :
    T12 a0 a1 a2 = T12 b0 b1 b2 := by
  subst h0 h1 h2; rfl

theorem congr13 {a0 b0 : FVec Ideal S8192x1024 .f32} {a1 b1 : FVec Ideal S8192x1024 .f32} (h0 : a0 = b0) (h1 : a1 = b1) :
    T13 a0 a1 = T13 b0 b1 := by
  subst h0 h1; rfl

set_option maxHeartbeats 1000000 in
theorem alg : Cert.algebraic_S5bIdeal_S5bRefIdeal := by
  intro m ρ m' ρ' _ hag
  refine ⟨fun c => (Cert.S5bIdeal.Gen.dats m 0 c).arrAt 9 _,
    fun c => (Cert.S5bIdeal.Gen.dats m 0 c).arrAt 10 _,
    fun c => (Cert.S5bIdeal.Gen.dats m 0 c).arrAt 11 _,
    fun c => (Cert.S5bIdeal.Gen.dats m 0 c).arrAt 12 _,
    fun c => (Cert.S5bIdeal.Gen.dats m 0 c).arrAt 13 _,
    Cert.S5bIdeal.Value.run_blocks m ρ, ?_⟩
  refine (θ_run _ _ _).mono (fun _ h c => ?_) (refRun m' ρ')
  obtain ⟨⟨h9, h10, h11, h12, h13⟩, ha⟩ := h c
  obtain ⟨e0, e1, e2, e3, e4, e5, e6, e7, e8, e9⟩ := hag c
  refine ⟨h9.trans ?_, h10.trans ?_, h11.trans ?_, h12.trans ?_, h13.trans ?_, ha⟩
  · exact (congr9 e0 e4 e5 e6 e8 e9).trans (final9 m c).symm
  · exact (congr10 e0 e1).trans (final10 m c).symm
  · exact (congr11 e0 e2 e3).trans (final11 m c).symm
  · exact (congr12 e1 e4 e5).trans (final12 m c).symm
  · exact (congr13 e0 e1).trans (final13 m c).symm

end Cert.K.S5b

end
-- ==== Proof.K.S5p.lean ====
/- The state gradient's product: its outputs as formulas of the arguments. -/
module

public import proofs.«01_k».proof.Proof.K.S5bOut
public import proofs.«01_k».proof.Proof.Gen.S5pIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.S5p

open Idealize.ShloMosaic Idealize.ShloMosaic.TcCoe Idealize.SL.Sem Cert.K.S5b Cert.S5pIdeal Cert.S5pIdeal.Gen

variable (m : (ℓ : Loc nD τ sig) → Buf (Elt Ideal) ℓ) (c : Dev nD)

/-- The block each window reads or writes at a grid point. -/
theorem idx : ∀ t : Fin cfg0.N, win0_0.index t = ![0, t.val] ∧ win0_1.index t = ![t.val, 0, 0] ∧ win0_2.index t = ![0, t.val] ∧ win0_3.index t = ![0, t.val] :=
  (by decide +kernel : ∀ t : Fin grid0.N, win0_0.index t = ![0, t.val] ∧ win0_1.index t = ![t.val, 0, 0] ∧ win0_2.index t = ![0, t.val] ∧ win0_3.index t = ![0, t.val])

theorem rows (v : FVec Ideal S8192x128 .f32) : k0_pay5 v = yT 0 v
    ∧ k0_pay6 v = yT 1 v
    ∧ k0_pay7 v = yT 2 v
    ∧ k0_pay8 v = yT 3 v
    ∧ k0_pay9 v = yT 4 v
    ∧ k0_pay10 v = yT 5 v
    ∧ k0_pay11 v = yT 6 v
    ∧ k0_pay12 v = yT 7 v
    ∧ k0_pay13 v = yT 8 v
    ∧ k0_pay14 v = yT 9 v
    ∧ k0_pay15 v = yT 10 v
    ∧ k0_pay16 v = yT 11 v
    ∧ k0_pay17 v = yT 12 v
    ∧ k0_pay18 v = yT 13 v
    ∧ k0_pay19 v = yT 14 v
    ∧ k0_pay20 v = yT 15 v := by
  refine ⟨?_, ?_, ?_, ?_, ?_, ?_, ?_, ?_, ?_, ?_, ?_, ?_, ?_, ?_, ?_, ?_⟩ <;>
  · funext i
    idx_vars i
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, yT, brow]

/-- A group's table times its positions and channels. -/
def D (g : Fin 8) (v : FVec Ideal S8192x128 .f32) (W : FVec Ideal S1x128x256 .bf16) (p : Fin 128) (b : Fin 512) : EReal :=
  ∑ k : Fin 256, W (ix3 0 p k) * gm g v (ix2 k b)

theorem dot_group (g : Fin 8) (v : FVec Ideal S8192x128 .f32) (W : FVec Ideal S1x128x256 .bf16) (X : FVec Ideal S256x512 .f32) (hX : X = gm g v) (p : Fin 128) (b : Fin 512) :
    matmul dot_S128x256_S256x512_S128x512_1_0_0_1_n_n none (shapeCast S128x256 W shapeCasts_S1x128x256_S128x256)
      (truncf .bf16 X bitsLt_bf16_f32) (constant (F := Ideal) S128x512 .f32 0x00000000#32) (ix2 p b) = D g v W p b := by
  subst hX
  pointwise []
  rfl

theorem first (v : FVec Ideal S8192x128 .f32) : k0_pay22 v = extractStridedSlice S16x512 ![0, 0] (yT 0 v) slices_S128x512_o0_0_S16x512 := by
  show extractStridedSlice S16x512 ![0, 0] (k0_pay5 (F := Ideal) v) slices_S128x512_o0_0_S16x512 = _
  rw [(rows v).1]

theorem dot0 (v : FVec Ideal S8192x128 .f32) (W : FVec Ideal S1x128x256 .bf16) (p : Fin 128) (b : Fin 512) : k0_pay23 (yT 1 v) (yT 2 v) (yT 3 v) (yT 4 v) (yT 5 v) (yT 6 v) (yT 7 v) (yT 8 v) (yT 9 v) (yT 10 v) (yT 11 v) (yT 12 v) (yT 13 v) (yT 14 v) (yT 15 v) (k0_pay21 W) (k0_pay22 v) (ix2 p b) = D 0 v W p b := by
  rw [first]; exact dot_group 0 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot1 (v : FVec Ideal S8192x128 .f32) (W : FVec Ideal S1x128x256 .bf16) (p : Fin 128) (b : Fin 512) : k0_pay24 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 1 v W p b :=
  dot_group 1 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot2 (v : FVec Ideal S8192x128 .f32) (W : FVec Ideal S1x128x256 .bf16) (p : Fin 128) (b : Fin 512) : k0_pay27 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 2 v W p b :=
  dot_group 2 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot3 (v : FVec Ideal S8192x128 .f32) (W : FVec Ideal S1x128x256 .bf16) (p : Fin 128) (b : Fin 512) : k0_pay28 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 3 v W p b :=
  dot_group 3 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot4 (v : FVec Ideal S8192x128 .f32) (W : FVec Ideal S1x128x256 .bf16) (p : Fin 128) (b : Fin 512) : k0_pay33 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 4 v W p b :=
  dot_group 4 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot5 (v : FVec Ideal S8192x128 .f32) (W : FVec Ideal S1x128x256 .bf16) (p : Fin 128) (b : Fin 512) : k0_pay34 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 5 v W p b :=
  dot_group 5 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot6 (v : FVec Ideal S8192x128 .f32) (W : FVec Ideal S1x128x256 .bf16) (p : Fin 128) (b : Fin 512) : k0_pay37 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W (ix2 p b) = D 6 v W p b :=
  dot_group 6 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem dot7 (v : FVec Ideal S8192x128 .f32) (W : FVec Ideal S1x128x256 .bf16) (p : Fin 128) (b : Fin 512) : k0_pay1 (k0_pay38 W) (k0_pay39 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) (ix2 p b) = D 7 v W p b :=
  dot_group 7 v W _ (funext fun i => cat_rows _ _ (by rfl) _ _ concatenates_S16x512_S16x512_S16x512_S16x512_S16x512_S16x512_S16x512_S16x512_S16x512_S16x512_S16x512_S16x512_S16x512_S16x512_S16x512_S16x512_S256x512_d0 i) p b

theorem pair_r0 (v : FVec Ideal S8192x128 .f32) (W W' : FVec Ideal S1x128x256 .bf16) (x : S512x128.Idx) :
    k0_pay25 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) (k0_pay21 W) (k0_pay22 v) W' x = if h : (x 1).val < 64 then D 0 v W ⟨(x 1).val, by omega⟩ (x 0) else D 1 v W' ⟨((x 1).val - 64), by have h1 : (x 1).val < 128 := (x 1).isLt; omega⟩ (x 0) := by
  idx_vars x
  pointwise [k0_pay25]
  simp only [dot0, dot1]

theorem pair_i0 (v : FVec Ideal S8192x128 .f32) (W W' : FVec Ideal S1x128x256 .bf16) (x : S512x128.Idx) :
    k0_pay26 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) (k0_pay21 W) (k0_pay22 v) W' x = if h : (x 1).val < 64 then D 0 v W ⟨64 + (x 1).val, by omega⟩ (x 0) else D 1 v W' ⟨64 + ((x 1).val - 64), by have h1 : (x 1).val < 128 := (x 1).isLt; omega⟩ (x 0) := by
  idx_vars x
  pointwise [k0_pay26]
  simp only [dot0, dot1]

theorem pair_r1 (v : FVec Ideal S8192x128 .f32) (W W' : FVec Ideal S1x128x256 .bf16) (x : S512x128.Idx) :
    k0_pay29 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W W' x = if h : (x 1).val < 64 then D 2 v W ⟨(x 1).val, by omega⟩ (x 0) else D 3 v W' ⟨((x 1).val - 64), by have h1 : (x 1).val < 128 := (x 1).isLt; omega⟩ (x 0) := by
  idx_vars x
  pointwise [k0_pay29]
  simp only [dot2, dot3]

theorem pair_i1 (v : FVec Ideal S8192x128 .f32) (W W' : FVec Ideal S1x128x256 .bf16) (x : S512x128.Idx) :
    k0_pay32 (k0_pay30 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W) (k0_pay31 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W') x = if h : (x 1).val < 64 then D 2 v W ⟨64 + (x 1).val, by omega⟩ (x 0) else D 3 v W' ⟨64 + ((x 1).val - 64), by have h1 : (x 1).val < 128 := (x 1).isLt; omega⟩ (x 0) := by
  idx_vars x
  pointwise [k0_pay30, k0_pay31, k0_pay32]
  simp only [dot2, dot3]

theorem pair_r2 (v : FVec Ideal S8192x128 .f32) (W W' : FVec Ideal S1x128x256 .bf16) (x : S512x128.Idx) :
    k0_pay35 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W W' x = if h : (x 1).val < 64 then D 4 v W ⟨(x 1).val, by omega⟩ (x 0) else D 5 v W' ⟨((x 1).val - 64), by have h1 : (x 1).val < 128 := (x 1).isLt; omega⟩ (x 0) := by
  idx_vars x
  pointwise [k0_pay35]
  simp only [dot4, dot5]

theorem pair_i2 (v : FVec Ideal S8192x128 .f32) (W W' : FVec Ideal S1x128x256 .bf16) (x : S512x128.Idx) :
    k0_pay36 (k0_pay33 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W) (k0_pay34 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W') x = if h : (x 1).val < 64 then D 4 v W ⟨64 + (x 1).val, by omega⟩ (x 0) else D 5 v W' ⟨64 + ((x 1).val - 64), by have h1 : (x 1).val < 128 := (x 1).isLt; omega⟩ (x 0) := by
  idx_vars x
  pointwise [k0_pay36]
  simp only [dot4, dot5]

theorem pair_r3 (v : FVec Ideal S8192x128 .f32) (W W' : FVec Ideal S1x128x256 .bf16) (x : S512x128.Idx) :
    k0_pay2 (k0_pay37 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W) (k0_pay38 W') (k0_pay39 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) x = if h : (x 1).val < 64 then D 6 v W ⟨(x 1).val, by omega⟩ (x 0) else D 7 v W' ⟨((x 1).val - 64), by have h1 : (x 1).val < 128 := (x 1).isLt; omega⟩ (x 0) := by
  idx_vars x
  pointwise [k0_pay2]
  simp only [dot6, dot7]

theorem pair_i3 (v : FVec Ideal S8192x128 .f32) (W W' : FVec Ideal S1x128x256 .bf16) (x : S512x128.Idx) :
    k0_pay3 (k0_pay37 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v) W) (k0_pay38 W') (k0_pay39 (yT 0 v) (yT 1 v) (yT 2 v) (yT 3 v) (yT 4 v) (yT 5 v) (yT 6 v) (yT 7 v) (yT 8 v) (yT 9 v) (yT 10 v) (yT 11 v) (yT 12 v) (yT 13 v) (yT 14 v) (yT 15 v)) x = if h : (x 1).val < 64 then D 6 v W ⟨64 + (x 1).val, by omega⟩ (x 0) else D 7 v W' ⟨64 + ((x 1).val - 64), by have h1 : (x 1).val < 128 := (x 1).isLt; omega⟩ (x 0) := by
  idx_vars x
  pointwise [k0_pay3]
  simp only [dot6, dot7]

/-- Lane `k` of column tile `t` of a row-major activation. -/
def col (t : Fin cfg0.N) (k : Fin 128) : Fin 1024 :=
  ⟨t.val * 128 + k.val, by have := lt_of_lt_of_eq t.isLt (show cfg0.N = 8 from N_0); omega⟩

/-- Lane `k` of column tile `t` of a state. -/
def scol (t : Fin cfg0.N) (k : Fin 512) : Fin 4096 :=
  ⟨t.val * 512 + k.val, by have := lt_of_lt_of_eq t.isLt (show cfg0.N = 8 from N_0); omega⟩

/-- Group `g` of grid point `t`. -/
def grp (t : Fin cfg0.N) (g : Fin 8) : Fin 64 :=
  ⟨t.val * 8 + g.val, by have := lt_of_lt_of_eq t.isLt (show cfg0.N = 8 from N_0); omega⟩

theorem blk0 (t : Fin cfg0.N) (a : Fin 8192) (k : Fin 128) : iblk m c 0 t (ix2 a k) = (m ((c : Thread nD τ).loc main_arg0)) (ix2 a (col t k)) := by
  blk_ext [iblk, V, idx t, col]

theorem V1 (G : Fin 64) (p : Fin 128) (q : Fin 256) :
    (V m c main_v1 : FVec Ideal S64x128x256 .bf16) (ix3 G p q) = (m ((c : Thread nD τ).loc main_arg1) : FVec Ideal S64x256x128 .f32) (ix3 G q p) := by
  unfold V
  after_reads_at

theorem blk1 (t : Fin cfg0.N) (g : Fin 8) (p : Fin 128) (q : Fin 256) :
    iblk m c 1 t (ix3 g p q) = (m ((c : Thread nD τ).loc main_arg1) : FVec Ideal S64x256x128 .f32) (ix3 (grp t g) q p) := by
  refine Eq.trans (b := (V m c main_v1 : FVec Ideal S64x128x256 .bf16) (ix3 (grp t g) p q)) ?_ (V1 m c _ p q)
  blk_ext [iblk, idx t, grp]

theorem emb2 (t : Fin cfg0.N) (a : Fin 512) (k : Fin 512) :
    ((View.whole main_v2_0).slice (win0_2.rect t)).emb (ix2 a k) = ix2 a (scol t k) := by
  blk_ext [idx t, scol]

theorem emb3 (t : Fin cfg0.N) (a : Fin 512) (k : Fin 512) :
    ((View.whole main_v2_1).slice (win0_3.rect t)).emb (ix2 a k) = ix2 a (scol t k) := by
  blk_ext [idx t, scol]

/-- A state's gradient: its group's table, transposed, times the group's outputs' gradients; `o` is the lane where the part asked for starts. -/
def SG (o : Nat) (ho : o ≤ 64) (dy : FVec Ideal S8192x1024 .f32) (cpt : FVec Ideal S64x256x128 .f32) : FVec Ideal S512x4096 .f32 := fun i =>
  have h1 : (i 1).val < 4096 := (i 1).isLt
  ∑ k : Fin 256, cpt (ix3 ⟨(i 1).val / 64, by omega⟩ k ⟨o + (i 1).val % 64, by omega⟩) * GM dy ⟨(i 1).val / 64, by omega⟩ k (i 0)

theorem sg_at (o : Nat) (ho : o ≤ 64) (dy : FVec Ideal S8192x1024 .f32) (cpt : FVec Ideal S64x256x128 .f32) (b : Fin 512) (L : Fin 4096) (G : Fin 64) (p : Fin 128)
    (hG : L.val / 64 = G.val) (hp : o + L.val % 64 = p.val) :
    SG o ho dy cpt (ix2 b L) = ∑ k : Fin 256, cpt (ix3 G k p) * GM dy G k b := by
  obtain ⟨g, hg⟩ := G
  obtain ⟨q, hq⟩ := p
  subst hG hp
  rfl

theorem gm_dy (t : Fin cfg0.N) (g : Fin 8) (k : Fin 256) (b : Fin 512) : gm g (iblk m c 0 t) (ix2 k b) = GM (m ((c : Thread nD τ).loc main_arg0)) (grp t g) k b :=
  (blk0 m c t _ _).trans (congrArg (m ((c : Thread nD τ).loc main_arg0)) (congrArg₂ ix2 rfl (Fin.ext (by change t.val * 128 + (g.val * 16 + k.val % 16) = (t.val * 8 + g.val) * 16 + k.val % 16; ring))))

theorem d_at (o : Nat) (ho : o ≤ 64) (t : Fin cfg0.N) (g : Fin 8) (v : FVec Ideal S8192x128 .f32) (hv : ∀ a k, v (ix2 a k) = iblk m c 0 t (ix2 a k)) (W : FVec Ideal S1x128x256 .bf16) (hW : ∀ p k, W (ix3 0 p k) = iblk m c 1 t (ix3 g p k)) (p : Fin 128) (b : Fin 512)
    (y : Fin 512) (hg : y.val / 64 = g.val) (hp : o + y.val % 64 = p.val) :
    D g v W p b = SG o ho (m ((c : Thread nD τ).loc main_arg0)) (m ((c : Thread nD τ).loc main_arg1)) (ix2 b (scol t y)) := by
  obtain rfl : v = iblk m c 0 t := funext fun i => by idx_vars i; exact hv _ _
  refine Eq.trans ?_ (sg_at o ho _ _ b (scol t y) (grp t g) p (by change (t.val * 512 + y.val) / 64 = t.val * 8 + g.val; omega) (by change o + (t.val * 512 + y.val) % 64 = p.val; omega)).symm
  refine Finset.sum_congr rfl fun k _ => ?_
  rw [hW, blk1, gm_dy]

theorem final2 : (dats m 0 c).arrAt 2 cfg0.N = SG 0 (by omega) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [emb2]
  simp only [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, rows]
  canon_tiles x h
  · obtain rfl : y0 = x 0 := Fin.ext h0
    have e : y1.val = 384 + (x 1).val := h1
    refine (pair_r3 _ _ _ x).trans ?_
    split
    · exact d_at m c 0 (by omega) t 6 _ (fun a k => by pointwise []) _ (fun p k => by pointwise []) _ _ _ (by change _ = 6; omega) (by change _ = (x 1).val; omega)
    · exact d_at m c 0 (by omega) t 7 _ (fun a k => by pointwise []) _ (fun p k => by pointwise []) _ _ _ (by change _ = 7; omega) (by change _ = ((x 1).val - 64); omega)
  · obtain rfl : y0 = x 0 := Fin.ext h0
    have e : y1.val = 256 + (x 1).val := h1
    refine (pair_r2 _ _ _ x).trans ?_
    split
    · exact d_at m c 0 (by omega) t 4 _ (fun a k => by pointwise []) _ (fun p k => by pointwise []) _ _ _ (by change _ = 4; omega) (by change _ = (x 1).val; omega)
    · exact d_at m c 0 (by omega) t 5 _ (fun a k => by pointwise []) _ (fun p k => by pointwise []) _ _ _ (by change _ = 5; omega) (by change _ = ((x 1).val - 64); omega)
  · obtain rfl : y0 = x 0 := Fin.ext h0
    have e : y1.val = 128 + (x 1).val := h1
    refine (pair_r1 _ _ _ x).trans ?_
    split
    · exact d_at m c 0 (by omega) t 2 _ (fun a k => by pointwise []) _ (fun p k => by pointwise []) _ _ _ (by change _ = 2; omega) (by change _ = (x 1).val; omega)
    · exact d_at m c 0 (by omega) t 3 _ (fun a k => by pointwise []) _ (fun p k => by pointwise []) _ _ _ (by change _ = 3; omega) (by change _ = ((x 1).val - 64); omega)
  · obtain rfl : y0 = x 0 := Fin.ext h0
    have e : y1.val = 0 + (x 1).val := h1.trans (Nat.zero_add _).symm
    refine (pair_r0 _ _ _ x).trans ?_
    split
    · exact d_at m c 0 (by omega) t 0 _ (fun a k => by pointwise []) _ (fun p k => by pointwise []) _ _ _ (by change _ = 0; omega) (by change _ = (x 1).val; omega)
    · exact d_at m c 0 (by omega) t 1 _ (fun a k => by pointwise []) _ (fun p k => by pointwise []) _ _ _ (by change _ = 1; omega) (by change _ = ((x 1).val - 64); omega)

theorem final3 : (dats m 0 c).arrAt 3 cfg0.N = SG 64 (by omega) (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  rw [emb3]
  simp only [k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, rows]
  canon_tiles x h
  · obtain rfl : y0 = x 0 := Fin.ext h0
    have e : y1.val = 384 + (x 1).val := h1
    refine (pair_i3 _ _ _ x).trans ?_
    split
    · exact d_at m c 64 (by omega) t 6 _ (fun a k => by pointwise []) _ (fun p k => by pointwise []) _ _ _ (by change _ = 6; omega) (by change _ = 64 + (x 1).val; omega)
    · exact d_at m c 64 (by omega) t 7 _ (fun a k => by pointwise []) _ (fun p k => by pointwise []) _ _ _ (by change _ = 7; omega) (by change _ = 64 + ((x 1).val - 64); omega)
  · obtain rfl : y0 = x 0 := Fin.ext h0
    have e : y1.val = 256 + (x 1).val := h1
    refine (pair_i2 _ _ _ x).trans ?_
    split
    · exact d_at m c 64 (by omega) t 4 _ (fun a k => by pointwise []) _ (fun p k => by pointwise []) _ _ _ (by change _ = 4; omega) (by change _ = 64 + (x 1).val; omega)
    · exact d_at m c 64 (by omega) t 5 _ (fun a k => by pointwise []) _ (fun p k => by pointwise []) _ _ _ (by change _ = 5; omega) (by change _ = 64 + ((x 1).val - 64); omega)
  · obtain rfl : y0 = x 0 := Fin.ext h0
    have e : y1.val = 128 + (x 1).val := h1
    refine (pair_i1 _ _ _ x).trans ?_
    split
    · exact d_at m c 64 (by omega) t 2 _ (fun a k => by pointwise []) _ (fun p k => by pointwise []) _ _ _ (by change _ = 2; omega) (by change _ = 64 + (x 1).val; omega)
    · exact d_at m c 64 (by omega) t 3 _ (fun a k => by pointwise []) _ (fun p k => by pointwise []) _ _ _ (by change _ = 3; omega) (by change _ = 64 + ((x 1).val - 64); omega)
  · obtain rfl : y0 = x 0 := Fin.ext h0
    have e : y1.val = 0 + (x 1).val := h1.trans (Nat.zero_add _).symm
    refine (pair_i0 _ _ _ x).trans ?_
    split
    · exact d_at m c 64 (by omega) t 0 _ (fun a k => by pointwise []) _ (fun p k => by pointwise []) _ _ _ (by change _ = 0; omega) (by change _ = 64 + (x 1).val; omega)
    · exact d_at m c 64 (by omega) t 1 _ (fun a k => by pointwise []) _ (fun p k => by pointwise []) _ _ _ (by change _ = 1; omega) (by change _ = 64 + ((x 1).val - 64); omega)

end Cert.K.S5p

end
-- ==== Proof.K.S5pRef.lean ====
/- The state gradient's product: the reference's two results. -/
module

public import proofs.«01_k».proof.Proof.K.S5p
public import proofs.«01_k».proof.Proof.K.S5bRef
public import proofs.«01_k».proof.Proof.Gen.S5pRefIdeal.Run
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.S5p

open Idealize.ShloMosaic Idealize.ShloMosaic.TcCoe Idealize.SL.Sem Cert.K.S5b Cert.S5pRefIdeal Cert.S5pRefIdeal.Gen

theorem ref2 (dy : FVec Ideal S8192x1024 .f32) (cpt : FVec Ideal S64x256x128 .f32) :
    shapeCast S512x4096 (extractStridedSlice S512x64x64 ![0, 0, 0] (transpose S512x64x128 [1, 0, 2] (Host.dotGeneral dot_S64x16x16x512_S64x16x16x128_S64x512x128_12_12_3_3_0_0 none (transpose S64x16x16x512 [2, 1, 3, 0] (shapeCast _ dy shapeCasts_S8192x1024_S512x16x64x16) transposes_S512x16x64x16_S64x16x16x512_2_1_3_0) (shapeCast _ cpt shapeCasts_S64x256x128_S64x16x16x128)) transposes_S64x512x128_S512x64x128_1_0_2) slices_S512x64x128_S512x64x64_0_0_0) shapeCasts_S512x64x64_S512x4096 = SG 0 (by omega) dy cpt := by
  funext i; idx_vars i
  pointwise []
  have h1 := i1.isLt
  refine Eq.trans ?_ (sg_at 0 (by omega) dy cpt i0 i1 ⟨i1.val / 64, by omega⟩ ⟨0 + i1.val % 64, by omega⟩ rfl rfl).symm
  refine Eq.trans ?_ (sum256 _).symm
  refine Finset.sum_congr rfl fun r _ => Finset.sum_congr rfl fun c _ => ?_
  rw [mul_comm]
  unfold GM brow
  congr 3
  all_goals first | rfl | exact Fin.ext (by simp only; omega)

theorem ref3 (dy : FVec Ideal S8192x1024 .f32) (cpt : FVec Ideal S64x256x128 .f32) :
    shapeCast S512x4096 (extractStridedSlice S512x64x64 ![0, 0, 64] (transpose S512x64x128 [1, 0, 2] (Host.dotGeneral dot_S64x16x16x512_S64x16x16x128_S64x512x128_12_12_3_3_0_0 none (transpose S64x16x16x512 [2, 1, 3, 0] (shapeCast _ dy shapeCasts_S8192x1024_S512x16x64x16) transposes_S512x16x64x16_S64x16x16x512_2_1_3_0) (shapeCast _ cpt shapeCasts_S64x256x128_S64x16x16x128)) transposes_S64x512x128_S512x64x128_1_0_2) slices_S512x64x128_S512x64x64_0_0_64) shapeCasts_S512x64x64_S512x4096 = SG 64 (by omega) dy cpt := by
  funext i; idx_vars i
  pointwise []
  have h1 := i1.isLt
  refine Eq.trans ?_ (sg_at 64 (by omega) dy cpt i0 i1 ⟨i1.val / 64, by omega⟩ ⟨64 + i1.val % 64, by omega⟩ rfl rfl).symm
  refine Eq.trans ?_ (sum256 _).symm
  refine Finset.sum_congr rfl fun r _ => Finset.sum_congr rfl fun c _ => ?_
  rw [mul_comm]
  unfold GM brow
  congr 3
  all_goals first | rfl | exact Fin.ext (by simp only; omega)

end Cert.K.S5p

end
-- ==== Proof.K.S5pClaims.lean ====
/- The claims about the state gradient's product, assembled. -/
module

public import proofs.«01_k».proof.Proof.K.S5p
public import proofs.«01_k».proof.Proof.K.S5pRef
public import proofs.«01_k».proof.Proof.Gen.S5pIdeal.Value
public import proofs.«01_k».proof.Proof.Gen.S5pRefIdeal.Run
public import proofs.«01_k».proof.Defs
public import proofs.«01_k».proof.Proof.Gen.S5p.Frame
public import proofs.«01_k».proof.Proof.Gen.S5pIdeal.Frame
public import Idealize.ShloMosaic.Adequacy
public import Idealize.ShloMosaic.Init

@[expose] public section

noncomputable section

namespace Cert.K.S5p

open Idealize.ShloMosaic Idealize.ShloMosaic.TcCoe Idealize.SL.Sem Cert.S5pIdeal

theorem frameRef : Cert.quiescent_S5pRefIdeal := fun m ρ _ =>
  (θ_run _ _ _).mono (fun r h => ⟨fun c => (h c).2.2, sem_eq_zero_of_no_sems (by decide) r.2⟩)
    (Cert.S5pRefIdeal.Value.run m ρ)

theorem congrSG {o : Nat} {ho : o ≤ 64} {a b : FVec Ideal S8192x1024 .f32} {a' b' : FVec Ideal S64x256x128 .f32} (h : a = b) (h' : a' = b') :
    SG o ho a a' = SG o ho b b' := by
  subst h h'; rfl

set_option maxHeartbeats 1000000 in
theorem alg : Cert.algebraic_S5pIdeal_S5pRefIdeal := by
  intro m ρ m' ρ' _ hag
  refine ⟨fun c => (Cert.S5pIdeal.Gen.dats m 0 c).arrAt 2 _, fun c => (Cert.S5pIdeal.Gen.dats m 0 c).arrAt 3 _,
    Cert.S5pIdeal.Value.run_blocks m ρ, ?_⟩
  refine (θ_run _ _ _).mono (fun _ h c => ?_) (Cert.S5pRefIdeal.Value.run m' ρ')
  obtain ⟨h2, h3, ha⟩ := h c
  obtain ⟨e0, e1⟩ := hag c
  refine ⟨h2.trans ((ref2 _ _).trans ?_), h3.trans ((ref3 _ _).trans ?_), ha⟩
  · exact (congrSG e0 e1).trans (final2 m c).symm
  · exact (congrSG e0 e1).trans (final3 m c).symm

end Cert.K.S5p

end
-- ==== Proof.K.S5o.lean ====
/- The recurrence's outputs: the kernel's block. -/
module

public import proofs.«01_k».proof.Proof.K.S5bHost
public import proofs.«01_k».proof.Proof.K.S5bOut
public import proofs.«01_k».proof.Proof.Gen.S5oIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.S5o

open Idealize.ShloMosaic Idealize.ShloMosaic.TcCoe Idealize.SL.Sem Cert.K.S5b Cert.S5oIdeal Cert.S5oIdeal.Gen

theorem idx : ∀ t : Fin cfg0.N, win0_0.index t = ![0, t.val] ∧ win0_1.index t = ![0, t.val] ∧ win0_2.index t = ![0, t.val]
    ∧ win0_3.index t = ![t.val, 0, 0] ∧ win0_4.index t = ![t.val, 0, 0] ∧ win0_5.index t = ![0, t.val] ∧ win0_6.index t = ![0, t.val] := by
  decide +kernel

theorem prows (v : FVec Ideal S8192x128 .f32) : k0_pay2 (F := Ideal) v = yr 0 v
    ∧ k0_pay3 (F := Ideal) v = yr 1 v
    ∧ k0_pay4 (F := Ideal) v = yr 2 v
    ∧ k0_pay5 (F := Ideal) v = yr 3 v
    ∧ k0_pay6 (F := Ideal) v = yr 4 v
    ∧ k0_pay7 (F := Ideal) v = yr 5 v
    ∧ k0_pay8 (F := Ideal) v = yr 6 v
    ∧ k0_pay9 (F := Ideal) v = yr 7 v
    ∧ k0_pay10 (F := Ideal) v = yr 8 v
    ∧ k0_pay11 (F := Ideal) v = yr 9 v
    ∧ k0_pay12 (F := Ideal) v = yr 10 v
    ∧ k0_pay13 (F := Ideal) v = yr 11 v
    ∧ k0_pay14 (F := Ideal) v = yr 12 v
    ∧ k0_pay15 (F := Ideal) v = yr 13 v
    ∧ k0_pay16 (F := Ideal) v = yr 14 v
    ∧ k0_pay17 (F := Ideal) v = yr 15 v := by
  refine ⟨?_, ?_, ?_, ?_, ?_, ?_, ?_, ?_, ?_, ?_, ?_, ?_, ?_, ?_, ?_, ?_⟩ <;>
  · funext i
    idx_vars i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, yr, brow]

theorem prowsT (v : FVec Ideal S8192x128 .f32) : k0_pay18 (F := Ideal) v = yT 0 v
    ∧ k0_pay19 (F := Ideal) v = yT 1 v
    ∧ k0_pay20 (F := Ideal) v = yT 2 v
    ∧ k0_pay21 (F := Ideal) v = yT 3 v
    ∧ k0_pay22 (F := Ideal) v = yT 4 v
    ∧ k0_pay23 (F := Ideal) v = yT 5 v
    ∧ k0_pay24 (F := Ideal) v = yT 6 v
    ∧ k0_pay25 (F := Ideal) v = yT 7 v
    ∧ k0_pay26 (F := Ideal) v = yT 8 v
    ∧ k0_pay27 (F := Ideal) v = yT 9 v
    ∧ k0_pay28 (F := Ideal) v = yT 10 v
    ∧ k0_pay29 (F := Ideal) v = yT 11 v
    ∧ k0_pay30 (F := Ideal) v = yT 12 v
    ∧ k0_pay31 (F := Ideal) v = yT 13 v
    ∧ k0_pay32 (F := Ideal) v = yT 14 v
    ∧ k0_pay33 (F := Ideal) v = yT 15 v := by
  refine ⟨?_, ?_, ?_, ?_, ?_, ?_, ?_, ?_, ?_, ?_, ?_, ?_, ?_, ?_, ?_, ?_⟩ <;>
  · funext i
    idx_vars i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, yT, brow]

theorem prod_cat (g : Fin 8) (o : Nat) (ho : o = g.val) (v : FVec Ideal S8192x128 .f32) (a b : FVec Ideal S512x512 .f32) (X : S8x256x256.Idx → Elt Ideal .bf16) (Y : S8x256x128.Idx → Elt Ideal .bf16)
    (i1 : ∀ a, (![o, 0, 0] : Fin 3 → Nat) a + (![1, 256, 256] : Fin 3 → Nat) a ≤ S8x256x256.size a)
    (i2 : ∀ a, (![o, 0, 0] : Fin 3 → Nat) a + (![1, 256, 128] : Fin 3 → Nat) a ≤ S8x256x128.size a)
    (C : FVec Ideal S256x512 .f32) (hC : C = gm g v) (H : FVec Ideal S128x512 .f32) (hH : H = hm g a b) :
    addf (F := Ideal) (matmul (F := Ideal) dot_S256x256_S256x512_S256x512_1_0_0_1_n_n none (shapeCast S256x256 (ldX X o i1) shapeCasts_S1x256x256_S256x256) (truncf .bf16 C bitsLt_bf16_f32) (constant S256x512 .f32 0x00000000#32))
      (matmul (F := Ideal) dot_S256x128_S128x512_S256x512_1_0_0_1_n_n none (shapeCast S256x128 (ldY Y o i2) shapeCasts_S1x256x128_S256x128) (truncf .bf16 H bitsLt_bf16_f32) (constant S256x512 .f32 0x00000000#32))
      = dp g v a b X Y := by
  subst hC hH
  exact prod_du g o ho v a b X Y i1 i2

theorem ld_whole (v : FVec Ideal S8192x128 .f32) : View.ld (Val := Elt Ideal) (e' := .f32) v r0_0 = v := by
  simp (disch := decide) only [View.ld_unit_lit']

theorem ld_state (v : FVec Ideal S512x512 .f32) : View.ld (Val := Elt Ideal) (e' := .f32) v r0_1 = v := by
  simp (disch := decide) only [View.ld_unit_lit']

theorem prod0 (v : FVec Ideal S8192x128 .f32) (a b : FVec Ideal S512x512 .f32) (X : S8x256x256.Idx → Elt Ideal .bf16) (Y : S8x256x128.Idx → Elt Ideal .bf16) (d : FVec Ideal S1x128 .f32) : k0_pay124 (F := Ideal) v a b X Y d = dp 0 v a b X Y := by
  unfold k0_pay124 k0_pay106 k0_pay107 k0_pay108 k0_pay109 k0_pay110 k0_pay111 k0_pay112 k0_pay113 k0_pay114 k0_pay115 k0_pay116 k0_pay117 k0_pay118 k0_pay119 k0_pay120 k0_pay121 k0_pay122
  simp only [ld_whole, ld_state, prowsT]
  refine prod_cat 0 0 (by rfl) v a b X Y _ _ _ ?_ _ ?_
  · exact funext fun i => cat_rows 0 _ (by rfl) slices_S128x512_o0_0_S16x512 _ concatenates_S16x512_S16x512_S16x512_S16x512_S16x512_S16x512_S16x512_S16x512_S16x512_S16x512_S16x512_S16x512_S16x512_S16x512_S16x512_S16x512_S256x512_d0 i
  · exact cat_states 0 _ (by rfl) slices_S512x512_o0_0_S64x512 _ _ _ concatenates_S64x512_S64x512_S128x512_d0

theorem prod1 (v : FVec Ideal S8192x128 .f32) (a b : FVec Ideal S512x512 .f32) (X : S8x256x256.Idx → Elt Ideal .bf16) (Y : S8x256x128.Idx → Elt Ideal .bf16) (d : FVec Ideal S1x128 .f32) : k0_pay125 (F := Ideal) v a b X Y d = dp 1 v a b X Y := by
  unfold k0_pay125 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 1 1 (by rfl) v a b X Y _ _ _ ?_ _ ?_
  · exact funext fun i => cat_rows 16 _ (by rfl) slices_S128x512_o16_0_S16x512 _ concatenates_S16x512_S16x512_S16x512_S16x512_S16x512_S16x512_S16x512_S16x512_S16x512_S16x512_S16x512_S16x512_S16x512_S16x512_S16x512_S16x512_S256x512_d0 i
  · exact cat_states 64 _ (by rfl) slices_S512x512_o64_0_S64x512 _ _ _ concatenates_S64x512_S64x512_S128x512_d0

theorem prod2 (v : FVec Ideal S8192x128 .f32) (a b : FVec Ideal S512x512 .f32) (X : S8x256x256.Idx → Elt Ideal .bf16) (Y : S8x256x128.Idx → Elt Ideal .bf16) (d : FVec Ideal S1x128 .f32) : k0_pay126 (F := Ideal) v a b X Y d = dp 2 v a b X Y := by
  unfold k0_pay126 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 2 2 (by rfl) v a b X Y _ _ _ ?_ _ ?_
  · exact funext fun i => cat_rows 32 _ (by rfl) slices_S128x512_o32_0_S16x512 _ concatenates_S16x512_S16x512_S16x512_S16x512_S16x512_S16x512_S16x512_S16x512_S16x512_S16x512_S16x512_S16x512_S16x512_S16x512_S16x512_S16x512_S256x512_d0 i
  · exact cat_states 128 _ (by rfl) slices_S512x512_o128_0_S64x512 _ _ _ concatenates_S64x512_S64x512_S128x512_d0

theorem prod3 (v : FVec Ideal S8192x128 .f32) (a b : FVec Ideal S512x512 .f32) (X : S8x256x256.Idx → Elt Ideal .bf16) (Y : S8x256x128.Idx → Elt Ideal .bf16) (d : FVec Ideal S1x128 .f32) : k0_pay127 (F := Ideal) v a b X Y d = dp 3 v a b X Y := by
  unfold k0_pay127 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 3 3 (by rfl) v a b X Y _ _ _ ?_ _ ?_
  · exact funext fun i => cat_rows 48 _ (by rfl) slices_S128x512_o48_0_S16x512 _ concatenates_S16x512_S16x512_S16x512_S16x512_S16x512_S16x512_S16x512_S16x512_S16x512_S16x512_S16x512_S16x512_S16x512_S16x512_S16x512_S16x512_S256x512_d0 i
  · exact cat_states 192 _ (by rfl) slices_S512x512_o192_0_S64x512 _ _ _ concatenates_S64x512_S64x512_S128x512_d0

theorem prod4 (v : FVec Ideal S8192x128 .f32) (a b : FVec Ideal S512x512 .f32) (X : S8x256x256.Idx → Elt Ideal .bf16) (Y : S8x256x128.Idx → Elt Ideal .bf16) (d : FVec Ideal S1x128 .f32) : k0_pay128 (F := Ideal) v a b X Y d = dp 4 v a b X Y := by
  unfold k0_pay128 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 4 4 (by rfl) v a b X Y _ _ _ ?_ _ ?_
  · exact funext fun i => cat_rows 64 _ (by rfl) slices_S128x512_o64_0_S16x512 _ concatenates_S16x512_S16x512_S16x512_S16x512_S16x512_S16x512_S16x512_S16x512_S16x512_S16x512_S16x512_S16x512_S16x512_S16x512_S16x512_S16x512_S256x512_d0 i
  · exact cat_states 256 _ (by rfl) slices_S512x512_o256_0_S64x512 _ _ _ concatenates_S64x512_S64x512_S128x512_d0

theorem prod5 (v : FVec Ideal S8192x128 .f32) (a b : FVec Ideal S512x512 .f32) (X : S8x256x256.Idx → Elt Ideal .bf16) (Y : S8x256x128.Idx → Elt Ideal .bf16) (d : FVec Ideal S1x128 .f32) : k0_pay129 (F := Ideal) v a b X Y d = dp 5 v a b X Y := by
  unfold k0_pay129 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 5 5 (by rfl) v a b X Y _ _ _ ?_ _ ?_
  · exact funext fun i => cat_rows 80 _ (by rfl) slices_S128x512_o80_0_S16x512 _ concatenates_S16x512_S16x512_S16x512_S16x512_S16x512_S16x512_S16x512_S16x512_S16x512_S16x512_S16x512_S16x512_S16x512_S16x512_S16x512_S16x512_S256x512_d0 i
  · exact cat_states 320 _ (by rfl) slices_S512x512_o320_0_S64x512 _ _ _ concatenates_S64x512_S64x512_S128x512_d0

theorem prod6 (v : FVec Ideal S8192x128 .f32) (a b : FVec Ideal S512x512 .f32) (X : S8x256x256.Idx → Elt Ideal .bf16) (Y : S8x256x128.Idx → Elt Ideal .bf16) (d : FVec Ideal S1x128 .f32) : k0_pay130 (F := Ideal) v a b X Y d = dp 6 v a b X Y := by
  unfold k0_pay130 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 6 6 (by rfl) v a b X Y _ _ _ ?_ _ ?_
  · exact funext fun i => cat_rows 96 _ (by rfl) slices_S128x512_o96_0_S16x512 _ concatenates_S16x512_S16x512_S16x512_S16x512_S16x512_S16x512_S16x512_S16x512_S16x512_S16x512_S16x512_S16x512_S16x512_S16x512_S16x512_S16x512_S256x512_d0 i
  · exact cat_states 384 _ (by rfl) slices_S512x512_o384_0_S64x512 _ _ _ concatenates_S64x512_S64x512_S128x512_d0

theorem prod7 (v : FVec Ideal S8192x128 .f32) (a b : FVec Ideal S512x512 .f32) (X : S8x256x256.Idx → Elt Ideal .bf16) (Y : S8x256x128.Idx → Elt Ideal .bf16) (d : FVec Ideal S1x128 .f32) : k0_pay131 (F := Ideal) v a b X Y d = dp 7 v a b X Y := by
  unfold k0_pay131 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123
  simp only [ld_whole, ld_state, prowsT]
  refine prod_cat 7 7 (by rfl) v a b X Y _ _ _ ?_ _ ?_
  · exact funext fun i => cat_rows 112 _ (by rfl) slices_S128x512_o112_0_S16x512 _ concatenates_S16x512_S16x512_S16x512_S16x512_S16x512_S16x512_S16x512_S16x512_S16x512_S16x512_S16x512_S16x512_S16x512_S16x512_S16x512_S16x512_S256x512_d0 i
  · exact cat_states 448 _ (by rfl) slices_S512x512_o448_0_S64x512 _ _ _ concatenates_S64x512_S64x512_S128x512_d0

theorem rows_o (v : FVec Ideal S8192x128 .f32) (a b : FVec Ideal S512x512 .f32) (X : S8x256x256.Idx → Elt Ideal .bf16) (Y : S8x256x128.Idx → Elt Ideal .bf16) (d : FVec Ideal S1x128 .f32) : k0_pay80 (F := Ideal) (yr 0 v) (dp 2 v a b X Y) (dp 3 v a b X Y) (dp 4 v a b X Y) (dp 5 v a b X Y) (dp 6 v a b X Y) (dp 7 v a b X Y) (k0_pay78 (dp 0 v a b X Y)) (k0_pay79 (dp 1 v a b X Y)) d = du1 0 v a b X Y d
    ∧ k0_pay81 (F := Ideal) (yr 1 v) (dp 0 v a b X Y) (dp 1 v a b X Y) (dp 2 v a b X Y) (dp 3 v a b X Y) (dp 4 v a b X Y) (dp 5 v a b X Y) (dp 6 v a b X Y) (dp 7 v a b X Y) d = du1 1 v a b X Y d
    ∧ k0_pay82 (F := Ideal) (yr 2 v) (dp 0 v a b X Y) (dp 1 v a b X Y) (dp 2 v a b X Y) (dp 3 v a b X Y) (dp 4 v a b X Y) (dp 5 v a b X Y) (dp 6 v a b X Y) (dp 7 v a b X Y) d = du1 2 v a b X Y d
    ∧ k0_pay84 (F := Ideal) (yr 3 v) (k0_pay83 (dp 0 v a b X Y) (dp 1 v a b X Y) (dp 2 v a b X Y) (dp 3 v a b X Y) (dp 4 v a b X Y) (dp 5 v a b X Y) (dp 6 v a b X Y) (dp 7 v a b X Y)) d = du1 3 v a b X Y d
    ∧ k0_pay85 (F := Ideal) (yr 4 v) (dp 0 v a b X Y) (dp 1 v a b X Y) (dp 2 v a b X Y) (dp 3 v a b X Y) (dp 4 v a b X Y) (dp 5 v a b X Y) (dp 6 v a b X Y) (dp 7 v a b X Y) d = du1 4 v a b X Y d
    ∧ k0_pay86 (F := Ideal) (yr 5 v) (dp 0 v a b X Y) (dp 1 v a b X Y) (dp 2 v a b X Y) (dp 3 v a b X Y) (dp 4 v a b X Y) (dp 5 v a b X Y) (dp 6 v a b X Y) (dp 7 v a b X Y) d = du1 5 v a b X Y d
    ∧ k0_pay87 (F := Ideal) (yr 6 v) (dp 0 v a b X Y) (dp 1 v a b X Y) (dp 2 v a b X Y) (dp 3 v a b X Y) (dp 4 v a b X Y) (dp 5 v a b X Y) (dp 6 v a b X Y) (dp 7 v a b X Y) d = du1 6 v a b X Y d
    ∧ k0_pay91 (F := Ideal) (yr 7 v) (dp 3 v a b X Y) (dp 4 v a b X Y) (dp 5 v a b X Y) (dp 6 v a b X Y) (dp 7 v a b X Y) (k0_pay88 (dp 0 v a b X Y)) (k0_pay89 (dp 1 v a b X Y)) (k0_pay90 (dp 2 v a b X Y)) d = du1 7 v a b X Y d
    ∧ k0_pay92 (F := Ideal) (yr 8 v) (dp 0 v a b X Y) (dp 1 v a b X Y) (dp 2 v a b X Y) (dp 3 v a b X Y) (dp 4 v a b X Y) (dp 5 v a b X Y) (dp 6 v a b X Y) (dp 7 v a b X Y) d = du1 8 v a b X Y d
    ∧ k0_pay93 (F := Ideal) (yr 9 v) (dp 0 v a b X Y) (dp 1 v a b X Y) (dp 2 v a b X Y) (dp 3 v a b X Y) (dp 4 v a b X Y) (dp 5 v a b X Y) (dp 6 v a b X Y) (dp 7 v a b X Y) d = du1 9 v a b X Y d
    ∧ k0_pay95 (F := Ideal) (yr 10 v) (k0_pay94 (dp 0 v a b X Y) (dp 1 v a b X Y) (dp 2 v a b X Y) (dp 3 v a b X Y) (dp 4 v a b X Y) (dp 5 v a b X Y) (dp 6 v a b X Y) (dp 7 v a b X Y)) d = du1 10 v a b X Y d
    ∧ k0_pay96 (F := Ideal) (yr 11 v) (dp 0 v a b X Y) (dp 1 v a b X Y) (dp 2 v a b X Y) (dp 3 v a b X Y) (dp 4 v a b X Y) (dp 5 v a b X Y) (dp 6 v a b X Y) (dp 7 v a b X Y) d = du1 11 v a b X Y d
    ∧ k0_pay97 (F := Ideal) (yr 12 v) (dp 0 v a b X Y) (dp 1 v a b X Y) (dp 2 v a b X Y) (dp 3 v a b X Y) (dp 4 v a b X Y) (dp 5 v a b X Y) (dp 6 v a b X Y) (dp 7 v a b X Y) d = du1 12 v a b X Y d
    ∧ k0_pay98 (F := Ideal) (yr 13 v) (dp 0 v a b X Y) (dp 1 v a b X Y) (dp 2 v a b X Y) (dp 3 v a b X Y) (dp 4 v a b X Y) (dp 5 v a b X Y) (dp 6 v a b X Y) (dp 7 v a b X Y) d = du1 13 v a b X Y d
    ∧ k0_pay103 (F := Ideal) (yr 14 v) (dp 4 v a b X Y) (dp 5 v a b X Y) (dp 6 v a b X Y) (dp 7 v a b X Y) (k0_pay99 (dp 0 v a b X Y)) (k0_pay100 (dp 1 v a b X Y)) (k0_pay101 (dp 2 v a b X Y)) (k0_pay102 (dp 3 v a b X Y)) d = du1 14 v a b X Y d
    ∧ k0_pay104 (F := Ideal) (yr 15 v) (dp 0 v a b X Y) (dp 1 v a b X Y) (dp 2 v a b X Y) (dp 3 v a b X Y) (dp 4 v a b X Y) (dp 5 v a b X Y) (dp 6 v a b X Y) (dp 7 v a b X Y) d = du1 15 v a b X Y d := by
  refine ⟨?_, ?_, ?_, ?_, ?_, ?_, ?_, ?_, ?_, ?_, ?_, ?_, ?_, ?_, ?_, ?_⟩
  · exact row_du 0 0 (by rfl) v a b X Y d slices_S256x512_o0_0_S16x512 concatenates_S16x512_S16x512_S16x512_S16x512_S16x512_S16x512_S16x512_S16x512_S128x512_d0
  · exact row_du 1 16 (by rfl) v a b X Y d slices_S256x512_o16_0_S16x512 concatenates_S16x512_S16x512_S16x512_S16x512_S16x512_S16x512_S16x512_S16x512_S128x512_d0
  · exact row_du 2 32 (by rfl) v a b X Y d slices_S256x512_o32_0_S16x512 concatenates_S16x512_S16x512_S16x512_S16x512_S16x512_S16x512_S16x512_S16x512_S128x512_d0
  · exact row_du 3 48 (by rfl) v a b X Y d slices_S256x512_o48_0_S16x512 concatenates_S16x512_S16x512_S16x512_S16x512_S16x512_S16x512_S16x512_S16x512_S128x512_d0
  · exact row_du 4 64 (by rfl) v a b X Y d slices_S256x512_o64_0_S16x512 concatenates_S16x512_S16x512_S16x512_S16x512_S16x512_S16x512_S16x512_S16x512_S128x512_d0
  · exact row_du 5 80 (by rfl) v a b X Y d slices_S256x512_o80_0_S16x512 concatenates_S16x512_S16x512_S16x512_S16x512_S16x512_S16x512_S16x512_S16x512_S128x512_d0
  · exact row_du 6 96 (by rfl) v a b X Y d slices_S256x512_o96_0_S16x512 concatenates_S16x512_S16x512_S16x512_S16x512_S16x512_S16x512_S16x512_S16x512_S128x512_d0
  · exact row_du 7 112 (by rfl) v a b X Y d slices_S256x512_o112_0_S16x512 concatenates_S16x512_S16x512_S16x512_S16x512_S16x512_S16x512_S16x512_S16x512_S128x512_d0
  · exact row_du 8 128 (by rfl) v a b X Y d slices_S256x512_o128_0_S16x512 concatenates_S16x512_S16x512_S16x512_S16x512_S16x512_S16x512_S16x512_S16x512_S128x512_d0
  · exact row_du 9 144 (by rfl) v a b X Y d slices_S256x512_o144_0_S16x512 concatenates_S16x512_S16x512_S16x512_S16x512_S16x512_S16x512_S16x512_S16x512_S128x512_d0
  · exact row_du 10 160 (by rfl) v a b X Y d slices_S256x512_o160_0_S16x512 concatenates_S16x512_S16x512_S16x512_S16x512_S16x512_S16x512_S16x512_S16x512_S128x512_d0
  · exact row_du 11 176 (by rfl) v a b X Y d slices_S256x512_o176_0_S16x512 concatenates_S16x512_S16x512_S16x512_S16x512_S16x512_S16x512_S16x512_S16x512_S128x512_d0
  · exact row_du 12 192 (by rfl) v a b X Y d slices_S256x512_o192_0_S16x512 concatenates_S16x512_S16x512_S16x512_S16x512_S16x512_S16x512_S16x512_S16x512_S128x512_d0
  · exact row_du 13 208 (by rfl) v a b X Y d slices_S256x512_o208_0_S16x512 concatenates_S16x512_S16x512_S16x512_S16x512_S16x512_S16x512_S16x512_S16x512_S128x512_d0
  · exact row_du 14 224 (by rfl) v a b X Y d slices_S256x512_o224_0_S16x512 concatenates_S16x512_S16x512_S16x512_S16x512_S16x512_S16x512_S16x512_S16x512_S128x512_d0
  · exact row_du 15 240 (by rfl) v a b X Y d slices_S256x512_o240_0_S16x512 concatenates_S16x512_S16x512_S16x512_S16x512_S16x512_S16x512_S16x512_S16x512_S128x512_d0

theorem out6 (v : FVec Ideal S8192x128 .f32) (a b : FVec Ideal S512x512 .f32) (X : S8x256x256.Idx → Elt Ideal .bf16) (Y : S8x256x128.Idx → Elt Ideal .bf16) (d : FVec Ideal S1x128 .f32) (i : S8192x128.Idx) :
    out0_6 (F := Ideal) v a b X Y d i = du1 ⟨(i 0).val % 16, Nat.mod_lt _ (by omega)⟩ v a b X Y d (ix2 ⟨(i 0).val / 16, by have := (i 0).isLt; simp at this; omega⟩ (i 1)) := by
  frame_out
  simp only [prod0, prod1, prod2, prod3, prod4, prod5, prod6, prod7]
  simp only [prows]
  simp only [rows_o]
  exact stack (fun r => du1 r v a b X Y d) concatenates_S1x512x128_S1x512x128_S1x512x128_S1x512x128_S1x512x128_S1x512x128_S1x512x128_S1x512x128_S1x512x128_S1x512x128_S1x512x128_S1x512x128_S1x512x128_S1x512x128_S1x512x128_S1x512x128_S16x512x128_d0 i

theorem untoep' (Z : FVec Ideal S64x16x16x16x16 .bf16) (G : Fin 64) (p q : Fin 256) :
    shapeCast S64x256x256 Z shapeCasts_S64x16x16x16x16_S64x256x256 (ix3 G p q)
      = Z (ix5 G ⟨p.val / 16, by omega⟩ ⟨p.val % 16, by omega⟩ ⟨q.val / 16, by omega⟩ ⟨q.val % 16, by omega⟩) := by
  pointwise []

theorem toep' (w : FVec Ideal S64x16x16x16 .bf16) (z0 z1 z2 z3 z4 z5 z6 z7 z8 z9 z10 z11 z12 z13 z14 z15 : FVec Ideal S64x16x16x1x16 .bf16) (h0 : z0 = lagF 0 w) (h1 : z1 = lagF 1 w) (h2 : z2 = lagF 2 w) (h3 : z3 = lagF 3 w) (h4 : z4 = lagF 4 w) (h5 : z5 = lagF 5 w) (h6 : z6 = lagF 6 w) (h7 : z7 = lagF 7 w) (h8 : z8 = lagF 8 w) (h9 : z9 = lagF 9 w) (h10 : z10 = lagF 10 w) (h11 : z11 = lagF 11 w) (h12 : z12 = lagF 12 w) (h13 : z13 = lagF 13 w) (h14 : z14 = lagF 14 w) (h15 : z15 = lagF 15 w)
    (h : Shape.Concatenates [S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16, S64x16x16x1x16] S64x16x16x16x16 3) (G : Fin 64) (p q : Fin 256) :
    shapeCast S64x256x256 (concatenate S64x16x16x16x16 3 [⟨S64x16x16x1x16, z0⟩, ⟨S64x16x16x1x16, z1⟩, ⟨S64x16x16x1x16, z2⟩, ⟨S64x16x16x1x16, z3⟩, ⟨S64x16x16x1x16, z4⟩, ⟨S64x16x16x1x16, z5⟩, ⟨S64x16x16x1x16, z6⟩, ⟨S64x16x16x1x16, z7⟩, ⟨S64x16x16x1x16, z8⟩, ⟨S64x16x16x1x16, z9⟩, ⟨S64x16x16x1x16, z10⟩, ⟨S64x16x16x1x16, z11⟩, ⟨S64x16x16x1x16, z12⟩, ⟨S64x16x16x1x16, z13⟩, ⟨S64x16x16x1x16, z14⟩, ⟨S64x16x16x1x16, z15⟩] h) shapeCasts_S64x16x16x16x16_S64x256x256 (ix3 G p q)
      = TM w G q p := by
  subst h0 h1 h2 h3 h4 h5 h6 h7 h8 h9 h10 h11 h12 h13 h14 h15
  exact (untoep' _ G p q).trans (cat_lag (fun s => lagF s w) h _)

variable (m : (ℓ : Loc nD τ sig) → Buf (Elt Ideal) ℓ) (c : Dev nD)

theorem V49 (G : Fin 64) (p q : Fin 256) :
    (V m c main_v49 : FVec Ideal S64x256x256 .bf16) (ix3 G p q) = TM (m ((c : Thread nD τ).loc main_arg3) : FVec Ideal S64x16x16x16 .f32) G q p := by
  unfold V
  after_reads_simp
  obtain ⟨e0, e1, e2, e3, e4, e5, e6, e7, e8, e9, e10, e11, e12, e13, e14, e15⟩ := lags (m ((c : Thread nD τ).loc main_arg3) : FVec Ideal S64x16x16x16 .f32)
  refine toep' (m ((c : Thread nD τ).loc main_arg3) : FVec Ideal S64x16x16x16 .f32) _ _ _ _ _ _ _ _ _ _ _ _ _ _ _ _ ?_ ?_ ?_ ?_ ?_ ?_ ?_ ?_ ?_ ?_ ?_ ?_ ?_ ?_ ?_ ?_ _ G p q
  · simp only [Matrix.cons_val]
    after_reads_simp
    exact e0
  · simp only [Matrix.cons_val]
    after_reads_simp
    exact e1
  · simp only [Matrix.cons_val]
    after_reads_simp
    exact e2
  · simp only [Matrix.cons_val]
    after_reads_simp
    exact e3
  · simp only [Matrix.cons_val]
    after_reads_simp
    exact e4
  · simp only [Matrix.cons_val]
    after_reads_simp
    exact e5
  · simp only [Matrix.cons_val]
    after_reads_simp
    exact e6
  · simp only [Matrix.cons_val]
    after_reads_simp
    exact e7
  · simp only [Matrix.cons_val]
    after_reads_simp
    exact e8
  · simp only [Matrix.cons_val]
    after_reads_simp
    exact e9
  · simp only [Matrix.cons_val]
    after_reads_simp
    exact e10
  · simp only [Matrix.cons_val]
    after_reads_simp
    exact e11
  · simp only [Matrix.cons_val]
    after_reads_simp
    exact e12
  · simp only [Matrix.cons_val]
    after_reads_simp
    exact e13
  · simp only [Matrix.cons_val]
    after_reads_simp
    exact e14
  · simp only [Matrix.cons_val]
    after_reads_simp
    exact e15

theorem V50 (G : Fin 64) (p : Fin 256) (q : Fin 128) :
    (V m c main_v50 : FVec Ideal S64x256x128 .bf16) (ix3 G p q) = (m ((c : Thread nD τ).loc main_arg4) : FVec Ideal S64x256x128 .f32) (ix3 G p q) := by
  unfold V
  after_reads_at

theorem V51 (a : Fin 1) (q : Fin 1024) :
    (V m c main_v51 : FVec Ideal S1x1024 .f32) (ix2 a q) = (m ((c : Thread nD τ).loc main_arg5) : FVec Ideal S1024 .f32) (ix1 q) := by
  unfold V
  after_reads_at

def col (t : Fin cfg0.N) (k : Fin 128) : Fin 1024 :=
  ⟨t.val * 128 + k.val, by have : t.val < 8 := t.isLt; omega⟩

def scol (t : Fin cfg0.N) (k : Fin 512) : Fin 4096 :=
  ⟨t.val * 512 + k.val, by have : t.val < 8 := t.isLt; omega⟩

def grp (t : Fin cfg0.N) (g : Fin 8) : Fin 64 :=
  ⟨t.val * 8 + g.val, by have : t.val < 8 := t.isLt; omega⟩

theorem blk0 (t : Fin cfg0.N) (a : Fin 8192) (k : Fin 128) : iblk m c 0 t (ix2 a k) = (m ((c : Thread nD τ).loc main_arg0)) (ix2 a (col t k)) := by
  blk_ext [iblk, V, idx t, col]

theorem blk1 (t : Fin cfg0.N) (a : Fin 512) (k : Fin 512) : iblk m c 1 t (ix2 a k) = (m ((c : Thread nD τ).loc main_arg1)) (ix2 a (scol t k)) := by
  blk_ext [iblk, V, idx t, scol]

theorem blk2 (t : Fin cfg0.N) (a : Fin 512) (k : Fin 512) : iblk m c 2 t (ix2 a k) = (m ((c : Thread nD τ).loc main_arg2)) (ix2 a (scol t k)) := by
  blk_ext [iblk, V, idx t, scol]

theorem blk3 (t : Fin cfg0.N) (g : Fin 8) (p q : Fin 256) :
    iblk m c 3 t (ix3 g p q) = TM (m ((c : Thread nD τ).loc main_arg3) : FVec Ideal S64x16x16x16 .f32) (grp t g) q p := by
  refine Eq.trans (b := (V m c main_v49 : FVec Ideal S64x256x256 .bf16) (ix3 (grp t g) p q)) ?_ (V49 m c _ _ _)
  blk_ext [iblk, idx t, grp]

theorem blk4 (t : Fin cfg0.N) (g : Fin 8) (p : Fin 256) (q : Fin 128) :
    iblk m c 4 t (ix3 g p q) = (m ((c : Thread nD τ).loc main_arg4) : FVec Ideal S64x256x128 .f32) (ix3 (grp t g) p q) := by
  refine Eq.trans (b := (V m c main_v50 : FVec Ideal S64x256x128 .bf16) (ix3 (grp t g) p q)) ?_ (V50 m c _ _ _)
  blk_ext [iblk, idx t, grp]

theorem blk5 (t : Fin cfg0.N) (a : Fin 1) (q : Fin 128) :
    iblk m c 5 t (ix2 a q) = (m ((c : Thread nD τ).loc main_arg5) : FVec Ideal S1024 .f32) (ix1 (col t q)) := by
  refine Eq.trans (b := (V m c main_v51 : FVec Ideal S1x1024 .f32) (ix2 a (col t q))) ?_ (V51 m c _ _)
  blk_ext [iblk, idx t, col]

theorem emb6 (t : Fin cfg0.N) (a : Fin 8192) (k : Fin 128) :
    ((View.whole main_v52).slice (win0_6.rect t)).emb (ix2 a k) = ix2 a (col t k) := by
  blk_ext [idx t, col]

theorem gm_u (t : Fin cfg0.N) (g : Fin 8) (p : Fin 256) (b : Fin 512) : gm g (iblk m c 0 t) (ix2 p b) = GM (m ((c : Thread nD τ).loc main_arg0)) (grp t g) p b :=
  (blk0 m c t _ _).trans (congrArg (m ((c : Thread nD τ).loc main_arg0)) (congrArg₂ ix2 rfl (Fin.ext (by change t.val * 128 + (g.val * 16 + p.val % 16) = (t.val * 8 + g.val) * 16 + p.val % 16; ring))))

theorem hm_h (t : Fin cfg0.N) (g : Fin 8) (k : Fin 128) (b : Fin 512) : hm g (iblk m c 1 t) (iblk m c 2 t) (ix2 k b) = HM (m ((c : Thread nD τ).loc main_arg1)) (m ((c : Thread nD τ).loc main_arg2)) (grp t g) k b := by
  unfold hm HM
  by_cases h : k.val < 64
  · rw [dif_pos (show ((ix2 k b : S128x512.Idx) 0).val < 64 from h), dif_pos h]
    exact (blk1 m c t _ _).trans (congrArg (m ((c : Thread nD τ).loc main_arg1)) (congrArg₂ ix2 rfl (Fin.ext (by simp only [scol, slane, grp]; change _ + (_ + k.val) = _; ring))))
  · rw [dif_neg (show ¬ ((ix2 k b : S128x512.Idx) 0).val < 64 from h), dif_neg h]
    exact (blk2 m c t _ _).trans (congrArg (m ((c : Thread nD τ).loc main_arg2)) (congrArg₂ ix2 rfl (Fin.ext (by simp only [scol, slane, grp]; change _ + (_ + (k.val - 64)) = _; ring))))

/-- A group's outputs: the convolution of the block's inputs, and the block's entering state read out. -/
def OP (u : FVec Ideal S8192x1024 .f32) (hre him : FVec Ideal S512x4096 .f32) (kern : FVec Ideal S64x16x16x16 .f32) (cpt : FVec Ideal S64x256x128 .f32) (G : Fin 64) (p : Fin 256) (b : Fin 512) : EReal :=
  ∑ k : Fin 256, TM kern G k p * GM u G k b + ∑ k : Fin 128, cpt (ix3 G p k) * HM hre him G k b

/-- The recurrence's output. -/
def T6 (u : FVec Ideal S8192x1024 .f32) (hre him : FVec Ideal S512x4096 .f32) (kern : FVec Ideal S64x16x16x16 .f32) (cpt : FVec Ideal S64x256x128 .f32) (d : FVec Ideal S1024 .f32) : FVec Ideal S8192x1024 .f32 := fun i =>
  OP u hre him kern cpt ⟨(i 1).val / 16, by have := (i 1).isLt; simp at this; omega⟩ ⟨(i 0).val % 16 * 16 + (i 1).val % 16, by omega⟩
      ⟨(i 0).val / 16, by have := (i 0).isLt; simp at this; omega⟩
    + d (ix1 (i 1)) * u i

theorem dp_out (t : Fin cfg0.N) (g : Fin 8) (p : Fin 256) (b : Fin 512) :
    dp g (iblk m c 0 t) (iblk m c 1 t) (iblk m c 2 t) (iblk m c 3 t) (iblk m c 4 t) (ix2 p b) = OP (m ((c : Thread nD τ).loc main_arg0)) (m ((c : Thread nD τ).loc main_arg1)) (m ((c : Thread nD τ).loc main_arg2)) (m ((c : Thread nD τ).loc main_arg3)) (m ((c : Thread nD τ).loc main_arg4)) (grp t g) p b :=
  congrArg₂ (· + ·) (Finset.sum_congr rfl fun k _ => congrArg₂ (· * ·) (blk3 m c t g p k) (gm_u m c t g k b))
    (Finset.sum_congr rfl fun k _ => congrArg₂ (· * ·) (blk4 m c t g p k) (hm_h m c t g k b))

theorem final6 : (dats m 0 c).arrAt 6 cfg0.N = T6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  rw [emb6]
  refine (out6 _ _ _ _ _ _ (ix2 y0 y1)).trans ?_
  have hG : grp t ⟨y1.val / 16, by omega⟩ = (⟨(col t y1).val / 16, by have := (col t y1).isLt; omega⟩ : Fin 64) :=
    Fin.ext (by change t.val * 8 + y1.val / 16 = (t.val * 128 + y1.val) / 16; omega)
  have hq : (⟨y0.val % 16 * 16 + y1.val % 16, by omega⟩ : Fin 256) = ⟨y0.val % 16 * 16 + (col t y1).val % 16, by omega⟩ :=
    Fin.ext (by change y0.val % 16 * 16 + y1.val % 16 = y0.val % 16 * 16 + (t.val * 128 + y1.val) % 16; omega)
  have hb : brow ⟨y0.val / 16, by omega⟩ ⟨y0.val % 16, Nat.mod_lt _ (by omega)⟩ = y0 := Fin.ext (Nat.div_add_mod' _ _)
  exact congrArg₂ (· + ·)
    ((dp_out m c t ⟨y1.val / 16, by omega⟩ ⟨y0.val % 16 * 16 + y1.val % 16, by omega⟩ ⟨y0.val / 16, by omega⟩).trans
      (congrArg₂ (fun G p => OP (m ((c : Thread nD τ).loc main_arg0)) (m ((c : Thread nD τ).loc main_arg1)) (m ((c : Thread nD τ).loc main_arg2)) (m ((c : Thread nD τ).loc main_arg3)) (m ((c : Thread nD τ).loc main_arg4)) G p ⟨y0.val / 16, by omega⟩) hG hq))
    (congrArg₂ (· * ·) (blk5 m c t 0 y1) ((blk0 m c t _ _).trans (congrArg (fun z => (m ((c : Thread nD τ).loc main_arg0)) (ix2 z (col t y1))) hb)))

end Cert.K.S5o

end
-- ==== Proof.K.S5oRef.lean ====
/- The recurrence's outputs: the reference's result. -/
module

public import proofs.«01_k».proof.Proof.K.S5o
public import proofs.«01_k».proof.Proof.K.S5bRef
public import proofs.«01_k».proof.Proof.Gen.S5oRefIdeal.Run
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.S5o

open Idealize.ShloMosaic Idealize.ShloMosaic.TcCoe Idealize.SL.Sem Cert.K.S5b Cert.S5oRefIdeal Cert.S5oRefIdeal.Gen

/-- A factor before a sum of picked terms goes onto each. -/
theorem mul_ite_sum (a : EReal) (r l : Nat) (f : Fin 16 → EReal) :
    a * (∑ s : Fin 16, if r = s.val + l then f s else 0) = ∑ s : Fin 16, if r = s.val + l then a * f s else 0 := by
  by_cases h : l ≤ r ∧ r - l < 16
  · rw [Finset.sum_eq_single (⟨r - l, h.2⟩ : Fin 16), Finset.sum_eq_single (⟨r - l, h.2⟩ : Fin 16)]
    · rw [if_pos (by simp only; omega), if_pos (by simp only; omega)]
    · intro b _ hb
      exact if_neg fun e => hb (Fin.ext (by simp only; omega))
    · simp
    · intro b _ hb
      exact if_neg fun e => hb (Fin.ext (by simp only; omega))
    · simp
  · rw [Finset.sum_eq_zero fun b _ => if_neg (by omega), Finset.sum_eq_zero fun b _ => if_neg (by omega), mul_zero]

/-- Three sums, the innermost brought to the front. -/
theorem swap3 (f : Fin 16 → Fin 16 → Fin 16 → EReal) : ∑ c, ∑ l, ∑ s, f c l s = ∑ s, ∑ c, ∑ l, f c l s :=
  (Finset.sum_congr rfl fun c _ => Finset.sum_comm).trans Finset.sum_comm

theorem ref6 (u : FVec Ideal S8192x1024 .f32) (hre him : FVec Ideal S512x4096 .f32) (kern : FVec Ideal S64x16x16x16 .f32) (cpt : FVec Ideal S64x256x128 .f32) (d : FVec Ideal S1024 .f32) (L : FVec Ideal S16x16x16 .f32) (hL : ∀ r s l : Fin 16, L (ix3 r s l) = if r.val = s.val + l.val then 1 else 0) :
    shapeCast S8192x1024 (addf (addf (transpose S512x16x64x16 [3, 1, 0, 2] (Host.dotGeneral dot_S64x16x16x128_S512x64x128_S64x16x16x512_3_2_12_0_0_1 none (shapeCast _ cpt shapeCasts_S64x256x128_S64x16x16x128) (concatenate S512x64x128 2 [⟨S512x64x64, (shapeCast _ hre shapeCasts_S512x4096_S512x64x64)⟩, ⟨S512x64x64, (shapeCast _ him shapeCasts_S512x4096_S512x64x64)⟩] concatenates_S512x64x64_S512x64x64_S512x64x128_d2)) transposes_S64x16x16x512_S512x16x64x16_3_1_0_2) (transpose S512x16x64x16 [2, 3, 0, 1] (Host.dotGeneral dot_S64x16x16x16_S512x16x16x64x16_S64x16x512x16_31_42_2_01_0_3 none kern (transpose S512x16x16x64x16 [0, 3, 4, 1, 2] (Host.dotGeneral dot_S512x16x64x16_S16x16x16_S512x64x16x16x16_1_1_023_02_n_n none (shapeCast _ u shapeCasts_S8192x1024_S512x16x64x16) L) transposes_S512x64x16x16x16_S512x16x16x64x16_0_3_4_1_2)) transposes_S64x16x512x16_S512x16x64x16_2_3_0_1)) (mulf (broadcastInDim S512x16x64x16 ![0, 1, 2, 3] bcast_S1x1x64x16_S512x16x64x16_0_1_2_3 (broadcastInDim S1x1x64x16 ![2, 3] bcast_S64x16_S1x1x64x16_2_3 (shapeCast _ d shapeCasts_S1024_S64x16))) (shapeCast _ u shapeCasts_S8192x1024_S512x16x64x16))) shapeCasts_S512x16x64x16_S8192x1024 = T6 u hre him kern cpt d := by
  funext i; idx_vars i
  pointwise []
  have h0 := i0.isLt
  have h1 := i1.isLt
  simp only [hL, mul_mark, mul_ite_sum]
  show _ = OP u hre him kern cpt ⟨i1.val / 16, by omega⟩ ⟨i0.val % 16 * 16 + i1.val % 16, by omega⟩ ⟨i0.val / 16, by omega⟩ + d (ix1 i1) * u (ix2 i0 i1)
  unfold OP
  refine congrArg₂ (· + ·) ((add_comm _ _).trans (congrArg₂ (· + ·) ?_ ?_)) rfl
  · refine Eq.trans (b := (∑ s : Fin 16, ∑ c : Fin 16, TM kern ⟨i1.val / 16, by omega⟩ ⟨16 * s.val + c.val, by omega⟩ ⟨i0.val % 16 * 16 + i1.val % 16, by omega⟩ * GM u ⟨i1.val / 16, by omega⟩ ⟨16 * s.val + c.val, by omega⟩ ⟨i0.val / 16, by omega⟩ : EReal)) ?_ (sum256 (fun k => TM kern ⟨i1.val / 16, by omega⟩ k ⟨i0.val % 16 * 16 + i1.val % 16, by omega⟩ * GM u ⟨i1.val / 16, by omega⟩ k ⟨i0.val / 16, by omega⟩)).symm
    refine (swap3 _).trans ?_
    refine Finset.sum_congr rfl fun s _ => Finset.sum_congr rfl fun c _ => ?_
    refine (pick_lag (fun l => kern (ix4 ⟨i1.val / 16, by omega⟩ l ⟨i1.val % 16, by omega⟩ c) * u (ix2 ⟨i0.val / 16 * 16 + s.val, by omega⟩ ⟨i1.val / 16 * 16 + c.val, by omega⟩)) ⟨i0.val % 16, Nat.mod_lt _ (by omega)⟩ s.val).trans ?_
    refine Eq.trans ?_ (congrArg₂ (· * ·) (TM_at kern ⟨i1.val / 16, by omega⟩ ⟨16 * s.val + c.val, by omega⟩ ⟨i0.val % 16 * 16 + i1.val % 16, by omega⟩).symm rfl)
    by_cases h : s.val ≤ i0.val % 16
    · rw [dif_pos h, dif_pos (by simp only; omega)]
      unfold GM brow
      congr 3
      all_goals first | rfl | exact Fin.ext (by simp only; omega)
    · rw [dif_neg h, dif_neg (by simp only; omega), zero_mul]
  · refine Eq.trans ?_ (Fin.sum_univ_add (M := EReal) (a := 64) (b := 64) _).symm
    refine congrArg₂ (· + ·) (Finset.sum_congr rfl fun k _ => congrArg₂ (· * ·) rfl ?_) (Finset.sum_congr rfl fun k _ => congrArg₂ (· * ·) rfl ?_)
    · unfold HM
      rw [dif_pos (show (Fin.castAdd 64 k).val < 64 from k.isLt)]
      rfl
    · unfold HM
      rw [dif_neg (show ¬ (Fin.natAdd 64 k).val < 64 by change ¬ 64 + k.val < 64; omega)]
      exact congrArg him (congrArg₂ ix2 rfl (Fin.ext (by simp)))

end Cert.K.S5o

end
-- ==== Proof.K.S5oClaims.lean ====
/- The claims about the recurrence's outputs, assembled. -/
module

public import proofs.«01_k».proof.Proof.K.S5o
public import proofs.«01_k».proof.Proof.K.S5oRef
public import proofs.«01_k».proof.Proof.Gen.S5oIdeal.Value
public import proofs.«01_k».proof.Proof.Gen.S5oRefIdeal.Run
public import proofs.«01_k».proof.Defs
public import proofs.«01_k».proof.Proof.Gen.S5o.Frame
public import proofs.«01_k».proof.Proof.Gen.S5oIdeal.Frame
public import Idealize.ShloMosaic.Adequacy
public import Idealize.ShloMosaic.Init

@[expose] public section

noncomputable section

namespace Cert.K.S5o

open Idealize.ShloMosaic Idealize.ShloMosaic.TcCoe Idealize.SL.Sem Cert.S5oIdeal

theorem frameRef : Cert.quiescent_S5oRefIdeal := fun m ρ _ =>
  (θ_run _ _ _).mono (fun r h => ⟨fun c => (h c).2, sem_eq_zero_of_no_sems (by decide) r.2⟩)
    (Cert.S5oRefIdeal.Value.run m ρ)

theorem congr6 {u u' : FVec Ideal S8192x1024 .f32} {x x' y y' : FVec Ideal S512x4096 .f32} {w w' : FVec Ideal S64x16x16x16 .f32} {z z' : FVec Ideal S64x256x128 .f32} {d d' : FVec Ideal S1024 .f32}
    (h0 : u = u') (h1 : x = x') (h2 : y = y') (h3 : w = w') (h4 : z = z') (h5 : d = d') : T6 u x y w z d = T6 u' x' y' w' z' d' := by
  subst h0 h1 h2 h3 h4 h5; rfl

set_option maxHeartbeats 1000000 in
theorem alg : Cert.algebraic_S5oIdeal_S5oRefIdeal := by
  intro m ρ m' ρ' _ hag
  refine ⟨fun c => (Cert.S5oIdeal.Gen.dats m 0 c).arrAt 6 _, Cert.S5oIdeal.Value.run_blocks m ρ, ?_⟩
  refine (θ_run _ _ _).mono (fun _ h c => ?_) (Cert.S5oRefIdeal.Value.run m' ρ')
  obtain ⟨h6, ha⟩ := h c
  obtain ⟨e0, e1, e2, e3, e4, e5⟩ := hag c
  refine ⟨h6.trans ((ref6 _ _ _ _ _ _ _ Cert.K.S5b.lagged_at).trans ?_), ha⟩
  exact (congr6 e0 e1 e2 e3 e4 e5).trans (final6 m c).symm

end Cert.K.S5o

end
-- ==== Proof.K.AttnF.lean ====
/- The attention's forward call: its output as a formula of the arguments. -/
module

public import proofs.«01_k».proof.Proof.K.Real
public import proofs.«01_k».proof.Proof.Gen.AttnFIdeal.Value
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.AttnF

open Idealize.ShloMosaic Idealize.ShloMosaic.TcCoe Idealize.SL.Sem Cert.AttnFIdeal Cert.AttnFIdeal.Gen

/-- The largest of a row's scores and its sink. -/
def mx (sc : Fin 256 → EReal) (sk : EReal) : EReal := max (Finset.univ.fold max (Ideal.ofBits .f32 0xFF800000#32) sc) sk

/-- The row's denominator. -/
def den (sc : Fin 256 → EReal) (sk : EReal) : EReal := ∑ j, Ideal.exp (sc j - mx sc sk) + Ideal.exp (sk - mx sc sk)

/-- The row's weights times one column of the values. -/
def AV (sc : Fin 256 → EReal) (sk : EReal) (v : Fin 256 → EReal) : EReal :=
  ∑ j, v j * (Ideal.exp (sc j - mx sc sk) * Ideal.div 1 (den sc sk))

/-- What the body computes of one key head: eight heads' queries side by side, their scores, weights and outputs. -/
def core (bias : FVec Ideal S256x1024 .f32) (qc : FVec Ideal S64x1024 .f32) (kk : FVec Ideal S256x64 .bf16) (vc : FVec Ideal S64x256 .f32) (v48 : FVec Ideal S1x1x1024 .f32) : FVec Ideal S64x1024 .f32 :=
  let v49 : FVec Ideal S1x1024 .f32 := shapeCast S1x1024 v48 shapeCasts_S1x1x1024_S1x1024
  let v53 : FVec Ideal S256x1024 .f32 := addf (mulf (matmul dot_S256x64_S64x1024_S256x1024_1_0_0_1_n_n none kk (truncf .bf16 qc bitsLt_bf16_f32 : FVec Ideal S64x1024 .bf16) (constant S256x1024 .f32 0x00000000#32)) (broadcast S256x1024 (Scalar.ofBits .f32 0x3E000000#32))) bias
  let v56 : FVec Ideal S1x1024 .f32 := maximumf (shapeCast S1x1024 (multiReduction .maximumf [0] S1024 v53 0xFF800000#32 reduces_S256x1024_S1024 (.inl rfl) rfl) shapeCasts_S1024_S1x1024) v49
  let v59 : FVec Ideal S256x1024 .f32 := exp (subf v53 (broadcastTo S256x1024 v56 broadcasts_S1x1024_S256x1024))
  let v64 : FVec Ideal S1x1024 .f32 := addf (shapeCast S1x1024 (multiReduction .add [0] S1024 v59 0x00000000#32 reduces_S256x1024_S1024 (.inl rfl) rfl) shapeCasts_S1024_S1x1024) (exp (subf v49 v56))
  let v68 : FVec Ideal S256x1024 .f32 := mulf v59 (broadcastTo S256x1024 (divf (broadcast S1x1024 (Scalar.ofBits .f32 0x3F800000#32)) v64) broadcasts_S1x1024_S256x1024)
  matmul dot_S64x256_S256x1024_S64x1024_1_0_0_1_n_n none (truncf .bf16 vc bitsLt_bf16_f32 : FVec Ideal S64x256 .bf16) (truncf .bf16 v68 bitsLt_bf16_f32 : FVec Ideal S256x1024 .bf16) (constant S64x1024 .f32 0x00000000#32)

theorem core_at (bias : FVec Ideal S256x1024 .f32) (qc : FVec Ideal S64x1024 .f32) (kk : FVec Ideal S256x64 .bf16) (vc : FVec Ideal S64x256 .f32) (s : FVec Ideal S1x1x1024 .f32) (d : Fin 64) (l : Fin 1024) :
    core bias qc kk vc s (ix2 d l) = AV (fun j => (∑ e : Fin 64, kk (ix2 j e) * qc (ix2 e l)) * Ideal.ofBits .f32 0x3E000000#32 + bias (ix2 j l)) (s (ix3 0 0 l)) (fun j => vc (ix2 d j)) := by
  pointwise [core, AV, den, mx]

theorem cat8q (f : Fin 8 → FVec Ideal S64x128 .f32) (h : Shape.Concatenates [S64x128, S64x128, S64x128, S64x128, S64x128, S64x128, S64x128, S64x128] S64x1024 1) (i : S64x1024.Idx) :
    concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩] h i
      = f ⟨(i 1).val / 128, by have := (i 1).isLt; simp at this; omega⟩ (ix2 (i 0) ⟨(i 1).val % 128, Nat.mod_lt _ (by omega)⟩) :=
  concatenate_ofFn_apply (s₁ := S64x128) (t := S64x1024) 1 f h rfl 128 rfl i ⟨(i 1).val / 128, by have := (i 1).isLt; simp at this; omega⟩ rfl
    (ix2 (i 0) ⟨(i 1).val % 128, Nat.mod_lt _ (by omega)⟩) rfl (fun b hb => by
      fin_cases b
      · rfl
      · exact absurd rfl hb)

theorem cat8o (f : Fin 8 → FVec Ideal S64x128 .f32) (h : Shape.Concatenates [S64x128, S64x128, S64x128, S64x128, S64x128, S64x128, S64x128, S64x128] S512x128 0) (i : S512x128.Idx) :
    concatenate S512x128 0 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩] h i
      = f ⟨(i 0).val / 64, by have := (i 0).isLt; simp at this; omega⟩ (ix2 ⟨(i 0).val % 64, Nat.mod_lt _ (by omega)⟩ (i 1)) :=
  concatenate_ofFn_apply (s₁ := S64x128) (t := S512x128) 0 f h rfl 64 rfl i ⟨(i 0).val / 64, by have := (i 0).isLt; simp at this; omega⟩ rfl
    (ix2 ⟨(i 0).val % 64, Nat.mod_lt _ (by omega)⟩ (i 1)) rfl (fun b hb => by
      fin_cases b
      · exact absurd rfl hb
      · rfl)

theorem cat8b (f : Fin 8 → FVec Ideal S256x128 .f32) (h : Shape.Concatenates [S256x128, S256x128, S256x128, S256x128, S256x128, S256x128, S256x128, S256x128] S256x1024 1) (i : S256x1024.Idx) :
    concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩] h i
      = f ⟨(i 1).val / 128, by have := (i 1).isLt; simp at this; omega⟩ (ix2 (i 0) ⟨(i 1).val % 128, Nat.mod_lt _ (by omega)⟩) :=
  concatenate_ofFn_apply (s₁ := S256x128) (t := S256x1024) 1 f h rfl 128 rfl i ⟨(i 1).val / 128, by have := (i 1).isLt; simp at this; omega⟩ rfl
    (ix2 (i 0) ⟨(i 1).val % 128, Nat.mod_lt _ (by omega)⟩) rfl (fun b hb => by
      fin_cases b
      · rfl
      · exact absurd rfl hb)

theorem qcat0 (q : FVec Ideal S1024x128 .f32) (a : Fin 64) (l : Fin 1024) :
    concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1 (ix2 a l)
      = q (ix2 ⟨0 + l.val / 128 * 64 + a.val, by omega⟩ ⟨l.val % 128, Nat.mod_lt _ (by omega)⟩) := by
  refine (cat8q ![extractStridedSlice S64x128 ![0, 0] q slices_S1024x128_o0_0_S64x128, extractStridedSlice S64x128 ![64, 0] q slices_S1024x128_o64_0_S64x128, extractStridedSlice S64x128 ![128, 0] q slices_S1024x128_o128_0_S64x128, extractStridedSlice S64x128 ![192, 0] q slices_S1024x128_o192_0_S64x128, extractStridedSlice S64x128 ![256, 0] q slices_S1024x128_o256_0_S64x128, extractStridedSlice S64x128 ![320, 0] q slices_S1024x128_o320_0_S64x128, extractStridedSlice S64x128 ![384, 0] q slices_S1024x128_o384_0_S64x128, extractStridedSlice S64x128 ![448, 0] q slices_S1024x128_o448_0_S64x128] concatenates_S64x128_S64x128_S64x128_S64x128_S64x128_S64x128_S64x128_S64x128_S64x1024_d1 (ix2 a l)).trans ?_
  have key : ∀ (g : Fin 8) (b : Fin 128), (![extractStridedSlice S64x128 ![0, 0] q slices_S1024x128_o0_0_S64x128, extractStridedSlice S64x128 ![64, 0] q slices_S1024x128_o64_0_S64x128, extractStridedSlice S64x128 ![128, 0] q slices_S1024x128_o128_0_S64x128, extractStridedSlice S64x128 ![192, 0] q slices_S1024x128_o192_0_S64x128, extractStridedSlice S64x128 ![256, 0] q slices_S1024x128_o256_0_S64x128, extractStridedSlice S64x128 ![320, 0] q slices_S1024x128_o320_0_S64x128, extractStridedSlice S64x128 ![384, 0] q slices_S1024x128_o384_0_S64x128, extractStridedSlice S64x128 ![448, 0] q slices_S1024x128_o448_0_S64x128] : Fin 8 → FVec Ideal S64x128 .f32) g (ix2 a b) = q (ix2 ⟨0 + g.val * 64 + a.val, by omega⟩ b) := by
    intro g b
    fin_cases g <;> pointwise []
  exact key ⟨l.val / 128, by omega⟩ ⟨l.val % 128, Nat.mod_lt _ (by omega)⟩

theorem qcat1 (q : FVec Ideal S1024x128 .f32) (a : Fin 64) (l : Fin 1024) :
    concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1 (ix2 a l)
      = q (ix2 ⟨512 + l.val / 128 * 64 + a.val, by omega⟩ ⟨l.val % 128, Nat.mod_lt _ (by omega)⟩) := by
  refine (cat8q ![extractStridedSlice S64x128 ![512, 0] q slices_S1024x128_o512_0_S64x128, extractStridedSlice S64x128 ![576, 0] q slices_S1024x128_o576_0_S64x128, extractStridedSlice S64x128 ![640, 0] q slices_S1024x128_o640_0_S64x128, extractStridedSlice S64x128 ![704, 0] q slices_S1024x128_o704_0_S64x128, extractStridedSlice S64x128 ![768, 0] q slices_S1024x128_o768_0_S64x128, extractStridedSlice S64x128 ![832, 0] q slices_S1024x128_o832_0_S64x128, extractStridedSlice S64x128 ![896, 0] q slices_S1024x128_o896_0_S64x128, extractStridedSlice S64x128 ![960, 0] q slices_S1024x128_o960_0_S64x128] concatenates_S64x128_S64x128_S64x128_S64x128_S64x128_S64x128_S64x128_S64x128_S64x1024_d1 (ix2 a l)).trans ?_
  have key : ∀ (g : Fin 8) (b : Fin 128), (![extractStridedSlice S64x128 ![512, 0] q slices_S1024x128_o512_0_S64x128, extractStridedSlice S64x128 ![576, 0] q slices_S1024x128_o576_0_S64x128, extractStridedSlice S64x128 ![640, 0] q slices_S1024x128_o640_0_S64x128, extractStridedSlice S64x128 ![704, 0] q slices_S1024x128_o704_0_S64x128, extractStridedSlice S64x128 ![768, 0] q slices_S1024x128_o768_0_S64x128, extractStridedSlice S64x128 ![832, 0] q slices_S1024x128_o832_0_S64x128, extractStridedSlice S64x128 ![896, 0] q slices_S1024x128_o896_0_S64x128, extractStridedSlice S64x128 ![960, 0] q slices_S1024x128_o960_0_S64x128] : Fin 8 → FVec Ideal S64x128 .f32) g (ix2 a b) = q (ix2 ⟨512 + g.val * 64 + a.val, by omega⟩ b) := by
    intro g b
    fin_cases g <;> pointwise []
  exact key ⟨l.val / 128, by omega⟩ ⟨l.val % 128, Nat.mod_lt _ (by omega)⟩

theorem ocat (o : FVec Ideal S64x1024 .f32) (a : Fin 512) (b : Fin 128) :
    concatenate S512x128 0 [⟨S64x128, extractStridedSlice S64x128 ![0, 0] o slices_S64x1024_o0_0_S64x128⟩, ⟨S64x128, extractStridedSlice S64x128 ![0, 128] o slices_S64x1024_o0_128_S64x128⟩, ⟨S64x128, extractStridedSlice S64x128 ![0, 256] o slices_S64x1024_o0_256_S64x128⟩, ⟨S64x128, extractStridedSlice S64x128 ![0, 384] o slices_S64x1024_o0_384_S64x128⟩, ⟨S64x128, extractStridedSlice S64x128 ![0, 512] o slices_S64x1024_o0_512_S64x128⟩, ⟨S64x128, extractStridedSlice S64x128 ![0, 640] o slices_S64x1024_o0_640_S64x128⟩, ⟨S64x128, extractStridedSlice S64x128 ![0, 768] o slices_S64x1024_o0_768_S64x128⟩, ⟨S64x128, extractStridedSlice S64x128 ![0, 896] o slices_S64x1024_o0_896_S64x128⟩] concatenates_S64x128_S64x128_S64x128_S64x128_S64x128_S64x128_S64x128_S64x128_S512x128_d0 (ix2 a b)
      = o (ix2 ⟨a.val % 64, Nat.mod_lt _ (by omega)⟩ ⟨a.val / 64 * 128 + b.val, by omega⟩) := by
  refine (cat8o ![extractStridedSlice S64x128 ![0, 0] o slices_S64x1024_o0_0_S64x128, extractStridedSlice S64x128 ![0, 128] o slices_S64x1024_o0_128_S64x128, extractStridedSlice S64x128 ![0, 256] o slices_S64x1024_o0_256_S64x128, extractStridedSlice S64x128 ![0, 384] o slices_S64x1024_o0_384_S64x128, extractStridedSlice S64x128 ![0, 512] o slices_S64x1024_o0_512_S64x128, extractStridedSlice S64x128 ![0, 640] o slices_S64x1024_o0_640_S64x128, extractStridedSlice S64x128 ![0, 768] o slices_S64x1024_o0_768_S64x128, extractStridedSlice S64x128 ![0, 896] o slices_S64x1024_o0_896_S64x128] concatenates_S64x128_S64x128_S64x128_S64x128_S64x128_S64x128_S64x128_S64x128_S512x128_d0 (ix2 a b)).trans ?_
  have key : ∀ (g : Fin 8) (a : Fin 64), (![extractStridedSlice S64x128 ![0, 0] o slices_S64x1024_o0_0_S64x128, extractStridedSlice S64x128 ![0, 128] o slices_S64x1024_o0_128_S64x128, extractStridedSlice S64x128 ![0, 256] o slices_S64x1024_o0_256_S64x128, extractStridedSlice S64x128 ![0, 384] o slices_S64x1024_o0_384_S64x128, extractStridedSlice S64x128 ![0, 512] o slices_S64x1024_o0_512_S64x128, extractStridedSlice S64x128 ![0, 640] o slices_S64x1024_o0_640_S64x128, extractStridedSlice S64x128 ![0, 768] o slices_S64x1024_o0_768_S64x128, extractStridedSlice S64x128 ![0, 896] o slices_S64x1024_o0_896_S64x128] : Fin 8 → FVec Ideal S64x128 .f32) g (ix2 a b) = o (ix2 a ⟨g.val * 128 + b.val, by omega⟩) := by
    intro g a
    fin_cases g <;> pointwise []
  exact key ⟨a.val / 64, by omega⟩ ⟨a.val % 64, Nat.mod_lt _ (by omega)⟩

/-- Whether a row of a block sees a key: the key is at most 127 behind, and the first block has nothing before it. -/
def valid (n r j : Nat) : Prop := (j ≤ r + 128 ∧ r < j) ∧ (0 < n ∨ 128 ≤ j)

instance (n r j : Nat) : Decidable (valid n r j) := by unfold valid; infer_instance

theorem named_mask : Named.named (F := Ideal) (φ := .f32) κ "mask" 0xF149F2CA#32 = (⊥ : EReal) :=
  IdealRules.named_const.ideal_named_scalar _ _ _ _ rfl

theorem band : ∀ (r : Fin 128) (j : Fin 256),
    IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32)
      = if j.val ≤ r.val + 128 ∧ r.val < j.val then 1#1 else 0#1 := by
  decide +kernel

theorem after_key : ∀ j : Fin 256, IntOp.cmpi CmpIPredicate.sge (BitVec.ofNat 32 j.val) 128#32 = if 128 ≤ j.val then 1#1 else 0#1 := by
  decide +kernel

theorem first : ∀ t : Fin cfg0.N, Scalar.xori (Scalar.cmpi CmpIPredicate.eq (BitVec.ofNat 32 (grid0.coords t 0).val) 0#32) 1#1 = if 0 < t.val then 1#1 else 0#1 :=
  (by decide +kernel : ∀ t : Fin grid0.N, Scalar.xori (Scalar.cmpi CmpIPredicate.eq (BitVec.ofNat 32 (grid0.coords t 0).val) 0#32) 1#1 = if 0 < t.val then 1#1 else 0#1)

theorem sel (p q r : Prop) [Decidable p] [Decidable q] [Decidable r] [Decidable (p ∧ (q ∨ r))] (x y : EReal) :
    Scalar.select (IntOp.andi (if p then 1#1 else 0#1) (IntOp.ori (if q then 1#1 else 0#1) (if r then 1#1 else 0#1))) x y = if p ∧ (q ∨ r) then x else y := by
  by_cases hp : p <;> by_cases hq : q <;> by_cases hr : r <;> simp [hp, hq, hr, Scalar.select, IntOp.andi, IntOp.ori]

theorem bias_at (t : Fin cfg0.N) (j : Fin 256) (l : Fin 1024) :
    k0_pay2 (F := Ideal) (grid0.coords t) (ix2 j l) = if valid t.val (l.val % 128) j.val then 0 else ⊥ := by
  unfold k0_pay2
  refine (cat8b (fun _ => _) _ (ix2 j l)).trans ?_
  pointwise [named_mask]
  rw [band ⟨l.val % 128, Nat.mod_lt _ (by omega)⟩ j, after_key j, first t]
  exact sel _ _ _ _ _

/-- A row of the block before or of the block itself. -/
def two (a b : FVec Ideal S128x128 .f32) (j : Fin 256) (e : Fin 128) : EReal :=
  if h : j.val < 128 then a (ix2 ⟨j.val, h⟩ e) else b (ix2 ⟨j.val - 128, by omega⟩ e)

/-- A block's output. -/
def OB (t : Nat) (x0 : FVec Ideal S2x1x1024 .f32) (x1 : FVec Ideal S128x1024 .f32) (x2 x3 x4 x5 : FVec Ideal S128x128 .f32) (r : Fin 128) (a : Fin 1024) : EReal :=
  AV (fun j => (∑ e : Fin 64, two x3 x2 j ⟨a.val / 512 * 64 + e.val, by omega⟩ * x1 (ix2 r ⟨a.val / 64 * 64 + e.val, by omega⟩)) * Ideal.ofBits .f32 0x3E000000#32
      + if valid t r.val j.val then 0 else ⊥)
    (x0 (ix3 ⟨a.val / 512, by omega⟩ 0 ⟨a.val % 512 / 64 * 128 + r.val, by omega⟩)) (fun j => two x5 x4 j ⟨a.val / 512 * 64 + a.val % 64, by omega⟩)

theorem AV_congr {sc sc' : Fin 256 → EReal} {sk sk' : EReal} {v v' : Fin 256 → EReal} (h : ∀ j, sc j = sc' j) (hs : sk = sk') (hv : ∀ j, v j = v' j) :
    AV sc sk v = AV sc' sk' v' := by
  obtain rfl : sc = sc' := funext h
  obtain rfl : v = v' := funext hv
  rw [hs]

theorem turn (X : FVec Ideal S512x128 .f32) (r : Fin 128) (a : Fin 512) : transpose S128x512 [1, 0] X transposes_S512x128_p1_0_S128x512 (ix2 r a) = X (ix2 a r) := by
  pointwise []

theorem vals0 (x4 x5 : FVec Ideal S128x128 .bf16) (d : Fin 64) (j : Fin 256) :
    concatenate S64x256 1 [⟨S64x128, extractStridedSlice S64x128 ![0, 0] (k0_pay4 (F := Ideal) x5) slices_S128x128_o0_0_S64x128⟩, ⟨S64x128, extractStridedSlice S64x128 ![0, 0] (k0_pay5 (F := Ideal) x4) slices_S128x128_o0_0_S64x128⟩] concatenates_S64x128_S64x128_S64x256_d1 (ix2 d j)
      = two x5 x4 j ⟨0 + d.val, by omega⟩ := by
  pointwise [k0_pay4, k0_pay5, two]

theorem half0 (B : FVec Ideal S256x1024 .f32) (K : FVec Ideal S256x64 .bf16) (s : FVec Ideal S1x1x1024 .f32) (x1 : FVec Ideal S128x1024 .bf16) (x2 x3 x4 x5 : FVec Ideal S128x128 .bf16) (t : Nat) (sk : Fin 1024 → EReal)
    (hB : ∀ j l, B (ix2 j l) = if valid t (l.val % 128) j.val then 0 else ⊥) (hK : ∀ (j : Fin 256) (e : Fin 64), K (ix2 j e) = two x3 x2 j ⟨0 + e.val, by omega⟩) (hs : ∀ l, s (ix3 0 0 l) = sk l)
    (d : Fin 64) (l : Fin 1024) :
    core B (concatenate S64x1024 1 [⟨S64x128, extractStridedSlice S64x128 ![0, 0] (k0_pay3 (F := Ideal) x1) slices_S1024x128_o0_0_S64x128⟩, ⟨S64x128, extractStridedSlice S64x128 ![64, 0] (k0_pay3 (F := Ideal) x1) slices_S1024x128_o64_0_S64x128⟩, ⟨S64x128, extractStridedSlice S64x128 ![128, 0] (k0_pay3 (F := Ideal) x1) slices_S1024x128_o128_0_S64x128⟩, ⟨S64x128, extractStridedSlice S64x128 ![192, 0] (k0_pay3 (F := Ideal) x1) slices_S1024x128_o192_0_S64x128⟩, ⟨S64x128, extractStridedSlice S64x128 ![256, 0] (k0_pay3 (F := Ideal) x1) slices_S1024x128_o256_0_S64x128⟩, ⟨S64x128, extractStridedSlice S64x128 ![320, 0] (k0_pay3 (F := Ideal) x1) slices_S1024x128_o320_0_S64x128⟩, ⟨S64x128, extractStridedSlice S64x128 ![384, 0] (k0_pay3 (F := Ideal) x1) slices_S1024x128_o384_0_S64x128⟩, ⟨S64x128, extractStridedSlice S64x128 ![448, 0] (k0_pay3 (F := Ideal) x1) slices_S1024x128_o448_0_S64x128⟩] concatenates_S64x128_S64x128_S64x128_S64x128_S64x128_S64x128_S64x128_S64x128_S64x1024_d1) K
      (concatenate S64x256 1 [⟨S64x128, extractStridedSlice S64x128 ![0, 0] (k0_pay4 (F := Ideal) x5) slices_S128x128_o0_0_S64x128⟩, ⟨S64x128, extractStridedSlice S64x128 ![0, 0] (k0_pay5 (F := Ideal) x4) slices_S128x128_o0_0_S64x128⟩] concatenates_S64x128_S64x128_S64x256_d1) s (ix2 d l)
      = AV (fun j => (∑ e : Fin 64, two x3 x2 j ⟨0 + e.val, by omega⟩ * x1 (ix2 ⟨l.val % 128, Nat.mod_lt _ (by omega)⟩ ⟨0 + l.val / 128 * 64 + e.val, by omega⟩)) * Ideal.ofBits .f32 0x3E000000#32
          + if valid t (l.val % 128) j.val then 0 else ⊥) (sk l) (fun j => two x5 x4 j ⟨0 + d.val, by omega⟩) := by
  refine (core_at _ _ _ _ _ d l).trans (AV_congr (fun j => congrArg₂ (· + ·) (congrArg₂ (· * ·) (Finset.sum_congr rfl fun e _ => congrArg₂ (· * ·) (hK j e) ?_) rfl) (hB j l)) (hs l) fun j => vals0 x4 x5 d j)
  refine (qcat0 _ e l).trans ?_
  pointwise [k0_pay3]

theorem vals1 (x4 x5 : FVec Ideal S128x128 .bf16) (d : Fin 64) (j : Fin 256) :
    concatenate S64x256 1 [⟨S64x128, extractStridedSlice S64x128 ![64, 0] (k0_pay4 (F := Ideal) x5) slices_S128x128_o64_0_S64x128⟩, ⟨S64x128, extractStridedSlice S64x128 ![64, 0] (k0_pay5 (F := Ideal) x4) slices_S128x128_o64_0_S64x128⟩] concatenates_S64x128_S64x128_S64x256_d1 (ix2 d j)
      = two x5 x4 j ⟨64 + d.val, by omega⟩ := by
  pointwise [k0_pay4, k0_pay5, two]

theorem half1 (B : FVec Ideal S256x1024 .f32) (K : FVec Ideal S256x64 .bf16) (s : FVec Ideal S1x1x1024 .f32) (x1 : FVec Ideal S128x1024 .bf16) (x2 x3 x4 x5 : FVec Ideal S128x128 .bf16) (t : Nat) (sk : Fin 1024 → EReal)
    (hB : ∀ j l, B (ix2 j l) = if valid t (l.val % 128) j.val then 0 else ⊥) (hK : ∀ (j : Fin 256) (e : Fin 64), K (ix2 j e) = two x3 x2 j ⟨64 + e.val, by omega⟩) (hs : ∀ l, s (ix3 0 0 l) = sk l)
    (d : Fin 64) (l : Fin 1024) :
    core B (concatenate S64x1024 1 [⟨S64x128, extractStridedSlice S64x128 ![512, 0] (k0_pay3 (F := Ideal) x1) slices_S1024x128_o512_0_S64x128⟩, ⟨S64x128, extractStridedSlice S64x128 ![576, 0] (k0_pay3 (F := Ideal) x1) slices_S1024x128_o576_0_S64x128⟩, ⟨S64x128, extractStridedSlice S64x128 ![640, 0] (k0_pay3 (F := Ideal) x1) slices_S1024x128_o640_0_S64x128⟩, ⟨S64x128, extractStridedSlice S64x128 ![704, 0] (k0_pay3 (F := Ideal) x1) slices_S1024x128_o704_0_S64x128⟩, ⟨S64x128, extractStridedSlice S64x128 ![768, 0] (k0_pay3 (F := Ideal) x1) slices_S1024x128_o768_0_S64x128⟩, ⟨S64x128, extractStridedSlice S64x128 ![832, 0] (k0_pay3 (F := Ideal) x1) slices_S1024x128_o832_0_S64x128⟩, ⟨S64x128, extractStridedSlice S64x128 ![896, 0] (k0_pay3 (F := Ideal) x1) slices_S1024x128_o896_0_S64x128⟩, ⟨S64x128, extractStridedSlice S64x128 ![960, 0] (k0_pay3 (F := Ideal) x1) slices_S1024x128_o960_0_S64x128⟩] concatenates_S64x128_S64x128_S64x128_S64x128_S64x128_S64x128_S64x128_S64x128_S64x1024_d1) K
      (concatenate S64x256 1 [⟨S64x128, extractStridedSlice S64x128 ![64, 0] (k0_pay4 (F := Ideal) x5) slices_S128x128_o64_0_S64x128⟩, ⟨S64x128, extractStridedSlice S64x128 ![64, 0] (k0_pay5 (F := Ideal) x4) slices_S128x128_o64_0_S64x128⟩] concatenates_S64x128_S64x128_S64x256_d1) s (ix2 d l)
      = AV (fun j => (∑ e : Fin 64, two x3 x2 j ⟨64 + e.val, by omega⟩ * x1 (ix2 ⟨l.val % 128, Nat.mod_lt _ (by omega)⟩ ⟨512 + l.val / 128 * 64 + e.val, by omega⟩)) * Ideal.ofBits .f32 0x3E000000#32
          + if valid t (l.val % 128) j.val then 0 else ⊥) (sk l) (fun j => two x5 x4 j ⟨64 + d.val, by omega⟩) := by
  refine (core_at _ _ _ _ _ d l).trans (AV_congr (fun j => congrArg₂ (· + ·) (congrArg₂ (· * ·) (Finset.sum_congr rfl fun e _ => congrArg₂ (· * ·) (hK j e) ?_) rfl) (hB j l)) (hs l) fun j => vals1 x4 x5 d j)
  refine (qcat1 _ e l).trans ?_
  pointwise [k0_pay3]

theorem eq0 (B : FVec Ideal S256x1024 .f32) (q : FVec Ideal S1024x128 .f32) (vp vc : FVec Ideal S128x128 .f32) (K : FVec Ideal S256x64 .bf16) (s : FVec Ideal S1x1x1024 .f32) :
    k0_pay10 (F := Ideal) B q vp vc K (extractStridedSlice S64x128 ![0, 0] q slices_S1024x128_o0_0_S64x128) (extractStridedSlice S64x128 ![64, 0] q slices_S1024x128_o64_0_S64x128) (extractStridedSlice S64x128 ![128, 0] q slices_S1024x128_o128_0_S64x128) s = transpose S128x512 [1, 0] (concatenate S512x128 0 [⟨S64x128, extractStridedSlice S64x128 ![0, 0] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_0_S64x128⟩, ⟨S64x128, extractStridedSlice S64x128 ![0, 128] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_128_S64x128⟩, ⟨S64x128, extractStridedSlice S64x128 ![0, 256] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_256_S64x128⟩, ⟨S64x128, extractStridedSlice S64x128 ![0, 384] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_384_S64x128⟩, ⟨S64x128, extractStridedSlice S64x128 ![0, 512] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_512_S64x128⟩, ⟨S64x128, extractStridedSlice S64x128 ![0, 640] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_640_S64x128⟩, ⟨S64x128, extractStridedSlice S64x128 ![0, 768] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_768_S64x128⟩, ⟨S64x128, extractStridedSlice S64x128 ![0, 896] (core B (concatenate S64x1024 1 [⟨S64x128, extractStridedSlice S64x128 ![0, 0] q slices_S1024x128_o0_0_S64x128⟩, ⟨S64x128, extractStridedSlice S64x128 ![64, 0] q slices_S1024x128_o64_0_S64x128⟩, ⟨S64x128, extractStridedSlice S64x128 ![128, 0] q slices_S1024x128_o128_0_S64x128⟩, ⟨S64x128, extractStridedSlice S64x128 ![192, 0] q slices_S1024x128_o192_0_S64x128⟩, ⟨S64x128, extractStridedSlice S64x128 ![256, 0] q slices_S1024x128_o256_0_S64x128⟩, ⟨S64x128, extractStridedSlice S64x128 ![320, 0] q slices_S1024x128_o320_0_S64x128⟩, ⟨S64x128, extractStridedSlice S64x128 ![384, 0] q slices_S1024x128_o384_0_S64x128⟩, ⟨S64x128, extractStridedSlice S64x128 ![448, 0] q slices_S1024x128_o448_0_S64x128⟩] concatenates_S64x128_S64x128_S64x128_S64x128_S64x128_S64x128_S64x128_S64x128_S64x1024_d1) K
      (concatenate S64x256 1 [⟨S64x128, extractStridedSlice S64x128 ![0, 0] vp slices_S128x128_o0_0_S64x128⟩, ⟨S64x128, extractStridedSlice S64x128 ![0, 0] vc slices_S128x128_o0_0_S64x128⟩] concatenates_S64x128_S64x128_S64x256_d1) s) slices_S64x1024_o0_896_S64x128⟩] concatenates_S64x128_S64x128_S64x128_S64x128_S64x128_S64x128_S64x128_S64x128_S512x128_d0) transposes_S512x128_p1_0_S128x512 := rfl

theorem whole1 (v : Vec Ideal S128x1024 .bf16) : View.ld v r0_0 = v := by
  simp (disch := decide) only [View.ld_unit_lit']

theorem whole2 (v : Vec Ideal S128x128 .bf16) : View.ld v r0_1 = v := by
  simp (disch := decide) only [View.ld_unit_lit']

theorem congr3 {a b c : Nat} {i i' : Fin a} {j j' : Fin b} {k k' : Fin c} (h : i = i') (h' : j = j') (h'' : k = k') : ix3 i j k = ix3 i' j' k' := by
  subst h h' h''; rfl

theorem keys0 (x2 x3 : Vec Ideal S128x128 .bf16) (j : Fin 256) (e : Fin 64) :
    (k0_pay6 (F := Ideal) (View.ld x3 r0_2) (View.ld x2 r0_2) : FVec Ideal S256x64 .bf16) (ix2 j e) = two x3 x2 j ⟨0 + e.val, by omega⟩ := by
  pointwise [k0_pay6, two]

theorem sink0 (x0 : Vec Ideal S2x1x1024 .f32) (l : Fin 1024) : (View.ld x0 r0_3 : Vec Ideal S1x1x1024 .f32) (ix3 0 0 l) = x0 (ix3 0 0 l) := by
  pointwise []

theorem part0 (t : Fin cfg0.N) (x0 : Vec Ideal S2x1x1024 .f32) (x1 : Vec Ideal S128x1024 .bf16) (x2 x3 x4 x5 : Vec Ideal S128x128 .bf16) (r : Fin 128) (a : Fin 512) :
    (k0_pay10 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (k0_pay6 (F := Ideal) (View.ld x3 r0_2) (View.ld x2 r0_2)) (k0_pay7 (F := Ideal) (View.ld x1 r0_0)) (k0_pay8 (F := Ideal) (View.ld x1 r0_0)) (k0_pay9 (F := Ideal) (View.ld x1 r0_0)) (View.ld x0 r0_3)) (ix2 r a) = OB t.val x0 x1 x2 x3 x4 x5 r ⟨0 + a.val, by omega⟩ := by
  unfold k0_pay20 k0_pay21 k0_pay22 k0_pay23
  rw [whole1 x1, whole2 x5, whole2 x4]
  refine (congrFun (eq0 _ _ _ _ _ _) (ix2 r a)).trans ?_
  refine (turn _ r a).trans ((ocat _ a r).trans ((half0 _ _ _ x1 x2 x3 x4 x5 t.val (fun l => x0 (ix3 0 0 l)) (bias_at t) (keys0 x2 x3) (sink0 x0) _ _).trans ?_))
  have := a.isLt
  have := r.isLt
  refine AV_congr (fun j => congrArg₂ (· + ·) (congrArg₂ (· * ·) (Finset.sum_congr rfl fun e _ => congrArg₂ (· * ·) (congrArg (two x3 x2 j) (Fin.ext ?_)) (congrArg x1 (congrArg₂ ix2 (Fin.ext ?_) (Fin.ext ?_)))) rfl) ?_) (congrArg x0 ?_) fun j => congrArg (two x5 x4 j) (Fin.ext ?_)
  · simp only; omega
  · simp only; omega
  · simp only; omega
  · rw [show (a.val / 64 * 128 + r.val) % 128 = r.val by omega]
  · exact congr3 (Fin.ext (by simp only; omega)) rfl (Fin.ext (by simp only; omega))
  · simp only; omega

theorem eq1 (B : FVec Ideal S256x1024 .f32) (q : FVec Ideal S1024x128 .f32) (vp vc : FVec Ideal S128x128 .f32) (kp kc : FVec Ideal S128x64 .bf16) (s : FVec Ideal S1x1x1024 .f32) :
    k0_pay1 (F := Ideal) (k0_pay12 (F := Ideal) B q vp vc kp kc s) (k0_pay13 (F := Ideal) B q vp vc kp kc s) (k0_pay14 (F := Ideal) B q vp vc kp kc s) (k0_pay15 (F := Ideal) B q vp vc kp kc s) (k0_pay16 (F := Ideal) B q vp vc kp kc s) (k0_pay17 (F := Ideal) B q vp vc kp kc s) (k0_pay18 (F := Ideal) B q vp vc kp kc s) (k0_pay19 (F := Ideal) B q vp vc kp kc s) = transpose S128x512 [1, 0] (concatenate S512x128 0 [⟨S64x128, extractStridedSlice S64x128 ![0, 0] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_0_S64x128⟩, ⟨S64x128, extractStridedSlice S64x128 ![0, 128] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_128_S64x128⟩, ⟨S64x128, extractStridedSlice S64x128 ![0, 256] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_256_S64x128⟩, ⟨S64x128, extractStridedSlice S64x128 ![0, 384] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_384_S64x128⟩, ⟨S64x128, extractStridedSlice S64x128 ![0, 512] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_512_S64x128⟩, ⟨S64x128, extractStridedSlice S64x128 ![0, 640] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_640_S64x128⟩, ⟨S64x128, extractStridedSlice S64x128 ![0, 768] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_768_S64x128⟩, ⟨S64x128, extractStridedSlice S64x128 ![0, 896] (core B (concatenate S64x1024 1 [⟨S64x128, extractStridedSlice S64x128 ![512, 0] q slices_S1024x128_o512_0_S64x128⟩, ⟨S64x128, extractStridedSlice S64x128 ![576, 0] q slices_S1024x128_o576_0_S64x128⟩, ⟨S64x128, extractStridedSlice S64x128 ![640, 0] q slices_S1024x128_o640_0_S64x128⟩, ⟨S64x128, extractStridedSlice S64x128 ![704, 0] q slices_S1024x128_o704_0_S64x128⟩, ⟨S64x128, extractStridedSlice S64x128 ![768, 0] q slices_S1024x128_o768_0_S64x128⟩, ⟨S64x128, extractStridedSlice S64x128 ![832, 0] q slices_S1024x128_o832_0_S64x128⟩, ⟨S64x128, extractStridedSlice S64x128 ![896, 0] q slices_S1024x128_o896_0_S64x128⟩, ⟨S64x128, extractStridedSlice S64x128 ![960, 0] q slices_S1024x128_o960_0_S64x128⟩] concatenates_S64x128_S64x128_S64x128_S64x128_S64x128_S64x128_S64x128_S64x128_S64x1024_d1) (concatenate S256x64 0 [⟨S128x64, shapeCast S128x64 kp shapeCasts_S128x64_S128x64⟩, ⟨S128x64, shapeCast S128x64 kc shapeCasts_S128x64_S128x64⟩] concatenates_S128x64_S128x64_S256x64_d0)
      (concatenate S64x256 1 [⟨S64x128, extractStridedSlice S64x128 ![64, 0] vp slices_S128x128_o64_0_S64x128⟩, ⟨S64x128, extractStridedSlice S64x128 ![64, 0] vc slices_S128x128_o64_0_S64x128⟩] concatenates_S64x128_S64x128_S64x256_d1) s) slices_S64x1024_o0_896_S64x128⟩] concatenates_S64x128_S64x128_S64x128_S64x128_S64x128_S64x128_S64x128_S64x128_S512x128_d0) transposes_S512x128_p1_0_S128x512 := rfl

theorem keys1 (x2 x3 : Vec Ideal S128x128 .bf16) (j : Fin 256) (e : Fin 64) :
    (concatenate S256x64 0 [⟨S128x64, shapeCast S128x64 (View.ld x3 r0_5) shapeCasts_S128x64_S128x64⟩, ⟨S128x64, shapeCast S128x64 (View.ld x2 r0_5) shapeCasts_S128x64_S128x64⟩] concatenates_S128x64_S128x64_S256x64_d0 : FVec Ideal S256x64 .bf16) (ix2 j e) = two x3 x2 j ⟨64 + e.val, by omega⟩ := by
  pointwise [two]

theorem sink1 (x0 : Vec Ideal S2x1x1024 .f32) (l : Fin 1024) : (View.ld x0 r0_6 : Vec Ideal S1x1x1024 .f32) (ix3 0 0 l) = x0 (ix3 1 0 l) := by
  pointwise []

theorem part1 (t : Fin cfg0.N) (x0 : Vec Ideal S2x1x1024 .f32) (x1 : Vec Ideal S128x1024 .bf16) (x2 x3 x4 x5 : Vec Ideal S128x128 .bf16) (r : Fin 128) (a : Fin 512) :
    (k0_pay1 (F := Ideal) (k0_pay12 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay13 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay14 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay15 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay16 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay17 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay18 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6)) (k0_pay19 (F := Ideal) (k0_pay20 (F := Ideal) (grid0.coords t) x0 x1 x2 x3 x4 x5) (k0_pay21 (F := Ideal) (grid0.coords t) x0 x1 x2 x3 x4 x5) (k0_pay22 (F := Ideal) (grid0.coords t) x0 x1 x2 x3 x4 x5) (k0_pay23 (F := Ideal) (grid0.coords t) x0 x1 x2 x3 x4 x5) (View.ld x3 r0_5) (View.ld x2 r0_5) (View.ld x0 r0_6))) (ix2 r a) = OB t.val x0 x1 x2 x3 x4 x5 r ⟨512 + a.val, by omega⟩ := by
  unfold k0_pay20 k0_pay21 k0_pay22 k0_pay23
  rw [whole1 x1, whole2 x5, whole2 x4]
  refine (congrFun (eq1 _ _ _ _ _ _ _) (ix2 r a)).trans ?_
  refine (turn _ r a).trans ((ocat _ a r).trans ((half1 _ _ _ x1 x2 x3 x4 x5 t.val (fun l => x0 (ix3 1 0 l)) (bias_at t) (keys1 x2 x3) (sink1 x0) _ _).trans ?_))
  have := a.isLt
  have := r.isLt
  refine AV_congr (fun j => congrArg₂ (· + ·) (congrArg₂ (· * ·) (Finset.sum_congr rfl fun e _ => congrArg₂ (· * ·) (congrArg (two x3 x2 j) (Fin.ext ?_)) (congrArg x1 (congrArg₂ ix2 (Fin.ext ?_) (Fin.ext ?_)))) rfl) ?_) (congrArg x0 ?_) fun j => congrArg (two x5 x4 j) (Fin.ext ?_)
  · simp only; omega
  · simp only; omega
  · simp only; omega
  · rw [show (a.val / 64 * 128 + r.val) % 128 = r.val by omega]
  · exact congr3 (Fin.ext (by simp only; omega)) rfl (Fin.ext (by simp only; omega))
  · simp only; omega

theorem out_at (t : Fin cfg0.N) (x0 : Vec Ideal S2x1x1024 .f32) (x1 : Vec Ideal S128x1024 .bf16) (x2 x3 x4 x5 : Vec Ideal S128x128 .bf16) (r : Fin 128) (a : Fin 1024) :
    out0_6 (F := Ideal) (grid0.coords t) x0 x1 x2 x3 x4 x5 (ix2 r a) = OB t.val x0 x1 x2 x3 x4 x5 r a := by
  have key : ∀ y : S128x1024.Idx, out0_6 (F := Ideal) (grid0.coords t) x0 x1 x2 x3 x4 x5 y = OB t.val x0 x1 x2 x3 x4 x5 (y 0) (y 1) := by
    intro y
    unfold out0_6
    canon_tiles x h
    · have e : (⟨512 + (x 1).val, by omega⟩ : Fin 1024) = y 1 := Fin.ext h1.symm
      have e' : (x 0 : Fin 128) = y 0 := Fin.ext h0.symm
      rw [← e, ← e']
      refine Eq.trans (congrArg _ (ix2_eta x).symm) (part1 t x0 x1 x2 x3 x4 x5 (x 0) (x 1))
    · have e : (⟨0 + (x 1).val, by omega⟩ : Fin 1024) = y 1 := Fin.ext ((Nat.zero_add _).trans h1.symm)
      have e' : (x 0 : Fin 128) = y 0 := Fin.ext h0.symm
      rw [← e, ← e']
      refine Eq.trans (congrArg _ (ix2_eta x).symm) (part0 t x0 x1 x2 x3 x4 x5 (x 0) (x 1))
  exact key _

variable (m : (ℓ : Loc nD τ sig) → Buf (Elt Ideal) ℓ) (c : Dev nD)

/-- The block each window reads or writes at a grid point. -/
theorem idx : ∀ t : Fin cfg0.N, win0_0.index t = ![0, 0, 0] ∧ win0_1.index t = ![t.val, 0] ∧ win0_2.index t = ![t.val, 0] ∧ win0_3.index t = ![t.val - 1, 0]
    ∧ win0_4.index t = ![t.val, 0] ∧ win0_5.index t = ![t.val - 1, 0] ∧ win0_6.index t = ![t.val, 0] :=
  (by decide +kernel : ∀ t : Fin grid0.N, win0_0.index t = ![0, 0, 0] ∧ win0_1.index t = ![t.val, 0] ∧ win0_2.index t = ![t.val, 0] ∧ win0_3.index t = ![t.val - 1, 0]
    ∧ win0_4.index t = ![t.val, 0] ∧ win0_5.index t = ![t.val - 1, 0] ∧ win0_6.index t = ![t.val, 0])

/-- A grid point as a block. -/
def bl (t : Fin cfg0.N) : Fin 64 := ⟨t.val, lt_of_lt_of_eq t.isLt (show cfg0.N = 64 from N_0)⟩

/-- Row `r` of block `n` as a row of the array. -/
def row (n : Fin 64) (r : Fin 128) : Fin 8192 := ⟨n.val * 128 + r.val, by omega⟩

/-- Row `r` of the block before. -/
def rowp (n : Fin 64) (r : Fin 128) : Fin 8192 := ⟨(n.val - 1) * 128 + r.val, by omega⟩

/-- Key `j` of the two blocks a block looks at, as a row of the array. -/
def krow (n : Fin 64) (j : Fin 256) : Fin 8192 := if h : j.val < 128 then rowp n ⟨j.val, h⟩ else row n ⟨j.val - 128, by omega⟩

/-- The attention's output: every head's weights over the keys it sees times their values. -/
def T6 (q : FVec Ideal S8192x1024 .f32) (k v : FVec Ideal S8192x128 .f32) (s : FVec Ideal S16 .f32) : FVec Ideal S8192x1024 .f32 := fun i =>
  AV (fun j => (∑ e : Fin 64, k (ix2 (krow ⟨(i 0).val / 128, by have := (i 0).isLt; simp at this; omega⟩ j) ⟨(i 1).val / 512 * 64 + e.val, by have := (i 1).isLt; simp at this; omega⟩)
        * q (ix2 (i 0) ⟨(i 1).val / 64 * 64 + e.val, by have := (i 1).isLt; simp at this; omega⟩)) * Ideal.ofBits .f32 0x3E000000#32
      + if valid ((i 0).val / 128) ((i 0).val % 128) j.val then 0 else ⊥)
    (s (ix1 ⟨(i 1).val / 64, by have := (i 1).isLt; simp at this; omega⟩))
    (fun j => v (ix2 (krow ⟨(i 0).val / 128, by have := (i 0).isLt; simp at this; omega⟩ j) ⟨(i 1).val / 512 * 64 + (i 1).val % 64, by have := (i 1).isLt; simp at this; omega⟩))

theorem V5 (a : Fin 2) (b : Fin 1) (l : Fin 1024) :
    (V m c main_v5 : FVec Ideal S2x1x1024 .f32) (ix3 a b l) = (m ((c : Thread nD τ).loc main_arg3) : FVec Ideal S16 .f32) (ix1 ⟨a.val * 8 + l.val / 128, by omega⟩) := by
  unfold V
  after_reads_at
  exact congrArg (fun n => (m ((c : Thread nD τ).loc main_arg3)) (ix1 n)) (Fin.ext (by simp only; omega))

theorem blk0 (t : Fin cfg0.N) (a : Fin 2) (b : Fin 1) (l : Fin 1024) :
    iblk m c 0 t (ix3 a b l) = m ((c : Thread nD τ).loc main_arg3) (ix1 ⟨a.val * 8 + l.val / 128, by omega⟩) := by
  refine Eq.trans (b := (V m c main_v5 : FVec Ideal S2x1x1024 .f32) (ix3 a b l)) ?_ (V5 m c a b l)
  blk_ext [iblk, idx t]

theorem blk1 (t : Fin cfg0.N) (a : Fin 128) (k : Fin 1024) : iblk m c 1 t (ix2 a k) = m ((c : Thread nD τ).loc main_arg0) (ix2 (row (bl t) a) k) := by
  blk_ext [iblk, V, idx t, row, bl]

theorem blk2 (t : Fin cfg0.N) (a : Fin 128) (k : Fin 128) : iblk m c 2 t (ix2 a k) = m ((c : Thread nD τ).loc main_arg1) (ix2 (row (bl t) a) k) := by
  blk_ext [iblk, V, idx t, row, bl]

theorem blk3 (t : Fin cfg0.N) (a : Fin 128) (k : Fin 128) : iblk m c 3 t (ix2 a k) = m ((c : Thread nD τ).loc main_arg1) (ix2 (rowp (bl t) a) k) := by
  blk_ext [iblk, V, idx t, rowp, bl]

theorem blk4 (t : Fin cfg0.N) (a : Fin 128) (k : Fin 128) : iblk m c 4 t (ix2 a k) = m ((c : Thread nD τ).loc main_arg2) (ix2 (row (bl t) a) k) := by
  blk_ext [iblk, V, idx t, row, bl]

theorem blk5 (t : Fin cfg0.N) (a : Fin 128) (k : Fin 128) : iblk m c 5 t (ix2 a k) = m ((c : Thread nD τ).loc main_arg2) (ix2 (rowp (bl t) a) k) := by
  blk_ext [iblk, V, idx t, rowp, bl]

theorem emb6 (t : Fin cfg0.N) (a : Fin 128) (k : Fin 1024) : ((View.whole main_v6).slice (win0_6.rect t)).emb (ix2 a k) = ix2 (row (bl t) a) k := by
  blk_ext [idx t, row, bl]

theorem two_k (t : Fin cfg0.N) (j : Fin 256) (e : Fin 128) : two (iblk m c 3 t) (iblk m c 2 t) j e = m ((c : Thread nD τ).loc main_arg1) (ix2 (krow (bl t) j) e) := by
  unfold two krow
  split
  · exact blk3 m c t _ _
  · exact blk2 m c t _ _

theorem two_v (t : Fin cfg0.N) (j : Fin 256) (e : Fin 128) : two (iblk m c 5 t) (iblk m c 4 t) j e = m ((c : Thread nD τ).loc main_arg2) (ix2 (krow (bl t) j) e) := by
  unfold two krow
  split
  · exact blk5 m c t _ _
  · exact blk4 m c t _ _

theorem final6 : (dats m 0 c).arrAt 6 cfg0.N = T6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  rw [emb6]
  refine (out_at t _ _ _ _ _ _ y0 y1).trans ?_
  have hb : (⟨(row (bl t) y0).val / 128, by have := (row (bl t) y0).isLt; omega⟩ : Fin 64) = bl t :=
    Fin.ext (by change (t.val * 128 + y0.val) / 128 = t.val; omega)
  have hn : (row (bl t) y0).val / 128 = t.val := congrArg Fin.val hb
  have hr : (row (bl t) y0).val % 128 = y0.val := by change (t.val * 128 + y0.val) % 128 = y0.val; omega
  refine AV_congr (fun j => congrArg₂ (· + ·) (congrArg₂ (· * ·) (Finset.sum_congr rfl fun e _ => congrArg₂ (· * ·) ((two_k m c t j _).trans ?_) (blk1 m c t _ _)) rfl) ?_) ((blk0 m c t _ _ _).trans ?_) fun j => (two_v m c t j _).trans ?_
  · exact congrArg (fun n => (m ((c : Thread nD τ).loc main_arg1)) (ix2 (krow n j) _)) hb.symm
  · change _ = if valid ((row (bl t) y0).val / 128) ((row (bl t) y0).val % 128) j.val then _ else _
    rw [hn, hr]
  · exact congrArg (fun n => (m ((c : Thread nD τ).loc main_arg3)) (ix1 n)) (Fin.ext (by change _ = y1.val / 64; simp only; omega))
  · exact congrArg (fun n => (m ((c : Thread nD τ).loc main_arg2)) (ix2 (krow n j) _)) hb.symm

end Cert.K.AttnF

end
-- ==== Proof.K.AttnFRef.lean ====
/- The attention's forward call: its reference as a formula of the arguments. -/
module

public import proofs.«01_k».proof.Proof.K.AttnF
public import proofs.«01_k».proof.Proof.Gen.AttnFRefIdeal.Run
public import Idealize.ShloMosaic.Lib.Pipeline.ValueKit
public import Idealize.ShloMosaic.Lib.Pipeline.ValueKit.Point
public import Idealize.ShloMosaic.Lib.Pipeline.ValueKit.Tiles
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

noncomputable section

namespace Cert.K.AttnF

open Idealize.ShloMosaic Idealize.ShloMosaic.TcCoe Idealize.SL.Sem Cert.AttnFRefIdeal Cert.AttnFRefIdeal.Gen

/-- The reference's masked scores. -/
def SCT (q : FVec Ideal S8192x1024 .f32) (k : FVec Ideal S8192x128 .f32) : FVec Ideal S64x2x8x128x256 .f32 :=
  (select (broadcastInDim S64x2x8x128x256 ![0, 1, 2, 3, 4] bcast_S64x1x1x128x256_S64x2x8x128x256_0_1_2_3_4 (broadcastInDim S64x1x1x128x256 ![0, 3, 4] bcast_S64x128x256_S64x1x1x128x256_0_3_4 (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32))))))))) (mulf (transpose S64x2x8x128x256 [0, 1, 4, 3, 2] (Host.dotGeneral dot_S64x256x2x64_S64x128x2x8x64_S64x2x256x128x8_3_4_1_13_02_02 none (concatenate S64x256x2x64 1 [⟨S64x128x2x64, (concatenate S64x128x2x64 0 [⟨S1x128x2x64, (broadcastInDim S1x128x2x64 ![] bcast_S_S1x128x2x64 (constant S_ .f32 0x00000000#32))⟩, ⟨S63x128x2x64, (extractStridedSlice S63x128x2x64 ![0, 0, 0, 0] (shapeCast S64x128x2x64 k shapeCasts_S8192x128_S64x128x2x64) slices_S64x128x2x64_S63x128x2x64_0_0_0_0)⟩] concatenates_S1x128x2x64_S63x128x2x64_S64x128x2x64_d0)⟩, ⟨S64x128x2x64, (shapeCast S64x128x2x64 k shapeCasts_S8192x128_S64x128x2x64)⟩] concatenates_S64x128x2x64_S64x128x2x64_S64x256x2x64_d1) (shapeCast S64x128x2x8x64 q shapeCasts_S8192x1024_S64x128x2x8x64)) transposes_S64x2x256x128x8_S64x2x8x128x256_0_1_4_3_2) (broadcastInDim S64x2x8x128x256 ![] bcast_S_S64x2x8x128x256 (constant S_ .f32 0x3E000000#32))) (broadcastInDim S64x2x8x128x256 ![] bcast_S_S64x2x8x128x256 (id (constant S_ .f32 0xFF800000#32))))

/-- The reference's largest scores. -/
def RM (S : FVec Ideal S64x2x8x128x256 .f32) : FVec Ideal S64x2x8x128 .f32 :=
  (Host.reduce FloatOps.maximumf S (constant S_ .f32 0xFF800000#32) reducesTo_S64x2x8x128x256_S64x2x8x128_d4 h_S_)

/-- The same, with the sinks. -/
def MS (R : FVec Ideal S64x2x8x128 .f32) (s : FVec Ideal S16 .f32) : FVec Ideal S64x2x8x128x1 .f32 :=
  (maximumf (broadcastInDim S64x2x8x128x1 ![0, 1, 2, 3] bcast_S64x2x8x128_S64x2x8x128x1_0_1_2_3 R) (broadcastInDim S64x2x8x128x1 ![0, 1, 2, 3, 4] bcast_S1x2x8x1x1_S64x2x8x128x1_0_1_2_3_4 (broadcastInDim S1x2x8x1x1 ![1, 2] bcast_S2x8_S1x2x8x1x1_1_2 (shapeCast S2x8 s shapeCasts_S16_S2x8))))

/-- The maximum of the reference's softmax. -/
def MX (S : FVec Ideal S64x2x8x128x256 .f32) (s : FVec Ideal S16 .f32) : FVec Ideal S64x2x8x128x1 .f32 :=
  MS (RM S) s

/-- The reference's exponentials. -/
def EX (S : FVec Ideal S64x2x8x128x256 .f32) (M : FVec Ideal S64x2x8x128x1 .f32) : FVec Ideal S64x2x8x128x256 .f32 :=
  (Host.exp (subf S (broadcastInDim S64x2x8x128x256 ![0, 1, 2, 3, 4] bcast_S64x2x8x128x1_S64x2x8x128x256_0_1_2_3_4 M)))

/-- The reference's weights. -/
def WT (E : FVec Ideal S64x2x8x128x256 .f32) (M : FVec Ideal S64x2x8x128x1 .f32) (s : FVec Ideal S16 .f32) : FVec Ideal S64x2x8x128x256 .f32 :=
  (Host.divf E (broadcastInDim S64x2x8x128x256 ![0, 1, 2, 3, 4] bcast_S64x2x8x128x1_S64x2x8x128x256_0_1_2_3_4 (addf (broadcastInDim S64x2x8x128x1 ![0, 1, 2, 3] bcast_S64x2x8x128_S64x2x8x128x1_0_1_2_3 (Host.reduceAdd E (constant S_ .f32 0x00000000#32) reducesTo_S64x2x8x128x256_S64x2x8x128_d4 h_S_)) (Host.exp (subf (broadcastInDim S64x2x8x128x1 ![0, 1, 2, 3, 4] bcast_S1x2x8x1x1_S64x2x8x128x1_0_1_2_3_4 (broadcastInDim S1x2x8x1x1 ![1, 2] bcast_S2x8_S1x2x8x1x1_1_2 (shapeCast S2x8 s shapeCasts_S16_S2x8))) M)))))

/-- The reference's output from its weights. -/
def OUT (W : FVec Ideal S64x2x8x128x256 .f32) (v : FVec Ideal S8192x128 .f32) : FVec Ideal S8192x1024 .f32 :=
  shapeCast S8192x1024 (transpose S64x128x2x8x64 [0, 4, 1, 3, 2] (Host.dotGeneral dot_S64x256x2x64_S64x2x8x128x256_S64x2x64x8x128_1_4_3_23_02_01 none (concatenate S64x256x2x64 1 [⟨S64x128x2x64, (concatenate S64x128x2x64 0 [⟨S1x128x2x64, (broadcastInDim S1x128x2x64 ![] bcast_S_S1x128x2x64 (constant S_ .f32 0x00000000#32))⟩, ⟨S63x128x2x64, (extractStridedSlice S63x128x2x64 ![0, 0, 0, 0] (shapeCast S64x128x2x64 v shapeCasts_S8192x128_S64x128x2x64) slices_S64x128x2x64_S63x128x2x64_0_0_0_0)⟩] concatenates_S1x128x2x64_S63x128x2x64_S64x128x2x64_d0)⟩, ⟨S64x128x2x64, (shapeCast S64x128x2x64 v shapeCasts_S8192x128_S64x128x2x64)⟩] concatenates_S64x128x2x64_S64x128x2x64_S64x256x2x64_d1) W) transposes_S64x2x64x8x128_S64x128x2x8x64_0_4_1_3_2) shapeCasts_S64x128x2x8x64_S8192x1024

/-- The reference's output from its scores. -/
def RES (S : FVec Ideal S64x2x8x128x256 .f32) (v : FVec Ideal S8192x128 .f32) (s : FVec Ideal S16 .f32) : FVec Ideal S8192x1024 .f32 :=
  OUT (WT (EX S (MX S s)) (MX S s) s) v

theorem res_eq (m : (ℓ : Loc nD τ sig) → Buf (Elt Ideal) ℓ) (c : Dev nD) : Cert.AttnFRefIdeal.Value.res_main_v66 m c
    = RES (SCT (m ((c.tc : Thread nD τ).loc main_arg0)) (m ((c.tc : Thread nD τ).loc main_arg1))) (m ((c.tc : Thread nD τ).loc main_arg2)) (m ((c.tc : Thread nD τ).loc main_arg3)) := rfl

/-- The row of a key or value, zero before the first block. -/
def prev (x : FVec Ideal S8192x128 .f32) (n : Fin 64) (j : Fin 256) (e : Fin 128) : EReal :=
  if n.val = 0 ∧ j.val < 128 then 0 else x (ix2 (krow n j) e)

theorem later : ∀ n : Fin 64, IntOp.cmpi CmpIPredicate.sgt (BitVec.ofNat 32 n.val) 0#32 = if 0 < n.val then 1#1 else 0#1 := by
  decide +kernel

theorem ofBits_bot : Ideal.ofBits .f32 0xFF800000#32 = ⊥ := by
  simp [Ideal.ofBits, Ideal.ieee]

theorem ofBits_eighth : Ideal.ofBits .f32 0x3E000000#32 = ((1 / 8 : ℝ) : EReal) := by
  simp [Ideal.ofBits, Ideal.ieee]
  rw [← EReal.coe_mul]
  norm_num

theorem krow_lt (n : Fin 64) (j : Fin 256) (h : j.val < 128) : krow n j = rowp n ⟨j.val, h⟩ := dif_pos h

theorem krow_ge (n : Fin 64) (j : Fin 256) (h : ¬ j.val < 128) : krow n j = row n ⟨j.val - 128, by omega⟩ := dif_neg h

theorem sct_at (q : FVec Ideal S8192x1024 .f32) (k : FVec Ideal S8192x128 .f32) (n : Fin 64) (h : Fin 2) (g : Fin 8) (r : Fin 128) (j : Fin 256) :
    SCT q k (ix5 n h g r j) = if valid n.val r.val j.val then (∑ e : Fin 64, prev k n j ⟨h.val * 64 + e.val, by omega⟩ * q (ix2 ⟨n.val * 128 + r.val, by omega⟩ ⟨(h.val * 8 + g.val) * 64 + e.val, by omega⟩)) * Ideal.ofBits .f32 0x3E000000#32 else ⊥ := by
  pointwise [SCT]
  rw [band r j, after_key j, later n]
  refine (sel _ _ _ _ _).trans ?_
  refine ite_congr rfl (fun _ => congrArg₂ (· * ·) (Finset.sum_congr rfl fun e _ => congrArg₂ (· * ·) ?_ (congrArg q (congrArg₂ ix2 rfl (Fin.ext (by simp only; omega))))) rfl) (fun _ => ofBits_bot)
  unfold prev
  by_cases hj : j.val < 128
  · by_cases hn : n.val < 1
    · rw [dif_pos hj, dif_pos hn]
      exact (if_pos (c := n.val = 0 ∧ j.val < 128) ⟨by omega, hj⟩).symm
    · rw [dif_pos hj, dif_neg hn]
      refine Eq.trans ?_ (if_neg (c := n.val = 0 ∧ j.val < 128) (by omega)).symm
      exact congrArg k (congrArg₂ ix2 (krow_lt n j hj).symm rfl)
  · rw [dif_neg hj]
    refine Eq.trans ?_ (if_neg (c := n.val = 0 ∧ j.val < 128) (by omega)).symm
    exact congrArg k (congrArg₂ ix2 (krow_ge n j hj).symm rfl)

theorem rmax (n0 n1 n2 n3 n4 : Nat) (S : FVec Ideal ⟨5, ![n0, n1, n2, n3, n4]⟩ .f32) (c : FVec Ideal S_ .f32) (H : (⟨5, ![n0, n1, n2, n3, n4]⟩ : Shape).ReducesTo [4] ⟨4, ![n0, n1, n2, n3]⟩) (hu : 0 < S_.numel)
    (a : Fin n0) (b : Fin n1) (d : Fin n2) (e : Fin n3) :
    Host.reduce FloatOps.maximumf S c H hu (ix4 a b d e) = Finset.univ.fold max (c (Shape.Idx.first hu)) fun j : Fin n4 => S (ix5 a b d e j) := by
  pointwise []

theorem rm_at (S : FVec Ideal S64x2x8x128x256 .f32) (n : Fin 64) (h : Fin 2) (g : Fin 8) (r : Fin 128) :
    RM S (ix4 n h g r) = Finset.univ.fold max (Ideal.ofBits .f32 0xFF800000#32) fun j => S (ix5 n h g r j) :=
  rmax 64 2 8 128 256 S _ _ _ n h g r

theorem ms_at (R : FVec Ideal S64x2x8x128 .f32) (s : FVec Ideal S16 .f32) (n : Fin 64) (h : Fin 2) (g : Fin 8) (r : Fin 128) (z : Fin 1) :
    MS R s (ix5 n h g r z) = max (R (ix4 n h g r)) (s (ix1 ⟨h.val * 8 + g.val, by omega⟩)) := by
  pointwise [MS]

theorem mx_at (S : FVec Ideal S64x2x8x128x256 .f32) (s : FVec Ideal S16 .f32) (n : Fin 64) (h : Fin 2) (g : Fin 8) (r : Fin 128) (z : Fin 1) :
    MX S s (ix5 n h g r z) = mx (fun j => S (ix5 n h g r j)) (s (ix1 ⟨h.val * 8 + g.val, by omega⟩)) := by
  exact (ms_at (RM S) s n h g r z).trans (congrArg₂ max (rm_at S n h g r) rfl)

theorem ex_at (S : FVec Ideal S64x2x8x128x256 .f32) (M : FVec Ideal S64x2x8x128x1 .f32) (n : Fin 64) (h : Fin 2) (g : Fin 8) (r : Fin 128) (j : Fin 256) :
    EX S M (ix5 n h g r j) = Ideal.exp (S (ix5 n h g r j) - M (ix5 n h g r 0)) := by
  pointwise [EX]

theorem wt_at (E : FVec Ideal S64x2x8x128x256 .f32) (M : FVec Ideal S64x2x8x128x1 .f32) (s : FVec Ideal S16 .f32) (n : Fin 64) (h : Fin 2) (g : Fin 8) (r : Fin 128) (j : Fin 256) :
    WT E M s (ix5 n h g r j) = Ideal.div (E (ix5 n h g r j)) (∑ l, E (ix5 n h g r l) + Ideal.exp (s (ix1 ⟨h.val * 8 + g.val, by omega⟩) - M (ix5 n h g r 0))) := by
  pointwise [WT]

theorem res_at (S : FVec Ideal S64x2x8x128x256 .f32) (s : FVec Ideal S16 .f32) (n : Fin 64) (h : Fin 2) (g : Fin 8) (r : Fin 128) (sc : Fin 256 → EReal) (hS : ∀ j, S (ix5 n h g r j) = sc j) (j : Fin 256) :
    WT (EX S (MX S s)) (MX S s) s (ix5 n h g r j)
      = Ideal.div (Ideal.exp (sc j - mx sc (s (ix1 ⟨h.val * 8 + g.val, by omega⟩)))) (den sc (s (ix1 ⟨h.val * 8 + g.val, by omega⟩))) := by
  obtain rfl : (fun j => S (ix5 n h g r j)) = sc := funext hS
  rw [wt_at]
  simp only [ex_at, mx_at]
  rfl

set_option maxHeartbeats 1000000 in
theorem out_half (W : FVec Ideal S64x2x8x128x256 .f32) (v : FVec Ideal S8192x128 .f32) (i0 : Fin 8192) (i1 : Fin 1024) :
    OUT W v (ix2 i0 i1) = ∑ j : Fin 256, prev v ⟨i0.val / 128, by omega⟩ j ⟨i1.val / 512 * 64 + i1.val % 64, by omega⟩
      * W (ix5 ⟨i0.val / 128, by omega⟩ ⟨i1.val / 512, by omega⟩ ⟨i1.val / 64 % 8, Nat.mod_lt _ (by omega)⟩ ⟨i0.val % 128, Nat.mod_lt _ (by omega)⟩ j) := by
  refine Eq.trans ?_ (Fin.sum_univ_add (M := EReal) (a := 128) (b := 128) _).symm
  pointwise [OUT]
  refine congrArg₂ (· + ·) (Finset.sum_congr rfl fun x _ => congrArg₂ (· * ·) ?_ rfl) (Finset.sum_congr rfl fun x _ => congrArg₂ (· * ·) ?_ rfl)
  · have hx : (Fin.castAdd 128 x).val < 128 := x.isLt
    unfold prev
    by_cases hn : i0.val / 128 < 1
    · rw [dif_pos hn]
      exact (if_pos (c := i0.val / 128 = 0 ∧ (Fin.castAdd 128 x).val < 128) ⟨by omega, hx⟩).symm
    · rw [dif_neg hn]
      refine Eq.trans ?_ (if_neg (c := i0.val / 128 = 0 ∧ (Fin.castAdd 128 x).val < 128) (by omega)).symm
      exact congrArg v (congrArg₂ ix2 ((krow_lt ⟨i0.val / 128, by omega⟩ (Fin.castAdd 128 x) hx).trans (Fin.ext (by simp only [rowp, Fin.val_castAdd]))).symm rfl)
  · have hx : ¬ (Fin.natAdd 128 x).val < 128 := by simp
    unfold prev
    refine Eq.trans ?_ (if_neg (c := i0.val / 128 = 0 ∧ (Fin.natAdd 128 x).val < 128) (fun h => hx h.2)).symm
    exact congrArg v (congrArg₂ ix2 ((krow_ge ⟨i0.val / 128, by omega⟩ (Fin.natAdd 128 x) hx).trans (Fin.ext (by simp only [row, Fin.val_natAdd]; omega))).symm rfl)

theorem exp_nonneg (x : EReal) : 0 ≤ Ideal.exp x := by
  induction x with
  | bot => exact le_refl _
  | top => exact le_top
  | coe r => exact EReal.coe_nonneg.mpr (Real.exp_pos r).le

theorem mx_re (sc : Fin 256 → EReal) (sk : EReal) (h : Re sk) (hs : ∀ j, sc j < ⊤) : Re (mx sc sk) := by
  obtain ⟨r, rfl⟩ := h
  have h1 : mx sc r < ⊤ := max_lt ((Finset.fold_max_lt _).mpr ⟨ofBits_bot.trans_lt bot_lt_top, fun j _ => hs j⟩) (EReal.coe_lt_top r)
  have h2 : (r : EReal) ≤ mx sc r := le_max_right _ _
  exact ⟨(mx sc r).toReal, (EReal.coe_toReal h1.ne (fun e => by rw [e] at h2; exact absurd h2 (not_le.mpr (EReal.bot_lt_coe r)))).symm⟩

theorem den_ne (sc : Fin 256 → EReal) (sk : EReal) (h : Re sk) (hs : ∀ j, sc j < ⊤) : den sc sk ≠ 0 := by
  obtain ⟨a, ha⟩ := mx_re sc sk h hs
  obtain ⟨r, rfl⟩ := h
  have h1 : 0 < Ideal.exp ((r : EReal) - mx sc r) := by
    rw [ha, ← EReal.coe_sub]
    exact EReal.coe_pos.mpr (Real.exp_pos _)
  refine (lt_of_lt_of_le h1 ?_).ne'
  exact le_add_of_nonneg_left (Finset.sum_nonneg fun _ _ => exp_nonneg _)

theorem div_split (p d : EReal) (h : d ≠ 0) : Ideal.div p d = p * Ideal.div 1 d := by
  unfold Ideal.div
  rw [if_neg h, if_neg h, one_mul]

theorem masked (v x y : EReal) : 0 = v * (Ideal.exp (⊥ - x) * y) := by
  rw [EReal.bot_sub]
  change 0 = v * (0 * y)
  rw [zero_mul, mul_zero]

theorem ref6 (q : FVec Ideal S8192x1024 .f32) (k v : FVec Ideal S8192x128 .f32) (s : FVec Ideal S16 .f32) (hq : ∀ i, Re (q i)) (hk : ∀ i, Re (k i)) (hs : ∀ i, Re (s i)) :
    RES (SCT q k) v s = T6 q k v s := by
  funext i
  idx_vars i
  have h0 := i0.isLt
  have h1 := i1.isLt
  refine (out_half _ _ _ _).trans ?_
  have hS : ∀ j, SCT q k (ix5 ⟨i0.val / 128, by omega⟩ ⟨i1.val / 512, by omega⟩ ⟨i1.val / 64 % 8, Nat.mod_lt _ (by omega)⟩ ⟨i0.val % 128, Nat.mod_lt _ (by omega)⟩ j)
      = (∑ e : Fin 64, k (ix2 (krow ⟨i0.val / 128, by omega⟩ j) ⟨i1.val / 512 * 64 + e.val, by omega⟩)
        * q (ix2 i0 ⟨i1.val / 64 * 64 + e.val, by omega⟩)) * Ideal.ofBits .f32 0x3E000000#32
      + if valid (i0.val / 128) (i0.val % 128) j.val then 0 else ⊥ := by
    intro j
    refine (sct_at q k _ _ _ _ j).trans ?_
    by_cases h : valid (i0.val / 128) (i0.val % 128) j.val
    · rw [if_pos h, if_pos h, add_zero]
      refine congrArg₂ (· * ·) (Finset.sum_congr rfl fun e _ => congrArg₂ (· * ·) (if_neg ?_) (congrArg q (congrArg₂ ix2 (Fin.ext ?_) (Fin.ext ?_)))) rfl
      · unfold valid at h
        simp only
        omega
      · simp only; omega
      · simp only; omega
    · rw [if_neg h, if_neg h, EReal.add_bot]
  have hlt : ∀ j, (∑ e : Fin 64, k (ix2 (krow ⟨i0.val / 128, by omega⟩ j) ⟨i1.val / 512 * 64 + e.val, by omega⟩)
        * q (ix2 i0 ⟨i1.val / 64 * 64 + e.val, by omega⟩)) * Ideal.ofBits .f32 0x3E000000#32
      + (if valid (i0.val / 128) (i0.val % 128) j.val then 0 else ⊥ : EReal) < ⊤ := by
    intro j
    split
    · rw [add_zero]
      exact ((Re.sum fun e => (hk _).mul (hq _)).mul (ofBits_eighth ▸ Re.coe _)).lt_top
    · rw [EReal.add_bot]
      exact bot_lt_top
  have hd : (⟨i1.val / 512 * 8 + i1.val / 64 % 8, by omega⟩ : Fin 16) = ⟨i1.val / 64, by omega⟩ := Fin.ext (by simp only; omega)
  unfold T6 AV
  refine Finset.sum_congr rfl fun j _ => ?_
  rw [res_at (SCT q k) s _ _ _ _ _ hS j]
  simp only [hd]
  rw [div_split _ _ (den_ne _ _ (hs _) hlt)]
  by_cases h : i0.val / 128 = 0 ∧ j.val < 128
  · unfold prev
    rw [if_pos h, zero_mul]
    have hv : ¬ valid (i0.val / 128) (i0.val % 128) j.val := by unfold valid; omega
    refine (masked _ _ _).trans (congrArg₂ (· * ·) rfl (congrArg₂ (· * ·) (congrArg Ideal.exp (congrArg₂ (· - ·) ?_ rfl)) rfl))
    change ⊥ = _ + if valid (i0.val / 128) (i0.val % 128) j.val then 0 else ⊥
    rw [if_neg hv, EReal.add_bot]
  · unfold prev
    rw [if_neg h]
    rfl

end Cert.K.AttnF

end
-- ==== Proof.K.AttnFClaims.lean ====
/- The claims about the attention's forward call, assembled. -/
module

public import proofs.«01_k».proof.Proof.K.AttnF
public import proofs.«01_k».proof.Proof.K.AttnFRef
public import proofs.«01_k».proof.Proof.Gen.AttnFIdeal.Value
public import proofs.«01_k».proof.Proof.Gen.AttnFRefIdeal.Run
public import proofs.«01_k».proof.Defs
public import proofs.«01_k».proof.Proof.Gen.AttnF.Frame
public import proofs.«01_k».proof.Proof.Gen.AttnFIdeal.Frame
public import proofs.«01_k».proof.Proof.Gen.Pre_finite_attn_fwd
public import Idealize.ShloMosaic.Adequacy
public import Idealize.ShloMosaic.Init

@[expose] public section

noncomputable section

namespace Cert.K.AttnF

open Idealize.ShloMosaic Idealize.ShloMosaic.TcCoe Idealize.SL.Sem Cert.AttnFIdeal

theorem frameRef : Cert.quiescent_AttnFRefIdeal := fun m ρ _ =>
  (θ_run _ _ _).mono (fun r h => ⟨fun c => (h c).2, sem_eq_zero_of_no_sems (by decide) r.2⟩)
    (Cert.AttnFRefIdeal.Value.run m ρ)

/-- What the precondition says of the arguments. -/
theorem real_args {m : (ℓ : Loc Cert.AttnFIdeal.nD Cert.AttnFIdeal.τ Cert.AttnFIdeal.sig) → Buf (Elt Ideal) ℓ}
    (h : Cert.Pre_AttnFIdeal_finite_attn_fwd m) (c : Dev Cert.AttnFIdeal.nD) :
    (∀ i, Re (m ((c.tc : Thread _ _).loc Cert.AttnFIdeal.main_arg0) i))
    ∧ (∀ i, Re (m ((c.tc : Thread _ _).loc Cert.AttnFIdeal.main_arg1) i))
    ∧ (∀ i, Re (m ((c.tc : Thread _ _).loc Cert.AttnFIdeal.main_arg3) i)) :=
  ⟨fun i => real_of_cmp (congrFun (h c).1 i) ofBits_inf,
    fun i => real_of_cmp (congrFun (h c).2.1 i) ofBits_inf,
    fun i => real_of_cmp (congrFun (h c).2.2 i) ofBits_inf⟩

theorem congr4 {q q' : FVec Ideal S8192x1024 .f32} {k k' v v' : FVec Ideal S8192x128 .f32} {s s' : FVec Ideal S16 .f32}
    (h0 : q' = q) (h1 : k' = k) (h2 : v' = v) (h3 : s' = s) (r0 : ∀ i, Re (q i)) (r1 : ∀ i, Re (k i)) (r3 : ∀ i, Re (s i)) :
    RES (SCT q' k') v' s' = T6 q k v s := by
  subst h0 h1 h2 h3
  exact ref6 _ _ _ _ r0 r1 r3

theorem alg : Cert.algebraic_AttnFIdeal_AttnFRefIdeal_pre_finite_attn_fwd := by
  intro m ρ m' ρ' hpre hag
  refine ⟨fun c => (Cert.AttnFIdeal.Gen.dats m 0 c).arrAt 6 _, Cert.AttnFIdeal.Value.run_blocks m ρ, ?_⟩
  refine (θ_run _ _ _).mono (fun _ h c => ?_) (Cert.AttnFRefIdeal.Value.run m' ρ')
  obtain ⟨h6, ha⟩ := h c
  obtain ⟨r0, r1, r3⟩ := real_args hpre c
  obtain ⟨e0, e1, e2, e3⟩ := hag c
  refine ⟨h6.trans ((res_eq m' c).trans ?_), ha⟩
  exact (congr4 e0 e1 e2 e3 r0 r1 r3).trans (final6 m c).symm

end Cert.K.AttnF

end
-- ==== Proof.K.AttnOutF.lean ====
/- The values of the attention layer's gated output projection. -/
module

public import proofs.«01_k».proof.Proof.K.Real
public import proofs.«01_k».proof.Proof.Gen.AttnOutFIdeal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.AttnOutF

open Idealize.ShloMosaic Idealize.ShloMosaic.TcCoe Idealize.SL.Sem Cert.AttnOutFIdeal Cert.AttnOutFIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 512) (k : Fin 1024) :
    iblk m c 1 t (ix2 a k) = m ((c : Thread nD τ).loc main_arg1) (ix2 (row t a) k) := by
  blk_ext [iblk, V, idx t, row]

theorem blk2 (t : Fin cfg0.N) (a : Fin 512) (k : Fin 1024) :
    iblk m c 2 t (ix2 a k) = m ((c : Thread nD τ).loc main_arg2) (ix2 (row t a) k) := by
  blk_ext [iblk, V, idx t, row]

theorem blk3 (t : Fin cfg0.N) (a : Fin 1024) (k : Fin 1024) :
    iblk m c 3 t (ix2 a k) = m ((c : Thread nD τ).loc main_arg3) (ix2 a k) := by
  blk_ext [iblk, V, idx t, row]

theorem emb4 (t : Fin cfg0.N) (a : Fin 512) (k : Fin 1024) :
    ((View.whole main_v2).slice (win0_4.rect t)).emb (ix2 a k) = ix2 (row t a) k := by
  blk_ext [idx t, row]

/-- The layer's output: the input plus the projection of the gated attention output. -/
def G4 (a0 a1 a2 : FVec Ideal S8192x1024 .f32) (a3 : FVec Ideal S1024x1024 .f32) : FVec Ideal S8192x1024 .f32 := fun i =>
  a2 i + ∑ n : Fin 1024, (a0 (ix2 (i 0) n) * (a1 (ix2 (i 0) n) * sg (a1 (ix2 (i 0) n)))) * a3 (ix2 n (i 1))

theorem pay1 (v0 : Vec Ideal S512x1024 .bf16) (v3 v13 : Vec Ideal S512x1024 .f32) (v15 : Vec Ideal S1024x1024 .bf16) (a : Fin 512) (k : Fin 1024) :
    k0_pay1 v0 v3 v13 v15 (ix2 a k)
      = v13 (ix2 a k) + ∑ n : Fin 1024, (v3 (ix2 a n) * (v0 (ix2 a n) * sg (v0 (ix2 a n)))) * v15 (ix2 n k) := by
  pointwise [k0_pay1, sg]
  simp only [zero_sub]

theorem final4 : (dats m 0 c).arrAt 4 cfg0.N
    = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  rw [pay1, emb4]
  simp only [blk0, blk1, blk2, blk3]
  rfl

end Cert.K.AttnOutF

end
-- ==== Proof.K.AttnOutFRef.lean ====
/- The attention layer's gated output projection: the reference's result. -/
module

public import proofs.«01_k».proof.Proof.K.AttnOutF
public import proofs.«01_k».proof.Proof.Gen.AttnOutFRefIdeal.Run
public import Idealize.ShloMosaic.Lib.Pointwise

@[expose] public section

set_option maxRecDepth 16384

noncomputable section

namespace Cert.K.AttnOutF

open Idealize.ShloMosaic Idealize.ShloMosaic.TcCoe Idealize.SL.Sem Cert.AttnOutFRefIdeal Cert.AttnOutFRefIdeal.Gen

theorem ref4 (a0 a1 a2 : FVec Ideal S8192x1024 .f32) (a3 : FVec Ideal S1024x1024 .f32) :
    addf a2 (Host.dotGeneral dot_S8192x1024_S1024x1024_S8192x1024_1_0_0_1_n_n none (mulf a0 (mulf a1 (Host.divf (broadcastInDim S8192x1024 ![] bcast_S_S8192x1024 (constant S_ .f32 0x3F800000#32)) (addf (broadcastInDim S8192x1024 ![] bcast_S_S8192x1024 (constant S_ .f32 0x3F800000#32)) (Host.exp (Host.negf a1)))))) a3) = G4 a0 a1 a2 a3 := by
  funext i; idx_vars i
  pointwise [G4, sg]

end Cert.K.AttnOutF

end
-- ==== Proof.K.AttnOutFClaims.lean ====
/- The claims about the attention layer's gated output projection, assembled. -/
module

public import proofs.«01_k».proof.Proof.K.AttnOutF
public import proofs.«01_k».proof.Proof.K.AttnOutFRef
public import proofs.«01_k».proof.Proof.Gen.AttnOutFIdeal.Value
public import proofs.«01_k».proof.Proof.Gen.AttnOutFRefIdeal.Run
public import proofs.«01_k».proof.Defs
public import proofs.«01_k».proof.Proof.Gen.AttnOutF.Frame
public import proofs.«01_k».proof.Proof.Gen.AttnOutFIdeal.Frame
public import Idealize.ShloMosaic.Adequacy
public import Idealize.ShloMosaic.Init

@[expose] public section

noncomputable section

namespace Cert.K.AttnOutF

open Idealize.ShloMosaic Idealize.ShloMosaic.TcCoe Idealize.SL.Sem Cert.AttnOutFIdeal

theorem frameRef : Cert.quiescent_AttnOutFRefIdeal := fun m ρ _ =>
  (θ_run _ _ _).mono (fun r h => ⟨fun c => (h c).2, sem_eq_zero_of_no_sems (by decide) r.2⟩)
    (Cert.AttnOutFRefIdeal.Value.run m ρ)

theorem congrG4 {a0 a0' a1 a1' a2 a2' : FVec Ideal S8192x1024 .f32} {a3 a3' : FVec Ideal S1024x1024 .f32} (h0 : a0 = a0') (h1 : a1 = a1') (h2 : a2 = a2') (h3 : a3 = a3') :
    G4 a0 a1 a2 a3 = G4 a0' a1' a2' a3' := by
  subst h0 h1 h2 h3; rfl

set_option maxHeartbeats 1000000 in
theorem alg : Cert.algebraic_AttnOutFIdeal_AttnOutFRefIdeal := by
  intro m ρ m' ρ' _ hag
  refine ⟨fun c => (Cert.AttnOutFIdeal.Gen.dats m 0 c).arrAt 4 _, Cert.AttnOutFIdeal.Value.run_blocks m ρ, ?_⟩
  refine (θ_run _ _ _).mono (fun _ h c => ?_) (Cert.AttnOutFRefIdeal.Value.run m' ρ')
  obtain ⟨h4, ha⟩ := h c
  obtain ⟨e0, e1, e2, e3⟩ := hag c
  refine ⟨h4.trans ((ref4 _ _ _ _).trans ?_), ha⟩
  exact (congrG4 e0 e1 e2 e3).trans (final4 m c).symm

end Cert.K.AttnOutF

end
-- ==== Proof.K.SsmOutF.lean ====
/- The values of the state-space layer's activation, gates and output projection. -/
module

public import proofs.«01_k».proof.Proof.K.SsmOut
public import proofs.«01_k».proof.Proof.K.Real
public import proofs.«01_k».proof.Proof.Gen.SsmOutFIdeal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.SsmOutF

open Idealize.ShloMosaic Idealize.ShloMosaic.TcCoe Idealize.SL.Sem Cert.SsmOutFIdeal Cert.SsmOutFIdeal.Gen

open Cert.K.SsmOut (gel th)

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 512) (k : Fin 1024) :
    iblk m c 1 t (ix2 a k) = m ((c : Thread nD τ).loc main_arg1) (ix2 (row t a) k) := by
  blk_ext [iblk, V, idx t, row]

theorem blk2 (t : Fin cfg0.N) (a : Fin 512) (k : Fin 1024) :
    iblk m c 2 t (ix2 a k) = m ((c : Thread nD τ).loc main_arg2) (ix2 (row t a) k) := by
  blk_ext [iblk, V, idx t, row]

theorem blk3 (t : Fin cfg0.N) (a : Fin 1024) (k : Fin 1024) :
    iblk m c 3 t (ix2 a k) = m ((c : Thread nD τ).loc main_arg3) (ix2 a k) := by
  blk_ext [iblk, V, idx t, row]

theorem blk4 (t : Fin cfg0.N) (a : Fin 1) (k : Fin 1024) :
    iblk m c 4 t (ix2 a k) = m ((c : Thread nD τ).loc main_arg4) (ix1 k) := by
  blk_ext! [iblk, V, idx t, row]

theorem blk5 (t : Fin cfg0.N) (a : Fin 1024) (k : Fin 1024) :
    iblk m c 5 t (ix2 a k) = m ((c : Thread nD τ).loc main_arg5) (ix2 a k) := by
  blk_ext [iblk, V, idx t, row]

theorem emb6 (t : Fin cfg0.N) (a : Fin 512) (k : Fin 1024) :
    ((View.whole main_v4).slice (win0_6.rect t)).emb (ix2 a k) = ix2 (row t a) k := by
  blk_ext [idx t, row]

/-- The layer's output: the input plus the projection of the gated mixer output. -/
def G6 (a0 a1 a2 : FVec Ideal S8192x1024 .f32) (a3 : FVec Ideal S1024x1024 .f32) (a4 : FVec Ideal S1024 .f32) (a5 : FVec Ideal S1024x1024 .f32) : FVec Ideal S8192x1024 .f32 := fun i =>
  a2 i + ∑ n : Fin 1024, (gel (a0 (ix2 (i 0) n)) * sg (∑ l : Fin 1024, gel (a0 (ix2 (i 0) l)) * a3 (ix2 l n) + a4 (ix1 n))
    * (a1 (ix2 (i 0) n) * sg (a1 (ix2 (i 0) n)))) * a5 (ix2 n (i 1))

theorem named_cubic : Named.named (F := Ideal) (φ := .f32) κ "cubic" 0x3D372713#32 = ((8943 / 200000 : ℝ) : EReal) :=
  IdealRules.named_const.ideal_named_scalar _ _ _ _ rfl

theorem pay3 (v0 : Vec Ideal S512x1024 .f32) (v15 : Vec Ideal S1024x1024 .bf16) (v18 : Vec Ideal S1x1024 .f32) (a : Fin 512) (k : Fin 1024) :
    k0_pay3 v0 v15 v18 (ix2 a k)
      = gel (v0 (ix2 a k)) * sg (∑ l : Fin 1024, gel (v0 (ix2 a l)) * v15 (ix2 l k) + v18 (ix2 0 k)) := by
  pointwise [k0_pay3, gel, th, named_cubic, sg]
  simp only [zero_sub]

theorem pay4 (v22 : Vec Ideal S512x1024 .bf16) (a : Fin 512) (k : Fin 1024) : k0_pay4 v22 (ix2 a k) = sg (v22 (ix2 a k)) := by
  pointwise [k0_pay4, k0_pay2, sg]
  simp only [zero_sub]

theorem pay1 (v22 : Vec Ideal S512x1024 .bf16) (v32 v39 : FVec Ideal S512x1024 .f32) (v42 : Vec Ideal S512x1024 .f32) (v44 : Vec Ideal S1024x1024 .bf16)
    (a : Fin 512) (k : Fin 1024) : k0_pay1 (k0_pay2 v22) v32 v39 v42 v44 (ix2 a k)
      = v42 (ix2 a k) + ∑ n : Fin 1024, (v32 (ix2 a n) * (v22 (ix2 a n) * v39 (ix2 a n))) * v44 (ix2 n k) := by
  pointwise [k0_pay1, k0_pay2]

theorem final6 : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  idx_vars y
  rw [pay1, emb6]
  simp only [pay3, pay4, blk0, blk1, blk2, blk3, blk4, blk5]
  rfl

end Cert.K.SsmOutF

end
-- ==== Proof.K.SsmOutFRef.lean ====
/- The state-space layer's activation, gates and output projection: the reference's result. -/
module

public import proofs.«01_k».proof.Proof.K.SsmOutF
public import proofs.«01_k».proof.Proof.Gen.SsmOutFRefIdeal.Run
public import Idealize.ShloMosaic.Lib.Pointwise

@[expose] public section

set_option maxRecDepth 16384

noncomputable section

namespace Cert.K.SsmOutF

open Idealize.ShloMosaic Idealize.ShloMosaic.TcCoe Idealize.SL.Sem Cert.SsmOutFRefIdeal Cert.SsmOutFRefIdeal.Gen

theorem ref6 (a0 a1 a2 : FVec Ideal S8192x1024 .f32) (a3 : FVec Ideal S1024x1024 .f32) (a4 : FVec Ideal S1024 .f32) (a5 : FVec Ideal S1024x1024 .f32) :
    addf a2 (Host.dotGeneral dot_S8192x1024_S1024x1024_S8192x1024_1_0_0_1_n_n none (mulf (mulf (mulf a0 (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf a0 (Host.divf (mulf (broadcastInDim S8192x1024 ![] bcast_S_S8192x1024 (constant S_ .f32 0x472EAB00#32)) (mulf (mulf a0 a0) a0)) (broadcastInDim S8192x1024 ![] bcast_S_S8192x1024 (constant S_ .f32 0x49742400#32))))))))) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral dot_S8192x1024_S1024x1024_S8192x1024_1_0_0_1_n_n none (mulf a0 (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf a0 (Host.divf (mulf (broadcastInDim S8192x1024 ![] bcast_S_S8192x1024 (constant S_ .f32 0x472EAB00#32)) (mulf (mulf a0 a0) a0)) (broadcastInDim S8192x1024 ![] bcast_S_S8192x1024 (constant S_ .f32 0x49742400#32))))))))) a3) (broadcastInDim S8192x1024 ![0, 1] bcast_S1x1024_S8192x1024_0_1 (broadcastInDim S1x1024 ![1] bcast_S1024_S1x1024_1 a4)))))))) (mulf a1 (Host.divf (broadcastInDim S8192x1024 ![] bcast_S_S8192x1024 (constant S_ .f32 0x3F800000#32)) (addf (broadcastInDim S8192x1024 ![] bcast_S_S8192x1024 (constant S_ .f32 0x3F800000#32)) (Host.exp (Host.negf a1)))))) a5) = G6 a0 a1 a2 a3 a4 a5 := by
  funext i; idx_vars i
  pointwise []
  simp only [Cert.K.SsmOut.th_fold, Cert.K.SsmOut.gel_fold, Cert.K.SsmOut.sg_fold]
  rfl

end Cert.K.SsmOutF

end
-- ==== Proof.K.SsmOutFClaims.lean ====
/- The claims about the state-space layer's activation, gates and output projection, assembled. -/
module

public import proofs.«01_k».proof.Proof.K.SsmOutF
public import proofs.«01_k».proof.Proof.K.SsmOutFRef
public import proofs.«01_k».proof.Proof.Gen.SsmOutFIdeal.Value
public import proofs.«01_k».proof.Proof.Gen.SsmOutFRefIdeal.Run
public import proofs.«01_k».proof.Defs
public import proofs.«01_k».proof.Proof.Gen.SsmOutF.Frame
public import proofs.«01_k».proof.Proof.Gen.SsmOutFIdeal.Frame
public import Idealize.ShloMosaic.Adequacy
public import Idealize.ShloMosaic.Init

@[expose] public section

noncomputable section

namespace Cert.K.SsmOutF

open Idealize.ShloMosaic Idealize.ShloMosaic.TcCoe Idealize.SL.Sem Cert.SsmOutFIdeal

theorem frameRef : Cert.quiescent_SsmOutFRefIdeal := fun m ρ _ =>
  (θ_run _ _ _).mono (fun r h => ⟨fun c => (h c).2, sem_eq_zero_of_no_sems (by decide) r.2⟩)
    (Cert.SsmOutFRefIdeal.Value.run m ρ)

theorem congrG6 {a0 a0' a1 a1' a2 a2' : FVec Ideal S8192x1024 .f32} {a3 a3' : FVec Ideal S1024x1024 .f32} {a4 a4' : FVec Ideal S1024 .f32} {a5 a5' : FVec Ideal S1024x1024 .f32}
    (h0 : a0 = a0') (h1 : a1 = a1') (h2 : a2 = a2') (h3 : a3 = a3') (h4 : a4 = a4') (h5 : a5 = a5') :
    G6 a0 a1 a2 a3 a4 a5 = G6 a0' a1' a2' a3' a4' a5' := by
  subst h0 h1 h2 h3 h4 h5; rfl

set_option maxHeartbeats 1000000 in
theorem alg : Cert.algebraic_SsmOutFIdeal_SsmOutFRefIdeal := by
  intro m ρ m' ρ' _ hag
  refine ⟨fun c => (Cert.SsmOutFIdeal.Gen.dats m 0 c).arrAt 6 _, Cert.SsmOutFIdeal.Value.run_blocks m ρ, ?_⟩
  refine (θ_run _ _ _).mono (fun _ h c => ?_) (Cert.SsmOutFRefIdeal.Value.run m' ρ')
  obtain ⟨h6, ha⟩ := h c
  obtain ⟨e0, e1, e2, e3, e4, e5⟩ := hag c
  refine ⟨h6.trans ((ref6 _ _ _ _ _ _).trans ?_), ha⟩
  exact (congrG6 e0 e1 e2 e3 e4 e5).trans (final6 m c).symm

end Cert.K.SsmOutF

end
-- ==== Proof.K.InSsmF.lean ====
/- The values of the state-space layer's norm and input projection. -/
module

public import proofs.«01_k».proof.Proof.K.Real
public import proofs.«01_k».proof.Proof.Gen.InSsmFIdeal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.InSsmF

open Idealize.ShloMosaic Idealize.ShloMosaic.TcCoe Idealize.SL.Sem Cert.InSsmFIdeal Cert.InSsmFIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 1) (k : Fin 1024) :
    iblk m c 1 t (ix2 a k) = m ((c : Thread nD τ).loc main_arg1) (ix1 k) := by
  blk_ext! [iblk, V, idx t, row]

theorem blk2 (t : Fin cfg0.N) (a : Fin 1024) (k : Fin 2048) :
    iblk m c 2 t (ix2 a k) = m ((c : Thread nD τ).loc main_arg2) (ix2 a k) := by
  blk_ext [iblk, V, idx t, row]

theorem emb3 (t : Fin cfg0.N) (a : Fin 512) (k : Fin 1024) :
    ((View.whole main_v2_0).slice (win0_3.rect t)).emb (ix2 a k) = ix2 (row t a) k := by
  blk_ext [idx t, row]

theorem emb4 (t : Fin cfg0.N) (a : Fin 512) (k : Fin 1024) :
    ((View.whole main_v2_1).slice (win0_4.rect t)).emb (ix2 a k) = ix2 (row t a) k := by
  blk_ext [idx t, row]

/-- The projection of the normalised and scaled input. -/
def pj (a0 : FVec Ideal S8192x1024 .f32) (a1 : FVec Ideal S1024 .f32) (a2 : FVec Ideal S1024x2048 .f32) (i : Fin 8192) (n : Fin 2048) : EReal :=
  ∑ k : Fin 1024, (a0 (ix2 i k) * rs (fun j : Fin 1024 => a0 (ix2 i j)) * a1 (ix1 k)) * a2 (ix2 k n)

/-- The mixer's input. -/
def G3 (a0 : FVec Ideal S8192x1024 .f32) (a1 : FVec Ideal S1024 .f32) (a2 : FVec Ideal S1024x2048 .f32) : FVec Ideal S8192x1024 .f32 := fun i =>
  pj a0 a1 a2 (i 0) ⟨(i 1).val, by have : (i 1).val < 1024 := (i 1).isLt; omega⟩

/-- The gate. -/
def G4 (a0 : FVec Ideal S8192x1024 .f32) (a1 : FVec Ideal S1024 .f32) (a2 : FVec Ideal S1024x2048 .f32) : FVec Ideal S8192x1024 .bf16 := fun i =>
  pj a0 a1 a2 (i 0) ⟨1024 + (i 1).val, by have : (i 1).val < 1024 := (i 1).isLt; omega⟩

theorem pay1 (v0 : Vec Ideal S512x1024 .f32) (v11 : Vec Ideal S1x1024 .f32) (v16 : Vec Ideal S1024x2048 .bf16) (a : Fin 512) (k : Fin 2048) :
    k0_pay1 v0 v11 v16 (ix2 a k)
      = ∑ n : Fin 1024, (v0 (ix2 a n) * rs (fun j : Fin 1024 => v0 (ix2 a j)) * v11 (ix2 0 n)) * v16 (ix2 n k) := by
  pointwise [k0_pay1, rs]

theorem pay2 (v0 : Vec Ideal S512x1024 .f32) (v11 : Vec Ideal S1x1024 .f32) (v16 : Vec Ideal S1024x2048 .bf16) (a : Fin 512) (k : Fin 1024) :
    k0_pay2 v0 v11 v16 (ix2 a k) = k0_pay1 v0 v11 v16 (ix2 a ⟨k.val, by omega⟩) := by
  pointwise [k0_pay2]

theorem pay3 (v0 : Vec Ideal S512x1024 .f32) (v11 : Vec Ideal S1x1024 .f32) (v16 : Vec Ideal S1024x2048 .bf16) (a : Fin 512) (k : Fin 1024) :
    k0_pay3 v0 v11 v16 (ix2 a k) = k0_pay1 v0 v11 v16 (ix2 a ⟨1024 + k.val, by omega⟩) := by
  pointwise [k0_pay3]

theorem final3 : (dats m 0 c).arrAt 3 cfg0.N
    = G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay2, pay1, emb3]
  simp only [blk0, blk1, blk2]
  rfl

theorem final4 : (dats m 0 c).arrAt 4 cfg0.N
    = G4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  rw [pay3, pay1, emb4]
  simp only [blk0, blk1, blk2]
  rfl

end Cert.K.InSsmF

end
-- ==== Proof.K.InSsmFRef.lean ====
/- The state-space layer's norm and input projection: the reference's results. -/
module

public import proofs.«01_k».proof.Proof.K.InSsmF
public import proofs.«01_k».proof.Proof.Gen.InSsmFRefIdeal.Run
public import Idealize.ShloMosaic.Lib.Pointwise

@[expose] public section

set_option maxRecDepth 16384

noncomputable section

namespace Cert.K.InSsmF

open Idealize.ShloMosaic Idealize.ShloMosaic.TcCoe Idealize.SL.Sem Cert.InSsmFRefIdeal Cert.InSsmFRefIdeal.Gen

theorem ref3 (a0 : FVec Ideal S8192x1024 .f32) (a1 : FVec Ideal S1024 .f32) (a2 : FVec Ideal S1024x2048 .f32) :
    extractStridedSlice S8192x1024 ![0, 0] (Host.dotGeneral dot_S8192x1024_S1024x2048_S8192x2048_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2048_S8192x1024_0_0 = G3 a0 a1 a2 := by
  funext i; idx_vars i
  pointwise [G3, pj, rs]

theorem ref4 (a0 : FVec Ideal S8192x1024 .f32) (a1 : FVec Ideal S1024 .f32) (a2 : FVec Ideal S1024x2048 .f32) :
    truncf .bf16 (extractStridedSlice S8192x1024 ![0, 1024] (Host.dotGeneral dot_S8192x1024_S1024x2048_S8192x2048_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2048_S8192x1024_0_1024) bitsLt_bf16_f32 = G4 a0 a1 a2 := by
  funext i; idx_vars i
  pointwise [G4, pj, rs]

end Cert.K.InSsmF

end
-- ==== Proof.K.InSsmFClaims.lean ====
/- The claims about the state-space layer's norm and input projection, assembled. -/
module

public import proofs.«01_k».proof.Proof.K.InSsmF
public import proofs.«01_k».proof.Proof.K.InSsmFRef
public import proofs.«01_k».proof.Proof.Gen.InSsmFIdeal.Value
public import proofs.«01_k».proof.Proof.Gen.InSsmFRefIdeal.Run
public import proofs.«01_k».proof.Defs
public import proofs.«01_k».proof.Proof.Gen.InSsmF.Frame
public import proofs.«01_k».proof.Proof.Gen.InSsmFIdeal.Frame
public import Idealize.ShloMosaic.Adequacy
public import Idealize.ShloMosaic.Init

@[expose] public section

noncomputable section

namespace Cert.K.InSsmF

open Idealize.ShloMosaic Idealize.ShloMosaic.TcCoe Idealize.SL.Sem Cert.InSsmFIdeal

theorem frameRef : Cert.quiescent_InSsmFRefIdeal := fun m ρ _ =>
  (θ_run _ _ _).mono (fun r h => ⟨fun c => (h c).2.2, sem_eq_zero_of_no_sems (by decide) r.2⟩)
    (Cert.InSsmFRefIdeal.Value.run m ρ)

theorem congrG3 {a0 a0' : FVec Ideal S8192x1024 .f32} {a1 a1' : FVec Ideal S1024 .f32} {a2 a2' : FVec Ideal S1024x2048 .f32} (h0 : a0 = a0') (h1 : a1 = a1') (h2 : a2 = a2') :
    G3 a0 a1 a2 = G3 a0' a1' a2' := by
  subst h0 h1 h2; rfl

theorem congrG4 {a0 a0' : FVec Ideal S8192x1024 .f32} {a1 a1' : FVec Ideal S1024 .f32} {a2 a2' : FVec Ideal S1024x2048 .f32} (h0 : a0 = a0') (h1 : a1 = a1') (h2 : a2 = a2') :
    G4 a0 a1 a2 = G4 a0' a1' a2' := by
  subst h0 h1 h2; rfl

set_option maxHeartbeats 1000000 in
theorem alg : Cert.algebraic_InSsmFIdeal_InSsmFRefIdeal := by
  intro m ρ m' ρ' _ hag
  refine ⟨fun c => (Cert.InSsmFIdeal.Gen.dats m 0 c).arrAt 3 _, fun c => (Cert.InSsmFIdeal.Gen.dats m 0 c).arrAt 4 _,
    Cert.InSsmFIdeal.Value.run_blocks m ρ, ?_⟩
  refine (θ_run _ _ _).mono (fun _ h c => ?_) (Cert.InSsmFRefIdeal.Value.run m' ρ')
  obtain ⟨h3, h4, ha⟩ := h c
  obtain ⟨e0, e1, e2⟩ := hag c
  refine ⟨h3.trans ((ref3 _ _ _).trans ?_), h4.trans ((ref4 _ _ _).trans ?_), ha⟩
  · exact (congrG3 e0 e1 e2).trans (final3 m c).symm
  · exact (congrG4 e0 e1 e2).trans (final4 m c).symm

end Cert.K.InSsmF

end
-- ==== Proof.K.InAttnF.lean ====
/- The values of the attention layer's norm, input projection and rotary embedding. -/
module

public import proofs.«01_k».proof.Proof.K.Real
public import proofs.«01_k».proof.Proof.Gen.InAttnFIdeal.Value
public import Idealize.ShloMosaic.Lib.Pipeline.ValueKit.Tiles
public import Idealize.ShloMosaic.Lib.Pipeline.ReadBack
public import Idealize.ShloMosaic.Lib.StableHlo.ReadAt
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.InAttnF

open Idealize.ShloMosaic Idealize.ShloMosaic.TcCoe Idealize.SL.Sem Cert.InAttnFIdeal Cert.InAttnFIdeal.Gen

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

/-- Row `a` of block `t` as a row of the array. -/
def row (t : Fin cfg0.N) (a : Fin 512) : Fin 8192 :=
  ⟨t.val * 512 + a.val, by have := lt_of_lt_of_eq t.isLt (show cfg0.N = 16 from N_0); have := a.isLt; omega⟩

theorem blk0 (t : Fin cfg0.N) (a : Fin 512) (k : Fin 1024) :
    iblk m c 0 t (ix2 a k) = m ((c : Thread nD τ).loc main_arg0) (ix2 (row t a) k) := by
  blk_ext [iblk, V, idx t, row]

theorem blk1 (t : Fin cfg0.N) (a : Fin 1) (k : Fin 1024) :
    iblk m c 1 t (ix2 a k) = m ((c : Thread nD τ).loc main_arg1) (ix1 k) := by
  blk_ext! [iblk, V, idx t, row]

theorem blk2 (t : Fin cfg0.N) (a : Fin 1024) (k : Fin 2304) :
    iblk m c 2 t (ix2 a k) = m ((c : Thread nD τ).loc main_arg2) (ix2 a k) := by
  blk_ext [iblk, V, idx t, row]

/-- The cosine of a column: each head's two halves share one table. -/
def cs (a3 : FVec Ideal S8192x32 .f32) (i : Fin 8192) (l : Nat) : EReal := a3 (ix2 i ⟨l % 32, Nat.mod_lt _ (by omega)⟩)

/-- The sine of a column, negative in a head's first half. -/
def sn (a4 : FVec Ideal S8192x32 .f32) (i : Fin 8192) (l : Nat) : EReal :=
  if l % 64 < 32 then -(a4 (ix2 i ⟨l % 32, Nat.mod_lt _ (by omega)⟩)) else a4 (ix2 i ⟨l % 32, Nat.mod_lt _ (by omega)⟩)

/-- A table over two heads from the tables of a head's two halves. -/
def tab (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

theorem half (a b : FVec Ideal S8192x32 .f32) (i : Fin 8192) (l : Fin 128) : tab a b (ix2 i l)
      = if l.val % 64 < 32 then a (ix2 i ⟨l.val % 32, Nat.mod_lt _ (by omega)⟩) else b (ix2 i ⟨l.val % 32, Nat.mod_lt _ (by omega)⟩) := by
  pointwise [tab]
  by_cases h : l.val % 64 < 32
  · refine Eq.trans (dif_pos ?_) (Eq.trans ?_ (if_pos h).symm)
    · omega
    · exact congrArg (fun n => a (ix2 i n)) (Fin.ext (by simp only; omega))
  · refine Eq.trans (dif_neg ?_) (Eq.trans ?_ (if_neg h).symm)
    · omega
    · exact congrArg (fun n => b (ix2 i n)) (Fin.ext (by simp only; omega))

theorem half_cs (a : FVec Ideal S8192x32 .f32) (i : Fin 8192) (l : Fin 128) : tab a a (ix2 i l) = cs a i l :=
  (half a a i l).trans (ite_self _)

theorem half_sn (a : FVec Ideal S8192x32 .f32) (i : Fin 8192) (l : Fin 128) : tab (Host.negf a) a (ix2 i l) = sn a i l :=
  (half (Host.negf a) a i l).trans (by unfold sn; rfl)

theorem V3 : (V m c main_v3 : FVec Ideal S8192x128 .f32) = tab (m ((c : Thread nD τ).loc main_arg3)) (m ((c : Thread nD τ).loc main_arg3)) := by
  unfold V
  after_results
  rfl

theorem V8 : (V m c main_v8 : FVec Ideal S8192x128 .f32) = tab (Host.negf (m ((c : Thread nD τ).loc main_arg4) : FVec Ideal S8192x32 .f32)) (m ((c : Thread nD τ).loc main_arg4)) := by
  unfold V
  after_results
  rfl

theorem blk3 (t : Fin cfg0.N) (a : Fin 512) (k : Fin 128) :
    iblk m c 3 t (ix2 a k) = cs (m ((c : Thread nD τ).loc main_arg3)) (row t a) k := by
  refine Eq.trans (b := (V m c main_v3 : FVec Ideal S8192x128 .f32) (ix2 (row t a) k)) ?_ ((congrFun (V3 m c) _).trans (half_cs _ _ _))
  blk_ext [iblk, idx t, row]

theorem blk4 (t : Fin cfg0.N) (a : Fin 512) (k : Fin 128) :
    iblk m c 4 t (ix2 a k) = sn (m ((c : Thread nD τ).loc main_arg4)) (row t a) k := by
  refine Eq.trans (b := (V m c main_v8 : FVec Ideal S8192x128 .f32) (ix2 (row t a) k)) ?_ ((congrFun (V8 m c) _).trans (half_sn _ _ _))
  blk_ext [iblk, idx t, row]

theorem emb5 (t : Fin cfg0.N) (a : Fin 512) (k : Fin 1024) :
    ((View.whole main_v11_0).slice (win0_5.rect t)).emb (ix2 a k) = ix2 (row t a) k := by
  blk_ext [idx t, row]

theorem emb6 (t : Fin cfg0.N) (a : Fin 512) (k : Fin 128) :
    ((View.whole main_v11_1).slice (win0_6.rect t)).emb (ix2 a k) = ix2 (row t a) k := by
  blk_ext [idx t, row]

theorem emb7 (t : Fin cfg0.N) (a : Fin 512) (k : Fin 128) :
    ((View.whole main_v11_2).slice (win0_7.rect t)).emb (ix2 a k) = ix2 (row t a) k := by
  blk_ext [idx t, row]

theorem emb8 (t : Fin cfg0.N) (a : Fin 512) (k : Fin 1024) :
    ((View.whole main_v11_3).slice (win0_8.rect t)).emb (ix2 a k) = ix2 (row t a) k := by
  blk_ext [idx t, row]

/-- The projection of the normalised and scaled input. -/
def pj (a0 : FVec Ideal S8192x1024 .f32) (a1 : FVec Ideal S1024 .f32) (a2 : FVec Ideal S1024x2304 .f32) (i : Fin 8192) (n : Fin 2304) : EReal :=
  ∑ k : Fin 1024, (a0 (ix2 i k) * rs (fun j : Fin 1024 => a0 (ix2 i j)) * a1 (ix1 k)) * a2 (ix2 k n)

/-- The column in the other half of a head. -/
def pt (l : Nat) : Nat := if l % 64 < 32 then l + 32 else l - 32

theorem pt_lt {n l : Nat} (hn : n % 64 = 0) (hl : l < n) : pt l < n := by
  unfold pt
  split <;> omega

/-- The rotary embedding of the projection's columns from `o` on. -/
def rot {n : Nat} (hn : n % 64 = 0) (o : Nat) (ho : o + n ≤ 2304) (a0 : FVec Ideal S8192x1024 .f32) (a1 : FVec Ideal S1024 .f32) (a2 : FVec Ideal S1024x2304 .f32) (a3 a4 : FVec Ideal S8192x32 .f32) (i : Fin 8192) (l : Fin n) : EReal :=
  pj a0 a1 a2 i ⟨o + l.val, by omega⟩ * cs a3 i l + pj a0 a1 a2 i ⟨o + pt l, by have := pt_lt hn l.isLt; omega⟩ * sn a4 i l

/-- The rotated queries. -/
def G5 (a0 : FVec Ideal S8192x1024 .f32) (a1 : FVec Ideal S1024 .f32) (a2 : FVec Ideal S1024x2304 .f32) (a3 a4 : FVec Ideal S8192x32 .f32) : FVec Ideal S8192x1024 .bf16 := fun i => rot (n := 1024) rfl 0 (by omega) a0 a1 a2 a3 a4 (i 0) (i 1)

/-- The rotated keys. -/
def G6 (a0 : FVec Ideal S8192x1024 .f32) (a1 : FVec Ideal S1024 .f32) (a2 : FVec Ideal S1024x2304 .f32) (a3 a4 : FVec Ideal S8192x32 .f32) : FVec Ideal S8192x128 .bf16 := fun i => rot (n := 128) rfl 1024 (by omega) a0 a1 a2 a3 a4 (i 0) (i 1)

/-- The values. -/
def G7 (a0 : FVec Ideal S8192x1024 .f32) (a1 : FVec Ideal S1024 .f32) (a2 : FVec Ideal S1024x2304 .f32) : FVec Ideal S8192x128 .bf16 := fun i =>
  pj a0 a1 a2 (i 0) ⟨1152 + (i 1).val, by have : (i 1).val < 128 := (i 1).isLt; omega⟩

/-- The gate. -/
def G8 (a0 : FVec Ideal S8192x1024 .f32) (a1 : FVec Ideal S1024 .f32) (a2 : FVec Ideal S1024x2304 .f32) : FVec Ideal S8192x1024 .bf16 := fun i =>
  pj a0 a1 a2 (i 0) ⟨1280 + (i 1).val, by have : (i 1).val < 1024 := (i 1).isLt; omega⟩

theorem pay2 (v0 : Vec Ideal S512x1024 .f32) (v11 : Vec Ideal S1x1024 .f32) (v16 : Vec Ideal S1024x2304 .bf16) (a : Fin 512) (k : Fin 2304) :
    k0_pay2 v0 v11 v16 (ix2 a k)
      = ∑ n : Fin 1024, (v0 (ix2 a n) * rs (fun j : Fin 1024 => v0 (ix2 a j)) * v11 (ix2 0 n)) * v16 (ix2 n k) := by
  pointwise [k0_pay2, rs]

/-- Which columns lie in a head's first half. -/
def sel : IVec S1x128 1 := k0_pay9 k0_pay6 k0_pay7 k0_pay8

theorem sel_at (l : Fin 128) : sel (ix2 0 l) = if l.val % 64 < 32 then 1#1 else 0#1 := by
  pointwise [sel, k0_pay9, k0_pay6, k0_pay7, k0_pay8]
  revert l
  decide +kernel

/-- The rotary embedding of two heads, as the kernel writes it. -/
def rope (x co si : FVec Ideal S512x128 .f32) : FVec Ideal S512x128 .f32 :=
  addf (mulf x co) (mulf (broadcast S512x128 (Scalar.ofBits .f32 0x3F800000#32))
    (mulf (select (broadcastTo S512x128 (shapeCast S1x128 sel shapeCasts_S1x128_S1x128) broadcasts_S1x128_S512x128)
      (dynamicRotate 1 96#32 none x rotates_S512x128_d1) (dynamicRotate 1 32#32 none x rotates_S512x128_d1)) si))

theorem rot96 (x : FVec Ideal S512x128 .f32) (a : Fin 512) (l : Fin 128) :
    dynamicRotate 1 96#32 none x rotates_S512x128_d1 (ix2 a l) = x (ix2 a ⟨(l.val + 32) % 128, Nat.mod_lt _ (by omega)⟩) := by
  pointwise []
  exact congrArg (fun n : Fin 128 => x (ix2 a n)) (Fin.ext (show (l.val + 128 - 96 % 128) % 128 = (l.val + 32) % 128 by omega))

theorem rot32 (x : FVec Ideal S512x128 .f32) (a : Fin 512) (l : Fin 128) :
    dynamicRotate 1 32#32 none x rotates_S512x128_d1 (ix2 a l) = x (ix2 a ⟨(l.val + 96) % 128, Nat.mod_lt _ (by omega)⟩) := by
  pointwise []
  exact congrArg (fun n : Fin 128 => x (ix2 a n)) (Fin.ext (show (l.val + 128 - 32 % 128) % 128 = (l.val + 96) % 128 by omega))

/-- The rotary embedding over any two shifted arrays. -/
theorem rope_abs (x y z co si : FVec Ideal S512x128 .f32) (a : Fin 512) (l : Fin 128) :
    addf (mulf x co) (mulf (broadcast S512x128 (Scalar.ofBits .f32 0x3F800000#32))
      (mulf (select (broadcastTo S512x128 (shapeCast S1x128 sel shapeCasts_S1x128_S1x128) broadcasts_S1x128_S512x128) y z) si)) (ix2 a l)
      = x (ix2 a l) * co (ix2 a l) + Scalar.select (sel (ix2 0 l)) (y (ix2 a l)) (z (ix2 a l)) * si (ix2 a l) := by
  pointwise []

theorem rope_at (x co si : FVec Ideal S512x128 .f32) (a : Fin 512) (l : Fin 128) :
    rope x co si (ix2 a l) = x (ix2 a l) * co (ix2 a l) + x (ix2 a ⟨pt l, pt_lt rfl l.isLt⟩) * si (ix2 a l) := by
  refine (rope_abs _ _ _ _ _ a l).trans ?_
  rw [sel_at, rot96, rot32]
  refine congrArg (fun e : EReal => x (ix2 a l) * co (ix2 a l) + e * si (ix2 a l)) ?_
  have := l.isLt
  by_cases h : l.val % 64 < 32
  · rw [if_pos h]
    exact congrArg (fun n => x (ix2 a n)) (Fin.ext (by simp only [pt, if_pos h]; omega))
  · rw [if_neg h]
    exact congrArg (fun n => x (ix2 a n)) (Fin.ext (by simp only [pt, if_neg h]; omega))

theorem cat8 (f : Fin 8 → FVec Ideal S512x128 .f32) (h : Shape.Concatenates [S512x128, S512x128, S512x128, S512x128, S512x128, S512x128, S512x128, S512x128] S512x1024 1) (i : S512x1024.Idx) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] h i
      = f ⟨(i 1).val / 128, by have := (i 1).isLt; simp at this; omega⟩ (ix2 (i 0) ⟨(i 1).val % 128, Nat.mod_lt _ (by omega)⟩) :=
  concatenate_ofFn_apply (s₁ := S512x128) (t := S512x1024) 1 f h rfl 128 rfl i ⟨(i 1).val / 128, by have := (i 1).isLt; simp at this; omega⟩ rfl
    (ix2 (i 0) ⟨(i 1).val % 128, Nat.mod_lt _ (by omega)⟩) rfl (fun b hb => by
      fin_cases b
      · rfl
      · exact absurd rfl hb)

theorem pay16 (x : FVec Ideal S512x1024 .f32) (co si : FVec Ideal S512x128 .f32) :
    k0_pay16 x co si sel (k0_pay10 x co si k0_pay6 k0_pay7 k0_pay8) (k0_pay11 x co si k0_pay6 k0_pay7 k0_pay8) (k0_pay12 x co si k0_pay6 k0_pay7 k0_pay8)
        (k0_pay14 x co) (k0_pay15 x si k0_pay6 k0_pay7 k0_pay8)
      = truncf .bf16 (concatenate S512x1024 1 [⟨S512x128, (rope (extractStridedSlice S512x128 ![0, 0] x slices_S512x1024_o0_0_S512x128) co si)⟩, ⟨S512x128, (rope (extractStridedSlice S512x128 ![0, 128] x slices_S512x1024_o0_128_S512x128) co si)⟩, ⟨S512x128, (rope (extractStridedSlice S512x128 ![0, 256] x slices_S512x1024_o0_256_S512x128) co si)⟩, ⟨S512x128, (rope (extractStridedSlice S512x128 ![0, 384] x slices_S512x1024_o0_384_S512x128) co si)⟩, ⟨S512x128, (rope (extractStridedSlice S512x128 ![0, 512] x slices_S512x1024_o0_512_S512x128) co si)⟩, ⟨S512x128, (rope (extractStridedSlice S512x128 ![0, 640] x slices_S512x1024_o0_640_S512x128) co si)⟩, ⟨S512x128, (rope (extractStridedSlice S512x128 ![0, 768] x slices_S512x1024_o0_768_S512x128) co si)⟩, ⟨S512x128, (rope (extractStridedSlice S512x128 ![0, 896] x slices_S512x1024_o0_896_S512x128) co si)⟩] concatenates_S512x128_S512x128_S512x128_S512x128_S512x128_S512x128_S512x128_S512x128_S512x1024_d1) bitsLt_bf16_f32 := rfl

theorem chunk (x : FVec Ideal S512x1024 .f32) (co si : FVec Ideal S512x128 .f32) (g : Fin 8) (a : Fin 512) (l : Fin 128) :
    (![(rope (extractStridedSlice S512x128 ![0, 0] x slices_S512x1024_o0_0_S512x128) co si), (rope (extractStridedSlice S512x128 ![0, 128] x slices_S512x1024_o0_128_S512x128) co si), (rope (extractStridedSlice S512x128 ![0, 256] x slices_S512x1024_o0_256_S512x128) co si), (rope (extractStridedSlice S512x128 ![0, 384] x slices_S512x1024_o0_384_S512x128) co si), (rope (extractStridedSlice S512x128 ![0, 512] x slices_S512x1024_o0_512_S512x128) co si), (rope (extractStridedSlice S512x128 ![0, 640] x slices_S512x1024_o0_640_S512x128) co si), (rope (extractStridedSlice S512x128 ![0, 768] x slices_S512x1024_o0_768_S512x128) co si), (rope (extractStridedSlice S512x128 ![0, 896] x slices_S512x1024_o0_896_S512x128) co si)] : Fin 8 → FVec Ideal S512x128 .f32) g (ix2 a l)
      = x (ix2 a ⟨g.val * 128 + l.val, by omega⟩) * co (ix2 a l)
        + x (ix2 a ⟨g.val * 128 + pt l, by have := pt_lt (n := 128) rfl l.isLt; omega⟩) * si (ix2 a l) := by
  fin_cases g <;> refine (rope_at _ _ _ a l).trans ?_ <;> pointwise []

theorem pay16_at (x : FVec Ideal S512x1024 .f32) (co si : FVec Ideal S512x128 .f32) (a : Fin 512) (l : Fin 1024) :
    k0_pay16 x co si sel (k0_pay10 x co si k0_pay6 k0_pay7 k0_pay8) (k0_pay11 x co si k0_pay6 k0_pay7 k0_pay8) (k0_pay12 x co si k0_pay6 k0_pay7 k0_pay8)
        (k0_pay14 x co) (k0_pay15 x si k0_pay6 k0_pay7 k0_pay8) (ix2 a l)
      = x (ix2 a l) * co (ix2 a ⟨l.val % 128, Nat.mod_lt _ (by omega)⟩)
        + x (ix2 a ⟨pt l, pt_lt rfl l.isLt⟩) * si (ix2 a ⟨l.val % 128, Nat.mod_lt _ (by omega)⟩) := by
  rw [pay16]
  refine (cat8 ![(rope (extractStridedSlice S512x128 ![0, 0] x slices_S512x1024_o0_0_S512x128) co si), (rope (extractStridedSlice S512x128 ![0, 128] x slices_S512x1024_o0_128_S512x128) co si), (rope (extractStridedSlice S512x128 ![0, 256] x slices_S512x1024_o0_256_S512x128) co si), (rope (extractStridedSlice S512x128 ![0, 384] x slices_S512x1024_o0_384_S512x128) co si), (rope (extractStridedSlice S512x128 ![0, 512] x slices_S512x1024_o0_512_S512x128) co si), (rope (extractStridedSlice S512x128 ![0, 640] x slices_S512x1024_o0_640_S512x128) co si), (rope (extractStridedSlice S512x128 ![0, 768] x slices_S512x1024_o0_768_S512x128) co si), (rope (extractStridedSlice S512x128 ![0, 896] x slices_S512x1024_o0_896_S512x128) co si)] concatenates_S512x128_S512x128_S512x128_S512x128_S512x128_S512x128_S512x128_S512x128_S512x1024_d1 (ix2 a l)).trans ?_
  refine (chunk x co si ⟨l.val / 128, by omega⟩ a ⟨l.val % 128, Nat.mod_lt _ (by omega)⟩).trans ?_
  have e : (⟨l.val / 128 * 128 + l.val % 128, by omega⟩ : Fin 1024) = l := Fin.ext (by simp only; omega)
  have e' : l.val / 128 * 128 + pt (l.val % 128) = pt l := by
    unfold pt
    split <;> split <;> omega
  simp only [e, e']

theorem pay17 (v18 : FVec Ideal S512x2304 .f32) (v135 v137 : Vec Ideal S512x128 .f32) :
    k0_pay17 v18 v135 v137 = truncf .bf16 (rope (extractStridedSlice S512x128 ![0, 1024] v18 slices_S512x2304_o0_1024_S512x128)
      (shapeCast S512x128 v135 shapeCasts_S512x128_S512x128) (shapeCast S512x128 v137 shapeCasts_S512x128_S512x128)) bitsLt_bf16_f32 := rfl

theorem pay17_at (v18 : FVec Ideal S512x2304 .f32) (v135 v137 : Vec Ideal S512x128 .f32) (a : Fin 512) (l : Fin 128) :
    k0_pay17 v18 v135 v137 (ix2 a l) = v18 (ix2 a ⟨1024 + l.val, by omega⟩) * v135 (ix2 a l)
      + v18 (ix2 a ⟨1024 + pt l, by have := pt_lt (n := 128) rfl l.isLt; omega⟩) * v137 (ix2 a l) := by
  rw [pay17]
  refine (rope_at _ _ _ a l).trans ?_
  pointwise []

theorem pay18 (v18 : FVec Ideal S512x2304 .f32) (a : Fin 512) (l : Fin 128) :
    k0_pay18 v18 (ix2 a l) = v18 (ix2 a ⟨1152 + l.val, by omega⟩) := by
  pointwise [k0_pay18]

theorem pay1 (v18 : FVec Ideal S512x2304 .f32) (a : Fin 512) (l : Fin 1024) :
    k0_pay1 v18 (ix2 a l) = v18 (ix2 a ⟨1280 + l.val, by omega⟩) := by
  pointwise [k0_pay1]

theorem pay3_eq (v0 : Vec Ideal S512x1024 .f32) (v11 : Vec Ideal S1x1024 .f32) (v16 : Vec Ideal S1024x2304 .bf16) :
    k0_pay3 v0 v11 v16 = extractStridedSlice S512x1024 ![0, 0] (k0_pay2 v0 v11 v16) slices_S512x2304_o0_0_S512x1024 := rfl

theorem first_at (v : FVec Ideal S512x2304 .f32) (a : Fin 512) (l : Fin 1024) :
    extractStridedSlice S512x1024 ![0, 0] v slices_S512x2304_o0_0_S512x1024 (ix2 a l) = v (ix2 a ⟨0 + l.val, by omega⟩) := by
  pointwise []

theorem pay3 (v0 : Vec Ideal S512x1024 .f32) (v11 : Vec Ideal S1x1024 .f32) (v16 : Vec Ideal S1024x2304 .bf16) (a : Fin 512) (l : Fin 1024) :
    k0_pay3 v0 v11 v16 (ix2 a l) = k0_pay2 v0 v11 v16 (ix2 a ⟨0 + l.val, by omega⟩) :=
  (congrFun (pay3_eq v0 v11 v16) (ix2 a l)).trans (first_at _ a l)

theorem pay4 (v20 : Vec Ideal S512x128 .f32) (a : Fin 512) (l : Fin 128) : k0_pay4 v20 (ix2 a l) = v20 (ix2 a l) := by
  pointwise [k0_pay4]

theorem pay5 (v22 : Vec Ideal S512x128 .f32) (a : Fin 512) (l : Fin 128) : k0_pay5 v22 (ix2 a l) = v22 (ix2 a l) := by
  pointwise [k0_pay5]

/-- The queries' block, from any input blocks. -/
theorem out5 (x0 : Vec Ideal S512x1024 .f32) (x1 : Vec Ideal S1x1024 .f32) (x2 : Vec Ideal S1024x2304 .bf16) (x3 x4 : Vec Ideal S512x128 .f32)
    (a : Fin 512) (l : Fin 1024) : out0_5 x0 x1 x2 x3 x4 (ix2 a l)
      = k0_pay2 x0 x1 x2 (ix2 a ⟨0 + l.val, by omega⟩) * x3 (ix2 a ⟨l.val % 128, Nat.mod_lt _ (by omega)⟩)
        + k0_pay2 x0 x1 x2 (ix2 a ⟨0 + pt l, by have := pt_lt (n := 1024) rfl l.isLt; omega⟩) * x4 (ix2 a ⟨l.val % 128, Nat.mod_lt _ (by omega)⟩) := by
  unfold_out out0_5
  frame_out
  refine (pay16_at (k0_pay3 x0 x1 x2) (k0_pay4 x3) (k0_pay5 x4) a l).trans ?_
  rw [pay3, pay3, pay4, pay5]

/-- The keys' block, from any input blocks. -/
theorem out6 (x0 : Vec Ideal S512x1024 .f32) (x1 : Vec Ideal S1x1024 .f32) (x2 : Vec Ideal S1024x2304 .bf16) (x3 x4 : Vec Ideal S512x128 .f32)
    (a : Fin 512) (l : Fin 128) : out0_6 x0 x1 x2 x3 x4 (ix2 a l)
      = k0_pay2 x0 x1 x2 (ix2 a ⟨1024 + l.val, by omega⟩) * x3 (ix2 a l)
        + k0_pay2 x0 x1 x2 (ix2 a ⟨1024 + pt l, by have := pt_lt (n := 128) rfl l.isLt; omega⟩) * x4 (ix2 a l) := by
  unfold_out out0_6
  frame_out
  exact pay17_at (k0_pay2 x0 x1 x2) x3 x4 a l

/-- The values' block, from any input blocks. -/
theorem out7 (x0 : Vec Ideal S512x1024 .f32) (x1 : Vec Ideal S1x1024 .f32) (x2 : Vec Ideal S1024x2304 .bf16) (x3 x4 : Vec Ideal S512x128 .f32)
    (a : Fin 512) (l : Fin 128) : out0_7 x0 x1 x2 x3 x4 (ix2 a l) = k0_pay2 x0 x1 x2 (ix2 a ⟨1152 + l.val, by omega⟩) := by
  unfold_out out0_7
  frame_out
  exact pay18 (k0_pay2 x0 x1 x2) a l

/-- The gate's block, from any input blocks. -/
theorem out8 (x0 : Vec Ideal S512x1024 .f32) (x1 : Vec Ideal S1x1024 .f32) (x2 : Vec Ideal S1024x2304 .bf16) (x3 x4 : Vec Ideal S512x128 .f32)
    (a : Fin 512) (l : Fin 1024) : out0_8 x0 x1 x2 x3 x4 (ix2 a l) = k0_pay2 x0 x1 x2 (ix2 a ⟨1280 + l.val, by omega⟩) := by
  unfold_out out0_8
  frame_out
  exact pay1 (k0_pay2 x0 x1 x2) a l

theorem co_mod (a3 : FVec Ideal S8192x32 .f32) (i : Fin 8192) (l : Nat) : cs a3 i (l % 128) = cs a3 i l :=
  congrArg (fun n => a3 (ix2 i n)) (Fin.ext (by simp only; omega))

theorem sn_mod (a4 : FVec Ideal S8192x32 .f32) (i : Fin 8192) (l : Nat) : sn a4 i (l % 128) = sn a4 i l := by
  have e : (⟨l % 128 % 32, Nat.mod_lt _ (by omega)⟩ : Fin 32) = ⟨l % 32, Nat.mod_lt _ (by omega)⟩ := Fin.ext (by simp only; omega)
  have e' : l % 128 % 64 = l % 64 := by omega
  unfold sn
  simp only [e, e']

theorem final5 : (dats m 0 c).arrAt 5 cfg0.N
    = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [out5, emb5]
  simp only [pay2, blk0, blk1, blk2, blk3, blk4, co_mod, sn_mod]
  rfl

theorem final6 : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  rw [out6, emb6]
  simp only [pay2, blk0, blk1, blk2, blk3, blk4]
  rfl

theorem final7 : (dats m 0 c).arrAt 7 cfg0.N
    = G7 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  rw [out7, emb7]
  simp only [pay2, blk0, blk1, blk2]
  rfl

theorem final8 : (dats m 0 c).arrAt 8 cfg0.N
    = G8 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  idx_vars y
  rw [out8, emb8]
  simp only [pay2, blk0, blk1, blk2]
  rfl

end Cert.K.InAttnF

end
-- ==== Proof.K.InAttnFRef.lean ====
/- The attention layer's norm, input projection and rotary embedding: the reference's results. -/
module

public import proofs.«01_k».proof.Proof.K.InAttnF
public import proofs.«01_k».proof.Proof.Gen.InAttnFRefIdeal.Run
public import Idealize.ShloMosaic.Lib.Pointwise

@[expose] public section

set_option maxRecDepth 16384

noncomputable section

namespace Cert.K.InAttnF

open Idealize.ShloMosaic Idealize.ShloMosaic.TcCoe Idealize.SL.Sem Cert.InAttnFRefIdeal Cert.InAttnFRefIdeal.Gen

theorem proj (a0 : FVec Ideal S8192x1024 .f32) (a1 : FVec Ideal S1024 .f32) (a2 : FVec Ideal S1024x2304 .f32) :
    Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2 = fun i => pj a0 a1 a2 (i 0) (i 1) := by
  funext i; idx_vars i
  pointwise [pj, rs]

theorem lo {A B C D c s p : EReal} (hc : c = B) (hp : p = C) (hs : s = -D) : A * B - C * D = A * c + p * s := by
  rw [hc, hp, hs, mul_neg, sub_eq_add_neg]

theorem hi {A A' B C D c s p : EReal} (ha : A' = A) (hc : c = B) (hp : p = C) (hs : s = D) : A' * B + C * D = A * c + p * s := by
  rw [ha, hc, hp, hs]

theorem ref5p (p : FVec Ideal S8192x2304 .f32) (a3 a4 : FVec Ideal S8192x32 .f32) (i : Fin 8192) (l : Fin 1024) :
    (truncf .bf16 (shapeCast S8192x1024 (concatenate S8192x16x64 2 [⟨S8192x16x32, (subf (mulf (extractStridedSlice S8192x16x32 ![0, 0, 0] (shapeCast S8192x16x64 (extractStridedSlice S8192x1024 ![0, 0] p slices_S8192x2304_S8192x1024_0_0) shapeCasts_S8192x1024_S8192x16x64) slices_S8192x16x64_S8192x16x32_0_0_0) (broadcastInDim S8192x16x32 ![0, 1, 2] bcast_S8192x1x32_S8192x16x32_0_1_2 (broadcastInDim S8192x1x32 ![0, 2] bcast_S8192x32_S8192x1x32_0_2 a3))) (mulf (extractStridedSlice S8192x16x32 ![0, 0, 32] (shapeCast S8192x16x64 (extractStridedSlice S8192x1024 ![0, 0] p slices_S8192x2304_S8192x1024_0_0) shapeCasts_S8192x1024_S8192x16x64) slices_S8192x16x64_S8192x16x32_0_0_32) (broadcastInDim S8192x16x32 ![0, 1, 2] bcast_S8192x1x32_S8192x16x32_0_1_2 (broadcastInDim S8192x1x32 ![0, 2] bcast_S8192x32_S8192x1x32_0_2 a4))))⟩, ⟨S8192x16x32, (addf (mulf (extractStridedSlice S8192x16x32 ![0, 0, 32] (shapeCast S8192x16x64 (extractStridedSlice S8192x1024 ![0, 0] p slices_S8192x2304_S8192x1024_0_0) shapeCasts_S8192x1024_S8192x16x64) slices_S8192x16x64_S8192x16x32_0_0_32) (broadcastInDim S8192x16x32 ![0, 1, 2] bcast_S8192x1x32_S8192x16x32_0_1_2 (broadcastInDim S8192x1x32 ![0, 2] bcast_S8192x32_S8192x1x32_0_2 a3))) (mulf (extractStridedSlice S8192x16x32 ![0, 0, 0] (shapeCast S8192x16x64 (extractStridedSlice S8192x1024 ![0, 0] p slices_S8192x2304_S8192x1024_0_0) shapeCasts_S8192x1024_S8192x16x64) slices_S8192x16x64_S8192x16x32_0_0_0) (broadcastInDim S8192x16x32 ![0, 1, 2] bcast_S8192x1x32_S8192x16x32_0_1_2 (broadcastInDim S8192x1x32 ![0, 2] bcast_S8192x32_S8192x1x32_0_2 a4))))⟩] concatenates_S8192x16x32_S8192x16x32_S8192x16x64_d2) shapeCasts_S8192x16x64_S8192x1024) bitsLt_bf16_f32 : FVec Ideal S8192x1024 .bf16) (ix2 i l)
      = p (ix2 i ⟨0 + l.val, by omega⟩) * cs a3 i l + p (ix2 i ⟨0 + pt l, by have := pt_lt (n := 1024) rfl l.isLt; omega⟩) * sn a4 i l := by
  pointwise []
  by_cases h : l.val % 64 < 32
  · refine (dif_pos h).trans (lo ?_ ?_ ?_)
    · exact congrArg (fun n : Fin 32 => a3 (ix2 i n)) (Fin.ext (by simp only; omega))
    · exact congrArg (fun n : Fin 2304 => p (ix2 i n)) (Fin.ext (by simp only [pt, if_pos h]; omega))
    · exact (if_pos h).trans (congrArg (fun n : Fin 32 => -(a4 (ix2 i n))) (Fin.ext (by simp only; omega)))
  · refine (dif_neg h).trans (hi ?_ ?_ ?_ ?_)
    · exact congrArg (fun n : Fin 2304 => p (ix2 i n)) (Fin.ext (by simp only; omega))
    · exact congrArg (fun n : Fin 32 => a3 (ix2 i n)) (Fin.ext (by simp only; omega))
    · exact congrArg (fun n : Fin 2304 => p (ix2 i n)) (Fin.ext (by simp only [pt, if_neg h]; omega))
    · exact (if_neg h).trans (congrArg (fun n : Fin 32 => a4 (ix2 i n)) (Fin.ext (by simp only; omega)))

theorem ref5 (a0 : FVec Ideal S8192x1024 .f32) (a1 : FVec Ideal S1024 .f32) (a2 : FVec Ideal S1024x2304 .f32) (a3 a4 : FVec Ideal S8192x32 .f32) :
    truncf .bf16 (shapeCast S8192x1024 (concatenate S8192x16x64 2 [⟨S8192x16x32, (subf (mulf (extractStridedSlice S8192x16x32 ![0, 0, 0] (shapeCast S8192x16x64 (extractStridedSlice S8192x1024 ![0, 0] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x1024_0_0) shapeCasts_S8192x1024_S8192x16x64) slices_S8192x16x64_S8192x16x32_0_0_0) (broadcastInDim S8192x16x32 ![0, 1, 2] bcast_S8192x1x32_S8192x16x32_0_1_2 (broadcastInDim S8192x1x32 ![0, 2] bcast_S8192x32_S8192x1x32_0_2 a3))) (mulf (extractStridedSlice S8192x16x32 ![0, 0, 32] (shapeCast S8192x16x64 (extractStridedSlice S8192x1024 ![0, 0] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x1024_0_0) shapeCasts_S8192x1024_S8192x16x64) slices_S8192x16x64_S8192x16x32_0_0_32) (broadcastInDim S8192x16x32 ![0, 1, 2] bcast_S8192x1x32_S8192x16x32_0_1_2 (broadcastInDim S8192x1x32 ![0, 2] bcast_S8192x32_S8192x1x32_0_2 a4))))⟩, ⟨S8192x16x32, (addf (mulf (extractStridedSlice S8192x16x32 ![0, 0, 32] (shapeCast S8192x16x64 (extractStridedSlice S8192x1024 ![0, 0] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x1024_0_0) shapeCasts_S8192x1024_S8192x16x64) slices_S8192x16x64_S8192x16x32_0_0_32) (broadcastInDim S8192x16x32 ![0, 1, 2] bcast_S8192x1x32_S8192x16x32_0_1_2 (broadcastInDim S8192x1x32 ![0, 2] bcast_S8192x32_S8192x1x32_0_2 a3))) (mulf (extractStridedSlice S8192x16x32 ![0, 0, 0] (shapeCast S8192x16x64 (extractStridedSlice S8192x1024 ![0, 0] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x1024_0_0) shapeCasts_S8192x1024_S8192x16x64) slices_S8192x16x64_S8192x16x32_0_0_0) (broadcastInDim S8192x16x32 ![0, 1, 2] bcast_S8192x1x32_S8192x16x32_0_1_2 (broadcastInDim S8192x1x32 ![0, 2] bcast_S8192x32_S8192x1x32_0_2 a4))))⟩] concatenates_S8192x16x32_S8192x16x32_S8192x16x64_d2) shapeCasts_S8192x16x64_S8192x1024) bitsLt_bf16_f32 = G5 a0 a1 a2 a3 a4 := by
  rw [proj]
  funext i; idx_vars i
  exact ref5p _ a3 a4 i0 i1

theorem ref6p (p : FVec Ideal S8192x2304 .f32) (a3 a4 : FVec Ideal S8192x32 .f32) (i : Fin 8192) (l : Fin 128) :
    (truncf .bf16 (shapeCast S8192x128 (concatenate S8192x2x64 2 [⟨S8192x2x32, (subf (mulf (extractStridedSlice S8192x2x32 ![0, 0, 0] (shapeCast S8192x2x64 (extractStridedSlice S8192x128 ![0, 1024] p slices_S8192x2304_S8192x128_0_1024) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 a3))) (mulf (extractStridedSlice S8192x2x32 ![0, 0, 32] (shapeCast S8192x2x64 (extractStridedSlice S8192x128 ![0, 1024] p slices_S8192x2304_S8192x128_0_1024) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 a4))))⟩, ⟨S8192x2x32, (addf (mulf (extractStridedSlice S8192x2x32 ![0, 0, 32] (shapeCast S8192x2x64 (extractStridedSlice S8192x128 ![0, 1024] p slices_S8192x2304_S8192x128_0_1024) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 a3))) (mulf (extractStridedSlice S8192x2x32 ![0, 0, 0] (shapeCast S8192x2x64 (extractStridedSlice S8192x128 ![0, 1024] p slices_S8192x2304_S8192x128_0_1024) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 a4))))⟩] concatenates_S8192x2x32_S8192x2x32_S8192x2x64_d2) shapeCasts_S8192x2x64_S8192x128) bitsLt_bf16_f32 : FVec Ideal S8192x128 .bf16) (ix2 i l)
      = p (ix2 i ⟨1024 + l.val, by omega⟩) * cs a3 i l + p (ix2 i ⟨1024 + pt l, by have := pt_lt (n := 128) rfl l.isLt; omega⟩) * sn a4 i l := by
  pointwise []
  by_cases h : l.val % 64 < 32
  · refine (dif_pos h).trans (lo ?_ ?_ ?_)
    · exact congrArg (fun n : Fin 32 => a3 (ix2 i n)) (Fin.ext (by simp only; omega))
    · exact congrArg (fun n : Fin 2304 => p (ix2 i n)) (Fin.ext (by simp only [pt, if_pos h]; omega))
    · exact (if_pos h).trans (congrArg (fun n : Fin 32 => -(a4 (ix2 i n))) (Fin.ext (by simp only; omega)))
  · refine (dif_neg h).trans (hi ?_ ?_ ?_ ?_)
    · exact congrArg (fun n : Fin 2304 => p (ix2 i n)) (Fin.ext (by simp only; omega))
    · exact congrArg (fun n : Fin 32 => a3 (ix2 i n)) (Fin.ext (by simp only; omega))
    · exact congrArg (fun n : Fin 2304 => p (ix2 i n)) (Fin.ext (by simp only [pt, if_neg h]; omega))
    · exact (if_neg h).trans (congrArg (fun n : Fin 32 => a4 (ix2 i n)) (Fin.ext (by simp only; omega)))

theorem ref6 (a0 : FVec Ideal S8192x1024 .f32) (a1 : FVec Ideal S1024 .f32) (a2 : FVec Ideal S1024x2304 .f32) (a3 a4 : FVec Ideal S8192x32 .f32) :
    truncf .bf16 (shapeCast S8192x128 (concatenate S8192x2x64 2 [⟨S8192x2x32, (subf (mulf (extractStridedSlice S8192x2x32 ![0, 0, 0] (shapeCast S8192x2x64 (extractStridedSlice S8192x128 ![0, 1024] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x128_0_1024) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 a3))) (mulf (extractStridedSlice S8192x2x32 ![0, 0, 32] (shapeCast S8192x2x64 (extractStridedSlice S8192x128 ![0, 1024] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x128_0_1024) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 a4))))⟩, ⟨S8192x2x32, (addf (mulf (extractStridedSlice S8192x2x32 ![0, 0, 32] (shapeCast S8192x2x64 (extractStridedSlice S8192x128 ![0, 1024] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x128_0_1024) shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 a3))) (mulf (extractStridedSlice S8192x2x32 ![0, 0, 0] (shapeCast S8192x2x64 (extractStridedSlice S8192x128 ![0, 1024] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x128_0_1024) shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 a4))))⟩] concatenates_S8192x2x32_S8192x2x32_S8192x2x64_d2) shapeCasts_S8192x2x64_S8192x128) bitsLt_bf16_f32 = G6 a0 a1 a2 a3 a4 := by
  rw [proj]
  funext i; idx_vars i
  exact ref6p _ a3 a4 i0 i1

theorem ref7 (a0 : FVec Ideal S8192x1024 .f32) (a1 : FVec Ideal S1024 .f32) (a2 : FVec Ideal S1024x2304 .f32) :
    truncf .bf16 (extractStridedSlice S8192x128 ![0, 1152] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x128_0_1152) bitsLt_bf16_f32 = G7 a0 a1 a2 := by
  rw [proj]
  funext i; idx_vars i
  pointwise [G7]

theorem ref8 (a0 : FVec Ideal S8192x1024 .f32) (a1 : FVec Ideal S1024 .f32) (a2 : FVec Ideal S1024x2304 .f32) :
    truncf .bf16 (extractStridedSlice S8192x1024 ![0, 1280] (Host.dotGeneral dot_S8192x1024_S1024x2304_S8192x2304_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 a1))) a2) slices_S8192x2304_S8192x1024_0_1280) bitsLt_bf16_f32 = G8 a0 a1 a2 := by
  rw [proj]
  funext i; idx_vars i
  pointwise [G8]

end Cert.K.InAttnF

end
-- ==== Proof.K.InAttnFClaims.lean ====
/- The claims about the attention layer's norm, input projection and rotary embedding, assembled. -/
module

public import proofs.«01_k».proof.Proof.K.InAttnF
public import proofs.«01_k».proof.Proof.K.InAttnFRef
public import proofs.«01_k».proof.Proof.Gen.InAttnFIdeal.Value
public import proofs.«01_k».proof.Proof.Gen.InAttnFRefIdeal.Run
public import proofs.«01_k».proof.Defs
public import proofs.«01_k».proof.Proof.Gen.InAttnF.Frame
public import proofs.«01_k».proof.Proof.Gen.InAttnFIdeal.Frame
public import Idealize.ShloMosaic.Adequacy
public import Idealize.ShloMosaic.Init

@[expose] public section

noncomputable section

namespace Cert.K.InAttnF

open Idealize.ShloMosaic Idealize.ShloMosaic.TcCoe Idealize.SL.Sem Cert.InAttnFIdeal

theorem frameRef : Cert.quiescent_InAttnFRefIdeal := fun m ρ _ =>
  (θ_run _ _ _).mono (fun r h => ⟨fun c => (h c).2.2.2.2, sem_eq_zero_of_no_sems (by decide) r.2⟩)
    (Cert.InAttnFRefIdeal.Value.run m ρ)

theorem congrG5 {a0 b0 : FVec Ideal S8192x1024 .f32} {a1 b1 : FVec Ideal S1024 .f32} {a2 b2 : FVec Ideal S1024x2304 .f32} {a3 b3 : FVec Ideal S8192x32 .f32} {a4 b4 : FVec Ideal S8192x32 .f32} (h0 : a0 = b0) (h1 : a1 = b1) (h2 : a2 = b2) (h3 : a3 = b3) (h4 : a4 = b4) :
    G5 a0 a1 a2 a3 a4 = G5 b0 b1 b2 b3 b4 := by
  subst h0 h1 h2 h3 h4; rfl

theorem congrG6 {a0 b0 : FVec Ideal S8192x1024 .f32} {a1 b1 : FVec Ideal S1024 .f32} {a2 b2 : FVec Ideal S1024x2304 .f32} {a3 b3 : FVec Ideal S8192x32 .f32} {a4 b4 : FVec Ideal S8192x32 .f32} (h0 : a0 = b0) (h1 : a1 = b1) (h2 : a2 = b2) (h3 : a3 = b3) (h4 : a4 = b4) :
    G6 a0 a1 a2 a3 a4 = G6 b0 b1 b2 b3 b4 := by
  subst h0 h1 h2 h3 h4; rfl

theorem congrG7 {a0 b0 : FVec Ideal S8192x1024 .f32} {a1 b1 : FVec Ideal S1024 .f32} {a2 b2 : FVec Ideal S1024x2304 .f32} (h0 : a0 = b0) (h1 : a1 = b1) (h2 : a2 = b2) :
    G7 a0 a1 a2 = G7 b0 b1 b2 := by
  subst h0 h1 h2; rfl

theorem congrG8 {a0 b0 : FVec Ideal S8192x1024 .f32} {a1 b1 : FVec Ideal S1024 .f32} {a2 b2 : FVec Ideal S1024x2304 .f32} (h0 : a0 = b0) (h1 : a1 = b1) (h2 : a2 = b2) :
    G8 a0 a1 a2 = G8 b0 b1 b2 := by
  subst h0 h1 h2; rfl

set_option maxHeartbeats 1000000 in
theorem alg : Cert.algebraic_InAttnFIdeal_InAttnFRefIdeal := by
  intro m ρ m' ρ' _ hag
  refine ⟨fun c => (Cert.InAttnFIdeal.Gen.dats m 0 c).arrAt 5 _, fun c => (Cert.InAttnFIdeal.Gen.dats m 0 c).arrAt 6 _, fun c => (Cert.InAttnFIdeal.Gen.dats m 0 c).arrAt 7 _, fun c => (Cert.InAttnFIdeal.Gen.dats m 0 c).arrAt 8 _,
    Cert.InAttnFIdeal.Value.run_blocks m ρ, ?_⟩
  refine (θ_run _ _ _).mono (fun _ h c => ?_) (Cert.InAttnFRefIdeal.Value.run m' ρ')
  obtain ⟨h5, h6, h7, h8, ha⟩ := h c
  obtain ⟨e0, e1, e2, e3, e4⟩ := hag c
  refine ⟨h5.trans ((ref5 _ _ _ _ _).trans ?_), h6.trans ((ref6 _ _ _ _ _).trans ?_), h7.trans ((ref7 _ _ _).trans ?_), h8.trans ((ref8 _ _ _).trans ?_), ha⟩
  · exact (congrG5 e0 e1 e2 e3 e4).trans (final5 m c).symm
  · exact (congrG6 e0 e1 e2 e3 e4).trans (final6 m c).symm
  · exact (congrG7 e0 e1 e2).trans (final7 m c).symm
  · exact (congrG8 e0 e1 e2).trans (final8 m c).symm

end Cert.K.InAttnF

end
-- ==== Proof.K.Adam.lean ====
/- The values of the optimiser's step on the largest family of matrices. -/
module

public import proofs.«01_k».proof.Proof.K.Real
public import proofs.«01_k».proof.Proof.Gen.AdamIdeal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.Adam

open Idealize.ShloMosaic Idealize.ShloMosaic.TcCoe Idealize.SL.Sem Cert.AdamIdeal Cert.AdamIdeal.Gen

variable (m : (ℓ : Loc nD τ sig) → Buf (Elt Ideal) ℓ) (c : Dev nD)

/-- The block each window reads or writes at a grid point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- Row `a` of block `t` as a row of the array. -/
def row (t : Fin cfg0.N) (a : Fin 192) : Fin 384 :=
  ⟨t.val * 192 + a.val, by have := lt_of_lt_of_eq t.isLt (show cfg0.N = 2 from N_0); have := a.isLt; omega⟩

theorem blk0 (t : Fin cfg0.N) (s : Fin 4) (a : Fin 192) (k : Fin 1024) :
    iblk m c 0 t (ix3 s a k) = m ((c : Thread nD τ).loc main_arg0) (ix3 s (row t a) k) := by
  blk_ext [iblk, V, idx t, row]

theorem blk1 (t : Fin cfg0.N) (a : Fin 192) (k : Fin 1024) :
    iblk m c 1 t (ix2 a k) = m ((c : Thread nD τ).loc main_arg1) (ix2 (row t a) k) := by
  blk_ext [iblk, V, idx t, row]

theorem blk2 (t : Fin cfg0.N) (a : Fin 192) (k : Fin 1024) :
    iblk m c 2 t (ix2 a k) = m ((c : Thread nD τ).loc main_arg2) (ix2 (row t a) k) := by
  blk_ext [iblk, V, idx t, row]

theorem blk3 (t : Fin cfg0.N) (a : Fin 192) (k : Fin 1024) :
    iblk m c 3 t (ix2 a k) = m ((c : Thread nD τ).loc main_arg3) (ix2 (row t a) k) := by
  blk_ext [iblk, V, idx t, row]

theorem emb4 (t : Fin cfg0.N) (a : Fin 192) (k : Fin 1024) :
    ((View.whole main_v0_0).slice (win0_4.rect t)).emb (ix2 a k) = ix2 (row t a) k := by
  blk_ext [idx t, row]

theorem emb5 (t : Fin cfg0.N) (a : Fin 192) (k : Fin 1024) :
    ((View.whole main_v0_1).slice (win0_5.rect t)).emb (ix2 a k) = ix2 (row t a) k := by
  blk_ext [idx t, row]

theorem emb6 (t : Fin cfg0.N) (a : Fin 192) (k : Fin 1024) :
    ((View.whole main_v0_2).slice (win0_6.rect t)).emb (ix2 a k) = ix2 (row t a) k := by
  blk_ext [idx t, row]

theorem emb7 (t : Fin cfg0.N) (a : Fin 192) (k : Fin 1024) :
    ((View.whole main_v0_3).slice (win0_7.rect t)).emb (ix2 a k) = ix2 (row t a) k := by
  blk_ext [idx t, row]

/-- A constant of the step, from its bits. -/
def cn (b : BitVec 32) : EReal := Ideal.ofBits .f32 b

/-- The gradient: the sum of the four parts. -/
def G4 (a0 : FVec Ideal S4x384x1024 .bf16) (a1 a2 a3 : FVec Ideal S384x1024 .f32) : FVec Ideal S384x1024 .f32 := fun i =>
  ∑ s : Fin 4, a0 (ix3 s (i 0) (i 1))

/-- The new first moment. -/
def G6 (a0 : FVec Ideal S4x384x1024 .bf16) (a1 a2 a3 : FVec Ideal S384x1024 .f32) : FVec Ideal S384x1024 .f32 := fun i =>
  cn 0x3F666666#32 * a2 i + cn 0x3DCCCCCD#32 * G4 a0 a1 a2 a3 i

/-- The new second moment. -/
def G7 (a0 : FVec Ideal S4x384x1024 .bf16) (a1 a2 a3 : FVec Ideal S384x1024 .f32) : FVec Ideal S384x1024 .f32 := fun i =>
  cn 0x3F7FBE77#32 * a3 i + cn 0x3A83126F#32 * (G4 a0 a1 a2 a3 i * G4 a0 a1 a2 a3 i)

/-- The change of a weight `w` of moments `p` and `q`. -/
def step (p q w : EReal) : EReal :=
  cn 0xBA83126F#32 * (Ideal.div (Ideal.div p (cn 0x3F26BD02#32)) (Ideal.sqrt (Ideal.div q (cn 0x3C231ACC#32)) + cn 0x322BCC77#32) + cn 0x3C23D70A#32 * w)

/-- The change of the weights. -/
def G5 (a0 : FVec Ideal S4x384x1024 .bf16) (a1 a2 a3 : FVec Ideal S384x1024 .f32) : FVec Ideal S384x1024 .f32 := fun i =>
  step (G6 a0 a1 a2 a3 i) (G7 a0 a1 a2 a3 i) (a1 i)

theorem pay1 (v20 v27 v39 : FVec Ideal S192x1024 .f32) (a : Fin 192) (k : Fin 1024) :
    k0_pay1 v20 v27 v39 (ix2 a k) = step (v20 (ix2 a k)) (v27 (ix2 a k)) (v39 (ix2 a k)) := by
  pointwise [k0_pay1, step, cn]

theorem pay2 (v0 v3 v7 v11 : Vec Ideal S1x192x1024 .bf16) (a : Fin 192) (k : Fin 1024) :
    k0_pay2 v0 v3 v7 v11 (ix2 a k) = v0 (ix3 0 a k) + v3 (ix3 0 a k) + v7 (ix3 0 a k) + v11 (ix3 0 a k) := by
  pointwise [k0_pay2]

theorem pay3 (v0 v3 v7 v11 : Vec Ideal S1x192x1024 .bf16) (v15 : Vec Ideal S192x1024 .f32) (a : Fin 192) (k : Fin 1024) :
    k0_pay3 v0 v3 v7 v11 v15 (ix2 a k) = cn 0x3F666666#32 * v15 (ix2 a k) + cn 0x3DCCCCCD#32 * k0_pay2 v0 v3 v7 v11 (ix2 a k) := by
  pointwise [k0_pay3, cn]

theorem pay4 (v0 v3 v7 v11 : Vec Ideal S1x192x1024 .bf16) (v21 : Vec Ideal S192x1024 .f32) (a : Fin 192) (k : Fin 1024) :
    k0_pay4 v0 v3 v7 v11 v21 (ix2 a k)
      = cn 0x3F7FBE77#32 * v21 (ix2 a k) + cn 0x3A83126F#32 * (k0_pay2 v0 v3 v7 v11 (ix2 a k) * k0_pay2 v0 v3 v7 v11 (ix2 a k)) := by
  pointwise [k0_pay4, cn]

theorem part0 (x0 : Vec Ideal S4x192x1024 .bf16) (a : Fin 192) (k : Fin 1024) :
    (View.ld x0 r0_0 : Vec Ideal S1x192x1024 .bf16) (ix3 0 a k) = x0 (ix3 0 a k) := by
  pointwise []

theorem part1 (x0 : Vec Ideal S4x192x1024 .bf16) (a : Fin 192) (k : Fin 1024) :
    (View.ld x0 r0_1 : Vec Ideal S1x192x1024 .bf16) (ix3 0 a k) = x0 (ix3 1 a k) := by
  pointwise []

theorem part2 (x0 : Vec Ideal S4x192x1024 .bf16) (a : Fin 192) (k : Fin 1024) :
    (View.ld x0 r0_2 : Vec Ideal S1x192x1024 .bf16) (ix3 0 a k) = x0 (ix3 2 a k) := by
  pointwise []

theorem part3 (x0 : Vec Ideal S4x192x1024 .bf16) (a : Fin 192) (k : Fin 1024) :
    (View.ld x0 r0_3 : Vec Ideal S1x192x1024 .bf16) (ix3 0 a k) = x0 (ix3 3 a k) := by
  pointwise []

section blocks
variable (x0 : Vec Ideal S4x192x1024 .bf16) (x1 x2 x3 : Vec Ideal S192x1024 .f32) (a : Fin 192) (k : Fin 1024)

theorem o4 : out0_4 x0 x1 x2 x3 (ix2 a k) = ∑ s : Fin 4, x0 (ix3 s a k) := by
  unfold_out out0_4
  frame_out
  rw [pay2, Fin.sum_univ_four, part0, part1, part2, part3]

theorem o6 : out0_6 x0 x1 x2 x3 (ix2 a k) = cn 0x3F666666#32 * x2 (ix2 a k) + cn 0x3DCCCCCD#32 * ∑ s : Fin 4, x0 (ix3 s a k) := by
  unfold_out out0_6
  frame_out
  rw [pay3, pay2, Fin.sum_univ_four, part0, part1, part2, part3]

theorem o7 : out0_7 x0 x1 x2 x3 (ix2 a k)
    = cn 0x3F7FBE77#32 * x3 (ix2 a k) + cn 0x3A83126F#32 * ((∑ s : Fin 4, x0 (ix3 s a k)) * ∑ s : Fin 4, x0 (ix3 s a k)) := by
  unfold_out out0_7
  frame_out
  rw [pay4, pay2, Fin.sum_univ_four, part0, part1, part2, part3]

theorem o5 : out0_5 x0 x1 x2 x3 (ix2 a k)
    = step (cn 0x3F666666#32 * x2 (ix2 a k) + cn 0x3DCCCCCD#32 * ∑ s : Fin 4, x0 (ix3 s a k))
        (cn 0x3F7FBE77#32 * x3 (ix2 a k) + cn 0x3A83126F#32 * ((∑ s : Fin 4, x0 (ix3 s a k)) * ∑ s : Fin 4, x0 (ix3 s a k))) (x1 (ix2 a k)) := by
  unfold_out out0_5
  frame_out
  rw [pay1, pay3, pay4, pay2, Fin.sum_univ_four, part0, part1, part2, part3]

end blocks

theorem final4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  refine (o4 _ _ _ _ _ _).trans ?_
  rw [emb4]
  simp only [blk0, blk1, blk2, blk3]
  rfl

theorem final5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (o5 _ _ _ _ _ _).trans ?_
  rw [emb5]
  simp only [blk0, blk1, blk2, blk3]
  rfl

theorem final6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  refine (o6 _ _ _ _ _ _).trans ?_
  rw [emb6]
  simp only [blk0, blk1, blk2, blk3]
  rfl

theorem final7 : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (o7 _ _ _ _ _ _).trans ?_
  rw [emb7]
  simp only [blk0, blk1, blk2, blk3]
  rfl

end Cert.K.Adam

end
-- ==== Proof.K.AdamRef.lean ====
/- The optimiser's step: the reference's results. -/
module

public import proofs.«01_k».proof.Proof.K.Adam
public import proofs.«01_k».proof.Proof.Gen.AdamRefIdeal.Run
public import Idealize.ShloMosaic.Lib.Pointwise

@[expose] public section

set_option maxRecDepth 16384

noncomputable section

namespace Cert.K.Adam

open Idealize.ShloMosaic Idealize.ShloMosaic.TcCoe Idealize.SL.Sem Cert.AdamRefIdeal Cert.AdamRefIdeal.Gen

section refs
variable (a0 : FVec Ideal S4x384x1024 .bf16) (a1 a2 a3 : FVec Ideal S384x1024 .f32)

theorem ref4 : Host.reduceAdd (extf .f32 a0 bitsLt_bf16_f32) (constant S_ .f32 0x00000000#32) reducesTo_S4x384x1024_S384x1024_d0 h_S_ = G4 a0 a1 a2 a3 := by
  funext i; idx_vars i
  pointwise [G4, G5, G6, G7, step, cn]

theorem ref5 : mulf (broadcastInDim S384x1024 ![] bcast_S_S384x1024 (constant S_ .f32 0xBA83126F#32)) (addf (Host.divf (Host.divf (addf (mulf (broadcastInDim S384x1024 ![] bcast_S_S384x1024 (constant S_ .f32 0x3F666666#32)) a2) (mulf (broadcastInDim S384x1024 ![] bcast_S_S384x1024 (constant S_ .f32 0x3DCCCCCD#32)) (Host.reduceAdd (extf .f32 a0 bitsLt_bf16_f32) (constant S_ .f32 0x00000000#32) reducesTo_S4x384x1024_S384x1024_d0 h_S_))) (broadcastInDim S384x1024 ![] bcast_S_S384x1024 (constant S_ .f32 0x3F26BD02#32))) (addf (Host.sqrt (Host.divf (addf (mulf (broadcastInDim S384x1024 ![] bcast_S_S384x1024 (constant S_ .f32 0x3F7FBE77#32)) a3) (mulf (broadcastInDim S384x1024 ![] bcast_S_S384x1024 (constant S_ .f32 0x3A83126F#32)) (mulf (Host.reduceAdd (extf .f32 a0 bitsLt_bf16_f32) (constant S_ .f32 0x00000000#32) reducesTo_S4x384x1024_S384x1024_d0 h_S_) (Host.reduceAdd (extf .f32 a0 bitsLt_bf16_f32) (constant S_ .f32 0x00000000#32) reducesTo_S4x384x1024_S384x1024_d0 h_S_)))) (broadcastInDim S384x1024 ![] bcast_S_S384x1024 (constant S_ .f32 0x3C231ACC#32)))) (broadcastInDim S384x1024 ![] bcast_S_S384x1024 (constant S_ .f32 0x322BCC77#32)))) (mulf (broadcastInDim S384x1024 ![] bcast_S_S384x1024 (constant S_ .f32 0x3C23D70A#32)) a1)) = G5 a0 a1 a2 a3 := by
  funext i; idx_vars i
  pointwise [G4, G5, G6, G7, step, cn]

theorem ref6 : addf (mulf (broadcastInDim S384x1024 ![] bcast_S_S384x1024 (constant S_ .f32 0x3F666666#32)) a2) (mulf (broadcastInDim S384x1024 ![] bcast_S_S384x1024 (constant S_ .f32 0x3DCCCCCD#32)) (Host.reduceAdd (extf .f32 a0 bitsLt_bf16_f32) (constant S_ .f32 0x00000000#32) reducesTo_S4x384x1024_S384x1024_d0 h_S_)) = G6 a0 a1 a2 a3 := by
  funext i; idx_vars i
  pointwise [G4, G5, G6, G7, step, cn]

theorem ref7 : addf (mulf (broadcastInDim S384x1024 ![] bcast_S_S384x1024 (constant S_ .f32 0x3F7FBE77#32)) a3) (mulf (broadcastInDim S384x1024 ![] bcast_S_S384x1024 (constant S_ .f32 0x3A83126F#32)) (mulf (Host.reduceAdd (extf .f32 a0 bitsLt_bf16_f32) (constant S_ .f32 0x00000000#32) reducesTo_S4x384x1024_S384x1024_d0 h_S_) (Host.reduceAdd (extf .f32 a0 bitsLt_bf16_f32) (constant S_ .f32 0x00000000#32) reducesTo_S4x384x1024_S384x1024_d0 h_S_))) = G7 a0 a1 a2 a3 := by
  funext i; idx_vars i
  pointwise [G4, G5, G6, G7, step, cn]

end refs

end Cert.K.Adam

end
-- ==== Proof.K.AdamClaims.lean ====
/- The claims about the optimiser's step, assembled. -/
module

public import proofs.«01_k».proof.Proof.K.Adam
public import proofs.«01_k».proof.Proof.K.AdamRef
public import proofs.«01_k».proof.Proof.Gen.AdamIdeal.Value
public import proofs.«01_k».proof.Proof.Gen.AdamRefIdeal.Run
public import proofs.«01_k».proof.Defs
public import proofs.«01_k».proof.Proof.Gen.Adam.Frame
public import proofs.«01_k».proof.Proof.Gen.AdamIdeal.Frame
public import Idealize.ShloMosaic.Adequacy
public import Idealize.ShloMosaic.Init

@[expose] public section

noncomputable section

namespace Cert.K.Adam

open Idealize.ShloMosaic Idealize.ShloMosaic.TcCoe Idealize.SL.Sem Cert.AdamIdeal

theorem frameRef : Cert.quiescent_AdamRefIdeal := fun m ρ _ =>
  (θ_run _ _ _).mono (fun r h => ⟨fun c => (h c).2.2.2.2, sem_eq_zero_of_no_sems (by decide) r.2⟩)
    (Cert.AdamRefIdeal.Value.run m ρ)

theorem congrG4 {a0 a0' : FVec Ideal S4x384x1024 .bf16} {a1 a1' a2 a2' a3 a3' : FVec Ideal S384x1024 .f32} (h0 : a0 = a0') (h1 : a1 = a1') (h2 : a2 = a2') (h3 : a3 = a3') : G4 a0 a1 a2 a3 = G4 a0' a1' a2' a3' := by
  subst h0 h1 h2 h3; rfl

theorem congrG5 {a0 a0' : FVec Ideal S4x384x1024 .bf16} {a1 a1' a2 a2' a3 a3' : FVec Ideal S384x1024 .f32} (h0 : a0 = a0') (h1 : a1 = a1') (h2 : a2 = a2') (h3 : a3 = a3') : G5 a0 a1 a2 a3 = G5 a0' a1' a2' a3' := by
  subst h0 h1 h2 h3; rfl

theorem congrG6 {a0 a0' : FVec Ideal S4x384x1024 .bf16} {a1 a1' a2 a2' a3 a3' : FVec Ideal S384x1024 .f32} (h0 : a0 = a0') (h1 : a1 = a1') (h2 : a2 = a2') (h3 : a3 = a3') : G6 a0 a1 a2 a3 = G6 a0' a1' a2' a3' := by
  subst h0 h1 h2 h3; rfl

theorem congrG7 {a0 a0' : FVec Ideal S4x384x1024 .bf16} {a1 a1' a2 a2' a3 a3' : FVec Ideal S384x1024 .f32} (h0 : a0 = a0') (h1 : a1 = a1') (h2 : a2 = a2') (h3 : a3 = a3') : G7 a0 a1 a2 a3 = G7 a0' a1' a2' a3' := by
  subst h0 h1 h2 h3; rfl

set_option maxHeartbeats 1000000 in
theorem alg : Cert.algebraic_AdamIdeal_AdamRefIdeal := by
  intro m ρ m' ρ' _ hag
  refine ⟨fun c => (Cert.AdamIdeal.Gen.dats m 0 c).arrAt 4 _, fun c => (Cert.AdamIdeal.Gen.dats m 0 c).arrAt 5 _, fun c => (Cert.AdamIdeal.Gen.dats m 0 c).arrAt 6 _, fun c => (Cert.AdamIdeal.Gen.dats m 0 c).arrAt 7 _, Cert.AdamIdeal.Value.run_blocks m ρ, ?_⟩
  refine (θ_run _ _ _).mono (fun _ h c => ?_) (Cert.AdamRefIdeal.Value.run m' ρ')
  obtain ⟨h4, h5, h6, h7, ha⟩ := h c
  obtain ⟨e0, e1, e2, e3⟩ := hag c
  refine ⟨h4.trans ((ref4 (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))).trans ?_), h5.trans ((ref5 (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))).trans ?_), h6.trans ((ref6 (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))).trans ?_), h7.trans ((ref7 (m' ((c.tc : Thread Cert.AdamRefIdeal.nD Cert.AdamRefIdeal.τ).loc Cert.AdamRefIdeal.main_arg0)) (m' ((c.tc : Thread Cert.AdamRefIdeal.nD Cert.AdamRefIdeal.τ).loc Cert.AdamRefIdeal.main_arg1)) (m' ((c.tc : Thread Cert.AdamRefIdeal.nD Cert.AdamRefIdeal.τ).loc Cert.AdamRefIdeal.main_arg2)) (m' ((c.tc : Thread Cert.AdamRefIdeal.nD Cert.AdamRefIdeal.τ).loc Cert.AdamRefIdeal.main_arg3))).trans ?_), ha⟩
  · exact (congrG4 e0 e1 e2 e3).trans (final4 m c).symm
  · exact (congrG5 e0 e1 e2 e3).trans (final5 m c).symm
  · exact (congrG6 e0 e1 e2 e3).trans (final6 m c).symm
  · exact (congrG7 e0 e1 e2 e3).trans (final7 m c).symm

end Cert.K.Adam

end
-- ==== Proof.K.Sums.lean ====
/- The value of the sum of the small gradients' parts. -/
module

public import proofs.«01_k».proof.Proof.K.Real
public import proofs.«01_k».proof.Proof.Gen.SumsIdeal.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.K.Sums

open Idealize.ShloMosaic Idealize.ShloMosaic.TcCoe Idealize.SL.Sem Cert.SumsIdeal Cert.SumsIdeal.Gen

variable (m : (ℓ : Loc nD τ sig) → Buf (Elt Ideal) ℓ) (c : Dev nD)

/-- The block each window reads or writes: the whole array. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0])

/-- The window's array: part 0. -/
theorem V_1 : (V m c main_v1 : FVec Ideal S72x1024 .f32)
    = shapeCast S72x1024 (extractStridedSlice S1x72x1024 ![0, 0, 0] (m ((c : Thread nD τ).loc main_arg0)) slices_S4x72x1024_S1x72x1024_0_0_0) shapeCasts_S1x72x1024_S72x1024 := by
  unfold V
  after_results
  rfl

theorem blk0 (t : Fin cfg0.N) (a : Fin 72) (k : Fin 1024) :
    iblk m c 0 t (ix2 a k) = m ((c : Thread nD τ).loc main_arg0) (ix3 0 a k) := by
  refine Eq.trans (b := (V m c main_v1 : FVec Ideal S72x1024 .f32) (ix2 a k)) ?_ ?_
  · blk_ext [iblk, idx t]
  · rw [V_1]
    pointwise []

/-- The window's array: part 1. -/
theorem V_3 : (V m c main_v3 : FVec Ideal S72x1024 .f32)
    = shapeCast S72x1024 (extractStridedSlice S1x72x1024 ![1, 0, 0] (m ((c : Thread nD τ).loc main_arg0)) slices_S4x72x1024_S1x72x1024_1_0_0) shapeCasts_S1x72x1024_S72x1024 := by
  unfold V
  after_results
  rfl

theorem blk1 (t : Fin cfg0.N) (a : Fin 72) (k : Fin 1024) :
    iblk m c 1 t (ix2 a k) = m ((c : Thread nD τ).loc main_arg0) (ix3 1 a k) := by
  refine Eq.trans (b := (V m c main_v3 : FVec Ideal S72x1024 .f32) (ix2 a k)) ?_ ?_
  · blk_ext [iblk, idx t]
  · rw [V_3]
    pointwise []

/-- The window's array: part 2. -/
theorem V_5 : (V m c main_v5 : FVec Ideal S72x1024 .f32)
    = shapeCast S72x1024 (extractStridedSlice S1x72x1024 ![2, 0, 0] (m ((c : Thread nD τ).loc main_arg0)) slices_S4x72x1024_S1x72x1024_2_0_0) shapeCasts_S1x72x1024_S72x1024 := by
  unfold V
  after_results
  rfl

theorem blk2 (t : Fin cfg0.N) (a : Fin 72) (k : Fin 1024) :
    iblk m c 2 t (ix2 a k) = m ((c : Thread nD τ).loc main_arg0) (ix3 2 a k) := by
  refine Eq.trans (b := (V m c main_v5 : FVec Ideal S72x1024 .f32) (ix2 a k)) ?_ ?_
  · blk_ext [iblk, idx t]
  · rw [V_5]
    pointwise []

/-- The window's array: part 3. -/
theorem V_7 : (V m c main_v7 : FVec Ideal S72x1024 .f32)
    = shapeCast S72x1024 (extractStridedSlice S1x72x1024 ![3, 0, 0] (m ((c : Thread nD τ).loc main_arg0)) slices_S4x72x1024_S1x72x1024_3_0_0) shapeCasts_S1x72x1024_S72x1024 := by
  unfold V
  after_results
  rfl

theorem blk3 (t : Fin cfg0.N) (a : Fin 72) (k : Fin 1024) :
    iblk m c 3 t (ix2 a k) = m ((c : Thread nD τ).loc main_arg0) (ix3 3 a k) := by
  refine Eq.trans (b := (V m c main_v7 : FVec Ideal S72x1024 .f32) (ix2 a k)) ?_ ?_
  · blk_ext [iblk, idx t]
  · rw [V_7]
    pointwise []

theorem emb4 (t : Fin cfg0.N) (a : Fin 72) (k : Fin 1024) :
    ((View.whole main_v8).slice (win0_4.rect t)).emb (ix2 a k) = ix2 a k := by
  blk_ext [idx t]

/-- The sum of the four parts. -/
def G4 (a0 : FVec Ideal S4x72x1024 .f32) : FVec Ideal S72x1024 .f32 := fun i =>
  ∑ s : Fin 4, a0 (ix3 s (i 0) (i 1))

theorem pay1 (v0 v2 v5 v8 : Vec Ideal S72x1024 .f32) (a : Fin 72) (k : Fin 1024) :
    k0_pay1 v0 v2 v5 v8 (ix2 a k) = v0 (ix2 a k) + v2 (ix2 a k) + v5 (ix2 a k) + v8 (ix2 a k) := by
  pointwise [k0_pay1]

theorem final4 : (dats m 0 c).arrAt 4 cfg0.N = G4 (m ((c : Thread nD τ).loc main_arg0)) := by
  refine (dats m 0 c).arrAt_eq_of_covers 4 _ (by decide +kernel) fun t hf y => ?_
  blk_simp
  rw [after0_4]
  frame_out
  idx_vars y
  rw [pay1, emb4]
  simp only [blk0, blk1, blk2, blk3]
  unfold G4
  rw [Fin.sum_univ_four]
  rfl

end Cert.K.Sums

end
-- ==== Proof.K.SumsRef.lean ====
/- The sum of the small gradients' parts: the reference's result. -/
module

public import proofs.«01_k».proof.Proof.K.Sums
public import proofs.«01_k».proof.Proof.Gen.SumsRefIdeal.Run
public import Idealize.ShloMosaic.Lib.Pointwise

@[expose] public section

set_option maxRecDepth 16384

noncomputable section

namespace Cert.K.Sums

open Idealize.ShloMosaic Idealize.ShloMosaic.TcCoe Idealize.SL.Sem Cert.SumsRefIdeal Cert.SumsRefIdeal.Gen

theorem ref4 (a0 : FVec Ideal S4x72x1024 .f32) : Host.reduceAdd a0 (constant S_ .f32 0x00000000#32) reducesTo_S4x72x1024_S72x1024_d0 h_S_ = G4 a0 := by
  funext i; idx_vars i
  pointwise [G4]

end Cert.K.Sums

end
-- ==== Proof.K.SumsClaims.lean ====
/- The claims about the sum of the small gradients' parts, assembled. -/
module

public import proofs.«01_k».proof.Proof.K.Sums
public import proofs.«01_k».proof.Proof.K.SumsRef
public import proofs.«01_k».proof.Proof.Gen.SumsIdeal.Value
public import proofs.«01_k».proof.Proof.Gen.SumsRefIdeal.Run
public import proofs.«01_k».proof.Defs
public import proofs.«01_k».proof.Proof.Gen.Sums.Frame
public import proofs.«01_k».proof.Proof.Gen.SumsIdeal.Frame
public import Idealize.ShloMosaic.Adequacy
public import Idealize.ShloMosaic.Init

@[expose] public section

noncomputable section

namespace Cert.K.Sums

open Idealize.ShloMosaic Idealize.ShloMosaic.TcCoe Idealize.SL.Sem Cert.SumsIdeal

theorem frameRef : Cert.quiescent_SumsRefIdeal := fun m ρ _ =>
  (θ_run _ _ _).mono (fun r h => ⟨fun c => (h c).2, sem_eq_zero_of_no_sems (by decide) r.2⟩)
    (Cert.SumsRefIdeal.Value.run m ρ)

theorem congrG4 {a0 a0' : FVec Ideal S4x72x1024 .f32} (h0 : a0 = a0') : G4 a0 = G4 a0' := by
  subst h0; rfl

set_option maxHeartbeats 1000000 in
theorem alg : Cert.algebraic_SumsIdeal_SumsRefIdeal := by
  intro m ρ m' ρ' _ hag
  refine ⟨fun c => (Cert.SumsIdeal.Gen.dats m 0 c).arrAt 4 _, Cert.SumsIdeal.Value.run_blocks m ρ, ?_⟩
  refine (θ_run _ _ _).mono (fun _ h c => ?_) (Cert.SumsRefIdeal.Value.run m' ρ')
  obtain ⟨h4, ha⟩ := h c
  have e0 := hag c
  refine ⟨h4.trans ((ref4 (m' ((c.tc : Thread Cert.SumsRefIdeal.nD Cert.SumsRefIdeal.τ).loc Cert.SumsRefIdeal.main_arg0))).trans ?_), ha⟩
  · exact (congrG4 e0).trans (final4 m c).symm

end Cert.K.Sums

end
-- ==== Proof.K.ScanF.lean ====
/- The value of the forward recurrence of the S5 layers. -/
module

public import proofs.«01_k».proof.Proof.Gen.ScanFIdeal.Value
public import Idealize.ShloMosaic.Lib.Pipeline.ValueKit
public import Idealize.ShloMosaic.Lib.Pipeline.ValueKit.Point
public import Idealize.ShloMosaic.Lib.Pointwise
public import Idealize.ShloMosaic.Lib.WholeRead

@[expose] public section

set_option maxRecDepth 16384

noncomputable section

namespace Cert.K.ScanF

open Idealize.ShloMosaic Idealize.ShloMosaic.TcCoe Idealize.SL.Sem Cert.ScanFIdeal Cert.ScanFIdeal.Gen

/-- The recurrence in one lane: the state, real and imaginary part, before step `n`. -/
def rec (a b : EReal) (x y : ℕ → EReal) : ℕ → EReal × EReal
  | 0 => (0, 0)
  | n + 1 => (a * (rec a b x y n).1 - b * (rec a b x y n).2 + x n, a * (rec a b x y n).2 + b * (rec a b x y n).1 + y n)

/-- The inputs of one lane of a block. -/
def lane (x : Vec Ideal S512x2048 .f32) (l : Fin 2048) (n : ℕ) : EReal := x (ix2 (Fin.ofNat 512 n) l)

/-- The states of a block, of its inputs and its multiplier. -/
def R (x0 x1 : Vec Ideal S512x2048 .f32) (a b : Vec Ideal S1x2048 .f32) (n : ℕ) (l : Fin 2048) : EReal × EReal :=
  rec (a (ix2 0 l)) (b (ix2 0 l)) (lane x0 l) (lane x1 l) n

theorem trips_eq : k0_t1_loop.trips = 512 := by decide +kernel

theorem pay1 (l : Fin 2048) : k0_pay1 (F := Ideal) (ix2 0 l) = 0 := by
  pointwise [k0_pay1]

theorem pay2 (a b h g x : Vec Ideal S1x2048 .f32) (l : Fin 2048) :
    k0_pay2 a b h g x (ix2 0 l) = a (ix2 0 l) * h (ix2 0 l) - b (ix2 0 l) * g (ix2 0 l) + x (ix2 0 l) := by
  pointwise [k0_pay2]

theorem pay3 (a b h g x : Vec Ideal S1x2048 .f32) (l : Fin 2048) :
    k0_pay3 a b h g x (ix2 0 l) = a (ix2 0 l) * g (ix2 0 l) + b (ix2 0 l) * h (ix2 0 l) + x (ix2 0 l) := by
  pointwise [k0_pay3]

section Run

variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
variable (x0 x1 : Vec Ideal S512x2048 .f32) (a b : Vec Ideal S1x2048 .f32)

/-- A trip reads its row of a block. -/
theorem row {s : Memref sig .tc .vmem S512x2048 .f32} (h : s.IsWhole) (x : Vec Ideal S512x2048 .f32) (k : Fin k0_t1_loop.trips)
    (inb : ∀ d, k0_off1 k d + (![1, 2048] : Fin 2 → ℕ) d ≤ S512x2048.size d) (l : Fin 2048) :
    View.readAt (Elt Ideal) s.view (Rect.unit (s := S512x2048) (k0_off1 k) ![1, 2048] inb).toLoadRect (h.unread x) (ix2 0 l)
      = lane x l k.val := by
  rw [h.readAt_unread]
  have hk : k.val < 512 := trips_eq ▸ k.isLt
  unfold lane
  refine congrArg x ?_
  funext d
  refine Fin.ext ?_
  match d with
  | ⟨0, _⟩ =>
    show k0_off1 k 0 + 1 * 0 = k.val % 512
    rw [k0_off1_eq, Nat.mod_eq_of_lt hk]; rfl
  | ⟨1, _⟩ =>
    show k0_off1 k 1 + 1 * l.val = l.val
    rw [k0_off1_eq]; show 0 + 1 * l.val = l.val; omega

/-- Where a trip's piece lies. -/
theorem emb_row (k : Fin k0_t1_loop.trips) (inb : ∀ d, k0_off1 k d + (![1, 2048] : Fin 2 → ℕ) d ≤ S512x2048.size d) (l : Fin 2048) :
    ((Rect.unit (s := S512x2048) (k0_off1 k) ![1, 2048] inb).emb (ix2 0 l) 0).val = k.val
      ∧ (Rect.unit (s := S512x2048) (k0_off1 k) ![1, 2048] inb).emb (ix2 0 l) 1 = l := by
  constructor
  · show k0_off1 k 0 + 1 * 0 = k.val
    rw [k0_off1_eq]; rfl
  · refine Fin.ext ?_
    show k0_off1 k 1 + 1 * l.val = l.val
    rw [k0_off1_eq]; show 0 + 1 * l.val = l.val; omega

/-- A trip's piece agrees with a table of rows if the row it holds does. -/
theorem piece (k : Fin k0_t1_loop.trips) (inb : ∀ d, k0_off1 k d + (![1, 2048] : Fin 2 → ℕ) d ≤ S512x2048.size d)
    (w : Vec Ideal S1x2048 .f32) (f : ℕ → Fin 2048 → EReal) (hw : ∀ l, w (ix2 0 l) = f k.val l)
    (x : (Rect.unit (s := S512x2048) (k0_off1 k) ![1, 2048] inb).shape.Idx) :
    w x = f ((Rect.unit (s := S512x2048) (k0_off1 k) ![1, 2048] inb).emb x 0).val ((Rect.unit (s := S512x2048) (k0_off1 k) ![1, 2048] inb).emb x 1) := by
  obtain ⟨l, rfl⟩ : ∃ l : Fin 2048, x = ix2 0 l := ⟨x 1, by
    funext d
    match d with
    | ⟨0, _⟩ => exact Subsingleton.elim (α := Fin 1) _ _
    | ⟨1, _⟩ => rfl⟩
  have hh := emb_row k inb l
  exact (hw l).trans (congrArg₂ f hh.1.symm hh.2.symm)

/-- The state of the loop before trip `n`. -/
abbrev St (n : ℕ) := st_k0_t1 (F := Ideal) Variants.none c none i arg1 harg1 arg2 harg2 arg3 harg3 arg4 harg4 arg5 harg5 arg6 harg6 a b
  (harg1.unread x0) (harg2.unread x1) (k0_pay1, k0_pay1) n

/-- Before trip `n` the loop carries the recurrence's state, and has written the states before. -/
theorem inv : ∀ n ≤ 512,
    (∀ l, (St c i arg1 harg1 arg2 harg2 arg3 harg3 arg4 harg4 arg5 harg5 arg6 harg6 x0 x1 a b n).1.1 (ix2 0 l) = (R x0 x1 a b n l).1
      ∧ (St c i arg1 harg1 arg2 harg2 arg3 harg3 arg4 harg4 arg5 harg5 arg6 harg6 x0 x1 a b n).1.2 (ix2 0 l) = (R x0 x1 a b n l).2)
    ∧ (∀ p ∈ (St c i arg1 harg1 arg2 harg2 arg3 harg3 arg4 harg4 arg5 harg5 arg6 harg6 x0 x1 a b n).2.1, ∀ x : p.1.shape.Idx,
        p.2 x = (R x0 x1 a b (p.1.emb x 0).val (p.1.emb x 1)).1)
    ∧ (∀ p ∈ (St c i arg1 harg1 arg2 harg2 arg3 harg3 arg4 harg4 arg5 harg5 arg6 harg6 x0 x1 a b n).2.2, ∀ x : p.1.shape.Idx,
        p.2 x = (R x0 x1 a b (p.1.emb x 0).val (p.1.emb x 1)).2)
  | 0, _ => by
    refine ⟨fun l => ⟨?_, ?_⟩, ?_, ?_⟩
    · exact pay1 l
    · exact pay1 l
    · intro p hp; exact absurd hp List.not_mem_nil
    · intro p hp; exact absurd hp List.not_mem_nil
  | n + 1, hn => by
    obtain ⟨h1, h2, h3⟩ := inv n (by omega)
    have e := st_k0_t1_succ (F := Ideal) Variants.none c none i arg1 harg1 arg2 harg2 arg3 harg3 arg4 harg4 arg5 harg5 arg6 harg6 a b
      (harg1.unread x0) (harg2.unread x1) (k0_pay1, k0_pay1) ⟨n, by rw [trips_eq]; omega⟩
    unfold tripR_k0_t1 tripL_k0_t1 trip_k0_t1 at e
    dsimp only at e
    unfold St at h1 h2 h3 ⊢
    rw [e]
    refine ⟨fun l => ⟨?_, ?_⟩, ?_, ?_⟩
    · show k0_pay2 _ _ _ _ _ _ = _
      rw [pay2, row, (h1 l).1, (h1 l).2]
      rfl
    · show k0_pay3 _ _ _ _ _ _ = _
      rw [pay3, row, (h1 l).1, (h1 l).2]
      rfl
    · intro p hp
      rcases List.mem_append.mp hp with hp | hp
      · obtain rfl := List.mem_singleton.mp hp
        exact piece ⟨n, by rw [trips_eq]; omega⟩ (k0_off1_inb _) _ (fun m l => (R x0 x1 a b m l).1) fun l => (h1 l).1
      · exact h2 p hp
    · intro p hp
      rcases List.mem_append.mp hp with hp | hp
      · obtain rfl := List.mem_singleton.mp hp
        exact piece ⟨n, by rw [trips_eq]; omega⟩ (k0_off1_inb _) _ (fun m l => (R x0 x1 a b m l).2) fun l => (h1 l).2
      · exact h3 p hp

theorem whole_row {s : Memref sig .tc .vmem S1x2048 .f32} (h : s.IsWhole) (x : Vec Ideal S1x2048 .f32)
    (inb : ∀ d, (![0, 0] : Fin 2 → ℕ) d + (![1, 2048] : Fin 2 → ℕ) d ≤ S1x2048.size d) :
    View.readAt (Elt Ideal) s.view (Rect.unit (s := S1x2048) ![0, 0] ![1, 2048] inb).toLoadRect (h.unread x) = x := by
  funext y
  rw [h.readAt_unread]
  refine congrArg x ?_
  funext d
  refine Fin.ext ?_
  match d with
  | ⟨0, _⟩ => show 0 + 1 * (y 0).val = (y 0).val; omega
  | ⟨1, _⟩ => show 0 + 1 * (y 1).val = (y 1).val; omega

/-- What a point leaves in the block of the real parts. -/
theorem out4 (y : S512x2048.Idx) :
    out0_A_4 (F := Ideal) c i arg1 harg1 arg2 harg2 arg3 harg3 arg4 harg4 arg5 harg5 arg6 harg6 x0 x1 a b y = (R x0 x1 a b (y 0).val (y 1)).1 := by
  have hc := cover0_A_4 c i arg1 harg1 arg2 harg2 arg3 harg3 arg4 harg4 arg5 harg5 arg6 harg6 x0 x1 a b y
  unfold out0_A_4
  refine View.read_writes_apply_of_pieces _ _ (fun y => (R x0 x1 a b (y 0).val (y 1)).1) _ ?_ y hc
  unfold kernelRun0_A
  dsimp only
  rw [whole_row, whole_row]
  exact (inv c i arg1 harg1 arg2 harg2 arg3 harg3 arg4 harg4 arg5 harg5 arg6 harg6 x0 x1 a b 512 le_rfl).2.1

/-- What a point leaves in the block of the imaginary parts. -/
theorem out5 (y : S512x2048.Idx) :
    out0_A_5 (F := Ideal) c i arg1 harg1 arg2 harg2 arg3 harg3 arg4 harg4 arg5 harg5 arg6 harg6 x0 x1 a b y = (R x0 x1 a b (y 0).val (y 1)).2 := by
  have hc := cover0_A_5 c i arg1 harg1 arg2 harg2 arg3 harg3 arg4 harg4 arg5 harg5 arg6 harg6 x0 x1 a b y
  unfold out0_A_5
  refine View.read_writes_apply_of_pieces _ _ (fun y => (R x0 x1 a b (y 0).val (y 1)).2) _ ?_ y hc
  unfold kernelRun0_A
  dsimp only
  rw [whole_row, whole_row]
  exact (inv c i arg1 harg1 arg2 harg2 arg3 harg3 arg4 harg4 arg5 harg5 arg6 harg6 x0 x1 a b 512 le_rfl).2.2

end Run

variable (m : (ℓ : Loc nD τ sig) → Buf (Elt Ideal) ℓ) (c : Dev nD)

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] :=
  (by decide +kernel : ∀ t : Fin grid0.N, win0_0.index t = ![0, t.val] ∧ win0_1.index t = ![0, t.val] ∧ win0_2.index t = ![0, t.val] ∧ win0_3.index t = ![0, t.val] ∧ win0_4.index t = ![0, t.val] ∧ win0_5.index t = ![0, t.val])

/-- A block's lane as the array's. -/
def col (t : Fin cfg0.N) (l : Fin 2048) : Fin 4096 := ⟨t.val * 2048 + l.val, by
  have : t.val < 2 := t.isLt
  omega⟩

theorem blk0 (t : Fin cfg0.N) (r : Fin 512) (l : Fin 2048) : iblk m c 0 t (ix2 r l) = m ((c : Thread nD τ).loc main_arg0) (ix2 r (col t l)) := by
  blk_ext [iblk, V, idx t, col]

theorem blk1 (t : Fin cfg0.N) (r : Fin 512) (l : Fin 2048) : iblk m c 1 t (ix2 r l) = m ((c : Thread nD τ).loc main_arg1) (ix2 r (col t l)) := by
  blk_ext [iblk, V, idx t, col]

theorem blk2 (t : Fin cfg0.N) (r : Fin 1) (l : Fin 2048) : iblk m c 2 t (ix2 r l) = m ((c : Thread nD τ).loc main_arg2) (ix2 r (col t l)) := by
  blk_ext [iblk, V, idx t, col]

theorem blk3 (t : Fin cfg0.N) (r : Fin 1) (l : Fin 2048) : iblk m c 3 t (ix2 r l) = m ((c : Thread nD τ).loc main_arg3) (ix2 r (col t l)) := by
  blk_ext [iblk, V, idx t, col]

theorem emb4 (t : Fin cfg0.N) (r : Fin 512) (l : Fin 2048) :
    ((View.whole main_v0_0).slice (win0_4.rect t)).emb (ix2 r l) = ix2 r (col t l) := by
  blk_ext [idx t, col]

theorem emb5 (t : Fin cfg0.N) (r : Fin 512) (l : Fin 2048) :
    ((View.whole main_v0_1).slice (win0_5.rect t)).emb (ix2 r l) = ix2 r (col t l) := by
  blk_ext [idx t, col]

/-- The recurrence's state before step `n` in lane `l` of the arrays. -/
def H (a0 a1 : FVec Ideal S512x4096 .f32) (a2 a3 : FVec Ideal S1x4096 .f32) (n : ℕ) (l : Fin 4096) : EReal × EReal :=
  rec (a2 (ix2 0 l)) (a3 (ix2 0 l)) (fun k => a0 (ix2 (Fin.ofNat 512 k) l)) (fun k => a1 (ix2 (Fin.ofNat 512 k) l)) n

/-- The states' real parts. -/
def G4 (a0 a1 : FVec Ideal S512x4096 .f32) (a2 a3 : FVec Ideal S1x4096 .f32) : FVec Ideal S512x4096 .f32 := fun i =>
  (H a0 a1 a2 a3 (i 0).val (i 1)).1

/-- The states' imaginary parts. -/
def G5 (a0 a1 : FVec Ideal S512x4096 .f32) (a2 a3 : FVec Ideal S1x4096 .f32) : FVec Ideal S512x4096 .f32 := fun i =>
  (H a0 a1 a2 a3 (i 0).val (i 1)).2

theorem R_H (t : Fin cfg0.N) (n : ℕ) (l : Fin 2048) :
    R (iblk m c 0 t) (iblk m c 1 t) (iblk m c 2 t) (iblk m c 3 t) n l
      = H (m ((c : Thread nD τ).loc main_arg0)) (m ((c : Thread nD τ).loc main_arg1)) (m ((c : Thread nD τ).loc main_arg2)) (m ((c : Thread nD τ).loc main_arg3)) n (col t l) := by
  unfold R H lane
  simp only [blk0, blk1, blk2, blk3]

theorem final4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  idx_vars y
  rw [emb4]
  refine (out4 _ _ _ _ _ _ _ _ _ _ _ _ _ _ _ _ _ _ _).trans ?_
  exact congrArg Prod.fst (R_H m c t _ _)

theorem final5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  idx_vars y
  rw [emb5]
  refine (out5 _ _ _ _ _ _ _ _ _ _ _ _ _ _ _ _ _ _ _).trans ?_
  exact congrArg Prod.snd (R_H m c t _ _)

end Cert.K.ScanF

end
-- ==== Proof.K.ScanFRun.lean ====
/- The reference of the forward recurrence of the S5 layers: its loop's trips, one by one. -/
module

public import proofs.«01_k».proof.Proof.Gen.ScanFRefIdeal.Run
public import proofs.«01_k».proof.Proof.Gen.ScanFRefIdeal.Step
public import Idealize.ShloMosaic.Lib.Pointwise

@[expose] public section

set_option maxRecDepth 16384

noncomputable section

namespace Cert.K.ScanFRun

open Idealize.ShloMosaic Idealize.ShloMosaic.TcCoe Idealize.SL.Sem Idealize.ShloMosaic.StableHlo
open Cert.ScanFRefIdeal Cert.ScanFRefIdeal.Gen Cert.ScanFRefIdeal.Value Cert.ScanFRefIdeal.Step

/-- The buffers hold the state `s` before trip `j`. -/
structure At (V : Valuation τ sig (Elt Ideal)) (s : State Ideal) (j : ℕ) : Prop where
  hr : V (Proc.devRef .tc main_v3_5) = s.main_v3_5
  hi : V (Proc.devRef .tc main_v3_6) = s.main_v3_6
  outr : V (Proc.devRef .tc main_v3_7) = s.main_v3_7
  outi : V (Proc.devRef .tc main_v3_8) = s.main_v3_8
  xr : V (Proc.devRef .tc main_v3_0) = s.main_v3_0
  xi : V (Proc.devRef .tc main_v3_1) = s.main_v3_1
  ar : V (Proc.devRef .tc main_v3_2) = s.main_v3_2
  ai : V (Proc.devRef .tc main_v3_3) = s.main_v3_3
  num : V (Proc.devRef .tc main_v3_4) = constantI S_ 32 (BitVec.ofNat 32 j)

/-- The state the buffers hold. -/
abbrev held (V : Valuation τ sig (Elt Ideal)) : State Ideal :=
  ⟨V (Proc.devRef .tc main_v3_5), V (Proc.devRef .tc main_v3_6), V (Proc.devRef .tc main_v3_7), V (Proc.devRef .tc main_v3_8),
    V (Proc.devRef .tc main_v3_0), V (Proc.devRef .tc main_v3_1), V (Proc.devRef .tc main_v3_2), V (Proc.devRef .tc main_v3_3)⟩

theorem held_of {V : Valuation τ sig (Elt Ideal)} {s : State Ideal} {j : ℕ} (h : At V s j) : s = held V := by
  obtain ⟨s5, s6, s7, s8, s0, s1, s2, s3⟩ := s
  obtain ⟨h5, h6, h7, h8, h0, h1, h2, h3, _⟩ := h
  unfold held
  rw [h5, h6, h7, h8, h0, h1, h2, h3]

section
variable {V : Valuation τ sig (Elt Ideal)} {j : ℕ} (h4 : V (Proc.devRef .tc main_v3_4) = constantI S_ 32 (BitVec.ofNat 32 j))
include h4

set_option maxRecDepth 8192 in
theorem next5 : Value.step_main_v3_5 V = b11 j (held V) := by
  unfold Value.step_main_v3_5 b11 b10 b9 b8 b7 b6 b2 b1 b0
  rw [h4]
  rfl

set_option maxRecDepth 8192 in
theorem next6 : Value.step_main_v3_6 V = b17 j (held V) := by
  unfold Value.step_main_v3_6 b17 b16 b15 b14 b13 b12 b5 b4 b3
  rw [h4]
  rfl

set_option maxRecDepth 8192 in
theorem next7 : Value.step_main_v3_7 V = b20 j (held V) := by
  unfold Value.step_main_v3_7 b20 b19 b18
  rw [h4]
  rfl

set_option maxRecDepth 8192 in
theorem next8 : Value.step_main_v3_8 V = b23 j (held V) := by
  unfold Value.step_main_v3_8 b23 b22 b21
  rw [h4]
  rfl

theorem next4 : step_main_v3_4 V = constantI S_ 32 (BitVec.ofNat 32 (j + 1)) := by
  unfold step_main_v3_4
  rw [h4]
  funext i
  show BitVec.ofNat 32 j + 1#32 = BitVec.ofNat 32 (j + 1)
  simp only [BitVec.ofNat_add]

end

/-- A trip takes the state to its next. -/
theorem next {V : Valuation τ sig (Elt Ideal)} {s : State Ideal} {j : ℕ} (h : At V s j) : At (STEP V) (step j s) (j + 1) := by
  have h4 := h.num
  rw [held_of h]
  exact ⟨(STEP_main_v3_5 V).trans (next5 h4), (STEP_main_v3_6 V).trans (next6 h4), (STEP_main_v3_7 V).trans (next7 h4),
    (STEP_main_v3_8 V).trans (next8 h4), STEP_main_v3_0 V, STEP_main_v3_1 V, STEP_main_v3_2 V, STEP_main_v3_3 V,
    (STEP_main_v3_4 V).trans (next4 h4)⟩

/-- The states, trip by trip, of the arguments. -/
def it (a0 a1 : FVec Ideal S512x4096 .f32) (a2 a3 : FVec Ideal S1x4096 .f32) : ℕ → State Ideal
  | 0 => init a0 a1 a2 a3
  | n + 1 => step n (it a0 a1 a2 a3 n)

variable (m : (ℓ : Loc nD τ sig) → Buf (Elt Ideal) ℓ) (ρ : Dev nD → PrngReg) (c : Dev nD)

/-- The states of the arguments' contents at launch. -/
abbrev itm (n : ℕ) : State Ideal :=
  it (m ((c.tc : Thread nD τ).loc main_arg0)) (m ((c.tc : Thread nD τ).loc main_arg1)) (m ((c.tc : Thread nD τ).loc main_arg2)) (m ((c.tc : Thread nD τ).loc main_arg3)) n

set_option maxRecDepth 65536 in
set_option maxHeartbeats 400000 in
/-- The first trip starts from the initial state. -/
theorem start : At (entryContents preI m c) (itm m c 0) 0 := by
  constructor <;> (simp only [entryContents, afterL_cons, afterL_nil]; after_reads_simp) <;> rfl

theorem before : ∀ k, At (STEP^[k] (entryContents preI m c)) (itm m c k) k
  | 0 => start m c
  | k + 1 => by
    rw [Function.iterate_succ_apply']
    exact next (before k)

/-- Every run ends with the results at the state after the last trip. -/
theorem run : θ_run (defs (F := Ideal)) (onTc (τ := τ) (main (F := Ideal))) ⟨m, fun _ => 0, ρ⟩ fun r => ∀ c : Dev nD,
      r.2.mem ((c.tc : Thread nD τ).loc main_v3_7) = (itm m c 512).main_v3_7
      ∧ r.2.mem ((c.tc : Thread nD τ).loc main_v3_8) = (itm m c 512).main_v3_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (before m c 512).outr, (h c).2.1.trans (before m c 512).outi, (h c).2.2⟩)
    (Value.run m ρ)

end Cert.K.ScanFRun

end
-- ==== Proof.K.ScanFRef.lean ====
/- The reference of the forward recurrence of the S5 layers, read. -/
module

public import proofs.«01_k».proof.Proof.K.ScanF
public import proofs.«01_k».proof.Proof.K.ScanFRun
public import Idealize.ShloMosaic.Lib.Pointwise

@[expose] public section

set_option maxRecDepth 16384

noncomputable section

namespace Cert.K.ScanF

open Idealize.ShloMosaic Idealize.ShloMosaic.TcCoe Idealize.SL.Sem Cert.ScanFRefIdeal Cert.ScanFRefIdeal.Step
open Cert.K.ScanFRun (it itm)

variable (a0 a1 : FVec Ideal S512x4096 .f32) (a2 a3 : FVec Ideal S1x4096 .f32)

theorem num_toInt (n : ℕ) (hn : n < 512) : BitVec.toInt (BitVec.ofNat 32 n) = (n : Int) := by
  rw [BitVec.toInt_eq_toNat_cond, BitVec.toNat_ofNat, Nat.mod_eq_of_lt (by omega), if_pos (by omega)]

/-- A slice of one row. -/
theorem slice_row (x : FVec Ideal S512x4096 .f32) (st : Fin 2 → Int) (n : ℕ) (hn : n < 512) (h0 : st 0 = n) (h1 : st 1 = 0)
    (h : S512x4096.Slices (fun _ => 0) S1x4096) (l : Fin 4096) :
    Host.dynamicSlice S1x4096 x st h (ix2 0 l) = x (ix2 (Fin.ofNat 512 n) l) := by
  have c0 : Host.clampedStart S512x4096 S1x4096 h.1 st 0 = n :=
    Host.clampedStart_of_le h.1 st 0 n h0 (show n + 1 ≤ 512 by omega)
  have c1 : Host.clampedStart S512x4096 S1x4096 h.1 st 1 = 0 :=
    Host.clampedStart_of_le h.1 st 1 0 h1 (show 0 + 4096 ≤ 4096 by omega)
  rw [Host.dynamicSlice_apply]
  refine congrArg x ?_
  funext a
  match a with
  | 0 =>
    apply Fin.ext
    show Host.clampedStart S512x4096 S1x4096 h.1 st 0 + 0 = n % 512
    rw [c0]; omega
  | 1 =>
    apply Fin.ext
    show Host.clampedStart S512x4096 S1x4096 h.1 st 1 + l.val = l.val
    rw [c1]; omega

/-- An update of one row. -/
theorem update_row (x : FVec Ideal S512x4096 .f32) (u : FVec Ideal S1x4096 .f32) (st : Fin 2 → Int) (n : ℕ) (hn : n < 512)
    (h0 : st 0 = n) (h1 : st 1 = 0) (h : S512x4096.Slices (fun _ => 0) S1x4096) (r : Fin 512) (l : Fin 4096) :
    Host.dynamicUpdateSlice x u st h (ix2 r l) = if r.val = n then u (ix2 0 l) else x (ix2 r l) := by
  have c0 : Host.clampedStart S512x4096 S1x4096 h.1 st 0 = n :=
    Host.clampedStart_of_le h.1 st 0 n h0 (show n + 1 ≤ 512 by omega)
  have c1 : Host.clampedStart S512x4096 S1x4096 h.1 st 1 = 0 :=
    Host.clampedStart_of_le h.1 st 1 0 h1 (show 0 + 4096 ≤ 4096 by omega)
  rw [Host.dynamicUpdateSlice_apply]
  by_cases e : r.val = n
  · rw [if_pos e, dif_pos (by
      intro a
      match a with
      | 0 =>
        show Host.clampedStart S512x4096 S1x4096 h.1 st 0 ≤ r.val ∧ r.val < Host.clampedStart S512x4096 S1x4096 h.1 st 0 + 1
        rw [c0]; omega
      | 1 =>
        show Host.clampedStart S512x4096 S1x4096 h.1 st 1 ≤ l.val ∧ l.val < Host.clampedStart S512x4096 S1x4096 h.1 st 1 + 4096
        rw [c1]; omega)]
    refine congrArg u ?_
    funext a
    match a with
    | 0 =>
      apply Fin.ext
      show r.val - Host.clampedStart S512x4096 S1x4096 h.1 st 0 = 0
      rw [c0]; omega
    | 1 =>
      apply Fin.ext
      show l.val - Host.clampedStart S512x4096 S1x4096 h.1 st 1 = l.val
      rw [c1]; omega
  · rw [if_neg e, dif_neg (by
      intro g
      have g0 : Host.clampedStart S512x4096 S1x4096 h.1 st 0 ≤ r.val ∧ r.val < Host.clampedStart S512x4096 S1x4096 h.1 st 0 + 1 := g 0
      rw [c0] at g0; omega)]

theorem b2_at (n : ℕ) (hn : n < 512) (s : State Ideal) (l : Fin 4096) : b2 n s (ix1 l) = s.main_v3_0 (ix2 (Fin.ofNat 512 n) l) := by
  refine Eq.trans (b := b1 n s (ix2 0 l)) ?_ (slice_row _ _ n hn (num_toInt n hn) rfl _ l)
  pointwise [b2]

theorem b5_at (n : ℕ) (hn : n < 512) (s : State Ideal) (l : Fin 4096) : b5 n s (ix1 l) = s.main_v3_1 (ix2 (Fin.ofNat 512 n) l) := by
  refine Eq.trans (b := b4 n s (ix2 0 l)) ?_ (slice_row _ _ n hn (num_toInt n hn) rfl _ l)
  pointwise [b5]

theorem b11_at (n : ℕ) (s : State Ideal) (l : Fin 4096) :
    b11 n s (ix1 l) = s.main_v3_2 (ix2 0 l) * s.main_v3_5 (ix1 l) - s.main_v3_3 (ix2 0 l) * s.main_v3_6 (ix1 l) + b2 n s (ix1 l) := by
  pointwise [b11, b10, b9, b8, b7, b6]

theorem b17_at (n : ℕ) (s : State Ideal) (l : Fin 4096) :
    b17 n s (ix1 l) = s.main_v3_2 (ix2 0 l) * s.main_v3_6 (ix1 l) + s.main_v3_3 (ix2 0 l) * s.main_v3_5 (ix1 l) + b5 n s (ix1 l) := by
  pointwise [b17, b16, b15, b14, b13, b12]

theorem b20_at (n : ℕ) (hn : n < 512) (s : State Ideal) (r : Fin 512) (l : Fin 4096) :
    b20 n s (ix2 r l) = if r.val = n then s.main_v3_5 (ix1 l) else s.main_v3_7 (ix2 r l) := by
  have e : b18 n s (ix2 0 l) = s.main_v3_5 (ix1 l) := by pointwise [b18]
  rw [← e]
  exact update_row _ _ _ n hn (num_toInt n hn) rfl _ r l

theorem b23_at (n : ℕ) (hn : n < 512) (s : State Ideal) (r : Fin 512) (l : Fin 4096) :
    b23 n s (ix2 r l) = if r.val = n then s.main_v3_6 (ix1 l) else s.main_v3_8 (ix2 r l) := by
  have e : b21 n s (ix2 0 l) = s.main_v3_6 (ix1 l) := by pointwise [b21]
  rw [← e]
  exact update_row _ _ _ n hn (num_toInt n hn) rfl _ r l

theorem it_args : ∀ n, (it a0 a1 a2 a3 n).main_v3_0 = a0 ∧ (it a0 a1 a2 a3 n).main_v3_1 = a1
    ∧ (it a0 a1 a2 a3 n).main_v3_2 = a2 ∧ (it a0 a1 a2 a3 n).main_v3_3 = a3
  | 0 => ⟨rfl, rfl, rfl, rfl⟩
  | n + 1 => it_args n

/-- The carried state is the recurrence's. -/
theorem it_state : ∀ n, n ≤ 512 → ∀ l : Fin 4096, (it a0 a1 a2 a3 n).main_v3_5 (ix1 l) = (H a0 a1 a2 a3 n l).1
    ∧ (it a0 a1 a2 a3 n).main_v3_6 (ix1 l) = (H a0 a1 a2 a3 n l).2
  | 0, _, l => by
    constructor
    · show K_main_v0 (F := Ideal) (ix1 l) = 0
      pointwise [K_main_v0, K_main_cst]
    · show K_main_v0 (F := Ideal) (ix1 l) = 0
      pointwise [K_main_v0, K_main_cst]
  | n + 1, hn, l => by
    obtain ⟨i5, i6⟩ := it_state n (by omega) l
    obtain ⟨e0, e1, e2, e3⟩ := it_args a0 a1 a2 a3 n
    constructor
    · show b11 n (it a0 a1 a2 a3 n) (ix1 l) = _
      rw [b11_at, b2_at n (by omega), i5, i6, e0, e2, e3]
      rfl
    · show b17 n (it a0 a1 a2 a3 n) (ix1 l) = _
      rw [b17_at, b5_at n (by omega), i5, i6, e1, e2, e3]
      rfl

/-- The rows written so far are the states. -/
theorem it_rows : ∀ n, n ≤ 512 → ∀ (r : Fin 512) (l : Fin 4096), r.val < n →
    (it a0 a1 a2 a3 n).main_v3_7 (ix2 r l) = (H a0 a1 a2 a3 r.val l).1 ∧ (it a0 a1 a2 a3 n).main_v3_8 (ix2 r l) = (H a0 a1 a2 a3 r.val l).2
  | 0, _, r, l, h => absurd h (Nat.not_lt_zero _)
  | n + 1, hn, r, l, h => by
    obtain ⟨i5, i6⟩ := it_state a0 a1 a2 a3 n (by omega) l
    constructor
    · show b20 n (it a0 a1 a2 a3 n) (ix2 r l) = _
      rw [b20_at n (by omega)]
      by_cases e : r.val = n
      · rw [if_pos e, i5, e]
      · rw [if_neg e]
        exact (it_rows n (by omega) r l (by omega)).1
    · show b23 n (it a0 a1 a2 a3 n) (ix2 r l) = _
      rw [b23_at n (by omega)]
      by_cases e : r.val = n
      · rw [if_pos e, i6, e]
      · rw [if_neg e]
        exact (it_rows n (by omega) r l (by omega)).2

theorem ref4 : (it a0 a1 a2 a3 512).main_v3_7 = G4 a0 a1 a2 a3 := by
  funext i
  idx_vars i
  exact (it_rows a0 a1 a2 a3 512 le_rfl _ _ (Fin.isLt _)).1

theorem ref5 : (it a0 a1 a2 a3 512).main_v3_8 = G5 a0 a1 a2 a3 := by
  funext i
  idx_vars i
  exact (it_rows a0 a1 a2 a3 512 le_rfl _ _ (Fin.isLt _)).2

end Cert.K.ScanF

end
-- ==== Proof.K.ScanFClaims.lean ====
/- The claims about the forward recurrence of the S5 layers, assembled. -/
module

public import proofs.«01_k».proof.Proof.K.ScanF
public import proofs.«01_k».proof.Proof.K.ScanFRef
public import proofs.«01_k».proof.Proof.K.ScanFRun
public import proofs.«01_k».proof.Proof.Gen.ScanFIdeal.Value
public import proofs.«01_k».proof.Defs
public import proofs.«01_k».proof.Proof.Gen.ScanF.Frame
public import proofs.«01_k».proof.Proof.Gen.ScanFIdeal.Frame
public import Idealize.ShloMosaic.Adequacy
public import Idealize.ShloMosaic.Init

@[expose] public section

noncomputable section

namespace Cert.K.ScanF

open Idealize.ShloMosaic Idealize.ShloMosaic.TcCoe Idealize.SL.Sem Cert.ScanFIdeal

theorem frameRef : Cert.quiescent_ScanFRefIdeal := fun m ρ _ =>
  (θ_run _ _ _).mono (fun r h => ⟨fun c => (h c).2.2, sem_eq_zero_of_no_sems (by decide) r.2⟩)
    (Cert.K.ScanFRun.run m ρ)

theorem congrG4 {a0 a0' a1 a1' : FVec Ideal S512x4096 .f32} {a2 a2' a3 a3' : FVec Ideal S1x4096 .f32} (h0 : a0 = a0') (h1 : a1 = a1')
    (h2 : a2 = a2') (h3 : a3 = a3') : G4 a0 a1 a2 a3 = G4 a0' a1' a2' a3' := by
  subst h0 h1 h2 h3; rfl

theorem congrG5 {a0 a0' a1 a1' : FVec Ideal S512x4096 .f32} {a2 a2' a3 a3' : FVec Ideal S1x4096 .f32} (h0 : a0 = a0') (h1 : a1 = a1')
    (h2 : a2 = a2') (h3 : a3 = a3') : G5 a0 a1 a2 a3 = G5 a0' a1' a2' a3' := by
  subst h0 h1 h2 h3; rfl

set_option maxHeartbeats 1000000 in
theorem alg : Cert.algebraic_ScanFIdeal_ScanFRefIdeal := by
  intro m ρ m' ρ' _ hag
  refine ⟨fun c => (Cert.ScanFIdeal.Gen.dats m 0 c).arrAt 4 _, fun c => (Cert.ScanFIdeal.Gen.dats m 0 c).arrAt 5 _,
    Cert.ScanFIdeal.Value.run_blocks m ρ, ?_⟩
  refine (θ_run _ _ _).mono (fun _ h c => ?_) (Cert.K.ScanFRun.run m' ρ')
  obtain ⟨h4, h5, ha⟩ := h c
  obtain ⟨e0, e1, e2, e3⟩ := hag c
  refine ⟨h4.trans ((ref4 _ _ _ _).trans ?_), h5.trans ((ref5 _ _ _ _).trans ?_), ha⟩
  · exact (congrG4 e0 e1 e2 e3).trans (final4 m c).symm
  · exact (congrG5 e0 e1 e2 e3).trans (final5 m c).symm

end Cert.K.ScanF

end
-- ==== Proof.K.ScanB.lean ====
/- The value of the backward recurrence of the S5 layers. -/
module

public import proofs.«01_k».proof.Proof.Gen.ScanBIdeal.Value
public import Idealize.ShloMosaic.Lib.Pipeline.ValueKit
public import Idealize.ShloMosaic.Lib.Pipeline.ValueKit.Point
public import Idealize.ShloMosaic.Lib.Pointwise
public import Idealize.ShloMosaic.Lib.WholeRead

@[expose] public section

set_option maxRecDepth 16384

noncomputable section

namespace Cert.K.ScanB

open Idealize.ShloMosaic Idealize.ShloMosaic.TcCoe Idealize.SL.Sem Cert.ScanBIdeal Cert.ScanBIdeal.Gen

/-- The backward recurrence in one lane: the cotangent of the state, real and imaginary part, before step `n`. -/
def rec (a b : EReal) (x y : ℕ → EReal) : ℕ → EReal × EReal
  | 0 => (0, 0)
  | n + 1 => (x n + (a * (rec a b x y n).1 + b * (rec a b x y n).2), y n + (a * (rec a b x y n).2 - b * (rec a b x y n).1))

/-- One lane of a block, from its last row to its first. -/
def lane (x : Vec Ideal S512x2048 .f32) (l : Fin 2048) (n : ℕ) : EReal := x (ix2 (Fin.ofNat 512 (511 - n)) l)

/-- The cotangents of a block. -/
def R (x0 x1 : Vec Ideal S512x2048 .f32) (a b : Vec Ideal S1x2048 .f32) (n : ℕ) (l : Fin 2048) : EReal × EReal :=
  rec (a (ix2 0 l)) (b (ix2 0 l)) (lane x0 l) (lane x1 l) n

/-- The multiplier's gradient up to step `n`, real part. -/
def A (x0 x1 x2 x3 : Vec Ideal S512x2048 .f32) (a b : Vec Ideal S1x2048 .f32) (n : ℕ) (l : Fin 2048) : EReal :=
  ∑ k ∈ Finset.range n, (lane x2 l k * (R x0 x1 a b k l).1 + lane x3 l k * (R x0 x1 a b k l).2)

/-- The multiplier's gradient up to step `n`, imaginary part. -/
def B (x0 x1 x2 x3 : Vec Ideal S512x2048 .f32) (a b : Vec Ideal S1x2048 .f32) (n : ℕ) (l : Fin 2048) : EReal :=
  ∑ k ∈ Finset.range n, (lane x2 l k * (R x0 x1 a b k l).2 - lane x3 l k * (R x0 x1 a b k l).1)

theorem trips_eq : k0_t1_loop.trips = 512 := by decide +kernel

theorem pay1 (l : Fin 2048) : k0_pay1 (F := Ideal) (ix2 0 l) = 0 := by
  pointwise [k0_pay1]

theorem pay2 (g h s x y : Vec Ideal S1x2048 .f32) (l : Fin 2048) :
    k0_pay2 g h s x y (ix2 0 l) = s (ix2 0 l) + (x (ix2 0 l) * g (ix2 0 l) + y (ix2 0 l) * h (ix2 0 l)) := by
  pointwise [k0_pay2]

theorem pay3 (g h s x y : Vec Ideal S1x2048 .f32) (l : Fin 2048) :
    k0_pay3 g h s x y (ix2 0 l) = s (ix2 0 l) + (x (ix2 0 l) * h (ix2 0 l) - y (ix2 0 l) * g (ix2 0 l)) := by
  pointwise [k0_pay3]

theorem pay4 (a b g h x : Vec Ideal S1x2048 .f32) (l : Fin 2048) :
    k0_pay4 a b g h x (ix2 0 l) = x (ix2 0 l) + (a (ix2 0 l) * g (ix2 0 l) + b (ix2 0 l) * h (ix2 0 l)) := by
  pointwise [k0_pay4]

theorem pay5 (a b g h x : Vec Ideal S1x2048 .f32) (l : Fin 2048) :
    k0_pay5 a b g h x (ix2 0 l) = x (ix2 0 l) + (a (ix2 0 l) * h (ix2 0 l) - b (ix2 0 l) * g (ix2 0 l)) := by
  pointwise [k0_pay5]

section Run

variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S1x2048 .f32) (harg10 : arg10.IsWhole)
variable (x0 x1 x2 x3 : Vec Ideal S512x2048 .f32) (a b : Vec Ideal S1x2048 .f32)

/-- A trip reads its row of a block. -/
theorem row {s : Memref sig .tc .vmem S512x2048 .f32} (h : s.IsWhole) (x : Vec Ideal S512x2048 .f32) (k : Fin k0_t1_loop.trips)
    (inb : ∀ d, k0_off1 k d + (![1, 2048] : Fin 2 → ℕ) d ≤ S512x2048.size d) (l : Fin 2048) :
    View.readAt (Elt Ideal) s.view (Rect.unit (s := S512x2048) (k0_off1 k) ![1, 2048] inb).toLoadRect (h.unread x) (ix2 0 l)
      = lane x l k.val := by
  rw [h.readAt_unread]
  have hk : k.val < 512 := trips_eq ▸ k.isLt
  unfold lane
  refine congrArg x ?_
  funext d
  refine Fin.ext ?_
  match d with
  | ⟨0, _⟩ =>
    show k0_off1 k 0 + 1 * 0 = (511 - k.val) % 512
    rw [k0_off1_eq, Nat.mod_eq_of_lt (by omega)]; rfl
  | ⟨1, _⟩ =>
    show k0_off1 k 1 + 1 * l.val = l.val
    rw [k0_off1_eq]; show 0 + 1 * l.val = l.val; omega

/-- Where a trip's piece lies. -/
theorem emb_row (k : Fin k0_t1_loop.trips) (inb : ∀ d, k0_off1 k d + (![1, 2048] : Fin 2 → ℕ) d ≤ S512x2048.size d) (l : Fin 2048) :
    ((Rect.unit (s := S512x2048) (k0_off1 k) ![1, 2048] inb).emb (ix2 0 l) 0).val = 511 - k.val
      ∧ (Rect.unit (s := S512x2048) (k0_off1 k) ![1, 2048] inb).emb (ix2 0 l) 1 = l := by
  constructor
  · show k0_off1 k 0 + 1 * 0 = 511 - k.val
    rw [k0_off1_eq]; rfl
  · refine Fin.ext ?_
    show k0_off1 k 1 + 1 * l.val = l.val
    rw [k0_off1_eq]; show 0 + 1 * l.val = l.val; omega

/-- A trip's piece agrees with a table of rows if the row it holds does. -/
theorem piece (k : Fin k0_t1_loop.trips) (inb : ∀ d, k0_off1 k d + (![1, 2048] : Fin 2 → ℕ) d ≤ S512x2048.size d)
    (w : Vec Ideal S1x2048 .f32) (f : ℕ → Fin 2048 → EReal) (hw : ∀ l, w (ix2 0 l) = f (511 - k.val) l)
    (x : (Rect.unit (s := S512x2048) (k0_off1 k) ![1, 2048] inb).shape.Idx) :
    w x = f ((Rect.unit (s := S512x2048) (k0_off1 k) ![1, 2048] inb).emb x 0).val ((Rect.unit (s := S512x2048) (k0_off1 k) ![1, 2048] inb).emb x 1) := by
  obtain ⟨l, rfl⟩ : ∃ l : Fin 2048, x = ix2 0 l := ⟨x 1, by
    funext d
    match d with
    | ⟨0, _⟩ => exact Subsingleton.elim (α := Fin 1) _ _
    | ⟨1, _⟩ => rfl⟩
  have hh := emb_row k inb l
  exact (hw l).trans (congrArg₂ f hh.1.symm hh.2.symm)

/-- The state of the loop before trip `n`. -/
abbrev St (n : ℕ) := st_k0_t1 (F := Ideal) Variants.none c none i arg1 harg1 arg2 harg2 arg3 harg3 arg4 harg4 arg5 harg5 arg6 harg6 arg7 harg7 arg8 harg8 arg9 harg9 arg10 harg10 a b
  (harg1.unread x0) (harg2.unread x1) (harg3.unread x2) (harg4.unread x3) (k0_pay1, k0_pay1, k0_pay1, k0_pay1) n

/-- Before trip `n` the loop carries the cotangent and the multiplier's gradient, and has written the cotangents before. -/
theorem inv : ∀ n ≤ 512,
    (∀ l, (St c i arg1 harg1 arg2 harg2 arg3 harg3 arg4 harg4 arg5 harg5 arg6 harg6 arg7 harg7 arg8 harg8 arg9 harg9 arg10 harg10 x0 x1 x2 x3 a b n).1.1 (ix2 0 l) = (R x0 x1 a b n l).1
      ∧ (St c i arg1 harg1 arg2 harg2 arg3 harg3 arg4 harg4 arg5 harg5 arg6 harg6 arg7 harg7 arg8 harg8 arg9 harg9 arg10 harg10 x0 x1 x2 x3 a b n).1.2.1 (ix2 0 l) = (R x0 x1 a b n l).2
      ∧ (St c i arg1 harg1 arg2 harg2 arg3 harg3 arg4 harg4 arg5 harg5 arg6 harg6 arg7 harg7 arg8 harg8 arg9 harg9 arg10 harg10 x0 x1 x2 x3 a b n).1.2.2.1 (ix2 0 l) = A x0 x1 x2 x3 a b n l
      ∧ (St c i arg1 harg1 arg2 harg2 arg3 harg3 arg4 harg4 arg5 harg5 arg6 harg6 arg7 harg7 arg8 harg8 arg9 harg9 arg10 harg10 x0 x1 x2 x3 a b n).1.2.2.2 (ix2 0 l) = B x0 x1 x2 x3 a b n l)
    ∧ (∀ p ∈ (St c i arg1 harg1 arg2 harg2 arg3 harg3 arg4 harg4 arg5 harg5 arg6 harg6 arg7 harg7 arg8 harg8 arg9 harg9 arg10 harg10 x0 x1 x2 x3 a b n).2.1, ∀ x : p.1.shape.Idx,
        p.2 x = (R x0 x1 a b (511 - (p.1.emb x 0).val) (p.1.emb x 1)).1)
    ∧ (∀ p ∈ (St c i arg1 harg1 arg2 harg2 arg3 harg3 arg4 harg4 arg5 harg5 arg6 harg6 arg7 harg7 arg8 harg8 arg9 harg9 arg10 harg10 x0 x1 x2 x3 a b n).2.2, ∀ x : p.1.shape.Idx,
        p.2 x = (R x0 x1 a b (511 - (p.1.emb x 0).val) (p.1.emb x 1)).2)
  | 0, _ => by
    refine ⟨fun l => ⟨?_, ?_, ?_, ?_⟩, ?_, ?_⟩
    · exact pay1 l
    · exact pay1 l
    · exact (pay1 l).trans (Finset.sum_range_zero _).symm
    · exact (pay1 l).trans (Finset.sum_range_zero _).symm
    · intro p hp; exact absurd hp List.not_mem_nil
    · intro p hp; exact absurd hp List.not_mem_nil
  | n + 1, hn => by
    obtain ⟨h1, h2, h3⟩ := inv n (by omega)
    have hs : 511 - (511 - n) = n := by omega
    have e := st_k0_t1_succ (F := Ideal) Variants.none c none i arg1 harg1 arg2 harg2 arg3 harg3 arg4 harg4 arg5 harg5 arg6 harg6 arg7 harg7 arg8 harg8 arg9 harg9 arg10 harg10 a b
      (harg1.unread x0) (harg2.unread x1) (harg3.unread x2) (harg4.unread x3) (k0_pay1, k0_pay1, k0_pay1, k0_pay1) ⟨n, by rw [trips_eq]; omega⟩
    unfold tripR_k0_t1 tripL_k0_t1 trip_k0_t1 at e
    dsimp only at e
    unfold St at h1 h2 h3 ⊢
    rw [e]
    refine ⟨fun l => ⟨?_, ?_, ?_, ?_⟩, ?_, ?_⟩
    · show k0_pay4 _ _ _ _ _ _ = _
      rw [pay4, row, (h1 l).1, (h1 l).2.1]
      rfl
    · show k0_pay5 _ _ _ _ _ _ = _
      rw [pay5, row, (h1 l).1, (h1 l).2.1]
      rfl
    · show k0_pay2 _ _ _ _ _ _ = _
      rw [pay2, row, row, (h1 l).1, (h1 l).2.1, (h1 l).2.2.1]
      exact (Finset.sum_range_succ _ _).symm
    · show k0_pay3 _ _ _ _ _ _ = _
      rw [pay3, row, row, (h1 l).1, (h1 l).2.1, (h1 l).2.2.2]
      exact (Finset.sum_range_succ _ _).symm
    · intro p hp
      rcases List.mem_append.mp hp with hp | hp
      · obtain rfl := List.mem_singleton.mp hp
        exact piece ⟨n, by rw [trips_eq]; omega⟩ (k0_off1_inb _) _ (fun m l => (R x0 x1 a b (511 - m) l).1) fun l => (h1 l).1.trans (by
          show _ = (R x0 x1 a b (511 - (511 - n)) l).1
          rw [hs])
      · exact h2 p hp
    · intro p hp
      rcases List.mem_append.mp hp with hp | hp
      · obtain rfl := List.mem_singleton.mp hp
        exact piece ⟨n, by rw [trips_eq]; omega⟩ (k0_off1_inb _) _ (fun m l => (R x0 x1 a b (511 - m) l).2) fun l => (h1 l).2.1.trans (by
          show _ = (R x0 x1 a b (511 - (511 - n)) l).2
          rw [hs])
      · exact h3 p hp

theorem whole_row {s : Memref sig .tc .vmem S1x2048 .f32} (h : s.IsWhole) (x : Vec Ideal S1x2048 .f32)
    (inb : ∀ d, (![0, 0] : Fin 2 → ℕ) d + (![1, 2048] : Fin 2 → ℕ) d ≤ S1x2048.size d) :
    View.readAt (Elt Ideal) s.view (Rect.unit (s := S1x2048) ![0, 0] ![1, 2048] inb).toLoadRect (h.unread x) = x := by
  funext y
  rw [h.readAt_unread]
  refine congrArg x ?_
  funext d
  refine Fin.ext ?_
  match d with
  | ⟨0, _⟩ => show 0 + 1 * (y 0).val = (y 0).val; omega
  | ⟨1, _⟩ => show 0 + 1 * (y 1).val = (y 1).val; omega

/-- What a point leaves in the block of the inputs' gradient, real parts. -/
theorem out6 (y : S512x2048.Idx) :
    out0_A_6 (F := Ideal) c i arg1 harg1 arg2 harg2 arg3 harg3 arg4 harg4 arg5 harg5 arg6 harg6 arg7 harg7 arg8 harg8 arg9 harg9 arg10 harg10 x0 x1 x2 x3 a b y = (R x0 x1 a b (511 - (y 0).val) (y 1)).1 := by
  have hc := cover0_A_6 c i arg1 harg1 arg2 harg2 arg3 harg3 arg4 harg4 arg5 harg5 arg6 harg6 arg7 harg7 arg8 harg8 arg9 harg9 arg10 harg10 x0 x1 x2 x3 a b y
  unfold out0_A_6
  refine View.read_writes_apply_of_pieces _ _ (fun y => (R x0 x1 a b (511 - (y 0).val) (y 1)).1) _ ?_ y hc
  unfold kernelRun0_A
  dsimp only
  rw [whole_row, whole_row]
  exact (inv c i arg1 harg1 arg2 harg2 arg3 harg3 arg4 harg4 arg5 harg5 arg6 harg6 arg7 harg7 arg8 harg8 arg9 harg9 arg10 harg10 x0 x1 x2 x3 a b 512 le_rfl).2.1

/-- What a point leaves in the block of the inputs' gradient, imaginary parts. -/
theorem out7 (y : S512x2048.Idx) :
    out0_A_7 (F := Ideal) c i arg1 harg1 arg2 harg2 arg3 harg3 arg4 harg4 arg5 harg5 arg6 harg6 arg7 harg7 arg8 harg8 arg9 harg9 arg10 harg10 x0 x1 x2 x3 a b y = (R x0 x1 a b (511 - (y 0).val) (y 1)).2 := by
  have hc := cover0_A_7 c i arg1 harg1 arg2 harg2 arg3 harg3 arg4 harg4 arg5 harg5 arg6 harg6 arg7 harg7 arg8 harg8 arg9 harg9 arg10 harg10 x0 x1 x2 x3 a b y
  unfold out0_A_7
  refine View.read_writes_apply_of_pieces _ _ (fun y => (R x0 x1 a b (511 - (y 0).val) (y 1)).2) _ ?_ y hc
  unfold kernelRun0_A
  dsimp only
  rw [whole_row, whole_row]
  exact (inv c i arg1 harg1 arg2 harg2 arg3 harg3 arg4 harg4 arg5 harg5 arg6 harg6 arg7 harg7 arg8 harg8 arg9 harg9 arg10 harg10 x0 x1 x2 x3 a b 512 le_rfl).2.2

/-- What a point leaves in the block of the multiplier's gradient, real part. -/
theorem out8 (y : S1x2048.Idx) :
    out0_A_8 (F := Ideal) c i arg1 harg1 arg2 harg2 arg3 harg3 arg4 harg4 arg5 harg5 arg6 harg6 arg7 harg7 arg8 harg8 arg9 harg9 arg10 harg10 x0 x1 x2 x3 a b y = A x0 x1 x2 x3 a b 512 (y 1) := by
  have hc := cover0_A_8 c i arg1 harg1 arg2 harg2 arg3 harg3 arg4 harg4 arg5 harg5 arg6 harg6 arg7 harg7 arg8 harg8 arg9 harg9 arg10 harg10 x0 x1 x2 x3 a b y
  unfold out0_A_8
  refine View.read_writes_apply_of_pieces _ _ (fun y => A x0 x1 x2 x3 a b 512 (y 1)) _ ?_ y hc
  unfold kernelRun0_A
  dsimp only
  rw [whole_row, whole_row]
  intro p hp x
  obtain rfl := List.mem_singleton.mp hp
  obtain ⟨l, rfl⟩ : ∃ l : Fin 2048, x = ix2 0 l := ⟨x 1, by
    funext d
    match d with
    | ⟨0, _⟩ => exact Subsingleton.elim (α := Fin 1) _ _
    | ⟨1, _⟩ => rfl⟩
  refine ((inv c i arg1 harg1 arg2 harg2 arg3 harg3 arg4 harg4 arg5 harg5 arg6 harg6 arg7 harg7 arg8 harg8 arg9 harg9 arg10 harg10 x0 x1 x2 x3 a b 512 le_rfl).1 l).2.2.1.trans (congrArg (A x0 x1 x2 x3 a b 512) (Fin.ext ?_))
  show l.val = 0 + 1 * l.val
  omega

/-- What a point leaves in the block of the multiplier's gradient, imaginary part. -/
theorem out9 (y : S1x2048.Idx) :
    out0_A_9 (F := Ideal) c i arg1 harg1 arg2 harg2 arg3 harg3 arg4 harg4 arg5 harg5 arg6 harg6 arg7 harg7 arg8 harg8 arg9 harg9 arg10 harg10 x0 x1 x2 x3 a b y = B x0 x1 x2 x3 a b 512 (y 1) := by
  have hc := cover0_A_9 c i arg1 harg1 arg2 harg2 arg3 harg3 arg4 harg4 arg5 harg5 arg6 harg6 arg7 harg7 arg8 harg8 arg9 harg9 arg10 harg10 x0 x1 x2 x3 a b y
  unfold out0_A_9
  refine View.read_writes_apply_of_pieces _ _ (fun y => B x0 x1 x2 x3 a b 512 (y 1)) _ ?_ y hc
  unfold kernelRun0_A
  dsimp only
  rw [whole_row, whole_row]
  intro p hp x
  obtain rfl := List.mem_singleton.mp hp
  obtain ⟨l, rfl⟩ : ∃ l : Fin 2048, x = ix2 0 l := ⟨x 1, by
    funext d
    match d with
    | ⟨0, _⟩ => exact Subsingleton.elim (α := Fin 1) _ _
    | ⟨1, _⟩ => rfl⟩
  refine ((inv c i arg1 harg1 arg2 harg2 arg3 harg3 arg4 harg4 arg5 harg5 arg6 harg6 arg7 harg7 arg8 harg8 arg9 harg9 arg10 harg10 x0 x1 x2 x3 a b 512 le_rfl).1 l).2.2.2.trans (congrArg (B x0 x1 x2 x3 a b 512) (Fin.ext ?_))
  show l.val = 0 + 1 * l.val
  omega

end Run

variable (m : (ℓ : Loc nD τ sig) → Buf (Elt Ideal) ℓ) (c : Dev nD)

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ win0_9.index t = ![0, t.val] :=
  (by decide +kernel : ∀ t : Fin grid0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ win0_8.index t = ![0, t.val] ∧ win0_9.index t = ![0, t.val])

/-- A block's lane as the array's. -/
def col (t : Fin cfg0.N) (l : Fin 2048) : Fin 4096 := ⟨t.val * 2048 + l.val, by
  have : t.val < 2 := t.isLt
  omega⟩

theorem blk0 (t : Fin cfg0.N) (r : Fin 512) (l : Fin 2048) : iblk m c 0 t (ix2 r l) = m ((c : Thread nD τ).loc main_arg0) (ix2 r (col t l)) := by
  blk_ext [iblk, V, idx t, col]

theorem blk1 (t : Fin cfg0.N) (r : Fin 512) (l : Fin 2048) : iblk m c 1 t (ix2 r l) = m ((c : Thread nD τ).loc main_arg1) (ix2 r (col t l)) := by
  blk_ext [iblk, V, idx t, col]

theorem blk2 (t : Fin cfg0.N) (r : Fin 512) (l : Fin 2048) : iblk m c 2 t (ix2 r l) = m ((c : Thread nD τ).loc main_arg2) (ix2 r (col t l)) := by
  blk_ext [iblk, V, idx t, col]

theorem blk3 (t : Fin cfg0.N) (r : Fin 512) (l : Fin 2048) : iblk m c 3 t (ix2 r l) = m ((c : Thread nD τ).loc main_arg3) (ix2 r (col t l)) := by
  blk_ext [iblk, V, idx t, col]

theorem blk4 (t : Fin cfg0.N) (r : Fin 1) (l : Fin 2048) : iblk m c 4 t (ix2 r l) = m ((c : Thread nD τ).loc main_arg4) (ix2 r (col t l)) := by
  blk_ext [iblk, V, idx t, col]

theorem blk5 (t : Fin cfg0.N) (r : Fin 1) (l : Fin 2048) : iblk m c 5 t (ix2 r l) = m ((c : Thread nD τ).loc main_arg5) (ix2 r (col t l)) := by
  blk_ext [iblk, V, idx t, col]

theorem emb6 (t : Fin cfg0.N) (r : Fin 512) (l : Fin 2048) :
    ((View.whole main_v0_0).slice (win0_6.rect t)).emb (ix2 r l) = ix2 r (col t l) := by
  blk_ext [idx t, col]

theorem emb7 (t : Fin cfg0.N) (r : Fin 512) (l : Fin 2048) :
    ((View.whole main_v0_1).slice (win0_7.rect t)).emb (ix2 r l) = ix2 r (col t l) := by
  blk_ext [idx t, col]

theorem emb8 (t : Fin cfg0.N) (r : Fin 1) (l : Fin 2048) :
    ((View.whole main_v0_2).slice (win0_8.rect t)).emb (ix2 r l) = ix2 r (col t l) := by
  blk_ext [idx t, col]

theorem emb9 (t : Fin cfg0.N) (r : Fin 1) (l : Fin 2048) :
    ((View.whole main_v0_3).slice (win0_9.rect t)).emb (ix2 r l) = ix2 r (col t l) := by
  blk_ext [idx t, col]

/-- A lane of an array, from its last row to its first. -/
def laneH (x : FVec Ideal S512x4096 .f32) (l : Fin 4096) (n : ℕ) : EReal := x (ix2 (Fin.ofNat 512 (511 - n)) l)

/-- The cotangent before step `n` in lane `l` of the arrays. -/
def H (a0 a1 : FVec Ideal S512x4096 .f32) (a4 a5 : FVec Ideal S1x4096 .f32) (n : ℕ) (l : Fin 4096) : EReal × EReal :=
  rec (a4 (ix2 0 l)) (a5 (ix2 0 l)) (laneH a0 l) (laneH a1 l) n

/-- The gradient of the inputs' real parts. -/
def G6 (a0 a1 : FVec Ideal S512x4096 .f32) (a4 a5 : FVec Ideal S1x4096 .f32) : FVec Ideal S512x4096 .f32 := fun i =>
  (H a0 a1 a4 a5 (511 - (i 0).val) (i 1)).1

/-- The gradient of the inputs' imaginary parts. -/
def G7 (a0 a1 : FVec Ideal S512x4096 .f32) (a4 a5 : FVec Ideal S1x4096 .f32) : FVec Ideal S512x4096 .f32 := fun i =>
  (H a0 a1 a4 a5 (511 - (i 0).val) (i 1)).2

/-- The gradient of the multiplier's real part. -/
def G8 (a0 a1 a2 a3 : FVec Ideal S512x4096 .f32) (a4 a5 : FVec Ideal S1x4096 .f32) : FVec Ideal S1x4096 .f32 := fun i =>
  ∑ k ∈ Finset.range 512, (laneH a2 (i 1) k * (H a0 a1 a4 a5 k (i 1)).1 + laneH a3 (i 1) k * (H a0 a1 a4 a5 k (i 1)).2)

/-- The gradient of the multiplier's imaginary part. -/
def G9 (a0 a1 a2 a3 : FVec Ideal S512x4096 .f32) (a4 a5 : FVec Ideal S1x4096 .f32) : FVec Ideal S1x4096 .f32 := fun i =>
  ∑ k ∈ Finset.range 512, (laneH a2 (i 1) k * (H a0 a1 a4 a5 k (i 1)).2 - laneH a3 (i 1) k * (H a0 a1 a4 a5 k (i 1)).1)

theorem lane_H (t : Fin cfg0.N) (l : Fin 2048) (n : ℕ) : lane (iblk m c 2 t) l n = laneH (m ((c : Thread nD τ).loc main_arg2)) (col t l) n
    ∧ lane (iblk m c 3 t) l n = laneH (m ((c : Thread nD τ).loc main_arg3)) (col t l) n := by
  unfold lane laneH
  exact ⟨blk2 m c t _ l, blk3 m c t _ l⟩

theorem R_H (t : Fin cfg0.N) (n : ℕ) (l : Fin 2048) :
    R (iblk m c 0 t) (iblk m c 1 t) (iblk m c 4 t) (iblk m c 5 t) n l
      = H (m ((c : Thread nD τ).loc main_arg0)) (m ((c : Thread nD τ).loc main_arg1)) (m ((c : Thread nD τ).loc main_arg4)) (m ((c : Thread nD τ).loc main_arg5)) n (col t l) := by
  unfold R H lane laneH
  simp only [blk0, blk1, blk4, blk5]

theorem final6 : (dats m 0 c).arrAt 6 cfg0.N = G6 (m ((c : Thread nD τ).loc main_arg0)) (m ((c : Thread nD τ).loc main_arg1)) (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  idx_vars y
  rw [emb6]
  refine (out6 _ _ _ _ _ _ _ _ _ _ _ _ _ _ _ _ _ _ _ _ _ _ _ _ _ _ _ _ _).trans ?_
  exact congrArg Prod.fst (R_H m c t _ _)

theorem final7 : (dats m 0 c).arrAt 7 cfg0.N = G7 (m ((c : Thread nD τ).loc main_arg0)) (m ((c : Thread nD τ).loc main_arg1)) (m ((c : Thread nD τ).loc main_arg4)) (m ((c : Thread nD τ).loc main_arg5)) := by
  refine (dats m 0 c).arrAt_eq_of_covers 7 _ (by decide +kernel) fun t hf y => ?_
  blk_simp
  rw [after0_7]
  unfold outsAt0
  idx_vars y
  rw [emb7]
  refine (out7 _ _ _ _ _ _ _ _ _ _ _ _ _ _ _ _ _ _ _ _ _ _ _ _ _ _ _ _ _).trans ?_
  exact congrArg Prod.snd (R_H m c t _ _)

theorem A_G (t : Fin cfg0.N) (r : Fin 1) (l : Fin 2048) :
    A (iblk m c 0 t) (iblk m c 1 t) (iblk m c 2 t) (iblk m c 3 t) (iblk m c 4 t) (iblk m c 5 t) 512 l = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r (col t l)) := by
  unfold A G8
  refine Finset.sum_congr rfl fun k _ => ?_
  rw [(lane_H m c t l k).1, (lane_H m c t l k).2, R_H]
  rfl

theorem final8 : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  unfold outsAt0
  idx_vars y
  rw [emb8]
  refine (out8 _ _ _ _ _ _ _ _ _ _ _ _ _ _ _ _ _ _ _ _ _ _ _ _ _ _ _ _ _).trans ?_
  exact A_G m c t _ _

theorem B_G (t : Fin cfg0.N) (r : Fin 1) (l : Fin 2048) :
    B (iblk m c 0 t) (iblk m c 1 t) (iblk m c 2 t) (iblk m c 3 t) (iblk m c 4 t) (iblk m c 5 t) 512 l = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r (col t l)) := by
  unfold B G9
  refine Finset.sum_congr rfl fun k _ => ?_
  rw [(lane_H m c t l k).1, (lane_H m c t l k).2, R_H]
  rfl

theorem final9 : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  unfold outsAt0
  idx_vars y
  rw [emb9]
  refine (out9 _ _ _ _ _ _ _ _ _ _ _ _ _ _ _ _ _ _ _ _ _ _ _ _ _ _ _ _ _).trans ?_
  exact B_G m c t _ _

end Cert.K.ScanB

end
-- ==== Proof.K.ScanBRun.lean ====
/- The reference of the backward recurrence of the S5 layers: its loop's trips, one by one. -/
module

public import proofs.«01_k».proof.Proof.Gen.ScanBRefIdeal.Run
public import proofs.«01_k».proof.Proof.Gen.ScanBRefIdeal.Step
public import Idealize.ShloMosaic.Lib.Pointwise

@[expose] public section

set_option maxRecDepth 16384

noncomputable section

namespace Cert.K.ScanBRun

open Idealize.ShloMosaic Idealize.ShloMosaic.TcCoe Idealize.SL.Sem Idealize.ShloMosaic.StableHlo
open Cert.ScanBRefIdeal Cert.ScanBRefIdeal.Gen Cert.ScanBRefIdeal.Value Cert.ScanBRefIdeal.Step

/-- The buffers hold the state `s` before trip `j`. -/
structure At (V : Valuation τ sig (Elt Ideal)) (s : State Ideal) (j : ℕ) : Prop where
  gr : V (Proc.devRef .tc main_v9_7) = s.main_v9_7
  gi : V (Proc.devRef .tc main_v9_8) = s.main_v9_8
  outr : V (Proc.devRef .tc main_v9_9) = s.main_v9_9
  outi : V (Proc.devRef .tc main_v9_10) = s.main_v9_10
  xr : V (Proc.devRef .tc main_v9_0) = s.main_v9_0
  xi : V (Proc.devRef .tc main_v9_1) = s.main_v9_1
  ar : V (Proc.devRef .tc main_v9_2) = s.main_v9_2
  ai : V (Proc.devRef .tc main_v9_3) = s.main_v9_3
  ar2 : V (Proc.devRef .tc main_v9_4) = s.main_v9_4
  ai2 : V (Proc.devRef .tc main_v9_5) = s.main_v9_5
  num : V (Proc.devRef .tc main_v9_6) = constantI S_ 32 (BitVec.ofNat 32 j)

/-- The state the buffers hold. -/
abbrev held (V : Valuation τ sig (Elt Ideal)) : State Ideal :=
  ⟨V (Proc.devRef .tc main_v9_7), V (Proc.devRef .tc main_v9_8), V (Proc.devRef .tc main_v9_9), V (Proc.devRef .tc main_v9_10), V (Proc.devRef .tc main_v9_0), V (Proc.devRef .tc main_v9_1), V (Proc.devRef .tc main_v9_2), V (Proc.devRef .tc main_v9_3), V (Proc.devRef .tc main_v9_4), V (Proc.devRef .tc main_v9_5)⟩

theorem held_of {V : Valuation τ sig (Elt Ideal)} {s : State Ideal} {j : ℕ} (h : At V s j) : s = held V := by
  obtain ⟨s7, s8, s9, s10, s0, s1, s2, s3, s4, s5⟩ := s
  obtain ⟨h7, h8, h9, h10, h0, h1, h2, h3, h4, h5, _⟩ := h
  unfold held
  rw [h7, h8, h9, h10, h0, h1, h2, h3, h4, h5]

section
variable {V : Valuation τ sig (Elt Ideal)} {j : ℕ} (h6 : V (Proc.devRef .tc main_v9_6) = constantI S_ 32 (BitVec.ofNat 32 j))
include h6

set_option maxRecDepth 8192 in
theorem next7 : Value.step_main_v9_7 V = b18 j (held V) := by
  unfold Value.step_main_v9_7 res_main_while0b_v36 b18 b17 b11 b10 b6 b5 b4 b3 b2 b1 b0
  rw [h6]
  rfl

set_option maxRecDepth 8192 in
theorem next8 : Value.step_main_v9_8 V = b16 j (held V) := by
  unfold Value.step_main_v9_8 res_main_while0b_v36 b16 b15 b14 b13 b12 b9 b8 b7 b3 b2 b1 b0
  rw [h6]
  rfl

set_option maxRecDepth 8192 in
theorem next9 : Value.step_main_v9_9 V = b21 j (held V) := by
  unfold Value.step_main_v9_9 res_main_while0b_v36 b21 b20 b19 b3 b2 b1 b0
  rw [h6]
  rfl

set_option maxRecDepth 8192 in
theorem next10 : Value.step_main_v9_10 V = b24 j (held V) := by
  unfold Value.step_main_v9_10 res_main_while0b_v36 b24 b23 b22 b3 b2 b1 b0
  rw [h6]
  rfl

theorem next6 : step_main_v9_6 V = constantI S_ 32 (BitVec.ofNat 32 (j + 1)) := by
  unfold step_main_v9_6
  rw [h6]
  funext i
  show BitVec.ofNat 32 j + 1#32 = BitVec.ofNat 32 (j + 1)
  simp only [BitVec.ofNat_add]

end

set_option maxHeartbeats 2000000 in
/-- A trip takes the state to its next. -/
theorem next {V : Valuation τ sig (Elt Ideal)} {s : State Ideal} {j : ℕ} (h : At V s j) : At (STEP V) (step j s) (j + 1) := by
  have h6 := h.num
  rw [held_of h]
  exact ⟨(STEP_main_v9_7 V).trans (next7 h6), (STEP_main_v9_8 V).trans (next8 h6), (STEP_main_v9_9 V).trans (next9 h6),
    (STEP_main_v9_10 V).trans (next10 h6), STEP_main_v9_0 V, STEP_main_v9_1 V, STEP_main_v9_2 V, STEP_main_v9_3 V, STEP_main_v9_4 V,
    STEP_main_v9_5 V, (STEP_main_v9_6 V).trans (next6 h6)⟩

/-- The states, trip by trip, of the arguments. -/
def it (a0 a1 : FVec Ideal S512x4096 .f32) (a4 a5 : FVec Ideal S1x4096 .f32) : ℕ → State Ideal
  | 0 => init a0 a1 a4 a5
  | n + 1 => step n (it a0 a1 a4 a5 n)

variable (m : (ℓ : Loc nD τ sig) → Buf (Elt Ideal) ℓ) (ρ : Dev nD → PrngReg) (c : Dev nD)

/-- The states of the arguments' contents at launch. -/
abbrev itm (n : ℕ) : State Ideal :=
  it (m ((c.tc : Thread nD τ).loc main_arg0)) (m ((c.tc : Thread nD τ).loc main_arg1)) (m ((c.tc : Thread nD τ).loc main_arg4)) (m ((c.tc : Thread nD τ).loc main_arg5)) n

set_option maxRecDepth 65536 in
set_option maxHeartbeats 400000 in
/-- The first trip starts from the initial state. -/
theorem start : At (entryContents preI m c) (itm m c 0) 0 := by
  constructor <;> (simp only [entryContents, afterL_cons, afterL_nil]; after_reads_simp) <;> rfl

theorem before : ∀ k, At (STEP^[k] (entryContents preI m c)) (itm m c k) k
  | 0 => start m c
  | k + 1 => by
    rw [Function.iterate_succ_apply']
    exact next (before k)

set_option maxRecDepth 8192 in
/-- The multiplier's gradient, real part, of the buffers after the last trip. -/
theorem out34 : out_main_v34 (STEP^[512] (entryContents preI m c))
    = R_main_v34 (itm m c 512) (m ((c.tc : Thread nD τ).loc main_arg2)) (m ((c.tc : Thread nD τ).loc main_arg3)) := by
  unfold out_main_v34 R_main_v34
  rw [(before m c 512).outr, (before m c 512).outi, iter_main_arg2, iter_main_arg3]
  rfl

set_option maxRecDepth 8192 in
/-- The multiplier's gradient, imaginary part, of the buffers after the last trip. -/
theorem out30 : out_main_v30 (STEP^[512] (entryContents preI m c))
    = R_main_v30 (itm m c 512) (m ((c.tc : Thread nD τ).loc main_arg2)) (m ((c.tc : Thread nD τ).loc main_arg3)) := by
  unfold out_main_v30 R_main_v30
  rw [(before m c 512).outr, (before m c 512).outi, iter_main_arg2, iter_main_arg3]
  rfl

/-- Every run ends with the results at the state after the last trip, and what the operations after the loop make of it. -/
theorem run : θ_run (defs (F := Ideal)) (onTc (τ := τ) (main (F := Ideal))) ⟨m, fun _ => 0, ρ⟩ fun r => ∀ c : Dev nD,
      r.2.mem ((c.tc : Thread nD τ).loc main_v9_9) = (itm m c 512).main_v9_9
      ∧ r.2.mem ((c.tc : Thread nD τ).loc main_v9_10) = (itm m c 512).main_v9_10
      ∧ r.2.mem ((c.tc : Thread nD τ).loc main_v34)
        = R_main_v34 (itm m c 512) (m ((c.tc : Thread nD τ).loc main_arg2)) (m ((c.tc : Thread nD τ).loc main_arg3))
      ∧ r.2.mem ((c.tc : Thread nD τ).loc main_v30)
        = R_main_v30 (itm m c 512) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (before m c 512).outr, (h c).2.1.trans (before m c 512).outi,
    (h c).2.2.1.trans (out34 m c), (h c).2.2.2.1.trans (out30 m c), (h c).2.2.2.2⟩)
    (Value.run m ρ)

end Cert.K.ScanBRun

end
-- ==== Proof.K.ScanBRef.lean ====
/- The reference of the backward recurrence of the S5 layers, read. -/
module

public import proofs.«01_k».proof.Proof.K.ScanB
public import proofs.«01_k».proof.Proof.K.ScanBRun
public import Idealize.ShloMosaic.Lib.Pointwise

@[expose] public section

set_option maxRecDepth 16384

noncomputable section

namespace Cert.K.ScanB

open Idealize.ShloMosaic Idealize.ShloMosaic.TcCoe Idealize.SL.Sem Cert.ScanBRefIdeal Cert.ScanBRefIdeal.Step
open Cert.K.ScanBRun (it itm)

variable (a0 a1 : FVec Ideal S512x4096 .f32) (a4 a5 : FVec Ideal S1x4096 .f32)

/-- The row a trip works on, counted from the last. -/
theorem num_toInt (n : ℕ) (hn : n < 512) (s : State Ideal) : BitVec.toInt (b3 n s (Shape.Idx.first Gen.h_S_)) = ((511 - n : ℕ) : Int) := by
  have e : b3 n s (Shape.Idx.first Gen.h_S_) = BitVec.ofNat 32 (511 - n) := by
    show (512#32 - BitVec.ofNat 32 n) - 1#32 = _
    apply BitVec.eq_of_toNat_eq
    simp only [BitVec.toNat_sub, BitVec.toNat_ofNat]
    omega
  rw [e, BitVec.toInt_eq_toNat_cond, BitVec.toNat_ofNat, Nat.mod_eq_of_lt (by omega), if_pos (by omega)]

/-- A slice of one row. -/
theorem slice_row (x : FVec Ideal S512x4096 .f32) (st : Fin 2 → Int) (n : ℕ) (hn : n < 512) (h0 : st 0 = n) (h1 : st 1 = 0)
    (h : S512x4096.Slices (fun _ => 0) S1x4096) (l : Fin 4096) :
    Host.dynamicSlice S1x4096 x st h (ix2 0 l) = x (ix2 (Fin.ofNat 512 n) l) := by
  have c0 : Host.clampedStart S512x4096 S1x4096 h.1 st 0 = n :=
    Host.clampedStart_of_le h.1 st 0 n h0 (show n + 1 ≤ 512 by omega)
  have c1 : Host.clampedStart S512x4096 S1x4096 h.1 st 1 = 0 :=
    Host.clampedStart_of_le h.1 st 1 0 h1 (show 0 + 4096 ≤ 4096 by omega)
  rw [Host.dynamicSlice_apply]
  refine congrArg x ?_
  funext a
  match a with
  | 0 =>
    apply Fin.ext
    show Host.clampedStart S512x4096 S1x4096 h.1 st 0 + 0 = n % 512
    rw [c0]; omega
  | 1 =>
    apply Fin.ext
    show Host.clampedStart S512x4096 S1x4096 h.1 st 1 + l.val = l.val
    rw [c1]; omega

/-- An update of one row. -/
theorem update_row (x : FVec Ideal S512x4096 .f32) (u : FVec Ideal S1x4096 .f32) (st : Fin 2 → Int) (n : ℕ) (hn : n < 512)
    (h0 : st 0 = n) (h1 : st 1 = 0) (h : S512x4096.Slices (fun _ => 0) S1x4096) (r : Fin 512) (l : Fin 4096) :
    Host.dynamicUpdateSlice x u st h (ix2 r l) = if r.val = n then u (ix2 0 l) else x (ix2 r l) := by
  have c0 : Host.clampedStart S512x4096 S1x4096 h.1 st 0 = n :=
    Host.clampedStart_of_le h.1 st 0 n h0 (show n + 1 ≤ 512 by omega)
  have c1 : Host.clampedStart S512x4096 S1x4096 h.1 st 1 = 0 :=
    Host.clampedStart_of_le h.1 st 1 0 h1 (show 0 + 4096 ≤ 4096 by omega)
  rw [Host.dynamicUpdateSlice_apply]
  by_cases e : r.val = n
  · rw [if_pos e, dif_pos (by
      intro a
      match a with
      | 0 =>
        show Host.clampedStart S512x4096 S1x4096 h.1 st 0 ≤ r.val ∧ r.val < Host.clampedStart S512x4096 S1x4096 h.1 st 0 + 1
        rw [c0]; omega
      | 1 =>
        show Host.clampedStart S512x4096 S1x4096 h.1 st 1 ≤ l.val ∧ l.val < Host.clampedStart S512x4096 S1x4096 h.1 st 1 + 4096
        rw [c1]; omega)]
    refine congrArg u ?_
    funext a
    match a with
    | 0 =>
      apply Fin.ext
      show r.val - Host.clampedStart S512x4096 S1x4096 h.1 st 0 = 0
      rw [c0]; omega
    | 1 =>
      apply Fin.ext
      show l.val - Host.clampedStart S512x4096 S1x4096 h.1 st 1 = l.val
      rw [c1]; omega
  · rw [if_neg e, dif_neg (by
      intro g
      have g0 : Host.clampedStart S512x4096 S1x4096 h.1 st 0 ≤ r.val ∧ r.val < Host.clampedStart S512x4096 S1x4096 h.1 st 0 + 1 := g 0
      rw [c0] at g0; omega)]

theorem b6_at (n : ℕ) (hn : n < 512) (s : State Ideal) (l : Fin 4096) : b6 n s (ix1 l) = s.main_v9_0 (ix2 (Fin.ofNat 512 (511 - n)) l) := by
  refine Eq.trans (b := b5 n s (ix2 0 l)) ?_ (slice_row _ _ (511 - n) (by omega) (num_toInt n hn s) rfl _ l)
  pointwise [b6]

theorem b9_at (n : ℕ) (hn : n < 512) (s : State Ideal) (l : Fin 4096) : b9 n s (ix1 l) = s.main_v9_1 (ix2 (Fin.ofNat 512 (511 - n)) l) := by
  refine Eq.trans (b := b8 n s (ix2 0 l)) ?_ (slice_row _ _ (511 - n) (by omega) (num_toInt n hn s) rfl _ l)
  pointwise [b9]

theorem b18_at (n : ℕ) (s : State Ideal) (l : Fin 4096) :
    b18 n s (ix1 l) = b6 n s (ix1 l) + s.main_v9_5 (ix1 l) * s.main_v9_8 (ix1 l) + s.main_v9_2 (ix1 l) * s.main_v9_7 (ix1 l) := by
  pointwise [b18, b17, b11, b10]

theorem b16_at (n : ℕ) (s : State Ideal) (l : Fin 4096) :
    b16 n s (ix1 l) = b9 n s (ix1 l) + s.main_v9_4 (ix1 l) * s.main_v9_8 (ix1 l) + s.main_v9_3 (ix1 l) * -s.main_v9_7 (ix1 l) := by
  pointwise [b16, b15, b14, b13, b12]

theorem b21_at (n : ℕ) (hn : n < 512) (s : State Ideal) (r : Fin 512) (l : Fin 4096) :
    b21 n s (ix2 r l) = if r.val = 511 - n then s.main_v9_7 (ix1 l) else s.main_v9_9 (ix2 r l) := by
  have e : b19 n s (ix2 0 l) = s.main_v9_7 (ix1 l) := by pointwise [b19]
  rw [← e]
  exact update_row _ _ _ (511 - n) (by omega) (num_toInt n hn s) rfl _ r l

theorem b24_at (n : ℕ) (hn : n < 512) (s : State Ideal) (r : Fin 512) (l : Fin 4096) :
    b24 n s (ix2 r l) = if r.val = 511 - n then s.main_v9_8 (ix1 l) else s.main_v9_10 (ix2 r l) := by
  have e : b22 n s (ix2 0 l) = s.main_v9_8 (ix1 l) := by pointwise [b22]
  rw [← e]
  exact update_row _ _ _ (511 - n) (by omega) (num_toInt n hn s) rfl _ r l

theorem it_args : ∀ n, (it a0 a1 a4 a5 n).main_v9_0 = a0 ∧ (it a0 a1 a4 a5 n).main_v9_1 = a1
    ∧ (∀ l : Fin 4096, (it a0 a1 a4 a5 n).main_v9_2 (ix1 l) = a4 (ix2 0 l) ∧ (it a0 a1 a4 a5 n).main_v9_3 (ix1 l) = a5 (ix2 0 l)
      ∧ (it a0 a1 a4 a5 n).main_v9_4 (ix1 l) = a4 (ix2 0 l) ∧ (it a0 a1 a4 a5 n).main_v9_5 (ix1 l) = a5 (ix2 0 l))
  | 0 => by
    refine ⟨rfl, rfl, fun l => ⟨?_, ?_, ?_, ?_⟩⟩
    · show A_main_v1 (F := Ideal) a4 a5 (ix1 l) = _
      pointwise [A_main_v1]
    · show A_main_v2 (F := Ideal) a4 a5 (ix1 l) = _
      pointwise [A_main_v2]
    · show A_main_v3 (F := Ideal) a4 a5 (ix1 l) = _
      pointwise [A_main_v3]
    · show A_main_v4 (F := Ideal) a4 a5 (ix1 l) = _
      pointwise [A_main_v4]
  | n + 1 => it_args n

/-- The carried cotangent is the recurrence's. -/
theorem it_state : ∀ n, n ≤ 512 → ∀ l : Fin 4096, (it a0 a1 a4 a5 n).main_v9_7 (ix1 l) = (H a0 a1 a4 a5 n l).1
    ∧ (it a0 a1 a4 a5 n).main_v9_8 (ix1 l) = (H a0 a1 a4 a5 n l).2
  | 0, _, l => by
    constructor
    · show K_main_v5 (F := Ideal) (ix1 l) = 0
      pointwise [K_main_v5, K_main_cst_0]
    · show K_main_v6 (F := Ideal) (ix1 l) = 0
      pointwise [K_main_v6, K_main_cst_1]
  | n + 1, hn, l => by
    obtain ⟨i7, i8⟩ := it_state n (by omega) l
    obtain ⟨e0, e1, ea⟩ := it_args a0 a1 a4 a5 n
    obtain ⟨e2, e3, e4, e5⟩ := ea l
    constructor
    · show b18 n (it a0 a1 a4 a5 n) (ix1 l) = laneH a0 l n + (a4 (ix2 0 l) * (H a0 a1 a4 a5 n l).1 + a5 (ix2 0 l) * (H a0 a1 a4 a5 n l).2)
      rw [b18_at, b6_at n (by omega), i7, i8, e0, e2, e5, add_assoc, add_comm (a5 (ix2 0 l) * _)]
      rfl
    · show b16 n (it a0 a1 a4 a5 n) (ix1 l) = laneH a1 l n + (a4 (ix2 0 l) * (H a0 a1 a4 a5 n l).2 - a5 (ix2 0 l) * (H a0 a1 a4 a5 n l).1)
      rw [b16_at, b9_at n (by omega), i7, i8, e1, e3, e4, add_assoc, mul_neg, ← sub_eq_add_neg]
      rfl

set_option maxHeartbeats 2000000 in
/-- The rows written so far are the cotangents. -/
theorem it_rows : ∀ n, n ≤ 512 → ∀ (r : Fin 512) (l : Fin 4096), 511 - r.val < n →
    (it a0 a1 a4 a5 n).main_v9_9 (ix2 r l) = (H a0 a1 a4 a5 (511 - r.val) l).1
      ∧ (it a0 a1 a4 a5 n).main_v9_10 (ix2 r l) = (H a0 a1 a4 a5 (511 - r.val) l).2
  | 0, _, r, l, h => absurd h (Nat.not_lt_zero _)
  | n + 1, hn, r, l, h => by
    have hr := r.isLt
    obtain ⟨i7, i8⟩ := it_state a0 a1 a4 a5 n (by omega) l
    constructor
    · show b21 n (it a0 a1 a4 a5 n) (ix2 r l) = _
      rw [b21_at n (by omega)]
      by_cases e : r.val = 511 - n
      · rw [if_pos e, i7, show 511 - r.val = n by omega]
      · rw [if_neg e]
        exact (it_rows n (by omega) r l (by omega)).1
    · show b24 n (it a0 a1 a4 a5 n) (ix2 r l) = _
      rw [b24_at n (by omega)]
      by_cases e : r.val = 511 - n
      · rw [if_pos e, i8, show 511 - r.val = n by omega]
      · rw [if_neg e]
        exact (it_rows n (by omega) r l (by omega)).2

theorem ref6 : (it a0 a1 a4 a5 512).main_v9_9 = G6 a0 a1 a4 a5 := by
  funext i
  idx_vars i
  exact (it_rows a0 a1 a4 a5 512 le_rfl _ _ (by omega)).1

theorem ref7 : (it a0 a1 a4 a5 512).main_v9_10 = G7 a0 a1 a4 a5 := by
  funext i
  idx_vars i
  exact (it_rows a0 a1 a4 a5 512 le_rfl _ _ (by omega)).2

/-- A sum over the rows is the sum over the steps. -/
theorem rows_sum (f : ℕ → EReal) (x : FVec Ideal S512x4096 .f32) (l : Fin 4096) :
    ∑ r : Fin 512, x (ix2 r l) * f (511 - r.val) = ∑ k ∈ Finset.range 512, laneH x l k * f k := by
  rw [← Finset.sum_range_reflect, ← Fin.sum_univ_eq_sum_range (fun k => laneH x l (512 - 1 - k) * f (512 - 1 - k))]
  refine Finset.sum_congr rfl fun r _ => ?_
  have e : Fin.ofNat 512 (511 - (512 - 1 - r.val)) = r := by
    have hr := r.isLt
    apply Fin.ext
    show (511 - (512 - 1 - r.val)) % 512 = r.val
    omega
  unfold laneH
  rw [e]

theorem red (x : FVec Ideal S512x4096 .f32) (l : Fin 4096) :
    shapeCast S1x4096 (Host.reduceAdd x (constant S_ .f32 0x00000000#32) Gen.reducesTo_S512x4096_S4096_d0 Gen.h_S_) Gen.shapeCasts_S4096_S1x4096 (ix2 0 l)
      = ∑ r : Fin 512, x (ix2 r l) := by
  pointwise []

theorem ref8 (a2 a3 : FVec Ideal S512x4096 .f32) : R_main_v34 (it a0 a1 a4 a5 512) a2 a3 = G8 a0 a1 a2 a3 a4 a5 := by
  unfold R_main_v34
  rw [ref6, ref7]
  funext i
  obtain ⟨l, rfl⟩ : ∃ l : Fin 4096, i = ix2 0 l := ⟨i 1, by
    funext d
    match d with
    | ⟨0, _⟩ => exact Subsingleton.elim (α := Fin 1) _ _
    | ⟨1, _⟩ => rfl⟩
  show shapeCast S1x4096 (Host.reduceAdd (mulf (G7 a0 a1 a4 a5) a3) (constant S_ .f32 0x00000000#32) Gen.reducesTo_S512x4096_S4096_d0 Gen.h_S_) Gen.shapeCasts_S4096_S1x4096 (ix2 0 l)
      + shapeCast S1x4096 (Host.reduceAdd (mulf (G6 a0 a1 a4 a5) a2) (constant S_ .f32 0x00000000#32) Gen.reducesTo_S512x4096_S4096_d0 Gen.h_S_) Gen.shapeCasts_S4096_S1x4096 (ix2 0 l)
    = ∑ k ∈ Finset.range 512, (laneH a2 l k * (H a0 a1 a4 a5 k l).1 + laneH a3 l k * (H a0 a1 a4 a5 k l).2)
  rw [red, red, add_comm, Finset.sum_add_distrib, ← rows_sum (fun k => (H a0 a1 a4 a5 k l).1), ← rows_sum (fun k => (H a0 a1 a4 a5 k l).2)]
  exact congrArg₂ (· + ·) (Finset.sum_congr rfl fun r _ => mul_comm _ _) (Finset.sum_congr rfl fun r _ => mul_comm _ _)

theorem ref9 (a2 a3 : FVec Ideal S512x4096 .f32) : R_main_v30 (it a0 a1 a4 a5 512) a2 a3 = G9 a0 a1 a2 a3 a4 a5 := by
  unfold R_main_v30
  rw [ref6, ref7]
  funext i
  obtain ⟨l, rfl⟩ : ∃ l : Fin 4096, i = ix2 0 l := ⟨i 1, by
    funext d
    match d with
    | ⟨0, _⟩ => exact Subsingleton.elim (α := Fin 1) _ _
    | ⟨1, _⟩ => rfl⟩
  show shapeCast S1x4096 (Host.reduceAdd (mulf (G7 a0 a1 a4 a5) a2) (constant S_ .f32 0x00000000#32) Gen.reducesTo_S512x4096_S4096_d0 Gen.h_S_) Gen.shapeCasts_S4096_S1x4096 (ix2 0 l)
      + shapeCast S1x4096 (Host.reduceAdd (mulf (Host.negf (G6 a0 a1 a4 a5)) a3) (constant S_ .f32 0x00000000#32) Gen.reducesTo_S512x4096_S4096_d0 Gen.h_S_) Gen.shapeCasts_S4096_S1x4096 (ix2 0 l)
    = ∑ k ∈ Finset.range 512, (laneH a2 l k * (H a0 a1 a4 a5 k l).2 - laneH a3 l k * (H a0 a1 a4 a5 k l).1)
  simp only [sub_eq_add_neg, ← mul_neg]
  rw [red, red, Finset.sum_add_distrib, ← rows_sum (fun k => (H a0 a1 a4 a5 k l).2), ← rows_sum (fun k => -(H a0 a1 a4 a5 k l).1)]
  exact congrArg₂ (· + ·) (Finset.sum_congr rfl fun r _ => mul_comm _ _) (Finset.sum_congr rfl fun r _ => mul_comm _ _)

end Cert.K.ScanB

end
-- ==== Proof.K.ScanBClaims.lean ====
/- The claims about the backward recurrence of the S5 layers, assembled. -/
module

public import proofs.«01_k».proof.Proof.K.ScanB
public import proofs.«01_k».proof.Proof.K.ScanBRef
public import proofs.«01_k».proof.Proof.K.ScanBRun
public import proofs.«01_k».proof.Proof.Gen.ScanBIdeal.Value
public import proofs.«01_k».proof.Defs
public import proofs.«01_k».proof.Proof.Gen.ScanB.Frame
public import proofs.«01_k».proof.Proof.Gen.ScanBIdeal.Frame
public import Idealize.ShloMosaic.Adequacy
public import Idealize.ShloMosaic.Init

@[expose] public section

noncomputable section

namespace Cert.K.ScanB

open Idealize.ShloMosaic Idealize.ShloMosaic.TcCoe Idealize.SL.Sem Cert.ScanBIdeal

theorem frameRef : Cert.quiescent_ScanBRefIdeal := fun m ρ _ =>
  (θ_run _ _ _).mono (fun r h => ⟨fun c => (h c).2.2.2.2, sem_eq_zero_of_no_sems (by decide) r.2⟩)
    (Cert.K.ScanBRun.run m ρ)

theorem congrG6 {a0 a0' : FVec Ideal S512x4096 .f32} {a1 a1' : FVec Ideal S512x4096 .f32} {a4 a4' : FVec Ideal S1x4096 .f32} {a5 a5' : FVec Ideal S1x4096 .f32} (h0 : a0 = a0') (h1 : a1 = a1') (h4 : a4 = a4') (h5 : a5 = a5') :
    G6 a0 a1 a4 a5 = G6 a0' a1' a4' a5' := by
  subst h0 h1 h4 h5; rfl

theorem congrG7 {a0 a0' : FVec Ideal S512x4096 .f32} {a1 a1' : FVec Ideal S512x4096 .f32} {a4 a4' : FVec Ideal S1x4096 .f32} {a5 a5' : FVec Ideal S1x4096 .f32} (h0 : a0 = a0') (h1 : a1 = a1') (h4 : a4 = a4') (h5 : a5 = a5') :
    G7 a0 a1 a4 a5 = G7 a0' a1' a4' a5' := by
  subst h0 h1 h4 h5; rfl

theorem congrG8 {a0 a0' : FVec Ideal S512x4096 .f32} {a1 a1' : FVec Ideal S512x4096 .f32} {a2 a2' : FVec Ideal S512x4096 .f32} {a3 a3' : FVec Ideal S512x4096 .f32} {a4 a4' : FVec Ideal S1x4096 .f32} {a5 a5' : FVec Ideal S1x4096 .f32} (h0 : a0 = a0') (h1 : a1 = a1') (h2 : a2 = a2') (h3 : a3 = a3') (h4 : a4 = a4') (h5 : a5 = a5') :
    G8 a0 a1 a2 a3 a4 a5 = G8 a0' a1' a2' a3' a4' a5' := by
  subst h0 h1 h2 h3 h4 h5; rfl

theorem congrG9 {a0 a0' : FVec Ideal S512x4096 .f32} {a1 a1' : FVec Ideal S512x4096 .f32} {a2 a2' : FVec Ideal S512x4096 .f32} {a3 a3' : FVec Ideal S512x4096 .f32} {a4 a4' : FVec Ideal S1x4096 .f32} {a5 a5' : FVec Ideal S1x4096 .f32} (h0 : a0 = a0') (h1 : a1 = a1') (h2 : a2 = a2') (h3 : a3 = a3') (h4 : a4 = a4') (h5 : a5 = a5') :
    G9 a0 a1 a2 a3 a4 a5 = G9 a0' a1' a2' a3' a4' a5' := by
  subst h0 h1 h2 h3 h4 h5; rfl

set_option maxHeartbeats 1000000 in
theorem alg : Cert.algebraic_ScanBIdeal_ScanBRefIdeal := by
  intro m ρ m' ρ' _ hag
  refine ⟨fun c => (Cert.ScanBIdeal.Gen.dats m 0 c).arrAt 6 _, fun c => (Cert.ScanBIdeal.Gen.dats m 0 c).arrAt 7 _,
    fun c => (Cert.ScanBIdeal.Gen.dats m 0 c).arrAt 8 _, fun c => (Cert.ScanBIdeal.Gen.dats m 0 c).arrAt 9 _,
    Cert.ScanBIdeal.Value.run_blocks m ρ, ?_⟩
  refine (θ_run _ _ _).mono (fun _ h c => ?_) (Cert.K.ScanBRun.run m' ρ')
  obtain ⟨h6, h7, h8, h9, ha⟩ := h c
  obtain ⟨e0, e1, e2, e3, e4, e5⟩ := hag c
  refine ⟨h6.trans ((ref6 _ _ _ _).trans ?_), h7.trans ((ref7 _ _ _ _).trans ?_), h8.trans ((ref8 _ _ _ _ _ _).trans ?_),
    h9.trans ((ref9 _ _ _ _ _ _).trans ?_), ha⟩
  · exact (congrG6 e0 e1 e4 e5).trans (final6 m c).symm
  · exact (congrG7 e0 e1 e4 e5).trans (final7 m c).symm
  · exact (congrG8 e0 e1 e2 e3 e4 e5).trans (final8 m c).symm
  · exact (congrG9 e0 e1 e2 e3 e4 e5).trans (final9 m c).symm

end Cert.K.ScanB

end
-- ==== Proof.K.SumCore.lean ====
/- The value of the sum of the two parts of one core. -/
module

public import proofs.«01_k».proof.Proof.Gen.SumCore.Frame
public import proofs.«01_k».proof.Proof.Gen.SumCoreIdeal.Frame
public import Idealize.ShloMosaic.Lib.Pipeline.ValueKit
public import Idealize.ShloMosaic.Lib.Pipeline.ValueKit.Point
public import Idealize.ShloMosaic.Lib.Pointwise
public import Idealize.ShloMosaic.Lib.StableHlo.Predicate
public import proofs.«01_k».proof.Pre_core_index
public import proofs.«01_k».proof.Proof.Gen.Pre_core_index

@[expose] public section

set_option maxRecDepth 16384

noncomputable section

namespace Cert.K.SumCore

open Idealize.ShloMosaic Idealize.ShloMosaic.TcCoe Idealize.SL.Sem

/-- The precondition says that the one word of the table is 0 or 1. -/
theorem word {F : FTy → Type} [FloatOps F] (w : IVec Cert.Pre_core_index.S1 32) (a : FVec F Cert.Pre_core_index.S2x1536x1024 .f32) (b : FVec F Cert.Pre_core_index.S1536x1024 .f32)
    (h : Cert.Pre_core_index.fn w a b = fun _ => 1#1) : ∃ k : Fin 2, w = fun _ => BitVec.ofNat 32 k.val := by
  have e := congrFun h (ix1 0)
  have e' : IntOp.cmpi .eq (w (ix1 0)) 0#32 ||| IntOp.cmpi .eq (w (ix1 0)) 1#32 = 1#1 := e
  have one : ∀ x : Cert.Pre_core_index.S1.Idx, x = ix1 0 := fun x => funext fun (d : Fin 1) => by
    obtain rfl : d = 0 := Subsingleton.elim _ _
    exact Fin.ext (Nat.lt_one_iff.1 (x 0).isLt)
  by_cases h0 : w (ix1 0) = 0#32
  · exact ⟨0, funext fun x => (one x) ▸ h0⟩
  · by_cases h1 : w (ix1 0) = 1#32
    · exact ⟨1, funext fun x => (one x) ▸ h1⟩
    · exfalso
      have n0 : IntOp.cmpi .eq (w (ix1 0)) 0#32 ≠ 1#1 := fun q => h0 (StableHlo.Predicate.cmpi_eq_iff.1 q)
      have n1 : IntOp.cmpi .eq (w (ix1 0)) 1#32 ≠ 1#1 := fun q => h1 (StableHlo.Predicate.cmpi_eq_iff.1 q)
      revert e' n0 n1
      generalize IntOp.cmpi .eq (w (ix1 0)) 0#32 = p
      generalize IntOp.cmpi .eq (w (ix1 0)) 1#32 = q
      revert p q
      decide

section Bits
open Cert.SumCore Cert.SumCore.Gen

set_option backward.proofsInPublic true in
/-- The table of the kernel on core `k`. -/
def pfB (k : Fin 2) : pre0.Contents (Elt Bits) := fun | ⟨0, _⟩ => fun _ => BitVec.ofNat 32 k.val | ⟨_ + 1, h⟩ => absurd h (by simp)

theorem tbl_bits (m : (ℓ : Loc nD τ sig) → Buf (Elt Bits) ℓ) (k : Fin 2) (h : m ((0 : Dev nD).tc.loc main_arg0) = fun _ => BitVec.ofNat 32 k.val) : tbl m = pfB k := by
  funext j
  match j with
  | ⟨0, _⟩ => exact h

/-- With that table every block lies inside its array. -/
theorem ok_bits (m : (ℓ : Loc nD τ sig) → Buf (Elt Bits) ℓ) (k : Fin 2) (h : m ((0 : Dev nD).tc.loc main_arg0) = fun _ => BitVec.ofNat 32 k.val) : Ok (F := Bits) m := by
  unfold Ok; rw [tbl_bits m k h]; clear h; revert k; decide

end Bits

open Cert.SumCoreIdeal Cert.SumCoreIdeal.Gen

set_option backward.proofsInPublic true in
/-- The table of the ideal kernel on core `k`. -/
def pfI (k : Fin 2) : pre0.Contents (Elt Ideal) := fun | ⟨0, _⟩ => fun _ => BitVec.ofNat 32 k.val | ⟨_ + 1, h⟩ => absurd h (by simp)

theorem tbl_ideal (m : (ℓ : Loc nD τ sig) → Buf (Elt Ideal) ℓ) (k : Fin 2) (h : m ((0 : Dev nD).tc.loc main_arg0) = fun _ => BitVec.ofNat 32 k.val) : tbl m = pfI k := by
  funext j
  match j with
  | ⟨0, _⟩ => exact h

/-- With that table every block lies inside its array. -/
theorem ok (m : (ℓ : Loc nD τ sig) → Buf (Elt Ideal) ℓ) (k : Fin 2) (h : m ((0 : Dev nD).tc.loc main_arg0) = fun _ => BitVec.ofNat 32 k.val) : Ok (F := Ideal) m := by
  unfold Ok; rw [tbl_ideal m k h]; clear h; revert k; decide

variable (m : (ℓ : Loc nD τ sig) → Buf (Elt Ideal) ℓ) (c : Dev nD) (hO : Ok m) (n : Fin 2) (hn : tbl m = pfI n)

include hn in
/-- The block each window reads or writes at a point: that band of rows, of the first argument the core's part. -/
theorem idx0 : ∀ t : Fin (cfgM m hO).N, ((cfgM m hO).win 0).index t = ![n.val, t.val, 0] := by
  have h : ∀ (n : Fin 2) (t : Fin grid0.N), cc0_transform_0 (F := Ideal) inb_S1_S1_0 numel1_S1 (pfI n) (grid0.coords t) = ![n.val, t.val, 0] := by
    decide +kernel
  intro t
  show cc0_transform_0 (F := Ideal) inb_S1_S1_0 numel1_S1 (tbl m) (grid0.coords t) = _
  rw [hn]
  exact h n t

theorem idx1 : ∀ t : Fin (cfgM m hO).N, ((cfgM m hO).win 1).index t = ![t.val, 0] :=
  (by decide +kernel : ∀ t : Fin grid0.N, cc0_transform_1 (grid0.coords t) = ![t.val, 0])

theorem idx2 : ∀ t : Fin (cfgM m hO).N, ((cfgM m hO).win 2).index t = ![t.val, 0] :=
  (by decide +kernel : ∀ t : Fin grid0.N, cc0_transform_2 (grid0.coords t) = ![t.val, 0])

/-- The row of the array at which row `a` of band `t` lies. -/
def row (t : Fin 6) (a : Fin 256) : Fin 1536 := ⟨t.val * 256 + a.val, by omega⟩

include hn in
theorem blk0 (t : Fin (cfgM m hO).N) (a : Fin 256) (k : Fin 1024) :
    iblk m hO c 0 t (ix3 0 a k) = m ((c : Thread nD τ).loc main_arg1) (ix3 n (row t a) k) := by
  refine Eq.trans (b := (V m c main_arg1 : FVec Ideal S2x1536x1024 .f32) (ix3 n (row t a) k)) ?_ ?_
  · blk_ext [iblk, idx0 m hO n hn t, row]
  · rw [V_main_arg1]

theorem blk1 (t : Fin (cfgM m hO).N) (a : Fin 256) (k : Fin 1024) :
    iblk m hO c 1 t (ix2 a k) = m ((c : Thread nD τ).loc main_arg2) (ix2 (row t a) k) := by
  refine Eq.trans (b := (V m c main_arg2 : FVec Ideal S1536x1024 .f32) (ix2 (row t a) k)) ?_ ?_
  · blk_ext [iblk, idx1 m hO t, row]
  · rw [V_main_arg2]

theorem emb2 (t : Fin (cfgM m hO).N) (a : Fin 256) (k : Fin 1024) :
    (((cfgM m hO).win 2).blk t).view.emb (ix2 a k) = ix2 (row t a) k := by
  blk_ext [idx2 m hO t, row]

/-- The sum of the core's own part and the received one. -/
def G2 (n : Fin 2) (a0 : FVec Ideal S2x1536x1024 .f32) (a1 : FVec Ideal S1536x1024 .f32) : FVec Ideal S1536x1024 .bf16 := fun i =>
  a0 (ix3 n (i 0) (i 1)) + a1 (ix2 (i 0) (i 1))

theorem pay1 (v0 : Vec Ideal S1x256x1024 .f32) (v2 : Vec Ideal S256x1024 .f32) (a : Fin 256) (k : Fin 1024) :
    k0_pay1 v0 v2 (ix2 a k) = v0 (ix3 0 a k) + v2 (ix2 a k) := by
  pointwise [k0_pay1]

/-- What a point leaves in its band of the result. -/
theorem out2 (i : grid0.Coords) (arg2 : Memref sig .tc .vmem S1x256x1024 .f32) (harg2 : arg2.IsWhole) (arg3 : Memref sig .tc .vmem S256x1024 .f32) (harg3 : arg3.IsWhole) (arg4 : Memref sig .tc .vmem S256x1024 .bf16) (harg4 : arg4.IsWhole)
    (x0 : Vec Ideal S1x256x1024 .f32) (x1 : Vec Ideal S256x1024 .f32) (x : TbBuf0 (F := Ideal) c tbM0_0) (a : Fin 256) (k : Fin 1024) :
    out0_A_2 (F := Ideal) c i arg2 harg2 arg3 harg3 arg4 harg4 x0 x1 x (ix2 a k) = x0 (ix3 0 a k) + x1 (ix2 a k) := by
  frame_out
  rw [pay1]

/-- The bands of the result cover it. -/
theorem covers2 : ((cfgM m hO).win 2).Covers := by
  refine ⟨(by decide : ∀ a : Fin 2, 0 < S256x1024.size a), ?_⟩
  intro (β : (a : Fin 2) → Fin ((S1536x1024.size a + S256x1024.size a - 1) / S256x1024.size a))
  have h0 : (β 0).val < 6 := (β 0).isLt
  have h1 : (β 1).val < 1 := (β 1).isLt
  refine ⟨(⟨(β 0).val, h0⟩ : Fin 6), flush0_2 (adm m hO) _, fun (a : Fin 2) => ⟨?_, .inl rfl⟩⟩
  refine (congrFun (idx2 m hO (⟨(β 0).val, h0⟩ : Fin 6)) a).trans ?_
  match a with
  | ⟨0, _⟩ => rfl
  | ⟨1, _⟩ => show 0 = (β 1).val; omega

include hn in
theorem final2 : (dats m hO 0 c).arrAt 2 (cfgM m hO).N = G2 n (m ((c : Thread nD τ).loc main_arg1)) (m ((c : Thread nD τ).loc main_arg2)) := by
  refine (dats m hO 0 c).arrAt_eq_of_covers 2 _ (covers2 m hO) fun t hf y => ?_
  have e : ∀ y : S256x1024.Idx, out0_A_2 (F := Ideal) c (grid0.coords t) (ms0_0 m hO t) (hs0_0 m hO t) (ms0_1 m hO t) (hs0_1 m hO t) (ms0_2 m hO t) (hs0_2 m hO t) (iblk m hO c 0 t) (iblk m hO c 1 t) (tbl m 0) y
      = G2 n (m ((c : Thread nD τ).loc main_arg1)) (m ((c : Thread nD τ).loc main_arg2)) ((((cfgM m hO).win 2).blk t).view.emb y) := by
    intro y
    idx_vars y
    rw [emb2]
    refine (out2 _ _ _ _ _ _ _ _ _ _ _ _ _).trans ?_
    rw [blk0 m c hO n hn, blk1]
    rfl
  have e' : (outsAt0 m hO c t) = fun y => G2 n (m ((c : Thread nD τ).loc main_arg1)) (m ((c : Thread nD τ).loc main_arg2)) ((((cfgM m hO).win 2).blk t).view.emb y) := by
    unfold outsAt0
    exact funext e
  rw [after0_2, e']
  rfl

end Cert.K.SumCore

end
-- ==== Proof.K.SumCoreRef.lean ====
/- The sum of the two parts of one core: the reference's result. -/
module

public import proofs.«01_k».proof.Proof.K.SumCore
public import proofs.«01_k».proof.Proof.Gen.SumCoreRefIdeal.Run
public import Idealize.ShloMosaic.Lib.Pointwise

@[expose] public section

set_option maxRecDepth 16384

noncomputable section

namespace Cert.K.SumCore

open Idealize.ShloMosaic Idealize.ShloMosaic.TcCoe Idealize.SL.Sem Cert.SumCoreRefIdeal Cert.SumCoreRefIdeal.Gen

theorem ref2 (n : Fin 2) (w : IVec S1 32) (a1 : FVec Ideal S2x1536x1024 .f32) (a2 : FVec Ideal S1536x1024 .f32) (h : w = fun _ => BitVec.ofNat 32 n.val) :
    truncf .bf16 (addf (select (broadcastInDim S1536x1024 ![] bcast_S_S1536x1024 (cmpi .eq (shapeCast S_ w shapeCasts_S1_S_) (constantI S_ 32 0#32)))
      (shapeCast S1536x1024 (extractStridedSlice S1x1536x1024 ![0, 0, 0] a1 slices_S2x1536x1024_S1x1536x1024_0_0_0) shapeCasts_S1x1536x1024_S1536x1024)
      (shapeCast S1536x1024 (extractStridedSlice S1x1536x1024 ![1, 0, 0] a1 slices_S2x1536x1024_S1x1536x1024_1_0_0) shapeCasts_S1x1536x1024_S1536x1024)) a2) bitsLt_bf16_f32 = G2 n a1 a2 := by
  subst h
  funext i; idx_vars i
  have h : n = 0 ∨ n = 1 := by revert n; decide
  rcases h with rfl | rfl
  · pointwise [G2]
  · pointwise [G2]
    rfl

end Cert.K.SumCore

end
-- ==== Proof.K.SumCoreClaims.lean ====
/- The claims about the sum of the two parts of one core, assembled. -/
module

public import proofs.«01_k».proof.Proof.K.SumCore
public import proofs.«01_k».proof.Proof.K.SumCoreRef
public import proofs.«01_k».proof.Proof.Gen.SumCoreRefIdeal.Run
public import proofs.«01_k».proof.Defs
public import proofs.«01_k».proof.Proof.Gen.SumCore.Frame
public import proofs.«01_k».proof.Proof.Gen.SumCoreIdeal.Frame
public import Idealize.ShloMosaic.Adequacy
public import Idealize.ShloMosaic.Init

@[expose] public section

noncomputable section

namespace Cert.K.SumCore

open Idealize.ShloMosaic Idealize.ShloMosaic.TcCoe Idealize.SL.Sem Cert.SumCoreIdeal

/-- What the precondition says of the kernel's first argument. -/
theorem pre_bits {m : (ℓ : Loc Cert.SumCore.nD Cert.SumCore.τ Cert.SumCore.sig) → Buf (Elt Bits) ℓ} (h : Cert.Pre_SumCore m) :
    ∃ k : Fin 2, m ((0 : Dev Cert.SumCore.nD).tc.loc Cert.SumCore.main_arg0) = fun _ => BitVec.ofNat 32 k.val :=
  word _ _ _ (h 0)

theorem pre_ideal {m : (ℓ : Loc nD τ sig) → Buf (Elt Ideal) ℓ} (h : Cert.Pre_SumCoreIdeal m) :
    ∃ k : Fin 2, m ((0 : Dev nD).tc.loc main_arg0) = fun _ => BitVec.ofNat 32 k.val :=
  word _ _ _ (h 0)

theorem frame : Cert.quiescent_SumCore := fun m ρ h =>
  (pre_bits h).elim fun k hk => Cert.SumCore.Gen.frame m ρ (ok_bits m k hk)

theorem frameI : Cert.quiescent_SumCoreIdeal := fun m ρ h =>
  (pre_ideal h).elim fun k hk => Cert.SumCoreIdeal.Gen.frame m ρ (ok m k hk)

theorem frameRef : Cert.quiescent_SumCoreRefIdeal := fun m ρ _ =>
  (θ_run _ _ _).mono (fun r h => ⟨fun c => (h c).2, sem_eq_zero_of_no_sems (by decide) r.2⟩)
    (Cert.SumCoreRefIdeal.Value.run m ρ)

/-- The run ends with the sum in the result and the arguments unchanged. -/
theorem run (m : (ℓ : Loc nD τ sig) → Buf (Elt Ideal) ℓ) (ρ : Dev nD → PrngReg) (n : Fin 2) (hk : m ((0 : Dev nD).tc.loc main_arg0) = fun _ => BitVec.ofNat 32 n.val) :
    θ_run (defs (F := Ideal)) (onTc (τ := τ) (main (F := Ideal))) ⟨m, fun _ => 0, ρ⟩ fun r => ∀ c : Dev nD,
      r.2.mem ((c : Thread nD τ).loc main_v0) = G2 n (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hO := ok m n hk
  have h1 : θ_run (defs (F := Ideal)) (onTc (τ := τ) (main (F := Ideal))) ⟨m, fun _ => 0, ρ⟩ fun r => ∀ c : Dev nD,
      r.2.mem ((c : Thread nD τ).loc main_v0) = G2 n (m ((c : Thread nD τ).loc main_arg1)) (m ((c : Thread nD τ).loc main_arg2)) :=
    (θ_run defs _ _).mono (fun _ h c => ((h c).1 2).trans (final2 m c hO n (tbl_ideal m n hk))) (Cert.SumCoreIdeal.Gen.run_main m ρ hO)
  exact (θ_run defs _ _).mono (fun _ h c => ⟨h.1 c, h.2 c⟩) (θ_run_and h1 (Cert.SumCoreIdeal.Gen.unchanged m ρ hO))

theorem congrG2 {n : Fin 2} {a1 a1' : FVec Ideal S2x1536x1024 .f32} {a2 a2' : FVec Ideal S1536x1024 .f32} (h1 : a1 = a1') (h2 : a2 = a2') : G2 n a1 a2 = G2 n a1' a2' := by
  subst h1; subst h2; rfl

theorem alg : Cert.algebraic_SumCoreIdeal_SumCoreRefIdeal := by
  intro m ρ m' ρ' hpre hag
  obtain ⟨n, hk⟩ := pre_ideal hpre
  refine ⟨fun c => G2 n (m ((c : Thread nD τ).loc main_arg1)) (m ((c : Thread nD τ).loc main_arg2)), run m ρ n hk, ?_⟩
  refine (θ_run _ _ _).mono (fun _ h c => ?_) (Cert.SumCoreRefIdeal.Value.run m' ρ')
  obtain ⟨h2, ha⟩ := h c
  obtain ⟨e0, e1, e2⟩ := hag c
  obtain rfl : c = 0 := Subsingleton.elim _ _
  exact ⟨h2.trans ((ref2 n _ _ _ (e0.trans hk)).trans (congrG2 e1 e2)), ha⟩

end Cert.K.SumCore

end
-- ==== Proof.lean ====
module

public import proofs.«01_k».proof.Defs
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutIdeal.Value
public import proofs.«01_k».proof.Proof.Gen.SsmOutRefIdeal
public import proofs.«01_k».proof.Proof.Gen.SsmOutRefIdeal.Run
public import proofs.«01_k».proof.Proof.Gen.OutLoss
public import proofs.«01_k».proof.Proof.Gen.OutLoss.Frame
public import proofs.«01_k».proof.Proof.Gen.OutLossIdeal
public import proofs.«01_k».proof.Proof.Gen.OutLossIdeal.Frame
public import proofs.«01_k».proof.Proof.Gen.OutLossIdeal.Value
public import proofs.«01_k».proof.Proof.Gen.OutLossRefIdeal
public import proofs.«01_k».proof.Proof.Gen.OutLossRefIdeal.Run
public import proofs.«01_k».proof.Proof.Gen.InSsm
public import proofs.«01_k».proof.Proof.Gen.InSsm.Frame
public import proofs.«01_k».proof.Proof.Gen.InSsmIdeal
public import proofs.«01_k».proof.Proof.Gen.InSsmIdeal.Frame
public import proofs.«01_k».proof.Proof.Gen.InSsmIdeal.Value
public import proofs.«01_k».proof.Proof.Gen.InSsmRefIdeal
public import proofs.«01_k».proof.Proof.Gen.InSsmRefIdeal.Run
public import proofs.«01_k».proof.Proof.Gen.InAttn
public import proofs.«01_k».proof.Proof.Gen.InAttn.Frame
public import proofs.«01_k».proof.Proof.Gen.InAttnIdeal
public import proofs.«01_k».proof.Proof.Gen.InAttnIdeal.Frame
public import proofs.«01_k».proof.Proof.Gen.InAttnIdeal.Value
public import proofs.«01_k».proof.Proof.Gen.InAttnRefIdeal
public import proofs.«01_k».proof.Proof.Gen.InAttnRefIdeal.Run
public import proofs.«01_k».proof.Proof.Gen.S5b
public import proofs.«01_k».proof.Proof.Gen.S5b.Frame
public import proofs.«01_k».proof.Proof.Gen.S5bIdeal
public import proofs.«01_k».proof.Proof.Gen.S5bIdeal.Frame
public import proofs.«01_k».proof.Proof.Gen.S5bIdeal.Value
public import proofs.«01_k».proof.Proof.Gen.S5bRefIdeal
public import proofs.«01_k».proof.Proof.Gen.S5bRefIdeal.Run
public import proofs.«01_k».proof.Proof.Gen.S5p
public import proofs.«01_k».proof.Proof.Gen.S5p.Frame
public import proofs.«01_k».proof.Proof.Gen.S5pIdeal
public import proofs.«01_k».proof.Proof.Gen.S5pIdeal.Frame
public import proofs.«01_k».proof.Proof.Gen.S5pIdeal.Value
public import proofs.«01_k».proof.Proof.Gen.S5pRefIdeal
public import proofs.«01_k».proof.Proof.Gen.S5pRefIdeal.Run
public import proofs.«01_k».proof.Proof.Gen.S5o
public import proofs.«01_k».proof.Proof.Gen.S5o.Frame
public import proofs.«01_k».proof.Proof.Gen.S5oIdeal
public import proofs.«01_k».proof.Proof.Gen.S5oIdeal.Frame
public import proofs.«01_k».proof.Proof.Gen.S5oIdeal.Value
public import proofs.«01_k».proof.Proof.Gen.S5oRefIdeal
public import proofs.«01_k».proof.Proof.Gen.S5oRefIdeal.Run
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.AttnOutF
public import proofs.«01_k».proof.Proof.Gen.AttnOutF.Frame
public import proofs.«01_k».proof.Proof.Gen.AttnOutFIdeal
public import proofs.«01_k».proof.Proof.Gen.AttnOutFIdeal.Frame
public import proofs.«01_k».proof.Proof.Gen.AttnOutFIdeal.Value
public import proofs.«01_k».proof.Proof.Gen.AttnOutFRefIdeal
public import proofs.«01_k».proof.Proof.Gen.AttnOutFRefIdeal.Run
public import proofs.«01_k».proof.Proof.Gen.SsmOutF
public import proofs.«01_k».proof.Proof.Gen.SsmOutF.Frame
public import proofs.«01_k».proof.Proof.Gen.SsmOutFIdeal
public import proofs.«01_k».proof.Proof.Gen.SsmOutFIdeal.Frame
public import proofs.«01_k».proof.Proof.Gen.SsmOutFIdeal.Value
public import proofs.«01_k».proof.Proof.Gen.SsmOutFRefIdeal
public import proofs.«01_k».proof.Proof.Gen.SsmOutFRefIdeal.Run
public import proofs.«01_k».proof.Proof.Gen.InSsmF
public import proofs.«01_k».proof.Proof.Gen.InSsmF.Frame
public import proofs.«01_k».proof.Proof.Gen.InSsmFIdeal
public import proofs.«01_k».proof.Proof.Gen.InSsmFIdeal.Frame
public import proofs.«01_k».proof.Proof.Gen.InSsmFIdeal.Value
public import proofs.«01_k».proof.Proof.Gen.InSsmFRefIdeal
public import proofs.«01_k».proof.Proof.Gen.InSsmFRefIdeal.Run
public import proofs.«01_k».proof.Proof.Gen.InAttnF
public import proofs.«01_k».proof.Proof.Gen.InAttnF.Frame
public import proofs.«01_k».proof.Proof.Gen.InAttnFIdeal
public import proofs.«01_k».proof.Proof.Gen.InAttnFIdeal.Frame
public import proofs.«01_k».proof.Proof.Gen.InAttnFIdeal.Value
public import proofs.«01_k».proof.Proof.Gen.InAttnFRefIdeal
public import proofs.«01_k».proof.Proof.Gen.InAttnFRefIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.Sums
public import proofs.«01_k».proof.Proof.Gen.Sums.Frame
public import proofs.«01_k».proof.Proof.Gen.SumsIdeal
public import proofs.«01_k».proof.Proof.Gen.SumsIdeal.Frame
public import proofs.«01_k».proof.Proof.Gen.SumsIdeal.Value
public import proofs.«01_k».proof.Proof.Gen.SumsRefIdeal
public import proofs.«01_k».proof.Proof.Gen.SumsRefIdeal.Run
public import proofs.«01_k».proof.Proof.Gen.ScanF
public import proofs.«01_k».proof.Proof.Gen.ScanF.Frame
public import proofs.«01_k».proof.Proof.Gen.ScanFIdeal
public import proofs.«01_k».proof.Proof.Gen.ScanFIdeal.Frame
public import proofs.«01_k».proof.Proof.Gen.ScanFIdeal.Value
public import proofs.«01_k».proof.Proof.Gen.ScanFRefIdeal
public import proofs.«01_k».proof.Proof.Gen.ScanFRefIdeal.Run
public import proofs.«01_k».proof.Proof.Gen.ScanFRefIdeal.Step
public import proofs.«01_k».proof.Proof.Gen.ScanB
public import proofs.«01_k».proof.Proof.Gen.ScanB.Frame
public import proofs.«01_k».proof.Proof.Gen.ScanBIdeal
public import proofs.«01_k».proof.Proof.Gen.ScanBIdeal.Frame
public import proofs.«01_k».proof.Proof.Gen.ScanBIdeal.Value
public import proofs.«01_k».proof.Proof.Gen.ScanBRefIdeal
public import proofs.«01_k».proof.Proof.Gen.ScanBRefIdeal.Run
public import proofs.«01_k».proof.Proof.Gen.ScanBRefIdeal.Step
public import proofs.«01_k».proof.Proof.Gen.SumCore
public import proofs.«01_k».proof.Proof.Gen.SumCore.Frame
public import proofs.«01_k».proof.Proof.Gen.SumCoreIdeal
public import proofs.«01_k».proof.Proof.Gen.SumCoreIdeal.Frame
public import proofs.«01_k».proof.Proof.Gen.SumCoreRefIdeal
public import proofs.«01_k».proof.Proof.Gen.SumCoreRefIdeal.Run
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.Pre_finite_attn_out
public import proofs.«01_k».proof.Proof.Gen.Pre_finite_ssm_out
public import proofs.«01_k».proof.Proof.Gen.Pre_finite_loss
public import proofs.«01_k».proof.Proof.Gen.Pre_finite_inproj_ssm
public import proofs.«01_k».proof.Proof.Gen.Pre_finite_inproj_attn
public import proofs.«01_k».proof.Proof.Gen.Pre_finite_attn_fwd
public import proofs.«01_k».proof.Proof.Gen.Pre_core_index
public import proofs.«01_k».proof.Proof.K.AttnOutClaims
public import proofs.«01_k».proof.Proof.K.SsmOutClaims
public import proofs.«01_k».proof.Proof.K.OutLossClaims
public import proofs.«01_k».proof.Proof.K.InSsmClaims
public import proofs.«01_k».proof.Proof.K.InAttnClaims
public import proofs.«01_k».proof.Proof.K.S5bClaims
public import proofs.«01_k».proof.Proof.K.S5pClaims
public import proofs.«01_k».proof.Proof.K.S5oClaims
public import proofs.«01_k».proof.Proof.K.AttnFClaims
public import proofs.«01_k».proof.Proof.K.AttnOutFClaims
public import proofs.«01_k».proof.Proof.K.SsmOutFClaims
public import proofs.«01_k».proof.Proof.K.InSsmFClaims
public import proofs.«01_k».proof.Proof.K.InAttnFClaims
public import proofs.«01_k».proof.Proof.K.AdamClaims
public import proofs.«01_k».proof.Proof.K.SumsClaims
public import proofs.«01_k».proof.Proof.K.ScanFClaims
public import proofs.«01_k».proof.Proof.K.ScanBClaims
public import proofs.«01_k».proof.Proof.K.SumCoreClaims
public import Idealize.ShloMosaic.Adequacy
public import Idealize.ShloMosaic.Init

@[expose] public section

noncomputable section

namespace Cert.Proof

open Idealize.ShloMosaic Idealize.SL.Sem

theorem claim : Cert.Claim := ⟨Cert.AttnOut.Gen.facts,
  Cert.AttnOutIdeal.Gen.facts,
  Cert.AttnOutRefIdeal.Gen.facts,
  Cert.SsmOut.Gen.facts,
  Cert.SsmOutIdeal.Gen.facts,
  Cert.SsmOutRefIdeal.Gen.facts,
  Cert.OutLoss.Gen.facts,
  Cert.OutLossIdeal.Gen.facts,
  Cert.OutLossRefIdeal.Gen.facts,
  Cert.InSsm.Gen.facts,
  Cert.InSsmIdeal.Gen.facts,
  Cert.InSsmRefIdeal.Gen.facts,
  Cert.InAttn.Gen.facts,
  Cert.InAttnIdeal.Gen.facts,
  Cert.InAttnRefIdeal.Gen.facts,
  Cert.S5b.Gen.facts,
  Cert.S5bIdeal.Gen.facts,
  Cert.S5bRefIdeal.Gen.facts,
  Cert.S5p.Gen.facts,
  Cert.S5pIdeal.Gen.facts,
  Cert.S5pRefIdeal.Gen.facts,
  Cert.Scan.Gen.facts,
  Cert.ScanIdeal.Gen.facts,
  Cert.S5o.Gen.facts,
  Cert.S5oIdeal.Gen.facts,
  Cert.S5oRefIdeal.Gen.facts,
  Cert.AttnF.Gen.facts,
  Cert.AttnFIdeal.Gen.facts,
  Cert.AttnFRefIdeal.Gen.facts,
  Cert.AttnOutF.Gen.facts,
  Cert.AttnOutFIdeal.Gen.facts,
  Cert.AttnOutFRefIdeal.Gen.facts,
  Cert.SsmOutF.Gen.facts,
  Cert.SsmOutFIdeal.Gen.facts,
  Cert.SsmOutFRefIdeal.Gen.facts,
  Cert.InSsmF.Gen.facts,
  Cert.InSsmFIdeal.Gen.facts,
  Cert.InSsmFRefIdeal.Gen.facts,
  Cert.InAttnF.Gen.facts,
  Cert.InAttnFIdeal.Gen.facts,
  Cert.InAttnFRefIdeal.Gen.facts,
  Cert.Adam.Gen.facts,
  Cert.AdamIdeal.Gen.facts,
  Cert.AdamRefIdeal.Gen.facts,
  Cert.Sums.Gen.facts,
  Cert.SumsIdeal.Gen.facts,
  Cert.SumsRefIdeal.Gen.facts,
  Cert.ScanF.Gen.facts,
  Cert.ScanFIdeal.Gen.facts,
  Cert.ScanFRefIdeal.Gen.facts,
  Cert.ScanB.Gen.facts,
  Cert.ScanBIdeal.Gen.facts,
  Cert.ScanBRefIdeal.Gen.facts,
  Cert.SumCore.Gen.facts,
  Cert.SumCoreIdeal.Gen.facts,
  Cert.SumCoreRefIdeal.Gen.facts,
  Cert.Pre_finite_attn_out.Gen.facts,
  Cert.Pre_finite_ssm_out.Gen.facts,
  Cert.Pre_finite_loss.Gen.facts,
  Cert.Pre_finite_inproj_ssm.Gen.facts,
  Cert.Pre_finite_inproj_attn.Gen.facts,
  Cert.Pre_finite_attn_fwd.Gen.facts,
  Cert.Pre_core_index.Gen.facts,
  fun m ρ _ => Cert.AttnOut.Gen.frame m ρ,
  fun m ρ _ => Cert.AttnOutIdeal.Gen.frame m ρ,
  fun m ρ _ => Cert.AttnOutIdeal.Gen.frame m ρ,
  Cert.K.AttnOut.frameRef,
  fun m ρ _ => Cert.K.AttnOut.frameRef m ρ trivial,
  fun m ρ _ => Cert.SsmOut.Gen.frame m ρ,
  fun m ρ _ => Cert.SsmOutIdeal.Gen.frame m ρ,
  fun m ρ _ => Cert.SsmOutIdeal.Gen.frame m ρ,
  Cert.K.SsmOut.frameRef,
  fun m ρ _ => Cert.K.SsmOut.frameRef m ρ trivial,
  fun m ρ _ => Cert.OutLoss.Gen.frame m ρ,
  fun m ρ _ => Cert.OutLossIdeal.Gen.frame m ρ,
  fun m ρ _ => Cert.OutLossIdeal.Gen.frame m ρ,
  Cert.K.OutLoss.frameRef,
  fun m ρ _ => Cert.K.OutLoss.frameRef m ρ trivial,
  fun m ρ _ => Cert.InSsm.Gen.frame m ρ,
  fun m ρ _ => Cert.InSsmIdeal.Gen.frame m ρ,
  fun m ρ _ => Cert.InSsmIdeal.Gen.frame m ρ,
  Cert.K.InSsm.frameRef,
  fun m ρ _ => Cert.K.InSsm.frameRef m ρ trivial,
  fun m ρ _ => Cert.InAttn.Gen.frame m ρ,
  fun m ρ _ => Cert.InAttnIdeal.Gen.frame m ρ,
  fun m ρ _ => Cert.InAttnIdeal.Gen.frame m ρ,
  Cert.K.InAttn.frameRef,
  fun m ρ _ => Cert.K.InAttn.frameRef m ρ trivial,
  fun m ρ _ => Cert.S5b.Gen.frame m ρ,
  fun m ρ _ => Cert.S5bIdeal.Gen.frame m ρ,
  Cert.K.S5b.frameRef,
  fun m ρ _ => Cert.S5p.Gen.frame m ρ,
  fun m ρ _ => Cert.S5pIdeal.Gen.frame m ρ,
  Cert.K.S5p.frameRef,
  fun m ρ _ => Cert.Scan.Gen.frame m ρ,
  fun m ρ _ => Cert.ScanIdeal.Gen.frame m ρ,
  fun m ρ _ => Cert.S5o.Gen.frame m ρ,
  fun m ρ _ => Cert.S5oIdeal.Gen.frame m ρ,
  Cert.K.S5o.frameRef,
  fun m ρ _ => Cert.AttnF.Gen.frame m ρ,
  fun m ρ _ => Cert.AttnFIdeal.Gen.frame m ρ,
  fun m ρ _ => Cert.AttnFIdeal.Gen.frame m ρ,
  Cert.K.AttnF.frameRef,
  fun m ρ _ => Cert.K.AttnF.frameRef m ρ trivial,
  fun m ρ _ => Cert.AttnOutF.Gen.frame m ρ,
  fun m ρ _ => Cert.AttnOutFIdeal.Gen.frame m ρ,
  Cert.K.AttnOutF.frameRef,
  fun m ρ _ => Cert.SsmOutF.Gen.frame m ρ,
  fun m ρ _ => Cert.SsmOutFIdeal.Gen.frame m ρ,
  Cert.K.SsmOutF.frameRef,
  fun m ρ _ => Cert.InSsmF.Gen.frame m ρ,
  fun m ρ _ => Cert.InSsmFIdeal.Gen.frame m ρ,
  Cert.K.InSsmF.frameRef,
  fun m ρ _ => Cert.InAttnF.Gen.frame m ρ,
  fun m ρ _ => Cert.InAttnFIdeal.Gen.frame m ρ,
  Cert.K.InAttnF.frameRef,
  fun m ρ _ => Cert.Adam.Gen.frame m ρ,
  fun m ρ _ => Cert.AdamIdeal.Gen.frame m ρ,
  Cert.K.Adam.frameRef,
  fun m ρ _ => Cert.Sums.Gen.frame m ρ,
  fun m ρ _ => Cert.SumsIdeal.Gen.frame m ρ,
  Cert.K.Sums.frameRef,
  fun m ρ _ => Cert.ScanF.Gen.frame m ρ,
  fun m ρ _ => Cert.ScanFIdeal.Gen.frame m ρ,
  Cert.K.ScanF.frameRef,
  fun m ρ _ => Cert.ScanB.Gen.frame m ρ,
  fun m ρ _ => Cert.ScanBIdeal.Gen.frame m ρ,
  Cert.K.ScanB.frameRef,
  Cert.K.SumCore.frame,
  Cert.K.SumCore.frameI,
  Cert.K.SumCore.frameRef,
  fun m ρ _ => Cert.K.SumCore.frameRef m ρ trivial,
  trivial,
  Cert.K.AttnOut.alg,
  ⟨IdealRules.named_const.statement Cert.SsmOutIdeal.κ "cubic" .f32 0x3D372713#32 _ rfl,
    IdealRules.named_const.statement Cert.SsmOutIdeal.κ "cubic_grad" .f32 0x3E095D4F#32 _ rfl⟩,
  Cert.K.SsmOut.alg,
  trivial,
  Cert.K.OutLoss.alg,
  trivial,
  Cert.K.InSsm.alg,
  trivial,
  Cert.K.InAttn.alg,
  trivial,
  Cert.K.S5b.alg,
  trivial,
  Cert.K.S5p.alg,
  trivial,
  trivial,
  Cert.K.S5o.alg,
  IdealRules.named_const.statement Cert.AttnFIdeal.κ "mask" .f32 0xF149F2CA#32 _ rfl,
  Cert.K.AttnF.alg,
  trivial,
  Cert.K.AttnOutF.alg,
  IdealRules.named_const.statement Cert.SsmOutFIdeal.κ "cubic" .f32 0x3D372713#32 _ rfl,
  Cert.K.SsmOutF.alg,
  trivial,
  Cert.K.InSsmF.alg,
  trivial,
  Cert.K.InAttnF.alg,
  trivial,
  Cert.K.Adam.alg,
  trivial,
  Cert.K.Sums.alg,
  trivial,
  Cert.K.ScanF.alg,
  trivial,
  Cert.K.ScanB.alg,
  trivial,
  Cert.K.SumCore.alg⟩

end Cert.Proof

end
